-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S3x20000x512 : Shape := ⟨3, ![3, 20000, 512]⟩
abbrev S3x512x512 : Shape := ⟨3, ![3, 512, 512]⟩
abbrev S3x512 : Shape := ⟨2, ![3, 512]⟩
abbrev S3x512x128 : Shape := ⟨3, ![3, 512, 128]⟩
abbrev S3x128 : Shape := ⟨2, ![3, 128]⟩
abbrev S3x128x64 : Shape := ⟨3, ![3, 128, 64]⟩
abbrev S_ : Shape := ⟨0, ![]⟩

class Facts : Prop where
  bcast_S_S3x128x64 : S_.BroadcastsInDim S3x128x64 (![] : Fin 0 → Fin S3x128x64.rank)
  reducesTo_S3x128x64_S_d0_1_2 : S3x128x64.ReducesTo [0, 1, 2] S_
  h_S_ : 0 < S_.numel

variable [Facts]

def fn {F : FTy → Type} [FloatOps F] (main_arg0 : FVec F S3x20000x512 .f32) (main_arg1 : FVec F S3x512x512 .f32) (main_arg2 : FVec F S3x512 .f32) (main_arg3 : FVec F S3x512x128 .f32) (main_arg4 : FVec F S3x128 .f32) (main_arg5 : IVec S3x128x64 32) : IVec S_ 1 :=
  let main_c : IVec S_ 32 := constantI S_ 32 0#32
  let main_v0 : IVec S3x128x64 32 := broadcastInDim S3x128x64 ![] bcast_S_S3x128x64 main_c
  let main_v1 : IVec S3x128x64 1 := cmpi .sge main_arg5 main_v0
  let main_c_0 : IVec S_ 32 := constantI S_ 32 20000#32
  let main_v2 : IVec S3x128x64 32 := broadcastInDim S3x128x64 ![] bcast_S_S3x128x64 main_c_0
  let main_v3 : IVec S3x128x64 1 := cmpi .slt main_arg5 main_v2
  let main_v4 : IVec S3x128x64 1 := andi main_v1 main_v3
  let main_c_1 : IVec S_ 1 := constantI S_ 1 1#1
  let main_v5 : IVec S_ 1 := (fun x v => Host.reduce IntOp.andi x v reducesTo_S3x128x64_S_d0_1_2 h_S_) main_v4 main_c_1
  main_v5
-- ==== Kernel.lean ====
abbrev S3x20000x512 : Shape := ⟨3, ![3, 20000, 512]⟩
abbrev S3x512x512 : Shape := ⟨3, ![3, 512, 512]⟩
abbrev S3x512 : Shape := ⟨2, ![3, 512]⟩
abbrev S3x512x128 : Shape := ⟨3, ![3, 512, 128]⟩
abbrev S3x128 : Shape := ⟨2, ![3, 128]⟩
abbrev S3x128x64 : Shape := ⟨3, ![3, 128, 64]⟩
abbrev S24576 : Shape := ⟨1, ![24576]⟩
abbrev S3x1x512 : Shape := ⟨3, ![3, 1, 512]⟩
abbrev S3x1x128 : Shape := ⟨3, ![3, 1, 128]⟩
abbrev S1x1 : Shape := ⟨2, ![1, 1]⟩
abbrev S1x512x512 : Shape := ⟨3, ![1, 512, 512]⟩
abbrev S1x1x512 : Shape := ⟨3, ![1, 1, 512]⟩
abbrev S1x512x128 : Shape := ⟨3, ![1, 512, 128]⟩
abbrev S1x1x128 : Shape := ⟨3, ![1, 1, 128]⟩
abbrev S20000x512 : Shape := ⟨2, ![20000, 512]⟩
abbrev S128x8x512 : Shape := ⟨3, ![128, 8, 512]⟩
abbrev S384x128 : Shape := ⟨2, ![384, 128]⟩
abbrev S5 : Shape := ⟨1, ![5]⟩
abbrev S1 : Shape := ⟨1, ![1]⟩
abbrev S_ : Shape := ⟨0, ![]⟩
abbrev S4000x512 : Shape := ⟨2, ![4000, 512]⟩
abbrev S1x4000x512 : Shape := ⟨3, ![1, 4000, 512]⟩
abbrev S8x1 : Shape := ⟨2, ![8, 1]⟩
abbrev S8x512 : Shape := ⟨2, ![8, 512]⟩
abbrev S1x8x512 : Shape := ⟨3, ![1, 8, 512]⟩
abbrev S128x512 : Shape := ⟨2, ![128, 512]⟩
abbrev S512x512 : Shape := ⟨2, ![512, 512]⟩
abbrev S1x512 : Shape := ⟨2, ![1, 512]⟩
abbrev S512x128 : Shape := ⟨2, ![512, 128]⟩
abbrev S128x128 : Shape := ⟨2, ![128, 128]⟩
abbrev S1x128 : Shape := ⟨2, ![1, 128]⟩
abbrev S384 : Shape := ⟨1, ![384]⟩
abbrev S384x1 : Shape := ⟨2, ![384, 1]⟩
abbrev S384x384 : Shape := ⟨2, ![384, 384]⟩
abbrev S1x384 : Shape := ⟨2, ![1, 384]⟩

abbrev nBuf : Space → Nat
  | .hbm => 9
  | .vmem => 11
  | .smem => 2
  | _ => 0

abbrev bufTy : (tb : Table) → Fin (tcTables nBuf tb) → BufTy
  | .hbm, ⟨0, _⟩ => ⟨S3x20000x512, .f32⟩
  | .hbm, ⟨1, _⟩ => ⟨S3x512x512, .f32⟩
  | .hbm, ⟨2, _⟩ => ⟨S3x512, .f32⟩
  | .hbm, ⟨3, _⟩ => ⟨S3x512x128, .f32⟩
  | .hbm, ⟨4, _⟩ => ⟨S3x128, .f32⟩
  | .hbm, ⟨5, _⟩ => ⟨S3x128x64, .i32⟩
  | .hbm, ⟨6, _⟩ => ⟨S3x1x512, .f32⟩
  | .hbm, ⟨7, _⟩ => ⟨S3x1x128, .f32⟩
  | .hbm, ⟨8, _⟩ => ⟨S1x1, .f32⟩
  | .local _ .vmem, ⟨0, _⟩ => ⟨S1x512x512, .f32⟩
  | .local _ .vmem, ⟨1, _⟩ => ⟨S1x512x512, .f32⟩
  | .local _ .vmem, ⟨2, _⟩ => ⟨S1x1x512, .f32⟩
  | .local _ .vmem, ⟨3, _⟩ => ⟨S1x1x512, .f32⟩
  | .local _ .vmem, ⟨4, _⟩ => ⟨S1x512x128, .f32⟩
  | .local _ .vmem, ⟨5, _⟩ => ⟨S1x512x128, .f32⟩
  | .local _ .vmem, ⟨6, _⟩ => ⟨S1x1x128, .f32⟩
  | .local _ .vmem, ⟨7, _⟩ => ⟨S1x1x128, .f32⟩
  | .local _ .vmem, ⟨8, _⟩ => ⟨S20000x512, .f32⟩
  | .local _ .vmem, ⟨9, _⟩ => ⟨S128x8x512, .f32⟩
  | .local _ .vmem, ⟨10, _⟩ => ⟨S384x128, .f32⟩
  | .local _ .smem, ⟨0, _⟩ => ⟨S24576, .i32⟩
  | .local _ .smem, ⟨1, _⟩ => ⟨S1x1, .f32⟩
  | _, _ => ⟨S3x20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_call0_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg4_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![3], ![false]⟩

abbrev pre0 : Pipeline.Prefetch sig := ⟨1, ![main_call0_v0.idx], fun | 0 => main_call0_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c0_i32_47 : BitVec 32 := 0#32
  let c0_i32_48 : BitVec 32 := 0#32
  ![arg0.toNat, 0, 0]
def k0_off2 (i : grid0.Coords) : Fin 3 → Nat :=
  let arg0 : BitVec 32 := BitVec.ofNat 32 (i 0).val
  let c4000_i32_52 : BitVec 32 := 4000#32
  let c0_i32_53 : BitVec 32 := 0#32
  ![arg0.toNat, 4000, 0]
def k0_off3 (i : grid0.Coords) : Fin 3 → Nat :=
  let arg0 : BitVec 32 := BitVec.ofNat 32 (i 0).val
  let c8000_i32_57 : BitVec 32 := 8000#32
  let c0_i32_58 : BitVec 32 := 0#32
  ![arg0.toNat, 8000, 0]
def k0_off4 (i : grid0.Coords) : Fin 3 → Nat :=
  let arg0 : BitVec 32 := BitVec.ofNat 32 (i 0).val
  let c12000_i32_62 : BitVec 32 := 12000#32
  let c0_i32_63 : BitVec 32 := 0#32
  ![arg0.toNat, 12000, 0]
def k0_off5 (i : grid0.Coords) : Fin 3 → Nat :=
  let arg0 : BitVec 32 := BitVec.ofNat 32 (i 0).val
  let c16000_i32_67 : BitVec 32 := 16000#32
  let c0_i32_68 : BitVec 32 := 0#32
  ![arg0.toNat, 16000, 0]
def k0_off6 (i : grid0.Coords) : Fin 3 → Nat :=
  let arg0 : BitVec 32 := BitVec.ofNat 32 (i 0).val
  let c0_i32_4 : BitVec 32 := 0#32
  let c0_i32_5 : BitVec 32 := 0#32
  ![arg0.toNat, 0, 0]
def k0_off7 (i : grid0.Coords) : Fin 3 → Nat :=
  let arg0 : BitVec 32 := BitVec.ofNat 32 (i 0).val
  let c4000_i32_7 : BitVec 32 := 4000#32
  let c0_i32_8 : BitVec 32 := 0#32
  ![arg0.toNat, 4000, 0]
def k0_off8 (i : grid0.Coords) : Fin 3 → Nat :=
  let arg0 : BitVec 32 := BitVec.ofNat 32 (i 0).val
  let c8000_i32_10 : BitVec 32 := 8000#32
  let c0_i32_11 : BitVec 32 := 0#32
  ![arg0.toNat, 8000, 0]
def k0_off9 (i : grid0.Coords) : Fin 3 → Nat :=
  let arg0 : BitVec 32 := BitVec.ofNat 32 (i 0).val
  let c12000_i32_13 : BitVec 32 := 12000#32
  let c0_i32_14 : BitVec 32 := 0#32
  ![arg0.toNat, 12000, 0]
def k0_off10 (i : grid0.Coords) : Fin 3 → Nat :=
  let arg0 : BitVec 32 := BitVec.ofNat 32 (i 0).val
  let c16000_i32_16 : BitVec 32 := 16000#32
  let c0_i32_17 : BitVec 32 := 0#32
  ![arg0.toNat, 16000, 0]
@[reducible] def k0_t1_loop : Scf.Loop 32 :=
  let c0_i32_18 : BitVec 32 := 0#32
  let c16_i32 : BitVec 32 := 16#32
  let v29 : BitVec 32 := Scalar.addi c0_i32_18 c16_i32
  let c1_i32_19 : BitVec 32 := 1#32
  ⟨c0_i32_18, v29, c1_i32_19⟩
def k0_off11 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_45 : BitVec 32 := 0#32
  let v65 : BitVec 32 := Scalar.addi v63 c0_i32_45
  let c0_i32_46 : BitVec 32 := 0#32
  let v66 : BitVec 32 := Scalar.addi v65 c0_i32_46
  let v67 : Index := Scalar.indexCast v66
  ![v67.toNat]
def k0_mult1 (v68 : BitVec 32) : BitVec 32 :=
  let c3_i32_47 : BitVec 32 := 3#32
  let v69 : BitVec 32 := Scalar.shrsi v68 c3_i32_47
  let c3_i32_48 : BitVec 32 := 3#32
  let v70 : BitVec 32 := Scalar.shli v69 c3_i32_48
  v70

def k0_off12 (v68 : BitVec 32) : Fin 2 → Nat :=
  let c3_i32_47 : BitVec 32 := 3#32
  let v69 : BitVec 32 := Scalar.shrsi v68 c3_i32_47
  let c3_i32_48 : BitVec 32 := 3#32
  let v70 : BitVec 32 := Scalar.shli v69 c3_i32_48
  let v71 : BitVec 32 := v70
  let v72 : Index := Scalar.indexCast v71
  let c0_49 : Index := 0#32
  ![v72.toNat, 0]

def k0_chk1 (v68 : BitVec 32) : Prop :=
  (8 ∣ (k0_mult1 v68).toNat) ∧
  (∀ a, (k0_off12 v68) a + S8x512.size a ≤ S20000x512.size a)
theorem k0_mult1_dvd : ∀ (v68 : BitVec 32) (k0_hw1 : k0_chk1 v68), 8 ∣ (k0_mult1 v68).toNat := fun v68 k0_hw1 => k0_hw1.1
theorem k0_off12_inb : ∀ (v68 : BitVec 32) (k0_hw1 : k0_chk1 v68), ∀ a, (k0_off12 v68) a + S8x512.size a ≤ S20000x512.size a := fun v68 k0_hw1 => k0_hw1.2

def k0_off13 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_50 : BitVec 32 := 0#32
  let v82 : BitVec 32 := Scalar.addi v63 c0_i32_50
  let c1_i32_51 : BitVec 32 := 1#32
  let v83 : BitVec 32 := Scalar.addi v82 c1_i32_51
  let v84 : Index := Scalar.indexCast v83
  ![v84.toNat]
def k0_mult2 (v85 : BitVec 32) : BitVec 32 :=
  let c3_i32_52 : BitVec 32 := 3#32
  let v86 : BitVec 32 := Scalar.shrsi v85 c3_i32_52
  let c3_i32_53 : BitVec 32 := 3#32
  let v87 : BitVec 32 := Scalar.shli v86 c3_i32_53
  v87

def k0_off14 (v85 : BitVec 32) : Fin 2 → Nat :=
  let c3_i32_52 : BitVec 32 := 3#32
  let v86 : BitVec 32 := Scalar.shrsi v85 c3_i32_52
  let c3_i32_53 : BitVec 32 := 3#32
  let v87 : BitVec 32 := Scalar.shli v86 c3_i32_53
  let v88 : BitVec 32 := v87
  let v89 : Index := Scalar.indexCast v88
  let c0_54 : Index := 0#32
  ![v89.toNat, 0]

def k0_chk2 (v85 : BitVec 32) : Prop :=
  (8 ∣ (k0_mult2 v85).toNat) ∧
  (∀ a, (k0_off14 v85) a + S8x512.size a ≤ S20000x512.size a)
theorem k0_mult2_dvd : ∀ (v85 : BitVec 32) (k0_hw2 : k0_chk2 v85), 8 ∣ (k0_mult2 v85).toNat := fun v85 k0_hw2 => k0_hw2.1
theorem k0_off14_inb : ∀ (v85 : BitVec 32) (k0_hw2 : k0_chk2 v85), ∀ a, (k0_off14 v85) a + S8x512.size a ≤ S20000x512.size a := fun v85 k0_hw2 => k0_hw2.2

def k0_off15 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_56 : BitVec 32 := 0#32
  let v99 : BitVec 32 := Scalar.addi v63 c0_i32_56
  let c2_i32_57 : BitVec 32 := 2#32
  let v100 : BitVec 32 := Scalar.addi v99 c2_i32_57
  let v101 : Index := Scalar.indexCast v100
  ![v101.toNat]
def k0_mult3 (v102 : BitVec 32) : BitVec 32 :=
  let c3_i32_58 : BitVec 32 := 3#32
  let v103 : BitVec 32 := Scalar.shrsi v102 c3_i32_58
  let c3_i32_59 : BitVec 32 := 3#32
  let v104 : BitVec 32 := Scalar.shli v103 c3_i32_59
  v104

def k0_off16 (v102 : BitVec 32) : Fin 2 → Nat :=
  let c3_i32_58 : BitVec 32 := 3#32
  let v103 : BitVec 32 := Scalar.shrsi v102 c3_i32_58
  let c3_i32_59 : BitVec 32 := 3#32
  let v104 : BitVec 32 := Scalar.shli v103 c3_i32_59
  let v105 : BitVec 32 := v104
  let v106 : Index := Scalar.indexCast v105
  let c0_60 : Index := 0#32
  ![v106.toNat, 0]

def k0_chk3 (v102 : BitVec 32) : Prop :=
  (8 ∣ (k0_mult3 v102).toNat) ∧
  (∀ a, (k0_off16 v102) a + S8x512.size a ≤ S20000x512.size a)
theorem k0_mult3_dvd : ∀ (v102 : BitVec 32) (k0_hw3 : k0_chk3 v102), 8 ∣ (k0_mult3 v102).toNat := fun v102 k0_hw3 => k0_hw3.1
theorem k0_off16_inb : ∀ (v102 : BitVec 32) (k0_hw3 : k0_chk3 v102), ∀ a, (k0_off16 v102) a + S8x512.size a ≤ S20000x512.size a := fun v102 k0_hw3 => k0_hw3.2

def k0_off17 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_62 : BitVec 32 := 0#32
  let v116 : BitVec 32 := Scalar.addi v63 c0_i32_62
  let c3_i32_63 : BitVec 32 := 3#32
  let v117 : BitVec 32 := Scalar.addi v116 c3_i32_63
  let v118 : Index := Scalar.indexCast v117
  ![v118.toNat]
def k0_mult4 (v119 : BitVec 32) : BitVec 32 :=
  let c3_i32_64 : BitVec 32 := 3#32
  let v120 : BitVec 32 := Scalar.shrsi v119 c3_i32_64
  let c3_i32_65 : BitVec 32 := 3#32
  let v121 : BitVec 32 := Scalar.shli v120 c3_i32_65
  v121

def k0_off18 (v119 : BitVec 32) : Fin 2 → Nat :=
  let c3_i32_64 : BitVec 32 := 3#32
  let v120 : BitVec 32 := Scalar.shrsi v119 c3_i32_64
  let c3_i32_65 : BitVec 32 := 3#32
  let v121 : BitVec 32 := Scalar.shli v120 c3_i32_65
  let v122 : BitVec 32 := v121
  let v123 : Index := Scalar.indexCast v122
  let c0_66 : Index := 0#32
  ![v123.toNat, 0]

def k0_chk4 (v119 : BitVec 32) : Prop :=
  (8 ∣ (k0_mult4 v119).toNat) ∧
  (∀ a, (k0_off18 v119) a + S8x512.size a ≤ S20000x512.size a)
theorem k0_mult4_dvd : ∀ (v119 : BitVec 32) (k0_hw4 : k0_chk4 v119), 8 ∣ (k0_mult4 v119).toNat := fun v119 k0_hw4 => k0_hw4.1
theorem k0_off18_inb : ∀ (v119 : BitVec 32) (k0_hw4 : k0_chk4 v119), ∀ a, (k0_off18 v119) a + S8x512.size a ≤ S20000x512.size a := fun v119 k0_hw4 => k0_hw4.2

def k0_off19 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_68 : BitVec 32 := 0#32
  let v133 : BitVec 32 := Scalar.addi v63 c0_i32_68
  let c4_i32_69 : BitVec 32 := 4#32
  let v134 : BitVec 32 := Scalar.addi v133 c4_i32_69
  let v135 : Index := Scalar.indexCast v134
  ![v135.toNat]
def k0_mult5 (v136 : BitVec 32) : BitVec 32 :=
  let c3_i32_70 : BitVec 32 := 3#32
  let v137 : BitVec 32 := Scalar.shrsi v136 c3_i32_70
  let c3_i32_71 : BitVec 32 := 3#32
  let v138 : BitVec 32 := Scalar.shli v137 c3_i32_71
  v138

def k0_off20 (v136 : BitVec 32) : Fin 2 → Nat :=
  let c3_i32_70 : BitVec 32 := 3#32
  let v137 : BitVec 32 := Scalar.shrsi v136 c3_i32_70
  let c3_i32_71 : BitVec 32 := 3#32
  let v138 : BitVec 32 := Scalar.shli v137 c3_i32_71
  let v139 : BitVec 32 := v138
  let v140 : Index := Scalar.indexCast v139
  let c0_72 : Index := 0#32
  ![v140.toNat, 0]

def k0_chk5 (v136 : BitVec 32) : Prop :=
  (8 ∣ (k0_mult5 v136).toNat) ∧
  (∀ a, (k0_off20 v136) a + S8x512.size a ≤ S20000x512.size a)
theorem k0_mult5_dvd : ∀ (v136 : BitVec 32) (k0_hw5 : k0_chk5 v136), 8 ∣ (k0_mult5 v136).toNat := fun v136 k0_hw5 => k0_hw5.1
theorem k0_off20_inb : ∀ (v136 : BitVec 32) (k0_hw5 : k0_chk5 v136), ∀ a, (k0_off20 v136) a + S8x512.size a ≤ S20000x512.size a := fun v136 k0_hw5 => k0_hw5.2

def k0_off21 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_74 : BitVec 32 := 0#32
  let v150 : BitVec 32 := Scalar.addi v63 c0_i32_74
  let c5_i32 : BitVec 32 := 5#32
  let v151 : BitVec 32 := Scalar.addi v150 c5_i32
  let v152 : Index := Scalar.indexCast v151
  ![v152.toNat]
def k0_mult6 (v153 : BitVec 32) : BitVec 32 :=
  let c3_i32_75 : BitVec 32 := 3#32
  let v154 : BitVec 32 := Scalar.shrsi v153 c3_i32_75
  let c3_i32_76 : BitVec 32 := 3#32
  let v155 : BitVec 32 := Scalar.shli v154 c3_i32_76
  v155

def k0_off22 (v153 : BitVec 32) : Fin 2 → Nat :=
  let c3_i32_75 : BitVec 32 := 3#32
  let v154 : BitVec 32 := Scalar.shrsi v153 c3_i32_75
  let c3_i32_76 : BitVec 32 := 3#32
  let v155 : BitVec 32 := Scalar.shli v154 c3_i32_76
  let v156 : BitVec 32 := v155
  let v157 : Index := Scalar.indexCast v156
  let c0_77 : Index := 0#32
  ![v157.toNat, 0]

def k0_chk6 (v153 : BitVec 32) : Prop :=
  (8 ∣ (k0_mult6 v153).toNat) ∧
  (∀ a, (k0_off22 v153) a + S8x512.size a ≤ S20000x512.size a)
theorem k0_mult6_dvd : ∀ (v153 : BitVec 32) (k0_hw6 : k0_chk6 v153), 8 ∣ (k0_mult6 v153).toNat := fun v153 k0_hw6 => k0_hw6.1
theorem k0_off22_inb : ∀ (v153 : BitVec 32) (k0_hw6 : k0_chk6 v153), ∀ a, (k0_off22 v153) a + S8x512.size a ≤ S20000x512.size a := fun v153 k0_hw6 => k0_hw6.2

def k0_off23 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_79 : BitVec 32 := 0#32
  let v167 : BitVec 32 := Scalar.addi v63 c0_i32_79
  let c6_i32 : BitVec 32 := 6#32
  let v168 : BitVec 32 := Scalar.addi v167 c6_i32
  let v169 : Index := Scalar.indexCast v168
  ![v169.toNat]
def k0_mult7 (v170 : BitVec 32) : BitVec 32 :=
  let c3_i32_80 : BitVec 32 := 3#32
  let v171 : BitVec 32 := Scalar.shrsi v170 c3_i32_80
  let c3_i32_81 : BitVec 32 := 3#32
  let v172 : BitVec 32 := Scalar.shli v171 c3_i32_81
  v172

def k0_off24 (v170 : BitVec 32) : Fin 2 → Nat :=
  let c3_i32_80 : BitVec 32 := 3#32
  let v171 : BitVec 32 := Scalar.shrsi v170 c3_i32_80
  let c3_i32_81 : BitVec 32 := 3#32
  let v172 : BitVec 32 := Scalar.shli v171 c3_i32_81
  let v173 : BitVec 32 := v172
  let v174 : Index := Scalar.indexCast v173
  let c0_82 : Index := 0#32
  ![v174.toNat, 0]

def k0_chk7 (v170 : BitVec 32) : Prop :=
  (8 ∣ (k0_mult7 v170).toNat) ∧
  (∀ a, (k0_off24 v170) a + S8x512.size a ≤ S20000x512.size a)
theorem k0_mult7_dvd : ∀ (v170 : BitVec 32) (k0_hw7 : k0_chk7 v170), 8 ∣ (k0_mult7 v170).toNat := fun v170 k0_hw7 => k0_hw7.1
theorem k0_off24_inb : ∀ (v170 : BitVec 32) (k0_hw7 : k0_chk7 v170), ∀ a, (k0_off24 v170) a + S8x512.size a ≤ S20000x512.size a := fun v170 k0_hw7 => k0_hw7.2

def k0_off25 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_84 : BitVec 32 := 0#32
  let v184 : BitVec 32 := Scalar.addi v63 c0_i32_84
  let c7_i32_85 : BitVec 32 := 7#32
  let v185 : BitVec 32 := Scalar.addi v184 c7_i32_85
  let v186 : Index := Scalar.indexCast v185
  ![v186.toNat]
def k0_mult8 (v187 : BitVec 32) : BitVec 32 :=
  let c3_i32_86 : BitVec 32 := 3#32
  let v188 : BitVec 32 := Scalar.shrsi v187 c3_i32_86
  let c3_i32_87 : BitVec 32 := 3#32
  let v189 : BitVec 32 := Scalar.shli v188 c3_i32_87
  v189

def k0_off26 (v187 : BitVec 32) : Fin 2 → Nat :=
  let c3_i32_86 : BitVec 32 := 3#32
  let v188 : BitVec 32 := Scalar.shrsi v187 c3_i32_86
  let c3_i32_87 : BitVec 32 := 3#32
  let v189 : BitVec 32 := Scalar.shli v188 c3_i32_87
  let v190 : BitVec 32 := v189
  let v191 : Index := Scalar.indexCast v190
  let c0_88 : Index := 0#32
  ![v191.toNat, 0]

def k0_chk8 (v187 : BitVec 32) : Prop :=
  (8 ∣ (k0_mult8 v187).toNat) ∧
  (∀ a, (k0_off26 v187) a + S8x512.size a ≤ S20000x512.size a)
theorem k0_mult8_dvd : ∀ (v187 : BitVec 32) (k0_hw8 : k0_chk8 v187), 8 ∣ (k0_mult8 v187).toNat := fun v187 k0_hw8 => k0_hw8.1
theorem k0_off26_inb : ∀ (v187 : BitVec 32) (k0_hw8 : k0_chk8 v187), ∀ a, (k0_off26 v187) a + S8x512.size a ≤ S20000x512.size a := fun v187 k0_hw8 => k0_hw8.2

def k0_off27 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_90 : BitVec 32 := 0#32
  let v201 : BitVec 32 := Scalar.addi v63 c0_i32_90
  let c8_i32 : BitVec 32 := 8#32
  let v202 : BitVec 32 := Scalar.addi v201 c8_i32
  let v203 : Index := Scalar.indexCast v202
  ![v203.toNat]
def k0_mult9 (v204 : BitVec 32) : BitVec 32 :=
  let c3_i32_91 : BitVec 32 := 3#32
  let v205 : BitVec 32 := Scalar.shrsi v204 c3_i32_91
  let c3_i32_92 : BitVec 32 := 3#32
  let v206 : BitVec 32 := Scalar.shli v205 c3_i32_92
  v206

def k0_off28 (v204 : BitVec 32) : Fin 2 → Nat :=
  let c3_i32_91 : BitVec 32 := 3#32
  let v205 : BitVec 32 := Scalar.shrsi v204 c3_i32_91
  let c3_i32_92 : BitVec 32 := 3#32
  let v206 : BitVec 32 := Scalar.shli v205 c3_i32_92
  let v207 : BitVec 32 := v206
  let v208 : Index := Scalar.indexCast v207
  let c0_93 : Index := 0#32
  ![v208.toNat, 0]

def k0_chk9 (v204 : BitVec 32) : Prop :=
  (8 ∣ (k0_mult9 v204).toNat) ∧
  (∀ a, (k0_off28 v204) a + S8x512.size a ≤ S20000x512.size a)
theorem k0_mult9_dvd : ∀ (v204 : BitVec 32) (k0_hw9 : k0_chk9 v204), 8 ∣ (k0_mult9 v204).toNat := fun v204 k0_hw9 => k0_hw9.1
theorem k0_off28_inb : ∀ (v204 : BitVec 32) (k0_hw9 : k0_chk9 v204), ∀ a, (k0_off28 v204) a + S8x512.size a ≤ S20000x512.size a := fun v204 k0_hw9 => k0_hw9.2

def k0_off29 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_95 : BitVec 32 := 0#32
  let v218 : BitVec 32 := Scalar.addi v63 c0_i32_95
  let c9_i32 : BitVec 32 := 9#32
  let v219 : BitVec 32 := Scalar.addi v218 c9_i32
  let v220 : Index := Scalar.indexCast v219
  ![v220.toNat]
def k0_mult10 (v221 : BitVec 32) : BitVec 32 :=
  let c3_i32_96 : BitVec 32 := 3#32
  let v222 : BitVec 32 := Scalar.shrsi v221 c3_i32_96
  let c3_i32_97 : BitVec 32 := 3#32
  let v223 : BitVec 32 := Scalar.shli v222 c3_i32_97
  v223

def k0_off30 (v221 : BitVec 32) : Fin 2 → Nat :=
  let c3_i32_96 : BitVec 32 := 3#32
  let v222 : BitVec 32 := Scalar.shrsi v221 c3_i32_96
  let c3_i32_97 : BitVec 32 := 3#32
  let v223 : BitVec 32 := Scalar.shli v222 c3_i32_97
  let v224 : BitVec 32 := v223
  let v225 : Index := Scalar.indexCast v224
  let c0_98 : Index := 0#32
  ![v225.toNat, 0]

def k0_chk10 (v221 : BitVec 32) : Prop :=
  (8 ∣ (k0_mult10 v221).toNat) ∧
  (∀ a, (k0_off30 v221) a + S8x512.size a ≤ S20000x512.size a)
theorem k0_mult10_dvd : ∀ (v221 : BitVec 32) (k0_hw10 : k0_chk10 v221), 8 ∣ (k0_mult10 v221).toNat := fun v221 k0_hw10 => k0_hw10.1
theorem k0_off30_inb : ∀ (v221 : BitVec 32) (k0_hw10 : k0_chk10 v221), ∀ a, (k0_off30 v221) a + S8x512.size a ≤ S20000x512.size a := fun v221 k0_hw10 => k0_hw10.2

def k0_off31 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_100 : BitVec 32 := 0#32
  let v235 : BitVec 32 := Scalar.addi v63 c0_i32_100
  let c10_i32 : BitVec 32 := 10#32
  let v236 : BitVec 32 := Scalar.addi v235 c10_i32
  let v237 : Index := Scalar.indexCast v236
  ![v237.toNat]
def k0_mult11 (v238 : BitVec 32) : BitVec 32 :=
  let c3_i32_101 : BitVec 32 := 3#32
  let v239 : BitVec 32 := Scalar.shrsi v238 c3_i32_101
  let c3_i32_102 : BitVec 32 := 3#32
  let v240 : BitVec 32 := Scalar.shli v239 c3_i32_102
  v240

def k0_off32 (v238 : BitVec 32) : Fin 2 → Nat :=
  let c3_i32_101 : BitVec 32 := 3#32
  let v239 : BitVec 32 := Scalar.shrsi v238 c3_i32_101
  let c3_i32_102 : BitVec 32 := 3#32
  let v240 : BitVec 32 := Scalar.shli v239 c3_i32_102
  let v241 : BitVec 32 := v240
  let v242 : Index := Scalar.indexCast v241
  let c0_103 : Index := 0#32
  ![v242.toNat, 0]

def k0_chk11 (v238 : BitVec 32) : Prop :=
  (8 ∣ (k0_mult11 v238).toNat) ∧
  (∀ a, (k0_off32 v238) a + S8x512.size a ≤ S20000x512.size a)
theorem k0_mult11_dvd : ∀ (v238 : BitVec 32) (k0_hw11 : k0_chk11 v238), 8 ∣ (k0_mult11 v238).toNat := fun v238 k0_hw11 => k0_hw11.1
theorem k0_off32_inb : ∀ (v238 : BitVec 32) (k0_hw11 : k0_chk11 v238), ∀ a, (k0_off32 v238) a + S8x512.size a ≤ S20000x512.size a := fun v238 k0_hw11 => k0_hw11.2

def k0_off33 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_105 : BitVec 32 := 0#32
  let v252 : BitVec 32 := Scalar.addi v63 c0_i32_105
  let c11_i32 : BitVec 32 := 11#32
  let v253 : BitVec 32 := Scalar.addi v252 c11_i32
  let v254 : Index := Scalar.indexCast v253
  ![v254.toNat]
def k0_mult12 (v255 : BitVec 32) : BitVec 32 :=
  let c3_i32_106 : BitVec 32 := 3#32
  let v256 : BitVec 32 := Scalar.shrsi v255 c3_i32_106
  let c3_i32_107 : BitVec 32 := 3#32
  let v257 : BitVec 32 := Scalar.shli v256 c3_i32_107
  v257

def k0_off34 (v255 : BitVec 32) : Fin 2 → Nat :=
  let c3_i32_106 : BitVec 32 := 3#32
  let v256 : BitVec 32 := Scalar.shrsi v255 c3_i32_106
  let c3_i32_107 : BitVec 32 := 3#32
  let v257 : BitVec 32 := Scalar.shli v256 c3_i32_107
  let v258 : BitVec 32 := v257
  let v259 : Index := Scalar.indexCast v258
  let c0_108 : Index := 0#32
  ![v259.toNat, 0]

def k0_chk12 (v255 : BitVec 32) : Prop :=
  (8 ∣ (k0_mult12 v255).toNat) ∧
  (∀ a, (k0_off34 v255) a + S8x512.size a ≤ S20000x512.size a)
theorem k0_mult12_dvd : ∀ (v255 : BitVec 32) (k0_hw12 : k0_chk12 v255), 8 ∣ (k0_mult12 v255).toNat := fun v255 k0_hw12 => k0_hw12.1
theorem k0_off34_inb : ∀ (v255 : BitVec 32) (k0_hw12 : k0_chk12 v255), ∀ a, (k0_off34 v255) a + S8x512.size a ≤ S20000x512.size a := fun v255 k0_hw12 => k0_hw12.2

def k0_off35 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_110 : BitVec 32 := 0#32
  let v269 : BitVec 32 := Scalar.addi v63 c0_i32_110
  let c12_i32 : BitVec 32 := 12#32
  let v270 : BitVec 32 := Scalar.addi v269 c12_i32
  let v271 : Index := Scalar.indexCast v270
  ![v271.toNat]
def k0_mult13 (v272 : BitVec 32) : BitVec 32 :=
  let c3_i32_111 : BitVec 32 := 3#32
  let v273 : BitVec 32 := Scalar.shrsi v272 c3_i32_111
  let c3_i32_112 : BitVec 32 := 3#32
  let v274 : BitVec 32 := Scalar.shli v273 c3_i32_112
  v274

def k0_off36 (v272 : BitVec 32) : Fin 2 → Nat :=
  let c3_i32_111 : BitVec 32 := 3#32
  let v273 : BitVec 32 := Scalar.shrsi v272 c3_i32_111
  let c3_i32_112 : BitVec 32 := 3#32
  let v274 : BitVec 32 := Scalar.shli v273 c3_i32_112
  let v275 : BitVec 32 := v274
  let v276 : Index := Scalar.indexCast v275
  let c0_113 : Index := 0#32
  ![v276.toNat, 0]

def k0_chk13 (v272 : BitVec 32) : Prop :=
  (8 ∣ (k0_mult13 v272).toNat) ∧
  (∀ a, (k0_off36 v272) a + S8x512.size a ≤ S20000x512.size a)
theorem k0_mult13_dvd : ∀ (v272 : BitVec 32) (k0_hw13 : k0_chk13 v272), 8 ∣ (k0_mult13 v272).toNat := fun v272 k0_hw13 => k0_hw13.1
theorem k0_off36_inb : ∀ (v272 : BitVec 32) (k0_hw13 : k0_chk13 v272), ∀ a, (k0_off36 v272) a + S8x512.size a ≤ S20000x512.size a := fun v272 k0_hw13 => k0_hw13.2

def k0_off37 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_115 : BitVec 32 := 0#32
  let v286 : BitVec 32 := Scalar.addi v63 c0_i32_115
  let c13_i32 : BitVec 32 := 13#32
  let v287 : BitVec 32 := Scalar.addi v286 c13_i32
  let v288 : Index := Scalar.indexCast v287
  ![v288.toNat]
def k0_mult14 (v289 : BitVec 32) : BitVec 32 :=
  let c3_i32_116 : BitVec 32 := 3#32
  let v290 : BitVec 32 := Scalar.shrsi v289 c3_i32_116
  let c3_i32_117 : BitVec 32 := 3#32
  let v291 : BitVec 32 := Scalar.shli v290 c3_i32_117
  v291

def k0_off38 (v289 : BitVec 32) : Fin 2 → Nat :=
  let c3_i32_116 : BitVec 32 := 3#32
  let v290 : BitVec 32 := Scalar.shrsi v289 c3_i32_116
  let c3_i32_117 : BitVec 32 := 3#32
  let v291 : BitVec 32 := Scalar.shli v290 c3_i32_117
  let v292 : BitVec 32 := v291
  let v293 : Index := Scalar.indexCast v292
  let c0_118 : Index := 0#32
  ![v293.toNat, 0]

def k0_chk14 (v289 : BitVec 32) : Prop :=
  (8 ∣ (k0_mult14 v289).toNat) ∧
  (∀ a, (k0_off38 v289) a + S8x512.size a ≤ S20000x512.size a)
theorem k0_mult14_dvd : ∀ (v289 : BitVec 32) (k0_hw14 : k0_chk14 v289), 8 ∣ (k0_mult14 v289).toNat := fun v289 k0_hw14 => k0_hw14.1
theorem k0_off38_inb : ∀ (v289 : BitVec 32) (k0_hw14 : k0_chk14 v289), ∀ a, (k0_off38 v289) a + S8x512.size a ≤ S20000x512.size a := fun v289 k0_hw14 => k0_hw14.2

def k0_off39 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_120 : BitVec 32 := 0#32
  let v303 : BitVec 32 := Scalar.addi v63 c0_i32_120
  let c14_i32 : BitVec 32 := 14#32
  let v304 : BitVec 32 := Scalar.addi v303 c14_i32
  let v305 : Index := Scalar.indexCast v304
  ![v305.toNat]
def k0_mult15 (v306 : BitVec 32) : BitVec 32 :=
  let c3_i32_121 : BitVec 32 := 3#32
  let v307 : BitVec 32 := Scalar.shrsi v306 c3_i32_121
  let c3_i32_122 : BitVec 32 := 3#32
  let v308 : BitVec 32 := Scalar.shli v307 c3_i32_122
  v308

def k0_off40 (v306 : BitVec 32) : Fin 2 → Nat :=
  let c3_i32_121 : BitVec 32 := 3#32
  let v307 : BitVec 32 := Scalar.shrsi v306 c3_i32_121
  let c3_i32_122 : BitVec 32 := 3#32
  let v308 : BitVec 32 := Scalar.shli v307 c3_i32_122
  let v309 : BitVec 32 := v308
  let v310 : Index := Scalar.indexCast v309
  let c0_123 : Index := 0#32
  ![v310.toNat, 0]

def k0_chk15 (v306 : BitVec 32) : Prop :=
  (8 ∣ (k0_mult15 v306).toNat) ∧
  (∀ a, (k0_off40 v306) a + S8x512.size a ≤ S20000x512.size a)
theorem k0_mult15_dvd : ∀ (v306 : BitVec 32) (k0_hw15 : k0_chk15 v306), 8 ∣ (k0_mult15 v306).toNat := fun v306 k0_hw15 => k0_hw15.1
theorem k0_off40_inb : ∀ (v306 : BitVec 32) (k0_hw15 : k0_chk15 v306), ∀ a, (k0_off40 v306) a + S8x512.size a ≤ S20000x512.size a := fun v306 k0_hw15 => k0_hw15.2

def k0_off41 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_125 : BitVec 32 := 0#32
  let v320 : BitVec 32 := Scalar.addi v63 c0_i32_125
  let c15_i32 : BitVec 32 := 15#32
  let v321 : BitVec 32 := Scalar.addi v320 c15_i32
  let v322 : Index := Scalar.indexCast v321
  ![v322.toNat]
def k0_mult16 (v323 : BitVec 32) : BitVec 32 :=
  let c3_i32_126 : BitVec 32 := 3#32
  let v324 : BitVec 32 := Scalar.shrsi v323 c3_i32_126
  let c3_i32_127 : BitVec 32 := 3#32
  let v325 : BitVec 32 := Scalar.shli v324 c3_i32_127
  v325

def k0_off42 (v323 : BitVec 32) : Fin 2 → Nat :=
  let c3_i32_126 : BitVec 32 := 3#32
  let v324 : BitVec 32 := Scalar.shrsi v323 c3_i32_126
  let c3_i32_127 : BitVec 32 := 3#32
  let v325 : BitVec 32 := Scalar.shli v324 c3_i32_127
  let v326 : BitVec 32 := v325
  let v327 : Index := Scalar.indexCast v326
  let c0_128 : Index := 0#32
  ![v327.toNat, 0]

def k0_chk16 (v323 : BitVec 32) : Prop :=
  (8 ∣ (k0_mult16 v323).toNat) ∧
  (∀ a, (k0_off42 v323) a + S8x512.size a ≤ S20000x512.size a)
theorem k0_mult16_dvd : ∀ (v323 : BitVec 32) (k0_hw16 : k0_chk16 v323), 8 ∣ (k0_mult16 v323).toNat := fun v323 k0_hw16 => k0_hw16.1
theorem k0_off42_inb : ∀ (v323 : BitVec 32) (k0_hw16 : k0_chk16 v323), ∀ a, (k0_off42 v323) a + S8x512.size a ≤ S20000x512.size a := fun v323 k0_hw16 => k0_hw16.2

def k0_off43 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_130 : BitVec 32 := 0#32
  let v337 : BitVec 32 := Scalar.addi v63 c0_i32_130
  let c16_i32_131 : BitVec 32 := 16#32
  let v338 : BitVec 32 := Scalar.addi v337 c16_i32_131
  let v339 : Index := Scalar.indexCast v338
  ![v339.toNat]
def k0_mult17 (v340 : BitVec 32) : BitVec 32 :=
  let c3_i32_132 : BitVec 32 := 3#32
  let v341 : BitVec 32 := Scalar.shrsi v340 c3_i32_132
  let c3_i32_133 : BitVec 32 := 3#32
  let v342 : BitVec 32 := Scalar.shli v341 c3_i32_133
  v342

def k0_off44 (v340 : BitVec 32) : Fin 2 → Nat :=
  let c3_i32_132 : BitVec 32 := 3#32
  let v341 : BitVec 32 := Scalar.shrsi v340 c3_i32_132
  let c3_i32_133 : BitVec 32 := 3#32
  let v342 : BitVec 32 := Scalar.shli v341 c3_i32_133
  let v343 : BitVec 32 := v342
  let v344 : Index := Scalar.indexCast v343
  let c0_134 : Index := 0#32
  ![v344.toNat, 0]

def k0_chk17 (v340 : BitVec 32) : Prop :=
  (8 ∣ (k0_mult17 v340).toNat) ∧
  (∀ a, (k0_off44 v340) a + S8x512.size a ≤ S20000x512.size a)
theorem k0_mult17_dvd : ∀ (v340 : BitVec 32) (k0_hw17 : k0_chk17 v340), 8 ∣ (k0_mult17 v340).toNat := fun v340 k0_hw17 => k0_hw17.1
theorem k0_off44_inb : ∀ (v340 : BitVec 32) (k0_hw17 : k0_chk17 v340), ∀ a, (k0_off44 v340) a + S8x512.size a ≤ S20000x512.size a := fun v340 k0_hw17 => k0_hw17.2

def k0_off45 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_136 : BitVec 32 := 0#32
  let v354 : BitVec 32 := Scalar.addi v63 c0_i32_136
  let c17_i32 : BitVec 32 := 17#32
  let v355 : BitVec 32 := Scalar.addi v354 c17_i32
  let v356 : Index := Scalar.indexCast v355
  ![v356.toNat]
def k0_mult18 (v357 : BitVec 32) : BitVec 32 :=
  let c3_i32_137 : BitVec 32 := 3#32
  let v358 : BitVec 32 := Scalar.shrsi v357 c3_i32_137
  let c3_i32_138 : BitVec 32 := 3#32
  let v359 : BitVec 32 := Scalar.shli v358 c3_i32_138
  v359

def k0_off46 (v357 : BitVec 32) : Fin 2 → Nat :=
  let c3_i32_137 : BitVec 32 := 3#32
  let v358 : BitVec 32 := Scalar.shrsi v357 c3_i32_137
  let c3_i32_138 : BitVec 32 := 3#32
  let v359 : BitVec 32 := Scalar.shli v358 c3_i32_138
  let v360 : BitVec 32 := v359
  let v361 : Index := Scalar.indexCast v360
  let c0_139 : Index := 0#32
  ![v361.toNat, 0]

def k0_chk18 (v357 : BitVec 32) : Prop :=
  (8 ∣ (k0_mult18 v357).toNat) ∧
  (∀ a, (k0_off46 v357) a + S8x512.size a ≤ S20000x512.size a)
theorem k0_mult18_dvd : ∀ (v357 : BitVec 32) (k0_hw18 : k0_chk18 v357), 8 ∣ (k0_mult18 v357).toNat := fun v357 k0_hw18 => k0_hw18.1
theorem k0_off46_inb : ∀ (v357 : BitVec 32) (k0_hw18 : k0_chk18 v357), ∀ a, (k0_off46 v357) a + S8x512.size a ≤ S20000x512.size a := fun v357 k0_hw18 => k0_hw18.2

def k0_off47 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_141 : BitVec 32 := 0#32
  let v371 : BitVec 32 := Scalar.addi v63 c0_i32_141
  let c18_i32 : BitVec 32 := 18#32
  let v372 : BitVec 32 := Scalar.addi v371 c18_i32
  let v373 : Index := Scalar.indexCast v372
  ![v373.toNat]
def k0_mult19 (v374 : BitVec 32) : BitVec 32 :=
  let c3_i32_142 : BitVec 32 := 3#32
  let v375 : BitVec 32 := Scalar.shrsi v374 c3_i32_142
  let c3_i32_143 : BitVec 32 := 3#32
  let v376 : BitVec 32 := Scalar.shli v375 c3_i32_143
  v376

def k0_off48 (v374 : BitVec 32) : Fin 2 → Nat :=
  let c3_i32_142 : BitVec 32 := 3#32
  let v375 : BitVec 32 := Scalar.shrsi v374 c3_i32_142
  let c3_i32_143 : BitVec 32 := 3#32
  let v376 : BitVec 32 := Scalar.shli v375 c3_i32_143
  let v377 : BitVec 32 := v376
  let v378 : Index := Scalar.indexCast v377
  let c0_144 : Index := 0#32
  ![v378.toNat, 0]

def k0_chk19 (v374 : BitVec 32) : Prop :=
  (8 ∣ (k0_mult19 v374).toNat) ∧
  (∀ a, (k0_off48 v374) a + S8x512.size a ≤ S20000x512.size a)
theorem k0_mult19_dvd : ∀ (v374 : BitVec 32) (k0_hw19 : k0_chk19 v374), 8 ∣ (k0_mult19 v374).toNat := fun v374 k0_hw19 => k0_hw19.1
theorem k0_off48_inb : ∀ (v374 : BitVec 32) (k0_hw19 : k0_chk19 v374), ∀ a, (k0_off48 v374) a + S8x512.size a ≤ S20000x512.size a := fun v374 k0_hw19 => k0_hw19.2

def k0_off49 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_146 : BitVec 32 := 0#32
  let v388 : BitVec 32 := Scalar.addi v63 c0_i32_146
  let c19_i32 : BitVec 32 := 19#32
  let v389 : BitVec 32 := Scalar.addi v388 c19_i32
  let v390 : Index := Scalar.indexCast v389
  ![v390.toNat]
def k0_mult20 (v391 : BitVec 32) : BitVec 32 :=
  let c3_i32_147 : BitVec 32 := 3#32
  let v392 : BitVec 32 := Scalar.shrsi v391 c3_i32_147
  let c3_i32_148 : BitVec 32 := 3#32
  let v393 : BitVec 32 := Scalar.shli v392 c3_i32_148
  v393

def k0_off50 (v391 : BitVec 32) : Fin 2 → Nat :=
  let c3_i32_147 : BitVec 32 := 3#32
  let v392 : BitVec 32 := Scalar.shrsi v391 c3_i32_147
  let c3_i32_148 : BitVec 32 := 3#32
  let v393 : BitVec 32 := Scalar.shli v392 c3_i32_148
  let v394 : BitVec 32 := v393
  let v395 : Index := Scalar.indexCast v394
  let c0_149 : Index := 0#32
  ![v395.toNat, 0]

def k0_chk20 (v391 : BitVec 32) : Prop :=
  (8 ∣ (k0_mult20 v391).toNat) ∧
  (∀ a, (k0_off50 v391) a + S8x512.size a ≤ S20000x512.size a)
theorem k0_mult20_dvd : ∀ (v391 : BitVec 32) (k0_hw20 : k0_chk20 v391), 8 ∣ (k0_mult20 v391).toNat := fun v391 k0_hw20 => k0_hw20.1
theorem k0_off50_inb : ∀ (v391 : BitVec 32) (k0_hw20 : k0_chk20 v391), ∀ a, (k0_off50 v391) a + S8x512.size a ≤ S20000x512.size a := fun v391 k0_hw20 => k0_hw20.2

def k0_off51 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_151 : BitVec 32 := 0#32
  let v405 : BitVec 32 := Scalar.addi v63 c0_i32_151
  let c20_i32 : BitVec 32 := 20#32
  let v406 : BitVec 32 := Scalar.addi v405 c20_i32
  let v407 : Index := Scalar.indexCast v406
  ![v407.toNat]
def k0_mult21 (v408 : BitVec 32) : BitVec 32 :=
  let c3_i32_152 : BitVec 32 := 3#32
  let v409 : BitVec 32 := Scalar.shrsi v408 c3_i32_152
  let c3_i32_153 : BitVec 32 := 3#32
  let v410 : BitVec 32 := Scalar.shli v409 c3_i32_153
  v410

def k0_off52 (v408 : BitVec 32) : Fin 2 → Nat :=
  let c3_i32_152 : BitVec 32 := 3#32
  let v409 : BitVec 32 := Scalar.shrsi v408 c3_i32_152
  let c3_i32_153 : BitVec 32 := 3#32
  let v410 : BitVec 32 := Scalar.shli v409 c3_i32_153
  let v411 : BitVec 32 := v410
  let v412 : Index := Scalar.indexCast v411
  let c0_154 : Index := 0#32
  ![v412.toNat, 0]

def k0_chk21 (v408 : BitVec 32) : Prop :=
  (8 ∣ (k0_mult21 v408).toNat) ∧
  (∀ a, (k0_off52 v408) a + S8x512.size a ≤ S20000x512.size a)
theorem k0_mult21_dvd : ∀ (v408 : BitVec 32) (k0_hw21 : k0_chk21 v408), 8 ∣ (k0_mult21 v408).toNat := fun v408 k0_hw21 => k0_hw21.1
theorem k0_off52_inb : ∀ (v408 : BitVec 32) (k0_hw21 : k0_chk21 v408), ∀ a, (k0_off52 v408) a + S8x512.size a ≤ S20000x512.size a := fun v408 k0_hw21 => k0_hw21.2

def k0_off53 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_156 : BitVec 32 := 0#32
  let v422 : BitVec 32 := Scalar.addi v63 c0_i32_156
  let c21_i32 : BitVec 32 := 21#32
  let v423 : BitVec 32 := Scalar.addi v422 c21_i32
  let v424 : Index := Scalar.indexCast v423
  ![v424.toNat]
def k0_mult22 (v425 : BitVec 32) : BitVec 32 :=
  let c3_i32_157 : BitVec 32 := 3#32
  let v426 : BitVec 32 := Scalar.shrsi v425 c3_i32_157
  let c3_i32_158 : BitVec 32 := 3#32
  let v427 : BitVec 32 := Scalar.shli v426 c3_i32_158
  v427

def k0_off54 (v425 : BitVec 32) : Fin 2 → Nat :=
  let c3_i32_157 : BitVec 32 := 3#32
  let v426 : BitVec 32 := Scalar.shrsi v425 c3_i32_157
  let c3_i32_158 : BitVec 32 := 3#32
  let v427 : BitVec 32 := Scalar.shli v426 c3_i32_158
  let v428 : BitVec 32 := v427
  let v429 : Index := Scalar.indexCast v428
  let c0_159 : Index := 0#32
  ![v429.toNat, 0]

def k0_chk22 (v425 : BitVec 32) : Prop :=
  (8 ∣ (k0_mult22 v425).toNat) ∧
  (∀ a, (k0_off54 v425) a + S8x512.size a ≤ S20000x512.size a)
theorem k0_mult22_dvd : ∀ (v425 : BitVec 32) (k0_hw22 : k0_chk22 v425), 8 ∣ (k0_mult22 v425).toNat := fun v425 k0_hw22 => k0_hw22.1
theorem k0_off54_inb : ∀ (v425 : BitVec 32) (k0_hw22 : k0_chk22 v425), ∀ a, (k0_off54 v425) a + S8x512.size a ≤ S20000x512.size a := fun v425 k0_hw22 => k0_hw22.2

def k0_off55 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_161 : BitVec 32 := 0#32
  let v439 : BitVec 32 := Scalar.addi v63 c0_i32_161
  let c22_i32 : BitVec 32 := 22#32
  let v440 : BitVec 32 := Scalar.addi v439 c22_i32
  let v441 : Index := Scalar.indexCast v440
  ![v441.toNat]
def k0_mult23 (v442 : BitVec 32) : BitVec 32 :=
  let c3_i32_162 : BitVec 32 := 3#32
  let v443 : BitVec 32 := Scalar.shrsi v442 c3_i32_162
  let c3_i32_163 : BitVec 32 := 3#32
  let v444 : BitVec 32 := Scalar.shli v443 c3_i32_163
  v444

def k0_off56 (v442 : BitVec 32) : Fin 2 → Nat :=
  let c3_i32_162 : BitVec 32 := 3#32
  let v443 : BitVec 32 := Scalar.shrsi v442 c3_i32_162
  let c3_i32_163 : BitVec 32 := 3#32
  let v444 : BitVec 32 := Scalar.shli v443 c3_i32_163
  let v445 : BitVec 32 := v444
  let v446 : Index := Scalar.indexCast v445
  let c0_164 : Index := 0#32
  ![v446.toNat, 0]

def k0_chk23 (v442 : BitVec 32) : Prop :=
  (8 ∣ (k0_mult23 v442).toNat) ∧
  (∀ a, (k0_off56 v442) a + S8x512.size a ≤ S20000x512.size a)
theorem k0_mult23_dvd : ∀ (v442 : BitVec 32) (k0_hw23 : k0_chk23 v442), 8 ∣ (k0_mult23 v442).toNat := fun v442 k0_hw23 => k0_hw23.1
theorem k0_off56_inb : ∀ (v442 : BitVec 32) (k0_hw23 : k0_chk23 v442), ∀ a, (k0_off56 v442) a + S8x512.size a ≤ S20000x512.size a := fun v442 k0_hw23 => k0_hw23.2

def k0_off57 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_166 : BitVec 32 := 0#32
  let v456 : BitVec 32 := Scalar.addi v63 c0_i32_166
  let c23_i32 : BitVec 32 := 23#32
  let v457 : BitVec 32 := Scalar.addi v456 c23_i32
  let v458 : Index := Scalar.indexCast v457
  ![v458.toNat]
def k0_mult24 (v459 : BitVec 32) : BitVec 32 :=
  let c3_i32_167 : BitVec 32 := 3#32
  let v460 : BitVec 32 := Scalar.shrsi v459 c3_i32_167
  let c3_i32_168 : BitVec 32 := 3#32
  let v461 : BitVec 32 := Scalar.shli v460 c3_i32_168
  v461

def k0_off58 (v459 : BitVec 32) : Fin 2 → Nat :=
  let c3_i32_167 : BitVec 32 := 3#32
  let v460 : BitVec 32 := Scalar.shrsi v459 c3_i32_167
  let c3_i32_168 : BitVec 32 := 3#32
  let v461 : BitVec 32 := Scalar.shli v460 c3_i32_168
  let v462 : BitVec 32 := v461
  let v463 : Index := Scalar.indexCast v462
  let c0_169 : Index := 0#32
  ![v463.toNat, 0]

def k0_chk24 (v459 : BitVec 32) : Prop :=
  (8 ∣ (k0_mult24 v459).toNat) ∧
  (∀ a, (k0_off58 v459) a + S8x512.size a ≤ S20000x512.size a)
theorem k0_mult24_dvd : ∀ (v459 : BitVec 32) (k0_hw24 : k0_chk24 v459), 8 ∣ (k0_mult24 v459).toNat := fun v459 k0_hw24 => k0_hw24.1
theorem k0_off58_inb : ∀ (v459 : BitVec 32) (k0_hw24 : k0_chk24 v459), ∀ a, (k0_off58 v459) a + S8x512.size a ≤ S20000x512.size a := fun v459 k0_hw24 => k0_hw24.2

def k0_off59 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_171 : BitVec 32 := 0#32
  let v473 : BitVec 32 := Scalar.addi v63 c0_i32_171
  let c24_i32 : BitVec 32 := 24#32
  let v474 : BitVec 32 := Scalar.addi v473 c24_i32
  let v475 : Index := Scalar.indexCast v474
  ![v475.toNat]
def k0_mult25 (v476 : BitVec 32) : BitVec 32 :=
  let c3_i32_172 : BitVec 32 := 3#32
  let v477 : BitVec 32 := Scalar.shrsi v476 c3_i32_172
  let c3_i32_173 : BitVec 32 := 3#32
  let v478 : BitVec 32 := Scalar.shli v477 c3_i32_173
  v478

def k0_off60 (v476 : BitVec 32) : Fin 2 → Nat :=
  let c3_i32_172 : BitVec 32 := 3#32
  let v477 : BitVec 32 := Scalar.shrsi v476 c3_i32_172
  let c3_i32_173 : BitVec 32 := 3#32
  let v478 : BitVec 32 := Scalar.shli v477 c3_i32_173
  let v479 : BitVec 32 := v478
  let v480 : Index := Scalar.indexCast v479
  let c0_174 : Index := 0#32
  ![v480.toNat, 0]

def k0_chk25 (v476 : BitVec 32) : Prop :=
  (8 ∣ (k0_mult25 v476).toNat) ∧
  (∀ a, (k0_off60 v476) a + S8x512.size a ≤ S20000x512.size a)
theorem k0_mult25_dvd : ∀ (v476 : BitVec 32) (k0_hw25 : k0_chk25 v476), 8 ∣ (k0_mult25 v476).toNat := fun v476 k0_hw25 => k0_hw25.1
theorem k0_off60_inb : ∀ (v476 : BitVec 32) (k0_hw25 : k0_chk25 v476), ∀ a, (k0_off60 v476) a + S8x512.size a ≤ S20000x512.size a := fun v476 k0_hw25 => k0_hw25.2

def k0_off61 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_176 : BitVec 32 := 0#32
  let v490 : BitVec 32 := Scalar.addi v63 c0_i32_176
  let c25_i32 : BitVec 32 := 25#32
  let v491 : BitVec 32 := Scalar.addi v490 c25_i32
  let v492 : Index := Scalar.indexCast v491
  ![v492.toNat]
def k0_mult26 (v493 : BitVec 32) : BitVec 32 :=
  let c3_i32_177 : BitVec 32 := 3#32
  let v494 : BitVec 32 := Scalar.shrsi v493 c3_i32_177
  let c3_i32_178 : BitVec 32 := 3#32
  let v495 : BitVec 32 := Scalar.shli v494 c3_i32_178
  v495

def k0_off62 (v493 : BitVec 32) : Fin 2 → Nat :=
  let c3_i32_177 : BitVec 32 := 3#32
  let v494 : BitVec 32 := Scalar.shrsi v493 c3_i32_177
  let c3_i32_178 : BitVec 32 := 3#32
  let v495 : BitVec 32 := Scalar.shli v494 c3_i32_178
  let v496 : BitVec 32 := v495
  let v497 : Index := Scalar.indexCast v496
  let c0_179 : Index := 0#32
  ![v497.toNat, 0]

def k0_chk26 (v493 : BitVec 32) : Prop :=
  (8 ∣ (k0_mult26 v493).toNat) ∧
  (∀ a, (k0_off62 v493) a + S8x512.size a ≤ S20000x512.size a)
theorem k0_mult26_dvd : ∀ (v493 : BitVec 32) (k0_hw26 : k0_chk26 v493), 8 ∣ (k0_mult26 v493).toNat := fun v493 k0_hw26 => k0_hw26.1
theorem k0_off62_inb : ∀ (v493 : BitVec 32) (k0_hw26 : k0_chk26 v493), ∀ a, (k0_off62 v493) a + S8x512.size a ≤ S20000x512.size a := fun v493 k0_hw26 => k0_hw26.2

def k0_off63 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_181 : BitVec 32 := 0#32
  let v507 : BitVec 32 := Scalar.addi v63 c0_i32_181
  let c26_i32 : BitVec 32 := 26#32
  let v508 : BitVec 32 := Scalar.addi v507 c26_i32
  let v509 : Index := Scalar.indexCast v508
  ![v509.toNat]
def k0_mult27 (v510 : BitVec 32) : BitVec 32 :=
  let c3_i32_182 : BitVec 32 := 3#32
  let v511 : BitVec 32 := Scalar.shrsi v510 c3_i32_182
  let c3_i32_183 : BitVec 32 := 3#32
  let v512 : BitVec 32 := Scalar.shli v511 c3_i32_183
  v512

def k0_off64 (v510 : BitVec 32) : Fin 2 → Nat :=
  let c3_i32_182 : BitVec 32 := 3#32
  let v511 : BitVec 32 := Scalar.shrsi v510 c3_i32_182
  let c3_i32_183 : BitVec 32 := 3#32
  let v512 : BitVec 32 := Scalar.shli v511 c3_i32_183
  let v513 : BitVec 32 := v512
  let v514 : Index := Scalar.indexCast v513
  let c0_184 : Index := 0#32
  ![v514.toNat, 0]

def k0_chk27 (v510 : BitVec 32) : Prop :=
  (8 ∣ (k0_mult27 v510).toNat) ∧
  (∀ a, (k0_off64 v510) a + S8x512.size a ≤ S20000x512.size a)
theorem k0_mult27_dvd : ∀ (v510 : BitVec 32) (k0_hw27 : k0_chk27 v510), 8 ∣ (k0_mult27 v510).toNat := fun v510 k0_hw27 => k0_hw27.1
theorem k0_off64_inb : ∀ (v510 : BitVec 32) (k0_hw27 : k0_chk27 v510), ∀ a, (k0_off64 v510) a + S8x512.size a ≤ S20000x512.size a := fun v510 k0_hw27 => k0_hw27.2

def k0_off65 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_186 : BitVec 32 := 0#32
  let v524 : BitVec 32 := Scalar.addi v63 c0_i32_186
  let c27_i32 : BitVec 32 := 27#32
  let v525 : BitVec 32 := Scalar.addi v524 c27_i32
  let v526 : Index := Scalar.indexCast v525
  ![v526.toNat]
def k0_mult28 (v527 : BitVec 32) : BitVec 32 :=
  let c3_i32_187 : BitVec 32 := 3#32
  let v528 : BitVec 32 := Scalar.shrsi v527 c3_i32_187
  let c3_i32_188 : BitVec 32 := 3#32
  let v529 : BitVec 32 := Scalar.shli v528 c3_i32_188
  v529

def k0_off66 (v527 : BitVec 32) : Fin 2 → Nat :=
  let c3_i32_187 : BitVec 32 := 3#32
  let v528 : BitVec 32 := Scalar.shrsi v527 c3_i32_187
  let c3_i32_188 : BitVec 32 := 3#32
  let v529 : BitVec 32 := Scalar.shli v528 c3_i32_188
  let v530 : BitVec 32 := v529
  let v531 : Index := Scalar.indexCast v530
  let c0_189 : Index := 0#32
  ![v531.toNat, 0]

def k0_chk28 (v527 : BitVec 32) : Prop :=
  (8 ∣ (k0_mult28 v527).toNat) ∧
  (∀ a, (k0_off66 v527) a + S8x512.size a ≤ S20000x512.size a)
theorem k0_mult28_dvd : ∀ (v527 : BitVec 32) (k0_hw28 : k0_chk28 v527), 8 ∣ (k0_mult28 v527).toNat := fun v527 k0_hw28 => k0_hw28.1
theorem k0_off66_inb : ∀ (v527 : BitVec 32) (k0_hw28 : k0_chk28 v527), ∀ a, (k0_off66 v527) a + S8x512.size a ≤ S20000x512.size a := fun v527 k0_hw28 => k0_hw28.2

def k0_off67 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_191 : BitVec 32 := 0#32
  let v541 : BitVec 32 := Scalar.addi v63 c0_i32_191
  let c28_i32 : BitVec 32 := 28#32
  let v542 : BitVec 32 := Scalar.addi v541 c28_i32
  let v543 : Index := Scalar.indexCast v542
  ![v543.toNat]
def k0_mult29 (v544 : BitVec 32) : BitVec 32 :=
  let c3_i32_192 : BitVec 32 := 3#32
  let v545 : BitVec 32 := Scalar.shrsi v544 c3_i32_192
  let c3_i32_193 : BitVec 32 := 3#32
  let v546 : BitVec 32 := Scalar.shli v545 c3_i32_193
  v546

def k0_off68 (v544 : BitVec 32) : Fin 2 → Nat :=
  let c3_i32_192 : BitVec 32 := 3#32
  let v545 : BitVec 32 := Scalar.shrsi v544 c3_i32_192
  let c3_i32_193 : BitVec 32 := 3#32
  let v546 : BitVec 32 := Scalar.shli v545 c3_i32_193
  let v547 : BitVec 32 := v546
  let v548 : Index := Scalar.indexCast v547
  let c0_194 : Index := 0#32
  ![v548.toNat, 0]

def k0_chk29 (v544 : BitVec 32) : Prop :=
  (8 ∣ (k0_mult29 v544).toNat) ∧
  (∀ a, (k0_off68 v544) a + S8x512.size a ≤ S20000x512.size a)
theorem k0_mult29_dvd : ∀ (v544 : BitVec 32) (k0_hw29 : k0_chk29 v544), 8 ∣ (k0_mult29 v544).toNat := fun v544 k0_hw29 => k0_hw29.1
theorem k0_off68_inb : ∀ (v544 : BitVec 32) (k0_hw29 : k0_chk29 v544), ∀ a, (k0_off68 v544) a + S8x512.size a ≤ S20000x512.size a := fun v544 k0_hw29 => k0_hw29.2

def k0_off69 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_196 : BitVec 32 := 0#32
  let v558 : BitVec 32 := Scalar.addi v63 c0_i32_196
  let c29_i32 : BitVec 32 := 29#32
  let v559 : BitVec 32 := Scalar.addi v558 c29_i32
  let v560 : Index := Scalar.indexCast v559
  ![v560.toNat]
def k0_mult30 (v561 : BitVec 32) : BitVec 32 :=
  let c3_i32_197 : BitVec 32 := 3#32
  let v562 : BitVec 32 := Scalar.shrsi v561 c3_i32_197
  let c3_i32_198 : BitVec 32 := 3#32
  let v563 : BitVec 32 := Scalar.shli v562 c3_i32_198
  v563

def k0_off70 (v561 : BitVec 32) : Fin 2 → Nat :=
  let c3_i32_197 : BitVec 32 := 3#32
  let v562 : BitVec 32 := Scalar.shrsi v561 c3_i32_197
  let c3_i32_198 : BitVec 32 := 3#32
  let v563 : BitVec 32 := Scalar.shli v562 c3_i32_198
  let v564 : BitVec 32 := v563
  let v565 : Index := Scalar.indexCast v564
  let c0_199 : Index := 0#32
  ![v565.toNat, 0]

def k0_chk30 (v561 : BitVec 32) : Prop :=
  (8 ∣ (k0_mult30 v561).toNat) ∧
  (∀ a, (k0_off70 v561) a + S8x512.size a ≤ S20000x512.size a)
theorem k0_mult30_dvd : ∀ (v561 : BitVec 32) (k0_hw30 : k0_chk30 v561), 8 ∣ (k0_mult30 v561).toNat := fun v561 k0_hw30 => k0_hw30.1
theorem k0_off70_inb : ∀ (v561 : BitVec 32) (k0_hw30 : k0_chk30 v561), ∀ a, (k0_off70 v561) a + S8x512.size a ≤ S20000x512.size a := fun v561 k0_hw30 => k0_hw30.2

def k0_off71 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_201 : BitVec 32 := 0#32
  let v575 : BitVec 32 := Scalar.addi v63 c0_i32_201
  let c30_i32 : BitVec 32 := 30#32
  let v576 : BitVec 32 := Scalar.addi v575 c30_i32
  let v577 : Index := Scalar.indexCast v576
  ![v577.toNat]
def k0_mult31 (v578 : BitVec 32) : BitVec 32 :=
  let c3_i32_202 : BitVec 32 := 3#32
  let v579 : BitVec 32 := Scalar.shrsi v578 c3_i32_202
  let c3_i32_203 : BitVec 32 := 3#32
  let v580 : BitVec 32 := Scalar.shli v579 c3_i32_203
  v580

def k0_off72 (v578 : BitVec 32) : Fin 2 → Nat :=
  let c3_i32_202 : BitVec 32 := 3#32
  let v579 : BitVec 32 := Scalar.shrsi v578 c3_i32_202
  let c3_i32_203 : BitVec 32 := 3#32
  let v580 : BitVec 32 := Scalar.shli v579 c3_i32_203
  let v581 : BitVec 32 := v580
  let v582 : Index := Scalar.indexCast v581
  let c0_204 : Index := 0#32
  ![v582.toNat, 0]

def k0_chk31 (v578 : BitVec 32) : Prop :=
  (8 ∣ (k0_mult31 v578).toNat) ∧
  (∀ a, (k0_off72 v578) a + S8x512.size a ≤ S20000x512.size a)
theorem k0_mult31_dvd : ∀ (v578 : BitVec 32) (k0_hw31 : k0_chk31 v578), 8 ∣ (k0_mult31 v578).toNat := fun v578 k0_hw31 => k0_hw31.1
theorem k0_off72_inb : ∀ (v578 : BitVec 32) (k0_hw31 : k0_chk31 v578), ∀ a, (k0_off72 v578) a + S8x512.size a ≤ S20000x512.size a := fun v578 k0_hw31 => k0_hw31.2

def k0_off73 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_206 : BitVec 32 := 0#32
  let v592 : BitVec 32 := Scalar.addi v63 c0_i32_206
  let c31_i32 : BitVec 32 := 31#32
  let v593 : BitVec 32 := Scalar.addi v592 c31_i32
  let v594 : Index := Scalar.indexCast v593
  ![v594.toNat]
def k0_mult32 (v595 : BitVec 32) : BitVec 32 :=
  let c3_i32_207 : BitVec 32 := 3#32
  let v596 : BitVec 32 := Scalar.shrsi v595 c3_i32_207
  let c3_i32_208 : BitVec 32 := 3#32
  let v597 : BitVec 32 := Scalar.shli v596 c3_i32_208
  v597

def k0_off74 (v595 : BitVec 32) : Fin 2 → Nat :=
  let c3_i32_207 : BitVec 32 := 3#32
  let v596 : BitVec 32 := Scalar.shrsi v595 c3_i32_207
  let c3_i32_208 : BitVec 32 := 3#32
  let v597 : BitVec 32 := Scalar.shli v596 c3_i32_208
  let v598 : BitVec 32 := v597
  let v599 : Index := Scalar.indexCast v598
  let c0_209 : Index := 0#32
  ![v599.toNat, 0]

def k0_chk32 (v595 : BitVec 32) : Prop :=
  (8 ∣ (k0_mult32 v595).toNat) ∧
  (∀ a, (k0_off74 v595) a + S8x512.size a ≤ S20000x512.size a)
theorem k0_mult32_dvd : ∀ (v595 : BitVec 32) (k0_hw32 : k0_chk32 v595), 8 ∣ (k0_mult32 v595).toNat := fun v595 k0_hw32 => k0_hw32.1
theorem k0_off74_inb : ∀ (v595 : BitVec 32) (k0_hw32 : k0_chk32 v595), ∀ a, (k0_off74 v595) a + S8x512.size a ≤ S20000x512.size a := fun v595 k0_hw32 => k0_hw32.2

def k0_off75 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_211 : BitVec 32 := 0#32
  let v609 : BitVec 32 := Scalar.addi v63 c0_i32_211
  let c32_i32 : BitVec 32 := 32#32
  let v610 : BitVec 32 := Scalar.addi v609 c32_i32
  let v611 : Index := Scalar.indexCast v610
  ![v611.toNat]
def k0_mult33 (v612 : BitVec 32) : BitVec 32 :=
  let c3_i32_212 : BitVec 32 := 3#32
  let v613 : BitVec 32 := Scalar.shrsi v612 c3_i32_212
  let c3_i32_213 : BitVec 32 := 3#32
  let v614 : BitVec 32 := Scalar.shli v613 c3_i32_213
  v614

def k0_off76 (v612 : BitVec 32) : Fin 2 → Nat :=
  let c3_i32_212 : BitVec 32 := 3#32
  let v613 : BitVec 32 := Scalar.shrsi v612 c3_i32_212
  let c3_i32_213 : BitVec 32 := 3#32
  let v614 : BitVec 32 := Scalar.shli v613 c3_i32_213
  let v615 : BitVec 32 := v614
  let v616 : Index := Scalar.indexCast v615
  let c0_214 : Index := 0#32
  ![v616.toNat, 0]

def k0_chk33 (v612 : BitVec 32) : Prop :=
  (8 ∣ (k0_mult33 v612).toNat) ∧
  (∀ a, (k0_off76 v612) a + S8x512.size a ≤ S20000x512.size a)
theorem k0_mult33_dvd : ∀ (v612 : BitVec 32) (k0_hw33 : k0_chk33 v612), 8 ∣ (k0_mult33 v612).toNat := fun v612 k0_hw33 => k0_hw33.1
theorem k0_off76_inb : ∀ (v612 : BitVec 32) (k0_hw33 : k0_chk33 v612), ∀ a, (k0_off76 v612) a + S8x512.size a ≤ S20000x512.size a := fun v612 k0_hw33 => k0_hw33.2

def k0_off77 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_216 : BitVec 32 := 0#32
  let v626 : BitVec 32 := Scalar.addi v63 c0_i32_216
  let c33_i32 : BitVec 32 := 33#32
  let v627 : BitVec 32 := Scalar.addi v626 c33_i32
  let v628 : Index := Scalar.indexCast v627
  ![v628.toNat]
def k0_mult34 (v629 : BitVec 32) : BitVec 32 :=
  let c3_i32_217 : BitVec 32 := 3#32
  let v630 : BitVec 32 := Scalar.shrsi v629 c3_i32_217
  let c3_i32_218 : BitVec 32 := 3#32
  let v631 : BitVec 32 := Scalar.shli v630 c3_i32_218
  v631

def k0_off78 (v629 : BitVec 32) : Fin 2 → Nat :=
  let c3_i32_217 : BitVec 32 := 3#32
  let v630 : BitVec 32 := Scalar.shrsi v629 c3_i32_217
  let c3_i32_218 : BitVec 32 := 3#32
  let v631 : BitVec 32 := Scalar.shli v630 c3_i32_218
  let v632 : BitVec 32 := v631
  let v633 : Index := Scalar.indexCast v632
  let c0_219 : Index := 0#32
  ![v633.toNat, 0]

def k0_chk34 (v629 : BitVec 32) : Prop :=
  (8 ∣ (k0_mult34 v629).toNat) ∧
  (∀ a, (k0_off78 v629) a + S8x512.size a ≤ S20000x512.size a)
theorem k0_mult34_dvd : ∀ (v629 : BitVec 32) (k0_hw34 : k0_chk34 v629), 8 ∣ (k0_mult34 v629).toNat := fun v629 k0_hw34 => k0_hw34.1
theorem k0_off78_inb : ∀ (v629 : BitVec 32) (k0_hw34 : k0_chk34 v629), ∀ a, (k0_off78 v629) a + S8x512.size a ≤ S20000x512.size a := fun v629 k0_hw34 => k0_hw34.2

def k0_off79 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_221 : BitVec 32 := 0#32
  let v643 : BitVec 32 := Scalar.addi v63 c0_i32_221
  let c34_i32 : BitVec 32 := 34#32
  let v644 : BitVec 32 := Scalar.addi v643 c34_i32
  let v645 : Index := Scalar.indexCast v644
  ![v645.toNat]
def k0_mult35 (v646 : BitVec 32) : BitVec 32 :=
  let c3_i32_222 : BitVec 32 := 3#32
  let v647 : BitVec 32 := Scalar.shrsi v646 c3_i32_222
  let c3_i32_223 : BitVec 32 := 3#32
  let v648 : BitVec 32 := Scalar.shli v647 c3_i32_223
  v648

def k0_off80 (v646 : BitVec 32) : Fin 2 → Nat :=
  let c3_i32_222 : BitVec 32 := 3#32
  let v647 : BitVec 32 := Scalar.shrsi v646 c3_i32_222
  let c3_i32_223 : BitVec 32 := 3#32
  let v648 : BitVec 32 := Scalar.shli v647 c3_i32_223
  let v649 : BitVec 32 := v648
  let v650 : Index := Scalar.indexCast v649
  let c0_224 : Index := 0#32
  ![v650.toNat, 0]

def k0_chk35 (v646 : BitVec 32) : Prop :=
  (8 ∣ (k0_mult35 v646).toNat) ∧
  (∀ a, (k0_off80 v646) a + S8x512.size a ≤ S20000x512.size a)
theorem k0_mult35_dvd : ∀ (v646 : BitVec 32) (k0_hw35 : k0_chk35 v646), 8 ∣ (k0_mult35 v646).toNat := fun v646 k0_hw35 => k0_hw35.1
theorem k0_off80_inb : ∀ (v646 : BitVec 32) (k0_hw35 : k0_chk35 v646), ∀ a, (k0_off80 v646) a + S8x512.size a ≤ S20000x512.size a := fun v646 k0_hw35 => k0_hw35.2

def k0_off81 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_226 : BitVec 32 := 0#32
  let v660 : BitVec 32 := Scalar.addi v63 c0_i32_226
  let c35_i32 : BitVec 32 := 35#32
  let v661 : BitVec 32 := Scalar.addi v660 c35_i32
  let v662 : Index := Scalar.indexCast v661
  ![v662.toNat]
def k0_mult36 (v663 : BitVec 32) : BitVec 32 :=
  let c3_i32_227 : BitVec 32 := 3#32
  let v664 : BitVec 32 := Scalar.shrsi v663 c3_i32_227
  let c3_i32_228 : BitVec 32 := 3#32
  let v665 : BitVec 32 := Scalar.shli v664 c3_i32_228
  v665

def k0_off82 (v663 : BitVec 32) : Fin 2 → Nat :=
  let c3_i32_227 : BitVec 32 := 3#32
  let v664 : BitVec 32 := Scalar.shrsi v663 c3_i32_227
  let c3_i32_228 : BitVec 32 := 3#32
  let v665 : BitVec 32 := Scalar.shli v664 c3_i32_228
  let v666 : BitVec 32 := v665
  let v667 : Index := Scalar.indexCast v666
  let c0_229 : Index := 0#32
  ![v667.toNat, 0]

def k0_chk36 (v663 : BitVec 32) : Prop :=
  (8 ∣ (k0_mult36 v663).toNat) ∧
  (∀ a, (k0_off82 v663) a + S8x512.size a ≤ S20000x512.size a)
theorem k0_mult36_dvd : ∀ (v663 : BitVec 32) (k0_hw36 : k0_chk36 v663), 8 ∣ (k0_mult36 v663).toNat := fun v663 k0_hw36 => k0_hw36.1
theorem k0_off82_inb : ∀ (v663 : BitVec 32) (k0_hw36 : k0_chk36 v663), ∀ a, (k0_off82 v663) a + S8x512.size a ≤ S20000x512.size a := fun v663 k0_hw36 => k0_hw36.2

def k0_off83 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_231 : BitVec 32 := 0#32
  let v677 : BitVec 32 := Scalar.addi v63 c0_i32_231
  let c36_i32 : BitVec 32 := 36#32
  let v678 : BitVec 32 := Scalar.addi v677 c36_i32
  let v679 : Index := Scalar.indexCast v678
  ![v679.toNat]
def k0_mult37 (v680 : BitVec 32) : BitVec 32 :=
  let c3_i32_232 : BitVec 32 := 3#32
  let v681 : BitVec 32 := Scalar.shrsi v680 c3_i32_232
  let c3_i32_233 : BitVec 32 := 3#32
  let v682 : BitVec 32 := Scalar.shli v681 c3_i32_233
  v682

def k0_off84 (v680 : BitVec 32) : Fin 2 → Nat :=
  let c3_i32_232 : BitVec 32 := 3#32
  let v681 : BitVec 32 := Scalar.shrsi v680 c3_i32_232
  let c3_i32_233 : BitVec 32 := 3#32
  let v682 : BitVec 32 := Scalar.shli v681 c3_i32_233
  let v683 : BitVec 32 := v682
  let v684 : Index := Scalar.indexCast v683
  let c0_234 : Index := 0#32
  ![v684.toNat, 0]

def k0_chk37 (v680 : BitVec 32) : Prop :=
  (8 ∣ (k0_mult37 v680).toNat) ∧
  (∀ a, (k0_off84 v680) a + S8x512.size a ≤ S20000x512.size a)
theorem k0_mult37_dvd : ∀ (v680 : BitVec 32) (k0_hw37 : k0_chk37 v680), 8 ∣ (k0_mult37 v680).toNat := fun v680 k0_hw37 => k0_hw37.1
theorem k0_off84_inb : ∀ (v680 : BitVec 32) (k0_hw37 : k0_chk37 v680), ∀ a, (k0_off84 v680) a + S8x512.size a ≤ S20000x512.size a := fun v680 k0_hw37 => k0_hw37.2

def k0_off85 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_236 : BitVec 32 := 0#32
  let v694 : BitVec 32 := Scalar.addi v63 c0_i32_236
  let c37_i32 : BitVec 32 := 37#32
  let v695 : BitVec 32 := Scalar.addi v694 c37_i32
  let v696 : Index := Scalar.indexCast v695
  ![v696.toNat]
def k0_mult38 (v697 : BitVec 32) : BitVec 32 :=
  let c3_i32_237 : BitVec 32 := 3#32
  let v698 : BitVec 32 := Scalar.shrsi v697 c3_i32_237
  let c3_i32_238 : BitVec 32 := 3#32
  let v699 : BitVec 32 := Scalar.shli v698 c3_i32_238
  v699

def k0_off86 (v697 : BitVec 32) : Fin 2 → Nat :=
  let c3_i32_237 : BitVec 32 := 3#32
  let v698 : BitVec 32 := Scalar.shrsi v697 c3_i32_237
  let c3_i32_238 : BitVec 32 := 3#32
  let v699 : BitVec 32 := Scalar.shli v698 c3_i32_238
  let v700 : BitVec 32 := v699
  let v701 : Index := Scalar.indexCast v700
  let c0_239 : Index := 0#32
  ![v701.toNat, 0]

def k0_chk38 (v697 : BitVec 32) : Prop :=
  (8 ∣ (k0_mult38 v697).toNat) ∧
  (∀ a, (k0_off86 v697) a + S8x512.size a ≤ S20000x512.size a)
theorem k0_mult38_dvd : ∀ (v697 : BitVec 32) (k0_hw38 : k0_chk38 v697), 8 ∣ (k0_mult38 v697).toNat := fun v697 k0_hw38 => k0_hw38.1
theorem k0_off86_inb : ∀ (v697 : BitVec 32) (k0_hw38 : k0_chk38 v697), ∀ a, (k0_off86 v697) a + S8x512.size a ≤ S20000x512.size a := fun v697 k0_hw38 => k0_hw38.2

def k0_off87 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_241 : BitVec 32 := 0#32
  let v711 : BitVec 32 := Scalar.addi v63 c0_i32_241
  let c38_i32 : BitVec 32 := 38#32
  let v712 : BitVec 32 := Scalar.addi v711 c38_i32
  let v713 : Index := Scalar.indexCast v712
  ![v713.toNat]
def k0_mult39 (v714 : BitVec 32) : BitVec 32 :=
  let c3_i32_242 : BitVec 32 := 3#32
  let v715 : BitVec 32 := Scalar.shrsi v714 c3_i32_242
  let c3_i32_243 : BitVec 32 := 3#32
  let v716 : BitVec 32 := Scalar.shli v715 c3_i32_243
  v716

def k0_off88 (v714 : BitVec 32) : Fin 2 → Nat :=
  let c3_i32_242 : BitVec 32 := 3#32
  let v715 : BitVec 32 := Scalar.shrsi v714 c3_i32_242
  let c3_i32_243 : BitVec 32 := 3#32
  let v716 : BitVec 32 := Scalar.shli v715 c3_i32_243
  let v717 : BitVec 32 := v716
  let v718 : Index := Scalar.indexCast v717
  let c0_244 : Index := 0#32
  ![v718.toNat, 0]

def k0_chk39 (v714 : BitVec 32) : Prop :=
  (8 ∣ (k0_mult39 v714).toNat) ∧
  (∀ a, (k0_off88 v714) a + S8x512.size a ≤ S20000x512.size a)
theorem k0_mult39_dvd : ∀ (v714 : BitVec 32) (k0_hw39 : k0_chk39 v714), 8 ∣ (k0_mult39 v714).toNat := fun v714 k0_hw39 => k0_hw39.1
theorem k0_off88_inb : ∀ (v714 : BitVec 32) (k0_hw39 : k0_chk39 v714), ∀ a, (k0_off88 v714) a + S8x512.size a ≤ S20000x512.size a := fun v714 k0_hw39 => k0_hw39.2

def k0_off89 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_246 : BitVec 32 := 0#32
  let v728 : BitVec 32 := Scalar.addi v63 c0_i32_246
  let c39_i32 : BitVec 32 := 39#32
  let v729 : BitVec 32 := Scalar.addi v728 c39_i32
  let v730 : Index := Scalar.indexCast v729
  ![v730.toNat]
def k0_mult40 (v731 : BitVec 32) : BitVec 32 :=
  let c3_i32_247 : BitVec 32 := 3#32
  let v732 : BitVec 32 := Scalar.shrsi v731 c3_i32_247
  let c3_i32_248 : BitVec 32 := 3#32
  let v733 : BitVec 32 := Scalar.shli v732 c3_i32_248
  v733

def k0_off90 (v731 : BitVec 32) : Fin 2 → Nat :=
  let c3_i32_247 : BitVec 32 := 3#32
  let v732 : BitVec 32 := Scalar.shrsi v731 c3_i32_247
  let c3_i32_248 : BitVec 32 := 3#32
  let v733 : BitVec 32 := Scalar.shli v732 c3_i32_248
  let v734 : BitVec 32 := v733
  let v735 : Index := Scalar.indexCast v734
  let c0_249 : Index := 0#32
  ![v735.toNat, 0]

def k0_chk40 (v731 : BitVec 32) : Prop :=
  (8 ∣ (k0_mult40 v731).toNat) ∧
  (∀ a, (k0_off90 v731) a + S8x512.size a ≤ S20000x512.size a)
theorem k0_mult40_dvd : ∀ (v731 : BitVec 32) (k0_hw40 : k0_chk40 v731), 8 ∣ (k0_mult40 v731).toNat := fun v731 k0_hw40 => k0_hw40.1
theorem k0_off90_inb : ∀ (v731 : BitVec 32) (k0_hw40 : k0_chk40 v731), ∀ a, (k0_off90 v731) a + S8x512.size a ≤ S20000x512.size a := fun v731 k0_hw40 => k0_hw40.2

def k0_off91 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_251 : BitVec 32 := 0#32
  let v745 : BitVec 32 := Scalar.addi v63 c0_i32_251
  let c40_i32 : BitVec 32 := 40#32
  let v746 : BitVec 32 := Scalar.addi v745 c40_i32
  let v747 : Index := Scalar.indexCast v746
  ![v747.toNat]
def k0_mult41 (v748 : BitVec 32) : BitVec 32 :=
  let c3_i32_252 : BitVec 32 := 3#32
  let v749 : BitVec 32 := Scalar.shrsi v748 c3_i32_252
  let c3_i32_253 : BitVec 32 := 3#32
  let v750 : BitVec 32 := Scalar.shli v749 c3_i32_253
  v750

def k0_off92 (v748 : BitVec 32) : Fin 2 → Nat :=
  let c3_i32_252 : BitVec 32 := 3#32
  let v749 : BitVec 32 := Scalar.shrsi v748 c3_i32_252
  let c3_i32_253 : BitVec 32 := 3#32
  let v750 : BitVec 32 := Scalar.shli v749 c3_i32_253
  let v751 : BitVec 32 := v750
  let v752 : Index := Scalar.indexCast v751
  let c0_254 : Index := 0#32
  ![v752.toNat, 0]

def k0_chk41 (v748 : BitVec 32) : Prop :=
  (8 ∣ (k0_mult41 v748).toNat) ∧
  (∀ a, (k0_off92 v748) a + S8x512.size a ≤ S20000x512.size a)
theorem k0_mult41_dvd : ∀ (v748 : BitVec 32) (k0_hw41 : k0_chk41 v748), 8 ∣ (k0_mult41 v748).toNat := fun v748 k0_hw41 => k0_hw41.1
theorem k0_off92_inb : ∀ (v748 : BitVec 32) (k0_hw41 : k0_chk41 v748), ∀ a, (k0_off92 v748) a + S8x512.size a ≤ S20000x512.size a := fun v748 k0_hw41 => k0_hw41.2

def k0_off93 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_256 : BitVec 32 := 0#32
  let v762 : BitVec 32 := Scalar.addi v63 c0_i32_256
  let c41_i32 : BitVec 32 := 41#32
  let v763 : BitVec 32 := Scalar.addi v762 c41_i32
  let v764 : Index := Scalar.indexCast v763
  ![v764.toNat]
def k0_mult42 (v765 : BitVec 32) : BitVec 32 :=
  let c3_i32_257 : BitVec 32 := 3#32
  let v766 : BitVec 32 := Scalar.shrsi v765 c3_i32_257
  let c3_i32_258 : BitVec 32 := 3#32
  let v767 : BitVec 32 := Scalar.shli v766 c3_i32_258
  v767

def k0_off94 (v765 : BitVec 32) : Fin 2 → Nat :=
  let c3_i32_257 : BitVec 32 := 3#32
  let v766 : BitVec 32 := Scalar.shrsi v765 c3_i32_257
  let c3_i32_258 : BitVec 32 := 3#32
  let v767 : BitVec 32 := Scalar.shli v766 c3_i32_258
  let v768 : BitVec 32 := v767
  let v769 : Index := Scalar.indexCast v768
  let c0_259 : Index := 0#32
  ![v769.toNat, 0]

def k0_chk42 (v765 : BitVec 32) : Prop :=
  (8 ∣ (k0_mult42 v765).toNat) ∧
  (∀ a, (k0_off94 v765) a + S8x512.size a ≤ S20000x512.size a)
theorem k0_mult42_dvd : ∀ (v765 : BitVec 32) (k0_hw42 : k0_chk42 v765), 8 ∣ (k0_mult42 v765).toNat := fun v765 k0_hw42 => k0_hw42.1
theorem k0_off94_inb : ∀ (v765 : BitVec 32) (k0_hw42 : k0_chk42 v765), ∀ a, (k0_off94 v765) a + S8x512.size a ≤ S20000x512.size a := fun v765 k0_hw42 => k0_hw42.2

def k0_off95 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_261 : BitVec 32 := 0#32
  let v779 : BitVec 32 := Scalar.addi v63 c0_i32_261
  let c42_i32 : BitVec 32 := 42#32
  let v780 : BitVec 32 := Scalar.addi v779 c42_i32
  let v781 : Index := Scalar.indexCast v780
  ![v781.toNat]
def k0_mult43 (v782 : BitVec 32) : BitVec 32 :=
  let c3_i32_262 : BitVec 32 := 3#32
  let v783 : BitVec 32 := Scalar.shrsi v782 c3_i32_262
  let c3_i32_263 : BitVec 32 := 3#32
  let v784 : BitVec 32 := Scalar.shli v783 c3_i32_263
  v784

def k0_off96 (v782 : BitVec 32) : Fin 2 → Nat :=
  let c3_i32_262 : BitVec 32 := 3#32
  let v783 : BitVec 32 := Scalar.shrsi v782 c3_i32_262
  let c3_i32_263 : BitVec 32 := 3#32
  let v784 : BitVec 32 := Scalar.shli v783 c3_i32_263
  let v785 : BitVec 32 := v784
  let v786 : Index := Scalar.indexCast v785
  let c0_264 : Index := 0#32
  ![v786.toNat, 0]

def k0_chk43 (v782 : BitVec 32) : Prop :=
  (8 ∣ (k0_mult43 v782).toNat) ∧
  (∀ a, (k0_off96 v782) a + S8x512.size a ≤ S20000x512.size a)
theorem k0_mult43_dvd : ∀ (v782 : BitVec 32) (k0_hw43 : k0_chk43 v782), 8 ∣ (k0_mult43 v782).toNat := fun v782 k0_hw43 => k0_hw43.1
theorem k0_off96_inb : ∀ (v782 : BitVec 32) (k0_hw43 : k0_chk43 v782), ∀ a, (k0_off96 v782) a + S8x512.size a ≤ S20000x512.size a := fun v782 k0_hw43 => k0_hw43.2

def k0_off97 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_266 : BitVec 32 := 0#32
  let v796 : BitVec 32 := Scalar.addi v63 c0_i32_266
  let c43_i32 : BitVec 32 := 43#32
  let v797 : BitVec 32 := Scalar.addi v796 c43_i32
  let v798 : Index := Scalar.indexCast v797
  ![v798.toNat]
def k0_mult44 (v799 : BitVec 32) : BitVec 32 :=
  let c3_i32_267 : BitVec 32 := 3#32
  let v800 : BitVec 32 := Scalar.shrsi v799 c3_i32_267
  let c3_i32_268 : BitVec 32 := 3#32
  let v801 : BitVec 32 := Scalar.shli v800 c3_i32_268
  v801

def k0_off98 (v799 : BitVec 32) : Fin 2 → Nat :=
  let c3_i32_267 : BitVec 32 := 3#32
  let v800 : BitVec 32 := Scalar.shrsi v799 c3_i32_267
  let c3_i32_268 : BitVec 32 := 3#32
  let v801 : BitVec 32 := Scalar.shli v800 c3_i32_268
  let v802 : BitVec 32 := v801
  let v803 : Index := Scalar.indexCast v802
  let c0_269 : Index := 0#32
  ![v803.toNat, 0]

def k0_chk44 (v799 : BitVec 32) : Prop :=
  (8 ∣ (k0_mult44 v799).toNat) ∧
  (∀ a, (k0_off98 v799) a + S8x512.size a ≤ S20000x512.size a)
theorem k0_mult44_dvd : ∀ (v799 : BitVec 32) (k0_hw44 : k0_chk44 v799), 8 ∣ (k0_mult44 v799).toNat := fun v799 k0_hw44 => k0_hw44.1
theorem k0_off98_inb : ∀ (v799 : BitVec 32) (k0_hw44 : k0_chk44 v799), ∀ a, (k0_off98 v799) a + S8x512.size a ≤ S20000x512.size a := fun v799 k0_hw44 => k0_hw44.2

def k0_off99 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_271 : BitVec 32 := 0#32
  let v813 : BitVec 32 := Scalar.addi v63 c0_i32_271
  let c44_i32 : BitVec 32 := 44#32
  let v814 : BitVec 32 := Scalar.addi v813 c44_i32
  let v815 : Index := Scalar.indexCast v814
  ![v815.toNat]
def k0_mult45 (v816 : BitVec 32) : BitVec 32 :=
  let c3_i32_272 : BitVec 32 := 3#32
  let v817 : BitVec 32 := Scalar.shrsi v816 c3_i32_272
  let c3_i32_273 : BitVec 32 := 3#32
  let v818 : BitVec 32 := Scalar.shli v817 c3_i32_273
  v818

def k0_off100 (v816 : BitVec 32) : Fin 2 → Nat :=
  let c3_i32_272 : BitVec 32 := 3#32
  let v817 : BitVec 32 := Scalar.shrsi v816 c3_i32_272
  let c3_i32_273 : BitVec 32 := 3#32
  let v818 : BitVec 32 := Scalar.shli v817 c3_i32_273
  let v819 : BitVec 32 := v818
  let v820 : Index := Scalar.indexCast v819
  let c0_274 : Index := 0#32
  ![v820.toNat, 0]

def k0_chk45 (v816 : BitVec 32) : Prop :=
  (8 ∣ (k0_mult45 v816).toNat) ∧
  (∀ a, (k0_off100 v816) a + S8x512.size a ≤ S20000x512.size a)
theorem k0_mult45_dvd : ∀ (v816 : BitVec 32) (k0_hw45 : k0_chk45 v816), 8 ∣ (k0_mult45 v816).toNat := fun v816 k0_hw45 => k0_hw45.1
theorem k0_off100_inb : ∀ (v816 : BitVec 32) (k0_hw45 : k0_chk45 v816), ∀ a, (k0_off100 v816) a + S8x512.size a ≤ S20000x512.size a := fun v816 k0_hw45 => k0_hw45.2

def k0_off101 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_276 : BitVec 32 := 0#32
  let v830 : BitVec 32 := Scalar.addi v63 c0_i32_276
  let c45_i32 : BitVec 32 := 45#32
  let v831 : BitVec 32 := Scalar.addi v830 c45_i32
  let v832 : Index := Scalar.indexCast v831
  ![v832.toNat]
def k0_mult46 (v833 : BitVec 32) : BitVec 32 :=
  let c3_i32_277 : BitVec 32 := 3#32
  let v834 : BitVec 32 := Scalar.shrsi v833 c3_i32_277
  let c3_i32_278 : BitVec 32 := 3#32
  let v835 : BitVec 32 := Scalar.shli v834 c3_i32_278
  v835

def k0_off102 (v833 : BitVec 32) : Fin 2 → Nat :=
  let c3_i32_277 : BitVec 32 := 3#32
  let v834 : BitVec 32 := Scalar.shrsi v833 c3_i32_277
  let c3_i32_278 : BitVec 32 := 3#32
  let v835 : BitVec 32 := Scalar.shli v834 c3_i32_278
  let v836 : BitVec 32 := v835
  let v837 : Index := Scalar.indexCast v836
  let c0_279 : Index := 0#32
  ![v837.toNat, 0]

def k0_chk46 (v833 : BitVec 32) : Prop :=
  (8 ∣ (k0_mult46 v833).toNat) ∧
  (∀ a, (k0_off102 v833) a + S8x512.size a ≤ S20000x512.size a)
theorem k0_mult46_dvd : ∀ (v833 : BitVec 32) (k0_hw46 : k0_chk46 v833), 8 ∣ (k0_mult46 v833).toNat := fun v833 k0_hw46 => k0_hw46.1
theorem k0_off102_inb : ∀ (v833 : BitVec 32) (k0_hw46 : k0_chk46 v833), ∀ a, (k0_off102 v833) a + S8x512.size a ≤ S20000x512.size a := fun v833 k0_hw46 => k0_hw46.2

def k0_off103 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_281 : BitVec 32 := 0#32
  let v847 : BitVec 32 := Scalar.addi v63 c0_i32_281
  let c46_i32 : BitVec 32 := 46#32
  let v848 : BitVec 32 := Scalar.addi v847 c46_i32
  let v849 : Index := Scalar.indexCast v848
  ![v849.toNat]
def k0_mult47 (v850 : BitVec 32) : BitVec 32 :=
  let c3_i32_282 : BitVec 32 := 3#32
  let v851 : BitVec 32 := Scalar.shrsi v850 c3_i32_282
  let c3_i32_283 : BitVec 32 := 3#32
  let v852 : BitVec 32 := Scalar.shli v851 c3_i32_283
  v852

def k0_off104 (v850 : BitVec 32) : Fin 2 → Nat :=
  let c3_i32_282 : BitVec 32 := 3#32
  let v851 : BitVec 32 := Scalar.shrsi v850 c3_i32_282
  let c3_i32_283 : BitVec 32 := 3#32
  let v852 : BitVec 32 := Scalar.shli v851 c3_i32_283
  let v853 : BitVec 32 := v852
  let v854 : Index := Scalar.indexCast v853
  let c0_284 : Index := 0#32
  ![v854.toNat, 0]

def k0_chk47 (v850 : BitVec 32) : Prop :=
  (8 ∣ (k0_mult47 v850).toNat) ∧
  (∀ a, (k0_off104 v850) a + S8x512.size a ≤ S20000x512.size a)
theorem k0_mult47_dvd : ∀ (v850 : BitVec 32) (k0_hw47 : k0_chk47 v850), 8 ∣ (k0_mult47 v850).toNat := fun v850 k0_hw47 => k0_hw47.1
theorem k0_off104_inb : ∀ (v850 : BitVec 32) (k0_hw47 : k0_chk47 v850), ∀ a, (k0_off104 v850) a + S8x512.size a ≤ S20000x512.size a := fun v850 k0_hw47 => k0_hw47.2

def k0_off105 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_286 : BitVec 32 := 0#32
  let v864 : BitVec 32 := Scalar.addi v63 c0_i32_286
  let c47_i32 : BitVec 32 := 47#32
  let v865 : BitVec 32 := Scalar.addi v864 c47_i32
  let v866 : Index := Scalar.indexCast v865
  ![v866.toNat]
def k0_mult48 (v867 : BitVec 32) : BitVec 32 :=
  let c3_i32_287 : BitVec 32 := 3#32
  let v868 : BitVec 32 := Scalar.shrsi v867 c3_i32_287
  let c3_i32_288 : BitVec 32 := 3#32
  let v869 : BitVec 32 := Scalar.shli v868 c3_i32_288
  v869

def k0_off106 (v867 : BitVec 32) : Fin 2 → Nat :=
  let c3_i32_287 : BitVec 32 := 3#32
  let v868 : BitVec 32 := Scalar.shrsi v867 c3_i32_287
  let c3_i32_288 : BitVec 32 := 3#32
  let v869 : BitVec 32 := Scalar.shli v868 c3_i32_288
  let v870 : BitVec 32 := v869
  let v871 : Index := Scalar.indexCast v870
  let c0_289 : Index := 0#32
  ![v871.toNat, 0]

def k0_chk48 (v867 : BitVec 32) : Prop :=
  (8 ∣ (k0_mult48 v867).toNat) ∧
  (∀ a, (k0_off106 v867) a + S8x512.size a ≤ S20000x512.size a)
theorem k0_mult48_dvd : ∀ (v867 : BitVec 32) (k0_hw48 : k0_chk48 v867), 8 ∣ (k0_mult48 v867).toNat := fun v867 k0_hw48 => k0_hw48.1
theorem k0_off106_inb : ∀ (v867 : BitVec 32) (k0_hw48 : k0_chk48 v867), ∀ a, (k0_off106 v867) a + S8x512.size a ≤ S20000x512.size a := fun v867 k0_hw48 => k0_hw48.2

def k0_off107 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_291 : BitVec 32 := 0#32
  let v881 : BitVec 32 := Scalar.addi v63 c0_i32_291
  let c48_i32 : BitVec 32 := 48#32
  let v882 : BitVec 32 := Scalar.addi v881 c48_i32
  let v883 : Index := Scalar.indexCast v882
  ![v883.toNat]
def k0_mult49 (v884 : BitVec 32) : BitVec 32 :=
  let c3_i32_292 : BitVec 32 := 3#32
  let v885 : BitVec 32 := Scalar.shrsi v884 c3_i32_292
  let c3_i32_293 : BitVec 32 := 3#32
  let v886 : BitVec 32 := Scalar.shli v885 c3_i32_293
  v886

def k0_off108 (v884 : BitVec 32) : Fin 2 → Nat :=
  let c3_i32_292 : BitVec 32 := 3#32
  let v885 : BitVec 32 := Scalar.shrsi v884 c3_i32_292
  let c3_i32_293 : BitVec 32 := 3#32
  let v886 : BitVec 32 := Scalar.shli v885 c3_i32_293
  let v887 : BitVec 32 := v886
  let v888 : Index := Scalar.indexCast v887
  let c0_294 : Index := 0#32
  ![v888.toNat, 0]

def k0_chk49 (v884 : BitVec 32) : Prop :=
  (8 ∣ (k0_mult49 v884).toNat) ∧
  (∀ a, (k0_off108 v884) a + S8x512.size a ≤ S20000x512.size a)
theorem k0_mult49_dvd : ∀ (v884 : BitVec 32) (k0_hw49 : k0_chk49 v884), 8 ∣ (k0_mult49 v884).toNat := fun v884 k0_hw49 => k0_hw49.1
theorem k0_off108_inb : ∀ (v884 : BitVec 32) (k0_hw49 : k0_chk49 v884), ∀ a, (k0_off108 v884) a + S8x512.size a ≤ S20000x512.size a := fun v884 k0_hw49 => k0_hw49.2

def k0_off109 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_296 : BitVec 32 := 0#32
  let v898 : BitVec 32 := Scalar.addi v63 c0_i32_296
  let c49_i32 : BitVec 32 := 49#32
  let v899 : BitVec 32 := Scalar.addi v898 c49_i32
  let v900 : Index := Scalar.indexCast v899
  ![v900.toNat]
def k0_mult50 (v901 : BitVec 32) : BitVec 32 :=
  let c3_i32_297 : BitVec 32 := 3#32
  let v902 : BitVec 32 := Scalar.shrsi v901 c3_i32_297
  let c3_i32_298 : BitVec 32 := 3#32
  let v903 : BitVec 32 := Scalar.shli v902 c3_i32_298
  v903

def k0_off110 (v901 : BitVec 32) : Fin 2 → Nat :=
  let c3_i32_297 : BitVec 32 := 3#32
  let v902 : BitVec 32 := Scalar.shrsi v901 c3_i32_297
  let c3_i32_298 : BitVec 32 := 3#32
  let v903 : BitVec 32 := Scalar.shli v902 c3_i32_298
  let v904 : BitVec 32 := v903
  let v905 : Index := Scalar.indexCast v904
  let c0_299 : Index := 0#32
  ![v905.toNat, 0]

def k0_chk50 (v901 : BitVec 32) : Prop :=
  (8 ∣ (k0_mult50 v901).toNat) ∧
  (∀ a, (k0_off110 v901) a + S8x512.size a ≤ S20000x512.size a)
theorem k0_mult50_dvd : ∀ (v901 : BitVec 32) (k0_hw50 : k0_chk50 v901), 8 ∣ (k0_mult50 v901).toNat := fun v901 k0_hw50 => k0_hw50.1
theorem k0_off110_inb : ∀ (v901 : BitVec 32) (k0_hw50 : k0_chk50 v901), ∀ a, (k0_off110 v901) a + S8x512.size a ≤ S20000x512.size a := fun v901 k0_hw50 => k0_hw50.2

def k0_off111 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_301 : BitVec 32 := 0#32
  let v915 : BitVec 32 := Scalar.addi v63 c0_i32_301
  let c50_i32 : BitVec 32 := 50#32
  let v916 : BitVec 32 := Scalar.addi v915 c50_i32
  let v917 : Index := Scalar.indexCast v916
  ![v917.toNat]
def k0_mult51 (v918 : BitVec 32) : BitVec 32 :=
  let c3_i32_302 : BitVec 32 := 3#32
  let v919 : BitVec 32 := Scalar.shrsi v918 c3_i32_302
  let c3_i32_303 : BitVec 32 := 3#32
  let v920 : BitVec 32 := Scalar.shli v919 c3_i32_303
  v920

def k0_off112 (v918 : BitVec 32) : Fin 2 → Nat :=
  let c3_i32_302 : BitVec 32 := 3#32
  let v919 : BitVec 32 := Scalar.shrsi v918 c3_i32_302
  let c3_i32_303 : BitVec 32 := 3#32
  let v920 : BitVec 32 := Scalar.shli v919 c3_i32_303
  let v921 : BitVec 32 := v920
  let v922 : Index := Scalar.indexCast v921
  let c0_304 : Index := 0#32
  ![v922.toNat, 0]

def k0_chk51 (v918 : BitVec 32) : Prop :=
  (8 ∣ (k0_mult51 v918).toNat) ∧
  (∀ a, (k0_off112 v918) a + S8x512.size a ≤ S20000x512.size a)
theorem k0_mult51_dvd : ∀ (v918 : BitVec 32) (k0_hw51 : k0_chk51 v918), 8 ∣ (k0_mult51 v918).toNat := fun v918 k0_hw51 => k0_hw51.1
theorem k0_off112_inb : ∀ (v918 : BitVec 32) (k0_hw51 : k0_chk51 v918), ∀ a, (k0_off112 v918) a + S8x512.size a ≤ S20000x512.size a := fun v918 k0_hw51 => k0_hw51.2

def k0_off113 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_306 : BitVec 32 := 0#32
  let v932 : BitVec 32 := Scalar.addi v63 c0_i32_306
  let c51_i32 : BitVec 32 := 51#32
  let v933 : BitVec 32 := Scalar.addi v932 c51_i32
  let v934 : Index := Scalar.indexCast v933
  ![v934.toNat]
def k0_mult52 (v935 : BitVec 32) : BitVec 32 :=
  let c3_i32_307 : BitVec 32 := 3#32
  let v936 : BitVec 32 := Scalar.shrsi v935 c3_i32_307
  let c3_i32_308 : BitVec 32 := 3#32
  let v937 : BitVec 32 := Scalar.shli v936 c3_i32_308
  v937

def k0_off114 (v935 : BitVec 32) : Fin 2 → Nat :=
  let c3_i32_307 : BitVec 32 := 3#32
  let v936 : BitVec 32 := Scalar.shrsi v935 c3_i32_307
  let c3_i32_308 : BitVec 32 := 3#32
  let v937 : BitVec 32 := Scalar.shli v936 c3_i32_308
  let v938 : BitVec 32 := v937
  let v939 : Index := Scalar.indexCast v938
  let c0_309 : Index := 0#32
  ![v939.toNat, 0]

def k0_chk52 (v935 : BitVec 32) : Prop :=
  (8 ∣ (k0_mult52 v935).toNat) ∧
  (∀ a, (k0_off114 v935) a + S8x512.size a ≤ S20000x512.size a)
theorem k0_mult52_dvd : ∀ (v935 : BitVec 32) (k0_hw52 : k0_chk52 v935), 8 ∣ (k0_mult52 v935).toNat := fun v935 k0_hw52 => k0_hw52.1
theorem k0_off114_inb : ∀ (v935 : BitVec 32) (k0_hw52 : k0_chk52 v935), ∀ a, (k0_off114 v935) a + S8x512.size a ≤ S20000x512.size a := fun v935 k0_hw52 => k0_hw52.2

def k0_off115 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_311 : BitVec 32 := 0#32
  let v949 : BitVec 32 := Scalar.addi v63 c0_i32_311
  let c52_i32 : BitVec 32 := 52#32
  let v950 : BitVec 32 := Scalar.addi v949 c52_i32
  let v951 : Index := Scalar.indexCast v950
  ![v951.toNat]
def k0_mult53 (v952 : BitVec 32) : BitVec 32 :=
  let c3_i32_312 : BitVec 32 := 3#32
  let v953 : BitVec 32 := Scalar.shrsi v952 c3_i32_312
  let c3_i32_313 : BitVec 32 := 3#32
  let v954 : BitVec 32 := Scalar.shli v953 c3_i32_313
  v954

def k0_off116 (v952 : BitVec 32) : Fin 2 → Nat :=
  let c3_i32_312 : BitVec 32 := 3#32
  let v953 : BitVec 32 := Scalar.shrsi v952 c3_i32_312
  let c3_i32_313 : BitVec 32 := 3#32
  let v954 : BitVec 32 := Scalar.shli v953 c3_i32_313
  let v955 : BitVec 32 := v954
  let v956 : Index := Scalar.indexCast v955
  let c0_314 : Index := 0#32
  ![v956.toNat, 0]

def k0_chk53 (v952 : BitVec 32) : Prop :=
  (8 ∣ (k0_mult53 v952).toNat) ∧
  (∀ a, (k0_off116 v952) a + S8x512.size a ≤ S20000x512.size a)
theorem k0_mult53_dvd : ∀ (v952 : BitVec 32) (k0_hw53 : k0_chk53 v952), 8 ∣ (k0_mult53 v952).toNat := fun v952 k0_hw53 => k0_hw53.1
theorem k0_off116_inb : ∀ (v952 : BitVec 32) (k0_hw53 : k0_chk53 v952), ∀ a, (k0_off116 v952) a + S8x512.size a ≤ S20000x512.size a := fun v952 k0_hw53 => k0_hw53.2

def k0_off117 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_316 : BitVec 32 := 0#32
  let v966 : BitVec 32 := Scalar.addi v63 c0_i32_316
  let c53_i32 : BitVec 32 := 53#32
  let v967 : BitVec 32 := Scalar.addi v966 c53_i32
  let v968 : Index := Scalar.indexCast v967
  ![v968.toNat]
def k0_mult54 (v969 : BitVec 32) : BitVec 32 :=
  let c3_i32_317 : BitVec 32 := 3#32
  let v970 : BitVec 32 := Scalar.shrsi v969 c3_i32_317
  let c3_i32_318 : BitVec 32 := 3#32
  let v971 : BitVec 32 := Scalar.shli v970 c3_i32_318
  v971

def k0_off118 (v969 : BitVec 32) : Fin 2 → Nat :=
  let c3_i32_317 : BitVec 32 := 3#32
  let v970 : BitVec 32 := Scalar.shrsi v969 c3_i32_317
  let c3_i32_318 : BitVec 32 := 3#32
  let v971 : BitVec 32 := Scalar.shli v970 c3_i32_318
  let v972 : BitVec 32 := v971
  let v973 : Index := Scalar.indexCast v972
  let c0_319 : Index := 0#32
  ![v973.toNat, 0]

def k0_chk54 (v969 : BitVec 32) : Prop :=
  (8 ∣ (k0_mult54 v969).toNat) ∧
  (∀ a, (k0_off118 v969) a + S8x512.size a ≤ S20000x512.size a)
theorem k0_mult54_dvd : ∀ (v969 : BitVec 32) (k0_hw54 : k0_chk54 v969), 8 ∣ (k0_mult54 v969).toNat := fun v969 k0_hw54 => k0_hw54.1
theorem k0_off118_inb : ∀ (v969 : BitVec 32) (k0_hw54 : k0_chk54 v969), ∀ a, (k0_off118 v969) a + S8x512.size a ≤ S20000x512.size a := fun v969 k0_hw54 => k0_hw54.2

def k0_off119 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_321 : BitVec 32 := 0#32
  let v983 : BitVec 32 := Scalar.addi v63 c0_i32_321
  let c54_i32 : BitVec 32 := 54#32
  let v984 : BitVec 32 := Scalar.addi v983 c54_i32
  let v985 : Index := Scalar.indexCast v984
  ![v985.toNat]
def k0_mult55 (v986 : BitVec 32) : BitVec 32 :=
  let c3_i32_322 : BitVec 32 := 3#32
  let v987 : BitVec 32 := Scalar.shrsi v986 c3_i32_322
  let c3_i32_323 : BitVec 32 := 3#32
  let v988 : BitVec 32 := Scalar.shli v987 c3_i32_323
  v988

def k0_off120 (v986 : BitVec 32) : Fin 2 → Nat :=
  let c3_i32_322 : BitVec 32 := 3#32
  let v987 : BitVec 32 := Scalar.shrsi v986 c3_i32_322
  let c3_i32_323 : BitVec 32 := 3#32
  let v988 : BitVec 32 := Scalar.shli v987 c3_i32_323
  let v989 : BitVec 32 := v988
  let v990 : Index := Scalar.indexCast v989
  let c0_324 : Index := 0#32
  ![v990.toNat, 0]

def k0_chk55 (v986 : BitVec 32) : Prop :=
  (8 ∣ (k0_mult55 v986).toNat) ∧
  (∀ a, (k0_off120 v986) a + S8x512.size a ≤ S20000x512.size a)
theorem k0_mult55_dvd : ∀ (v986 : BitVec 32) (k0_hw55 : k0_chk55 v986), 8 ∣ (k0_mult55 v986).toNat := fun v986 k0_hw55 => k0_hw55.1
theorem k0_off120_inb : ∀ (v986 : BitVec 32) (k0_hw55 : k0_chk55 v986), ∀ a, (k0_off120 v986) a + S8x512.size a ≤ S20000x512.size a := fun v986 k0_hw55 => k0_hw55.2

def k0_off121 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_326 : BitVec 32 := 0#32
  let v1000 : BitVec 32 := Scalar.addi v63 c0_i32_326
  let c55_i32 : BitVec 32 := 55#32
  let v1001 : BitVec 32 := Scalar.addi v1000 c55_i32
  let v1002 : Index := Scalar.indexCast v1001
  ![v1002.toNat]
def k0_mult56 (v1003 : BitVec 32) : BitVec 32 :=
  let c3_i32_327 : BitVec 32 := 3#32
  let v1004 : BitVec 32 := Scalar.shrsi v1003 c3_i32_327
  let c3_i32_328 : BitVec 32 := 3#32
  let v1005 : BitVec 32 := Scalar.shli v1004 c3_i32_328
  v1005

def k0_off122 (v1003 : BitVec 32) : Fin 2 → Nat :=
  let c3_i32_327 : BitVec 32 := 3#32
  let v1004 : BitVec 32 := Scalar.shrsi v1003 c3_i32_327
  let c3_i32_328 : BitVec 32 := 3#32
  let v1005 : BitVec 32 := Scalar.shli v1004 c3_i32_328
  let v1006 : BitVec 32 := v1005
  let v1007 : Index := Scalar.indexCast v1006
  let c0_329 : Index := 0#32
  ![v1007.toNat, 0]

def k0_chk56 (v1003 : BitVec 32) : Prop :=
  (8 ∣ (k0_mult56 v1003).toNat) ∧
  (∀ a, (k0_off122 v1003) a + S8x512.size a ≤ S20000x512.size a)
theorem k0_mult56_dvd : ∀ (v1003 : BitVec 32) (k0_hw56 : k0_chk56 v1003), 8 ∣ (k0_mult56 v1003).toNat := fun v1003 k0_hw56 => k0_hw56.1
theorem k0_off122_inb : ∀ (v1003 : BitVec 32) (k0_hw56 : k0_chk56 v1003), ∀ a, (k0_off122 v1003) a + S8x512.size a ≤ S20000x512.size a := fun v1003 k0_hw56 => k0_hw56.2

def k0_off123 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_331 : BitVec 32 := 0#32
  let v1017 : BitVec 32 := Scalar.addi v63 c0_i32_331
  let c56_i32 : BitVec 32 := 56#32
  let v1018 : BitVec 32 := Scalar.addi v1017 c56_i32
  let v1019 : Index := Scalar.indexCast v1018
  ![v1019.toNat]
def k0_mult57 (v1020 : BitVec 32) : BitVec 32 :=
  let c3_i32_332 : BitVec 32 := 3#32
  let v1021 : BitVec 32 := Scalar.shrsi v1020 c3_i32_332
  let c3_i32_333 : BitVec 32 := 3#32
  let v1022 : BitVec 32 := Scalar.shli v1021 c3_i32_333
  v1022

def k0_off124 (v1020 : BitVec 32) : Fin 2 → Nat :=
  let c3_i32_332 : BitVec 32 := 3#32
  let v1021 : BitVec 32 := Scalar.shrsi v1020 c3_i32_332
  let c3_i32_333 : BitVec 32 := 3#32
  let v1022 : BitVec 32 := Scalar.shli v1021 c3_i32_333
  let v1023 : BitVec 32 := v1022
  let v1024 : Index := Scalar.indexCast v1023
  let c0_334 : Index := 0#32
  ![v1024.toNat, 0]

def k0_chk57 (v1020 : BitVec 32) : Prop :=
  (8 ∣ (k0_mult57 v1020).toNat) ∧
  (∀ a, (k0_off124 v1020) a + S8x512.size a ≤ S20000x512.size a)
theorem k0_mult57_dvd : ∀ (v1020 : BitVec 32) (k0_hw57 : k0_chk57 v1020), 8 ∣ (k0_mult57 v1020).toNat := fun v1020 k0_hw57 => k0_hw57.1
theorem k0_off124_inb : ∀ (v1020 : BitVec 32) (k0_hw57 : k0_chk57 v1020), ∀ a, (k0_off124 v1020) a + S8x512.size a ≤ S20000x512.size a := fun v1020 k0_hw57 => k0_hw57.2

def k0_off125 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_336 : BitVec 32 := 0#32
  let v1034 : BitVec 32 := Scalar.addi v63 c0_i32_336
  let c57_i32 : BitVec 32 := 57#32
  let v1035 : BitVec 32 := Scalar.addi v1034 c57_i32
  let v1036 : Index := Scalar.indexCast v1035
  ![v1036.toNat]
def k0_mult58 (v1037 : BitVec 32) : BitVec 32 :=
  let c3_i32_337 : BitVec 32 := 3#32
  let v1038 : BitVec 32 := Scalar.shrsi v1037 c3_i32_337
  let c3_i32_338 : BitVec 32 := 3#32
  let v1039 : BitVec 32 := Scalar.shli v1038 c3_i32_338
  v1039

def k0_off126 (v1037 : BitVec 32) : Fin 2 → Nat :=
  let c3_i32_337 : BitVec 32 := 3#32
  let v1038 : BitVec 32 := Scalar.shrsi v1037 c3_i32_337
  let c3_i32_338 : BitVec 32 := 3#32
  let v1039 : BitVec 32 := Scalar.shli v1038 c3_i32_338
  let v1040 : BitVec 32 := v1039
  let v1041 : Index := Scalar.indexCast v1040
  let c0_339 : Index := 0#32
  ![v1041.toNat, 0]

def k0_chk58 (v1037 : BitVec 32) : Prop :=
  (8 ∣ (k0_mult58 v1037).toNat) ∧
  (∀ a, (k0_off126 v1037) a + S8x512.size a ≤ S20000x512.size a)
theorem k0_mult58_dvd : ∀ (v1037 : BitVec 32) (k0_hw58 : k0_chk58 v1037), 8 ∣ (k0_mult58 v1037).toNat := fun v1037 k0_hw58 => k0_hw58.1
theorem k0_off126_inb : ∀ (v1037 : BitVec 32) (k0_hw58 : k0_chk58 v1037), ∀ a, (k0_off126 v1037) a + S8x512.size a ≤ S20000x512.size a := fun v1037 k0_hw58 => k0_hw58.2

def k0_off127 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_341 : BitVec 32 := 0#32
  let v1051 : BitVec 32 := Scalar.addi v63 c0_i32_341
  let c58_i32 : BitVec 32 := 58#32
  let v1052 : BitVec 32 := Scalar.addi v1051 c58_i32
  let v1053 : Index := Scalar.indexCast v1052
  ![v1053.toNat]
def k0_mult59 (v1054 : BitVec 32) : BitVec 32 :=
  let c3_i32_342 : BitVec 32 := 3#32
  let v1055 : BitVec 32 := Scalar.shrsi v1054 c3_i32_342
  let c3_i32_343 : BitVec 32 := 3#32
  let v1056 : BitVec 32 := Scalar.shli v1055 c3_i32_343
  v1056

def k0_off128 (v1054 : BitVec 32) : Fin 2 → Nat :=
  let c3_i32_342 : BitVec 32 := 3#32
  let v1055 : BitVec 32 := Scalar.shrsi v1054 c3_i32_342
  let c3_i32_343 : BitVec 32 := 3#32
  let v1056 : BitVec 32 := Scalar.shli v1055 c3_i32_343
  let v1057 : BitVec 32 := v1056
  let v1058 : Index := Scalar.indexCast v1057
  let c0_344 : Index := 0#32
  ![v1058.toNat, 0]

def k0_chk59 (v1054 : BitVec 32) : Prop :=
  (8 ∣ (k0_mult59 v1054).toNat) ∧
  (∀ a, (k0_off128 v1054) a + S8x512.size a ≤ S20000x512.size a)
theorem k0_mult59_dvd : ∀ (v1054 : BitVec 32) (k0_hw59 : k0_chk59 v1054), 8 ∣ (k0_mult59 v1054).toNat := fun v1054 k0_hw59 => k0_hw59.1
theorem k0_off128_inb : ∀ (v1054 : BitVec 32) (k0_hw59 : k0_chk59 v1054), ∀ a, (k0_off128 v1054) a + S8x512.size a ≤ S20000x512.size a := fun v1054 k0_hw59 => k0_hw59.2

def k0_off129 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_346 : BitVec 32 := 0#32
  let v1068 : BitVec 32 := Scalar.addi v63 c0_i32_346
  let c59_i32 : BitVec 32 := 59#32
  let v1069 : BitVec 32 := Scalar.addi v1068 c59_i32
  let v1070 : Index := Scalar.indexCast v1069
  ![v1070.toNat]
def k0_mult60 (v1071 : BitVec 32) : BitVec 32 :=
  let c3_i32_347 : BitVec 32 := 3#32
  let v1072 : BitVec 32 := Scalar.shrsi v1071 c3_i32_347
  let c3_i32_348 : BitVec 32 := 3#32
  let v1073 : BitVec 32 := Scalar.shli v1072 c3_i32_348
  v1073

def k0_off130 (v1071 : BitVec 32) : Fin 2 → Nat :=
  let c3_i32_347 : BitVec 32 := 3#32
  let v1072 : BitVec 32 := Scalar.shrsi v1071 c3_i32_347
  let c3_i32_348 : BitVec 32 := 3#32
  let v1073 : BitVec 32 := Scalar.shli v1072 c3_i32_348
  let v1074 : BitVec 32 := v1073
  let v1075 : Index := Scalar.indexCast v1074
  let c0_349 : Index := 0#32
  ![v1075.toNat, 0]

def k0_chk60 (v1071 : BitVec 32) : Prop :=
  (8 ∣ (k0_mult60 v1071).toNat) ∧
  (∀ a, (k0_off130 v1071) a + S8x512.size a ≤ S20000x512.size a)
theorem k0_mult60_dvd : ∀ (v1071 : BitVec 32) (k0_hw60 : k0_chk60 v1071), 8 ∣ (k0_mult60 v1071).toNat := fun v1071 k0_hw60 => k0_hw60.1
theorem k0_off130_inb : ∀ (v1071 : BitVec 32) (k0_hw60 : k0_chk60 v1071), ∀ a, (k0_off130 v1071) a + S8x512.size a ≤ S20000x512.size a := fun v1071 k0_hw60 => k0_hw60.2

def k0_off131 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_351 : BitVec 32 := 0#32
  let v1085 : BitVec 32 := Scalar.addi v63 c0_i32_351
  let c60_i32 : BitVec 32 := 60#32
  let v1086 : BitVec 32 := Scalar.addi v1085 c60_i32
  let v1087 : Index := Scalar.indexCast v1086
  ![v1087.toNat]
def k0_mult61 (v1088 : BitVec 32) : BitVec 32 :=
  let c3_i32_352 : BitVec 32 := 3#32
  let v1089 : BitVec 32 := Scalar.shrsi v1088 c3_i32_352
  let c3_i32_353 : BitVec 32 := 3#32
  let v1090 : BitVec 32 := Scalar.shli v1089 c3_i32_353
  v1090

def k0_off132 (v1088 : BitVec 32) : Fin 2 → Nat :=
  let c3_i32_352 : BitVec 32 := 3#32
  let v1089 : BitVec 32 := Scalar.shrsi v1088 c3_i32_352
  let c3_i32_353 : BitVec 32 := 3#32
  let v1090 : BitVec 32 := Scalar.shli v1089 c3_i32_353
  let v1091 : BitVec 32 := v1090
  let v1092 : Index := Scalar.indexCast v1091
  let c0_354 : Index := 0#32
  ![v1092.toNat, 0]

def k0_chk61 (v1088 : BitVec 32) : Prop :=
  (8 ∣ (k0_mult61 v1088).toNat) ∧
  (∀ a, (k0_off132 v1088) a + S8x512.size a ≤ S20000x512.size a)
theorem k0_mult61_dvd : ∀ (v1088 : BitVec 32) (k0_hw61 : k0_chk61 v1088), 8 ∣ (k0_mult61 v1088).toNat := fun v1088 k0_hw61 => k0_hw61.1
theorem k0_off132_inb : ∀ (v1088 : BitVec 32) (k0_hw61 : k0_chk61 v1088), ∀ a, (k0_off132 v1088) a + S8x512.size a ≤ S20000x512.size a := fun v1088 k0_hw61 => k0_hw61.2

def k0_off133 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_356 : BitVec 32 := 0#32
  let v1102 : BitVec 32 := Scalar.addi v63 c0_i32_356
  let c61_i32 : BitVec 32 := 61#32
  let v1103 : BitVec 32 := Scalar.addi v1102 c61_i32
  let v1104 : Index := Scalar.indexCast v1103
  ![v1104.toNat]
def k0_mult62 (v1105 : BitVec 32) : BitVec 32 :=
  let c3_i32_357 : BitVec 32 := 3#32
  let v1106 : BitVec 32 := Scalar.shrsi v1105 c3_i32_357
  let c3_i32_358 : BitVec 32 := 3#32
  let v1107 : BitVec 32 := Scalar.shli v1106 c3_i32_358
  v1107

def k0_off134 (v1105 : BitVec 32) : Fin 2 → Nat :=
  let c3_i32_357 : BitVec 32 := 3#32
  let v1106 : BitVec 32 := Scalar.shrsi v1105 c3_i32_357
  let c3_i32_358 : BitVec 32 := 3#32
  let v1107 : BitVec 32 := Scalar.shli v1106 c3_i32_358
  let v1108 : BitVec 32 := v1107
  let v1109 : Index := Scalar.indexCast v1108
  let c0_359 : Index := 0#32
  ![v1109.toNat, 0]

def k0_chk62 (v1105 : BitVec 32) : Prop :=
  (8 ∣ (k0_mult62 v1105).toNat) ∧
  (∀ a, (k0_off134 v1105) a + S8x512.size a ≤ S20000x512.size a)
theorem k0_mult62_dvd : ∀ (v1105 : BitVec 32) (k0_hw62 : k0_chk62 v1105), 8 ∣ (k0_mult62 v1105).toNat := fun v1105 k0_hw62 => k0_hw62.1
theorem k0_off134_inb : ∀ (v1105 : BitVec 32) (k0_hw62 : k0_chk62 v1105), ∀ a, (k0_off134 v1105) a + S8x512.size a ≤ S20000x512.size a := fun v1105 k0_hw62 => k0_hw62.2

def k0_off135 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_361 : BitVec 32 := 0#32
  let v1119 : BitVec 32 := Scalar.addi v63 c0_i32_361
  let c62_i32 : BitVec 32 := 62#32
  let v1120 : BitVec 32 := Scalar.addi v1119 c62_i32
  let v1121 : Index := Scalar.indexCast v1120
  ![v1121.toNat]
def k0_mult63 (v1122 : BitVec 32) : BitVec 32 :=
  let c3_i32_362 : BitVec 32 := 3#32
  let v1123 : BitVec 32 := Scalar.shrsi v1122 c3_i32_362
  let c3_i32_363 : BitVec 32 := 3#32
  let v1124 : BitVec 32 := Scalar.shli v1123 c3_i32_363
  v1124

def k0_off136 (v1122 : BitVec 32) : Fin 2 → Nat :=
  let c3_i32_362 : BitVec 32 := 3#32
  let v1123 : BitVec 32 := Scalar.shrsi v1122 c3_i32_362
  let c3_i32_363 : BitVec 32 := 3#32
  let v1124 : BitVec 32 := Scalar.shli v1123 c3_i32_363
  let v1125 : BitVec 32 := v1124
  let v1126 : Index := Scalar.indexCast v1125
  let c0_364 : Index := 0#32
  ![v1126.toNat, 0]

def k0_chk63 (v1122 : BitVec 32) : Prop :=
  (8 ∣ (k0_mult63 v1122).toNat) ∧
  (∀ a, (k0_off136 v1122) a + S8x512.size a ≤ S20000x512.size a)
theorem k0_mult63_dvd : ∀ (v1122 : BitVec 32) (k0_hw63 : k0_chk63 v1122), 8 ∣ (k0_mult63 v1122).toNat := fun v1122 k0_hw63 => k0_hw63.1
theorem k0_off136_inb : ∀ (v1122 : BitVec 32) (k0_hw63 : k0_chk63 v1122), ∀ a, (k0_off136 v1122) a + S8x512.size a ≤ S20000x512.size a := fun v1122 k0_hw63 => k0_hw63.2

def k0_off137 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c0_i32_366 : BitVec 32 := 0#32
  let v1136 : BitVec 32 := Scalar.addi v63 c0_i32_366
  let c63_i32 : BitVec 32 := 63#32
  let v1137 : BitVec 32 := Scalar.addi v1136 c63_i32
  let v1138 : Index := Scalar.indexCast v1137
  ![v1138.toNat]
def k0_mult64 (v1139 : BitVec 32) : BitVec 32 :=
  let c3_i32_367 : BitVec 32 := 3#32
  let v1140 : BitVec 32 := Scalar.shrsi v1139 c3_i32_367
  let c3_i32_368 : BitVec 32 := 3#32
  let v1141 : BitVec 32 := Scalar.shli v1140 c3_i32_368
  v1141

def k0_off138 (v1139 : BitVec 32) : Fin 2 → Nat :=
  let c3_i32_367 : BitVec 32 := 3#32
  let v1140 : BitVec 32 := Scalar.shrsi v1139 c3_i32_367
  let c3_i32_368 : BitVec 32 := 3#32
  let v1141 : BitVec 32 := Scalar.shli v1140 c3_i32_368
  let v1142 : BitVec 32 := v1141
  let v1143 : Index := Scalar.indexCast v1142
  let c0_369 : Index := 0#32
  ![v1143.toNat, 0]

def k0_chk64 (v1139 : BitVec 32) : Prop :=
  (8 ∣ (k0_mult64 v1139).toNat) ∧
  (∀ a, (k0_off138 v1139) a + S8x512.size a ≤ S20000x512.size a)
theorem k0_mult64_dvd : ∀ (v1139 : BitVec 32) (k0_hw64 : k0_chk64 v1139), 8 ∣ (k0_mult64 v1139).toNat := fun v1139 k0_hw64 => k0_hw64.1
theorem k0_off138_inb : ∀ (v1139 : BitVec 32) (k0_hw64 : k0_chk64 v1139), ∀ a, (k0_off138 v1139) a + S8x512.size a ≤ S20000x512.size a := fun v1139 k0_hw64 => k0_hw64.2

def k0_off139 (k0_t1 : Fin k0_t1_loop.trips) : Fin 3 → Nat :=
  let c0_i32_18 : BitVec 32 := 0#32
  let c1_i32_19 : BitVec 32 := 1#32
  let arg12 : BitVec 32 := Scf.iv c0_i32_18 c1_i32_19 k0_t1
  let c8_i32_371 : BitVec 32 := 8#32
  let v1153 : BitVec 32 := Scalar.muli arg12 c8_i32_371
  let c0_i32_372 : BitVec 32 := 0#32
  let v1154 : BitVec 32 := Scalar.addi v1153 c0_i32_372
  let v1155 : Index := Scalar.indexCast v1154
  let c0_373 : Index := 0#32
  let c0_374 : Index := 0#32
  ![v1155.toNat, 0, 0]
def k0_off140 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32 : BitVec 32 := 64#32
  let v1160 : BitVec 32 := Scalar.addi v63 c64_i32
  let c0_i32_376 : BitVec 32 := 0#32
  let v1161 : BitVec 32 := Scalar.addi v1160 c0_i32_376
  let v1162 : Index := Scalar.indexCast v1161
  ![v1162.toNat]
def k0_mult65 (v1163 : BitVec 32) : BitVec 32 :=
  let c3_i32_377 : BitVec 32 := 3#32
  let v1164 : BitVec 32 := Scalar.shrsi v1163 c3_i32_377
  let c3_i32_378 : BitVec 32 := 3#32
  let v1165 : BitVec 32 := Scalar.shli v1164 c3_i32_378
  v1165

def k0_off141 (v1163 : BitVec 32) : Fin 2 → Nat :=
  let c3_i32_377 : BitVec 32 := 3#32
  let v1164 : BitVec 32 := Scalar.shrsi v1163 c3_i32_377
  let c3_i32_378 : BitVec 32 := 3#32
  let v1165 : BitVec 32 := Scalar.shli v1164 c3_i32_378
  let v1166 : BitVec 32 := v1165
  let v1167 : Index := Scalar.indexCast v1166
  let c0_379 : Index := 0#32
  ![v1167.toNat, 0]

def k0_chk65 (v1163 : BitVec 32) : Prop :=
  (8 ∣ (k0_mult65 v1163).toNat) ∧
  (∀ a, (k0_off141 v1163) a + S8x512.size a ≤ S20000x512.size a)
theorem k0_mult65_dvd : ∀ (v1163 : BitVec 32) (k0_hw65 : k0_chk65 v1163), 8 ∣ (k0_mult65 v1163).toNat := fun v1163 k0_hw65 => k0_hw65.1
theorem k0_off141_inb : ∀ (v1163 : BitVec 32) (k0_hw65 : k0_chk65 v1163), ∀ a, (k0_off141 v1163) a + S8x512.size a ≤ S20000x512.size a := fun v1163 k0_hw65 => k0_hw65.2

def k0_off142 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_381 : BitVec 32 := 64#32
  let v1177 : BitVec 32 := Scalar.addi v63 c64_i32_381
  let c1_i32_382 : BitVec 32 := 1#32
  let v1178 : BitVec 32 := Scalar.addi v1177 c1_i32_382
  let v1179 : Index := Scalar.indexCast v1178
  ![v1179.toNat]
def k0_mult66 (v1180 : BitVec 32) : BitVec 32 :=
  let c3_i32_383 : BitVec 32 := 3#32
  let v1181 : BitVec 32 := Scalar.shrsi v1180 c3_i32_383
  let c3_i32_384 : BitVec 32 := 3#32
  let v1182 : BitVec 32 := Scalar.shli v1181 c3_i32_384
  v1182

def k0_off143 (v1180 : BitVec 32) : Fin 2 → Nat :=
  let c3_i32_383 : BitVec 32 := 3#32
  let v1181 : BitVec 32 := Scalar.shrsi v1180 c3_i32_383
  let c3_i32_384 : BitVec 32 := 3#32
  let v1182 : BitVec 32 := Scalar.shli v1181 c3_i32_384
  let v1183 : BitVec 32 := v1182
  let v1184 : Index := Scalar.indexCast v1183
  let c0_385 : Index := 0#32
  ![v1184.toNat, 0]

def k0_chk66 (v1180 : BitVec 32) : Prop :=
  (8 ∣ (k0_mult66 v1180).toNat) ∧
  (∀ a, (k0_off143 v1180) a + S8x512.size a ≤ S20000x512.size a)
theorem k0_mult66_dvd : ∀ (v1180 : BitVec 32) (k0_hw66 : k0_chk66 v1180), 8 ∣ (k0_mult66 v1180).toNat := fun v1180 k0_hw66 => k0_hw66.1
theorem k0_off143_inb : ∀ (v1180 : BitVec 32) (k0_hw66 : k0_chk66 v1180), ∀ a, (k0_off143 v1180) a + S8x512.size a ≤ S20000x512.size a := fun v1180 k0_hw66 => k0_hw66.2

def k0_off144 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_387 : BitVec 32 := 64#32
  let v1194 : BitVec 32 := Scalar.addi v63 c64_i32_387
  let c2_i32_388 : BitVec 32 := 2#32
  let v1195 : BitVec 32 := Scalar.addi v1194 c2_i32_388
  let v1196 : Index := Scalar.indexCast v1195
  ![v1196.toNat]
def k0_mult67 (v1197 : BitVec 32) : BitVec 32 :=
  let c3_i32_389 : BitVec 32 := 3#32
  let v1198 : BitVec 32 := Scalar.shrsi v1197 c3_i32_389
  let c3_i32_390 : BitVec 32 := 3#32
  let v1199 : BitVec 32 := Scalar.shli v1198 c3_i32_390
  v1199

def k0_off145 (v1197 : BitVec 32) : Fin 2 → Nat :=
  let c3_i32_389 : BitVec 32 := 3#32
  let v1198 : BitVec 32 := Scalar.shrsi v1197 c3_i32_389
  let c3_i32_390 : BitVec 32 := 3#32
  let v1199 : BitVec 32 := Scalar.shli v1198 c3_i32_390
  let v1200 : BitVec 32 := v1199
  let v1201 : Index := Scalar.indexCast v1200
  let c0_391 : Index := 0#32
  ![v1201.toNat, 0]

def k0_chk67 (v1197 : BitVec 32) : Prop :=
  (8 ∣ (k0_mult67 v1197).toNat) ∧
  (∀ a, (k0_off145 v1197) a + S8x512.size a ≤ S20000x512.size a)
theorem k0_mult67_dvd : ∀ (v1197 : BitVec 32) (k0_hw67 : k0_chk67 v1197), 8 ∣ (k0_mult67 v1197).toNat := fun v1197 k0_hw67 => k0_hw67.1
theorem k0_off145_inb : ∀ (v1197 : BitVec 32) (k0_hw67 : k0_chk67 v1197), ∀ a, (k0_off145 v1197) a + S8x512.size a ≤ S20000x512.size a := fun v1197 k0_hw67 => k0_hw67.2

def k0_off146 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_393 : BitVec 32 := 64#32
  let v1211 : BitVec 32 := Scalar.addi v63 c64_i32_393
  let c3_i32_394 : BitVec 32 := 3#32
  let v1212 : BitVec 32 := Scalar.addi v1211 c3_i32_394
  let v1213 : Index := Scalar.indexCast v1212
  ![v1213.toNat]
def k0_mult68 (v1214 : BitVec 32) : BitVec 32 :=
  let c3_i32_395 : BitVec 32 := 3#32
  let v1215 : BitVec 32 := Scalar.shrsi v1214 c3_i32_395
  let c3_i32_396 : BitVec 32 := 3#32
  let v1216 : BitVec 32 := Scalar.shli v1215 c3_i32_396
  v1216

def k0_off147 (v1214 : BitVec 32) : Fin 2 → Nat :=
  let c3_i32_395 : BitVec 32 := 3#32
  let v1215 : BitVec 32 := Scalar.shrsi v1214 c3_i32_395
  let c3_i32_396 : BitVec 32 := 3#32
  let v1216 : BitVec 32 := Scalar.shli v1215 c3_i32_396
  let v1217 : BitVec 32 := v1216
  let v1218 : Index := Scalar.indexCast v1217
  let c0_397 : Index := 0#32
  ![v1218.toNat, 0]

def k0_chk68 (v1214 : BitVec 32) : Prop :=
  (8 ∣ (k0_mult68 v1214).toNat) ∧
  (∀ a, (k0_off147 v1214) a + S8x512.size a ≤ S20000x512.size a)
theorem k0_mult68_dvd : ∀ (v1214 : BitVec 32) (k0_hw68 : k0_chk68 v1214), 8 ∣ (k0_mult68 v1214).toNat := fun v1214 k0_hw68 => k0_hw68.1
theorem k0_off147_inb : ∀ (v1214 : BitVec 32) (k0_hw68 : k0_chk68 v1214), ∀ a, (k0_off147 v1214) a + S8x512.size a ≤ S20000x512.size a := fun v1214 k0_hw68 => k0_hw68.2

def k0_off148 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_399 : BitVec 32 := 64#32
  let v1228 : BitVec 32 := Scalar.addi v63 c64_i32_399
  let c4_i32_400 : BitVec 32 := 4#32
  let v1229 : BitVec 32 := Scalar.addi v1228 c4_i32_400
  let v1230 : Index := Scalar.indexCast v1229
  ![v1230.toNat]
def k0_mult69 (v1231 : BitVec 32) : BitVec 32 :=
  let c3_i32_401 : BitVec 32 := 3#32
  let v1232 : BitVec 32 := Scalar.shrsi v1231 c3_i32_401
  let c3_i32_402 : BitVec 32 := 3#32
  let v1233 : BitVec 32 := Scalar.shli v1232 c3_i32_402
  v1233

def k0_off149 (v1231 : BitVec 32) : Fin 2 → Nat :=
  let c3_i32_401 : BitVec 32 := 3#32
  let v1232 : BitVec 32 := Scalar.shrsi v1231 c3_i32_401
  let c3_i32_402 : BitVec 32 := 3#32
  let v1233 : BitVec 32 := Scalar.shli v1232 c3_i32_402
  let v1234 : BitVec 32 := v1233
  let v1235 : Index := Scalar.indexCast v1234
  let c0_403 : Index := 0#32
  ![v1235.toNat, 0]

def k0_chk69 (v1231 : BitVec 32) : Prop :=
  (8 ∣ (k0_mult69 v1231).toNat) ∧
  (∀ a, (k0_off149 v1231) a + S8x512.size a ≤ S20000x512.size a)
theorem k0_mult69_dvd : ∀ (v1231 : BitVec 32) (k0_hw69 : k0_chk69 v1231), 8 ∣ (k0_mult69 v1231).toNat := fun v1231 k0_hw69 => k0_hw69.1
theorem k0_off149_inb : ∀ (v1231 : BitVec 32) (k0_hw69 : k0_chk69 v1231), ∀ a, (k0_off149 v1231) a + S8x512.size a ≤ S20000x512.size a := fun v1231 k0_hw69 => k0_hw69.2

def k0_off150 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_405 : BitVec 32 := 64#32
  let v1245 : BitVec 32 := Scalar.addi v63 c64_i32_405
  let c5_i32_406 : BitVec 32 := 5#32
  let v1246 : BitVec 32 := Scalar.addi v1245 c5_i32_406
  let v1247 : Index := Scalar.indexCast v1246
  ![v1247.toNat]
def k0_mult70 (v1248 : BitVec 32) : BitVec 32 :=
  let c3_i32_407 : BitVec 32 := 3#32
  let v1249 : BitVec 32 := Scalar.shrsi v1248 c3_i32_407
  let c3_i32_408 : BitVec 32 := 3#32
  let v1250 : BitVec 32 := Scalar.shli v1249 c3_i32_408
  v1250

def k0_off151 (v1248 : BitVec 32) : Fin 2 → Nat :=
  let c3_i32_407 : BitVec 32 := 3#32
  let v1249 : BitVec 32 := Scalar.shrsi v1248 c3_i32_407
  let c3_i32_408 : BitVec 32 := 3#32
  let v1250 : BitVec 32 := Scalar.shli v1249 c3_i32_408
  let v1251 : BitVec 32 := v1250
  let v1252 : Index := Scalar.indexCast v1251
  let c0_409 : Index := 0#32
  ![v1252.toNat, 0]

def k0_chk70 (v1248 : BitVec 32) : Prop :=
  (8 ∣ (k0_mult70 v1248).toNat) ∧
  (∀ a, (k0_off151 v1248) a + S8x512.size a ≤ S20000x512.size a)
theorem k0_mult70_dvd : ∀ (v1248 : BitVec 32) (k0_hw70 : k0_chk70 v1248), 8 ∣ (k0_mult70 v1248).toNat := fun v1248 k0_hw70 => k0_hw70.1
theorem k0_off151_inb : ∀ (v1248 : BitVec 32) (k0_hw70 : k0_chk70 v1248), ∀ a, (k0_off151 v1248) a + S8x512.size a ≤ S20000x512.size a := fun v1248 k0_hw70 => k0_hw70.2

def k0_off152 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_411 : BitVec 32 := 64#32
  let v1262 : BitVec 32 := Scalar.addi v63 c64_i32_411
  let c6_i32_412 : BitVec 32 := 6#32
  let v1263 : BitVec 32 := Scalar.addi v1262 c6_i32_412
  let v1264 : Index := Scalar.indexCast v1263
  ![v1264.toNat]
def k0_mult71 (v1265 : BitVec 32) : BitVec 32 :=
  let c3_i32_413 : BitVec 32 := 3#32
  let v1266 : BitVec 32 := Scalar.shrsi v1265 c3_i32_413
  let c3_i32_414 : BitVec 32 := 3#32
  let v1267 : BitVec 32 := Scalar.shli v1266 c3_i32_414
  v1267

def k0_off153 (v1265 : BitVec 32) : Fin 2 → Nat :=
  let c3_i32_413 : BitVec 32 := 3#32
  let v1266 : BitVec 32 := Scalar.shrsi v1265 c3_i32_413
  let c3_i32_414 : BitVec 32 := 3#32
  let v1267 : BitVec 32 := Scalar.shli v1266 c3_i32_414
  let v1268 : BitVec 32 := v1267
  let v1269 : Index := Scalar.indexCast v1268
  let c0_415 : Index := 0#32
  ![v1269.toNat, 0]

def k0_chk71 (v1265 : BitVec 32) : Prop :=
  (8 ∣ (k0_mult71 v1265).toNat) ∧
  (∀ a, (k0_off153 v1265) a + S8x512.size a ≤ S20000x512.size a)
theorem k0_mult71_dvd : ∀ (v1265 : BitVec 32) (k0_hw71 : k0_chk71 v1265), 8 ∣ (k0_mult71 v1265).toNat := fun v1265 k0_hw71 => k0_hw71.1
theorem k0_off153_inb : ∀ (v1265 : BitVec 32) (k0_hw71 : k0_chk71 v1265), ∀ a, (k0_off153 v1265) a + S8x512.size a ≤ S20000x512.size a := fun v1265 k0_hw71 => k0_hw71.2

def k0_off154 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_417 : BitVec 32 := 64#32
  let v1279 : BitVec 32 := Scalar.addi v63 c64_i32_417
  let c7_i32_418 : BitVec 32 := 7#32
  let v1280 : BitVec 32 := Scalar.addi v1279 c7_i32_418
  let v1281 : Index := Scalar.indexCast v1280
  ![v1281.toNat]
def k0_mult72 (v1282 : BitVec 32) : BitVec 32 :=
  let c3_i32_419 : BitVec 32 := 3#32
  let v1283 : BitVec 32 := Scalar.shrsi v1282 c3_i32_419
  let c3_i32_420 : BitVec 32 := 3#32
  let v1284 : BitVec 32 := Scalar.shli v1283 c3_i32_420
  v1284

def k0_off155 (v1282 : BitVec 32) : Fin 2 → Nat :=
  let c3_i32_419 : BitVec 32 := 3#32
  let v1283 : BitVec 32 := Scalar.shrsi v1282 c3_i32_419
  let c3_i32_420 : BitVec 32 := 3#32
  let v1284 : BitVec 32 := Scalar.shli v1283 c3_i32_420
  let v1285 : BitVec 32 := v1284
  let v1286 : Index := Scalar.indexCast v1285
  let c0_421 : Index := 0#32
  ![v1286.toNat, 0]

def k0_chk72 (v1282 : BitVec 32) : Prop :=
  (8 ∣ (k0_mult72 v1282).toNat) ∧
  (∀ a, (k0_off155 v1282) a + S8x512.size a ≤ S20000x512.size a)
theorem k0_mult72_dvd : ∀ (v1282 : BitVec 32) (k0_hw72 : k0_chk72 v1282), 8 ∣ (k0_mult72 v1282).toNat := fun v1282 k0_hw72 => k0_hw72.1
theorem k0_off155_inb : ∀ (v1282 : BitVec 32) (k0_hw72 : k0_chk72 v1282), ∀ a, (k0_off155 v1282) a + S8x512.size a ≤ S20000x512.size a := fun v1282 k0_hw72 => k0_hw72.2

def k0_off156 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_423 : BitVec 32 := 64#32
  let v1296 : BitVec 32 := Scalar.addi v63 c64_i32_423
  let c8_i32_424 : BitVec 32 := 8#32
  let v1297 : BitVec 32 := Scalar.addi v1296 c8_i32_424
  let v1298 : Index := Scalar.indexCast v1297
  ![v1298.toNat]
def k0_mult73 (v1299 : BitVec 32) : BitVec 32 :=
  let c3_i32_425 : BitVec 32 := 3#32
  let v1300 : BitVec 32 := Scalar.shrsi v1299 c3_i32_425
  let c3_i32_426 : BitVec 32 := 3#32
  let v1301 : BitVec 32 := Scalar.shli v1300 c3_i32_426
  v1301

def k0_off157 (v1299 : BitVec 32) : Fin 2 → Nat :=
  let c3_i32_425 : BitVec 32 := 3#32
  let v1300 : BitVec 32 := Scalar.shrsi v1299 c3_i32_425
  let c3_i32_426 : BitVec 32 := 3#32
  let v1301 : BitVec 32 := Scalar.shli v1300 c3_i32_426
  let v1302 : BitVec 32 := v1301
  let v1303 : Index := Scalar.indexCast v1302
  let c0_427 : Index := 0#32
  ![v1303.toNat, 0]

def k0_chk73 (v1299 : BitVec 32) : Prop :=
  (8 ∣ (k0_mult73 v1299).toNat) ∧
  (∀ a, (k0_off157 v1299) a + S8x512.size a ≤ S20000x512.size a)
theorem k0_mult73_dvd : ∀ (v1299 : BitVec 32) (k0_hw73 : k0_chk73 v1299), 8 ∣ (k0_mult73 v1299).toNat := fun v1299 k0_hw73 => k0_hw73.1
theorem k0_off157_inb : ∀ (v1299 : BitVec 32) (k0_hw73 : k0_chk73 v1299), ∀ a, (k0_off157 v1299) a + S8x512.size a ≤ S20000x512.size a := fun v1299 k0_hw73 => k0_hw73.2

def k0_off158 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_429 : BitVec 32 := 64#32
  let v1313 : BitVec 32 := Scalar.addi v63 c64_i32_429
  let c9_i32_430 : BitVec 32 := 9#32
  let v1314 : BitVec 32 := Scalar.addi v1313 c9_i32_430
  let v1315 : Index := Scalar.indexCast v1314
  ![v1315.toNat]
def k0_mult74 (v1316 : BitVec 32) : BitVec 32 :=
  let c3_i32_431 : BitVec 32 := 3#32
  let v1317 : BitVec 32 := Scalar.shrsi v1316 c3_i32_431
  let c3_i32_432 : BitVec 32 := 3#32
  let v1318 : BitVec 32 := Scalar.shli v1317 c3_i32_432
  v1318

def k0_off159 (v1316 : BitVec 32) : Fin 2 → Nat :=
  let c3_i32_431 : BitVec 32 := 3#32
  let v1317 : BitVec 32 := Scalar.shrsi v1316 c3_i32_431
  let c3_i32_432 : BitVec 32 := 3#32
  let v1318 : BitVec 32 := Scalar.shli v1317 c3_i32_432
  let v1319 : BitVec 32 := v1318
  let v1320 : Index := Scalar.indexCast v1319
  let c0_433 : Index := 0#32
  ![v1320.toNat, 0]

def k0_chk74 (v1316 : BitVec 32) : Prop :=
  (8 ∣ (k0_mult74 v1316).toNat) ∧
  (∀ a, (k0_off159 v1316) a + S8x512.size a ≤ S20000x512.size a)
theorem k0_mult74_dvd : ∀ (v1316 : BitVec 32) (k0_hw74 : k0_chk74 v1316), 8 ∣ (k0_mult74 v1316).toNat := fun v1316 k0_hw74 => k0_hw74.1
theorem k0_off159_inb : ∀ (v1316 : BitVec 32) (k0_hw74 : k0_chk74 v1316), ∀ a, (k0_off159 v1316) a + S8x512.size a ≤ S20000x512.size a := fun v1316 k0_hw74 => k0_hw74.2

def k0_off160 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_435 : BitVec 32 := 64#32
  let v1330 : BitVec 32 := Scalar.addi v63 c64_i32_435
  let c10_i32_436 : BitVec 32 := 10#32
  let v1331 : BitVec 32 := Scalar.addi v1330 c10_i32_436
  let v1332 : Index := Scalar.indexCast v1331
  ![v1332.toNat]
def k0_mult75 (v1333 : BitVec 32) : BitVec 32 :=
  let c3_i32_437 : BitVec 32 := 3#32
  let v1334 : BitVec 32 := Scalar.shrsi v1333 c3_i32_437
  let c3_i32_438 : BitVec 32 := 3#32
  let v1335 : BitVec 32 := Scalar.shli v1334 c3_i32_438
  v1335

def k0_off161 (v1333 : BitVec 32) : Fin 2 → Nat :=
  let c3_i32_437 : BitVec 32 := 3#32
  let v1334 : BitVec 32 := Scalar.shrsi v1333 c3_i32_437
  let c3_i32_438 : BitVec 32 := 3#32
  let v1335 : BitVec 32 := Scalar.shli v1334 c3_i32_438
  let v1336 : BitVec 32 := v1335
  let v1337 : Index := Scalar.indexCast v1336
  let c0_439 : Index := 0#32
  ![v1337.toNat, 0]

def k0_chk75 (v1333 : BitVec 32) : Prop :=
  (8 ∣ (k0_mult75 v1333).toNat) ∧
  (∀ a, (k0_off161 v1333) a + S8x512.size a ≤ S20000x512.size a)
theorem k0_mult75_dvd : ∀ (v1333 : BitVec 32) (k0_hw75 : k0_chk75 v1333), 8 ∣ (k0_mult75 v1333).toNat := fun v1333 k0_hw75 => k0_hw75.1
theorem k0_off161_inb : ∀ (v1333 : BitVec 32) (k0_hw75 : k0_chk75 v1333), ∀ a, (k0_off161 v1333) a + S8x512.size a ≤ S20000x512.size a := fun v1333 k0_hw75 => k0_hw75.2

def k0_off162 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_441 : BitVec 32 := 64#32
  let v1347 : BitVec 32 := Scalar.addi v63 c64_i32_441
  let c11_i32_442 : BitVec 32 := 11#32
  let v1348 : BitVec 32 := Scalar.addi v1347 c11_i32_442
  let v1349 : Index := Scalar.indexCast v1348
  ![v1349.toNat]
def k0_mult76 (v1350 : BitVec 32) : BitVec 32 :=
  let c3_i32_443 : BitVec 32 := 3#32
  let v1351 : BitVec 32 := Scalar.shrsi v1350 c3_i32_443
  let c3_i32_444 : BitVec 32 := 3#32
  let v1352 : BitVec 32 := Scalar.shli v1351 c3_i32_444
  v1352

def k0_off163 (v1350 : BitVec 32) : Fin 2 → Nat :=
  let c3_i32_443 : BitVec 32 := 3#32
  let v1351 : BitVec 32 := Scalar.shrsi v1350 c3_i32_443
  let c3_i32_444 : BitVec 32 := 3#32
  let v1352 : BitVec 32 := Scalar.shli v1351 c3_i32_444
  let v1353 : BitVec 32 := v1352
  let v1354 : Index := Scalar.indexCast v1353
  let c0_445 : Index := 0#32
  ![v1354.toNat, 0]

def k0_chk76 (v1350 : BitVec 32) : Prop :=
  (8 ∣ (k0_mult76 v1350).toNat) ∧
  (∀ a, (k0_off163 v1350) a + S8x512.size a ≤ S20000x512.size a)
theorem k0_mult76_dvd : ∀ (v1350 : BitVec 32) (k0_hw76 : k0_chk76 v1350), 8 ∣ (k0_mult76 v1350).toNat := fun v1350 k0_hw76 => k0_hw76.1
theorem k0_off163_inb : ∀ (v1350 : BitVec 32) (k0_hw76 : k0_chk76 v1350), ∀ a, (k0_off163 v1350) a + S8x512.size a ≤ S20000x512.size a := fun v1350 k0_hw76 => k0_hw76.2

def k0_off164 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_447 : BitVec 32 := 64#32
  let v1364 : BitVec 32 := Scalar.addi v63 c64_i32_447
  let c12_i32_448 : BitVec 32 := 12#32
  let v1365 : BitVec 32 := Scalar.addi v1364 c12_i32_448
  let v1366 : Index := Scalar.indexCast v1365
  ![v1366.toNat]
def k0_mult77 (v1367 : BitVec 32) : BitVec 32 :=
  let c3_i32_449 : BitVec 32 := 3#32
  let v1368 : BitVec 32 := Scalar.shrsi v1367 c3_i32_449
  let c3_i32_450 : BitVec 32 := 3#32
  let v1369 : BitVec 32 := Scalar.shli v1368 c3_i32_450
  v1369

def k0_off165 (v1367 : BitVec 32) : Fin 2 → Nat :=
  let c3_i32_449 : BitVec 32 := 3#32
  let v1368 : BitVec 32 := Scalar.shrsi v1367 c3_i32_449
  let c3_i32_450 : BitVec 32 := 3#32
  let v1369 : BitVec 32 := Scalar.shli v1368 c3_i32_450
  let v1370 : BitVec 32 := v1369
  let v1371 : Index := Scalar.indexCast v1370
  let c0_451 : Index := 0#32
  ![v1371.toNat, 0]

def k0_chk77 (v1367 : BitVec 32) : Prop :=
  (8 ∣ (k0_mult77 v1367).toNat) ∧
  (∀ a, (k0_off165 v1367) a + S8x512.size a ≤ S20000x512.size a)
theorem k0_mult77_dvd : ∀ (v1367 : BitVec 32) (k0_hw77 : k0_chk77 v1367), 8 ∣ (k0_mult77 v1367).toNat := fun v1367 k0_hw77 => k0_hw77.1
theorem k0_off165_inb : ∀ (v1367 : BitVec 32) (k0_hw77 : k0_chk77 v1367), ∀ a, (k0_off165 v1367) a + S8x512.size a ≤ S20000x512.size a := fun v1367 k0_hw77 => k0_hw77.2

def k0_off166 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_453 : BitVec 32 := 64#32
  let v1381 : BitVec 32 := Scalar.addi v63 c64_i32_453
  let c13_i32_454 : BitVec 32 := 13#32
  let v1382 : BitVec 32 := Scalar.addi v1381 c13_i32_454
  let v1383 : Index := Scalar.indexCast v1382
  ![v1383.toNat]
def k0_mult78 (v1384 : BitVec 32) : BitVec 32 :=
  let c3_i32_455 : BitVec 32 := 3#32
  let v1385 : BitVec 32 := Scalar.shrsi v1384 c3_i32_455
  let c3_i32_456 : BitVec 32 := 3#32
  let v1386 : BitVec 32 := Scalar.shli v1385 c3_i32_456
  v1386

def k0_off167 (v1384 : BitVec 32) : Fin 2 → Nat :=
  let c3_i32_455 : BitVec 32 := 3#32
  let v1385 : BitVec 32 := Scalar.shrsi v1384 c3_i32_455
  let c3_i32_456 : BitVec 32 := 3#32
  let v1386 : BitVec 32 := Scalar.shli v1385 c3_i32_456
  let v1387 : BitVec 32 := v1386
  let v1388 : Index := Scalar.indexCast v1387
  let c0_457 : Index := 0#32
  ![v1388.toNat, 0]

def k0_chk78 (v1384 : BitVec 32) : Prop :=
  (8 ∣ (k0_mult78 v1384).toNat) ∧
  (∀ a, (k0_off167 v1384) a + S8x512.size a ≤ S20000x512.size a)
theorem k0_mult78_dvd : ∀ (v1384 : BitVec 32) (k0_hw78 : k0_chk78 v1384), 8 ∣ (k0_mult78 v1384).toNat := fun v1384 k0_hw78 => k0_hw78.1
theorem k0_off167_inb : ∀ (v1384 : BitVec 32) (k0_hw78 : k0_chk78 v1384), ∀ a, (k0_off167 v1384) a + S8x512.size a ≤ S20000x512.size a := fun v1384 k0_hw78 => k0_hw78.2

def k0_off168 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_459 : BitVec 32 := 64#32
  let v1398 : BitVec 32 := Scalar.addi v63 c64_i32_459
  let c14_i32_460 : BitVec 32 := 14#32
  let v1399 : BitVec 32 := Scalar.addi v1398 c14_i32_460
  let v1400 : Index := Scalar.indexCast v1399
  ![v1400.toNat]
def k0_mult79 (v1401 : BitVec 32) : BitVec 32 :=
  let c3_i32_461 : BitVec 32 := 3#32
  let v1402 : BitVec 32 := Scalar.shrsi v1401 c3_i32_461
  let c3_i32_462 : BitVec 32 := 3#32
  let v1403 : BitVec 32 := Scalar.shli v1402 c3_i32_462
  v1403

def k0_off169 (v1401 : BitVec 32) : Fin 2 → Nat :=
  let c3_i32_461 : BitVec 32 := 3#32
  let v1402 : BitVec 32 := Scalar.shrsi v1401 c3_i32_461
  let c3_i32_462 : BitVec 32 := 3#32
  let v1403 : BitVec 32 := Scalar.shli v1402 c3_i32_462
  let v1404 : BitVec 32 := v1403
  let v1405 : Index := Scalar.indexCast v1404
  let c0_463 : Index := 0#32
  ![v1405.toNat, 0]

def k0_chk79 (v1401 : BitVec 32) : Prop :=
  (8 ∣ (k0_mult79 v1401).toNat) ∧
  (∀ a, (k0_off169 v1401) a + S8x512.size a ≤ S20000x512.size a)
theorem k0_mult79_dvd : ∀ (v1401 : BitVec 32) (k0_hw79 : k0_chk79 v1401), 8 ∣ (k0_mult79 v1401).toNat := fun v1401 k0_hw79 => k0_hw79.1
theorem k0_off169_inb : ∀ (v1401 : BitVec 32) (k0_hw79 : k0_chk79 v1401), ∀ a, (k0_off169 v1401) a + S8x512.size a ≤ S20000x512.size a := fun v1401 k0_hw79 => k0_hw79.2

def k0_off170 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_465 : BitVec 32 := 64#32
  let v1415 : BitVec 32 := Scalar.addi v63 c64_i32_465
  let c15_i32_466 : BitVec 32 := 15#32
  let v1416 : BitVec 32 := Scalar.addi v1415 c15_i32_466
  let v1417 : Index := Scalar.indexCast v1416
  ![v1417.toNat]
def k0_mult80 (v1418 : BitVec 32) : BitVec 32 :=
  let c3_i32_467 : BitVec 32 := 3#32
  let v1419 : BitVec 32 := Scalar.shrsi v1418 c3_i32_467
  let c3_i32_468 : BitVec 32 := 3#32
  let v1420 : BitVec 32 := Scalar.shli v1419 c3_i32_468
  v1420

def k0_off171 (v1418 : BitVec 32) : Fin 2 → Nat :=
  let c3_i32_467 : BitVec 32 := 3#32
  let v1419 : BitVec 32 := Scalar.shrsi v1418 c3_i32_467
  let c3_i32_468 : BitVec 32 := 3#32
  let v1420 : BitVec 32 := Scalar.shli v1419 c3_i32_468
  let v1421 : BitVec 32 := v1420
  let v1422 : Index := Scalar.indexCast v1421
  let c0_469 : Index := 0#32
  ![v1422.toNat, 0]

def k0_chk80 (v1418 : BitVec 32) : Prop :=
  (8 ∣ (k0_mult80 v1418).toNat) ∧
  (∀ a, (k0_off171 v1418) a + S8x512.size a ≤ S20000x512.size a)
theorem k0_mult80_dvd : ∀ (v1418 : BitVec 32) (k0_hw80 : k0_chk80 v1418), 8 ∣ (k0_mult80 v1418).toNat := fun v1418 k0_hw80 => k0_hw80.1
theorem k0_off171_inb : ∀ (v1418 : BitVec 32) (k0_hw80 : k0_chk80 v1418), ∀ a, (k0_off171 v1418) a + S8x512.size a ≤ S20000x512.size a := fun v1418 k0_hw80 => k0_hw80.2

def k0_off172 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_471 : BitVec 32 := 64#32
  let v1432 : BitVec 32 := Scalar.addi v63 c64_i32_471
  let c16_i32_472 : BitVec 32 := 16#32
  let v1433 : BitVec 32 := Scalar.addi v1432 c16_i32_472
  let v1434 : Index := Scalar.indexCast v1433
  ![v1434.toNat]
def k0_mult81 (v1435 : BitVec 32) : BitVec 32 :=
  let c3_i32_473 : BitVec 32 := 3#32
  let v1436 : BitVec 32 := Scalar.shrsi v1435 c3_i32_473
  let c3_i32_474 : BitVec 32 := 3#32
  let v1437 : BitVec 32 := Scalar.shli v1436 c3_i32_474
  v1437

def k0_off173 (v1435 : BitVec 32) : Fin 2 → Nat :=
  let c3_i32_473 : BitVec 32 := 3#32
  let v1436 : BitVec 32 := Scalar.shrsi v1435 c3_i32_473
  let c3_i32_474 : BitVec 32 := 3#32
  let v1437 : BitVec 32 := Scalar.shli v1436 c3_i32_474
  let v1438 : BitVec 32 := v1437
  let v1439 : Index := Scalar.indexCast v1438
  let c0_475 : Index := 0#32
  ![v1439.toNat, 0]

def k0_chk81 (v1435 : BitVec 32) : Prop :=
  (8 ∣ (k0_mult81 v1435).toNat) ∧
  (∀ a, (k0_off173 v1435) a + S8x512.size a ≤ S20000x512.size a)
theorem k0_mult81_dvd : ∀ (v1435 : BitVec 32) (k0_hw81 : k0_chk81 v1435), 8 ∣ (k0_mult81 v1435).toNat := fun v1435 k0_hw81 => k0_hw81.1
theorem k0_off173_inb : ∀ (v1435 : BitVec 32) (k0_hw81 : k0_chk81 v1435), ∀ a, (k0_off173 v1435) a + S8x512.size a ≤ S20000x512.size a := fun v1435 k0_hw81 => k0_hw81.2

def k0_off174 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_477 : BitVec 32 := 64#32
  let v1449 : BitVec 32 := Scalar.addi v63 c64_i32_477
  let c17_i32_478 : BitVec 32 := 17#32
  let v1450 : BitVec 32 := Scalar.addi v1449 c17_i32_478
  let v1451 : Index := Scalar.indexCast v1450
  ![v1451.toNat]
def k0_mult82 (v1452 : BitVec 32) : BitVec 32 :=
  let c3_i32_479 : BitVec 32 := 3#32
  let v1453 : BitVec 32 := Scalar.shrsi v1452 c3_i32_479
  let c3_i32_480 : BitVec 32 := 3#32
  let v1454 : BitVec 32 := Scalar.shli v1453 c3_i32_480
  v1454

def k0_off175 (v1452 : BitVec 32) : Fin 2 → Nat :=
  let c3_i32_479 : BitVec 32 := 3#32
  let v1453 : BitVec 32 := Scalar.shrsi v1452 c3_i32_479
  let c3_i32_480 : BitVec 32 := 3#32
  let v1454 : BitVec 32 := Scalar.shli v1453 c3_i32_480
  let v1455 : BitVec 32 := v1454
  let v1456 : Index := Scalar.indexCast v1455
  let c0_481 : Index := 0#32
  ![v1456.toNat, 0]

def k0_chk82 (v1452 : BitVec 32) : Prop :=
  (8 ∣ (k0_mult82 v1452).toNat) ∧
  (∀ a, (k0_off175 v1452) a + S8x512.size a ≤ S20000x512.size a)
theorem k0_mult82_dvd : ∀ (v1452 : BitVec 32) (k0_hw82 : k0_chk82 v1452), 8 ∣ (k0_mult82 v1452).toNat := fun v1452 k0_hw82 => k0_hw82.1
theorem k0_off175_inb : ∀ (v1452 : BitVec 32) (k0_hw82 : k0_chk82 v1452), ∀ a, (k0_off175 v1452) a + S8x512.size a ≤ S20000x512.size a := fun v1452 k0_hw82 => k0_hw82.2

def k0_off176 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_483 : BitVec 32 := 64#32
  let v1466 : BitVec 32 := Scalar.addi v63 c64_i32_483
  let c18_i32_484 : BitVec 32 := 18#32
  let v1467 : BitVec 32 := Scalar.addi v1466 c18_i32_484
  let v1468 : Index := Scalar.indexCast v1467
  ![v1468.toNat]
def k0_mult83 (v1469 : BitVec 32) : BitVec 32 :=
  let c3_i32_485 : BitVec 32 := 3#32
  let v1470 : BitVec 32 := Scalar.shrsi v1469 c3_i32_485
  let c3_i32_486 : BitVec 32 := 3#32
  let v1471 : BitVec 32 := Scalar.shli v1470 c3_i32_486
  v1471

def k0_off177 (v1469 : BitVec 32) : Fin 2 → Nat :=
  let c3_i32_485 : BitVec 32 := 3#32
  let v1470 : BitVec 32 := Scalar.shrsi v1469 c3_i32_485
  let c3_i32_486 : BitVec 32 := 3#32
  let v1471 : BitVec 32 := Scalar.shli v1470 c3_i32_486
  let v1472 : BitVec 32 := v1471
  let v1473 : Index := Scalar.indexCast v1472
  let c0_487 : Index := 0#32
  ![v1473.toNat, 0]

def k0_chk83 (v1469 : BitVec 32) : Prop :=
  (8 ∣ (k0_mult83 v1469).toNat) ∧
  (∀ a, (k0_off177 v1469) a + S8x512.size a ≤ S20000x512.size a)
theorem k0_mult83_dvd : ∀ (v1469 : BitVec 32) (k0_hw83 : k0_chk83 v1469), 8 ∣ (k0_mult83 v1469).toNat := fun v1469 k0_hw83 => k0_hw83.1
theorem k0_off177_inb : ∀ (v1469 : BitVec 32) (k0_hw83 : k0_chk83 v1469), ∀ a, (k0_off177 v1469) a + S8x512.size a ≤ S20000x512.size a := fun v1469 k0_hw83 => k0_hw83.2

def k0_off178 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_489 : BitVec 32 := 64#32
  let v1483 : BitVec 32 := Scalar.addi v63 c64_i32_489
  let c19_i32_490 : BitVec 32 := 19#32
  let v1484 : BitVec 32 := Scalar.addi v1483 c19_i32_490
  let v1485 : Index := Scalar.indexCast v1484
  ![v1485.toNat]
def k0_mult84 (v1486 : BitVec 32) : BitVec 32 :=
  let c3_i32_491 : BitVec 32 := 3#32
  let v1487 : BitVec 32 := Scalar.shrsi v1486 c3_i32_491
  let c3_i32_492 : BitVec 32 := 3#32
  let v1488 : BitVec 32 := Scalar.shli v1487 c3_i32_492
  v1488

def k0_off179 (v1486 : BitVec 32) : Fin 2 → Nat :=
  let c3_i32_491 : BitVec 32 := 3#32
  let v1487 : BitVec 32 := Scalar.shrsi v1486 c3_i32_491
  let c3_i32_492 : BitVec 32 := 3#32
  let v1488 : BitVec 32 := Scalar.shli v1487 c3_i32_492
  let v1489 : BitVec 32 := v1488
  let v1490 : Index := Scalar.indexCast v1489
  let c0_493 : Index := 0#32
  ![v1490.toNat, 0]

def k0_chk84 (v1486 : BitVec 32) : Prop :=
  (8 ∣ (k0_mult84 v1486).toNat) ∧
  (∀ a, (k0_off179 v1486) a + S8x512.size a ≤ S20000x512.size a)
theorem k0_mult84_dvd : ∀ (v1486 : BitVec 32) (k0_hw84 : k0_chk84 v1486), 8 ∣ (k0_mult84 v1486).toNat := fun v1486 k0_hw84 => k0_hw84.1
theorem k0_off179_inb : ∀ (v1486 : BitVec 32) (k0_hw84 : k0_chk84 v1486), ∀ a, (k0_off179 v1486) a + S8x512.size a ≤ S20000x512.size a := fun v1486 k0_hw84 => k0_hw84.2

def k0_off180 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_495 : BitVec 32 := 64#32
  let v1500 : BitVec 32 := Scalar.addi v63 c64_i32_495
  let c20_i32_496 : BitVec 32 := 20#32
  let v1501 : BitVec 32 := Scalar.addi v1500 c20_i32_496
  let v1502 : Index := Scalar.indexCast v1501
  ![v1502.toNat]
def k0_mult85 (v1503 : BitVec 32) : BitVec 32 :=
  let c3_i32_497 : BitVec 32 := 3#32
  let v1504 : BitVec 32 := Scalar.shrsi v1503 c3_i32_497
  let c3_i32_498 : BitVec 32 := 3#32
  let v1505 : BitVec 32 := Scalar.shli v1504 c3_i32_498
  v1505

def k0_off181 (v1503 : BitVec 32) : Fin 2 → Nat :=
  let c3_i32_497 : BitVec 32 := 3#32
  let v1504 : BitVec 32 := Scalar.shrsi v1503 c3_i32_497
  let c3_i32_498 : BitVec 32 := 3#32
  let v1505 : BitVec 32 := Scalar.shli v1504 c3_i32_498
  let v1506 : BitVec 32 := v1505
  let v1507 : Index := Scalar.indexCast v1506
  let c0_499 : Index := 0#32
  ![v1507.toNat, 0]

def k0_chk85 (v1503 : BitVec 32) : Prop :=
  (8 ∣ (k0_mult85 v1503).toNat) ∧
  (∀ a, (k0_off181 v1503) a + S8x512.size a ≤ S20000x512.size a)
theorem k0_mult85_dvd : ∀ (v1503 : BitVec 32) (k0_hw85 : k0_chk85 v1503), 8 ∣ (k0_mult85 v1503).toNat := fun v1503 k0_hw85 => k0_hw85.1
theorem k0_off181_inb : ∀ (v1503 : BitVec 32) (k0_hw85 : k0_chk85 v1503), ∀ a, (k0_off181 v1503) a + S8x512.size a ≤ S20000x512.size a := fun v1503 k0_hw85 => k0_hw85.2

def k0_off182 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_501 : BitVec 32 := 64#32
  let v1517 : BitVec 32 := Scalar.addi v63 c64_i32_501
  let c21_i32_502 : BitVec 32 := 21#32
  let v1518 : BitVec 32 := Scalar.addi v1517 c21_i32_502
  let v1519 : Index := Scalar.indexCast v1518
  ![v1519.toNat]
def k0_mult86 (v1520 : BitVec 32) : BitVec 32 :=
  let c3_i32_503 : BitVec 32 := 3#32
  let v1521 : BitVec 32 := Scalar.shrsi v1520 c3_i32_503
  let c3_i32_504 : BitVec 32 := 3#32
  let v1522 : BitVec 32 := Scalar.shli v1521 c3_i32_504
  v1522

def k0_off183 (v1520 : BitVec 32) : Fin 2 → Nat :=
  let c3_i32_503 : BitVec 32 := 3#32
  let v1521 : BitVec 32 := Scalar.shrsi v1520 c3_i32_503
  let c3_i32_504 : BitVec 32 := 3#32
  let v1522 : BitVec 32 := Scalar.shli v1521 c3_i32_504
  let v1523 : BitVec 32 := v1522
  let v1524 : Index := Scalar.indexCast v1523
  let c0_505 : Index := 0#32
  ![v1524.toNat, 0]

def k0_chk86 (v1520 : BitVec 32) : Prop :=
  (8 ∣ (k0_mult86 v1520).toNat) ∧
  (∀ a, (k0_off183 v1520) a + S8x512.size a ≤ S20000x512.size a)
theorem k0_mult86_dvd : ∀ (v1520 : BitVec 32) (k0_hw86 : k0_chk86 v1520), 8 ∣ (k0_mult86 v1520).toNat := fun v1520 k0_hw86 => k0_hw86.1
theorem k0_off183_inb : ∀ (v1520 : BitVec 32) (k0_hw86 : k0_chk86 v1520), ∀ a, (k0_off183 v1520) a + S8x512.size a ≤ S20000x512.size a := fun v1520 k0_hw86 => k0_hw86.2

def k0_off184 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_507 : BitVec 32 := 64#32
  let v1534 : BitVec 32 := Scalar.addi v63 c64_i32_507
  let c22_i32_508 : BitVec 32 := 22#32
  let v1535 : BitVec 32 := Scalar.addi v1534 c22_i32_508
  let v1536 : Index := Scalar.indexCast v1535
  ![v1536.toNat]
def k0_mult87 (v1537 : BitVec 32) : BitVec 32 :=
  let c3_i32_509 : BitVec 32 := 3#32
  let v1538 : BitVec 32 := Scalar.shrsi v1537 c3_i32_509
  let c3_i32_510 : BitVec 32 := 3#32
  let v1539 : BitVec 32 := Scalar.shli v1538 c3_i32_510
  v1539

def k0_off185 (v1537 : BitVec 32) : Fin 2 → Nat :=
  let c3_i32_509 : BitVec 32 := 3#32
  let v1538 : BitVec 32 := Scalar.shrsi v1537 c3_i32_509
  let c3_i32_510 : BitVec 32 := 3#32
  let v1539 : BitVec 32 := Scalar.shli v1538 c3_i32_510
  let v1540 : BitVec 32 := v1539
  let v1541 : Index := Scalar.indexCast v1540
  let c0_511 : Index := 0#32
  ![v1541.toNat, 0]

def k0_chk87 (v1537 : BitVec 32) : Prop :=
  (8 ∣ (k0_mult87 v1537).toNat) ∧
  (∀ a, (k0_off185 v1537) a + S8x512.size a ≤ S20000x512.size a)
theorem k0_mult87_dvd : ∀ (v1537 : BitVec 32) (k0_hw87 : k0_chk87 v1537), 8 ∣ (k0_mult87 v1537).toNat := fun v1537 k0_hw87 => k0_hw87.1
theorem k0_off185_inb : ∀ (v1537 : BitVec 32) (k0_hw87 : k0_chk87 v1537), ∀ a, (k0_off185 v1537) a + S8x512.size a ≤ S20000x512.size a := fun v1537 k0_hw87 => k0_hw87.2

def k0_off186 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_513 : BitVec 32 := 64#32
  let v1551 : BitVec 32 := Scalar.addi v63 c64_i32_513
  let c23_i32_514 : BitVec 32 := 23#32
  let v1552 : BitVec 32 := Scalar.addi v1551 c23_i32_514
  let v1553 : Index := Scalar.indexCast v1552
  ![v1553.toNat]
def k0_mult88 (v1554 : BitVec 32) : BitVec 32 :=
  let c3_i32_515 : BitVec 32 := 3#32
  let v1555 : BitVec 32 := Scalar.shrsi v1554 c3_i32_515
  let c3_i32_516 : BitVec 32 := 3#32
  let v1556 : BitVec 32 := Scalar.shli v1555 c3_i32_516
  v1556

def k0_off187 (v1554 : BitVec 32) : Fin 2 → Nat :=
  let c3_i32_515 : BitVec 32 := 3#32
  let v1555 : BitVec 32 := Scalar.shrsi v1554 c3_i32_515
  let c3_i32_516 : BitVec 32 := 3#32
  let v1556 : BitVec 32 := Scalar.shli v1555 c3_i32_516
  let v1557 : BitVec 32 := v1556
  let v1558 : Index := Scalar.indexCast v1557
  let c0_517 : Index := 0#32
  ![v1558.toNat, 0]

def k0_chk88 (v1554 : BitVec 32) : Prop :=
  (8 ∣ (k0_mult88 v1554).toNat) ∧
  (∀ a, (k0_off187 v1554) a + S8x512.size a ≤ S20000x512.size a)
theorem k0_mult88_dvd : ∀ (v1554 : BitVec 32) (k0_hw88 : k0_chk88 v1554), 8 ∣ (k0_mult88 v1554).toNat := fun v1554 k0_hw88 => k0_hw88.1
theorem k0_off187_inb : ∀ (v1554 : BitVec 32) (k0_hw88 : k0_chk88 v1554), ∀ a, (k0_off187 v1554) a + S8x512.size a ≤ S20000x512.size a := fun v1554 k0_hw88 => k0_hw88.2

def k0_off188 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_519 : BitVec 32 := 64#32
  let v1568 : BitVec 32 := Scalar.addi v63 c64_i32_519
  let c24_i32_520 : BitVec 32 := 24#32
  let v1569 : BitVec 32 := Scalar.addi v1568 c24_i32_520
  let v1570 : Index := Scalar.indexCast v1569
  ![v1570.toNat]
def k0_mult89 (v1571 : BitVec 32) : BitVec 32 :=
  let c3_i32_521 : BitVec 32 := 3#32
  let v1572 : BitVec 32 := Scalar.shrsi v1571 c3_i32_521
  let c3_i32_522 : BitVec 32 := 3#32
  let v1573 : BitVec 32 := Scalar.shli v1572 c3_i32_522
  v1573

def k0_off189 (v1571 : BitVec 32) : Fin 2 → Nat :=
  let c3_i32_521 : BitVec 32 := 3#32
  let v1572 : BitVec 32 := Scalar.shrsi v1571 c3_i32_521
  let c3_i32_522 : BitVec 32 := 3#32
  let v1573 : BitVec 32 := Scalar.shli v1572 c3_i32_522
  let v1574 : BitVec 32 := v1573
  let v1575 : Index := Scalar.indexCast v1574
  let c0_523 : Index := 0#32
  ![v1575.toNat, 0]

def k0_chk89 (v1571 : BitVec 32) : Prop :=
  (8 ∣ (k0_mult89 v1571).toNat) ∧
  (∀ a, (k0_off189 v1571) a + S8x512.size a ≤ S20000x512.size a)
theorem k0_mult89_dvd : ∀ (v1571 : BitVec 32) (k0_hw89 : k0_chk89 v1571), 8 ∣ (k0_mult89 v1571).toNat := fun v1571 k0_hw89 => k0_hw89.1
theorem k0_off189_inb : ∀ (v1571 : BitVec 32) (k0_hw89 : k0_chk89 v1571), ∀ a, (k0_off189 v1571) a + S8x512.size a ≤ S20000x512.size a := fun v1571 k0_hw89 => k0_hw89.2

def k0_off190 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_525 : BitVec 32 := 64#32
  let v1585 : BitVec 32 := Scalar.addi v63 c64_i32_525
  let c25_i32_526 : BitVec 32 := 25#32
  let v1586 : BitVec 32 := Scalar.addi v1585 c25_i32_526
  let v1587 : Index := Scalar.indexCast v1586
  ![v1587.toNat]
def k0_mult90 (v1588 : BitVec 32) : BitVec 32 :=
  let c3_i32_527 : BitVec 32 := 3#32
  let v1589 : BitVec 32 := Scalar.shrsi v1588 c3_i32_527
  let c3_i32_528 : BitVec 32 := 3#32
  let v1590 : BitVec 32 := Scalar.shli v1589 c3_i32_528
  v1590

def k0_off191 (v1588 : BitVec 32) : Fin 2 → Nat :=
  let c3_i32_527 : BitVec 32 := 3#32
  let v1589 : BitVec 32 := Scalar.shrsi v1588 c3_i32_527
  let c3_i32_528 : BitVec 32 := 3#32
  let v1590 : BitVec 32 := Scalar.shli v1589 c3_i32_528
  let v1591 : BitVec 32 := v1590
  let v1592 : Index := Scalar.indexCast v1591
  let c0_529 : Index := 0#32
  ![v1592.toNat, 0]

def k0_chk90 (v1588 : BitVec 32) : Prop :=
  (8 ∣ (k0_mult90 v1588).toNat) ∧
  (∀ a, (k0_off191 v1588) a + S8x512.size a ≤ S20000x512.size a)
theorem k0_mult90_dvd : ∀ (v1588 : BitVec 32) (k0_hw90 : k0_chk90 v1588), 8 ∣ (k0_mult90 v1588).toNat := fun v1588 k0_hw90 => k0_hw90.1
theorem k0_off191_inb : ∀ (v1588 : BitVec 32) (k0_hw90 : k0_chk90 v1588), ∀ a, (k0_off191 v1588) a + S8x512.size a ≤ S20000x512.size a := fun v1588 k0_hw90 => k0_hw90.2

def k0_off192 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_531 : BitVec 32 := 64#32
  let v1602 : BitVec 32 := Scalar.addi v63 c64_i32_531
  let c26_i32_532 : BitVec 32 := 26#32
  let v1603 : BitVec 32 := Scalar.addi v1602 c26_i32_532
  let v1604 : Index := Scalar.indexCast v1603
  ![v1604.toNat]
def k0_mult91 (v1605 : BitVec 32) : BitVec 32 :=
  let c3_i32_533 : BitVec 32 := 3#32
  let v1606 : BitVec 32 := Scalar.shrsi v1605 c3_i32_533
  let c3_i32_534 : BitVec 32 := 3#32
  let v1607 : BitVec 32 := Scalar.shli v1606 c3_i32_534
  v1607

def k0_off193 (v1605 : BitVec 32) : Fin 2 → Nat :=
  let c3_i32_533 : BitVec 32 := 3#32
  let v1606 : BitVec 32 := Scalar.shrsi v1605 c3_i32_533
  let c3_i32_534 : BitVec 32 := 3#32
  let v1607 : BitVec 32 := Scalar.shli v1606 c3_i32_534
  let v1608 : BitVec 32 := v1607
  let v1609 : Index := Scalar.indexCast v1608
  let c0_535 : Index := 0#32
  ![v1609.toNat, 0]

def k0_chk91 (v1605 : BitVec 32) : Prop :=
  (8 ∣ (k0_mult91 v1605).toNat) ∧
  (∀ a, (k0_off193 v1605) a + S8x512.size a ≤ S20000x512.size a)
theorem k0_mult91_dvd : ∀ (v1605 : BitVec 32) (k0_hw91 : k0_chk91 v1605), 8 ∣ (k0_mult91 v1605).toNat := fun v1605 k0_hw91 => k0_hw91.1
theorem k0_off193_inb : ∀ (v1605 : BitVec 32) (k0_hw91 : k0_chk91 v1605), ∀ a, (k0_off193 v1605) a + S8x512.size a ≤ S20000x512.size a := fun v1605 k0_hw91 => k0_hw91.2

def k0_off194 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_537 : BitVec 32 := 64#32
  let v1619 : BitVec 32 := Scalar.addi v63 c64_i32_537
  let c27_i32_538 : BitVec 32 := 27#32
  let v1620 : BitVec 32 := Scalar.addi v1619 c27_i32_538
  let v1621 : Index := Scalar.indexCast v1620
  ![v1621.toNat]
def k0_mult92 (v1622 : BitVec 32) : BitVec 32 :=
  let c3_i32_539 : BitVec 32 := 3#32
  let v1623 : BitVec 32 := Scalar.shrsi v1622 c3_i32_539
  let c3_i32_540 : BitVec 32 := 3#32
  let v1624 : BitVec 32 := Scalar.shli v1623 c3_i32_540
  v1624

def k0_off195 (v1622 : BitVec 32) : Fin 2 → Nat :=
  let c3_i32_539 : BitVec 32 := 3#32
  let v1623 : BitVec 32 := Scalar.shrsi v1622 c3_i32_539
  let c3_i32_540 : BitVec 32 := 3#32
  let v1624 : BitVec 32 := Scalar.shli v1623 c3_i32_540
  let v1625 : BitVec 32 := v1624
  let v1626 : Index := Scalar.indexCast v1625
  let c0_541 : Index := 0#32
  ![v1626.toNat, 0]

def k0_chk92 (v1622 : BitVec 32) : Prop :=
  (8 ∣ (k0_mult92 v1622).toNat) ∧
  (∀ a, (k0_off195 v1622) a + S8x512.size a ≤ S20000x512.size a)
theorem k0_mult92_dvd : ∀ (v1622 : BitVec 32) (k0_hw92 : k0_chk92 v1622), 8 ∣ (k0_mult92 v1622).toNat := fun v1622 k0_hw92 => k0_hw92.1
theorem k0_off195_inb : ∀ (v1622 : BitVec 32) (k0_hw92 : k0_chk92 v1622), ∀ a, (k0_off195 v1622) a + S8x512.size a ≤ S20000x512.size a := fun v1622 k0_hw92 => k0_hw92.2

def k0_off196 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_543 : BitVec 32 := 64#32
  let v1636 : BitVec 32 := Scalar.addi v63 c64_i32_543
  let c28_i32_544 : BitVec 32 := 28#32
  let v1637 : BitVec 32 := Scalar.addi v1636 c28_i32_544
  let v1638 : Index := Scalar.indexCast v1637
  ![v1638.toNat]
def k0_mult93 (v1639 : BitVec 32) : BitVec 32 :=
  let c3_i32_545 : BitVec 32 := 3#32
  let v1640 : BitVec 32 := Scalar.shrsi v1639 c3_i32_545
  let c3_i32_546 : BitVec 32 := 3#32
  let v1641 : BitVec 32 := Scalar.shli v1640 c3_i32_546
  v1641

def k0_off197 (v1639 : BitVec 32) : Fin 2 → Nat :=
  let c3_i32_545 : BitVec 32 := 3#32
  let v1640 : BitVec 32 := Scalar.shrsi v1639 c3_i32_545
  let c3_i32_546 : BitVec 32 := 3#32
  let v1641 : BitVec 32 := Scalar.shli v1640 c3_i32_546
  let v1642 : BitVec 32 := v1641
  let v1643 : Index := Scalar.indexCast v1642
  let c0_547 : Index := 0#32
  ![v1643.toNat, 0]

def k0_chk93 (v1639 : BitVec 32) : Prop :=
  (8 ∣ (k0_mult93 v1639).toNat) ∧
  (∀ a, (k0_off197 v1639) a + S8x512.size a ≤ S20000x512.size a)
theorem k0_mult93_dvd : ∀ (v1639 : BitVec 32) (k0_hw93 : k0_chk93 v1639), 8 ∣ (k0_mult93 v1639).toNat := fun v1639 k0_hw93 => k0_hw93.1
theorem k0_off197_inb : ∀ (v1639 : BitVec 32) (k0_hw93 : k0_chk93 v1639), ∀ a, (k0_off197 v1639) a + S8x512.size a ≤ S20000x512.size a := fun v1639 k0_hw93 => k0_hw93.2

def k0_off198 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_549 : BitVec 32 := 64#32
  let v1653 : BitVec 32 := Scalar.addi v63 c64_i32_549
  let c29_i32_550 : BitVec 32 := 29#32
  let v1654 : BitVec 32 := Scalar.addi v1653 c29_i32_550
  let v1655 : Index := Scalar.indexCast v1654
  ![v1655.toNat]
def k0_mult94 (v1656 : BitVec 32) : BitVec 32 :=
  let c3_i32_551 : BitVec 32 := 3#32
  let v1657 : BitVec 32 := Scalar.shrsi v1656 c3_i32_551
  let c3_i32_552 : BitVec 32 := 3#32
  let v1658 : BitVec 32 := Scalar.shli v1657 c3_i32_552
  v1658

def k0_off199 (v1656 : BitVec 32) : Fin 2 → Nat :=
  let c3_i32_551 : BitVec 32 := 3#32
  let v1657 : BitVec 32 := Scalar.shrsi v1656 c3_i32_551
  let c3_i32_552 : BitVec 32 := 3#32
  let v1658 : BitVec 32 := Scalar.shli v1657 c3_i32_552
  let v1659 : BitVec 32 := v1658
  let v1660 : Index := Scalar.indexCast v1659
  let c0_553 : Index := 0#32
  ![v1660.toNat, 0]

def k0_chk94 (v1656 : BitVec 32) : Prop :=
  (8 ∣ (k0_mult94 v1656).toNat) ∧
  (∀ a, (k0_off199 v1656) a + S8x512.size a ≤ S20000x512.size a)
theorem k0_mult94_dvd : ∀ (v1656 : BitVec 32) (k0_hw94 : k0_chk94 v1656), 8 ∣ (k0_mult94 v1656).toNat := fun v1656 k0_hw94 => k0_hw94.1
theorem k0_off199_inb : ∀ (v1656 : BitVec 32) (k0_hw94 : k0_chk94 v1656), ∀ a, (k0_off199 v1656) a + S8x512.size a ≤ S20000x512.size a := fun v1656 k0_hw94 => k0_hw94.2

def k0_off200 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_555 : BitVec 32 := 64#32
  let v1670 : BitVec 32 := Scalar.addi v63 c64_i32_555
  let c30_i32_556 : BitVec 32 := 30#32
  let v1671 : BitVec 32 := Scalar.addi v1670 c30_i32_556
  let v1672 : Index := Scalar.indexCast v1671
  ![v1672.toNat]
def k0_mult95 (v1673 : BitVec 32) : BitVec 32 :=
  let c3_i32_557 : BitVec 32 := 3#32
  let v1674 : BitVec 32 := Scalar.shrsi v1673 c3_i32_557
  let c3_i32_558 : BitVec 32 := 3#32
  let v1675 : BitVec 32 := Scalar.shli v1674 c3_i32_558
  v1675

def k0_off201 (v1673 : BitVec 32) : Fin 2 → Nat :=
  let c3_i32_557 : BitVec 32 := 3#32
  let v1674 : BitVec 32 := Scalar.shrsi v1673 c3_i32_557
  let c3_i32_558 : BitVec 32 := 3#32
  let v1675 : BitVec 32 := Scalar.shli v1674 c3_i32_558
  let v1676 : BitVec 32 := v1675
  let v1677 : Index := Scalar.indexCast v1676
  let c0_559 : Index := 0#32
  ![v1677.toNat, 0]

def k0_chk95 (v1673 : BitVec 32) : Prop :=
  (8 ∣ (k0_mult95 v1673).toNat) ∧
  (∀ a, (k0_off201 v1673) a + S8x512.size a ≤ S20000x512.size a)
theorem k0_mult95_dvd : ∀ (v1673 : BitVec 32) (k0_hw95 : k0_chk95 v1673), 8 ∣ (k0_mult95 v1673).toNat := fun v1673 k0_hw95 => k0_hw95.1
theorem k0_off201_inb : ∀ (v1673 : BitVec 32) (k0_hw95 : k0_chk95 v1673), ∀ a, (k0_off201 v1673) a + S8x512.size a ≤ S20000x512.size a := fun v1673 k0_hw95 => k0_hw95.2

def k0_off202 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_561 : BitVec 32 := 64#32
  let v1687 : BitVec 32 := Scalar.addi v63 c64_i32_561
  let c31_i32_562 : BitVec 32 := 31#32
  let v1688 : BitVec 32 := Scalar.addi v1687 c31_i32_562
  let v1689 : Index := Scalar.indexCast v1688
  ![v1689.toNat]
def k0_mult96 (v1690 : BitVec 32) : BitVec 32 :=
  let c3_i32_563 : BitVec 32 := 3#32
  let v1691 : BitVec 32 := Scalar.shrsi v1690 c3_i32_563
  let c3_i32_564 : BitVec 32 := 3#32
  let v1692 : BitVec 32 := Scalar.shli v1691 c3_i32_564
  v1692

def k0_off203 (v1690 : BitVec 32) : Fin 2 → Nat :=
  let c3_i32_563 : BitVec 32 := 3#32
  let v1691 : BitVec 32 := Scalar.shrsi v1690 c3_i32_563
  let c3_i32_564 : BitVec 32 := 3#32
  let v1692 : BitVec 32 := Scalar.shli v1691 c3_i32_564
  let v1693 : BitVec 32 := v1692
  let v1694 : Index := Scalar.indexCast v1693
  let c0_565 : Index := 0#32
  ![v1694.toNat, 0]

def k0_chk96 (v1690 : BitVec 32) : Prop :=
  (8 ∣ (k0_mult96 v1690).toNat) ∧
  (∀ a, (k0_off203 v1690) a + S8x512.size a ≤ S20000x512.size a)
theorem k0_mult96_dvd : ∀ (v1690 : BitVec 32) (k0_hw96 : k0_chk96 v1690), 8 ∣ (k0_mult96 v1690).toNat := fun v1690 k0_hw96 => k0_hw96.1
theorem k0_off203_inb : ∀ (v1690 : BitVec 32) (k0_hw96 : k0_chk96 v1690), ∀ a, (k0_off203 v1690) a + S8x512.size a ≤ S20000x512.size a := fun v1690 k0_hw96 => k0_hw96.2

def k0_off204 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_567 : BitVec 32 := 64#32
  let v1704 : BitVec 32 := Scalar.addi v63 c64_i32_567
  let c32_i32_568 : BitVec 32 := 32#32
  let v1705 : BitVec 32 := Scalar.addi v1704 c32_i32_568
  let v1706 : Index := Scalar.indexCast v1705
  ![v1706.toNat]
def k0_mult97 (v1707 : BitVec 32) : BitVec 32 :=
  let c3_i32_569 : BitVec 32 := 3#32
  let v1708 : BitVec 32 := Scalar.shrsi v1707 c3_i32_569
  let c3_i32_570 : BitVec 32 := 3#32
  let v1709 : BitVec 32 := Scalar.shli v1708 c3_i32_570
  v1709

def k0_off205 (v1707 : BitVec 32) : Fin 2 → Nat :=
  let c3_i32_569 : BitVec 32 := 3#32
  let v1708 : BitVec 32 := Scalar.shrsi v1707 c3_i32_569
  let c3_i32_570 : BitVec 32 := 3#32
  let v1709 : BitVec 32 := Scalar.shli v1708 c3_i32_570
  let v1710 : BitVec 32 := v1709
  let v1711 : Index := Scalar.indexCast v1710
  let c0_571 : Index := 0#32
  ![v1711.toNat, 0]

def k0_chk97 (v1707 : BitVec 32) : Prop :=
  (8 ∣ (k0_mult97 v1707).toNat) ∧
  (∀ a, (k0_off205 v1707) a + S8x512.size a ≤ S20000x512.size a)
theorem k0_mult97_dvd : ∀ (v1707 : BitVec 32) (k0_hw97 : k0_chk97 v1707), 8 ∣ (k0_mult97 v1707).toNat := fun v1707 k0_hw97 => k0_hw97.1
theorem k0_off205_inb : ∀ (v1707 : BitVec 32) (k0_hw97 : k0_chk97 v1707), ∀ a, (k0_off205 v1707) a + S8x512.size a ≤ S20000x512.size a := fun v1707 k0_hw97 => k0_hw97.2

def k0_off206 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_573 : BitVec 32 := 64#32
  let v1721 : BitVec 32 := Scalar.addi v63 c64_i32_573
  let c33_i32_574 : BitVec 32 := 33#32
  let v1722 : BitVec 32 := Scalar.addi v1721 c33_i32_574
  let v1723 : Index := Scalar.indexCast v1722
  ![v1723.toNat]
def k0_mult98 (v1724 : BitVec 32) : BitVec 32 :=
  let c3_i32_575 : BitVec 32 := 3#32
  let v1725 : BitVec 32 := Scalar.shrsi v1724 c3_i32_575
  let c3_i32_576 : BitVec 32 := 3#32
  let v1726 : BitVec 32 := Scalar.shli v1725 c3_i32_576
  v1726

def k0_off207 (v1724 : BitVec 32) : Fin 2 → Nat :=
  let c3_i32_575 : BitVec 32 := 3#32
  let v1725 : BitVec 32 := Scalar.shrsi v1724 c3_i32_575
  let c3_i32_576 : BitVec 32 := 3#32
  let v1726 : BitVec 32 := Scalar.shli v1725 c3_i32_576
  let v1727 : BitVec 32 := v1726
  let v1728 : Index := Scalar.indexCast v1727
  let c0_577 : Index := 0#32
  ![v1728.toNat, 0]

def k0_chk98 (v1724 : BitVec 32) : Prop :=
  (8 ∣ (k0_mult98 v1724).toNat) ∧
  (∀ a, (k0_off207 v1724) a + S8x512.size a ≤ S20000x512.size a)
theorem k0_mult98_dvd : ∀ (v1724 : BitVec 32) (k0_hw98 : k0_chk98 v1724), 8 ∣ (k0_mult98 v1724).toNat := fun v1724 k0_hw98 => k0_hw98.1
theorem k0_off207_inb : ∀ (v1724 : BitVec 32) (k0_hw98 : k0_chk98 v1724), ∀ a, (k0_off207 v1724) a + S8x512.size a ≤ S20000x512.size a := fun v1724 k0_hw98 => k0_hw98.2

def k0_off208 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_579 : BitVec 32 := 64#32
  let v1738 : BitVec 32 := Scalar.addi v63 c64_i32_579
  let c34_i32_580 : BitVec 32 := 34#32
  let v1739 : BitVec 32 := Scalar.addi v1738 c34_i32_580
  let v1740 : Index := Scalar.indexCast v1739
  ![v1740.toNat]
def k0_mult99 (v1741 : BitVec 32) : BitVec 32 :=
  let c3_i32_581 : BitVec 32 := 3#32
  let v1742 : BitVec 32 := Scalar.shrsi v1741 c3_i32_581
  let c3_i32_582 : BitVec 32 := 3#32
  let v1743 : BitVec 32 := Scalar.shli v1742 c3_i32_582
  v1743

def k0_off209 (v1741 : BitVec 32) : Fin 2 → Nat :=
  let c3_i32_581 : BitVec 32 := 3#32
  let v1742 : BitVec 32 := Scalar.shrsi v1741 c3_i32_581
  let c3_i32_582 : BitVec 32 := 3#32
  let v1743 : BitVec 32 := Scalar.shli v1742 c3_i32_582
  let v1744 : BitVec 32 := v1743
  let v1745 : Index := Scalar.indexCast v1744
  let c0_583 : Index := 0#32
  ![v1745.toNat, 0]

def k0_chk99 (v1741 : BitVec 32) : Prop :=
  (8 ∣ (k0_mult99 v1741).toNat) ∧
  (∀ a, (k0_off209 v1741) a + S8x512.size a ≤ S20000x512.size a)
theorem k0_mult99_dvd : ∀ (v1741 : BitVec 32) (k0_hw99 : k0_chk99 v1741), 8 ∣ (k0_mult99 v1741).toNat := fun v1741 k0_hw99 => k0_hw99.1
theorem k0_off209_inb : ∀ (v1741 : BitVec 32) (k0_hw99 : k0_chk99 v1741), ∀ a, (k0_off209 v1741) a + S8x512.size a ≤ S20000x512.size a := fun v1741 k0_hw99 => k0_hw99.2

def k0_off210 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_585 : BitVec 32 := 64#32
  let v1755 : BitVec 32 := Scalar.addi v63 c64_i32_585
  let c35_i32_586 : BitVec 32 := 35#32
  let v1756 : BitVec 32 := Scalar.addi v1755 c35_i32_586
  let v1757 : Index := Scalar.indexCast v1756
  ![v1757.toNat]
def k0_mult100 (v1758 : BitVec 32) : BitVec 32 :=
  let c3_i32_587 : BitVec 32 := 3#32
  let v1759 : BitVec 32 := Scalar.shrsi v1758 c3_i32_587
  let c3_i32_588 : BitVec 32 := 3#32
  let v1760 : BitVec 32 := Scalar.shli v1759 c3_i32_588
  v1760

def k0_off211 (v1758 : BitVec 32) : Fin 2 → Nat :=
  let c3_i32_587 : BitVec 32 := 3#32
  let v1759 : BitVec 32 := Scalar.shrsi v1758 c3_i32_587
  let c3_i32_588 : BitVec 32 := 3#32
  let v1760 : BitVec 32 := Scalar.shli v1759 c3_i32_588
  let v1761 : BitVec 32 := v1760
  let v1762 : Index := Scalar.indexCast v1761
  let c0_589 : Index := 0#32
  ![v1762.toNat, 0]

def k0_chk100 (v1758 : BitVec 32) : Prop :=
  (8 ∣ (k0_mult100 v1758).toNat) ∧
  (∀ a, (k0_off211 v1758) a + S8x512.size a ≤ S20000x512.size a)
theorem k0_mult100_dvd : ∀ (v1758 : BitVec 32) (k0_hw100 : k0_chk100 v1758), 8 ∣ (k0_mult100 v1758).toNat := fun v1758 k0_hw100 => k0_hw100.1
theorem k0_off211_inb : ∀ (v1758 : BitVec 32) (k0_hw100 : k0_chk100 v1758), ∀ a, (k0_off211 v1758) a + S8x512.size a ≤ S20000x512.size a := fun v1758 k0_hw100 => k0_hw100.2

def k0_off212 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_591 : BitVec 32 := 64#32
  let v1772 : BitVec 32 := Scalar.addi v63 c64_i32_591
  let c36_i32_592 : BitVec 32 := 36#32
  let v1773 : BitVec 32 := Scalar.addi v1772 c36_i32_592
  let v1774 : Index := Scalar.indexCast v1773
  ![v1774.toNat]
def k0_mult101 (v1775 : BitVec 32) : BitVec 32 :=
  let c3_i32_593 : BitVec 32 := 3#32
  let v1776 : BitVec 32 := Scalar.shrsi v1775 c3_i32_593
  let c3_i32_594 : BitVec 32 := 3#32
  let v1777 : BitVec 32 := Scalar.shli v1776 c3_i32_594
  v1777

def k0_off213 (v1775 : BitVec 32) : Fin 2 → Nat :=
  let c3_i32_593 : BitVec 32 := 3#32
  let v1776 : BitVec 32 := Scalar.shrsi v1775 c3_i32_593
  let c3_i32_594 : BitVec 32 := 3#32
  let v1777 : BitVec 32 := Scalar.shli v1776 c3_i32_594
  let v1778 : BitVec 32 := v1777
  let v1779 : Index := Scalar.indexCast v1778
  let c0_595 : Index := 0#32
  ![v1779.toNat, 0]

def k0_chk101 (v1775 : BitVec 32) : Prop :=
  (8 ∣ (k0_mult101 v1775).toNat) ∧
  (∀ a, (k0_off213 v1775) a + S8x512.size a ≤ S20000x512.size a)
theorem k0_mult101_dvd : ∀ (v1775 : BitVec 32) (k0_hw101 : k0_chk101 v1775), 8 ∣ (k0_mult101 v1775).toNat := fun v1775 k0_hw101 => k0_hw101.1
theorem k0_off213_inb : ∀ (v1775 : BitVec 32) (k0_hw101 : k0_chk101 v1775), ∀ a, (k0_off213 v1775) a + S8x512.size a ≤ S20000x512.size a := fun v1775 k0_hw101 => k0_hw101.2

def k0_off214 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_597 : BitVec 32 := 64#32
  let v1789 : BitVec 32 := Scalar.addi v63 c64_i32_597
  let c37_i32_598 : BitVec 32 := 37#32
  let v1790 : BitVec 32 := Scalar.addi v1789 c37_i32_598
  let v1791 : Index := Scalar.indexCast v1790
  ![v1791.toNat]
def k0_mult102 (v1792 : BitVec 32) : BitVec 32 :=
  let c3_i32_599 : BitVec 32 := 3#32
  let v1793 : BitVec 32 := Scalar.shrsi v1792 c3_i32_599
  let c3_i32_600 : BitVec 32 := 3#32
  let v1794 : BitVec 32 := Scalar.shli v1793 c3_i32_600
  v1794

def k0_off215 (v1792 : BitVec 32) : Fin 2 → Nat :=
  let c3_i32_599 : BitVec 32 := 3#32
  let v1793 : BitVec 32 := Scalar.shrsi v1792 c3_i32_599
  let c3_i32_600 : BitVec 32 := 3#32
  let v1794 : BitVec 32 := Scalar.shli v1793 c3_i32_600
  let v1795 : BitVec 32 := v1794
  let v1796 : Index := Scalar.indexCast v1795
  let c0_601 : Index := 0#32
  ![v1796.toNat, 0]

def k0_chk102 (v1792 : BitVec 32) : Prop :=
  (8 ∣ (k0_mult102 v1792).toNat) ∧
  (∀ a, (k0_off215 v1792) a + S8x512.size a ≤ S20000x512.size a)
theorem k0_mult102_dvd : ∀ (v1792 : BitVec 32) (k0_hw102 : k0_chk102 v1792), 8 ∣ (k0_mult102 v1792).toNat := fun v1792 k0_hw102 => k0_hw102.1
theorem k0_off215_inb : ∀ (v1792 : BitVec 32) (k0_hw102 : k0_chk102 v1792), ∀ a, (k0_off215 v1792) a + S8x512.size a ≤ S20000x512.size a := fun v1792 k0_hw102 => k0_hw102.2

def k0_off216 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_603 : BitVec 32 := 64#32
  let v1806 : BitVec 32 := Scalar.addi v63 c64_i32_603
  let c38_i32_604 : BitVec 32 := 38#32
  let v1807 : BitVec 32 := Scalar.addi v1806 c38_i32_604
  let v1808 : Index := Scalar.indexCast v1807
  ![v1808.toNat]
def k0_mult103 (v1809 : BitVec 32) : BitVec 32 :=
  let c3_i32_605 : BitVec 32 := 3#32
  let v1810 : BitVec 32 := Scalar.shrsi v1809 c3_i32_605
  let c3_i32_606 : BitVec 32 := 3#32
  let v1811 : BitVec 32 := Scalar.shli v1810 c3_i32_606
  v1811

def k0_off217 (v1809 : BitVec 32) : Fin 2 → Nat :=
  let c3_i32_605 : BitVec 32 := 3#32
  let v1810 : BitVec 32 := Scalar.shrsi v1809 c3_i32_605
  let c3_i32_606 : BitVec 32 := 3#32
  let v1811 : BitVec 32 := Scalar.shli v1810 c3_i32_606
  let v1812 : BitVec 32 := v1811
  let v1813 : Index := Scalar.indexCast v1812
  let c0_607 : Index := 0#32
  ![v1813.toNat, 0]

def k0_chk103 (v1809 : BitVec 32) : Prop :=
  (8 ∣ (k0_mult103 v1809).toNat) ∧
  (∀ a, (k0_off217 v1809) a + S8x512.size a ≤ S20000x512.size a)
theorem k0_mult103_dvd : ∀ (v1809 : BitVec 32) (k0_hw103 : k0_chk103 v1809), 8 ∣ (k0_mult103 v1809).toNat := fun v1809 k0_hw103 => k0_hw103.1
theorem k0_off217_inb : ∀ (v1809 : BitVec 32) (k0_hw103 : k0_chk103 v1809), ∀ a, (k0_off217 v1809) a + S8x512.size a ≤ S20000x512.size a := fun v1809 k0_hw103 => k0_hw103.2

def k0_off218 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_609 : BitVec 32 := 64#32
  let v1823 : BitVec 32 := Scalar.addi v63 c64_i32_609
  let c39_i32_610 : BitVec 32 := 39#32
  let v1824 : BitVec 32 := Scalar.addi v1823 c39_i32_610
  let v1825 : Index := Scalar.indexCast v1824
  ![v1825.toNat]
def k0_mult104 (v1826 : BitVec 32) : BitVec 32 :=
  let c3_i32_611 : BitVec 32 := 3#32
  let v1827 : BitVec 32 := Scalar.shrsi v1826 c3_i32_611
  let c3_i32_612 : BitVec 32 := 3#32
  let v1828 : BitVec 32 := Scalar.shli v1827 c3_i32_612
  v1828

def k0_off219 (v1826 : BitVec 32) : Fin 2 → Nat :=
  let c3_i32_611 : BitVec 32 := 3#32
  let v1827 : BitVec 32 := Scalar.shrsi v1826 c3_i32_611
  let c3_i32_612 : BitVec 32 := 3#32
  let v1828 : BitVec 32 := Scalar.shli v1827 c3_i32_612
  let v1829 : BitVec 32 := v1828
  let v1830 : Index := Scalar.indexCast v1829
  let c0_613 : Index := 0#32
  ![v1830.toNat, 0]

def k0_chk104 (v1826 : BitVec 32) : Prop :=
  (8 ∣ (k0_mult104 v1826).toNat) ∧
  (∀ a, (k0_off219 v1826) a + S8x512.size a ≤ S20000x512.size a)
theorem k0_mult104_dvd : ∀ (v1826 : BitVec 32) (k0_hw104 : k0_chk104 v1826), 8 ∣ (k0_mult104 v1826).toNat := fun v1826 k0_hw104 => k0_hw104.1
theorem k0_off219_inb : ∀ (v1826 : BitVec 32) (k0_hw104 : k0_chk104 v1826), ∀ a, (k0_off219 v1826) a + S8x512.size a ≤ S20000x512.size a := fun v1826 k0_hw104 => k0_hw104.2

def k0_off220 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_615 : BitVec 32 := 64#32
  let v1840 : BitVec 32 := Scalar.addi v63 c64_i32_615
  let c40_i32_616 : BitVec 32 := 40#32
  let v1841 : BitVec 32 := Scalar.addi v1840 c40_i32_616
  let v1842 : Index := Scalar.indexCast v1841
  ![v1842.toNat]
def k0_mult105 (v1843 : BitVec 32) : BitVec 32 :=
  let c3_i32_617 : BitVec 32 := 3#32
  let v1844 : BitVec 32 := Scalar.shrsi v1843 c3_i32_617
  let c3_i32_618 : BitVec 32 := 3#32
  let v1845 : BitVec 32 := Scalar.shli v1844 c3_i32_618
  v1845

def k0_off221 (v1843 : BitVec 32) : Fin 2 → Nat :=
  let c3_i32_617 : BitVec 32 := 3#32
  let v1844 : BitVec 32 := Scalar.shrsi v1843 c3_i32_617
  let c3_i32_618 : BitVec 32 := 3#32
  let v1845 : BitVec 32 := Scalar.shli v1844 c3_i32_618
  let v1846 : BitVec 32 := v1845
  let v1847 : Index := Scalar.indexCast v1846
  let c0_619 : Index := 0#32
  ![v1847.toNat, 0]

def k0_chk105 (v1843 : BitVec 32) : Prop :=
  (8 ∣ (k0_mult105 v1843).toNat) ∧
  (∀ a, (k0_off221 v1843) a + S8x512.size a ≤ S20000x512.size a)
theorem k0_mult105_dvd : ∀ (v1843 : BitVec 32) (k0_hw105 : k0_chk105 v1843), 8 ∣ (k0_mult105 v1843).toNat := fun v1843 k0_hw105 => k0_hw105.1
theorem k0_off221_inb : ∀ (v1843 : BitVec 32) (k0_hw105 : k0_chk105 v1843), ∀ a, (k0_off221 v1843) a + S8x512.size a ≤ S20000x512.size a := fun v1843 k0_hw105 => k0_hw105.2

def k0_off222 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_621 : BitVec 32 := 64#32
  let v1857 : BitVec 32 := Scalar.addi v63 c64_i32_621
  let c41_i32_622 : BitVec 32 := 41#32
  let v1858 : BitVec 32 := Scalar.addi v1857 c41_i32_622
  let v1859 : Index := Scalar.indexCast v1858
  ![v1859.toNat]
def k0_mult106 (v1860 : BitVec 32) : BitVec 32 :=
  let c3_i32_623 : BitVec 32 := 3#32
  let v1861 : BitVec 32 := Scalar.shrsi v1860 c3_i32_623
  let c3_i32_624 : BitVec 32 := 3#32
  let v1862 : BitVec 32 := Scalar.shli v1861 c3_i32_624
  v1862

def k0_off223 (v1860 : BitVec 32) : Fin 2 → Nat :=
  let c3_i32_623 : BitVec 32 := 3#32
  let v1861 : BitVec 32 := Scalar.shrsi v1860 c3_i32_623
  let c3_i32_624 : BitVec 32 := 3#32
  let v1862 : BitVec 32 := Scalar.shli v1861 c3_i32_624
  let v1863 : BitVec 32 := v1862
  let v1864 : Index := Scalar.indexCast v1863
  let c0_625 : Index := 0#32
  ![v1864.toNat, 0]

def k0_chk106 (v1860 : BitVec 32) : Prop :=
  (8 ∣ (k0_mult106 v1860).toNat) ∧
  (∀ a, (k0_off223 v1860) a + S8x512.size a ≤ S20000x512.size a)
theorem k0_mult106_dvd : ∀ (v1860 : BitVec 32) (k0_hw106 : k0_chk106 v1860), 8 ∣ (k0_mult106 v1860).toNat := fun v1860 k0_hw106 => k0_hw106.1
theorem k0_off223_inb : ∀ (v1860 : BitVec 32) (k0_hw106 : k0_chk106 v1860), ∀ a, (k0_off223 v1860) a + S8x512.size a ≤ S20000x512.size a := fun v1860 k0_hw106 => k0_hw106.2

def k0_off224 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_627 : BitVec 32 := 64#32
  let v1874 : BitVec 32 := Scalar.addi v63 c64_i32_627
  let c42_i32_628 : BitVec 32 := 42#32
  let v1875 : BitVec 32 := Scalar.addi v1874 c42_i32_628
  let v1876 : Index := Scalar.indexCast v1875
  ![v1876.toNat]
def k0_mult107 (v1877 : BitVec 32) : BitVec 32 :=
  let c3_i32_629 : BitVec 32 := 3#32
  let v1878 : BitVec 32 := Scalar.shrsi v1877 c3_i32_629
  let c3_i32_630 : BitVec 32 := 3#32
  let v1879 : BitVec 32 := Scalar.shli v1878 c3_i32_630
  v1879

def k0_off225 (v1877 : BitVec 32) : Fin 2 → Nat :=
  let c3_i32_629 : BitVec 32 := 3#32
  let v1878 : BitVec 32 := Scalar.shrsi v1877 c3_i32_629
  let c3_i32_630 : BitVec 32 := 3#32
  let v1879 : BitVec 32 := Scalar.shli v1878 c3_i32_630
  let v1880 : BitVec 32 := v1879
  let v1881 : Index := Scalar.indexCast v1880
  let c0_631 : Index := 0#32
  ![v1881.toNat, 0]

def k0_chk107 (v1877 : BitVec 32) : Prop :=
  (8 ∣ (k0_mult107 v1877).toNat) ∧
  (∀ a, (k0_off225 v1877) a + S8x512.size a ≤ S20000x512.size a)
theorem k0_mult107_dvd : ∀ (v1877 : BitVec 32) (k0_hw107 : k0_chk107 v1877), 8 ∣ (k0_mult107 v1877).toNat := fun v1877 k0_hw107 => k0_hw107.1
theorem k0_off225_inb : ∀ (v1877 : BitVec 32) (k0_hw107 : k0_chk107 v1877), ∀ a, (k0_off225 v1877) a + S8x512.size a ≤ S20000x512.size a := fun v1877 k0_hw107 => k0_hw107.2

def k0_off226 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_633 : BitVec 32 := 64#32
  let v1891 : BitVec 32 := Scalar.addi v63 c64_i32_633
  let c43_i32_634 : BitVec 32 := 43#32
  let v1892 : BitVec 32 := Scalar.addi v1891 c43_i32_634
  let v1893 : Index := Scalar.indexCast v1892
  ![v1893.toNat]
def k0_mult108 (v1894 : BitVec 32) : BitVec 32 :=
  let c3_i32_635 : BitVec 32 := 3#32
  let v1895 : BitVec 32 := Scalar.shrsi v1894 c3_i32_635
  let c3_i32_636 : BitVec 32 := 3#32
  let v1896 : BitVec 32 := Scalar.shli v1895 c3_i32_636
  v1896

def k0_off227 (v1894 : BitVec 32) : Fin 2 → Nat :=
  let c3_i32_635 : BitVec 32 := 3#32
  let v1895 : BitVec 32 := Scalar.shrsi v1894 c3_i32_635
  let c3_i32_636 : BitVec 32 := 3#32
  let v1896 : BitVec 32 := Scalar.shli v1895 c3_i32_636
  let v1897 : BitVec 32 := v1896
  let v1898 : Index := Scalar.indexCast v1897
  let c0_637 : Index := 0#32
  ![v1898.toNat, 0]

def k0_chk108 (v1894 : BitVec 32) : Prop :=
  (8 ∣ (k0_mult108 v1894).toNat) ∧
  (∀ a, (k0_off227 v1894) a + S8x512.size a ≤ S20000x512.size a)
theorem k0_mult108_dvd : ∀ (v1894 : BitVec 32) (k0_hw108 : k0_chk108 v1894), 8 ∣ (k0_mult108 v1894).toNat := fun v1894 k0_hw108 => k0_hw108.1
theorem k0_off227_inb : ∀ (v1894 : BitVec 32) (k0_hw108 : k0_chk108 v1894), ∀ a, (k0_off227 v1894) a + S8x512.size a ≤ S20000x512.size a := fun v1894 k0_hw108 => k0_hw108.2

def k0_off228 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_639 : BitVec 32 := 64#32
  let v1908 : BitVec 32 := Scalar.addi v63 c64_i32_639
  let c44_i32_640 : BitVec 32 := 44#32
  let v1909 : BitVec 32 := Scalar.addi v1908 c44_i32_640
  let v1910 : Index := Scalar.indexCast v1909
  ![v1910.toNat]
def k0_mult109 (v1911 : BitVec 32) : BitVec 32 :=
  let c3_i32_641 : BitVec 32 := 3#32
  let v1912 : BitVec 32 := Scalar.shrsi v1911 c3_i32_641
  let c3_i32_642 : BitVec 32 := 3#32
  let v1913 : BitVec 32 := Scalar.shli v1912 c3_i32_642
  v1913

def k0_off229 (v1911 : BitVec 32) : Fin 2 → Nat :=
  let c3_i32_641 : BitVec 32 := 3#32
  let v1912 : BitVec 32 := Scalar.shrsi v1911 c3_i32_641
  let c3_i32_642 : BitVec 32 := 3#32
  let v1913 : BitVec 32 := Scalar.shli v1912 c3_i32_642
  let v1914 : BitVec 32 := v1913
  let v1915 : Index := Scalar.indexCast v1914
  let c0_643 : Index := 0#32
  ![v1915.toNat, 0]

def k0_chk109 (v1911 : BitVec 32) : Prop :=
  (8 ∣ (k0_mult109 v1911).toNat) ∧
  (∀ a, (k0_off229 v1911) a + S8x512.size a ≤ S20000x512.size a)
theorem k0_mult109_dvd : ∀ (v1911 : BitVec 32) (k0_hw109 : k0_chk109 v1911), 8 ∣ (k0_mult109 v1911).toNat := fun v1911 k0_hw109 => k0_hw109.1
theorem k0_off229_inb : ∀ (v1911 : BitVec 32) (k0_hw109 : k0_chk109 v1911), ∀ a, (k0_off229 v1911) a + S8x512.size a ≤ S20000x512.size a := fun v1911 k0_hw109 => k0_hw109.2

def k0_off230 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_645 : BitVec 32 := 64#32
  let v1925 : BitVec 32 := Scalar.addi v63 c64_i32_645
  let c45_i32_646 : BitVec 32 := 45#32
  let v1926 : BitVec 32 := Scalar.addi v1925 c45_i32_646
  let v1927 : Index := Scalar.indexCast v1926
  ![v1927.toNat]
def k0_mult110 (v1928 : BitVec 32) : BitVec 32 :=
  let c3_i32_647 : BitVec 32 := 3#32
  let v1929 : BitVec 32 := Scalar.shrsi v1928 c3_i32_647
  let c3_i32_648 : BitVec 32 := 3#32
  let v1930 : BitVec 32 := Scalar.shli v1929 c3_i32_648
  v1930

def k0_off231 (v1928 : BitVec 32) : Fin 2 → Nat :=
  let c3_i32_647 : BitVec 32 := 3#32
  let v1929 : BitVec 32 := Scalar.shrsi v1928 c3_i32_647
  let c3_i32_648 : BitVec 32 := 3#32
  let v1930 : BitVec 32 := Scalar.shli v1929 c3_i32_648
  let v1931 : BitVec 32 := v1930
  let v1932 : Index := Scalar.indexCast v1931
  let c0_649 : Index := 0#32
  ![v1932.toNat, 0]

def k0_chk110 (v1928 : BitVec 32) : Prop :=
  (8 ∣ (k0_mult110 v1928).toNat) ∧
  (∀ a, (k0_off231 v1928) a + S8x512.size a ≤ S20000x512.size a)
theorem k0_mult110_dvd : ∀ (v1928 : BitVec 32) (k0_hw110 : k0_chk110 v1928), 8 ∣ (k0_mult110 v1928).toNat := fun v1928 k0_hw110 => k0_hw110.1
theorem k0_off231_inb : ∀ (v1928 : BitVec 32) (k0_hw110 : k0_chk110 v1928), ∀ a, (k0_off231 v1928) a + S8x512.size a ≤ S20000x512.size a := fun v1928 k0_hw110 => k0_hw110.2

def k0_off232 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_651 : BitVec 32 := 64#32
  let v1942 : BitVec 32 := Scalar.addi v63 c64_i32_651
  let c46_i32_652 : BitVec 32 := 46#32
  let v1943 : BitVec 32 := Scalar.addi v1942 c46_i32_652
  let v1944 : Index := Scalar.indexCast v1943
  ![v1944.toNat]
def k0_mult111 (v1945 : BitVec 32) : BitVec 32 :=
  let c3_i32_653 : BitVec 32 := 3#32
  let v1946 : BitVec 32 := Scalar.shrsi v1945 c3_i32_653
  let c3_i32_654 : BitVec 32 := 3#32
  let v1947 : BitVec 32 := Scalar.shli v1946 c3_i32_654
  v1947

def k0_off233 (v1945 : BitVec 32) : Fin 2 → Nat :=
  let c3_i32_653 : BitVec 32 := 3#32
  let v1946 : BitVec 32 := Scalar.shrsi v1945 c3_i32_653
  let c3_i32_654 : BitVec 32 := 3#32
  let v1947 : BitVec 32 := Scalar.shli v1946 c3_i32_654
  let v1948 : BitVec 32 := v1947
  let v1949 : Index := Scalar.indexCast v1948
  let c0_655 : Index := 0#32
  ![v1949.toNat, 0]

def k0_chk111 (v1945 : BitVec 32) : Prop :=
  (8 ∣ (k0_mult111 v1945).toNat) ∧
  (∀ a, (k0_off233 v1945) a + S8x512.size a ≤ S20000x512.size a)
theorem k0_mult111_dvd : ∀ (v1945 : BitVec 32) (k0_hw111 : k0_chk111 v1945), 8 ∣ (k0_mult111 v1945).toNat := fun v1945 k0_hw111 => k0_hw111.1
theorem k0_off233_inb : ∀ (v1945 : BitVec 32) (k0_hw111 : k0_chk111 v1945), ∀ a, (k0_off233 v1945) a + S8x512.size a ≤ S20000x512.size a := fun v1945 k0_hw111 => k0_hw111.2

def k0_off234 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_657 : BitVec 32 := 64#32
  let v1959 : BitVec 32 := Scalar.addi v63 c64_i32_657
  let c47_i32_658 : BitVec 32 := 47#32
  let v1960 : BitVec 32 := Scalar.addi v1959 c47_i32_658
  let v1961 : Index := Scalar.indexCast v1960
  ![v1961.toNat]
def k0_mult112 (v1962 : BitVec 32) : BitVec 32 :=
  let c3_i32_659 : BitVec 32 := 3#32
  let v1963 : BitVec 32 := Scalar.shrsi v1962 c3_i32_659
  let c3_i32_660 : BitVec 32 := 3#32
  let v1964 : BitVec 32 := Scalar.shli v1963 c3_i32_660
  v1964

def k0_off235 (v1962 : BitVec 32) : Fin 2 → Nat :=
  let c3_i32_659 : BitVec 32 := 3#32
  let v1963 : BitVec 32 := Scalar.shrsi v1962 c3_i32_659
  let c3_i32_660 : BitVec 32 := 3#32
  let v1964 : BitVec 32 := Scalar.shli v1963 c3_i32_660
  let v1965 : BitVec 32 := v1964
  let v1966 : Index := Scalar.indexCast v1965
  let c0_661 : Index := 0#32
  ![v1966.toNat, 0]

def k0_chk112 (v1962 : BitVec 32) : Prop :=
  (8 ∣ (k0_mult112 v1962).toNat) ∧
  (∀ a, (k0_off235 v1962) a + S8x512.size a ≤ S20000x512.size a)
theorem k0_mult112_dvd : ∀ (v1962 : BitVec 32) (k0_hw112 : k0_chk112 v1962), 8 ∣ (k0_mult112 v1962).toNat := fun v1962 k0_hw112 => k0_hw112.1
theorem k0_off235_inb : ∀ (v1962 : BitVec 32) (k0_hw112 : k0_chk112 v1962), ∀ a, (k0_off235 v1962) a + S8x512.size a ≤ S20000x512.size a := fun v1962 k0_hw112 => k0_hw112.2

def k0_off236 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_663 : BitVec 32 := 64#32
  let v1976 : BitVec 32 := Scalar.addi v63 c64_i32_663
  let c48_i32_664 : BitVec 32 := 48#32
  let v1977 : BitVec 32 := Scalar.addi v1976 c48_i32_664
  let v1978 : Index := Scalar.indexCast v1977
  ![v1978.toNat]
def k0_mult113 (v1979 : BitVec 32) : BitVec 32 :=
  let c3_i32_665 : BitVec 32 := 3#32
  let v1980 : BitVec 32 := Scalar.shrsi v1979 c3_i32_665
  let c3_i32_666 : BitVec 32 := 3#32
  let v1981 : BitVec 32 := Scalar.shli v1980 c3_i32_666
  v1981

def k0_off237 (v1979 : BitVec 32) : Fin 2 → Nat :=
  let c3_i32_665 : BitVec 32 := 3#32
  let v1980 : BitVec 32 := Scalar.shrsi v1979 c3_i32_665
  let c3_i32_666 : BitVec 32 := 3#32
  let v1981 : BitVec 32 := Scalar.shli v1980 c3_i32_666
  let v1982 : BitVec 32 := v1981
  let v1983 : Index := Scalar.indexCast v1982
  let c0_667 : Index := 0#32
  ![v1983.toNat, 0]

def k0_chk113 (v1979 : BitVec 32) : Prop :=
  (8 ∣ (k0_mult113 v1979).toNat) ∧
  (∀ a, (k0_off237 v1979) a + S8x512.size a ≤ S20000x512.size a)
theorem k0_mult113_dvd : ∀ (v1979 : BitVec 32) (k0_hw113 : k0_chk113 v1979), 8 ∣ (k0_mult113 v1979).toNat := fun v1979 k0_hw113 => k0_hw113.1
theorem k0_off237_inb : ∀ (v1979 : BitVec 32) (k0_hw113 : k0_chk113 v1979), ∀ a, (k0_off237 v1979) a + S8x512.size a ≤ S20000x512.size a := fun v1979 k0_hw113 => k0_hw113.2

def k0_off238 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_669 : BitVec 32 := 64#32
  let v1993 : BitVec 32 := Scalar.addi v63 c64_i32_669
  let c49_i32_670 : BitVec 32 := 49#32
  let v1994 : BitVec 32 := Scalar.addi v1993 c49_i32_670
  let v1995 : Index := Scalar.indexCast v1994
  ![v1995.toNat]
def k0_mult114 (v1996 : BitVec 32) : BitVec 32 :=
  let c3_i32_671 : BitVec 32 := 3#32
  let v1997 : BitVec 32 := Scalar.shrsi v1996 c3_i32_671
  let c3_i32_672 : BitVec 32 := 3#32
  let v1998 : BitVec 32 := Scalar.shli v1997 c3_i32_672
  v1998

def k0_off239 (v1996 : BitVec 32) : Fin 2 → Nat :=
  let c3_i32_671 : BitVec 32 := 3#32
  let v1997 : BitVec 32 := Scalar.shrsi v1996 c3_i32_671
  let c3_i32_672 : BitVec 32 := 3#32
  let v1998 : BitVec 32 := Scalar.shli v1997 c3_i32_672
  let v1999 : BitVec 32 := v1998
  let v2000 : Index := Scalar.indexCast v1999
  let c0_673 : Index := 0#32
  ![v2000.toNat, 0]

def k0_chk114 (v1996 : BitVec 32) : Prop :=
  (8 ∣ (k0_mult114 v1996).toNat) ∧
  (∀ a, (k0_off239 v1996) a + S8x512.size a ≤ S20000x512.size a)
theorem k0_mult114_dvd : ∀ (v1996 : BitVec 32) (k0_hw114 : k0_chk114 v1996), 8 ∣ (k0_mult114 v1996).toNat := fun v1996 k0_hw114 => k0_hw114.1
theorem k0_off239_inb : ∀ (v1996 : BitVec 32) (k0_hw114 : k0_chk114 v1996), ∀ a, (k0_off239 v1996) a + S8x512.size a ≤ S20000x512.size a := fun v1996 k0_hw114 => k0_hw114.2

def k0_off240 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_675 : BitVec 32 := 64#32
  let v2010 : BitVec 32 := Scalar.addi v63 c64_i32_675
  let c50_i32_676 : BitVec 32 := 50#32
  let v2011 : BitVec 32 := Scalar.addi v2010 c50_i32_676
  let v2012 : Index := Scalar.indexCast v2011
  ![v2012.toNat]
def k0_mult115 (v2013 : BitVec 32) : BitVec 32 :=
  let c3_i32_677 : BitVec 32 := 3#32
  let v2014 : BitVec 32 := Scalar.shrsi v2013 c3_i32_677
  let c3_i32_678 : BitVec 32 := 3#32
  let v2015 : BitVec 32 := Scalar.shli v2014 c3_i32_678
  v2015

def k0_off241 (v2013 : BitVec 32) : Fin 2 → Nat :=
  let c3_i32_677 : BitVec 32 := 3#32
  let v2014 : BitVec 32 := Scalar.shrsi v2013 c3_i32_677
  let c3_i32_678 : BitVec 32 := 3#32
  let v2015 : BitVec 32 := Scalar.shli v2014 c3_i32_678
  let v2016 : BitVec 32 := v2015
  let v2017 : Index := Scalar.indexCast v2016
  let c0_679 : Index := 0#32
  ![v2017.toNat, 0]

def k0_chk115 (v2013 : BitVec 32) : Prop :=
  (8 ∣ (k0_mult115 v2013).toNat) ∧
  (∀ a, (k0_off241 v2013) a + S8x512.size a ≤ S20000x512.size a)
theorem k0_mult115_dvd : ∀ (v2013 : BitVec 32) (k0_hw115 : k0_chk115 v2013), 8 ∣ (k0_mult115 v2013).toNat := fun v2013 k0_hw115 => k0_hw115.1
theorem k0_off241_inb : ∀ (v2013 : BitVec 32) (k0_hw115 : k0_chk115 v2013), ∀ a, (k0_off241 v2013) a + S8x512.size a ≤ S20000x512.size a := fun v2013 k0_hw115 => k0_hw115.2

def k0_off242 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_681 : BitVec 32 := 64#32
  let v2027 : BitVec 32 := Scalar.addi v63 c64_i32_681
  let c51_i32_682 : BitVec 32 := 51#32
  let v2028 : BitVec 32 := Scalar.addi v2027 c51_i32_682
  let v2029 : Index := Scalar.indexCast v2028
  ![v2029.toNat]
def k0_mult116 (v2030 : BitVec 32) : BitVec 32 :=
  let c3_i32_683 : BitVec 32 := 3#32
  let v2031 : BitVec 32 := Scalar.shrsi v2030 c3_i32_683
  let c3_i32_684 : BitVec 32 := 3#32
  let v2032 : BitVec 32 := Scalar.shli v2031 c3_i32_684
  v2032

def k0_off243 (v2030 : BitVec 32) : Fin 2 → Nat :=
  let c3_i32_683 : BitVec 32 := 3#32
  let v2031 : BitVec 32 := Scalar.shrsi v2030 c3_i32_683
  let c3_i32_684 : BitVec 32 := 3#32
  let v2032 : BitVec 32 := Scalar.shli v2031 c3_i32_684
  let v2033 : BitVec 32 := v2032
  let v2034 : Index := Scalar.indexCast v2033
  let c0_685 : Index := 0#32
  ![v2034.toNat, 0]

def k0_chk116 (v2030 : BitVec 32) : Prop :=
  (8 ∣ (k0_mult116 v2030).toNat) ∧
  (∀ a, (k0_off243 v2030) a + S8x512.size a ≤ S20000x512.size a)
theorem k0_mult116_dvd : ∀ (v2030 : BitVec 32) (k0_hw116 : k0_chk116 v2030), 8 ∣ (k0_mult116 v2030).toNat := fun v2030 k0_hw116 => k0_hw116.1
theorem k0_off243_inb : ∀ (v2030 : BitVec 32) (k0_hw116 : k0_chk116 v2030), ∀ a, (k0_off243 v2030) a + S8x512.size a ≤ S20000x512.size a := fun v2030 k0_hw116 => k0_hw116.2

def k0_off244 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_687 : BitVec 32 := 64#32
  let v2044 : BitVec 32 := Scalar.addi v63 c64_i32_687
  let c52_i32_688 : BitVec 32 := 52#32
  let v2045 : BitVec 32 := Scalar.addi v2044 c52_i32_688
  let v2046 : Index := Scalar.indexCast v2045
  ![v2046.toNat]
def k0_mult117 (v2047 : BitVec 32) : BitVec 32 :=
  let c3_i32_689 : BitVec 32 := 3#32
  let v2048 : BitVec 32 := Scalar.shrsi v2047 c3_i32_689
  let c3_i32_690 : BitVec 32 := 3#32
  let v2049 : BitVec 32 := Scalar.shli v2048 c3_i32_690
  v2049

def k0_off245 (v2047 : BitVec 32) : Fin 2 → Nat :=
  let c3_i32_689 : BitVec 32 := 3#32
  let v2048 : BitVec 32 := Scalar.shrsi v2047 c3_i32_689
  let c3_i32_690 : BitVec 32 := 3#32
  let v2049 : BitVec 32 := Scalar.shli v2048 c3_i32_690
  let v2050 : BitVec 32 := v2049
  let v2051 : Index := Scalar.indexCast v2050
  let c0_691 : Index := 0#32
  ![v2051.toNat, 0]

def k0_chk117 (v2047 : BitVec 32) : Prop :=
  (8 ∣ (k0_mult117 v2047).toNat) ∧
  (∀ a, (k0_off245 v2047) a + S8x512.size a ≤ S20000x512.size a)
theorem k0_mult117_dvd : ∀ (v2047 : BitVec 32) (k0_hw117 : k0_chk117 v2047), 8 ∣ (k0_mult117 v2047).toNat := fun v2047 k0_hw117 => k0_hw117.1
theorem k0_off245_inb : ∀ (v2047 : BitVec 32) (k0_hw117 : k0_chk117 v2047), ∀ a, (k0_off245 v2047) a + S8x512.size a ≤ S20000x512.size a := fun v2047 k0_hw117 => k0_hw117.2

def k0_off246 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_693 : BitVec 32 := 64#32
  let v2061 : BitVec 32 := Scalar.addi v63 c64_i32_693
  let c53_i32_694 : BitVec 32 := 53#32
  let v2062 : BitVec 32 := Scalar.addi v2061 c53_i32_694
  let v2063 : Index := Scalar.indexCast v2062
  ![v2063.toNat]
def k0_mult118 (v2064 : BitVec 32) : BitVec 32 :=
  let c3_i32_695 : BitVec 32 := 3#32
  let v2065 : BitVec 32 := Scalar.shrsi v2064 c3_i32_695
  let c3_i32_696 : BitVec 32 := 3#32
  let v2066 : BitVec 32 := Scalar.shli v2065 c3_i32_696
  v2066

def k0_off247 (v2064 : BitVec 32) : Fin 2 → Nat :=
  let c3_i32_695 : BitVec 32 := 3#32
  let v2065 : BitVec 32 := Scalar.shrsi v2064 c3_i32_695
  let c3_i32_696 : BitVec 32 := 3#32
  let v2066 : BitVec 32 := Scalar.shli v2065 c3_i32_696
  let v2067 : BitVec 32 := v2066
  let v2068 : Index := Scalar.indexCast v2067
  let c0_697 : Index := 0#32
  ![v2068.toNat, 0]

def k0_chk118 (v2064 : BitVec 32) : Prop :=
  (8 ∣ (k0_mult118 v2064).toNat) ∧
  (∀ a, (k0_off247 v2064) a + S8x512.size a ≤ S20000x512.size a)
theorem k0_mult118_dvd : ∀ (v2064 : BitVec 32) (k0_hw118 : k0_chk118 v2064), 8 ∣ (k0_mult118 v2064).toNat := fun v2064 k0_hw118 => k0_hw118.1
theorem k0_off247_inb : ∀ (v2064 : BitVec 32) (k0_hw118 : k0_chk118 v2064), ∀ a, (k0_off247 v2064) a + S8x512.size a ≤ S20000x512.size a := fun v2064 k0_hw118 => k0_hw118.2

def k0_off248 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_699 : BitVec 32 := 64#32
  let v2078 : BitVec 32 := Scalar.addi v63 c64_i32_699
  let c54_i32_700 : BitVec 32 := 54#32
  let v2079 : BitVec 32 := Scalar.addi v2078 c54_i32_700
  let v2080 : Index := Scalar.indexCast v2079
  ![v2080.toNat]
def k0_mult119 (v2081 : BitVec 32) : BitVec 32 :=
  let c3_i32_701 : BitVec 32 := 3#32
  let v2082 : BitVec 32 := Scalar.shrsi v2081 c3_i32_701
  let c3_i32_702 : BitVec 32 := 3#32
  let v2083 : BitVec 32 := Scalar.shli v2082 c3_i32_702
  v2083

def k0_off249 (v2081 : BitVec 32) : Fin 2 → Nat :=
  let c3_i32_701 : BitVec 32 := 3#32
  let v2082 : BitVec 32 := Scalar.shrsi v2081 c3_i32_701
  let c3_i32_702 : BitVec 32 := 3#32
  let v2083 : BitVec 32 := Scalar.shli v2082 c3_i32_702
  let v2084 : BitVec 32 := v2083
  let v2085 : Index := Scalar.indexCast v2084
  let c0_703 : Index := 0#32
  ![v2085.toNat, 0]

def k0_chk119 (v2081 : BitVec 32) : Prop :=
  (8 ∣ (k0_mult119 v2081).toNat) ∧
  (∀ a, (k0_off249 v2081) a + S8x512.size a ≤ S20000x512.size a)
theorem k0_mult119_dvd : ∀ (v2081 : BitVec 32) (k0_hw119 : k0_chk119 v2081), 8 ∣ (k0_mult119 v2081).toNat := fun v2081 k0_hw119 => k0_hw119.1
theorem k0_off249_inb : ∀ (v2081 : BitVec 32) (k0_hw119 : k0_chk119 v2081), ∀ a, (k0_off249 v2081) a + S8x512.size a ≤ S20000x512.size a := fun v2081 k0_hw119 => k0_hw119.2

def k0_off250 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_705 : BitVec 32 := 64#32
  let v2095 : BitVec 32 := Scalar.addi v63 c64_i32_705
  let c55_i32_706 : BitVec 32 := 55#32
  let v2096 : BitVec 32 := Scalar.addi v2095 c55_i32_706
  let v2097 : Index := Scalar.indexCast v2096
  ![v2097.toNat]
def k0_mult120 (v2098 : BitVec 32) : BitVec 32 :=
  let c3_i32_707 : BitVec 32 := 3#32
  let v2099 : BitVec 32 := Scalar.shrsi v2098 c3_i32_707
  let c3_i32_708 : BitVec 32 := 3#32
  let v2100 : BitVec 32 := Scalar.shli v2099 c3_i32_708
  v2100

def k0_off251 (v2098 : BitVec 32) : Fin 2 → Nat :=
  let c3_i32_707 : BitVec 32 := 3#32
  let v2099 : BitVec 32 := Scalar.shrsi v2098 c3_i32_707
  let c3_i32_708 : BitVec 32 := 3#32
  let v2100 : BitVec 32 := Scalar.shli v2099 c3_i32_708
  let v2101 : BitVec 32 := v2100
  let v2102 : Index := Scalar.indexCast v2101
  let c0_709 : Index := 0#32
  ![v2102.toNat, 0]

def k0_chk120 (v2098 : BitVec 32) : Prop :=
  (8 ∣ (k0_mult120 v2098).toNat) ∧
  (∀ a, (k0_off251 v2098) a + S8x512.size a ≤ S20000x512.size a)
theorem k0_mult120_dvd : ∀ (v2098 : BitVec 32) (k0_hw120 : k0_chk120 v2098), 8 ∣ (k0_mult120 v2098).toNat := fun v2098 k0_hw120 => k0_hw120.1
theorem k0_off251_inb : ∀ (v2098 : BitVec 32) (k0_hw120 : k0_chk120 v2098), ∀ a, (k0_off251 v2098) a + S8x512.size a ≤ S20000x512.size a := fun v2098 k0_hw120 => k0_hw120.2

def k0_off252 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_711 : BitVec 32 := 64#32
  let v2112 : BitVec 32 := Scalar.addi v63 c64_i32_711
  let c56_i32_712 : BitVec 32 := 56#32
  let v2113 : BitVec 32 := Scalar.addi v2112 c56_i32_712
  let v2114 : Index := Scalar.indexCast v2113
  ![v2114.toNat]
def k0_mult121 (v2115 : BitVec 32) : BitVec 32 :=
  let c3_i32_713 : BitVec 32 := 3#32
  let v2116 : BitVec 32 := Scalar.shrsi v2115 c3_i32_713
  let c3_i32_714 : BitVec 32 := 3#32
  let v2117 : BitVec 32 := Scalar.shli v2116 c3_i32_714
  v2117

def k0_off253 (v2115 : BitVec 32) : Fin 2 → Nat :=
  let c3_i32_713 : BitVec 32 := 3#32
  let v2116 : BitVec 32 := Scalar.shrsi v2115 c3_i32_713
  let c3_i32_714 : BitVec 32 := 3#32
  let v2117 : BitVec 32 := Scalar.shli v2116 c3_i32_714
  let v2118 : BitVec 32 := v2117
  let v2119 : Index := Scalar.indexCast v2118
  let c0_715 : Index := 0#32
  ![v2119.toNat, 0]

def k0_chk121 (v2115 : BitVec 32) : Prop :=
  (8 ∣ (k0_mult121 v2115).toNat) ∧
  (∀ a, (k0_off253 v2115) a + S8x512.size a ≤ S20000x512.size a)
theorem k0_mult121_dvd : ∀ (v2115 : BitVec 32) (k0_hw121 : k0_chk121 v2115), 8 ∣ (k0_mult121 v2115).toNat := fun v2115 k0_hw121 => k0_hw121.1
theorem k0_off253_inb : ∀ (v2115 : BitVec 32) (k0_hw121 : k0_chk121 v2115), ∀ a, (k0_off253 v2115) a + S8x512.size a ≤ S20000x512.size a := fun v2115 k0_hw121 => k0_hw121.2

def k0_off254 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_717 : BitVec 32 := 64#32
  let v2129 : BitVec 32 := Scalar.addi v63 c64_i32_717
  let c57_i32_718 : BitVec 32 := 57#32
  let v2130 : BitVec 32 := Scalar.addi v2129 c57_i32_718
  let v2131 : Index := Scalar.indexCast v2130
  ![v2131.toNat]
def k0_mult122 (v2132 : BitVec 32) : BitVec 32 :=
  let c3_i32_719 : BitVec 32 := 3#32
  let v2133 : BitVec 32 := Scalar.shrsi v2132 c3_i32_719
  let c3_i32_720 : BitVec 32 := 3#32
  let v2134 : BitVec 32 := Scalar.shli v2133 c3_i32_720
  v2134

def k0_off255 (v2132 : BitVec 32) : Fin 2 → Nat :=
  let c3_i32_719 : BitVec 32 := 3#32
  let v2133 : BitVec 32 := Scalar.shrsi v2132 c3_i32_719
  let c3_i32_720 : BitVec 32 := 3#32
  let v2134 : BitVec 32 := Scalar.shli v2133 c3_i32_720
  let v2135 : BitVec 32 := v2134
  let v2136 : Index := Scalar.indexCast v2135
  let c0_721 : Index := 0#32
  ![v2136.toNat, 0]

def k0_chk122 (v2132 : BitVec 32) : Prop :=
  (8 ∣ (k0_mult122 v2132).toNat) ∧
  (∀ a, (k0_off255 v2132) a + S8x512.size a ≤ S20000x512.size a)
theorem k0_mult122_dvd : ∀ (v2132 : BitVec 32) (k0_hw122 : k0_chk122 v2132), 8 ∣ (k0_mult122 v2132).toNat := fun v2132 k0_hw122 => k0_hw122.1
theorem k0_off255_inb : ∀ (v2132 : BitVec 32) (k0_hw122 : k0_chk122 v2132), ∀ a, (k0_off255 v2132) a + S8x512.size a ≤ S20000x512.size a := fun v2132 k0_hw122 => k0_hw122.2

def k0_off256 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_723 : BitVec 32 := 64#32
  let v2146 : BitVec 32 := Scalar.addi v63 c64_i32_723
  let c58_i32_724 : BitVec 32 := 58#32
  let v2147 : BitVec 32 := Scalar.addi v2146 c58_i32_724
  let v2148 : Index := Scalar.indexCast v2147
  ![v2148.toNat]
def k0_mult123 (v2149 : BitVec 32) : BitVec 32 :=
  let c3_i32_725 : BitVec 32 := 3#32
  let v2150 : BitVec 32 := Scalar.shrsi v2149 c3_i32_725
  let c3_i32_726 : BitVec 32 := 3#32
  let v2151 : BitVec 32 := Scalar.shli v2150 c3_i32_726
  v2151

def k0_off257 (v2149 : BitVec 32) : Fin 2 → Nat :=
  let c3_i32_725 : BitVec 32 := 3#32
  let v2150 : BitVec 32 := Scalar.shrsi v2149 c3_i32_725
  let c3_i32_726 : BitVec 32 := 3#32
  let v2151 : BitVec 32 := Scalar.shli v2150 c3_i32_726
  let v2152 : BitVec 32 := v2151
  let v2153 : Index := Scalar.indexCast v2152
  let c0_727 : Index := 0#32
  ![v2153.toNat, 0]

def k0_chk123 (v2149 : BitVec 32) : Prop :=
  (8 ∣ (k0_mult123 v2149).toNat) ∧
  (∀ a, (k0_off257 v2149) a + S8x512.size a ≤ S20000x512.size a)
theorem k0_mult123_dvd : ∀ (v2149 : BitVec 32) (k0_hw123 : k0_chk123 v2149), 8 ∣ (k0_mult123 v2149).toNat := fun v2149 k0_hw123 => k0_hw123.1
theorem k0_off257_inb : ∀ (v2149 : BitVec 32) (k0_hw123 : k0_chk123 v2149), ∀ a, (k0_off257 v2149) a + S8x512.size a ≤ S20000x512.size a := fun v2149 k0_hw123 => k0_hw123.2

def k0_off258 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_729 : BitVec 32 := 64#32
  let v2163 : BitVec 32 := Scalar.addi v63 c64_i32_729
  let c59_i32_730 : BitVec 32 := 59#32
  let v2164 : BitVec 32 := Scalar.addi v2163 c59_i32_730
  let v2165 : Index := Scalar.indexCast v2164
  ![v2165.toNat]
def k0_mult124 (v2166 : BitVec 32) : BitVec 32 :=
  let c3_i32_731 : BitVec 32 := 3#32
  let v2167 : BitVec 32 := Scalar.shrsi v2166 c3_i32_731
  let c3_i32_732 : BitVec 32 := 3#32
  let v2168 : BitVec 32 := Scalar.shli v2167 c3_i32_732
  v2168

def k0_off259 (v2166 : BitVec 32) : Fin 2 → Nat :=
  let c3_i32_731 : BitVec 32 := 3#32
  let v2167 : BitVec 32 := Scalar.shrsi v2166 c3_i32_731
  let c3_i32_732 : BitVec 32 := 3#32
  let v2168 : BitVec 32 := Scalar.shli v2167 c3_i32_732
  let v2169 : BitVec 32 := v2168
  let v2170 : Index := Scalar.indexCast v2169
  let c0_733 : Index := 0#32
  ![v2170.toNat, 0]

def k0_chk124 (v2166 : BitVec 32) : Prop :=
  (8 ∣ (k0_mult124 v2166).toNat) ∧
  (∀ a, (k0_off259 v2166) a + S8x512.size a ≤ S20000x512.size a)
theorem k0_mult124_dvd : ∀ (v2166 : BitVec 32) (k0_hw124 : k0_chk124 v2166), 8 ∣ (k0_mult124 v2166).toNat := fun v2166 k0_hw124 => k0_hw124.1
theorem k0_off259_inb : ∀ (v2166 : BitVec 32) (k0_hw124 : k0_chk124 v2166), ∀ a, (k0_off259 v2166) a + S8x512.size a ≤ S20000x512.size a := fun v2166 k0_hw124 => k0_hw124.2

def k0_off260 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_735 : BitVec 32 := 64#32
  let v2180 : BitVec 32 := Scalar.addi v63 c64_i32_735
  let c60_i32_736 : BitVec 32 := 60#32
  let v2181 : BitVec 32 := Scalar.addi v2180 c60_i32_736
  let v2182 : Index := Scalar.indexCast v2181
  ![v2182.toNat]
def k0_mult125 (v2183 : BitVec 32) : BitVec 32 :=
  let c3_i32_737 : BitVec 32 := 3#32
  let v2184 : BitVec 32 := Scalar.shrsi v2183 c3_i32_737
  let c3_i32_738 : BitVec 32 := 3#32
  let v2185 : BitVec 32 := Scalar.shli v2184 c3_i32_738
  v2185

def k0_off261 (v2183 : BitVec 32) : Fin 2 → Nat :=
  let c3_i32_737 : BitVec 32 := 3#32
  let v2184 : BitVec 32 := Scalar.shrsi v2183 c3_i32_737
  let c3_i32_738 : BitVec 32 := 3#32
  let v2185 : BitVec 32 := Scalar.shli v2184 c3_i32_738
  let v2186 : BitVec 32 := v2185
  let v2187 : Index := Scalar.indexCast v2186
  let c0_739 : Index := 0#32
  ![v2187.toNat, 0]

def k0_chk125 (v2183 : BitVec 32) : Prop :=
  (8 ∣ (k0_mult125 v2183).toNat) ∧
  (∀ a, (k0_off261 v2183) a + S8x512.size a ≤ S20000x512.size a)
theorem k0_mult125_dvd : ∀ (v2183 : BitVec 32) (k0_hw125 : k0_chk125 v2183), 8 ∣ (k0_mult125 v2183).toNat := fun v2183 k0_hw125 => k0_hw125.1
theorem k0_off261_inb : ∀ (v2183 : BitVec 32) (k0_hw125 : k0_chk125 v2183), ∀ a, (k0_off261 v2183) a + S8x512.size a ≤ S20000x512.size a := fun v2183 k0_hw125 => k0_hw125.2

def k0_off262 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_741 : BitVec 32 := 64#32
  let v2197 : BitVec 32 := Scalar.addi v63 c64_i32_741
  let c61_i32_742 : BitVec 32 := 61#32
  let v2198 : BitVec 32 := Scalar.addi v2197 c61_i32_742
  let v2199 : Index := Scalar.indexCast v2198
  ![v2199.toNat]
def k0_mult126 (v2200 : BitVec 32) : BitVec 32 :=
  let c3_i32_743 : BitVec 32 := 3#32
  let v2201 : BitVec 32 := Scalar.shrsi v2200 c3_i32_743
  let c3_i32_744 : BitVec 32 := 3#32
  let v2202 : BitVec 32 := Scalar.shli v2201 c3_i32_744
  v2202

def k0_off263 (v2200 : BitVec 32) : Fin 2 → Nat :=
  let c3_i32_743 : BitVec 32 := 3#32
  let v2201 : BitVec 32 := Scalar.shrsi v2200 c3_i32_743
  let c3_i32_744 : BitVec 32 := 3#32
  let v2202 : BitVec 32 := Scalar.shli v2201 c3_i32_744
  let v2203 : BitVec 32 := v2202
  let v2204 : Index := Scalar.indexCast v2203
  let c0_745 : Index := 0#32
  ![v2204.toNat, 0]

def k0_chk126 (v2200 : BitVec 32) : Prop :=
  (8 ∣ (k0_mult126 v2200).toNat) ∧
  (∀ a, (k0_off263 v2200) a + S8x512.size a ≤ S20000x512.size a)
theorem k0_mult126_dvd : ∀ (v2200 : BitVec 32) (k0_hw126 : k0_chk126 v2200), 8 ∣ (k0_mult126 v2200).toNat := fun v2200 k0_hw126 => k0_hw126.1
theorem k0_off263_inb : ∀ (v2200 : BitVec 32) (k0_hw126 : k0_chk126 v2200), ∀ a, (k0_off263 v2200) a + S8x512.size a ≤ S20000x512.size a := fun v2200 k0_hw126 => k0_hw126.2

def k0_off264 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_747 : BitVec 32 := 64#32
  let v2214 : BitVec 32 := Scalar.addi v63 c64_i32_747
  let c62_i32_748 : BitVec 32 := 62#32
  let v2215 : BitVec 32 := Scalar.addi v2214 c62_i32_748
  let v2216 : Index := Scalar.indexCast v2215
  ![v2216.toNat]
def k0_mult127 (v2217 : BitVec 32) : BitVec 32 :=
  let c3_i32_749 : BitVec 32 := 3#32
  let v2218 : BitVec 32 := Scalar.shrsi v2217 c3_i32_749
  let c3_i32_750 : BitVec 32 := 3#32
  let v2219 : BitVec 32 := Scalar.shli v2218 c3_i32_750
  v2219

def k0_off265 (v2217 : BitVec 32) : Fin 2 → Nat :=
  let c3_i32_749 : BitVec 32 := 3#32
  let v2218 : BitVec 32 := Scalar.shrsi v2217 c3_i32_749
  let c3_i32_750 : BitVec 32 := 3#32
  let v2219 : BitVec 32 := Scalar.shli v2218 c3_i32_750
  let v2220 : BitVec 32 := v2219
  let v2221 : Index := Scalar.indexCast v2220
  let c0_751 : Index := 0#32
  ![v2221.toNat, 0]

def k0_chk127 (v2217 : BitVec 32) : Prop :=
  (8 ∣ (k0_mult127 v2217).toNat) ∧
  (∀ a, (k0_off265 v2217) a + S8x512.size a ≤ S20000x512.size a)
theorem k0_mult127_dvd : ∀ (v2217 : BitVec 32) (k0_hw127 : k0_chk127 v2217), 8 ∣ (k0_mult127 v2217).toNat := fun v2217 k0_hw127 => k0_hw127.1
theorem k0_off265_inb : ∀ (v2217 : BitVec 32) (k0_hw127 : k0_chk127 v2217), ∀ a, (k0_off265 v2217) a + S8x512.size a ≤ S20000x512.size a := fun v2217 k0_hw127 => k0_hw127.2

def k0_off266 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c64_i32_753 : BitVec 32 := 64#32
  let v2231 : BitVec 32 := Scalar.addi v63 c64_i32_753
  let c63_i32_754 : BitVec 32 := 63#32
  let v2232 : BitVec 32 := Scalar.addi v2231 c63_i32_754
  let v2233 : Index := Scalar.indexCast v2232
  ![v2233.toNat]
def k0_mult128 (v2234 : BitVec 32) : BitVec 32 :=
  let c3_i32_755 : BitVec 32 := 3#32
  let v2235 : BitVec 32 := Scalar.shrsi v2234 c3_i32_755
  let c3_i32_756 : BitVec 32 := 3#32
  let v2236 : BitVec 32 := Scalar.shli v2235 c3_i32_756
  v2236

def k0_off267 (v2234 : BitVec 32) : Fin 2 → Nat :=
  let c3_i32_755 : BitVec 32 := 3#32
  let v2235 : BitVec 32 := Scalar.shrsi v2234 c3_i32_755
  let c3_i32_756 : BitVec 32 := 3#32
  let v2236 : BitVec 32 := Scalar.shli v2235 c3_i32_756
  let v2237 : BitVec 32 := v2236
  let v2238 : Index := Scalar.indexCast v2237
  let c0_757 : Index := 0#32
  ![v2238.toNat, 0]

def k0_chk128 (v2234 : BitVec 32) : Prop :=
  (8 ∣ (k0_mult128 v2234).toNat) ∧
  (∀ a, (k0_off267 v2234) a + S8x512.size a ≤ S20000x512.size a)
theorem k0_mult128_dvd : ∀ (v2234 : BitVec 32) (k0_hw128 : k0_chk128 v2234), 8 ∣ (k0_mult128 v2234).toNat := fun v2234 k0_hw128 => k0_hw128.1
theorem k0_off267_inb : ∀ (v2234 : BitVec 32) (k0_hw128 : k0_chk128 v2234), ∀ a, (k0_off267 v2234) a + S8x512.size a ≤ S20000x512.size a := fun v2234 k0_hw128 => k0_hw128.2

def k0_off268 (k0_t1 : Fin k0_t1_loop.trips) : Fin 3 → Nat :=
  let c0_i32_18 : BitVec 32 := 0#32
  let c1_i32_19 : BitVec 32 := 1#32
  let arg12 : BitVec 32 := Scf.iv c0_i32_18 c1_i32_19 k0_t1
  let c8_i32_759 : BitVec 32 := 8#32
  let v2248 : BitVec 32 := Scalar.muli arg12 c8_i32_759
  let c1_i32_760 : BitVec 32 := 1#32
  let v2249 : BitVec 32 := Scalar.addi v2248 c1_i32_760
  let v2250 : Index := Scalar.indexCast v2249
  let c0_761 : Index := 0#32
  let c0_762 : Index := 0#32
  ![v2250.toNat, 0, 0]
def k0_off269 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_764 : BitVec 32 := 128#32
  let v2255 : BitVec 32 := Scalar.addi v63 c128_i32_764
  let c0_i32_765 : BitVec 32 := 0#32
  let v2256 : BitVec 32 := Scalar.addi v2255 c0_i32_765
  let v2257 : Index := Scalar.indexCast v2256
  ![v2257.toNat]
def k0_mult129 (v2258 : BitVec 32) : BitVec 32 :=
  let c3_i32_766 : BitVec 32 := 3#32
  let v2259 : BitVec 32 := Scalar.shrsi v2258 c3_i32_766
  let c3_i32_767 : BitVec 32 := 3#32
  let v2260 : BitVec 32 := Scalar.shli v2259 c3_i32_767
  v2260

def k0_off270 (v2258 : BitVec 32) : Fin 2 → Nat :=
  let c3_i32_766 : BitVec 32 := 3#32
  let v2259 : BitVec 32 := Scalar.shrsi v2258 c3_i32_766
  let c3_i32_767 : BitVec 32 := 3#32
  let v2260 : BitVec 32 := Scalar.shli v2259 c3_i32_767
  let v2261 : BitVec 32 := v2260
  let v2262 : Index := Scalar.indexCast v2261
  let c0_768 : Index := 0#32
  ![v2262.toNat, 0]

def k0_chk129 (v2258 : BitVec 32) : Prop :=
  (8 ∣ (k0_mult129 v2258).toNat) ∧
  (∀ a, (k0_off270 v2258) a + S8x512.size a ≤ S20000x512.size a)
theorem k0_mult129_dvd : ∀ (v2258 : BitVec 32) (k0_hw129 : k0_chk129 v2258), 8 ∣ (k0_mult129 v2258).toNat := fun v2258 k0_hw129 => k0_hw129.1
theorem k0_off270_inb : ∀ (v2258 : BitVec 32) (k0_hw129 : k0_chk129 v2258), ∀ a, (k0_off270 v2258) a + S8x512.size a ≤ S20000x512.size a := fun v2258 k0_hw129 => k0_hw129.2

def k0_off271 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_770 : BitVec 32 := 128#32
  let v2272 : BitVec 32 := Scalar.addi v63 c128_i32_770
  let c1_i32_771 : BitVec 32 := 1#32
  let v2273 : BitVec 32 := Scalar.addi v2272 c1_i32_771
  let v2274 : Index := Scalar.indexCast v2273
  ![v2274.toNat]
def k0_mult130 (v2275 : BitVec 32) : BitVec 32 :=
  let c3_i32_772 : BitVec 32 := 3#32
  let v2276 : BitVec 32 := Scalar.shrsi v2275 c3_i32_772
  let c3_i32_773 : BitVec 32 := 3#32
  let v2277 : BitVec 32 := Scalar.shli v2276 c3_i32_773
  v2277

def k0_off272 (v2275 : BitVec 32) : Fin 2 → Nat :=
  let c3_i32_772 : BitVec 32 := 3#32
  let v2276 : BitVec 32 := Scalar.shrsi v2275 c3_i32_772
  let c3_i32_773 : BitVec 32 := 3#32
  let v2277 : BitVec 32 := Scalar.shli v2276 c3_i32_773
  let v2278 : BitVec 32 := v2277
  let v2279 : Index := Scalar.indexCast v2278
  let c0_774 : Index := 0#32
  ![v2279.toNat, 0]

def k0_chk130 (v2275 : BitVec 32) : Prop :=
  (8 ∣ (k0_mult130 v2275).toNat) ∧
  (∀ a, (k0_off272 v2275) a + S8x512.size a ≤ S20000x512.size a)
theorem k0_mult130_dvd : ∀ (v2275 : BitVec 32) (k0_hw130 : k0_chk130 v2275), 8 ∣ (k0_mult130 v2275).toNat := fun v2275 k0_hw130 => k0_hw130.1
theorem k0_off272_inb : ∀ (v2275 : BitVec 32) (k0_hw130 : k0_chk130 v2275), ∀ a, (k0_off272 v2275) a + S8x512.size a ≤ S20000x512.size a := fun v2275 k0_hw130 => k0_hw130.2

def k0_off273 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_776 : BitVec 32 := 128#32
  let v2289 : BitVec 32 := Scalar.addi v63 c128_i32_776
  let c2_i32_777 : BitVec 32 := 2#32
  let v2290 : BitVec 32 := Scalar.addi v2289 c2_i32_777
  let v2291 : Index := Scalar.indexCast v2290
  ![v2291.toNat]
def k0_mult131 (v2292 : BitVec 32) : BitVec 32 :=
  let c3_i32_778 : BitVec 32 := 3#32
  let v2293 : BitVec 32 := Scalar.shrsi v2292 c3_i32_778
  let c3_i32_779 : BitVec 32 := 3#32
  let v2294 : BitVec 32 := Scalar.shli v2293 c3_i32_779
  v2294

def k0_off274 (v2292 : BitVec 32) : Fin 2 → Nat :=
  let c3_i32_778 : BitVec 32 := 3#32
  let v2293 : BitVec 32 := Scalar.shrsi v2292 c3_i32_778
  let c3_i32_779 : BitVec 32 := 3#32
  let v2294 : BitVec 32 := Scalar.shli v2293 c3_i32_779
  let v2295 : BitVec 32 := v2294
  let v2296 : Index := Scalar.indexCast v2295
  let c0_780 : Index := 0#32
  ![v2296.toNat, 0]

def k0_chk131 (v2292 : BitVec 32) : Prop :=
  (8 ∣ (k0_mult131 v2292).toNat) ∧
  (∀ a, (k0_off274 v2292) a + S8x512.size a ≤ S20000x512.size a)
theorem k0_mult131_dvd : ∀ (v2292 : BitVec 32) (k0_hw131 : k0_chk131 v2292), 8 ∣ (k0_mult131 v2292).toNat := fun v2292 k0_hw131 => k0_hw131.1
theorem k0_off274_inb : ∀ (v2292 : BitVec 32) (k0_hw131 : k0_chk131 v2292), ∀ a, (k0_off274 v2292) a + S8x512.size a ≤ S20000x512.size a := fun v2292 k0_hw131 => k0_hw131.2

def k0_off275 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_782 : BitVec 32 := 128#32
  let v2306 : BitVec 32 := Scalar.addi v63 c128_i32_782
  let c3_i32_783 : BitVec 32 := 3#32
  let v2307 : BitVec 32 := Scalar.addi v2306 c3_i32_783
  let v2308 : Index := Scalar.indexCast v2307
  ![v2308.toNat]
def k0_mult132 (v2309 : BitVec 32) : BitVec 32 :=
  let c3_i32_784 : BitVec 32 := 3#32
  let v2310 : BitVec 32 := Scalar.shrsi v2309 c3_i32_784
  let c3_i32_785 : BitVec 32 := 3#32
  let v2311 : BitVec 32 := Scalar.shli v2310 c3_i32_785
  v2311

def k0_off276 (v2309 : BitVec 32) : Fin 2 → Nat :=
  let c3_i32_784 : BitVec 32 := 3#32
  let v2310 : BitVec 32 := Scalar.shrsi v2309 c3_i32_784
  let c3_i32_785 : BitVec 32 := 3#32
  let v2311 : BitVec 32 := Scalar.shli v2310 c3_i32_785
  let v2312 : BitVec 32 := v2311
  let v2313 : Index := Scalar.indexCast v2312
  let c0_786 : Index := 0#32
  ![v2313.toNat, 0]

def k0_chk132 (v2309 : BitVec 32) : Prop :=
  (8 ∣ (k0_mult132 v2309).toNat) ∧
  (∀ a, (k0_off276 v2309) a + S8x512.size a ≤ S20000x512.size a)
theorem k0_mult132_dvd : ∀ (v2309 : BitVec 32) (k0_hw132 : k0_chk132 v2309), 8 ∣ (k0_mult132 v2309).toNat := fun v2309 k0_hw132 => k0_hw132.1
theorem k0_off276_inb : ∀ (v2309 : BitVec 32) (k0_hw132 : k0_chk132 v2309), ∀ a, (k0_off276 v2309) a + S8x512.size a ≤ S20000x512.size a := fun v2309 k0_hw132 => k0_hw132.2

def k0_off277 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_788 : BitVec 32 := 128#32
  let v2323 : BitVec 32 := Scalar.addi v63 c128_i32_788
  let c4_i32_789 : BitVec 32 := 4#32
  let v2324 : BitVec 32 := Scalar.addi v2323 c4_i32_789
  let v2325 : Index := Scalar.indexCast v2324
  ![v2325.toNat]
def k0_mult133 (v2326 : BitVec 32) : BitVec 32 :=
  let c3_i32_790 : BitVec 32 := 3#32
  let v2327 : BitVec 32 := Scalar.shrsi v2326 c3_i32_790
  let c3_i32_791 : BitVec 32 := 3#32
  let v2328 : BitVec 32 := Scalar.shli v2327 c3_i32_791
  v2328

def k0_off278 (v2326 : BitVec 32) : Fin 2 → Nat :=
  let c3_i32_790 : BitVec 32 := 3#32
  let v2327 : BitVec 32 := Scalar.shrsi v2326 c3_i32_790
  let c3_i32_791 : BitVec 32 := 3#32
  let v2328 : BitVec 32 := Scalar.shli v2327 c3_i32_791
  let v2329 : BitVec 32 := v2328
  let v2330 : Index := Scalar.indexCast v2329
  let c0_792 : Index := 0#32
  ![v2330.toNat, 0]

def k0_chk133 (v2326 : BitVec 32) : Prop :=
  (8 ∣ (k0_mult133 v2326).toNat) ∧
  (∀ a, (k0_off278 v2326) a + S8x512.size a ≤ S20000x512.size a)
theorem k0_mult133_dvd : ∀ (v2326 : BitVec 32) (k0_hw133 : k0_chk133 v2326), 8 ∣ (k0_mult133 v2326).toNat := fun v2326 k0_hw133 => k0_hw133.1
theorem k0_off278_inb : ∀ (v2326 : BitVec 32) (k0_hw133 : k0_chk133 v2326), ∀ a, (k0_off278 v2326) a + S8x512.size a ≤ S20000x512.size a := fun v2326 k0_hw133 => k0_hw133.2

def k0_off279 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_794 : BitVec 32 := 128#32
  let v2340 : BitVec 32 := Scalar.addi v63 c128_i32_794
  let c5_i32_795 : BitVec 32 := 5#32
  let v2341 : BitVec 32 := Scalar.addi v2340 c5_i32_795
  let v2342 : Index := Scalar.indexCast v2341
  ![v2342.toNat]
def k0_mult134 (v2343 : BitVec 32) : BitVec 32 :=
  let c3_i32_796 : BitVec 32 := 3#32
  let v2344 : BitVec 32 := Scalar.shrsi v2343 c3_i32_796
  let c3_i32_797 : BitVec 32 := 3#32
  let v2345 : BitVec 32 := Scalar.shli v2344 c3_i32_797
  v2345

def k0_off280 (v2343 : BitVec 32) : Fin 2 → Nat :=
  let c3_i32_796 : BitVec 32 := 3#32
  let v2344 : BitVec 32 := Scalar.shrsi v2343 c3_i32_796
  let c3_i32_797 : BitVec 32 := 3#32
  let v2345 : BitVec 32 := Scalar.shli v2344 c3_i32_797
  let v2346 : BitVec 32 := v2345
  let v2347 : Index := Scalar.indexCast v2346
  let c0_798 : Index := 0#32
  ![v2347.toNat, 0]

def k0_chk134 (v2343 : BitVec 32) : Prop :=
  (8 ∣ (k0_mult134 v2343).toNat) ∧
  (∀ a, (k0_off280 v2343) a + S8x512.size a ≤ S20000x512.size a)
theorem k0_mult134_dvd : ∀ (v2343 : BitVec 32) (k0_hw134 : k0_chk134 v2343), 8 ∣ (k0_mult134 v2343).toNat := fun v2343 k0_hw134 => k0_hw134.1
theorem k0_off280_inb : ∀ (v2343 : BitVec 32) (k0_hw134 : k0_chk134 v2343), ∀ a, (k0_off280 v2343) a + S8x512.size a ≤ S20000x512.size a := fun v2343 k0_hw134 => k0_hw134.2

def k0_off281 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_800 : BitVec 32 := 128#32
  let v2357 : BitVec 32 := Scalar.addi v63 c128_i32_800
  let c6_i32_801 : BitVec 32 := 6#32
  let v2358 : BitVec 32 := Scalar.addi v2357 c6_i32_801
  let v2359 : Index := Scalar.indexCast v2358
  ![v2359.toNat]
def k0_mult135 (v2360 : BitVec 32) : BitVec 32 :=
  let c3_i32_802 : BitVec 32 := 3#32
  let v2361 : BitVec 32 := Scalar.shrsi v2360 c3_i32_802
  let c3_i32_803 : BitVec 32 := 3#32
  let v2362 : BitVec 32 := Scalar.shli v2361 c3_i32_803
  v2362

def k0_off282 (v2360 : BitVec 32) : Fin 2 → Nat :=
  let c3_i32_802 : BitVec 32 := 3#32
  let v2361 : BitVec 32 := Scalar.shrsi v2360 c3_i32_802
  let c3_i32_803 : BitVec 32 := 3#32
  let v2362 : BitVec 32 := Scalar.shli v2361 c3_i32_803
  let v2363 : BitVec 32 := v2362
  let v2364 : Index := Scalar.indexCast v2363
  let c0_804 : Index := 0#32
  ![v2364.toNat, 0]

def k0_chk135 (v2360 : BitVec 32) : Prop :=
  (8 ∣ (k0_mult135 v2360).toNat) ∧
  (∀ a, (k0_off282 v2360) a + S8x512.size a ≤ S20000x512.size a)
theorem k0_mult135_dvd : ∀ (v2360 : BitVec 32) (k0_hw135 : k0_chk135 v2360), 8 ∣ (k0_mult135 v2360).toNat := fun v2360 k0_hw135 => k0_hw135.1
theorem k0_off282_inb : ∀ (v2360 : BitVec 32) (k0_hw135 : k0_chk135 v2360), ∀ a, (k0_off282 v2360) a + S8x512.size a ≤ S20000x512.size a := fun v2360 k0_hw135 => k0_hw135.2

def k0_off283 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_806 : BitVec 32 := 128#32
  let v2374 : BitVec 32 := Scalar.addi v63 c128_i32_806
  let c7_i32_807 : BitVec 32 := 7#32
  let v2375 : BitVec 32 := Scalar.addi v2374 c7_i32_807
  let v2376 : Index := Scalar.indexCast v2375
  ![v2376.toNat]
def k0_mult136 (v2377 : BitVec 32) : BitVec 32 :=
  let c3_i32_808 : BitVec 32 := 3#32
  let v2378 : BitVec 32 := Scalar.shrsi v2377 c3_i32_808
  let c3_i32_809 : BitVec 32 := 3#32
  let v2379 : BitVec 32 := Scalar.shli v2378 c3_i32_809
  v2379

def k0_off284 (v2377 : BitVec 32) : Fin 2 → Nat :=
  let c3_i32_808 : BitVec 32 := 3#32
  let v2378 : BitVec 32 := Scalar.shrsi v2377 c3_i32_808
  let c3_i32_809 : BitVec 32 := 3#32
  let v2379 : BitVec 32 := Scalar.shli v2378 c3_i32_809
  let v2380 : BitVec 32 := v2379
  let v2381 : Index := Scalar.indexCast v2380
  let c0_810 : Index := 0#32
  ![v2381.toNat, 0]

def k0_chk136 (v2377 : BitVec 32) : Prop :=
  (8 ∣ (k0_mult136 v2377).toNat) ∧
  (∀ a, (k0_off284 v2377) a + S8x512.size a ≤ S20000x512.size a)
theorem k0_mult136_dvd : ∀ (v2377 : BitVec 32) (k0_hw136 : k0_chk136 v2377), 8 ∣ (k0_mult136 v2377).toNat := fun v2377 k0_hw136 => k0_hw136.1
theorem k0_off284_inb : ∀ (v2377 : BitVec 32) (k0_hw136 : k0_chk136 v2377), ∀ a, (k0_off284 v2377) a + S8x512.size a ≤ S20000x512.size a := fun v2377 k0_hw136 => k0_hw136.2

def k0_off285 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_812 : BitVec 32 := 128#32
  let v2391 : BitVec 32 := Scalar.addi v63 c128_i32_812
  let c8_i32_813 : BitVec 32 := 8#32
  let v2392 : BitVec 32 := Scalar.addi v2391 c8_i32_813
  let v2393 : Index := Scalar.indexCast v2392
  ![v2393.toNat]
def k0_mult137 (v2394 : BitVec 32) : BitVec 32 :=
  let c3_i32_814 : BitVec 32 := 3#32
  let v2395 : BitVec 32 := Scalar.shrsi v2394 c3_i32_814
  let c3_i32_815 : BitVec 32 := 3#32
  let v2396 : BitVec 32 := Scalar.shli v2395 c3_i32_815
  v2396

def k0_off286 (v2394 : BitVec 32) : Fin 2 → Nat :=
  let c3_i32_814 : BitVec 32 := 3#32
  let v2395 : BitVec 32 := Scalar.shrsi v2394 c3_i32_814
  let c3_i32_815 : BitVec 32 := 3#32
  let v2396 : BitVec 32 := Scalar.shli v2395 c3_i32_815
  let v2397 : BitVec 32 := v2396
  let v2398 : Index := Scalar.indexCast v2397
  let c0_816 : Index := 0#32
  ![v2398.toNat, 0]

def k0_chk137 (v2394 : BitVec 32) : Prop :=
  (8 ∣ (k0_mult137 v2394).toNat) ∧
  (∀ a, (k0_off286 v2394) a + S8x512.size a ≤ S20000x512.size a)
theorem k0_mult137_dvd : ∀ (v2394 : BitVec 32) (k0_hw137 : k0_chk137 v2394), 8 ∣ (k0_mult137 v2394).toNat := fun v2394 k0_hw137 => k0_hw137.1
theorem k0_off286_inb : ∀ (v2394 : BitVec 32) (k0_hw137 : k0_chk137 v2394), ∀ a, (k0_off286 v2394) a + S8x512.size a ≤ S20000x512.size a := fun v2394 k0_hw137 => k0_hw137.2

def k0_off287 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_818 : BitVec 32 := 128#32
  let v2408 : BitVec 32 := Scalar.addi v63 c128_i32_818
  let c9_i32_819 : BitVec 32 := 9#32
  let v2409 : BitVec 32 := Scalar.addi v2408 c9_i32_819
  let v2410 : Index := Scalar.indexCast v2409
  ![v2410.toNat]
def k0_mult138 (v2411 : BitVec 32) : BitVec 32 :=
  let c3_i32_820 : BitVec 32 := 3#32
  let v2412 : BitVec 32 := Scalar.shrsi v2411 c3_i32_820
  let c3_i32_821 : BitVec 32 := 3#32
  let v2413 : BitVec 32 := Scalar.shli v2412 c3_i32_821
  v2413

def k0_off288 (v2411 : BitVec 32) : Fin 2 → Nat :=
  let c3_i32_820 : BitVec 32 := 3#32
  let v2412 : BitVec 32 := Scalar.shrsi v2411 c3_i32_820
  let c3_i32_821 : BitVec 32 := 3#32
  let v2413 : BitVec 32 := Scalar.shli v2412 c3_i32_821
  let v2414 : BitVec 32 := v2413
  let v2415 : Index := Scalar.indexCast v2414
  let c0_822 : Index := 0#32
  ![v2415.toNat, 0]

def k0_chk138 (v2411 : BitVec 32) : Prop :=
  (8 ∣ (k0_mult138 v2411).toNat) ∧
  (∀ a, (k0_off288 v2411) a + S8x512.size a ≤ S20000x512.size a)
theorem k0_mult138_dvd : ∀ (v2411 : BitVec 32) (k0_hw138 : k0_chk138 v2411), 8 ∣ (k0_mult138 v2411).toNat := fun v2411 k0_hw138 => k0_hw138.1
theorem k0_off288_inb : ∀ (v2411 : BitVec 32) (k0_hw138 : k0_chk138 v2411), ∀ a, (k0_off288 v2411) a + S8x512.size a ≤ S20000x512.size a := fun v2411 k0_hw138 => k0_hw138.2

def k0_off289 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_824 : BitVec 32 := 128#32
  let v2425 : BitVec 32 := Scalar.addi v63 c128_i32_824
  let c10_i32_825 : BitVec 32 := 10#32
  let v2426 : BitVec 32 := Scalar.addi v2425 c10_i32_825
  let v2427 : Index := Scalar.indexCast v2426
  ![v2427.toNat]
def k0_mult139 (v2428 : BitVec 32) : BitVec 32 :=
  let c3_i32_826 : BitVec 32 := 3#32
  let v2429 : BitVec 32 := Scalar.shrsi v2428 c3_i32_826
  let c3_i32_827 : BitVec 32 := 3#32
  let v2430 : BitVec 32 := Scalar.shli v2429 c3_i32_827
  v2430

def k0_off290 (v2428 : BitVec 32) : Fin 2 → Nat :=
  let c3_i32_826 : BitVec 32 := 3#32
  let v2429 : BitVec 32 := Scalar.shrsi v2428 c3_i32_826
  let c3_i32_827 : BitVec 32 := 3#32
  let v2430 : BitVec 32 := Scalar.shli v2429 c3_i32_827
  let v2431 : BitVec 32 := v2430
  let v2432 : Index := Scalar.indexCast v2431
  let c0_828 : Index := 0#32
  ![v2432.toNat, 0]

def k0_chk139 (v2428 : BitVec 32) : Prop :=
  (8 ∣ (k0_mult139 v2428).toNat) ∧
  (∀ a, (k0_off290 v2428) a + S8x512.size a ≤ S20000x512.size a)
theorem k0_mult139_dvd : ∀ (v2428 : BitVec 32) (k0_hw139 : k0_chk139 v2428), 8 ∣ (k0_mult139 v2428).toNat := fun v2428 k0_hw139 => k0_hw139.1
theorem k0_off290_inb : ∀ (v2428 : BitVec 32) (k0_hw139 : k0_chk139 v2428), ∀ a, (k0_off290 v2428) a + S8x512.size a ≤ S20000x512.size a := fun v2428 k0_hw139 => k0_hw139.2

def k0_off291 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_830 : BitVec 32 := 128#32
  let v2442 : BitVec 32 := Scalar.addi v63 c128_i32_830
  let c11_i32_831 : BitVec 32 := 11#32
  let v2443 : BitVec 32 := Scalar.addi v2442 c11_i32_831
  let v2444 : Index := Scalar.indexCast v2443
  ![v2444.toNat]
def k0_mult140 (v2445 : BitVec 32) : BitVec 32 :=
  let c3_i32_832 : BitVec 32 := 3#32
  let v2446 : BitVec 32 := Scalar.shrsi v2445 c3_i32_832
  let c3_i32_833 : BitVec 32 := 3#32
  let v2447 : BitVec 32 := Scalar.shli v2446 c3_i32_833
  v2447

def k0_off292 (v2445 : BitVec 32) : Fin 2 → Nat :=
  let c3_i32_832 : BitVec 32 := 3#32
  let v2446 : BitVec 32 := Scalar.shrsi v2445 c3_i32_832
  let c3_i32_833 : BitVec 32 := 3#32
  let v2447 : BitVec 32 := Scalar.shli v2446 c3_i32_833
  let v2448 : BitVec 32 := v2447
  let v2449 : Index := Scalar.indexCast v2448
  let c0_834 : Index := 0#32
  ![v2449.toNat, 0]

def k0_chk140 (v2445 : BitVec 32) : Prop :=
  (8 ∣ (k0_mult140 v2445).toNat) ∧
  (∀ a, (k0_off292 v2445) a + S8x512.size a ≤ S20000x512.size a)
theorem k0_mult140_dvd : ∀ (v2445 : BitVec 32) (k0_hw140 : k0_chk140 v2445), 8 ∣ (k0_mult140 v2445).toNat := fun v2445 k0_hw140 => k0_hw140.1
theorem k0_off292_inb : ∀ (v2445 : BitVec 32) (k0_hw140 : k0_chk140 v2445), ∀ a, (k0_off292 v2445) a + S8x512.size a ≤ S20000x512.size a := fun v2445 k0_hw140 => k0_hw140.2

def k0_off293 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_836 : BitVec 32 := 128#32
  let v2459 : BitVec 32 := Scalar.addi v63 c128_i32_836
  let c12_i32_837 : BitVec 32 := 12#32
  let v2460 : BitVec 32 := Scalar.addi v2459 c12_i32_837
  let v2461 : Index := Scalar.indexCast v2460
  ![v2461.toNat]
def k0_mult141 (v2462 : BitVec 32) : BitVec 32 :=
  let c3_i32_838 : BitVec 32 := 3#32
  let v2463 : BitVec 32 := Scalar.shrsi v2462 c3_i32_838
  let c3_i32_839 : BitVec 32 := 3#32
  let v2464 : BitVec 32 := Scalar.shli v2463 c3_i32_839
  v2464

def k0_off294 (v2462 : BitVec 32) : Fin 2 → Nat :=
  let c3_i32_838 : BitVec 32 := 3#32
  let v2463 : BitVec 32 := Scalar.shrsi v2462 c3_i32_838
  let c3_i32_839 : BitVec 32 := 3#32
  let v2464 : BitVec 32 := Scalar.shli v2463 c3_i32_839
  let v2465 : BitVec 32 := v2464
  let v2466 : Index := Scalar.indexCast v2465
  let c0_840 : Index := 0#32
  ![v2466.toNat, 0]

def k0_chk141 (v2462 : BitVec 32) : Prop :=
  (8 ∣ (k0_mult141 v2462).toNat) ∧
  (∀ a, (k0_off294 v2462) a + S8x512.size a ≤ S20000x512.size a)
theorem k0_mult141_dvd : ∀ (v2462 : BitVec 32) (k0_hw141 : k0_chk141 v2462), 8 ∣ (k0_mult141 v2462).toNat := fun v2462 k0_hw141 => k0_hw141.1
theorem k0_off294_inb : ∀ (v2462 : BitVec 32) (k0_hw141 : k0_chk141 v2462), ∀ a, (k0_off294 v2462) a + S8x512.size a ≤ S20000x512.size a := fun v2462 k0_hw141 => k0_hw141.2

def k0_off295 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_842 : BitVec 32 := 128#32
  let v2476 : BitVec 32 := Scalar.addi v63 c128_i32_842
  let c13_i32_843 : BitVec 32 := 13#32
  let v2477 : BitVec 32 := Scalar.addi v2476 c13_i32_843
  let v2478 : Index := Scalar.indexCast v2477
  ![v2478.toNat]
def k0_mult142 (v2479 : BitVec 32) : BitVec 32 :=
  let c3_i32_844 : BitVec 32 := 3#32
  let v2480 : BitVec 32 := Scalar.shrsi v2479 c3_i32_844
  let c3_i32_845 : BitVec 32 := 3#32
  let v2481 : BitVec 32 := Scalar.shli v2480 c3_i32_845
  v2481

def k0_off296 (v2479 : BitVec 32) : Fin 2 → Nat :=
  let c3_i32_844 : BitVec 32 := 3#32
  let v2480 : BitVec 32 := Scalar.shrsi v2479 c3_i32_844
  let c3_i32_845 : BitVec 32 := 3#32
  let v2481 : BitVec 32 := Scalar.shli v2480 c3_i32_845
  let v2482 : BitVec 32 := v2481
  let v2483 : Index := Scalar.indexCast v2482
  let c0_846 : Index := 0#32
  ![v2483.toNat, 0]

def k0_chk142 (v2479 : BitVec 32) : Prop :=
  (8 ∣ (k0_mult142 v2479).toNat) ∧
  (∀ a, (k0_off296 v2479) a + S8x512.size a ≤ S20000x512.size a)
theorem k0_mult142_dvd : ∀ (v2479 : BitVec 32) (k0_hw142 : k0_chk142 v2479), 8 ∣ (k0_mult142 v2479).toNat := fun v2479 k0_hw142 => k0_hw142.1
theorem k0_off296_inb : ∀ (v2479 : BitVec 32) (k0_hw142 : k0_chk142 v2479), ∀ a, (k0_off296 v2479) a + S8x512.size a ≤ S20000x512.size a := fun v2479 k0_hw142 => k0_hw142.2

def k0_off297 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_848 : BitVec 32 := 128#32
  let v2493 : BitVec 32 := Scalar.addi v63 c128_i32_848
  let c14_i32_849 : BitVec 32 := 14#32
  let v2494 : BitVec 32 := Scalar.addi v2493 c14_i32_849
  let v2495 : Index := Scalar.indexCast v2494
  ![v2495.toNat]
def k0_mult143 (v2496 : BitVec 32) : BitVec 32 :=
  let c3_i32_850 : BitVec 32 := 3#32
  let v2497 : BitVec 32 := Scalar.shrsi v2496 c3_i32_850
  let c3_i32_851 : BitVec 32 := 3#32
  let v2498 : BitVec 32 := Scalar.shli v2497 c3_i32_851
  v2498

def k0_off298 (v2496 : BitVec 32) : Fin 2 → Nat :=
  let c3_i32_850 : BitVec 32 := 3#32
  let v2497 : BitVec 32 := Scalar.shrsi v2496 c3_i32_850
  let c3_i32_851 : BitVec 32 := 3#32
  let v2498 : BitVec 32 := Scalar.shli v2497 c3_i32_851
  let v2499 : BitVec 32 := v2498
  let v2500 : Index := Scalar.indexCast v2499
  let c0_852 : Index := 0#32
  ![v2500.toNat, 0]

def k0_chk143 (v2496 : BitVec 32) : Prop :=
  (8 ∣ (k0_mult143 v2496).toNat) ∧
  (∀ a, (k0_off298 v2496) a + S8x512.size a ≤ S20000x512.size a)
theorem k0_mult143_dvd : ∀ (v2496 : BitVec 32) (k0_hw143 : k0_chk143 v2496), 8 ∣ (k0_mult143 v2496).toNat := fun v2496 k0_hw143 => k0_hw143.1
theorem k0_off298_inb : ∀ (v2496 : BitVec 32) (k0_hw143 : k0_chk143 v2496), ∀ a, (k0_off298 v2496) a + S8x512.size a ≤ S20000x512.size a := fun v2496 k0_hw143 => k0_hw143.2

def k0_off299 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_854 : BitVec 32 := 128#32
  let v2510 : BitVec 32 := Scalar.addi v63 c128_i32_854
  let c15_i32_855 : BitVec 32 := 15#32
  let v2511 : BitVec 32 := Scalar.addi v2510 c15_i32_855
  let v2512 : Index := Scalar.indexCast v2511
  ![v2512.toNat]
def k0_mult144 (v2513 : BitVec 32) : BitVec 32 :=
  let c3_i32_856 : BitVec 32 := 3#32
  let v2514 : BitVec 32 := Scalar.shrsi v2513 c3_i32_856
  let c3_i32_857 : BitVec 32 := 3#32
  let v2515 : BitVec 32 := Scalar.shli v2514 c3_i32_857
  v2515

def k0_off300 (v2513 : BitVec 32) : Fin 2 → Nat :=
  let c3_i32_856 : BitVec 32 := 3#32
  let v2514 : BitVec 32 := Scalar.shrsi v2513 c3_i32_856
  let c3_i32_857 : BitVec 32 := 3#32
  let v2515 : BitVec 32 := Scalar.shli v2514 c3_i32_857
  let v2516 : BitVec 32 := v2515
  let v2517 : Index := Scalar.indexCast v2516
  let c0_858 : Index := 0#32
  ![v2517.toNat, 0]

def k0_chk144 (v2513 : BitVec 32) : Prop :=
  (8 ∣ (k0_mult144 v2513).toNat) ∧
  (∀ a, (k0_off300 v2513) a + S8x512.size a ≤ S20000x512.size a)
theorem k0_mult144_dvd : ∀ (v2513 : BitVec 32) (k0_hw144 : k0_chk144 v2513), 8 ∣ (k0_mult144 v2513).toNat := fun v2513 k0_hw144 => k0_hw144.1
theorem k0_off300_inb : ∀ (v2513 : BitVec 32) (k0_hw144 : k0_chk144 v2513), ∀ a, (k0_off300 v2513) a + S8x512.size a ≤ S20000x512.size a := fun v2513 k0_hw144 => k0_hw144.2

def k0_off301 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_860 : BitVec 32 := 128#32
  let v2527 : BitVec 32 := Scalar.addi v63 c128_i32_860
  let c16_i32_861 : BitVec 32 := 16#32
  let v2528 : BitVec 32 := Scalar.addi v2527 c16_i32_861
  let v2529 : Index := Scalar.indexCast v2528
  ![v2529.toNat]
def k0_mult145 (v2530 : BitVec 32) : BitVec 32 :=
  let c3_i32_862 : BitVec 32 := 3#32
  let v2531 : BitVec 32 := Scalar.shrsi v2530 c3_i32_862
  let c3_i32_863 : BitVec 32 := 3#32
  let v2532 : BitVec 32 := Scalar.shli v2531 c3_i32_863
  v2532

def k0_off302 (v2530 : BitVec 32) : Fin 2 → Nat :=
  let c3_i32_862 : BitVec 32 := 3#32
  let v2531 : BitVec 32 := Scalar.shrsi v2530 c3_i32_862
  let c3_i32_863 : BitVec 32 := 3#32
  let v2532 : BitVec 32 := Scalar.shli v2531 c3_i32_863
  let v2533 : BitVec 32 := v2532
  let v2534 : Index := Scalar.indexCast v2533
  let c0_864 : Index := 0#32
  ![v2534.toNat, 0]

def k0_chk145 (v2530 : BitVec 32) : Prop :=
  (8 ∣ (k0_mult145 v2530).toNat) ∧
  (∀ a, (k0_off302 v2530) a + S8x512.size a ≤ S20000x512.size a)
theorem k0_mult145_dvd : ∀ (v2530 : BitVec 32) (k0_hw145 : k0_chk145 v2530), 8 ∣ (k0_mult145 v2530).toNat := fun v2530 k0_hw145 => k0_hw145.1
theorem k0_off302_inb : ∀ (v2530 : BitVec 32) (k0_hw145 : k0_chk145 v2530), ∀ a, (k0_off302 v2530) a + S8x512.size a ≤ S20000x512.size a := fun v2530 k0_hw145 => k0_hw145.2

def k0_off303 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_866 : BitVec 32 := 128#32
  let v2544 : BitVec 32 := Scalar.addi v63 c128_i32_866
  let c17_i32_867 : BitVec 32 := 17#32
  let v2545 : BitVec 32 := Scalar.addi v2544 c17_i32_867
  let v2546 : Index := Scalar.indexCast v2545
  ![v2546.toNat]
def k0_mult146 (v2547 : BitVec 32) : BitVec 32 :=
  let c3_i32_868 : BitVec 32 := 3#32
  let v2548 : BitVec 32 := Scalar.shrsi v2547 c3_i32_868
  let c3_i32_869 : BitVec 32 := 3#32
  let v2549 : BitVec 32 := Scalar.shli v2548 c3_i32_869
  v2549

def k0_off304 (v2547 : BitVec 32) : Fin 2 → Nat :=
  let c3_i32_868 : BitVec 32 := 3#32
  let v2548 : BitVec 32 := Scalar.shrsi v2547 c3_i32_868
  let c3_i32_869 : BitVec 32 := 3#32
  let v2549 : BitVec 32 := Scalar.shli v2548 c3_i32_869
  let v2550 : BitVec 32 := v2549
  let v2551 : Index := Scalar.indexCast v2550
  let c0_870 : Index := 0#32
  ![v2551.toNat, 0]

def k0_chk146 (v2547 : BitVec 32) : Prop :=
  (8 ∣ (k0_mult146 v2547).toNat) ∧
  (∀ a, (k0_off304 v2547) a + S8x512.size a ≤ S20000x512.size a)
theorem k0_mult146_dvd : ∀ (v2547 : BitVec 32) (k0_hw146 : k0_chk146 v2547), 8 ∣ (k0_mult146 v2547).toNat := fun v2547 k0_hw146 => k0_hw146.1
theorem k0_off304_inb : ∀ (v2547 : BitVec 32) (k0_hw146 : k0_chk146 v2547), ∀ a, (k0_off304 v2547) a + S8x512.size a ≤ S20000x512.size a := fun v2547 k0_hw146 => k0_hw146.2

def k0_off305 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_872 : BitVec 32 := 128#32
  let v2561 : BitVec 32 := Scalar.addi v63 c128_i32_872
  let c18_i32_873 : BitVec 32 := 18#32
  let v2562 : BitVec 32 := Scalar.addi v2561 c18_i32_873
  let v2563 : Index := Scalar.indexCast v2562
  ![v2563.toNat]
def k0_mult147 (v2564 : BitVec 32) : BitVec 32 :=
  let c3_i32_874 : BitVec 32 := 3#32
  let v2565 : BitVec 32 := Scalar.shrsi v2564 c3_i32_874
  let c3_i32_875 : BitVec 32 := 3#32
  let v2566 : BitVec 32 := Scalar.shli v2565 c3_i32_875
  v2566

def k0_off306 (v2564 : BitVec 32) : Fin 2 → Nat :=
  let c3_i32_874 : BitVec 32 := 3#32
  let v2565 : BitVec 32 := Scalar.shrsi v2564 c3_i32_874
  let c3_i32_875 : BitVec 32 := 3#32
  let v2566 : BitVec 32 := Scalar.shli v2565 c3_i32_875
  let v2567 : BitVec 32 := v2566
  let v2568 : Index := Scalar.indexCast v2567
  let c0_876 : Index := 0#32
  ![v2568.toNat, 0]

def k0_chk147 (v2564 : BitVec 32) : Prop :=
  (8 ∣ (k0_mult147 v2564).toNat) ∧
  (∀ a, (k0_off306 v2564) a + S8x512.size a ≤ S20000x512.size a)
theorem k0_mult147_dvd : ∀ (v2564 : BitVec 32) (k0_hw147 : k0_chk147 v2564), 8 ∣ (k0_mult147 v2564).toNat := fun v2564 k0_hw147 => k0_hw147.1
theorem k0_off306_inb : ∀ (v2564 : BitVec 32) (k0_hw147 : k0_chk147 v2564), ∀ a, (k0_off306 v2564) a + S8x512.size a ≤ S20000x512.size a := fun v2564 k0_hw147 => k0_hw147.2

def k0_off307 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_878 : BitVec 32 := 128#32
  let v2578 : BitVec 32 := Scalar.addi v63 c128_i32_878
  let c19_i32_879 : BitVec 32 := 19#32
  let v2579 : BitVec 32 := Scalar.addi v2578 c19_i32_879
  let v2580 : Index := Scalar.indexCast v2579
  ![v2580.toNat]
def k0_mult148 (v2581 : BitVec 32) : BitVec 32 :=
  let c3_i32_880 : BitVec 32 := 3#32
  let v2582 : BitVec 32 := Scalar.shrsi v2581 c3_i32_880
  let c3_i32_881 : BitVec 32 := 3#32
  let v2583 : BitVec 32 := Scalar.shli v2582 c3_i32_881
  v2583

def k0_off308 (v2581 : BitVec 32) : Fin 2 → Nat :=
  let c3_i32_880 : BitVec 32 := 3#32
  let v2582 : BitVec 32 := Scalar.shrsi v2581 c3_i32_880
  let c3_i32_881 : BitVec 32 := 3#32
  let v2583 : BitVec 32 := Scalar.shli v2582 c3_i32_881
  let v2584 : BitVec 32 := v2583
  let v2585 : Index := Scalar.indexCast v2584
  let c0_882 : Index := 0#32
  ![v2585.toNat, 0]

def k0_chk148 (v2581 : BitVec 32) : Prop :=
  (8 ∣ (k0_mult148 v2581).toNat) ∧
  (∀ a, (k0_off308 v2581) a + S8x512.size a ≤ S20000x512.size a)
theorem k0_mult148_dvd : ∀ (v2581 : BitVec 32) (k0_hw148 : k0_chk148 v2581), 8 ∣ (k0_mult148 v2581).toNat := fun v2581 k0_hw148 => k0_hw148.1
theorem k0_off308_inb : ∀ (v2581 : BitVec 32) (k0_hw148 : k0_chk148 v2581), ∀ a, (k0_off308 v2581) a + S8x512.size a ≤ S20000x512.size a := fun v2581 k0_hw148 => k0_hw148.2

def k0_off309 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_884 : BitVec 32 := 128#32
  let v2595 : BitVec 32 := Scalar.addi v63 c128_i32_884
  let c20_i32_885 : BitVec 32 := 20#32
  let v2596 : BitVec 32 := Scalar.addi v2595 c20_i32_885
  let v2597 : Index := Scalar.indexCast v2596
  ![v2597.toNat]
def k0_mult149 (v2598 : BitVec 32) : BitVec 32 :=
  let c3_i32_886 : BitVec 32 := 3#32
  let v2599 : BitVec 32 := Scalar.shrsi v2598 c3_i32_886
  let c3_i32_887 : BitVec 32 := 3#32
  let v2600 : BitVec 32 := Scalar.shli v2599 c3_i32_887
  v2600

def k0_off310 (v2598 : BitVec 32) : Fin 2 → Nat :=
  let c3_i32_886 : BitVec 32 := 3#32
  let v2599 : BitVec 32 := Scalar.shrsi v2598 c3_i32_886
  let c3_i32_887 : BitVec 32 := 3#32
  let v2600 : BitVec 32 := Scalar.shli v2599 c3_i32_887
  let v2601 : BitVec 32 := v2600
  let v2602 : Index := Scalar.indexCast v2601
  let c0_888 : Index := 0#32
  ![v2602.toNat, 0]

def k0_chk149 (v2598 : BitVec 32) : Prop :=
  (8 ∣ (k0_mult149 v2598).toNat) ∧
  (∀ a, (k0_off310 v2598) a + S8x512.size a ≤ S20000x512.size a)
theorem k0_mult149_dvd : ∀ (v2598 : BitVec 32) (k0_hw149 : k0_chk149 v2598), 8 ∣ (k0_mult149 v2598).toNat := fun v2598 k0_hw149 => k0_hw149.1
theorem k0_off310_inb : ∀ (v2598 : BitVec 32) (k0_hw149 : k0_chk149 v2598), ∀ a, (k0_off310 v2598) a + S8x512.size a ≤ S20000x512.size a := fun v2598 k0_hw149 => k0_hw149.2

def k0_off311 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_890 : BitVec 32 := 128#32
  let v2612 : BitVec 32 := Scalar.addi v63 c128_i32_890
  let c21_i32_891 : BitVec 32 := 21#32
  let v2613 : BitVec 32 := Scalar.addi v2612 c21_i32_891
  let v2614 : Index := Scalar.indexCast v2613
  ![v2614.toNat]
def k0_mult150 (v2615 : BitVec 32) : BitVec 32 :=
  let c3_i32_892 : BitVec 32 := 3#32
  let v2616 : BitVec 32 := Scalar.shrsi v2615 c3_i32_892
  let c3_i32_893 : BitVec 32 := 3#32
  let v2617 : BitVec 32 := Scalar.shli v2616 c3_i32_893
  v2617

def k0_off312 (v2615 : BitVec 32) : Fin 2 → Nat :=
  let c3_i32_892 : BitVec 32 := 3#32
  let v2616 : BitVec 32 := Scalar.shrsi v2615 c3_i32_892
  let c3_i32_893 : BitVec 32 := 3#32
  let v2617 : BitVec 32 := Scalar.shli v2616 c3_i32_893
  let v2618 : BitVec 32 := v2617
  let v2619 : Index := Scalar.indexCast v2618
  let c0_894 : Index := 0#32
  ![v2619.toNat, 0]

def k0_chk150 (v2615 : BitVec 32) : Prop :=
  (8 ∣ (k0_mult150 v2615).toNat) ∧
  (∀ a, (k0_off312 v2615) a + S8x512.size a ≤ S20000x512.size a)
theorem k0_mult150_dvd : ∀ (v2615 : BitVec 32) (k0_hw150 : k0_chk150 v2615), 8 ∣ (k0_mult150 v2615).toNat := fun v2615 k0_hw150 => k0_hw150.1
theorem k0_off312_inb : ∀ (v2615 : BitVec 32) (k0_hw150 : k0_chk150 v2615), ∀ a, (k0_off312 v2615) a + S8x512.size a ≤ S20000x512.size a := fun v2615 k0_hw150 => k0_hw150.2

def k0_off313 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_896 : BitVec 32 := 128#32
  let v2629 : BitVec 32 := Scalar.addi v63 c128_i32_896
  let c22_i32_897 : BitVec 32 := 22#32
  let v2630 : BitVec 32 := Scalar.addi v2629 c22_i32_897
  let v2631 : Index := Scalar.indexCast v2630
  ![v2631.toNat]
def k0_mult151 (v2632 : BitVec 32) : BitVec 32 :=
  let c3_i32_898 : BitVec 32 := 3#32
  let v2633 : BitVec 32 := Scalar.shrsi v2632 c3_i32_898
  let c3_i32_899 : BitVec 32 := 3#32
  let v2634 : BitVec 32 := Scalar.shli v2633 c3_i32_899
  v2634

def k0_off314 (v2632 : BitVec 32) : Fin 2 → Nat :=
  let c3_i32_898 : BitVec 32 := 3#32
  let v2633 : BitVec 32 := Scalar.shrsi v2632 c3_i32_898
  let c3_i32_899 : BitVec 32 := 3#32
  let v2634 : BitVec 32 := Scalar.shli v2633 c3_i32_899
  let v2635 : BitVec 32 := v2634
  let v2636 : Index := Scalar.indexCast v2635
  let c0_900 : Index := 0#32
  ![v2636.toNat, 0]

def k0_chk151 (v2632 : BitVec 32) : Prop :=
  (8 ∣ (k0_mult151 v2632).toNat) ∧
  (∀ a, (k0_off314 v2632) a + S8x512.size a ≤ S20000x512.size a)
theorem k0_mult151_dvd : ∀ (v2632 : BitVec 32) (k0_hw151 : k0_chk151 v2632), 8 ∣ (k0_mult151 v2632).toNat := fun v2632 k0_hw151 => k0_hw151.1
theorem k0_off314_inb : ∀ (v2632 : BitVec 32) (k0_hw151 : k0_chk151 v2632), ∀ a, (k0_off314 v2632) a + S8x512.size a ≤ S20000x512.size a := fun v2632 k0_hw151 => k0_hw151.2

def k0_off315 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_902 : BitVec 32 := 128#32
  let v2646 : BitVec 32 := Scalar.addi v63 c128_i32_902
  let c23_i32_903 : BitVec 32 := 23#32
  let v2647 : BitVec 32 := Scalar.addi v2646 c23_i32_903
  let v2648 : Index := Scalar.indexCast v2647
  ![v2648.toNat]
def k0_mult152 (v2649 : BitVec 32) : BitVec 32 :=
  let c3_i32_904 : BitVec 32 := 3#32
  let v2650 : BitVec 32 := Scalar.shrsi v2649 c3_i32_904
  let c3_i32_905 : BitVec 32 := 3#32
  let v2651 : BitVec 32 := Scalar.shli v2650 c3_i32_905
  v2651

def k0_off316 (v2649 : BitVec 32) : Fin 2 → Nat :=
  let c3_i32_904 : BitVec 32 := 3#32
  let v2650 : BitVec 32 := Scalar.shrsi v2649 c3_i32_904
  let c3_i32_905 : BitVec 32 := 3#32
  let v2651 : BitVec 32 := Scalar.shli v2650 c3_i32_905
  let v2652 : BitVec 32 := v2651
  let v2653 : Index := Scalar.indexCast v2652
  let c0_906 : Index := 0#32
  ![v2653.toNat, 0]

def k0_chk152 (v2649 : BitVec 32) : Prop :=
  (8 ∣ (k0_mult152 v2649).toNat) ∧
  (∀ a, (k0_off316 v2649) a + S8x512.size a ≤ S20000x512.size a)
theorem k0_mult152_dvd : ∀ (v2649 : BitVec 32) (k0_hw152 : k0_chk152 v2649), 8 ∣ (k0_mult152 v2649).toNat := fun v2649 k0_hw152 => k0_hw152.1
theorem k0_off316_inb : ∀ (v2649 : BitVec 32) (k0_hw152 : k0_chk152 v2649), ∀ a, (k0_off316 v2649) a + S8x512.size a ≤ S20000x512.size a := fun v2649 k0_hw152 => k0_hw152.2

def k0_off317 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_908 : BitVec 32 := 128#32
  let v2663 : BitVec 32 := Scalar.addi v63 c128_i32_908
  let c24_i32_909 : BitVec 32 := 24#32
  let v2664 : BitVec 32 := Scalar.addi v2663 c24_i32_909
  let v2665 : Index := Scalar.indexCast v2664
  ![v2665.toNat]
def k0_mult153 (v2666 : BitVec 32) : BitVec 32 :=
  let c3_i32_910 : BitVec 32 := 3#32
  let v2667 : BitVec 32 := Scalar.shrsi v2666 c3_i32_910
  let c3_i32_911 : BitVec 32 := 3#32
  let v2668 : BitVec 32 := Scalar.shli v2667 c3_i32_911
  v2668

def k0_off318 (v2666 : BitVec 32) : Fin 2 → Nat :=
  let c3_i32_910 : BitVec 32 := 3#32
  let v2667 : BitVec 32 := Scalar.shrsi v2666 c3_i32_910
  let c3_i32_911 : BitVec 32 := 3#32
  let v2668 : BitVec 32 := Scalar.shli v2667 c3_i32_911
  let v2669 : BitVec 32 := v2668
  let v2670 : Index := Scalar.indexCast v2669
  let c0_912 : Index := 0#32
  ![v2670.toNat, 0]

def k0_chk153 (v2666 : BitVec 32) : Prop :=
  (8 ∣ (k0_mult153 v2666).toNat) ∧
  (∀ a, (k0_off318 v2666) a + S8x512.size a ≤ S20000x512.size a)
theorem k0_mult153_dvd : ∀ (v2666 : BitVec 32) (k0_hw153 : k0_chk153 v2666), 8 ∣ (k0_mult153 v2666).toNat := fun v2666 k0_hw153 => k0_hw153.1
theorem k0_off318_inb : ∀ (v2666 : BitVec 32) (k0_hw153 : k0_chk153 v2666), ∀ a, (k0_off318 v2666) a + S8x512.size a ≤ S20000x512.size a := fun v2666 k0_hw153 => k0_hw153.2

def k0_off319 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_914 : BitVec 32 := 128#32
  let v2680 : BitVec 32 := Scalar.addi v63 c128_i32_914
  let c25_i32_915 : BitVec 32 := 25#32
  let v2681 : BitVec 32 := Scalar.addi v2680 c25_i32_915
  let v2682 : Index := Scalar.indexCast v2681
  ![v2682.toNat]
def k0_mult154 (v2683 : BitVec 32) : BitVec 32 :=
  let c3_i32_916 : BitVec 32 := 3#32
  let v2684 : BitVec 32 := Scalar.shrsi v2683 c3_i32_916
  let c3_i32_917 : BitVec 32 := 3#32
  let v2685 : BitVec 32 := Scalar.shli v2684 c3_i32_917
  v2685

def k0_off320 (v2683 : BitVec 32) : Fin 2 → Nat :=
  let c3_i32_916 : BitVec 32 := 3#32
  let v2684 : BitVec 32 := Scalar.shrsi v2683 c3_i32_916
  let c3_i32_917 : BitVec 32 := 3#32
  let v2685 : BitVec 32 := Scalar.shli v2684 c3_i32_917
  let v2686 : BitVec 32 := v2685
  let v2687 : Index := Scalar.indexCast v2686
  let c0_918 : Index := 0#32
  ![v2687.toNat, 0]

def k0_chk154 (v2683 : BitVec 32) : Prop :=
  (8 ∣ (k0_mult154 v2683).toNat) ∧
  (∀ a, (k0_off320 v2683) a + S8x512.size a ≤ S20000x512.size a)
theorem k0_mult154_dvd : ∀ (v2683 : BitVec 32) (k0_hw154 : k0_chk154 v2683), 8 ∣ (k0_mult154 v2683).toNat := fun v2683 k0_hw154 => k0_hw154.1
theorem k0_off320_inb : ∀ (v2683 : BitVec 32) (k0_hw154 : k0_chk154 v2683), ∀ a, (k0_off320 v2683) a + S8x512.size a ≤ S20000x512.size a := fun v2683 k0_hw154 => k0_hw154.2

def k0_off321 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_920 : BitVec 32 := 128#32
  let v2697 : BitVec 32 := Scalar.addi v63 c128_i32_920
  let c26_i32_921 : BitVec 32 := 26#32
  let v2698 : BitVec 32 := Scalar.addi v2697 c26_i32_921
  let v2699 : Index := Scalar.indexCast v2698
  ![v2699.toNat]
def k0_mult155 (v2700 : BitVec 32) : BitVec 32 :=
  let c3_i32_922 : BitVec 32 := 3#32
  let v2701 : BitVec 32 := Scalar.shrsi v2700 c3_i32_922
  let c3_i32_923 : BitVec 32 := 3#32
  let v2702 : BitVec 32 := Scalar.shli v2701 c3_i32_923
  v2702

def k0_off322 (v2700 : BitVec 32) : Fin 2 → Nat :=
  let c3_i32_922 : BitVec 32 := 3#32
  let v2701 : BitVec 32 := Scalar.shrsi v2700 c3_i32_922
  let c3_i32_923 : BitVec 32 := 3#32
  let v2702 : BitVec 32 := Scalar.shli v2701 c3_i32_923
  let v2703 : BitVec 32 := v2702
  let v2704 : Index := Scalar.indexCast v2703
  let c0_924 : Index := 0#32
  ![v2704.toNat, 0]

def k0_chk155 (v2700 : BitVec 32) : Prop :=
  (8 ∣ (k0_mult155 v2700).toNat) ∧
  (∀ a, (k0_off322 v2700) a + S8x512.size a ≤ S20000x512.size a)
theorem k0_mult155_dvd : ∀ (v2700 : BitVec 32) (k0_hw155 : k0_chk155 v2700), 8 ∣ (k0_mult155 v2700).toNat := fun v2700 k0_hw155 => k0_hw155.1
theorem k0_off322_inb : ∀ (v2700 : BitVec 32) (k0_hw155 : k0_chk155 v2700), ∀ a, (k0_off322 v2700) a + S8x512.size a ≤ S20000x512.size a := fun v2700 k0_hw155 => k0_hw155.2

def k0_off323 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_926 : BitVec 32 := 128#32
  let v2714 : BitVec 32 := Scalar.addi v63 c128_i32_926
  let c27_i32_927 : BitVec 32 := 27#32
  let v2715 : BitVec 32 := Scalar.addi v2714 c27_i32_927
  let v2716 : Index := Scalar.indexCast v2715
  ![v2716.toNat]
def k0_mult156 (v2717 : BitVec 32) : BitVec 32 :=
  let c3_i32_928 : BitVec 32 := 3#32
  let v2718 : BitVec 32 := Scalar.shrsi v2717 c3_i32_928
  let c3_i32_929 : BitVec 32 := 3#32
  let v2719 : BitVec 32 := Scalar.shli v2718 c3_i32_929
  v2719

def k0_off324 (v2717 : BitVec 32) : Fin 2 → Nat :=
  let c3_i32_928 : BitVec 32 := 3#32
  let v2718 : BitVec 32 := Scalar.shrsi v2717 c3_i32_928
  let c3_i32_929 : BitVec 32 := 3#32
  let v2719 : BitVec 32 := Scalar.shli v2718 c3_i32_929
  let v2720 : BitVec 32 := v2719
  let v2721 : Index := Scalar.indexCast v2720
  let c0_930 : Index := 0#32
  ![v2721.toNat, 0]

def k0_chk156 (v2717 : BitVec 32) : Prop :=
  (8 ∣ (k0_mult156 v2717).toNat) ∧
  (∀ a, (k0_off324 v2717) a + S8x512.size a ≤ S20000x512.size a)
theorem k0_mult156_dvd : ∀ (v2717 : BitVec 32) (k0_hw156 : k0_chk156 v2717), 8 ∣ (k0_mult156 v2717).toNat := fun v2717 k0_hw156 => k0_hw156.1
theorem k0_off324_inb : ∀ (v2717 : BitVec 32) (k0_hw156 : k0_chk156 v2717), ∀ a, (k0_off324 v2717) a + S8x512.size a ≤ S20000x512.size a := fun v2717 k0_hw156 => k0_hw156.2

def k0_off325 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_932 : BitVec 32 := 128#32
  let v2731 : BitVec 32 := Scalar.addi v63 c128_i32_932
  let c28_i32_933 : BitVec 32 := 28#32
  let v2732 : BitVec 32 := Scalar.addi v2731 c28_i32_933
  let v2733 : Index := Scalar.indexCast v2732
  ![v2733.toNat]
def k0_mult157 (v2734 : BitVec 32) : BitVec 32 :=
  let c3_i32_934 : BitVec 32 := 3#32
  let v2735 : BitVec 32 := Scalar.shrsi v2734 c3_i32_934
  let c3_i32_935 : BitVec 32 := 3#32
  let v2736 : BitVec 32 := Scalar.shli v2735 c3_i32_935
  v2736

def k0_off326 (v2734 : BitVec 32) : Fin 2 → Nat :=
  let c3_i32_934 : BitVec 32 := 3#32
  let v2735 : BitVec 32 := Scalar.shrsi v2734 c3_i32_934
  let c3_i32_935 : BitVec 32 := 3#32
  let v2736 : BitVec 32 := Scalar.shli v2735 c3_i32_935
  let v2737 : BitVec 32 := v2736
  let v2738 : Index := Scalar.indexCast v2737
  let c0_936 : Index := 0#32
  ![v2738.toNat, 0]

def k0_chk157 (v2734 : BitVec 32) : Prop :=
  (8 ∣ (k0_mult157 v2734).toNat) ∧
  (∀ a, (k0_off326 v2734) a + S8x512.size a ≤ S20000x512.size a)
theorem k0_mult157_dvd : ∀ (v2734 : BitVec 32) (k0_hw157 : k0_chk157 v2734), 8 ∣ (k0_mult157 v2734).toNat := fun v2734 k0_hw157 => k0_hw157.1
theorem k0_off326_inb : ∀ (v2734 : BitVec 32) (k0_hw157 : k0_chk157 v2734), ∀ a, (k0_off326 v2734) a + S8x512.size a ≤ S20000x512.size a := fun v2734 k0_hw157 => k0_hw157.2

def k0_off327 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_938 : BitVec 32 := 128#32
  let v2748 : BitVec 32 := Scalar.addi v63 c128_i32_938
  let c29_i32_939 : BitVec 32 := 29#32
  let v2749 : BitVec 32 := Scalar.addi v2748 c29_i32_939
  let v2750 : Index := Scalar.indexCast v2749
  ![v2750.toNat]
def k0_mult158 (v2751 : BitVec 32) : BitVec 32 :=
  let c3_i32_940 : BitVec 32 := 3#32
  let v2752 : BitVec 32 := Scalar.shrsi v2751 c3_i32_940
  let c3_i32_941 : BitVec 32 := 3#32
  let v2753 : BitVec 32 := Scalar.shli v2752 c3_i32_941
  v2753

def k0_off328 (v2751 : BitVec 32) : Fin 2 → Nat :=
  let c3_i32_940 : BitVec 32 := 3#32
  let v2752 : BitVec 32 := Scalar.shrsi v2751 c3_i32_940
  let c3_i32_941 : BitVec 32 := 3#32
  let v2753 : BitVec 32 := Scalar.shli v2752 c3_i32_941
  let v2754 : BitVec 32 := v2753
  let v2755 : Index := Scalar.indexCast v2754
  let c0_942 : Index := 0#32
  ![v2755.toNat, 0]

def k0_chk158 (v2751 : BitVec 32) : Prop :=
  (8 ∣ (k0_mult158 v2751).toNat) ∧
  (∀ a, (k0_off328 v2751) a + S8x512.size a ≤ S20000x512.size a)
theorem k0_mult158_dvd : ∀ (v2751 : BitVec 32) (k0_hw158 : k0_chk158 v2751), 8 ∣ (k0_mult158 v2751).toNat := fun v2751 k0_hw158 => k0_hw158.1
theorem k0_off328_inb : ∀ (v2751 : BitVec 32) (k0_hw158 : k0_chk158 v2751), ∀ a, (k0_off328 v2751) a + S8x512.size a ≤ S20000x512.size a := fun v2751 k0_hw158 => k0_hw158.2

def k0_off329 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_944 : BitVec 32 := 128#32
  let v2765 : BitVec 32 := Scalar.addi v63 c128_i32_944
  let c30_i32_945 : BitVec 32 := 30#32
  let v2766 : BitVec 32 := Scalar.addi v2765 c30_i32_945
  let v2767 : Index := Scalar.indexCast v2766
  ![v2767.toNat]
def k0_mult159 (v2768 : BitVec 32) : BitVec 32 :=
  let c3_i32_946 : BitVec 32 := 3#32
  let v2769 : BitVec 32 := Scalar.shrsi v2768 c3_i32_946
  let c3_i32_947 : BitVec 32 := 3#32
  let v2770 : BitVec 32 := Scalar.shli v2769 c3_i32_947
  v2770

def k0_off330 (v2768 : BitVec 32) : Fin 2 → Nat :=
  let c3_i32_946 : BitVec 32 := 3#32
  let v2769 : BitVec 32 := Scalar.shrsi v2768 c3_i32_946
  let c3_i32_947 : BitVec 32 := 3#32
  let v2770 : BitVec 32 := Scalar.shli v2769 c3_i32_947
  let v2771 : BitVec 32 := v2770
  let v2772 : Index := Scalar.indexCast v2771
  let c0_948 : Index := 0#32
  ![v2772.toNat, 0]

def k0_chk159 (v2768 : BitVec 32) : Prop :=
  (8 ∣ (k0_mult159 v2768).toNat) ∧
  (∀ a, (k0_off330 v2768) a + S8x512.size a ≤ S20000x512.size a)
theorem k0_mult159_dvd : ∀ (v2768 : BitVec 32) (k0_hw159 : k0_chk159 v2768), 8 ∣ (k0_mult159 v2768).toNat := fun v2768 k0_hw159 => k0_hw159.1
theorem k0_off330_inb : ∀ (v2768 : BitVec 32) (k0_hw159 : k0_chk159 v2768), ∀ a, (k0_off330 v2768) a + S8x512.size a ≤ S20000x512.size a := fun v2768 k0_hw159 => k0_hw159.2

def k0_off331 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_950 : BitVec 32 := 128#32
  let v2782 : BitVec 32 := Scalar.addi v63 c128_i32_950
  let c31_i32_951 : BitVec 32 := 31#32
  let v2783 : BitVec 32 := Scalar.addi v2782 c31_i32_951
  let v2784 : Index := Scalar.indexCast v2783
  ![v2784.toNat]
def k0_mult160 (v2785 : BitVec 32) : BitVec 32 :=
  let c3_i32_952 : BitVec 32 := 3#32
  let v2786 : BitVec 32 := Scalar.shrsi v2785 c3_i32_952
  let c3_i32_953 : BitVec 32 := 3#32
  let v2787 : BitVec 32 := Scalar.shli v2786 c3_i32_953
  v2787

def k0_off332 (v2785 : BitVec 32) : Fin 2 → Nat :=
  let c3_i32_952 : BitVec 32 := 3#32
  let v2786 : BitVec 32 := Scalar.shrsi v2785 c3_i32_952
  let c3_i32_953 : BitVec 32 := 3#32
  let v2787 : BitVec 32 := Scalar.shli v2786 c3_i32_953
  let v2788 : BitVec 32 := v2787
  let v2789 : Index := Scalar.indexCast v2788
  let c0_954 : Index := 0#32
  ![v2789.toNat, 0]

def k0_chk160 (v2785 : BitVec 32) : Prop :=
  (8 ∣ (k0_mult160 v2785).toNat) ∧
  (∀ a, (k0_off332 v2785) a + S8x512.size a ≤ S20000x512.size a)
theorem k0_mult160_dvd : ∀ (v2785 : BitVec 32) (k0_hw160 : k0_chk160 v2785), 8 ∣ (k0_mult160 v2785).toNat := fun v2785 k0_hw160 => k0_hw160.1
theorem k0_off332_inb : ∀ (v2785 : BitVec 32) (k0_hw160 : k0_chk160 v2785), ∀ a, (k0_off332 v2785) a + S8x512.size a ≤ S20000x512.size a := fun v2785 k0_hw160 => k0_hw160.2

def k0_off333 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_956 : BitVec 32 := 128#32
  let v2799 : BitVec 32 := Scalar.addi v63 c128_i32_956
  let c32_i32_957 : BitVec 32 := 32#32
  let v2800 : BitVec 32 := Scalar.addi v2799 c32_i32_957
  let v2801 : Index := Scalar.indexCast v2800
  ![v2801.toNat]
def k0_mult161 (v2802 : BitVec 32) : BitVec 32 :=
  let c3_i32_958 : BitVec 32 := 3#32
  let v2803 : BitVec 32 := Scalar.shrsi v2802 c3_i32_958
  let c3_i32_959 : BitVec 32 := 3#32
  let v2804 : BitVec 32 := Scalar.shli v2803 c3_i32_959
  v2804

def k0_off334 (v2802 : BitVec 32) : Fin 2 → Nat :=
  let c3_i32_958 : BitVec 32 := 3#32
  let v2803 : BitVec 32 := Scalar.shrsi v2802 c3_i32_958
  let c3_i32_959 : BitVec 32 := 3#32
  let v2804 : BitVec 32 := Scalar.shli v2803 c3_i32_959
  let v2805 : BitVec 32 := v2804
  let v2806 : Index := Scalar.indexCast v2805
  let c0_960 : Index := 0#32
  ![v2806.toNat, 0]

def k0_chk161 (v2802 : BitVec 32) : Prop :=
  (8 ∣ (k0_mult161 v2802).toNat) ∧
  (∀ a, (k0_off334 v2802) a + S8x512.size a ≤ S20000x512.size a)
theorem k0_mult161_dvd : ∀ (v2802 : BitVec 32) (k0_hw161 : k0_chk161 v2802), 8 ∣ (k0_mult161 v2802).toNat := fun v2802 k0_hw161 => k0_hw161.1
theorem k0_off334_inb : ∀ (v2802 : BitVec 32) (k0_hw161 : k0_chk161 v2802), ∀ a, (k0_off334 v2802) a + S8x512.size a ≤ S20000x512.size a := fun v2802 k0_hw161 => k0_hw161.2

def k0_off335 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_962 : BitVec 32 := 128#32
  let v2816 : BitVec 32 := Scalar.addi v63 c128_i32_962
  let c33_i32_963 : BitVec 32 := 33#32
  let v2817 : BitVec 32 := Scalar.addi v2816 c33_i32_963
  let v2818 : Index := Scalar.indexCast v2817
  ![v2818.toNat]
def k0_mult162 (v2819 : BitVec 32) : BitVec 32 :=
  let c3_i32_964 : BitVec 32 := 3#32
  let v2820 : BitVec 32 := Scalar.shrsi v2819 c3_i32_964
  let c3_i32_965 : BitVec 32 := 3#32
  let v2821 : BitVec 32 := Scalar.shli v2820 c3_i32_965
  v2821

def k0_off336 (v2819 : BitVec 32) : Fin 2 → Nat :=
  let c3_i32_964 : BitVec 32 := 3#32
  let v2820 : BitVec 32 := Scalar.shrsi v2819 c3_i32_964
  let c3_i32_965 : BitVec 32 := 3#32
  let v2821 : BitVec 32 := Scalar.shli v2820 c3_i32_965
  let v2822 : BitVec 32 := v2821
  let v2823 : Index := Scalar.indexCast v2822
  let c0_966 : Index := 0#32
  ![v2823.toNat, 0]

def k0_chk162 (v2819 : BitVec 32) : Prop :=
  (8 ∣ (k0_mult162 v2819).toNat) ∧
  (∀ a, (k0_off336 v2819) a + S8x512.size a ≤ S20000x512.size a)
theorem k0_mult162_dvd : ∀ (v2819 : BitVec 32) (k0_hw162 : k0_chk162 v2819), 8 ∣ (k0_mult162 v2819).toNat := fun v2819 k0_hw162 => k0_hw162.1
theorem k0_off336_inb : ∀ (v2819 : BitVec 32) (k0_hw162 : k0_chk162 v2819), ∀ a, (k0_off336 v2819) a + S8x512.size a ≤ S20000x512.size a := fun v2819 k0_hw162 => k0_hw162.2

def k0_off337 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_968 : BitVec 32 := 128#32
  let v2833 : BitVec 32 := Scalar.addi v63 c128_i32_968
  let c34_i32_969 : BitVec 32 := 34#32
  let v2834 : BitVec 32 := Scalar.addi v2833 c34_i32_969
  let v2835 : Index := Scalar.indexCast v2834
  ![v2835.toNat]
def k0_mult163 (v2836 : BitVec 32) : BitVec 32 :=
  let c3_i32_970 : BitVec 32 := 3#32
  let v2837 : BitVec 32 := Scalar.shrsi v2836 c3_i32_970
  let c3_i32_971 : BitVec 32 := 3#32
  let v2838 : BitVec 32 := Scalar.shli v2837 c3_i32_971
  v2838

def k0_off338 (v2836 : BitVec 32) : Fin 2 → Nat :=
  let c3_i32_970 : BitVec 32 := 3#32
  let v2837 : BitVec 32 := Scalar.shrsi v2836 c3_i32_970
  let c3_i32_971 : BitVec 32 := 3#32
  let v2838 : BitVec 32 := Scalar.shli v2837 c3_i32_971
  let v2839 : BitVec 32 := v2838
  let v2840 : Index := Scalar.indexCast v2839
  let c0_972 : Index := 0#32
  ![v2840.toNat, 0]

def k0_chk163 (v2836 : BitVec 32) : Prop :=
  (8 ∣ (k0_mult163 v2836).toNat) ∧
  (∀ a, (k0_off338 v2836) a + S8x512.size a ≤ S20000x512.size a)
theorem k0_mult163_dvd : ∀ (v2836 : BitVec 32) (k0_hw163 : k0_chk163 v2836), 8 ∣ (k0_mult163 v2836).toNat := fun v2836 k0_hw163 => k0_hw163.1
theorem k0_off338_inb : ∀ (v2836 : BitVec 32) (k0_hw163 : k0_chk163 v2836), ∀ a, (k0_off338 v2836) a + S8x512.size a ≤ S20000x512.size a := fun v2836 k0_hw163 => k0_hw163.2

def k0_off339 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_974 : BitVec 32 := 128#32
  let v2850 : BitVec 32 := Scalar.addi v63 c128_i32_974
  let c35_i32_975 : BitVec 32 := 35#32
  let v2851 : BitVec 32 := Scalar.addi v2850 c35_i32_975
  let v2852 : Index := Scalar.indexCast v2851
  ![v2852.toNat]
def k0_mult164 (v2853 : BitVec 32) : BitVec 32 :=
  let c3_i32_976 : BitVec 32 := 3#32
  let v2854 : BitVec 32 := Scalar.shrsi v2853 c3_i32_976
  let c3_i32_977 : BitVec 32 := 3#32
  let v2855 : BitVec 32 := Scalar.shli v2854 c3_i32_977
  v2855

def k0_off340 (v2853 : BitVec 32) : Fin 2 → Nat :=
  let c3_i32_976 : BitVec 32 := 3#32
  let v2854 : BitVec 32 := Scalar.shrsi v2853 c3_i32_976
  let c3_i32_977 : BitVec 32 := 3#32
  let v2855 : BitVec 32 := Scalar.shli v2854 c3_i32_977
  let v2856 : BitVec 32 := v2855
  let v2857 : Index := Scalar.indexCast v2856
  let c0_978 : Index := 0#32
  ![v2857.toNat, 0]

def k0_chk164 (v2853 : BitVec 32) : Prop :=
  (8 ∣ (k0_mult164 v2853).toNat) ∧
  (∀ a, (k0_off340 v2853) a + S8x512.size a ≤ S20000x512.size a)
theorem k0_mult164_dvd : ∀ (v2853 : BitVec 32) (k0_hw164 : k0_chk164 v2853), 8 ∣ (k0_mult164 v2853).toNat := fun v2853 k0_hw164 => k0_hw164.1
theorem k0_off340_inb : ∀ (v2853 : BitVec 32) (k0_hw164 : k0_chk164 v2853), ∀ a, (k0_off340 v2853) a + S8x512.size a ≤ S20000x512.size a := fun v2853 k0_hw164 => k0_hw164.2

def k0_off341 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_980 : BitVec 32 := 128#32
  let v2867 : BitVec 32 := Scalar.addi v63 c128_i32_980
  let c36_i32_981 : BitVec 32 := 36#32
  let v2868 : BitVec 32 := Scalar.addi v2867 c36_i32_981
  let v2869 : Index := Scalar.indexCast v2868
  ![v2869.toNat]
def k0_mult165 (v2870 : BitVec 32) : BitVec 32 :=
  let c3_i32_982 : BitVec 32 := 3#32
  let v2871 : BitVec 32 := Scalar.shrsi v2870 c3_i32_982
  let c3_i32_983 : BitVec 32 := 3#32
  let v2872 : BitVec 32 := Scalar.shli v2871 c3_i32_983
  v2872

def k0_off342 (v2870 : BitVec 32) : Fin 2 → Nat :=
  let c3_i32_982 : BitVec 32 := 3#32
  let v2871 : BitVec 32 := Scalar.shrsi v2870 c3_i32_982
  let c3_i32_983 : BitVec 32 := 3#32
  let v2872 : BitVec 32 := Scalar.shli v2871 c3_i32_983
  let v2873 : BitVec 32 := v2872
  let v2874 : Index := Scalar.indexCast v2873
  let c0_984 : Index := 0#32
  ![v2874.toNat, 0]

def k0_chk165 (v2870 : BitVec 32) : Prop :=
  (8 ∣ (k0_mult165 v2870).toNat) ∧
  (∀ a, (k0_off342 v2870) a + S8x512.size a ≤ S20000x512.size a)
theorem k0_mult165_dvd : ∀ (v2870 : BitVec 32) (k0_hw165 : k0_chk165 v2870), 8 ∣ (k0_mult165 v2870).toNat := fun v2870 k0_hw165 => k0_hw165.1
theorem k0_off342_inb : ∀ (v2870 : BitVec 32) (k0_hw165 : k0_chk165 v2870), ∀ a, (k0_off342 v2870) a + S8x512.size a ≤ S20000x512.size a := fun v2870 k0_hw165 => k0_hw165.2

def k0_off343 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_986 : BitVec 32 := 128#32
  let v2884 : BitVec 32 := Scalar.addi v63 c128_i32_986
  let c37_i32_987 : BitVec 32 := 37#32
  let v2885 : BitVec 32 := Scalar.addi v2884 c37_i32_987
  let v2886 : Index := Scalar.indexCast v2885
  ![v2886.toNat]
def k0_mult166 (v2887 : BitVec 32) : BitVec 32 :=
  let c3_i32_988 : BitVec 32 := 3#32
  let v2888 : BitVec 32 := Scalar.shrsi v2887 c3_i32_988
  let c3_i32_989 : BitVec 32 := 3#32
  let v2889 : BitVec 32 := Scalar.shli v2888 c3_i32_989
  v2889

def k0_off344 (v2887 : BitVec 32) : Fin 2 → Nat :=
  let c3_i32_988 : BitVec 32 := 3#32
  let v2888 : BitVec 32 := Scalar.shrsi v2887 c3_i32_988
  let c3_i32_989 : BitVec 32 := 3#32
  let v2889 : BitVec 32 := Scalar.shli v2888 c3_i32_989
  let v2890 : BitVec 32 := v2889
  let v2891 : Index := Scalar.indexCast v2890
  let c0_990 : Index := 0#32
  ![v2891.toNat, 0]

def k0_chk166 (v2887 : BitVec 32) : Prop :=
  (8 ∣ (k0_mult166 v2887).toNat) ∧
  (∀ a, (k0_off344 v2887) a + S8x512.size a ≤ S20000x512.size a)
theorem k0_mult166_dvd : ∀ (v2887 : BitVec 32) (k0_hw166 : k0_chk166 v2887), 8 ∣ (k0_mult166 v2887).toNat := fun v2887 k0_hw166 => k0_hw166.1
theorem k0_off344_inb : ∀ (v2887 : BitVec 32) (k0_hw166 : k0_chk166 v2887), ∀ a, (k0_off344 v2887) a + S8x512.size a ≤ S20000x512.size a := fun v2887 k0_hw166 => k0_hw166.2

def k0_off345 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_992 : BitVec 32 := 128#32
  let v2901 : BitVec 32 := Scalar.addi v63 c128_i32_992
  let c38_i32_993 : BitVec 32 := 38#32
  let v2902 : BitVec 32 := Scalar.addi v2901 c38_i32_993
  let v2903 : Index := Scalar.indexCast v2902
  ![v2903.toNat]
def k0_mult167 (v2904 : BitVec 32) : BitVec 32 :=
  let c3_i32_994 : BitVec 32 := 3#32
  let v2905 : BitVec 32 := Scalar.shrsi v2904 c3_i32_994
  let c3_i32_995 : BitVec 32 := 3#32
  let v2906 : BitVec 32 := Scalar.shli v2905 c3_i32_995
  v2906

def k0_off346 (v2904 : BitVec 32) : Fin 2 → Nat :=
  let c3_i32_994 : BitVec 32 := 3#32
  let v2905 : BitVec 32 := Scalar.shrsi v2904 c3_i32_994
  let c3_i32_995 : BitVec 32 := 3#32
  let v2906 : BitVec 32 := Scalar.shli v2905 c3_i32_995
  let v2907 : BitVec 32 := v2906
  let v2908 : Index := Scalar.indexCast v2907
  let c0_996 : Index := 0#32
  ![v2908.toNat, 0]

def k0_chk167 (v2904 : BitVec 32) : Prop :=
  (8 ∣ (k0_mult167 v2904).toNat) ∧
  (∀ a, (k0_off346 v2904) a + S8x512.size a ≤ S20000x512.size a)
theorem k0_mult167_dvd : ∀ (v2904 : BitVec 32) (k0_hw167 : k0_chk167 v2904), 8 ∣ (k0_mult167 v2904).toNat := fun v2904 k0_hw167 => k0_hw167.1
theorem k0_off346_inb : ∀ (v2904 : BitVec 32) (k0_hw167 : k0_chk167 v2904), ∀ a, (k0_off346 v2904) a + S8x512.size a ≤ S20000x512.size a := fun v2904 k0_hw167 => k0_hw167.2

def k0_off347 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_998 : BitVec 32 := 128#32
  let v2918 : BitVec 32 := Scalar.addi v63 c128_i32_998
  let c39_i32_999 : BitVec 32 := 39#32
  let v2919 : BitVec 32 := Scalar.addi v2918 c39_i32_999
  let v2920 : Index := Scalar.indexCast v2919
  ![v2920.toNat]
def k0_mult168 (v2921 : BitVec 32) : BitVec 32 :=
  let c3_i32_1000 : BitVec 32 := 3#32
  let v2922 : BitVec 32 := Scalar.shrsi v2921 c3_i32_1000
  let c3_i32_1001 : BitVec 32 := 3#32
  let v2923 : BitVec 32 := Scalar.shli v2922 c3_i32_1001
  v2923

def k0_off348 (v2921 : BitVec 32) : Fin 2 → Nat :=
  let c3_i32_1000 : BitVec 32 := 3#32
  let v2922 : BitVec 32 := Scalar.shrsi v2921 c3_i32_1000
  let c3_i32_1001 : BitVec 32 := 3#32
  let v2923 : BitVec 32 := Scalar.shli v2922 c3_i32_1001
  let v2924 : BitVec 32 := v2923
  let v2925 : Index := Scalar.indexCast v2924
  let c0_1002 : Index := 0#32
  ![v2925.toNat, 0]

def k0_chk168 (v2921 : BitVec 32) : Prop :=
  (8 ∣ (k0_mult168 v2921).toNat) ∧
  (∀ a, (k0_off348 v2921) a + S8x512.size a ≤ S20000x512.size a)
theorem k0_mult168_dvd : ∀ (v2921 : BitVec 32) (k0_hw168 : k0_chk168 v2921), 8 ∣ (k0_mult168 v2921).toNat := fun v2921 k0_hw168 => k0_hw168.1
theorem k0_off348_inb : ∀ (v2921 : BitVec 32) (k0_hw168 : k0_chk168 v2921), ∀ a, (k0_off348 v2921) a + S8x512.size a ≤ S20000x512.size a := fun v2921 k0_hw168 => k0_hw168.2

def k0_off349 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1004 : BitVec 32 := 128#32
  let v2935 : BitVec 32 := Scalar.addi v63 c128_i32_1004
  let c40_i32_1005 : BitVec 32 := 40#32
  let v2936 : BitVec 32 := Scalar.addi v2935 c40_i32_1005
  let v2937 : Index := Scalar.indexCast v2936
  ![v2937.toNat]
def k0_mult169 (v2938 : BitVec 32) : BitVec 32 :=
  let c3_i32_1006 : BitVec 32 := 3#32
  let v2939 : BitVec 32 := Scalar.shrsi v2938 c3_i32_1006
  let c3_i32_1007 : BitVec 32 := 3#32
  let v2940 : BitVec 32 := Scalar.shli v2939 c3_i32_1007
  v2940

def k0_off350 (v2938 : BitVec 32) : Fin 2 → Nat :=
  let c3_i32_1006 : BitVec 32 := 3#32
  let v2939 : BitVec 32 := Scalar.shrsi v2938 c3_i32_1006
  let c3_i32_1007 : BitVec 32 := 3#32
  let v2940 : BitVec 32 := Scalar.shli v2939 c3_i32_1007
  let v2941 : BitVec 32 := v2940
  let v2942 : Index := Scalar.indexCast v2941
  let c0_1008 : Index := 0#32
  ![v2942.toNat, 0]

def k0_chk169 (v2938 : BitVec 32) : Prop :=
  (8 ∣ (k0_mult169 v2938).toNat) ∧
  (∀ a, (k0_off350 v2938) a + S8x512.size a ≤ S20000x512.size a)
theorem k0_mult169_dvd : ∀ (v2938 : BitVec 32) (k0_hw169 : k0_chk169 v2938), 8 ∣ (k0_mult169 v2938).toNat := fun v2938 k0_hw169 => k0_hw169.1
theorem k0_off350_inb : ∀ (v2938 : BitVec 32) (k0_hw169 : k0_chk169 v2938), ∀ a, (k0_off350 v2938) a + S8x512.size a ≤ S20000x512.size a := fun v2938 k0_hw169 => k0_hw169.2

def k0_off351 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1010 : BitVec 32 := 128#32
  let v2952 : BitVec 32 := Scalar.addi v63 c128_i32_1010
  let c41_i32_1011 : BitVec 32 := 41#32
  let v2953 : BitVec 32 := Scalar.addi v2952 c41_i32_1011
  let v2954 : Index := Scalar.indexCast v2953
  ![v2954.toNat]
def k0_mult170 (v2955 : BitVec 32) : BitVec 32 :=
  let c3_i32_1012 : BitVec 32 := 3#32
  let v2956 : BitVec 32 := Scalar.shrsi v2955 c3_i32_1012
  let c3_i32_1013 : BitVec 32 := 3#32
  let v2957 : BitVec 32 := Scalar.shli v2956 c3_i32_1013
  v2957

def k0_off352 (v2955 : BitVec 32) : Fin 2 → Nat :=
  let c3_i32_1012 : BitVec 32 := 3#32
  let v2956 : BitVec 32 := Scalar.shrsi v2955 c3_i32_1012
  let c3_i32_1013 : BitVec 32 := 3#32
  let v2957 : BitVec 32 := Scalar.shli v2956 c3_i32_1013
  let v2958 : BitVec 32 := v2957
  let v2959 : Index := Scalar.indexCast v2958
  let c0_1014 : Index := 0#32
  ![v2959.toNat, 0]

def k0_chk170 (v2955 : BitVec 32) : Prop :=
  (8 ∣ (k0_mult170 v2955).toNat) ∧
  (∀ a, (k0_off352 v2955) a + S8x512.size a ≤ S20000x512.size a)
theorem k0_mult170_dvd : ∀ (v2955 : BitVec 32) (k0_hw170 : k0_chk170 v2955), 8 ∣ (k0_mult170 v2955).toNat := fun v2955 k0_hw170 => k0_hw170.1
theorem k0_off352_inb : ∀ (v2955 : BitVec 32) (k0_hw170 : k0_chk170 v2955), ∀ a, (k0_off352 v2955) a + S8x512.size a ≤ S20000x512.size a := fun v2955 k0_hw170 => k0_hw170.2

def k0_off353 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1016 : BitVec 32 := 128#32
  let v2969 : BitVec 32 := Scalar.addi v63 c128_i32_1016
  let c42_i32_1017 : BitVec 32 := 42#32
  let v2970 : BitVec 32 := Scalar.addi v2969 c42_i32_1017
  let v2971 : Index := Scalar.indexCast v2970
  ![v2971.toNat]
def k0_mult171 (v2972 : BitVec 32) : BitVec 32 :=
  let c3_i32_1018 : BitVec 32 := 3#32
  let v2973 : BitVec 32 := Scalar.shrsi v2972 c3_i32_1018
  let c3_i32_1019 : BitVec 32 := 3#32
  let v2974 : BitVec 32 := Scalar.shli v2973 c3_i32_1019
  v2974

def k0_off354 (v2972 : BitVec 32) : Fin 2 → Nat :=
  let c3_i32_1018 : BitVec 32 := 3#32
  let v2973 : BitVec 32 := Scalar.shrsi v2972 c3_i32_1018
  let c3_i32_1019 : BitVec 32 := 3#32
  let v2974 : BitVec 32 := Scalar.shli v2973 c3_i32_1019
  let v2975 : BitVec 32 := v2974
  let v2976 : Index := Scalar.indexCast v2975
  let c0_1020 : Index := 0#32
  ![v2976.toNat, 0]

def k0_chk171 (v2972 : BitVec 32) : Prop :=
  (8 ∣ (k0_mult171 v2972).toNat) ∧
  (∀ a, (k0_off354 v2972) a + S8x512.size a ≤ S20000x512.size a)
theorem k0_mult171_dvd : ∀ (v2972 : BitVec 32) (k0_hw171 : k0_chk171 v2972), 8 ∣ (k0_mult171 v2972).toNat := fun v2972 k0_hw171 => k0_hw171.1
theorem k0_off354_inb : ∀ (v2972 : BitVec 32) (k0_hw171 : k0_chk171 v2972), ∀ a, (k0_off354 v2972) a + S8x512.size a ≤ S20000x512.size a := fun v2972 k0_hw171 => k0_hw171.2

def k0_off355 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1022 : BitVec 32 := 128#32
  let v2986 : BitVec 32 := Scalar.addi v63 c128_i32_1022
  let c43_i32_1023 : BitVec 32 := 43#32
  let v2987 : BitVec 32 := Scalar.addi v2986 c43_i32_1023
  let v2988 : Index := Scalar.indexCast v2987
  ![v2988.toNat]
def k0_mult172 (v2989 : BitVec 32) : BitVec 32 :=
  let c3_i32_1024 : BitVec 32 := 3#32
  let v2990 : BitVec 32 := Scalar.shrsi v2989 c3_i32_1024
  let c3_i32_1025 : BitVec 32 := 3#32
  let v2991 : BitVec 32 := Scalar.shli v2990 c3_i32_1025
  v2991

def k0_off356 (v2989 : BitVec 32) : Fin 2 → Nat :=
  let c3_i32_1024 : BitVec 32 := 3#32
  let v2990 : BitVec 32 := Scalar.shrsi v2989 c3_i32_1024
  let c3_i32_1025 : BitVec 32 := 3#32
  let v2991 : BitVec 32 := Scalar.shli v2990 c3_i32_1025
  let v2992 : BitVec 32 := v2991
  let v2993 : Index := Scalar.indexCast v2992
  let c0_1026 : Index := 0#32
  ![v2993.toNat, 0]

def k0_chk172 (v2989 : BitVec 32) : Prop :=
  (8 ∣ (k0_mult172 v2989).toNat) ∧
  (∀ a, (k0_off356 v2989) a + S8x512.size a ≤ S20000x512.size a)
theorem k0_mult172_dvd : ∀ (v2989 : BitVec 32) (k0_hw172 : k0_chk172 v2989), 8 ∣ (k0_mult172 v2989).toNat := fun v2989 k0_hw172 => k0_hw172.1
theorem k0_off356_inb : ∀ (v2989 : BitVec 32) (k0_hw172 : k0_chk172 v2989), ∀ a, (k0_off356 v2989) a + S8x512.size a ≤ S20000x512.size a := fun v2989 k0_hw172 => k0_hw172.2

def k0_off357 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1028 : BitVec 32 := 128#32
  let v3003 : BitVec 32 := Scalar.addi v63 c128_i32_1028
  let c44_i32_1029 : BitVec 32 := 44#32
  let v3004 : BitVec 32 := Scalar.addi v3003 c44_i32_1029
  let v3005 : Index := Scalar.indexCast v3004
  ![v3005.toNat]
def k0_mult173 (v3006 : BitVec 32) : BitVec 32 :=
  let c3_i32_1030 : BitVec 32 := 3#32
  let v3007 : BitVec 32 := Scalar.shrsi v3006 c3_i32_1030
  let c3_i32_1031 : BitVec 32 := 3#32
  let v3008 : BitVec 32 := Scalar.shli v3007 c3_i32_1031
  v3008

def k0_off358 (v3006 : BitVec 32) : Fin 2 → Nat :=
  let c3_i32_1030 : BitVec 32 := 3#32
  let v3007 : BitVec 32 := Scalar.shrsi v3006 c3_i32_1030
  let c3_i32_1031 : BitVec 32 := 3#32
  let v3008 : BitVec 32 := Scalar.shli v3007 c3_i32_1031
  let v3009 : BitVec 32 := v3008
  let v3010 : Index := Scalar.indexCast v3009
  let c0_1032 : Index := 0#32
  ![v3010.toNat, 0]

def k0_chk173 (v3006 : BitVec 32) : Prop :=
  (8 ∣ (k0_mult173 v3006).toNat) ∧
  (∀ a, (k0_off358 v3006) a + S8x512.size a ≤ S20000x512.size a)
theorem k0_mult173_dvd : ∀ (v3006 : BitVec 32) (k0_hw173 : k0_chk173 v3006), 8 ∣ (k0_mult173 v3006).toNat := fun v3006 k0_hw173 => k0_hw173.1
theorem k0_off358_inb : ∀ (v3006 : BitVec 32) (k0_hw173 : k0_chk173 v3006), ∀ a, (k0_off358 v3006) a + S8x512.size a ≤ S20000x512.size a := fun v3006 k0_hw173 => k0_hw173.2

def k0_off359 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1034 : BitVec 32 := 128#32
  let v3020 : BitVec 32 := Scalar.addi v63 c128_i32_1034
  let c45_i32_1035 : BitVec 32 := 45#32
  let v3021 : BitVec 32 := Scalar.addi v3020 c45_i32_1035
  let v3022 : Index := Scalar.indexCast v3021
  ![v3022.toNat]
def k0_mult174 (v3023 : BitVec 32) : BitVec 32 :=
  let c3_i32_1036 : BitVec 32 := 3#32
  let v3024 : BitVec 32 := Scalar.shrsi v3023 c3_i32_1036
  let c3_i32_1037 : BitVec 32 := 3#32
  let v3025 : BitVec 32 := Scalar.shli v3024 c3_i32_1037
  v3025

def k0_off360 (v3023 : BitVec 32) : Fin 2 → Nat :=
  let c3_i32_1036 : BitVec 32 := 3#32
  let v3024 : BitVec 32 := Scalar.shrsi v3023 c3_i32_1036
  let c3_i32_1037 : BitVec 32 := 3#32
  let v3025 : BitVec 32 := Scalar.shli v3024 c3_i32_1037
  let v3026 : BitVec 32 := v3025
  let v3027 : Index := Scalar.indexCast v3026
  let c0_1038 : Index := 0#32
  ![v3027.toNat, 0]

def k0_chk174 (v3023 : BitVec 32) : Prop :=
  (8 ∣ (k0_mult174 v3023).toNat) ∧
  (∀ a, (k0_off360 v3023) a + S8x512.size a ≤ S20000x512.size a)
theorem k0_mult174_dvd : ∀ (v3023 : BitVec 32) (k0_hw174 : k0_chk174 v3023), 8 ∣ (k0_mult174 v3023).toNat := fun v3023 k0_hw174 => k0_hw174.1
theorem k0_off360_inb : ∀ (v3023 : BitVec 32) (k0_hw174 : k0_chk174 v3023), ∀ a, (k0_off360 v3023) a + S8x512.size a ≤ S20000x512.size a := fun v3023 k0_hw174 => k0_hw174.2

def k0_off361 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1040 : BitVec 32 := 128#32
  let v3037 : BitVec 32 := Scalar.addi v63 c128_i32_1040
  let c46_i32_1041 : BitVec 32 := 46#32
  let v3038 : BitVec 32 := Scalar.addi v3037 c46_i32_1041
  let v3039 : Index := Scalar.indexCast v3038
  ![v3039.toNat]
def k0_mult175 (v3040 : BitVec 32) : BitVec 32 :=
  let c3_i32_1042 : BitVec 32 := 3#32
  let v3041 : BitVec 32 := Scalar.shrsi v3040 c3_i32_1042
  let c3_i32_1043 : BitVec 32 := 3#32
  let v3042 : BitVec 32 := Scalar.shli v3041 c3_i32_1043
  v3042

def k0_off362 (v3040 : BitVec 32) : Fin 2 → Nat :=
  let c3_i32_1042 : BitVec 32 := 3#32
  let v3041 : BitVec 32 := Scalar.shrsi v3040 c3_i32_1042
  let c3_i32_1043 : BitVec 32 := 3#32
  let v3042 : BitVec 32 := Scalar.shli v3041 c3_i32_1043
  let v3043 : BitVec 32 := v3042
  let v3044 : Index := Scalar.indexCast v3043
  let c0_1044 : Index := 0#32
  ![v3044.toNat, 0]

def k0_chk175 (v3040 : BitVec 32) : Prop :=
  (8 ∣ (k0_mult175 v3040).toNat) ∧
  (∀ a, (k0_off362 v3040) a + S8x512.size a ≤ S20000x512.size a)
theorem k0_mult175_dvd : ∀ (v3040 : BitVec 32) (k0_hw175 : k0_chk175 v3040), 8 ∣ (k0_mult175 v3040).toNat := fun v3040 k0_hw175 => k0_hw175.1
theorem k0_off362_inb : ∀ (v3040 : BitVec 32) (k0_hw175 : k0_chk175 v3040), ∀ a, (k0_off362 v3040) a + S8x512.size a ≤ S20000x512.size a := fun v3040 k0_hw175 => k0_hw175.2

def k0_off363 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1046 : BitVec 32 := 128#32
  let v3054 : BitVec 32 := Scalar.addi v63 c128_i32_1046
  let c47_i32_1047 : BitVec 32 := 47#32
  let v3055 : BitVec 32 := Scalar.addi v3054 c47_i32_1047
  let v3056 : Index := Scalar.indexCast v3055
  ![v3056.toNat]
def k0_mult176 (v3057 : BitVec 32) : BitVec 32 :=
  let c3_i32_1048 : BitVec 32 := 3#32
  let v3058 : BitVec 32 := Scalar.shrsi v3057 c3_i32_1048
  let c3_i32_1049 : BitVec 32 := 3#32
  let v3059 : BitVec 32 := Scalar.shli v3058 c3_i32_1049
  v3059

def k0_off364 (v3057 : BitVec 32) : Fin 2 → Nat :=
  let c3_i32_1048 : BitVec 32 := 3#32
  let v3058 : BitVec 32 := Scalar.shrsi v3057 c3_i32_1048
  let c3_i32_1049 : BitVec 32 := 3#32
  let v3059 : BitVec 32 := Scalar.shli v3058 c3_i32_1049
  let v3060 : BitVec 32 := v3059
  let v3061 : Index := Scalar.indexCast v3060
  let c0_1050 : Index := 0#32
  ![v3061.toNat, 0]

def k0_chk176 (v3057 : BitVec 32) : Prop :=
  (8 ∣ (k0_mult176 v3057).toNat) ∧
  (∀ a, (k0_off364 v3057) a + S8x512.size a ≤ S20000x512.size a)
theorem k0_mult176_dvd : ∀ (v3057 : BitVec 32) (k0_hw176 : k0_chk176 v3057), 8 ∣ (k0_mult176 v3057).toNat := fun v3057 k0_hw176 => k0_hw176.1
theorem k0_off364_inb : ∀ (v3057 : BitVec 32) (k0_hw176 : k0_chk176 v3057), ∀ a, (k0_off364 v3057) a + S8x512.size a ≤ S20000x512.size a := fun v3057 k0_hw176 => k0_hw176.2

def k0_off365 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1052 : BitVec 32 := 128#32
  let v3071 : BitVec 32 := Scalar.addi v63 c128_i32_1052
  let c48_i32_1053 : BitVec 32 := 48#32
  let v3072 : BitVec 32 := Scalar.addi v3071 c48_i32_1053
  let v3073 : Index := Scalar.indexCast v3072
  ![v3073.toNat]
def k0_mult177 (v3074 : BitVec 32) : BitVec 32 :=
  let c3_i32_1054 : BitVec 32 := 3#32
  let v3075 : BitVec 32 := Scalar.shrsi v3074 c3_i32_1054
  let c3_i32_1055 : BitVec 32 := 3#32
  let v3076 : BitVec 32 := Scalar.shli v3075 c3_i32_1055
  v3076

def k0_off366 (v3074 : BitVec 32) : Fin 2 → Nat :=
  let c3_i32_1054 : BitVec 32 := 3#32
  let v3075 : BitVec 32 := Scalar.shrsi v3074 c3_i32_1054
  let c3_i32_1055 : BitVec 32 := 3#32
  let v3076 : BitVec 32 := Scalar.shli v3075 c3_i32_1055
  let v3077 : BitVec 32 := v3076
  let v3078 : Index := Scalar.indexCast v3077
  let c0_1056 : Index := 0#32
  ![v3078.toNat, 0]

def k0_chk177 (v3074 : BitVec 32) : Prop :=
  (8 ∣ (k0_mult177 v3074).toNat) ∧
  (∀ a, (k0_off366 v3074) a + S8x512.size a ≤ S20000x512.size a)
theorem k0_mult177_dvd : ∀ (v3074 : BitVec 32) (k0_hw177 : k0_chk177 v3074), 8 ∣ (k0_mult177 v3074).toNat := fun v3074 k0_hw177 => k0_hw177.1
theorem k0_off366_inb : ∀ (v3074 : BitVec 32) (k0_hw177 : k0_chk177 v3074), ∀ a, (k0_off366 v3074) a + S8x512.size a ≤ S20000x512.size a := fun v3074 k0_hw177 => k0_hw177.2

def k0_off367 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1058 : BitVec 32 := 128#32
  let v3088 : BitVec 32 := Scalar.addi v63 c128_i32_1058
  let c49_i32_1059 : BitVec 32 := 49#32
  let v3089 : BitVec 32 := Scalar.addi v3088 c49_i32_1059
  let v3090 : Index := Scalar.indexCast v3089
  ![v3090.toNat]
def k0_mult178 (v3091 : BitVec 32) : BitVec 32 :=
  let c3_i32_1060 : BitVec 32 := 3#32
  let v3092 : BitVec 32 := Scalar.shrsi v3091 c3_i32_1060
  let c3_i32_1061 : BitVec 32 := 3#32
  let v3093 : BitVec 32 := Scalar.shli v3092 c3_i32_1061
  v3093

def k0_off368 (v3091 : BitVec 32) : Fin 2 → Nat :=
  let c3_i32_1060 : BitVec 32 := 3#32
  let v3092 : BitVec 32 := Scalar.shrsi v3091 c3_i32_1060
  let c3_i32_1061 : BitVec 32 := 3#32
  let v3093 : BitVec 32 := Scalar.shli v3092 c3_i32_1061
  let v3094 : BitVec 32 := v3093
  let v3095 : Index := Scalar.indexCast v3094
  let c0_1062 : Index := 0#32
  ![v3095.toNat, 0]

def k0_chk178 (v3091 : BitVec 32) : Prop :=
  (8 ∣ (k0_mult178 v3091).toNat) ∧
  (∀ a, (k0_off368 v3091) a + S8x512.size a ≤ S20000x512.size a)
theorem k0_mult178_dvd : ∀ (v3091 : BitVec 32) (k0_hw178 : k0_chk178 v3091), 8 ∣ (k0_mult178 v3091).toNat := fun v3091 k0_hw178 => k0_hw178.1
theorem k0_off368_inb : ∀ (v3091 : BitVec 32) (k0_hw178 : k0_chk178 v3091), ∀ a, (k0_off368 v3091) a + S8x512.size a ≤ S20000x512.size a := fun v3091 k0_hw178 => k0_hw178.2

def k0_off369 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1064 : BitVec 32 := 128#32
  let v3105 : BitVec 32 := Scalar.addi v63 c128_i32_1064
  let c50_i32_1065 : BitVec 32 := 50#32
  let v3106 : BitVec 32 := Scalar.addi v3105 c50_i32_1065
  let v3107 : Index := Scalar.indexCast v3106
  ![v3107.toNat]
def k0_mult179 (v3108 : BitVec 32) : BitVec 32 :=
  let c3_i32_1066 : BitVec 32 := 3#32
  let v3109 : BitVec 32 := Scalar.shrsi v3108 c3_i32_1066
  let c3_i32_1067 : BitVec 32 := 3#32
  let v3110 : BitVec 32 := Scalar.shli v3109 c3_i32_1067
  v3110

def k0_off370 (v3108 : BitVec 32) : Fin 2 → Nat :=
  let c3_i32_1066 : BitVec 32 := 3#32
  let v3109 : BitVec 32 := Scalar.shrsi v3108 c3_i32_1066
  let c3_i32_1067 : BitVec 32 := 3#32
  let v3110 : BitVec 32 := Scalar.shli v3109 c3_i32_1067
  let v3111 : BitVec 32 := v3110
  let v3112 : Index := Scalar.indexCast v3111
  let c0_1068 : Index := 0#32
  ![v3112.toNat, 0]

def k0_chk179 (v3108 : BitVec 32) : Prop :=
  (8 ∣ (k0_mult179 v3108).toNat) ∧
  (∀ a, (k0_off370 v3108) a + S8x512.size a ≤ S20000x512.size a)
theorem k0_mult179_dvd : ∀ (v3108 : BitVec 32) (k0_hw179 : k0_chk179 v3108), 8 ∣ (k0_mult179 v3108).toNat := fun v3108 k0_hw179 => k0_hw179.1
theorem k0_off370_inb : ∀ (v3108 : BitVec 32) (k0_hw179 : k0_chk179 v3108), ∀ a, (k0_off370 v3108) a + S8x512.size a ≤ S20000x512.size a := fun v3108 k0_hw179 => k0_hw179.2

def k0_off371 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1070 : BitVec 32 := 128#32
  let v3122 : BitVec 32 := Scalar.addi v63 c128_i32_1070
  let c51_i32_1071 : BitVec 32 := 51#32
  let v3123 : BitVec 32 := Scalar.addi v3122 c51_i32_1071
  let v3124 : Index := Scalar.indexCast v3123
  ![v3124.toNat]
def k0_mult180 (v3125 : BitVec 32) : BitVec 32 :=
  let c3_i32_1072 : BitVec 32 := 3#32
  let v3126 : BitVec 32 := Scalar.shrsi v3125 c3_i32_1072
  let c3_i32_1073 : BitVec 32 := 3#32
  let v3127 : BitVec 32 := Scalar.shli v3126 c3_i32_1073
  v3127

def k0_off372 (v3125 : BitVec 32) : Fin 2 → Nat :=
  let c3_i32_1072 : BitVec 32 := 3#32
  let v3126 : BitVec 32 := Scalar.shrsi v3125 c3_i32_1072
  let c3_i32_1073 : BitVec 32 := 3#32
  let v3127 : BitVec 32 := Scalar.shli v3126 c3_i32_1073
  let v3128 : BitVec 32 := v3127
  let v3129 : Index := Scalar.indexCast v3128
  let c0_1074 : Index := 0#32
  ![v3129.toNat, 0]

def k0_chk180 (v3125 : BitVec 32) : Prop :=
  (8 ∣ (k0_mult180 v3125).toNat) ∧
  (∀ a, (k0_off372 v3125) a + S8x512.size a ≤ S20000x512.size a)
theorem k0_mult180_dvd : ∀ (v3125 : BitVec 32) (k0_hw180 : k0_chk180 v3125), 8 ∣ (k0_mult180 v3125).toNat := fun v3125 k0_hw180 => k0_hw180.1
theorem k0_off372_inb : ∀ (v3125 : BitVec 32) (k0_hw180 : k0_chk180 v3125), ∀ a, (k0_off372 v3125) a + S8x512.size a ≤ S20000x512.size a := fun v3125 k0_hw180 => k0_hw180.2

def k0_off373 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1076 : BitVec 32 := 128#32
  let v3139 : BitVec 32 := Scalar.addi v63 c128_i32_1076
  let c52_i32_1077 : BitVec 32 := 52#32
  let v3140 : BitVec 32 := Scalar.addi v3139 c52_i32_1077
  let v3141 : Index := Scalar.indexCast v3140
  ![v3141.toNat]
def k0_mult181 (v3142 : BitVec 32) : BitVec 32 :=
  let c3_i32_1078 : BitVec 32 := 3#32
  let v3143 : BitVec 32 := Scalar.shrsi v3142 c3_i32_1078
  let c3_i32_1079 : BitVec 32 := 3#32
  let v3144 : BitVec 32 := Scalar.shli v3143 c3_i32_1079
  v3144

def k0_off374 (v3142 : BitVec 32) : Fin 2 → Nat :=
  let c3_i32_1078 : BitVec 32 := 3#32
  let v3143 : BitVec 32 := Scalar.shrsi v3142 c3_i32_1078
  let c3_i32_1079 : BitVec 32 := 3#32
  let v3144 : BitVec 32 := Scalar.shli v3143 c3_i32_1079
  let v3145 : BitVec 32 := v3144
  let v3146 : Index := Scalar.indexCast v3145
  let c0_1080 : Index := 0#32
  ![v3146.toNat, 0]

def k0_chk181 (v3142 : BitVec 32) : Prop :=
  (8 ∣ (k0_mult181 v3142).toNat) ∧
  (∀ a, (k0_off374 v3142) a + S8x512.size a ≤ S20000x512.size a)
theorem k0_mult181_dvd : ∀ (v3142 : BitVec 32) (k0_hw181 : k0_chk181 v3142), 8 ∣ (k0_mult181 v3142).toNat := fun v3142 k0_hw181 => k0_hw181.1
theorem k0_off374_inb : ∀ (v3142 : BitVec 32) (k0_hw181 : k0_chk181 v3142), ∀ a, (k0_off374 v3142) a + S8x512.size a ≤ S20000x512.size a := fun v3142 k0_hw181 => k0_hw181.2

def k0_off375 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1082 : BitVec 32 := 128#32
  let v3156 : BitVec 32 := Scalar.addi v63 c128_i32_1082
  let c53_i32_1083 : BitVec 32 := 53#32
  let v3157 : BitVec 32 := Scalar.addi v3156 c53_i32_1083
  let v3158 : Index := Scalar.indexCast v3157
  ![v3158.toNat]
def k0_mult182 (v3159 : BitVec 32) : BitVec 32 :=
  let c3_i32_1084 : BitVec 32 := 3#32
  let v3160 : BitVec 32 := Scalar.shrsi v3159 c3_i32_1084
  let c3_i32_1085 : BitVec 32 := 3#32
  let v3161 : BitVec 32 := Scalar.shli v3160 c3_i32_1085
  v3161

def k0_off376 (v3159 : BitVec 32) : Fin 2 → Nat :=
  let c3_i32_1084 : BitVec 32 := 3#32
  let v3160 : BitVec 32 := Scalar.shrsi v3159 c3_i32_1084
  let c3_i32_1085 : BitVec 32 := 3#32
  let v3161 : BitVec 32 := Scalar.shli v3160 c3_i32_1085
  let v3162 : BitVec 32 := v3161
  let v3163 : Index := Scalar.indexCast v3162
  let c0_1086 : Index := 0#32
  ![v3163.toNat, 0]

def k0_chk182 (v3159 : BitVec 32) : Prop :=
  (8 ∣ (k0_mult182 v3159).toNat) ∧
  (∀ a, (k0_off376 v3159) a + S8x512.size a ≤ S20000x512.size a)
theorem k0_mult182_dvd : ∀ (v3159 : BitVec 32) (k0_hw182 : k0_chk182 v3159), 8 ∣ (k0_mult182 v3159).toNat := fun v3159 k0_hw182 => k0_hw182.1
theorem k0_off376_inb : ∀ (v3159 : BitVec 32) (k0_hw182 : k0_chk182 v3159), ∀ a, (k0_off376 v3159) a + S8x512.size a ≤ S20000x512.size a := fun v3159 k0_hw182 => k0_hw182.2

def k0_off377 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1088 : BitVec 32 := 128#32
  let v3173 : BitVec 32 := Scalar.addi v63 c128_i32_1088
  let c54_i32_1089 : BitVec 32 := 54#32
  let v3174 : BitVec 32 := Scalar.addi v3173 c54_i32_1089
  let v3175 : Index := Scalar.indexCast v3174
  ![v3175.toNat]
def k0_mult183 (v3176 : BitVec 32) : BitVec 32 :=
  let c3_i32_1090 : BitVec 32 := 3#32
  let v3177 : BitVec 32 := Scalar.shrsi v3176 c3_i32_1090
  let c3_i32_1091 : BitVec 32 := 3#32
  let v3178 : BitVec 32 := Scalar.shli v3177 c3_i32_1091
  v3178

def k0_off378 (v3176 : BitVec 32) : Fin 2 → Nat :=
  let c3_i32_1090 : BitVec 32 := 3#32
  let v3177 : BitVec 32 := Scalar.shrsi v3176 c3_i32_1090
  let c3_i32_1091 : BitVec 32 := 3#32
  let v3178 : BitVec 32 := Scalar.shli v3177 c3_i32_1091
  let v3179 : BitVec 32 := v3178
  let v3180 : Index := Scalar.indexCast v3179
  let c0_1092 : Index := 0#32
  ![v3180.toNat, 0]

def k0_chk183 (v3176 : BitVec 32) : Prop :=
  (8 ∣ (k0_mult183 v3176).toNat) ∧
  (∀ a, (k0_off378 v3176) a + S8x512.size a ≤ S20000x512.size a)
theorem k0_mult183_dvd : ∀ (v3176 : BitVec 32) (k0_hw183 : k0_chk183 v3176), 8 ∣ (k0_mult183 v3176).toNat := fun v3176 k0_hw183 => k0_hw183.1
theorem k0_off378_inb : ∀ (v3176 : BitVec 32) (k0_hw183 : k0_chk183 v3176), ∀ a, (k0_off378 v3176) a + S8x512.size a ≤ S20000x512.size a := fun v3176 k0_hw183 => k0_hw183.2

def k0_off379 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1094 : BitVec 32 := 128#32
  let v3190 : BitVec 32 := Scalar.addi v63 c128_i32_1094
  let c55_i32_1095 : BitVec 32 := 55#32
  let v3191 : BitVec 32 := Scalar.addi v3190 c55_i32_1095
  let v3192 : Index := Scalar.indexCast v3191
  ![v3192.toNat]
def k0_mult184 (v3193 : BitVec 32) : BitVec 32 :=
  let c3_i32_1096 : BitVec 32 := 3#32
  let v3194 : BitVec 32 := Scalar.shrsi v3193 c3_i32_1096
  let c3_i32_1097 : BitVec 32 := 3#32
  let v3195 : BitVec 32 := Scalar.shli v3194 c3_i32_1097
  v3195

def k0_off380 (v3193 : BitVec 32) : Fin 2 → Nat :=
  let c3_i32_1096 : BitVec 32 := 3#32
  let v3194 : BitVec 32 := Scalar.shrsi v3193 c3_i32_1096
  let c3_i32_1097 : BitVec 32 := 3#32
  let v3195 : BitVec 32 := Scalar.shli v3194 c3_i32_1097
  let v3196 : BitVec 32 := v3195
  let v3197 : Index := Scalar.indexCast v3196
  let c0_1098 : Index := 0#32
  ![v3197.toNat, 0]

def k0_chk184 (v3193 : BitVec 32) : Prop :=
  (8 ∣ (k0_mult184 v3193).toNat) ∧
  (∀ a, (k0_off380 v3193) a + S8x512.size a ≤ S20000x512.size a)
theorem k0_mult184_dvd : ∀ (v3193 : BitVec 32) (k0_hw184 : k0_chk184 v3193), 8 ∣ (k0_mult184 v3193).toNat := fun v3193 k0_hw184 => k0_hw184.1
theorem k0_off380_inb : ∀ (v3193 : BitVec 32) (k0_hw184 : k0_chk184 v3193), ∀ a, (k0_off380 v3193) a + S8x512.size a ≤ S20000x512.size a := fun v3193 k0_hw184 => k0_hw184.2

def k0_off381 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1100 : BitVec 32 := 128#32
  let v3207 : BitVec 32 := Scalar.addi v63 c128_i32_1100
  let c56_i32_1101 : BitVec 32 := 56#32
  let v3208 : BitVec 32 := Scalar.addi v3207 c56_i32_1101
  let v3209 : Index := Scalar.indexCast v3208
  ![v3209.toNat]
def k0_mult185 (v3210 : BitVec 32) : BitVec 32 :=
  let c3_i32_1102 : BitVec 32 := 3#32
  let v3211 : BitVec 32 := Scalar.shrsi v3210 c3_i32_1102
  let c3_i32_1103 : BitVec 32 := 3#32
  let v3212 : BitVec 32 := Scalar.shli v3211 c3_i32_1103
  v3212

def k0_off382 (v3210 : BitVec 32) : Fin 2 → Nat :=
  let c3_i32_1102 : BitVec 32 := 3#32
  let v3211 : BitVec 32 := Scalar.shrsi v3210 c3_i32_1102
  let c3_i32_1103 : BitVec 32 := 3#32
  let v3212 : BitVec 32 := Scalar.shli v3211 c3_i32_1103
  let v3213 : BitVec 32 := v3212
  let v3214 : Index := Scalar.indexCast v3213
  let c0_1104 : Index := 0#32
  ![v3214.toNat, 0]

def k0_chk185 (v3210 : BitVec 32) : Prop :=
  (8 ∣ (k0_mult185 v3210).toNat) ∧
  (∀ a, (k0_off382 v3210) a + S8x512.size a ≤ S20000x512.size a)
theorem k0_mult185_dvd : ∀ (v3210 : BitVec 32) (k0_hw185 : k0_chk185 v3210), 8 ∣ (k0_mult185 v3210).toNat := fun v3210 k0_hw185 => k0_hw185.1
theorem k0_off382_inb : ∀ (v3210 : BitVec 32) (k0_hw185 : k0_chk185 v3210), ∀ a, (k0_off382 v3210) a + S8x512.size a ≤ S20000x512.size a := fun v3210 k0_hw185 => k0_hw185.2

def k0_off383 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1106 : BitVec 32 := 128#32
  let v3224 : BitVec 32 := Scalar.addi v63 c128_i32_1106
  let c57_i32_1107 : BitVec 32 := 57#32
  let v3225 : BitVec 32 := Scalar.addi v3224 c57_i32_1107
  let v3226 : Index := Scalar.indexCast v3225
  ![v3226.toNat]
def k0_mult186 (v3227 : BitVec 32) : BitVec 32 :=
  let c3_i32_1108 : BitVec 32 := 3#32
  let v3228 : BitVec 32 := Scalar.shrsi v3227 c3_i32_1108
  let c3_i32_1109 : BitVec 32 := 3#32
  let v3229 : BitVec 32 := Scalar.shli v3228 c3_i32_1109
  v3229

def k0_off384 (v3227 : BitVec 32) : Fin 2 → Nat :=
  let c3_i32_1108 : BitVec 32 := 3#32
  let v3228 : BitVec 32 := Scalar.shrsi v3227 c3_i32_1108
  let c3_i32_1109 : BitVec 32 := 3#32
  let v3229 : BitVec 32 := Scalar.shli v3228 c3_i32_1109
  let v3230 : BitVec 32 := v3229
  let v3231 : Index := Scalar.indexCast v3230
  let c0_1110 : Index := 0#32
  ![v3231.toNat, 0]

def k0_chk186 (v3227 : BitVec 32) : Prop :=
  (8 ∣ (k0_mult186 v3227).toNat) ∧
  (∀ a, (k0_off384 v3227) a + S8x512.size a ≤ S20000x512.size a)
theorem k0_mult186_dvd : ∀ (v3227 : BitVec 32) (k0_hw186 : k0_chk186 v3227), 8 ∣ (k0_mult186 v3227).toNat := fun v3227 k0_hw186 => k0_hw186.1
theorem k0_off384_inb : ∀ (v3227 : BitVec 32) (k0_hw186 : k0_chk186 v3227), ∀ a, (k0_off384 v3227) a + S8x512.size a ≤ S20000x512.size a := fun v3227 k0_hw186 => k0_hw186.2

def k0_off385 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1112 : BitVec 32 := 128#32
  let v3241 : BitVec 32 := Scalar.addi v63 c128_i32_1112
  let c58_i32_1113 : BitVec 32 := 58#32
  let v3242 : BitVec 32 := Scalar.addi v3241 c58_i32_1113
  let v3243 : Index := Scalar.indexCast v3242
  ![v3243.toNat]
def k0_mult187 (v3244 : BitVec 32) : BitVec 32 :=
  let c3_i32_1114 : BitVec 32 := 3#32
  let v3245 : BitVec 32 := Scalar.shrsi v3244 c3_i32_1114
  let c3_i32_1115 : BitVec 32 := 3#32
  let v3246 : BitVec 32 := Scalar.shli v3245 c3_i32_1115
  v3246

def k0_off386 (v3244 : BitVec 32) : Fin 2 → Nat :=
  let c3_i32_1114 : BitVec 32 := 3#32
  let v3245 : BitVec 32 := Scalar.shrsi v3244 c3_i32_1114
  let c3_i32_1115 : BitVec 32 := 3#32
  let v3246 : BitVec 32 := Scalar.shli v3245 c3_i32_1115
  let v3247 : BitVec 32 := v3246
  let v3248 : Index := Scalar.indexCast v3247
  let c0_1116 : Index := 0#32
  ![v3248.toNat, 0]

def k0_chk187 (v3244 : BitVec 32) : Prop :=
  (8 ∣ (k0_mult187 v3244).toNat) ∧
  (∀ a, (k0_off386 v3244) a + S8x512.size a ≤ S20000x512.size a)
theorem k0_mult187_dvd : ∀ (v3244 : BitVec 32) (k0_hw187 : k0_chk187 v3244), 8 ∣ (k0_mult187 v3244).toNat := fun v3244 k0_hw187 => k0_hw187.1
theorem k0_off386_inb : ∀ (v3244 : BitVec 32) (k0_hw187 : k0_chk187 v3244), ∀ a, (k0_off386 v3244) a + S8x512.size a ≤ S20000x512.size a := fun v3244 k0_hw187 => k0_hw187.2

def k0_off387 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1118 : BitVec 32 := 128#32
  let v3258 : BitVec 32 := Scalar.addi v63 c128_i32_1118
  let c59_i32_1119 : BitVec 32 := 59#32
  let v3259 : BitVec 32 := Scalar.addi v3258 c59_i32_1119
  let v3260 : Index := Scalar.indexCast v3259
  ![v3260.toNat]
def k0_mult188 (v3261 : BitVec 32) : BitVec 32 :=
  let c3_i32_1120 : BitVec 32 := 3#32
  let v3262 : BitVec 32 := Scalar.shrsi v3261 c3_i32_1120
  let c3_i32_1121 : BitVec 32 := 3#32
  let v3263 : BitVec 32 := Scalar.shli v3262 c3_i32_1121
  v3263

def k0_off388 (v3261 : BitVec 32) : Fin 2 → Nat :=
  let c3_i32_1120 : BitVec 32 := 3#32
  let v3262 : BitVec 32 := Scalar.shrsi v3261 c3_i32_1120
  let c3_i32_1121 : BitVec 32 := 3#32
  let v3263 : BitVec 32 := Scalar.shli v3262 c3_i32_1121
  let v3264 : BitVec 32 := v3263
  let v3265 : Index := Scalar.indexCast v3264
  let c0_1122 : Index := 0#32
  ![v3265.toNat, 0]

def k0_chk188 (v3261 : BitVec 32) : Prop :=
  (8 ∣ (k0_mult188 v3261).toNat) ∧
  (∀ a, (k0_off388 v3261) a + S8x512.size a ≤ S20000x512.size a)
theorem k0_mult188_dvd : ∀ (v3261 : BitVec 32) (k0_hw188 : k0_chk188 v3261), 8 ∣ (k0_mult188 v3261).toNat := fun v3261 k0_hw188 => k0_hw188.1
theorem k0_off388_inb : ∀ (v3261 : BitVec 32) (k0_hw188 : k0_chk188 v3261), ∀ a, (k0_off388 v3261) a + S8x512.size a ≤ S20000x512.size a := fun v3261 k0_hw188 => k0_hw188.2

def k0_off389 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1124 : BitVec 32 := 128#32
  let v3275 : BitVec 32 := Scalar.addi v63 c128_i32_1124
  let c60_i32_1125 : BitVec 32 := 60#32
  let v3276 : BitVec 32 := Scalar.addi v3275 c60_i32_1125
  let v3277 : Index := Scalar.indexCast v3276
  ![v3277.toNat]
def k0_mult189 (v3278 : BitVec 32) : BitVec 32 :=
  let c3_i32_1126 : BitVec 32 := 3#32
  let v3279 : BitVec 32 := Scalar.shrsi v3278 c3_i32_1126
  let c3_i32_1127 : BitVec 32 := 3#32
  let v3280 : BitVec 32 := Scalar.shli v3279 c3_i32_1127
  v3280

def k0_off390 (v3278 : BitVec 32) : Fin 2 → Nat :=
  let c3_i32_1126 : BitVec 32 := 3#32
  let v3279 : BitVec 32 := Scalar.shrsi v3278 c3_i32_1126
  let c3_i32_1127 : BitVec 32 := 3#32
  let v3280 : BitVec 32 := Scalar.shli v3279 c3_i32_1127
  let v3281 : BitVec 32 := v3280
  let v3282 : Index := Scalar.indexCast v3281
  let c0_1128 : Index := 0#32
  ![v3282.toNat, 0]

def k0_chk189 (v3278 : BitVec 32) : Prop :=
  (8 ∣ (k0_mult189 v3278).toNat) ∧
  (∀ a, (k0_off390 v3278) a + S8x512.size a ≤ S20000x512.size a)
theorem k0_mult189_dvd : ∀ (v3278 : BitVec 32) (k0_hw189 : k0_chk189 v3278), 8 ∣ (k0_mult189 v3278).toNat := fun v3278 k0_hw189 => k0_hw189.1
theorem k0_off390_inb : ∀ (v3278 : BitVec 32) (k0_hw189 : k0_chk189 v3278), ∀ a, (k0_off390 v3278) a + S8x512.size a ≤ S20000x512.size a := fun v3278 k0_hw189 => k0_hw189.2

def k0_off391 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1130 : BitVec 32 := 128#32
  let v3292 : BitVec 32 := Scalar.addi v63 c128_i32_1130
  let c61_i32_1131 : BitVec 32 := 61#32
  let v3293 : BitVec 32 := Scalar.addi v3292 c61_i32_1131
  let v3294 : Index := Scalar.indexCast v3293
  ![v3294.toNat]
def k0_mult190 (v3295 : BitVec 32) : BitVec 32 :=
  let c3_i32_1132 : BitVec 32 := 3#32
  let v3296 : BitVec 32 := Scalar.shrsi v3295 c3_i32_1132
  let c3_i32_1133 : BitVec 32 := 3#32
  let v3297 : BitVec 32 := Scalar.shli v3296 c3_i32_1133
  v3297

def k0_off392 (v3295 : BitVec 32) : Fin 2 → Nat :=
  let c3_i32_1132 : BitVec 32 := 3#32
  let v3296 : BitVec 32 := Scalar.shrsi v3295 c3_i32_1132
  let c3_i32_1133 : BitVec 32 := 3#32
  let v3297 : BitVec 32 := Scalar.shli v3296 c3_i32_1133
  let v3298 : BitVec 32 := v3297
  let v3299 : Index := Scalar.indexCast v3298
  let c0_1134 : Index := 0#32
  ![v3299.toNat, 0]

def k0_chk190 (v3295 : BitVec 32) : Prop :=
  (8 ∣ (k0_mult190 v3295).toNat) ∧
  (∀ a, (k0_off392 v3295) a + S8x512.size a ≤ S20000x512.size a)
theorem k0_mult190_dvd : ∀ (v3295 : BitVec 32) (k0_hw190 : k0_chk190 v3295), 8 ∣ (k0_mult190 v3295).toNat := fun v3295 k0_hw190 => k0_hw190.1
theorem k0_off392_inb : ∀ (v3295 : BitVec 32) (k0_hw190 : k0_chk190 v3295), ∀ a, (k0_off392 v3295) a + S8x512.size a ≤ S20000x512.size a := fun v3295 k0_hw190 => k0_hw190.2

def k0_off393 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1136 : BitVec 32 := 128#32
  let v3309 : BitVec 32 := Scalar.addi v63 c128_i32_1136
  let c62_i32_1137 : BitVec 32 := 62#32
  let v3310 : BitVec 32 := Scalar.addi v3309 c62_i32_1137
  let v3311 : Index := Scalar.indexCast v3310
  ![v3311.toNat]
def k0_mult191 (v3312 : BitVec 32) : BitVec 32 :=
  let c3_i32_1138 : BitVec 32 := 3#32
  let v3313 : BitVec 32 := Scalar.shrsi v3312 c3_i32_1138
  let c3_i32_1139 : BitVec 32 := 3#32
  let v3314 : BitVec 32 := Scalar.shli v3313 c3_i32_1139
  v3314

def k0_off394 (v3312 : BitVec 32) : Fin 2 → Nat :=
  let c3_i32_1138 : BitVec 32 := 3#32
  let v3313 : BitVec 32 := Scalar.shrsi v3312 c3_i32_1138
  let c3_i32_1139 : BitVec 32 := 3#32
  let v3314 : BitVec 32 := Scalar.shli v3313 c3_i32_1139
  let v3315 : BitVec 32 := v3314
  let v3316 : Index := Scalar.indexCast v3315
  let c0_1140 : Index := 0#32
  ![v3316.toNat, 0]

def k0_chk191 (v3312 : BitVec 32) : Prop :=
  (8 ∣ (k0_mult191 v3312).toNat) ∧
  (∀ a, (k0_off394 v3312) a + S8x512.size a ≤ S20000x512.size a)
theorem k0_mult191_dvd : ∀ (v3312 : BitVec 32) (k0_hw191 : k0_chk191 v3312), 8 ∣ (k0_mult191 v3312).toNat := fun v3312 k0_hw191 => k0_hw191.1
theorem k0_off394_inb : ∀ (v3312 : BitVec 32) (k0_hw191 : k0_chk191 v3312), ∀ a, (k0_off394 v3312) a + S8x512.size a ≤ S20000x512.size a := fun v3312 k0_hw191 => k0_hw191.2

def k0_off395 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c128_i32_1142 : BitVec 32 := 128#32
  let v3326 : BitVec 32 := Scalar.addi v63 c128_i32_1142
  let c63_i32_1143 : BitVec 32 := 63#32
  let v3327 : BitVec 32 := Scalar.addi v3326 c63_i32_1143
  let v3328 : Index := Scalar.indexCast v3327
  ![v3328.toNat]
def k0_mult192 (v3329 : BitVec 32) : BitVec 32 :=
  let c3_i32_1144 : BitVec 32 := 3#32
  let v3330 : BitVec 32 := Scalar.shrsi v3329 c3_i32_1144
  let c3_i32_1145 : BitVec 32 := 3#32
  let v3331 : BitVec 32 := Scalar.shli v3330 c3_i32_1145
  v3331

def k0_off396 (v3329 : BitVec 32) : Fin 2 → Nat :=
  let c3_i32_1144 : BitVec 32 := 3#32
  let v3330 : BitVec 32 := Scalar.shrsi v3329 c3_i32_1144
  let c3_i32_1145 : BitVec 32 := 3#32
  let v3331 : BitVec 32 := Scalar.shli v3330 c3_i32_1145
  let v3332 : BitVec 32 := v3331
  let v3333 : Index := Scalar.indexCast v3332
  let c0_1146 : Index := 0#32
  ![v3333.toNat, 0]

def k0_chk192 (v3329 : BitVec 32) : Prop :=
  (8 ∣ (k0_mult192 v3329).toNat) ∧
  (∀ a, (k0_off396 v3329) a + S8x512.size a ≤ S20000x512.size a)
theorem k0_mult192_dvd : ∀ (v3329 : BitVec 32) (k0_hw192 : k0_chk192 v3329), 8 ∣ (k0_mult192 v3329).toNat := fun v3329 k0_hw192 => k0_hw192.1
theorem k0_off396_inb : ∀ (v3329 : BitVec 32) (k0_hw192 : k0_chk192 v3329), ∀ a, (k0_off396 v3329) a + S8x512.size a ≤ S20000x512.size a := fun v3329 k0_hw192 => k0_hw192.2

def k0_off397 (k0_t1 : Fin k0_t1_loop.trips) : Fin 3 → Nat :=
  let c0_i32_18 : BitVec 32 := 0#32
  let c1_i32_19 : BitVec 32 := 1#32
  let arg12 : BitVec 32 := Scf.iv c0_i32_18 c1_i32_19 k0_t1
  let c8_i32_1148 : BitVec 32 := 8#32
  let v3343 : BitVec 32 := Scalar.muli arg12 c8_i32_1148
  let c2_i32_1149 : BitVec 32 := 2#32
  let v3344 : BitVec 32 := Scalar.addi v3343 c2_i32_1149
  let v3345 : Index := Scalar.indexCast v3344
  let c0_1150 : Index := 0#32
  let c0_1151 : Index := 0#32
  ![v3345.toNat, 0, 0]
def k0_off398 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32 : BitVec 32 := 192#32
  let v3350 : BitVec 32 := Scalar.addi v63 c192_i32
  let c0_i32_1153 : BitVec 32 := 0#32
  let v3351 : BitVec 32 := Scalar.addi v3350 c0_i32_1153
  let v3352 : Index := Scalar.indexCast v3351
  ![v3352.toNat]
def k0_mult193 (v3353 : BitVec 32) : BitVec 32 :=
  let c3_i32_1154 : BitVec 32 := 3#32
  let v3354 : BitVec 32 := Scalar.shrsi v3353 c3_i32_1154
  let c3_i32_1155 : BitVec 32 := 3#32
  let v3355 : BitVec 32 := Scalar.shli v3354 c3_i32_1155
  v3355

def k0_off399 (v3353 : BitVec 32) : Fin 2 → Nat :=
  let c3_i32_1154 : BitVec 32 := 3#32
  let v3354 : BitVec 32 := Scalar.shrsi v3353 c3_i32_1154
  let c3_i32_1155 : BitVec 32 := 3#32
  let v3355 : BitVec 32 := Scalar.shli v3354 c3_i32_1155
  let v3356 : BitVec 32 := v3355
  let v3357 : Index := Scalar.indexCast v3356
  let c0_1156 : Index := 0#32
  ![v3357.toNat, 0]

def k0_chk193 (v3353 : BitVec 32) : Prop :=
  (8 ∣ (k0_mult193 v3353).toNat) ∧
  (∀ a, (k0_off399 v3353) a + S8x512.size a ≤ S20000x512.size a)
theorem k0_mult193_dvd : ∀ (v3353 : BitVec 32) (k0_hw193 : k0_chk193 v3353), 8 ∣ (k0_mult193 v3353).toNat := fun v3353 k0_hw193 => k0_hw193.1
theorem k0_off399_inb : ∀ (v3353 : BitVec 32) (k0_hw193 : k0_chk193 v3353), ∀ a, (k0_off399 v3353) a + S8x512.size a ≤ S20000x512.size a := fun v3353 k0_hw193 => k0_hw193.2

def k0_off400 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1158 : BitVec 32 := 192#32
  let v3367 : BitVec 32 := Scalar.addi v63 c192_i32_1158
  let c1_i32_1159 : BitVec 32 := 1#32
  let v3368 : BitVec 32 := Scalar.addi v3367 c1_i32_1159
  let v3369 : Index := Scalar.indexCast v3368
  ![v3369.toNat]
def k0_mult194 (v3370 : BitVec 32) : BitVec 32 :=
  let c3_i32_1160 : BitVec 32 := 3#32
  let v3371 : BitVec 32 := Scalar.shrsi v3370 c3_i32_1160
  let c3_i32_1161 : BitVec 32 := 3#32
  let v3372 : BitVec 32 := Scalar.shli v3371 c3_i32_1161
  v3372

def k0_off401 (v3370 : BitVec 32) : Fin 2 → Nat :=
  let c3_i32_1160 : BitVec 32 := 3#32
  let v3371 : BitVec 32 := Scalar.shrsi v3370 c3_i32_1160
  let c3_i32_1161 : BitVec 32 := 3#32
  let v3372 : BitVec 32 := Scalar.shli v3371 c3_i32_1161
  let v3373 : BitVec 32 := v3372
  let v3374 : Index := Scalar.indexCast v3373
  let c0_1162 : Index := 0#32
  ![v3374.toNat, 0]

def k0_chk194 (v3370 : BitVec 32) : Prop :=
  (8 ∣ (k0_mult194 v3370).toNat) ∧
  (∀ a, (k0_off401 v3370) a + S8x512.size a ≤ S20000x512.size a)
theorem k0_mult194_dvd : ∀ (v3370 : BitVec 32) (k0_hw194 : k0_chk194 v3370), 8 ∣ (k0_mult194 v3370).toNat := fun v3370 k0_hw194 => k0_hw194.1
theorem k0_off401_inb : ∀ (v3370 : BitVec 32) (k0_hw194 : k0_chk194 v3370), ∀ a, (k0_off401 v3370) a + S8x512.size a ≤ S20000x512.size a := fun v3370 k0_hw194 => k0_hw194.2

def k0_off402 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1164 : BitVec 32 := 192#32
  let v3384 : BitVec 32 := Scalar.addi v63 c192_i32_1164
  let c2_i32_1165 : BitVec 32 := 2#32
  let v3385 : BitVec 32 := Scalar.addi v3384 c2_i32_1165
  let v3386 : Index := Scalar.indexCast v3385
  ![v3386.toNat]
def k0_mult195 (v3387 : BitVec 32) : BitVec 32 :=
  let c3_i32_1166 : BitVec 32 := 3#32
  let v3388 : BitVec 32 := Scalar.shrsi v3387 c3_i32_1166
  let c3_i32_1167 : BitVec 32 := 3#32
  let v3389 : BitVec 32 := Scalar.shli v3388 c3_i32_1167
  v3389

def k0_off403 (v3387 : BitVec 32) : Fin 2 → Nat :=
  let c3_i32_1166 : BitVec 32 := 3#32
  let v3388 : BitVec 32 := Scalar.shrsi v3387 c3_i32_1166
  let c3_i32_1167 : BitVec 32 := 3#32
  let v3389 : BitVec 32 := Scalar.shli v3388 c3_i32_1167
  let v3390 : BitVec 32 := v3389
  let v3391 : Index := Scalar.indexCast v3390
  let c0_1168 : Index := 0#32
  ![v3391.toNat, 0]

def k0_chk195 (v3387 : BitVec 32) : Prop :=
  (8 ∣ (k0_mult195 v3387).toNat) ∧
  (∀ a, (k0_off403 v3387) a + S8x512.size a ≤ S20000x512.size a)
theorem k0_mult195_dvd : ∀ (v3387 : BitVec 32) (k0_hw195 : k0_chk195 v3387), 8 ∣ (k0_mult195 v3387).toNat := fun v3387 k0_hw195 => k0_hw195.1
theorem k0_off403_inb : ∀ (v3387 : BitVec 32) (k0_hw195 : k0_chk195 v3387), ∀ a, (k0_off403 v3387) a + S8x512.size a ≤ S20000x512.size a := fun v3387 k0_hw195 => k0_hw195.2

def k0_off404 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1170 : BitVec 32 := 192#32
  let v3401 : BitVec 32 := Scalar.addi v63 c192_i32_1170
  let c3_i32_1171 : BitVec 32 := 3#32
  let v3402 : BitVec 32 := Scalar.addi v3401 c3_i32_1171
  let v3403 : Index := Scalar.indexCast v3402
  ![v3403.toNat]
def k0_mult196 (v3404 : BitVec 32) : BitVec 32 :=
  let c3_i32_1172 : BitVec 32 := 3#32
  let v3405 : BitVec 32 := Scalar.shrsi v3404 c3_i32_1172
  let c3_i32_1173 : BitVec 32 := 3#32
  let v3406 : BitVec 32 := Scalar.shli v3405 c3_i32_1173
  v3406

def k0_off405 (v3404 : BitVec 32) : Fin 2 → Nat :=
  let c3_i32_1172 : BitVec 32 := 3#32
  let v3405 : BitVec 32 := Scalar.shrsi v3404 c3_i32_1172
  let c3_i32_1173 : BitVec 32 := 3#32
  let v3406 : BitVec 32 := Scalar.shli v3405 c3_i32_1173
  let v3407 : BitVec 32 := v3406
  let v3408 : Index := Scalar.indexCast v3407
  let c0_1174 : Index := 0#32
  ![v3408.toNat, 0]

def k0_chk196 (v3404 : BitVec 32) : Prop :=
  (8 ∣ (k0_mult196 v3404).toNat) ∧
  (∀ a, (k0_off405 v3404) a + S8x512.size a ≤ S20000x512.size a)
theorem k0_mult196_dvd : ∀ (v3404 : BitVec 32) (k0_hw196 : k0_chk196 v3404), 8 ∣ (k0_mult196 v3404).toNat := fun v3404 k0_hw196 => k0_hw196.1
theorem k0_off405_inb : ∀ (v3404 : BitVec 32) (k0_hw196 : k0_chk196 v3404), ∀ a, (k0_off405 v3404) a + S8x512.size a ≤ S20000x512.size a := fun v3404 k0_hw196 => k0_hw196.2

def k0_off406 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1176 : BitVec 32 := 192#32
  let v3418 : BitVec 32 := Scalar.addi v63 c192_i32_1176
  let c4_i32_1177 : BitVec 32 := 4#32
  let v3419 : BitVec 32 := Scalar.addi v3418 c4_i32_1177
  let v3420 : Index := Scalar.indexCast v3419
  ![v3420.toNat]
def k0_mult197 (v3421 : BitVec 32) : BitVec 32 :=
  let c3_i32_1178 : BitVec 32 := 3#32
  let v3422 : BitVec 32 := Scalar.shrsi v3421 c3_i32_1178
  let c3_i32_1179 : BitVec 32 := 3#32
  let v3423 : BitVec 32 := Scalar.shli v3422 c3_i32_1179
  v3423

def k0_off407 (v3421 : BitVec 32) : Fin 2 → Nat :=
  let c3_i32_1178 : BitVec 32 := 3#32
  let v3422 : BitVec 32 := Scalar.shrsi v3421 c3_i32_1178
  let c3_i32_1179 : BitVec 32 := 3#32
  let v3423 : BitVec 32 := Scalar.shli v3422 c3_i32_1179
  let v3424 : BitVec 32 := v3423
  let v3425 : Index := Scalar.indexCast v3424
  let c0_1180 : Index := 0#32
  ![v3425.toNat, 0]

def k0_chk197 (v3421 : BitVec 32) : Prop :=
  (8 ∣ (k0_mult197 v3421).toNat) ∧
  (∀ a, (k0_off407 v3421) a + S8x512.size a ≤ S20000x512.size a)
theorem k0_mult197_dvd : ∀ (v3421 : BitVec 32) (k0_hw197 : k0_chk197 v3421), 8 ∣ (k0_mult197 v3421).toNat := fun v3421 k0_hw197 => k0_hw197.1
theorem k0_off407_inb : ∀ (v3421 : BitVec 32) (k0_hw197 : k0_chk197 v3421), ∀ a, (k0_off407 v3421) a + S8x512.size a ≤ S20000x512.size a := fun v3421 k0_hw197 => k0_hw197.2

def k0_off408 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1182 : BitVec 32 := 192#32
  let v3435 : BitVec 32 := Scalar.addi v63 c192_i32_1182
  let c5_i32_1183 : BitVec 32 := 5#32
  let v3436 : BitVec 32 := Scalar.addi v3435 c5_i32_1183
  let v3437 : Index := Scalar.indexCast v3436
  ![v3437.toNat]
def k0_mult198 (v3438 : BitVec 32) : BitVec 32 :=
  let c3_i32_1184 : BitVec 32 := 3#32
  let v3439 : BitVec 32 := Scalar.shrsi v3438 c3_i32_1184
  let c3_i32_1185 : BitVec 32 := 3#32
  let v3440 : BitVec 32 := Scalar.shli v3439 c3_i32_1185
  v3440

def k0_off409 (v3438 : BitVec 32) : Fin 2 → Nat :=
  let c3_i32_1184 : BitVec 32 := 3#32
  let v3439 : BitVec 32 := Scalar.shrsi v3438 c3_i32_1184
  let c3_i32_1185 : BitVec 32 := 3#32
  let v3440 : BitVec 32 := Scalar.shli v3439 c3_i32_1185
  let v3441 : BitVec 32 := v3440
  let v3442 : Index := Scalar.indexCast v3441
  let c0_1186 : Index := 0#32
  ![v3442.toNat, 0]

def k0_chk198 (v3438 : BitVec 32) : Prop :=
  (8 ∣ (k0_mult198 v3438).toNat) ∧
  (∀ a, (k0_off409 v3438) a + S8x512.size a ≤ S20000x512.size a)
theorem k0_mult198_dvd : ∀ (v3438 : BitVec 32) (k0_hw198 : k0_chk198 v3438), 8 ∣ (k0_mult198 v3438).toNat := fun v3438 k0_hw198 => k0_hw198.1
theorem k0_off409_inb : ∀ (v3438 : BitVec 32) (k0_hw198 : k0_chk198 v3438), ∀ a, (k0_off409 v3438) a + S8x512.size a ≤ S20000x512.size a := fun v3438 k0_hw198 => k0_hw198.2

def k0_off410 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1188 : BitVec 32 := 192#32
  let v3452 : BitVec 32 := Scalar.addi v63 c192_i32_1188
  let c6_i32_1189 : BitVec 32 := 6#32
  let v3453 : BitVec 32 := Scalar.addi v3452 c6_i32_1189
  let v3454 : Index := Scalar.indexCast v3453
  ![v3454.toNat]
def k0_mult199 (v3455 : BitVec 32) : BitVec 32 :=
  let c3_i32_1190 : BitVec 32 := 3#32
  let v3456 : BitVec 32 := Scalar.shrsi v3455 c3_i32_1190
  let c3_i32_1191 : BitVec 32 := 3#32
  let v3457 : BitVec 32 := Scalar.shli v3456 c3_i32_1191
  v3457

def k0_off411 (v3455 : BitVec 32) : Fin 2 → Nat :=
  let c3_i32_1190 : BitVec 32 := 3#32
  let v3456 : BitVec 32 := Scalar.shrsi v3455 c3_i32_1190
  let c3_i32_1191 : BitVec 32 := 3#32
  let v3457 : BitVec 32 := Scalar.shli v3456 c3_i32_1191
  let v3458 : BitVec 32 := v3457
  let v3459 : Index := Scalar.indexCast v3458
  let c0_1192 : Index := 0#32
  ![v3459.toNat, 0]

def k0_chk199 (v3455 : BitVec 32) : Prop :=
  (8 ∣ (k0_mult199 v3455).toNat) ∧
  (∀ a, (k0_off411 v3455) a + S8x512.size a ≤ S20000x512.size a)
theorem k0_mult199_dvd : ∀ (v3455 : BitVec 32) (k0_hw199 : k0_chk199 v3455), 8 ∣ (k0_mult199 v3455).toNat := fun v3455 k0_hw199 => k0_hw199.1
theorem k0_off411_inb : ∀ (v3455 : BitVec 32) (k0_hw199 : k0_chk199 v3455), ∀ a, (k0_off411 v3455) a + S8x512.size a ≤ S20000x512.size a := fun v3455 k0_hw199 => k0_hw199.2

def k0_off412 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1194 : BitVec 32 := 192#32
  let v3469 : BitVec 32 := Scalar.addi v63 c192_i32_1194
  let c7_i32_1195 : BitVec 32 := 7#32
  let v3470 : BitVec 32 := Scalar.addi v3469 c7_i32_1195
  let v3471 : Index := Scalar.indexCast v3470
  ![v3471.toNat]
def k0_mult200 (v3472 : BitVec 32) : BitVec 32 :=
  let c3_i32_1196 : BitVec 32 := 3#32
  let v3473 : BitVec 32 := Scalar.shrsi v3472 c3_i32_1196
  let c3_i32_1197 : BitVec 32 := 3#32
  let v3474 : BitVec 32 := Scalar.shli v3473 c3_i32_1197
  v3474

def k0_off413 (v3472 : BitVec 32) : Fin 2 → Nat :=
  let c3_i32_1196 : BitVec 32 := 3#32
  let v3473 : BitVec 32 := Scalar.shrsi v3472 c3_i32_1196
  let c3_i32_1197 : BitVec 32 := 3#32
  let v3474 : BitVec 32 := Scalar.shli v3473 c3_i32_1197
  let v3475 : BitVec 32 := v3474
  let v3476 : Index := Scalar.indexCast v3475
  let c0_1198 : Index := 0#32
  ![v3476.toNat, 0]

def k0_chk200 (v3472 : BitVec 32) : Prop :=
  (8 ∣ (k0_mult200 v3472).toNat) ∧
  (∀ a, (k0_off413 v3472) a + S8x512.size a ≤ S20000x512.size a)
theorem k0_mult200_dvd : ∀ (v3472 : BitVec 32) (k0_hw200 : k0_chk200 v3472), 8 ∣ (k0_mult200 v3472).toNat := fun v3472 k0_hw200 => k0_hw200.1
theorem k0_off413_inb : ∀ (v3472 : BitVec 32) (k0_hw200 : k0_chk200 v3472), ∀ a, (k0_off413 v3472) a + S8x512.size a ≤ S20000x512.size a := fun v3472 k0_hw200 => k0_hw200.2

def k0_off414 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1200 : BitVec 32 := 192#32
  let v3486 : BitVec 32 := Scalar.addi v63 c192_i32_1200
  let c8_i32_1201 : BitVec 32 := 8#32
  let v3487 : BitVec 32 := Scalar.addi v3486 c8_i32_1201
  let v3488 : Index := Scalar.indexCast v3487
  ![v3488.toNat]
def k0_mult201 (v3489 : BitVec 32) : BitVec 32 :=
  let c3_i32_1202 : BitVec 32 := 3#32
  let v3490 : BitVec 32 := Scalar.shrsi v3489 c3_i32_1202
  let c3_i32_1203 : BitVec 32 := 3#32
  let v3491 : BitVec 32 := Scalar.shli v3490 c3_i32_1203
  v3491

def k0_off415 (v3489 : BitVec 32) : Fin 2 → Nat :=
  let c3_i32_1202 : BitVec 32 := 3#32
  let v3490 : BitVec 32 := Scalar.shrsi v3489 c3_i32_1202
  let c3_i32_1203 : BitVec 32 := 3#32
  let v3491 : BitVec 32 := Scalar.shli v3490 c3_i32_1203
  let v3492 : BitVec 32 := v3491
  let v3493 : Index := Scalar.indexCast v3492
  let c0_1204 : Index := 0#32
  ![v3493.toNat, 0]

def k0_chk201 (v3489 : BitVec 32) : Prop :=
  (8 ∣ (k0_mult201 v3489).toNat) ∧
  (∀ a, (k0_off415 v3489) a + S8x512.size a ≤ S20000x512.size a)
theorem k0_mult201_dvd : ∀ (v3489 : BitVec 32) (k0_hw201 : k0_chk201 v3489), 8 ∣ (k0_mult201 v3489).toNat := fun v3489 k0_hw201 => k0_hw201.1
theorem k0_off415_inb : ∀ (v3489 : BitVec 32) (k0_hw201 : k0_chk201 v3489), ∀ a, (k0_off415 v3489) a + S8x512.size a ≤ S20000x512.size a := fun v3489 k0_hw201 => k0_hw201.2

def k0_off416 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1206 : BitVec 32 := 192#32
  let v3503 : BitVec 32 := Scalar.addi v63 c192_i32_1206
  let c9_i32_1207 : BitVec 32 := 9#32
  let v3504 : BitVec 32 := Scalar.addi v3503 c9_i32_1207
  let v3505 : Index := Scalar.indexCast v3504
  ![v3505.toNat]
def k0_mult202 (v3506 : BitVec 32) : BitVec 32 :=
  let c3_i32_1208 : BitVec 32 := 3#32
  let v3507 : BitVec 32 := Scalar.shrsi v3506 c3_i32_1208
  let c3_i32_1209 : BitVec 32 := 3#32
  let v3508 : BitVec 32 := Scalar.shli v3507 c3_i32_1209
  v3508

def k0_off417 (v3506 : BitVec 32) : Fin 2 → Nat :=
  let c3_i32_1208 : BitVec 32 := 3#32
  let v3507 : BitVec 32 := Scalar.shrsi v3506 c3_i32_1208
  let c3_i32_1209 : BitVec 32 := 3#32
  let v3508 : BitVec 32 := Scalar.shli v3507 c3_i32_1209
  let v3509 : BitVec 32 := v3508
  let v3510 : Index := Scalar.indexCast v3509
  let c0_1210 : Index := 0#32
  ![v3510.toNat, 0]

def k0_chk202 (v3506 : BitVec 32) : Prop :=
  (8 ∣ (k0_mult202 v3506).toNat) ∧
  (∀ a, (k0_off417 v3506) a + S8x512.size a ≤ S20000x512.size a)
theorem k0_mult202_dvd : ∀ (v3506 : BitVec 32) (k0_hw202 : k0_chk202 v3506), 8 ∣ (k0_mult202 v3506).toNat := fun v3506 k0_hw202 => k0_hw202.1
theorem k0_off417_inb : ∀ (v3506 : BitVec 32) (k0_hw202 : k0_chk202 v3506), ∀ a, (k0_off417 v3506) a + S8x512.size a ≤ S20000x512.size a := fun v3506 k0_hw202 => k0_hw202.2

def k0_off418 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1212 : BitVec 32 := 192#32
  let v3520 : BitVec 32 := Scalar.addi v63 c192_i32_1212
  let c10_i32_1213 : BitVec 32 := 10#32
  let v3521 : BitVec 32 := Scalar.addi v3520 c10_i32_1213
  let v3522 : Index := Scalar.indexCast v3521
  ![v3522.toNat]
def k0_mult203 (v3523 : BitVec 32) : BitVec 32 :=
  let c3_i32_1214 : BitVec 32 := 3#32
  let v3524 : BitVec 32 := Scalar.shrsi v3523 c3_i32_1214
  let c3_i32_1215 : BitVec 32 := 3#32
  let v3525 : BitVec 32 := Scalar.shli v3524 c3_i32_1215
  v3525

def k0_off419 (v3523 : BitVec 32) : Fin 2 → Nat :=
  let c3_i32_1214 : BitVec 32 := 3#32
  let v3524 : BitVec 32 := Scalar.shrsi v3523 c3_i32_1214
  let c3_i32_1215 : BitVec 32 := 3#32
  let v3525 : BitVec 32 := Scalar.shli v3524 c3_i32_1215
  let v3526 : BitVec 32 := v3525
  let v3527 : Index := Scalar.indexCast v3526
  let c0_1216 : Index := 0#32
  ![v3527.toNat, 0]

def k0_chk203 (v3523 : BitVec 32) : Prop :=
  (8 ∣ (k0_mult203 v3523).toNat) ∧
  (∀ a, (k0_off419 v3523) a + S8x512.size a ≤ S20000x512.size a)
theorem k0_mult203_dvd : ∀ (v3523 : BitVec 32) (k0_hw203 : k0_chk203 v3523), 8 ∣ (k0_mult203 v3523).toNat := fun v3523 k0_hw203 => k0_hw203.1
theorem k0_off419_inb : ∀ (v3523 : BitVec 32) (k0_hw203 : k0_chk203 v3523), ∀ a, (k0_off419 v3523) a + S8x512.size a ≤ S20000x512.size a := fun v3523 k0_hw203 => k0_hw203.2

def k0_off420 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1218 : BitVec 32 := 192#32
  let v3537 : BitVec 32 := Scalar.addi v63 c192_i32_1218
  let c11_i32_1219 : BitVec 32 := 11#32
  let v3538 : BitVec 32 := Scalar.addi v3537 c11_i32_1219
  let v3539 : Index := Scalar.indexCast v3538
  ![v3539.toNat]
def k0_mult204 (v3540 : BitVec 32) : BitVec 32 :=
  let c3_i32_1220 : BitVec 32 := 3#32
  let v3541 : BitVec 32 := Scalar.shrsi v3540 c3_i32_1220
  let c3_i32_1221 : BitVec 32 := 3#32
  let v3542 : BitVec 32 := Scalar.shli v3541 c3_i32_1221
  v3542

def k0_off421 (v3540 : BitVec 32) : Fin 2 → Nat :=
  let c3_i32_1220 : BitVec 32 := 3#32
  let v3541 : BitVec 32 := Scalar.shrsi v3540 c3_i32_1220
  let c3_i32_1221 : BitVec 32 := 3#32
  let v3542 : BitVec 32 := Scalar.shli v3541 c3_i32_1221
  let v3543 : BitVec 32 := v3542
  let v3544 : Index := Scalar.indexCast v3543
  let c0_1222 : Index := 0#32
  ![v3544.toNat, 0]

def k0_chk204 (v3540 : BitVec 32) : Prop :=
  (8 ∣ (k0_mult204 v3540).toNat) ∧
  (∀ a, (k0_off421 v3540) a + S8x512.size a ≤ S20000x512.size a)
theorem k0_mult204_dvd : ∀ (v3540 : BitVec 32) (k0_hw204 : k0_chk204 v3540), 8 ∣ (k0_mult204 v3540).toNat := fun v3540 k0_hw204 => k0_hw204.1
theorem k0_off421_inb : ∀ (v3540 : BitVec 32) (k0_hw204 : k0_chk204 v3540), ∀ a, (k0_off421 v3540) a + S8x512.size a ≤ S20000x512.size a := fun v3540 k0_hw204 => k0_hw204.2

def k0_off422 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1224 : BitVec 32 := 192#32
  let v3554 : BitVec 32 := Scalar.addi v63 c192_i32_1224
  let c12_i32_1225 : BitVec 32 := 12#32
  let v3555 : BitVec 32 := Scalar.addi v3554 c12_i32_1225
  let v3556 : Index := Scalar.indexCast v3555
  ![v3556.toNat]
def k0_mult205 (v3557 : BitVec 32) : BitVec 32 :=
  let c3_i32_1226 : BitVec 32 := 3#32
  let v3558 : BitVec 32 := Scalar.shrsi v3557 c3_i32_1226
  let c3_i32_1227 : BitVec 32 := 3#32
  let v3559 : BitVec 32 := Scalar.shli v3558 c3_i32_1227
  v3559

def k0_off423 (v3557 : BitVec 32) : Fin 2 → Nat :=
  let c3_i32_1226 : BitVec 32 := 3#32
  let v3558 : BitVec 32 := Scalar.shrsi v3557 c3_i32_1226
  let c3_i32_1227 : BitVec 32 := 3#32
  let v3559 : BitVec 32 := Scalar.shli v3558 c3_i32_1227
  let v3560 : BitVec 32 := v3559
  let v3561 : Index := Scalar.indexCast v3560
  let c0_1228 : Index := 0#32
  ![v3561.toNat, 0]

def k0_chk205 (v3557 : BitVec 32) : Prop :=
  (8 ∣ (k0_mult205 v3557).toNat) ∧
  (∀ a, (k0_off423 v3557) a + S8x512.size a ≤ S20000x512.size a)
theorem k0_mult205_dvd : ∀ (v3557 : BitVec 32) (k0_hw205 : k0_chk205 v3557), 8 ∣ (k0_mult205 v3557).toNat := fun v3557 k0_hw205 => k0_hw205.1
theorem k0_off423_inb : ∀ (v3557 : BitVec 32) (k0_hw205 : k0_chk205 v3557), ∀ a, (k0_off423 v3557) a + S8x512.size a ≤ S20000x512.size a := fun v3557 k0_hw205 => k0_hw205.2

def k0_off424 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1230 : BitVec 32 := 192#32
  let v3571 : BitVec 32 := Scalar.addi v63 c192_i32_1230
  let c13_i32_1231 : BitVec 32 := 13#32
  let v3572 : BitVec 32 := Scalar.addi v3571 c13_i32_1231
  let v3573 : Index := Scalar.indexCast v3572
  ![v3573.toNat]
def k0_mult206 (v3574 : BitVec 32) : BitVec 32 :=
  let c3_i32_1232 : BitVec 32 := 3#32
  let v3575 : BitVec 32 := Scalar.shrsi v3574 c3_i32_1232
  let c3_i32_1233 : BitVec 32 := 3#32
  let v3576 : BitVec 32 := Scalar.shli v3575 c3_i32_1233
  v3576

def k0_off425 (v3574 : BitVec 32) : Fin 2 → Nat :=
  let c3_i32_1232 : BitVec 32 := 3#32
  let v3575 : BitVec 32 := Scalar.shrsi v3574 c3_i32_1232
  let c3_i32_1233 : BitVec 32 := 3#32
  let v3576 : BitVec 32 := Scalar.shli v3575 c3_i32_1233
  let v3577 : BitVec 32 := v3576
  let v3578 : Index := Scalar.indexCast v3577
  let c0_1234 : Index := 0#32
  ![v3578.toNat, 0]

def k0_chk206 (v3574 : BitVec 32) : Prop :=
  (8 ∣ (k0_mult206 v3574).toNat) ∧
  (∀ a, (k0_off425 v3574) a + S8x512.size a ≤ S20000x512.size a)
theorem k0_mult206_dvd : ∀ (v3574 : BitVec 32) (k0_hw206 : k0_chk206 v3574), 8 ∣ (k0_mult206 v3574).toNat := fun v3574 k0_hw206 => k0_hw206.1
theorem k0_off425_inb : ∀ (v3574 : BitVec 32) (k0_hw206 : k0_chk206 v3574), ∀ a, (k0_off425 v3574) a + S8x512.size a ≤ S20000x512.size a := fun v3574 k0_hw206 => k0_hw206.2

def k0_off426 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1236 : BitVec 32 := 192#32
  let v3588 : BitVec 32 := Scalar.addi v63 c192_i32_1236
  let c14_i32_1237 : BitVec 32 := 14#32
  let v3589 : BitVec 32 := Scalar.addi v3588 c14_i32_1237
  let v3590 : Index := Scalar.indexCast v3589
  ![v3590.toNat]
def k0_mult207 (v3591 : BitVec 32) : BitVec 32 :=
  let c3_i32_1238 : BitVec 32 := 3#32
  let v3592 : BitVec 32 := Scalar.shrsi v3591 c3_i32_1238
  let c3_i32_1239 : BitVec 32 := 3#32
  let v3593 : BitVec 32 := Scalar.shli v3592 c3_i32_1239
  v3593

def k0_off427 (v3591 : BitVec 32) : Fin 2 → Nat :=
  let c3_i32_1238 : BitVec 32 := 3#32
  let v3592 : BitVec 32 := Scalar.shrsi v3591 c3_i32_1238
  let c3_i32_1239 : BitVec 32 := 3#32
  let v3593 : BitVec 32 := Scalar.shli v3592 c3_i32_1239
  let v3594 : BitVec 32 := v3593
  let v3595 : Index := Scalar.indexCast v3594
  let c0_1240 : Index := 0#32
  ![v3595.toNat, 0]

def k0_chk207 (v3591 : BitVec 32) : Prop :=
  (8 ∣ (k0_mult207 v3591).toNat) ∧
  (∀ a, (k0_off427 v3591) a + S8x512.size a ≤ S20000x512.size a)
theorem k0_mult207_dvd : ∀ (v3591 : BitVec 32) (k0_hw207 : k0_chk207 v3591), 8 ∣ (k0_mult207 v3591).toNat := fun v3591 k0_hw207 => k0_hw207.1
theorem k0_off427_inb : ∀ (v3591 : BitVec 32) (k0_hw207 : k0_chk207 v3591), ∀ a, (k0_off427 v3591) a + S8x512.size a ≤ S20000x512.size a := fun v3591 k0_hw207 => k0_hw207.2

def k0_off428 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1242 : BitVec 32 := 192#32
  let v3605 : BitVec 32 := Scalar.addi v63 c192_i32_1242
  let c15_i32_1243 : BitVec 32 := 15#32
  let v3606 : BitVec 32 := Scalar.addi v3605 c15_i32_1243
  let v3607 : Index := Scalar.indexCast v3606
  ![v3607.toNat]
def k0_mult208 (v3608 : BitVec 32) : BitVec 32 :=
  let c3_i32_1244 : BitVec 32 := 3#32
  let v3609 : BitVec 32 := Scalar.shrsi v3608 c3_i32_1244
  let c3_i32_1245 : BitVec 32 := 3#32
  let v3610 : BitVec 32 := Scalar.shli v3609 c3_i32_1245
  v3610

def k0_off429 (v3608 : BitVec 32) : Fin 2 → Nat :=
  let c3_i32_1244 : BitVec 32 := 3#32
  let v3609 : BitVec 32 := Scalar.shrsi v3608 c3_i32_1244
  let c3_i32_1245 : BitVec 32 := 3#32
  let v3610 : BitVec 32 := Scalar.shli v3609 c3_i32_1245
  let v3611 : BitVec 32 := v3610
  let v3612 : Index := Scalar.indexCast v3611
  let c0_1246 : Index := 0#32
  ![v3612.toNat, 0]

def k0_chk208 (v3608 : BitVec 32) : Prop :=
  (8 ∣ (k0_mult208 v3608).toNat) ∧
  (∀ a, (k0_off429 v3608) a + S8x512.size a ≤ S20000x512.size a)
theorem k0_mult208_dvd : ∀ (v3608 : BitVec 32) (k0_hw208 : k0_chk208 v3608), 8 ∣ (k0_mult208 v3608).toNat := fun v3608 k0_hw208 => k0_hw208.1
theorem k0_off429_inb : ∀ (v3608 : BitVec 32) (k0_hw208 : k0_chk208 v3608), ∀ a, (k0_off429 v3608) a + S8x512.size a ≤ S20000x512.size a := fun v3608 k0_hw208 => k0_hw208.2

def k0_off430 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1248 : BitVec 32 := 192#32
  let v3622 : BitVec 32 := Scalar.addi v63 c192_i32_1248
  let c16_i32_1249 : BitVec 32 := 16#32
  let v3623 : BitVec 32 := Scalar.addi v3622 c16_i32_1249
  let v3624 : Index := Scalar.indexCast v3623
  ![v3624.toNat]
def k0_mult209 (v3625 : BitVec 32) : BitVec 32 :=
  let c3_i32_1250 : BitVec 32 := 3#32
  let v3626 : BitVec 32 := Scalar.shrsi v3625 c3_i32_1250
  let c3_i32_1251 : BitVec 32 := 3#32
  let v3627 : BitVec 32 := Scalar.shli v3626 c3_i32_1251
  v3627

def k0_off431 (v3625 : BitVec 32) : Fin 2 → Nat :=
  let c3_i32_1250 : BitVec 32 := 3#32
  let v3626 : BitVec 32 := Scalar.shrsi v3625 c3_i32_1250
  let c3_i32_1251 : BitVec 32 := 3#32
  let v3627 : BitVec 32 := Scalar.shli v3626 c3_i32_1251
  let v3628 : BitVec 32 := v3627
  let v3629 : Index := Scalar.indexCast v3628
  let c0_1252 : Index := 0#32
  ![v3629.toNat, 0]

def k0_chk209 (v3625 : BitVec 32) : Prop :=
  (8 ∣ (k0_mult209 v3625).toNat) ∧
  (∀ a, (k0_off431 v3625) a + S8x512.size a ≤ S20000x512.size a)
theorem k0_mult209_dvd : ∀ (v3625 : BitVec 32) (k0_hw209 : k0_chk209 v3625), 8 ∣ (k0_mult209 v3625).toNat := fun v3625 k0_hw209 => k0_hw209.1
theorem k0_off431_inb : ∀ (v3625 : BitVec 32) (k0_hw209 : k0_chk209 v3625), ∀ a, (k0_off431 v3625) a + S8x512.size a ≤ S20000x512.size a := fun v3625 k0_hw209 => k0_hw209.2

def k0_off432 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1254 : BitVec 32 := 192#32
  let v3639 : BitVec 32 := Scalar.addi v63 c192_i32_1254
  let c17_i32_1255 : BitVec 32 := 17#32
  let v3640 : BitVec 32 := Scalar.addi v3639 c17_i32_1255
  let v3641 : Index := Scalar.indexCast v3640
  ![v3641.toNat]
def k0_mult210 (v3642 : BitVec 32) : BitVec 32 :=
  let c3_i32_1256 : BitVec 32 := 3#32
  let v3643 : BitVec 32 := Scalar.shrsi v3642 c3_i32_1256
  let c3_i32_1257 : BitVec 32 := 3#32
  let v3644 : BitVec 32 := Scalar.shli v3643 c3_i32_1257
  v3644

def k0_off433 (v3642 : BitVec 32) : Fin 2 → Nat :=
  let c3_i32_1256 : BitVec 32 := 3#32
  let v3643 : BitVec 32 := Scalar.shrsi v3642 c3_i32_1256
  let c3_i32_1257 : BitVec 32 := 3#32
  let v3644 : BitVec 32 := Scalar.shli v3643 c3_i32_1257
  let v3645 : BitVec 32 := v3644
  let v3646 : Index := Scalar.indexCast v3645
  let c0_1258 : Index := 0#32
  ![v3646.toNat, 0]

def k0_chk210 (v3642 : BitVec 32) : Prop :=
  (8 ∣ (k0_mult210 v3642).toNat) ∧
  (∀ a, (k0_off433 v3642) a + S8x512.size a ≤ S20000x512.size a)
theorem k0_mult210_dvd : ∀ (v3642 : BitVec 32) (k0_hw210 : k0_chk210 v3642), 8 ∣ (k0_mult210 v3642).toNat := fun v3642 k0_hw210 => k0_hw210.1
theorem k0_off433_inb : ∀ (v3642 : BitVec 32) (k0_hw210 : k0_chk210 v3642), ∀ a, (k0_off433 v3642) a + S8x512.size a ≤ S20000x512.size a := fun v3642 k0_hw210 => k0_hw210.2

def k0_off434 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1260 : BitVec 32 := 192#32
  let v3656 : BitVec 32 := Scalar.addi v63 c192_i32_1260
  let c18_i32_1261 : BitVec 32 := 18#32
  let v3657 : BitVec 32 := Scalar.addi v3656 c18_i32_1261
  let v3658 : Index := Scalar.indexCast v3657
  ![v3658.toNat]
def k0_mult211 (v3659 : BitVec 32) : BitVec 32 :=
  let c3_i32_1262 : BitVec 32 := 3#32
  let v3660 : BitVec 32 := Scalar.shrsi v3659 c3_i32_1262
  let c3_i32_1263 : BitVec 32 := 3#32
  let v3661 : BitVec 32 := Scalar.shli v3660 c3_i32_1263
  v3661

def k0_off435 (v3659 : BitVec 32) : Fin 2 → Nat :=
  let c3_i32_1262 : BitVec 32 := 3#32
  let v3660 : BitVec 32 := Scalar.shrsi v3659 c3_i32_1262
  let c3_i32_1263 : BitVec 32 := 3#32
  let v3661 : BitVec 32 := Scalar.shli v3660 c3_i32_1263
  let v3662 : BitVec 32 := v3661
  let v3663 : Index := Scalar.indexCast v3662
  let c0_1264 : Index := 0#32
  ![v3663.toNat, 0]

def k0_chk211 (v3659 : BitVec 32) : Prop :=
  (8 ∣ (k0_mult211 v3659).toNat) ∧
  (∀ a, (k0_off435 v3659) a + S8x512.size a ≤ S20000x512.size a)
theorem k0_mult211_dvd : ∀ (v3659 : BitVec 32) (k0_hw211 : k0_chk211 v3659), 8 ∣ (k0_mult211 v3659).toNat := fun v3659 k0_hw211 => k0_hw211.1
theorem k0_off435_inb : ∀ (v3659 : BitVec 32) (k0_hw211 : k0_chk211 v3659), ∀ a, (k0_off435 v3659) a + S8x512.size a ≤ S20000x512.size a := fun v3659 k0_hw211 => k0_hw211.2

def k0_off436 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1266 : BitVec 32 := 192#32
  let v3673 : BitVec 32 := Scalar.addi v63 c192_i32_1266
  let c19_i32_1267 : BitVec 32 := 19#32
  let v3674 : BitVec 32 := Scalar.addi v3673 c19_i32_1267
  let v3675 : Index := Scalar.indexCast v3674
  ![v3675.toNat]
def k0_mult212 (v3676 : BitVec 32) : BitVec 32 :=
  let c3_i32_1268 : BitVec 32 := 3#32
  let v3677 : BitVec 32 := Scalar.shrsi v3676 c3_i32_1268
  let c3_i32_1269 : BitVec 32 := 3#32
  let v3678 : BitVec 32 := Scalar.shli v3677 c3_i32_1269
  v3678

def k0_off437 (v3676 : BitVec 32) : Fin 2 → Nat :=
  let c3_i32_1268 : BitVec 32 := 3#32
  let v3677 : BitVec 32 := Scalar.shrsi v3676 c3_i32_1268
  let c3_i32_1269 : BitVec 32 := 3#32
  let v3678 : BitVec 32 := Scalar.shli v3677 c3_i32_1269
  let v3679 : BitVec 32 := v3678
  let v3680 : Index := Scalar.indexCast v3679
  let c0_1270 : Index := 0#32
  ![v3680.toNat, 0]

def k0_chk212 (v3676 : BitVec 32) : Prop :=
  (8 ∣ (k0_mult212 v3676).toNat) ∧
  (∀ a, (k0_off437 v3676) a + S8x512.size a ≤ S20000x512.size a)
theorem k0_mult212_dvd : ∀ (v3676 : BitVec 32) (k0_hw212 : k0_chk212 v3676), 8 ∣ (k0_mult212 v3676).toNat := fun v3676 k0_hw212 => k0_hw212.1
theorem k0_off437_inb : ∀ (v3676 : BitVec 32) (k0_hw212 : k0_chk212 v3676), ∀ a, (k0_off437 v3676) a + S8x512.size a ≤ S20000x512.size a := fun v3676 k0_hw212 => k0_hw212.2

def k0_off438 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1272 : BitVec 32 := 192#32
  let v3690 : BitVec 32 := Scalar.addi v63 c192_i32_1272
  let c20_i32_1273 : BitVec 32 := 20#32
  let v3691 : BitVec 32 := Scalar.addi v3690 c20_i32_1273
  let v3692 : Index := Scalar.indexCast v3691
  ![v3692.toNat]
def k0_mult213 (v3693 : BitVec 32) : BitVec 32 :=
  let c3_i32_1274 : BitVec 32 := 3#32
  let v3694 : BitVec 32 := Scalar.shrsi v3693 c3_i32_1274
  let c3_i32_1275 : BitVec 32 := 3#32
  let v3695 : BitVec 32 := Scalar.shli v3694 c3_i32_1275
  v3695

def k0_off439 (v3693 : BitVec 32) : Fin 2 → Nat :=
  let c3_i32_1274 : BitVec 32 := 3#32
  let v3694 : BitVec 32 := Scalar.shrsi v3693 c3_i32_1274
  let c3_i32_1275 : BitVec 32 := 3#32
  let v3695 : BitVec 32 := Scalar.shli v3694 c3_i32_1275
  let v3696 : BitVec 32 := v3695
  let v3697 : Index := Scalar.indexCast v3696
  let c0_1276 : Index := 0#32
  ![v3697.toNat, 0]

def k0_chk213 (v3693 : BitVec 32) : Prop :=
  (8 ∣ (k0_mult213 v3693).toNat) ∧
  (∀ a, (k0_off439 v3693) a + S8x512.size a ≤ S20000x512.size a)
theorem k0_mult213_dvd : ∀ (v3693 : BitVec 32) (k0_hw213 : k0_chk213 v3693), 8 ∣ (k0_mult213 v3693).toNat := fun v3693 k0_hw213 => k0_hw213.1
theorem k0_off439_inb : ∀ (v3693 : BitVec 32) (k0_hw213 : k0_chk213 v3693), ∀ a, (k0_off439 v3693) a + S8x512.size a ≤ S20000x512.size a := fun v3693 k0_hw213 => k0_hw213.2

def k0_off440 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1278 : BitVec 32 := 192#32
  let v3707 : BitVec 32 := Scalar.addi v63 c192_i32_1278
  let c21_i32_1279 : BitVec 32 := 21#32
  let v3708 : BitVec 32 := Scalar.addi v3707 c21_i32_1279
  let v3709 : Index := Scalar.indexCast v3708
  ![v3709.toNat]
def k0_mult214 (v3710 : BitVec 32) : BitVec 32 :=
  let c3_i32_1280 : BitVec 32 := 3#32
  let v3711 : BitVec 32 := Scalar.shrsi v3710 c3_i32_1280
  let c3_i32_1281 : BitVec 32 := 3#32
  let v3712 : BitVec 32 := Scalar.shli v3711 c3_i32_1281
  v3712

def k0_off441 (v3710 : BitVec 32) : Fin 2 → Nat :=
  let c3_i32_1280 : BitVec 32 := 3#32
  let v3711 : BitVec 32 := Scalar.shrsi v3710 c3_i32_1280
  let c3_i32_1281 : BitVec 32 := 3#32
  let v3712 : BitVec 32 := Scalar.shli v3711 c3_i32_1281
  let v3713 : BitVec 32 := v3712
  let v3714 : Index := Scalar.indexCast v3713
  let c0_1282 : Index := 0#32
  ![v3714.toNat, 0]

def k0_chk214 (v3710 : BitVec 32) : Prop :=
  (8 ∣ (k0_mult214 v3710).toNat) ∧
  (∀ a, (k0_off441 v3710) a + S8x512.size a ≤ S20000x512.size a)
theorem k0_mult214_dvd : ∀ (v3710 : BitVec 32) (k0_hw214 : k0_chk214 v3710), 8 ∣ (k0_mult214 v3710).toNat := fun v3710 k0_hw214 => k0_hw214.1
theorem k0_off441_inb : ∀ (v3710 : BitVec 32) (k0_hw214 : k0_chk214 v3710), ∀ a, (k0_off441 v3710) a + S8x512.size a ≤ S20000x512.size a := fun v3710 k0_hw214 => k0_hw214.2

def k0_off442 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1284 : BitVec 32 := 192#32
  let v3724 : BitVec 32 := Scalar.addi v63 c192_i32_1284
  let c22_i32_1285 : BitVec 32 := 22#32
  let v3725 : BitVec 32 := Scalar.addi v3724 c22_i32_1285
  let v3726 : Index := Scalar.indexCast v3725
  ![v3726.toNat]
def k0_mult215 (v3727 : BitVec 32) : BitVec 32 :=
  let c3_i32_1286 : BitVec 32 := 3#32
  let v3728 : BitVec 32 := Scalar.shrsi v3727 c3_i32_1286
  let c3_i32_1287 : BitVec 32 := 3#32
  let v3729 : BitVec 32 := Scalar.shli v3728 c3_i32_1287
  v3729

def k0_off443 (v3727 : BitVec 32) : Fin 2 → Nat :=
  let c3_i32_1286 : BitVec 32 := 3#32
  let v3728 : BitVec 32 := Scalar.shrsi v3727 c3_i32_1286
  let c3_i32_1287 : BitVec 32 := 3#32
  let v3729 : BitVec 32 := Scalar.shli v3728 c3_i32_1287
  let v3730 : BitVec 32 := v3729
  let v3731 : Index := Scalar.indexCast v3730
  let c0_1288 : Index := 0#32
  ![v3731.toNat, 0]

def k0_chk215 (v3727 : BitVec 32) : Prop :=
  (8 ∣ (k0_mult215 v3727).toNat) ∧
  (∀ a, (k0_off443 v3727) a + S8x512.size a ≤ S20000x512.size a)
theorem k0_mult215_dvd : ∀ (v3727 : BitVec 32) (k0_hw215 : k0_chk215 v3727), 8 ∣ (k0_mult215 v3727).toNat := fun v3727 k0_hw215 => k0_hw215.1
theorem k0_off443_inb : ∀ (v3727 : BitVec 32) (k0_hw215 : k0_chk215 v3727), ∀ a, (k0_off443 v3727) a + S8x512.size a ≤ S20000x512.size a := fun v3727 k0_hw215 => k0_hw215.2

def k0_off444 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1290 : BitVec 32 := 192#32
  let v3741 : BitVec 32 := Scalar.addi v63 c192_i32_1290
  let c23_i32_1291 : BitVec 32 := 23#32
  let v3742 : BitVec 32 := Scalar.addi v3741 c23_i32_1291
  let v3743 : Index := Scalar.indexCast v3742
  ![v3743.toNat]
def k0_mult216 (v3744 : BitVec 32) : BitVec 32 :=
  let c3_i32_1292 : BitVec 32 := 3#32
  let v3745 : BitVec 32 := Scalar.shrsi v3744 c3_i32_1292
  let c3_i32_1293 : BitVec 32 := 3#32
  let v3746 : BitVec 32 := Scalar.shli v3745 c3_i32_1293
  v3746

def k0_off445 (v3744 : BitVec 32) : Fin 2 → Nat :=
  let c3_i32_1292 : BitVec 32 := 3#32
  let v3745 : BitVec 32 := Scalar.shrsi v3744 c3_i32_1292
  let c3_i32_1293 : BitVec 32 := 3#32
  let v3746 : BitVec 32 := Scalar.shli v3745 c3_i32_1293
  let v3747 : BitVec 32 := v3746
  let v3748 : Index := Scalar.indexCast v3747
  let c0_1294 : Index := 0#32
  ![v3748.toNat, 0]

def k0_chk216 (v3744 : BitVec 32) : Prop :=
  (8 ∣ (k0_mult216 v3744).toNat) ∧
  (∀ a, (k0_off445 v3744) a + S8x512.size a ≤ S20000x512.size a)
theorem k0_mult216_dvd : ∀ (v3744 : BitVec 32) (k0_hw216 : k0_chk216 v3744), 8 ∣ (k0_mult216 v3744).toNat := fun v3744 k0_hw216 => k0_hw216.1
theorem k0_off445_inb : ∀ (v3744 : BitVec 32) (k0_hw216 : k0_chk216 v3744), ∀ a, (k0_off445 v3744) a + S8x512.size a ≤ S20000x512.size a := fun v3744 k0_hw216 => k0_hw216.2

def k0_off446 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1296 : BitVec 32 := 192#32
  let v3758 : BitVec 32 := Scalar.addi v63 c192_i32_1296
  let c24_i32_1297 : BitVec 32 := 24#32
  let v3759 : BitVec 32 := Scalar.addi v3758 c24_i32_1297
  let v3760 : Index := Scalar.indexCast v3759
  ![v3760.toNat]
def k0_mult217 (v3761 : BitVec 32) : BitVec 32 :=
  let c3_i32_1298 : BitVec 32 := 3#32
  let v3762 : BitVec 32 := Scalar.shrsi v3761 c3_i32_1298
  let c3_i32_1299 : BitVec 32 := 3#32
  let v3763 : BitVec 32 := Scalar.shli v3762 c3_i32_1299
  v3763

def k0_off447 (v3761 : BitVec 32) : Fin 2 → Nat :=
  let c3_i32_1298 : BitVec 32 := 3#32
  let v3762 : BitVec 32 := Scalar.shrsi v3761 c3_i32_1298
  let c3_i32_1299 : BitVec 32 := 3#32
  let v3763 : BitVec 32 := Scalar.shli v3762 c3_i32_1299
  let v3764 : BitVec 32 := v3763
  let v3765 : Index := Scalar.indexCast v3764
  let c0_1300 : Index := 0#32
  ![v3765.toNat, 0]

def k0_chk217 (v3761 : BitVec 32) : Prop :=
  (8 ∣ (k0_mult217 v3761).toNat) ∧
  (∀ a, (k0_off447 v3761) a + S8x512.size a ≤ S20000x512.size a)
theorem k0_mult217_dvd : ∀ (v3761 : BitVec 32) (k0_hw217 : k0_chk217 v3761), 8 ∣ (k0_mult217 v3761).toNat := fun v3761 k0_hw217 => k0_hw217.1
theorem k0_off447_inb : ∀ (v3761 : BitVec 32) (k0_hw217 : k0_chk217 v3761), ∀ a, (k0_off447 v3761) a + S8x512.size a ≤ S20000x512.size a := fun v3761 k0_hw217 => k0_hw217.2

def k0_off448 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1302 : BitVec 32 := 192#32
  let v3775 : BitVec 32 := Scalar.addi v63 c192_i32_1302
  let c25_i32_1303 : BitVec 32 := 25#32
  let v3776 : BitVec 32 := Scalar.addi v3775 c25_i32_1303
  let v3777 : Index := Scalar.indexCast v3776
  ![v3777.toNat]
def k0_mult218 (v3778 : BitVec 32) : BitVec 32 :=
  let c3_i32_1304 : BitVec 32 := 3#32
  let v3779 : BitVec 32 := Scalar.shrsi v3778 c3_i32_1304
  let c3_i32_1305 : BitVec 32 := 3#32
  let v3780 : BitVec 32 := Scalar.shli v3779 c3_i32_1305
  v3780

def k0_off449 (v3778 : BitVec 32) : Fin 2 → Nat :=
  let c3_i32_1304 : BitVec 32 := 3#32
  let v3779 : BitVec 32 := Scalar.shrsi v3778 c3_i32_1304
  let c3_i32_1305 : BitVec 32 := 3#32
  let v3780 : BitVec 32 := Scalar.shli v3779 c3_i32_1305
  let v3781 : BitVec 32 := v3780
  let v3782 : Index := Scalar.indexCast v3781
  let c0_1306 : Index := 0#32
  ![v3782.toNat, 0]

def k0_chk218 (v3778 : BitVec 32) : Prop :=
  (8 ∣ (k0_mult218 v3778).toNat) ∧
  (∀ a, (k0_off449 v3778) a + S8x512.size a ≤ S20000x512.size a)
theorem k0_mult218_dvd : ∀ (v3778 : BitVec 32) (k0_hw218 : k0_chk218 v3778), 8 ∣ (k0_mult218 v3778).toNat := fun v3778 k0_hw218 => k0_hw218.1
theorem k0_off449_inb : ∀ (v3778 : BitVec 32) (k0_hw218 : k0_chk218 v3778), ∀ a, (k0_off449 v3778) a + S8x512.size a ≤ S20000x512.size a := fun v3778 k0_hw218 => k0_hw218.2

def k0_off450 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1308 : BitVec 32 := 192#32
  let v3792 : BitVec 32 := Scalar.addi v63 c192_i32_1308
  let c26_i32_1309 : BitVec 32 := 26#32
  let v3793 : BitVec 32 := Scalar.addi v3792 c26_i32_1309
  let v3794 : Index := Scalar.indexCast v3793
  ![v3794.toNat]
def k0_mult219 (v3795 : BitVec 32) : BitVec 32 :=
  let c3_i32_1310 : BitVec 32 := 3#32
  let v3796 : BitVec 32 := Scalar.shrsi v3795 c3_i32_1310
  let c3_i32_1311 : BitVec 32 := 3#32
  let v3797 : BitVec 32 := Scalar.shli v3796 c3_i32_1311
  v3797

def k0_off451 (v3795 : BitVec 32) : Fin 2 → Nat :=
  let c3_i32_1310 : BitVec 32 := 3#32
  let v3796 : BitVec 32 := Scalar.shrsi v3795 c3_i32_1310
  let c3_i32_1311 : BitVec 32 := 3#32
  let v3797 : BitVec 32 := Scalar.shli v3796 c3_i32_1311
  let v3798 : BitVec 32 := v3797
  let v3799 : Index := Scalar.indexCast v3798
  let c0_1312 : Index := 0#32
  ![v3799.toNat, 0]

def k0_chk219 (v3795 : BitVec 32) : Prop :=
  (8 ∣ (k0_mult219 v3795).toNat) ∧
  (∀ a, (k0_off451 v3795) a + S8x512.size a ≤ S20000x512.size a)
theorem k0_mult219_dvd : ∀ (v3795 : BitVec 32) (k0_hw219 : k0_chk219 v3795), 8 ∣ (k0_mult219 v3795).toNat := fun v3795 k0_hw219 => k0_hw219.1
theorem k0_off451_inb : ∀ (v3795 : BitVec 32) (k0_hw219 : k0_chk219 v3795), ∀ a, (k0_off451 v3795) a + S8x512.size a ≤ S20000x512.size a := fun v3795 k0_hw219 => k0_hw219.2

def k0_off452 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1314 : BitVec 32 := 192#32
  let v3809 : BitVec 32 := Scalar.addi v63 c192_i32_1314
  let c27_i32_1315 : BitVec 32 := 27#32
  let v3810 : BitVec 32 := Scalar.addi v3809 c27_i32_1315
  let v3811 : Index := Scalar.indexCast v3810
  ![v3811.toNat]
def k0_mult220 (v3812 : BitVec 32) : BitVec 32 :=
  let c3_i32_1316 : BitVec 32 := 3#32
  let v3813 : BitVec 32 := Scalar.shrsi v3812 c3_i32_1316
  let c3_i32_1317 : BitVec 32 := 3#32
  let v3814 : BitVec 32 := Scalar.shli v3813 c3_i32_1317
  v3814

def k0_off453 (v3812 : BitVec 32) : Fin 2 → Nat :=
  let c3_i32_1316 : BitVec 32 := 3#32
  let v3813 : BitVec 32 := Scalar.shrsi v3812 c3_i32_1316
  let c3_i32_1317 : BitVec 32 := 3#32
  let v3814 : BitVec 32 := Scalar.shli v3813 c3_i32_1317
  let v3815 : BitVec 32 := v3814
  let v3816 : Index := Scalar.indexCast v3815
  let c0_1318 : Index := 0#32
  ![v3816.toNat, 0]

def k0_chk220 (v3812 : BitVec 32) : Prop :=
  (8 ∣ (k0_mult220 v3812).toNat) ∧
  (∀ a, (k0_off453 v3812) a + S8x512.size a ≤ S20000x512.size a)
theorem k0_mult220_dvd : ∀ (v3812 : BitVec 32) (k0_hw220 : k0_chk220 v3812), 8 ∣ (k0_mult220 v3812).toNat := fun v3812 k0_hw220 => k0_hw220.1
theorem k0_off453_inb : ∀ (v3812 : BitVec 32) (k0_hw220 : k0_chk220 v3812), ∀ a, (k0_off453 v3812) a + S8x512.size a ≤ S20000x512.size a := fun v3812 k0_hw220 => k0_hw220.2

def k0_off454 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1320 : BitVec 32 := 192#32
  let v3826 : BitVec 32 := Scalar.addi v63 c192_i32_1320
  let c28_i32_1321 : BitVec 32 := 28#32
  let v3827 : BitVec 32 := Scalar.addi v3826 c28_i32_1321
  let v3828 : Index := Scalar.indexCast v3827
  ![v3828.toNat]
def k0_mult221 (v3829 : BitVec 32) : BitVec 32 :=
  let c3_i32_1322 : BitVec 32 := 3#32
  let v3830 : BitVec 32 := Scalar.shrsi v3829 c3_i32_1322
  let c3_i32_1323 : BitVec 32 := 3#32
  let v3831 : BitVec 32 := Scalar.shli v3830 c3_i32_1323
  v3831

def k0_off455 (v3829 : BitVec 32) : Fin 2 → Nat :=
  let c3_i32_1322 : BitVec 32 := 3#32
  let v3830 : BitVec 32 := Scalar.shrsi v3829 c3_i32_1322
  let c3_i32_1323 : BitVec 32 := 3#32
  let v3831 : BitVec 32 := Scalar.shli v3830 c3_i32_1323
  let v3832 : BitVec 32 := v3831
  let v3833 : Index := Scalar.indexCast v3832
  let c0_1324 : Index := 0#32
  ![v3833.toNat, 0]

def k0_chk221 (v3829 : BitVec 32) : Prop :=
  (8 ∣ (k0_mult221 v3829).toNat) ∧
  (∀ a, (k0_off455 v3829) a + S8x512.size a ≤ S20000x512.size a)
theorem k0_mult221_dvd : ∀ (v3829 : BitVec 32) (k0_hw221 : k0_chk221 v3829), 8 ∣ (k0_mult221 v3829).toNat := fun v3829 k0_hw221 => k0_hw221.1
theorem k0_off455_inb : ∀ (v3829 : BitVec 32) (k0_hw221 : k0_chk221 v3829), ∀ a, (k0_off455 v3829) a + S8x512.size a ≤ S20000x512.size a := fun v3829 k0_hw221 => k0_hw221.2

def k0_off456 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1326 : BitVec 32 := 192#32
  let v3843 : BitVec 32 := Scalar.addi v63 c192_i32_1326
  let c29_i32_1327 : BitVec 32 := 29#32
  let v3844 : BitVec 32 := Scalar.addi v3843 c29_i32_1327
  let v3845 : Index := Scalar.indexCast v3844
  ![v3845.toNat]
def k0_mult222 (v3846 : BitVec 32) : BitVec 32 :=
  let c3_i32_1328 : BitVec 32 := 3#32
  let v3847 : BitVec 32 := Scalar.shrsi v3846 c3_i32_1328
  let c3_i32_1329 : BitVec 32 := 3#32
  let v3848 : BitVec 32 := Scalar.shli v3847 c3_i32_1329
  v3848

def k0_off457 (v3846 : BitVec 32) : Fin 2 → Nat :=
  let c3_i32_1328 : BitVec 32 := 3#32
  let v3847 : BitVec 32 := Scalar.shrsi v3846 c3_i32_1328
  let c3_i32_1329 : BitVec 32 := 3#32
  let v3848 : BitVec 32 := Scalar.shli v3847 c3_i32_1329
  let v3849 : BitVec 32 := v3848
  let v3850 : Index := Scalar.indexCast v3849
  let c0_1330 : Index := 0#32
  ![v3850.toNat, 0]

def k0_chk222 (v3846 : BitVec 32) : Prop :=
  (8 ∣ (k0_mult222 v3846).toNat) ∧
  (∀ a, (k0_off457 v3846) a + S8x512.size a ≤ S20000x512.size a)
theorem k0_mult222_dvd : ∀ (v3846 : BitVec 32) (k0_hw222 : k0_chk222 v3846), 8 ∣ (k0_mult222 v3846).toNat := fun v3846 k0_hw222 => k0_hw222.1
theorem k0_off457_inb : ∀ (v3846 : BitVec 32) (k0_hw222 : k0_chk222 v3846), ∀ a, (k0_off457 v3846) a + S8x512.size a ≤ S20000x512.size a := fun v3846 k0_hw222 => k0_hw222.2

def k0_off458 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1332 : BitVec 32 := 192#32
  let v3860 : BitVec 32 := Scalar.addi v63 c192_i32_1332
  let c30_i32_1333 : BitVec 32 := 30#32
  let v3861 : BitVec 32 := Scalar.addi v3860 c30_i32_1333
  let v3862 : Index := Scalar.indexCast v3861
  ![v3862.toNat]
def k0_mult223 (v3863 : BitVec 32) : BitVec 32 :=
  let c3_i32_1334 : BitVec 32 := 3#32
  let v3864 : BitVec 32 := Scalar.shrsi v3863 c3_i32_1334
  let c3_i32_1335 : BitVec 32 := 3#32
  let v3865 : BitVec 32 := Scalar.shli v3864 c3_i32_1335
  v3865

def k0_off459 (v3863 : BitVec 32) : Fin 2 → Nat :=
  let c3_i32_1334 : BitVec 32 := 3#32
  let v3864 : BitVec 32 := Scalar.shrsi v3863 c3_i32_1334
  let c3_i32_1335 : BitVec 32 := 3#32
  let v3865 : BitVec 32 := Scalar.shli v3864 c3_i32_1335
  let v3866 : BitVec 32 := v3865
  let v3867 : Index := Scalar.indexCast v3866
  let c0_1336 : Index := 0#32
  ![v3867.toNat, 0]

def k0_chk223 (v3863 : BitVec 32) : Prop :=
  (8 ∣ (k0_mult223 v3863).toNat) ∧
  (∀ a, (k0_off459 v3863) a + S8x512.size a ≤ S20000x512.size a)
theorem k0_mult223_dvd : ∀ (v3863 : BitVec 32) (k0_hw223 : k0_chk223 v3863), 8 ∣ (k0_mult223 v3863).toNat := fun v3863 k0_hw223 => k0_hw223.1
theorem k0_off459_inb : ∀ (v3863 : BitVec 32) (k0_hw223 : k0_chk223 v3863), ∀ a, (k0_off459 v3863) a + S8x512.size a ≤ S20000x512.size a := fun v3863 k0_hw223 => k0_hw223.2

def k0_off460 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1338 : BitVec 32 := 192#32
  let v3877 : BitVec 32 := Scalar.addi v63 c192_i32_1338
  let c31_i32_1339 : BitVec 32 := 31#32
  let v3878 : BitVec 32 := Scalar.addi v3877 c31_i32_1339
  let v3879 : Index := Scalar.indexCast v3878
  ![v3879.toNat]
def k0_mult224 (v3880 : BitVec 32) : BitVec 32 :=
  let c3_i32_1340 : BitVec 32 := 3#32
  let v3881 : BitVec 32 := Scalar.shrsi v3880 c3_i32_1340
  let c3_i32_1341 : BitVec 32 := 3#32
  let v3882 : BitVec 32 := Scalar.shli v3881 c3_i32_1341
  v3882

def k0_off461 (v3880 : BitVec 32) : Fin 2 → Nat :=
  let c3_i32_1340 : BitVec 32 := 3#32
  let v3881 : BitVec 32 := Scalar.shrsi v3880 c3_i32_1340
  let c3_i32_1341 : BitVec 32 := 3#32
  let v3882 : BitVec 32 := Scalar.shli v3881 c3_i32_1341
  let v3883 : BitVec 32 := v3882
  let v3884 : Index := Scalar.indexCast v3883
  let c0_1342 : Index := 0#32
  ![v3884.toNat, 0]

def k0_chk224 (v3880 : BitVec 32) : Prop :=
  (8 ∣ (k0_mult224 v3880).toNat) ∧
  (∀ a, (k0_off461 v3880) a + S8x512.size a ≤ S20000x512.size a)
theorem k0_mult224_dvd : ∀ (v3880 : BitVec 32) (k0_hw224 : k0_chk224 v3880), 8 ∣ (k0_mult224 v3880).toNat := fun v3880 k0_hw224 => k0_hw224.1
theorem k0_off461_inb : ∀ (v3880 : BitVec 32) (k0_hw224 : k0_chk224 v3880), ∀ a, (k0_off461 v3880) a + S8x512.size a ≤ S20000x512.size a := fun v3880 k0_hw224 => k0_hw224.2

def k0_off462 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1344 : BitVec 32 := 192#32
  let v3894 : BitVec 32 := Scalar.addi v63 c192_i32_1344
  let c32_i32_1345 : BitVec 32 := 32#32
  let v3895 : BitVec 32 := Scalar.addi v3894 c32_i32_1345
  let v3896 : Index := Scalar.indexCast v3895
  ![v3896.toNat]
def k0_mult225 (v3897 : BitVec 32) : BitVec 32 :=
  let c3_i32_1346 : BitVec 32 := 3#32
  let v3898 : BitVec 32 := Scalar.shrsi v3897 c3_i32_1346
  let c3_i32_1347 : BitVec 32 := 3#32
  let v3899 : BitVec 32 := Scalar.shli v3898 c3_i32_1347
  v3899

def k0_off463 (v3897 : BitVec 32) : Fin 2 → Nat :=
  let c3_i32_1346 : BitVec 32 := 3#32
  let v3898 : BitVec 32 := Scalar.shrsi v3897 c3_i32_1346
  let c3_i32_1347 : BitVec 32 := 3#32
  let v3899 : BitVec 32 := Scalar.shli v3898 c3_i32_1347
  let v3900 : BitVec 32 := v3899
  let v3901 : Index := Scalar.indexCast v3900
  let c0_1348 : Index := 0#32
  ![v3901.toNat, 0]

def k0_chk225 (v3897 : BitVec 32) : Prop :=
  (8 ∣ (k0_mult225 v3897).toNat) ∧
  (∀ a, (k0_off463 v3897) a + S8x512.size a ≤ S20000x512.size a)
theorem k0_mult225_dvd : ∀ (v3897 : BitVec 32) (k0_hw225 : k0_chk225 v3897), 8 ∣ (k0_mult225 v3897).toNat := fun v3897 k0_hw225 => k0_hw225.1
theorem k0_off463_inb : ∀ (v3897 : BitVec 32) (k0_hw225 : k0_chk225 v3897), ∀ a, (k0_off463 v3897) a + S8x512.size a ≤ S20000x512.size a := fun v3897 k0_hw225 => k0_hw225.2

def k0_off464 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1350 : BitVec 32 := 192#32
  let v3911 : BitVec 32 := Scalar.addi v63 c192_i32_1350
  let c33_i32_1351 : BitVec 32 := 33#32
  let v3912 : BitVec 32 := Scalar.addi v3911 c33_i32_1351
  let v3913 : Index := Scalar.indexCast v3912
  ![v3913.toNat]
def k0_mult226 (v3914 : BitVec 32) : BitVec 32 :=
  let c3_i32_1352 : BitVec 32 := 3#32
  let v3915 : BitVec 32 := Scalar.shrsi v3914 c3_i32_1352
  let c3_i32_1353 : BitVec 32 := 3#32
  let v3916 : BitVec 32 := Scalar.shli v3915 c3_i32_1353
  v3916

def k0_off465 (v3914 : BitVec 32) : Fin 2 → Nat :=
  let c3_i32_1352 : BitVec 32 := 3#32
  let v3915 : BitVec 32 := Scalar.shrsi v3914 c3_i32_1352
  let c3_i32_1353 : BitVec 32 := 3#32
  let v3916 : BitVec 32 := Scalar.shli v3915 c3_i32_1353
  let v3917 : BitVec 32 := v3916
  let v3918 : Index := Scalar.indexCast v3917
  let c0_1354 : Index := 0#32
  ![v3918.toNat, 0]

def k0_chk226 (v3914 : BitVec 32) : Prop :=
  (8 ∣ (k0_mult226 v3914).toNat) ∧
  (∀ a, (k0_off465 v3914) a + S8x512.size a ≤ S20000x512.size a)
theorem k0_mult226_dvd : ∀ (v3914 : BitVec 32) (k0_hw226 : k0_chk226 v3914), 8 ∣ (k0_mult226 v3914).toNat := fun v3914 k0_hw226 => k0_hw226.1
theorem k0_off465_inb : ∀ (v3914 : BitVec 32) (k0_hw226 : k0_chk226 v3914), ∀ a, (k0_off465 v3914) a + S8x512.size a ≤ S20000x512.size a := fun v3914 k0_hw226 => k0_hw226.2

def k0_off466 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1356 : BitVec 32 := 192#32
  let v3928 : BitVec 32 := Scalar.addi v63 c192_i32_1356
  let c34_i32_1357 : BitVec 32 := 34#32
  let v3929 : BitVec 32 := Scalar.addi v3928 c34_i32_1357
  let v3930 : Index := Scalar.indexCast v3929
  ![v3930.toNat]
def k0_mult227 (v3931 : BitVec 32) : BitVec 32 :=
  let c3_i32_1358 : BitVec 32 := 3#32
  let v3932 : BitVec 32 := Scalar.shrsi v3931 c3_i32_1358
  let c3_i32_1359 : BitVec 32 := 3#32
  let v3933 : BitVec 32 := Scalar.shli v3932 c3_i32_1359
  v3933

def k0_off467 (v3931 : BitVec 32) : Fin 2 → Nat :=
  let c3_i32_1358 : BitVec 32 := 3#32
  let v3932 : BitVec 32 := Scalar.shrsi v3931 c3_i32_1358
  let c3_i32_1359 : BitVec 32 := 3#32
  let v3933 : BitVec 32 := Scalar.shli v3932 c3_i32_1359
  let v3934 : BitVec 32 := v3933
  let v3935 : Index := Scalar.indexCast v3934
  let c0_1360 : Index := 0#32
  ![v3935.toNat, 0]

def k0_chk227 (v3931 : BitVec 32) : Prop :=
  (8 ∣ (k0_mult227 v3931).toNat) ∧
  (∀ a, (k0_off467 v3931) a + S8x512.size a ≤ S20000x512.size a)
theorem k0_mult227_dvd : ∀ (v3931 : BitVec 32) (k0_hw227 : k0_chk227 v3931), 8 ∣ (k0_mult227 v3931).toNat := fun v3931 k0_hw227 => k0_hw227.1
theorem k0_off467_inb : ∀ (v3931 : BitVec 32) (k0_hw227 : k0_chk227 v3931), ∀ a, (k0_off467 v3931) a + S8x512.size a ≤ S20000x512.size a := fun v3931 k0_hw227 => k0_hw227.2

def k0_off468 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1362 : BitVec 32 := 192#32
  let v3945 : BitVec 32 := Scalar.addi v63 c192_i32_1362
  let c35_i32_1363 : BitVec 32 := 35#32
  let v3946 : BitVec 32 := Scalar.addi v3945 c35_i32_1363
  let v3947 : Index := Scalar.indexCast v3946
  ![v3947.toNat]
def k0_mult228 (v3948 : BitVec 32) : BitVec 32 :=
  let c3_i32_1364 : BitVec 32 := 3#32
  let v3949 : BitVec 32 := Scalar.shrsi v3948 c3_i32_1364
  let c3_i32_1365 : BitVec 32 := 3#32
  let v3950 : BitVec 32 := Scalar.shli v3949 c3_i32_1365
  v3950

def k0_off469 (v3948 : BitVec 32) : Fin 2 → Nat :=
  let c3_i32_1364 : BitVec 32 := 3#32
  let v3949 : BitVec 32 := Scalar.shrsi v3948 c3_i32_1364
  let c3_i32_1365 : BitVec 32 := 3#32
  let v3950 : BitVec 32 := Scalar.shli v3949 c3_i32_1365
  let v3951 : BitVec 32 := v3950
  let v3952 : Index := Scalar.indexCast v3951
  let c0_1366 : Index := 0#32
  ![v3952.toNat, 0]

def k0_chk228 (v3948 : BitVec 32) : Prop :=
  (8 ∣ (k0_mult228 v3948).toNat) ∧
  (∀ a, (k0_off469 v3948) a + S8x512.size a ≤ S20000x512.size a)
theorem k0_mult228_dvd : ∀ (v3948 : BitVec 32) (k0_hw228 : k0_chk228 v3948), 8 ∣ (k0_mult228 v3948).toNat := fun v3948 k0_hw228 => k0_hw228.1
theorem k0_off469_inb : ∀ (v3948 : BitVec 32) (k0_hw228 : k0_chk228 v3948), ∀ a, (k0_off469 v3948) a + S8x512.size a ≤ S20000x512.size a := fun v3948 k0_hw228 => k0_hw228.2

def k0_off470 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1368 : BitVec 32 := 192#32
  let v3962 : BitVec 32 := Scalar.addi v63 c192_i32_1368
  let c36_i32_1369 : BitVec 32 := 36#32
  let v3963 : BitVec 32 := Scalar.addi v3962 c36_i32_1369
  let v3964 : Index := Scalar.indexCast v3963
  ![v3964.toNat]
def k0_mult229 (v3965 : BitVec 32) : BitVec 32 :=
  let c3_i32_1370 : BitVec 32 := 3#32
  let v3966 : BitVec 32 := Scalar.shrsi v3965 c3_i32_1370
  let c3_i32_1371 : BitVec 32 := 3#32
  let v3967 : BitVec 32 := Scalar.shli v3966 c3_i32_1371
  v3967

def k0_off471 (v3965 : BitVec 32) : Fin 2 → Nat :=
  let c3_i32_1370 : BitVec 32 := 3#32
  let v3966 : BitVec 32 := Scalar.shrsi v3965 c3_i32_1370
  let c3_i32_1371 : BitVec 32 := 3#32
  let v3967 : BitVec 32 := Scalar.shli v3966 c3_i32_1371
  let v3968 : BitVec 32 := v3967
  let v3969 : Index := Scalar.indexCast v3968
  let c0_1372 : Index := 0#32
  ![v3969.toNat, 0]

def k0_chk229 (v3965 : BitVec 32) : Prop :=
  (8 ∣ (k0_mult229 v3965).toNat) ∧
  (∀ a, (k0_off471 v3965) a + S8x512.size a ≤ S20000x512.size a)
theorem k0_mult229_dvd : ∀ (v3965 : BitVec 32) (k0_hw229 : k0_chk229 v3965), 8 ∣ (k0_mult229 v3965).toNat := fun v3965 k0_hw229 => k0_hw229.1
theorem k0_off471_inb : ∀ (v3965 : BitVec 32) (k0_hw229 : k0_chk229 v3965), ∀ a, (k0_off471 v3965) a + S8x512.size a ≤ S20000x512.size a := fun v3965 k0_hw229 => k0_hw229.2

def k0_off472 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1374 : BitVec 32 := 192#32
  let v3979 : BitVec 32 := Scalar.addi v63 c192_i32_1374
  let c37_i32_1375 : BitVec 32 := 37#32
  let v3980 : BitVec 32 := Scalar.addi v3979 c37_i32_1375
  let v3981 : Index := Scalar.indexCast v3980
  ![v3981.toNat]
def k0_mult230 (v3982 : BitVec 32) : BitVec 32 :=
  let c3_i32_1376 : BitVec 32 := 3#32
  let v3983 : BitVec 32 := Scalar.shrsi v3982 c3_i32_1376
  let c3_i32_1377 : BitVec 32 := 3#32
  let v3984 : BitVec 32 := Scalar.shli v3983 c3_i32_1377
  v3984

def k0_off473 (v3982 : BitVec 32) : Fin 2 → Nat :=
  let c3_i32_1376 : BitVec 32 := 3#32
  let v3983 : BitVec 32 := Scalar.shrsi v3982 c3_i32_1376
  let c3_i32_1377 : BitVec 32 := 3#32
  let v3984 : BitVec 32 := Scalar.shli v3983 c3_i32_1377
  let v3985 : BitVec 32 := v3984
  let v3986 : Index := Scalar.indexCast v3985
  let c0_1378 : Index := 0#32
  ![v3986.toNat, 0]

def k0_chk230 (v3982 : BitVec 32) : Prop :=
  (8 ∣ (k0_mult230 v3982).toNat) ∧
  (∀ a, (k0_off473 v3982) a + S8x512.size a ≤ S20000x512.size a)
theorem k0_mult230_dvd : ∀ (v3982 : BitVec 32) (k0_hw230 : k0_chk230 v3982), 8 ∣ (k0_mult230 v3982).toNat := fun v3982 k0_hw230 => k0_hw230.1
theorem k0_off473_inb : ∀ (v3982 : BitVec 32) (k0_hw230 : k0_chk230 v3982), ∀ a, (k0_off473 v3982) a + S8x512.size a ≤ S20000x512.size a := fun v3982 k0_hw230 => k0_hw230.2

def k0_off474 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1380 : BitVec 32 := 192#32
  let v3996 : BitVec 32 := Scalar.addi v63 c192_i32_1380
  let c38_i32_1381 : BitVec 32 := 38#32
  let v3997 : BitVec 32 := Scalar.addi v3996 c38_i32_1381
  let v3998 : Index := Scalar.indexCast v3997
  ![v3998.toNat]
def k0_mult231 (v3999 : BitVec 32) : BitVec 32 :=
  let c3_i32_1382 : BitVec 32 := 3#32
  let v4000 : BitVec 32 := Scalar.shrsi v3999 c3_i32_1382
  let c3_i32_1383 : BitVec 32 := 3#32
  let v4001 : BitVec 32 := Scalar.shli v4000 c3_i32_1383
  v4001

def k0_off475 (v3999 : BitVec 32) : Fin 2 → Nat :=
  let c3_i32_1382 : BitVec 32 := 3#32
  let v4000 : BitVec 32 := Scalar.shrsi v3999 c3_i32_1382
  let c3_i32_1383 : BitVec 32 := 3#32
  let v4001 : BitVec 32 := Scalar.shli v4000 c3_i32_1383
  let v4002 : BitVec 32 := v4001
  let v4003 : Index := Scalar.indexCast v4002
  let c0_1384 : Index := 0#32
  ![v4003.toNat, 0]

def k0_chk231 (v3999 : BitVec 32) : Prop :=
  (8 ∣ (k0_mult231 v3999).toNat) ∧
  (∀ a, (k0_off475 v3999) a + S8x512.size a ≤ S20000x512.size a)
theorem k0_mult231_dvd : ∀ (v3999 : BitVec 32) (k0_hw231 : k0_chk231 v3999), 8 ∣ (k0_mult231 v3999).toNat := fun v3999 k0_hw231 => k0_hw231.1
theorem k0_off475_inb : ∀ (v3999 : BitVec 32) (k0_hw231 : k0_chk231 v3999), ∀ a, (k0_off475 v3999) a + S8x512.size a ≤ S20000x512.size a := fun v3999 k0_hw231 => k0_hw231.2

def k0_off476 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1386 : BitVec 32 := 192#32
  let v4013 : BitVec 32 := Scalar.addi v63 c192_i32_1386
  let c39_i32_1387 : BitVec 32 := 39#32
  let v4014 : BitVec 32 := Scalar.addi v4013 c39_i32_1387
  let v4015 : Index := Scalar.indexCast v4014
  ![v4015.toNat]
def k0_mult232 (v4016 : BitVec 32) : BitVec 32 :=
  let c3_i32_1388 : BitVec 32 := 3#32
  let v4017 : BitVec 32 := Scalar.shrsi v4016 c3_i32_1388
  let c3_i32_1389 : BitVec 32 := 3#32
  let v4018 : BitVec 32 := Scalar.shli v4017 c3_i32_1389
  v4018

def k0_off477 (v4016 : BitVec 32) : Fin 2 → Nat :=
  let c3_i32_1388 : BitVec 32 := 3#32
  let v4017 : BitVec 32 := Scalar.shrsi v4016 c3_i32_1388
  let c3_i32_1389 : BitVec 32 := 3#32
  let v4018 : BitVec 32 := Scalar.shli v4017 c3_i32_1389
  let v4019 : BitVec 32 := v4018
  let v4020 : Index := Scalar.indexCast v4019
  let c0_1390 : Index := 0#32
  ![v4020.toNat, 0]

def k0_chk232 (v4016 : BitVec 32) : Prop :=
  (8 ∣ (k0_mult232 v4016).toNat) ∧
  (∀ a, (k0_off477 v4016) a + S8x512.size a ≤ S20000x512.size a)
theorem k0_mult232_dvd : ∀ (v4016 : BitVec 32) (k0_hw232 : k0_chk232 v4016), 8 ∣ (k0_mult232 v4016).toNat := fun v4016 k0_hw232 => k0_hw232.1
theorem k0_off477_inb : ∀ (v4016 : BitVec 32) (k0_hw232 : k0_chk232 v4016), ∀ a, (k0_off477 v4016) a + S8x512.size a ≤ S20000x512.size a := fun v4016 k0_hw232 => k0_hw232.2

def k0_off478 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1392 : BitVec 32 := 192#32
  let v4030 : BitVec 32 := Scalar.addi v63 c192_i32_1392
  let c40_i32_1393 : BitVec 32 := 40#32
  let v4031 : BitVec 32 := Scalar.addi v4030 c40_i32_1393
  let v4032 : Index := Scalar.indexCast v4031
  ![v4032.toNat]
def k0_mult233 (v4033 : BitVec 32) : BitVec 32 :=
  let c3_i32_1394 : BitVec 32 := 3#32
  let v4034 : BitVec 32 := Scalar.shrsi v4033 c3_i32_1394
  let c3_i32_1395 : BitVec 32 := 3#32
  let v4035 : BitVec 32 := Scalar.shli v4034 c3_i32_1395
  v4035

def k0_off479 (v4033 : BitVec 32) : Fin 2 → Nat :=
  let c3_i32_1394 : BitVec 32 := 3#32
  let v4034 : BitVec 32 := Scalar.shrsi v4033 c3_i32_1394
  let c3_i32_1395 : BitVec 32 := 3#32
  let v4035 : BitVec 32 := Scalar.shli v4034 c3_i32_1395
  let v4036 : BitVec 32 := v4035
  let v4037 : Index := Scalar.indexCast v4036
  let c0_1396 : Index := 0#32
  ![v4037.toNat, 0]

def k0_chk233 (v4033 : BitVec 32) : Prop :=
  (8 ∣ (k0_mult233 v4033).toNat) ∧
  (∀ a, (k0_off479 v4033) a + S8x512.size a ≤ S20000x512.size a)
theorem k0_mult233_dvd : ∀ (v4033 : BitVec 32) (k0_hw233 : k0_chk233 v4033), 8 ∣ (k0_mult233 v4033).toNat := fun v4033 k0_hw233 => k0_hw233.1
theorem k0_off479_inb : ∀ (v4033 : BitVec 32) (k0_hw233 : k0_chk233 v4033), ∀ a, (k0_off479 v4033) a + S8x512.size a ≤ S20000x512.size a := fun v4033 k0_hw233 => k0_hw233.2

def k0_off480 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1398 : BitVec 32 := 192#32
  let v4047 : BitVec 32 := Scalar.addi v63 c192_i32_1398
  let c41_i32_1399 : BitVec 32 := 41#32
  let v4048 : BitVec 32 := Scalar.addi v4047 c41_i32_1399
  let v4049 : Index := Scalar.indexCast v4048
  ![v4049.toNat]
def k0_mult234 (v4050 : BitVec 32) : BitVec 32 :=
  let c3_i32_1400 : BitVec 32 := 3#32
  let v4051 : BitVec 32 := Scalar.shrsi v4050 c3_i32_1400
  let c3_i32_1401 : BitVec 32 := 3#32
  let v4052 : BitVec 32 := Scalar.shli v4051 c3_i32_1401
  v4052

def k0_off481 (v4050 : BitVec 32) : Fin 2 → Nat :=
  let c3_i32_1400 : BitVec 32 := 3#32
  let v4051 : BitVec 32 := Scalar.shrsi v4050 c3_i32_1400
  let c3_i32_1401 : BitVec 32 := 3#32
  let v4052 : BitVec 32 := Scalar.shli v4051 c3_i32_1401
  let v4053 : BitVec 32 := v4052
  let v4054 : Index := Scalar.indexCast v4053
  let c0_1402 : Index := 0#32
  ![v4054.toNat, 0]

def k0_chk234 (v4050 : BitVec 32) : Prop :=
  (8 ∣ (k0_mult234 v4050).toNat) ∧
  (∀ a, (k0_off481 v4050) a + S8x512.size a ≤ S20000x512.size a)
theorem k0_mult234_dvd : ∀ (v4050 : BitVec 32) (k0_hw234 : k0_chk234 v4050), 8 ∣ (k0_mult234 v4050).toNat := fun v4050 k0_hw234 => k0_hw234.1
theorem k0_off481_inb : ∀ (v4050 : BitVec 32) (k0_hw234 : k0_chk234 v4050), ∀ a, (k0_off481 v4050) a + S8x512.size a ≤ S20000x512.size a := fun v4050 k0_hw234 => k0_hw234.2

def k0_off482 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1404 : BitVec 32 := 192#32
  let v4064 : BitVec 32 := Scalar.addi v63 c192_i32_1404
  let c42_i32_1405 : BitVec 32 := 42#32
  let v4065 : BitVec 32 := Scalar.addi v4064 c42_i32_1405
  let v4066 : Index := Scalar.indexCast v4065
  ![v4066.toNat]
def k0_mult235 (v4067 : BitVec 32) : BitVec 32 :=
  let c3_i32_1406 : BitVec 32 := 3#32
  let v4068 : BitVec 32 := Scalar.shrsi v4067 c3_i32_1406
  let c3_i32_1407 : BitVec 32 := 3#32
  let v4069 : BitVec 32 := Scalar.shli v4068 c3_i32_1407
  v4069

def k0_off483 (v4067 : BitVec 32) : Fin 2 → Nat :=
  let c3_i32_1406 : BitVec 32 := 3#32
  let v4068 : BitVec 32 := Scalar.shrsi v4067 c3_i32_1406
  let c3_i32_1407 : BitVec 32 := 3#32
  let v4069 : BitVec 32 := Scalar.shli v4068 c3_i32_1407
  let v4070 : BitVec 32 := v4069
  let v4071 : Index := Scalar.indexCast v4070
  let c0_1408 : Index := 0#32
  ![v4071.toNat, 0]

def k0_chk235 (v4067 : BitVec 32) : Prop :=
  (8 ∣ (k0_mult235 v4067).toNat) ∧
  (∀ a, (k0_off483 v4067) a + S8x512.size a ≤ S20000x512.size a)
theorem k0_mult235_dvd : ∀ (v4067 : BitVec 32) (k0_hw235 : k0_chk235 v4067), 8 ∣ (k0_mult235 v4067).toNat := fun v4067 k0_hw235 => k0_hw235.1
theorem k0_off483_inb : ∀ (v4067 : BitVec 32) (k0_hw235 : k0_chk235 v4067), ∀ a, (k0_off483 v4067) a + S8x512.size a ≤ S20000x512.size a := fun v4067 k0_hw235 => k0_hw235.2

def k0_off484 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1410 : BitVec 32 := 192#32
  let v4081 : BitVec 32 := Scalar.addi v63 c192_i32_1410
  let c43_i32_1411 : BitVec 32 := 43#32
  let v4082 : BitVec 32 := Scalar.addi v4081 c43_i32_1411
  let v4083 : Index := Scalar.indexCast v4082
  ![v4083.toNat]
def k0_mult236 (v4084 : BitVec 32) : BitVec 32 :=
  let c3_i32_1412 : BitVec 32 := 3#32
  let v4085 : BitVec 32 := Scalar.shrsi v4084 c3_i32_1412
  let c3_i32_1413 : BitVec 32 := 3#32
  let v4086 : BitVec 32 := Scalar.shli v4085 c3_i32_1413
  v4086

def k0_off485 (v4084 : BitVec 32) : Fin 2 → Nat :=
  let c3_i32_1412 : BitVec 32 := 3#32
  let v4085 : BitVec 32 := Scalar.shrsi v4084 c3_i32_1412
  let c3_i32_1413 : BitVec 32 := 3#32
  let v4086 : BitVec 32 := Scalar.shli v4085 c3_i32_1413
  let v4087 : BitVec 32 := v4086
  let v4088 : Index := Scalar.indexCast v4087
  let c0_1414 : Index := 0#32
  ![v4088.toNat, 0]

def k0_chk236 (v4084 : BitVec 32) : Prop :=
  (8 ∣ (k0_mult236 v4084).toNat) ∧
  (∀ a, (k0_off485 v4084) a + S8x512.size a ≤ S20000x512.size a)
theorem k0_mult236_dvd : ∀ (v4084 : BitVec 32) (k0_hw236 : k0_chk236 v4084), 8 ∣ (k0_mult236 v4084).toNat := fun v4084 k0_hw236 => k0_hw236.1
theorem k0_off485_inb : ∀ (v4084 : BitVec 32) (k0_hw236 : k0_chk236 v4084), ∀ a, (k0_off485 v4084) a + S8x512.size a ≤ S20000x512.size a := fun v4084 k0_hw236 => k0_hw236.2

def k0_off486 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1416 : BitVec 32 := 192#32
  let v4098 : BitVec 32 := Scalar.addi v63 c192_i32_1416
  let c44_i32_1417 : BitVec 32 := 44#32
  let v4099 : BitVec 32 := Scalar.addi v4098 c44_i32_1417
  let v4100 : Index := Scalar.indexCast v4099
  ![v4100.toNat]
def k0_mult237 (v4101 : BitVec 32) : BitVec 32 :=
  let c3_i32_1418 : BitVec 32 := 3#32
  let v4102 : BitVec 32 := Scalar.shrsi v4101 c3_i32_1418
  let c3_i32_1419 : BitVec 32 := 3#32
  let v4103 : BitVec 32 := Scalar.shli v4102 c3_i32_1419
  v4103

def k0_off487 (v4101 : BitVec 32) : Fin 2 → Nat :=
  let c3_i32_1418 : BitVec 32 := 3#32
  let v4102 : BitVec 32 := Scalar.shrsi v4101 c3_i32_1418
  let c3_i32_1419 : BitVec 32 := 3#32
  let v4103 : BitVec 32 := Scalar.shli v4102 c3_i32_1419
  let v4104 : BitVec 32 := v4103
  let v4105 : Index := Scalar.indexCast v4104
  let c0_1420 : Index := 0#32
  ![v4105.toNat, 0]

def k0_chk237 (v4101 : BitVec 32) : Prop :=
  (8 ∣ (k0_mult237 v4101).toNat) ∧
  (∀ a, (k0_off487 v4101) a + S8x512.size a ≤ S20000x512.size a)
theorem k0_mult237_dvd : ∀ (v4101 : BitVec 32) (k0_hw237 : k0_chk237 v4101), 8 ∣ (k0_mult237 v4101).toNat := fun v4101 k0_hw237 => k0_hw237.1
theorem k0_off487_inb : ∀ (v4101 : BitVec 32) (k0_hw237 : k0_chk237 v4101), ∀ a, (k0_off487 v4101) a + S8x512.size a ≤ S20000x512.size a := fun v4101 k0_hw237 => k0_hw237.2

def k0_off488 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1422 : BitVec 32 := 192#32
  let v4115 : BitVec 32 := Scalar.addi v63 c192_i32_1422
  let c45_i32_1423 : BitVec 32 := 45#32
  let v4116 : BitVec 32 := Scalar.addi v4115 c45_i32_1423
  let v4117 : Index := Scalar.indexCast v4116
  ![v4117.toNat]
def k0_mult238 (v4118 : BitVec 32) : BitVec 32 :=
  let c3_i32_1424 : BitVec 32 := 3#32
  let v4119 : BitVec 32 := Scalar.shrsi v4118 c3_i32_1424
  let c3_i32_1425 : BitVec 32 := 3#32
  let v4120 : BitVec 32 := Scalar.shli v4119 c3_i32_1425
  v4120

def k0_off489 (v4118 : BitVec 32) : Fin 2 → Nat :=
  let c3_i32_1424 : BitVec 32 := 3#32
  let v4119 : BitVec 32 := Scalar.shrsi v4118 c3_i32_1424
  let c3_i32_1425 : BitVec 32 := 3#32
  let v4120 : BitVec 32 := Scalar.shli v4119 c3_i32_1425
  let v4121 : BitVec 32 := v4120
  let v4122 : Index := Scalar.indexCast v4121
  let c0_1426 : Index := 0#32
  ![v4122.toNat, 0]

def k0_chk238 (v4118 : BitVec 32) : Prop :=
  (8 ∣ (k0_mult238 v4118).toNat) ∧
  (∀ a, (k0_off489 v4118) a + S8x512.size a ≤ S20000x512.size a)
theorem k0_mult238_dvd : ∀ (v4118 : BitVec 32) (k0_hw238 : k0_chk238 v4118), 8 ∣ (k0_mult238 v4118).toNat := fun v4118 k0_hw238 => k0_hw238.1
theorem k0_off489_inb : ∀ (v4118 : BitVec 32) (k0_hw238 : k0_chk238 v4118), ∀ a, (k0_off489 v4118) a + S8x512.size a ≤ S20000x512.size a := fun v4118 k0_hw238 => k0_hw238.2

def k0_off490 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1428 : BitVec 32 := 192#32
  let v4132 : BitVec 32 := Scalar.addi v63 c192_i32_1428
  let c46_i32_1429 : BitVec 32 := 46#32
  let v4133 : BitVec 32 := Scalar.addi v4132 c46_i32_1429
  let v4134 : Index := Scalar.indexCast v4133
  ![v4134.toNat]
def k0_mult239 (v4135 : BitVec 32) : BitVec 32 :=
  let c3_i32_1430 : BitVec 32 := 3#32
  let v4136 : BitVec 32 := Scalar.shrsi v4135 c3_i32_1430
  let c3_i32_1431 : BitVec 32 := 3#32
  let v4137 : BitVec 32 := Scalar.shli v4136 c3_i32_1431
  v4137

def k0_off491 (v4135 : BitVec 32) : Fin 2 → Nat :=
  let c3_i32_1430 : BitVec 32 := 3#32
  let v4136 : BitVec 32 := Scalar.shrsi v4135 c3_i32_1430
  let c3_i32_1431 : BitVec 32 := 3#32
  let v4137 : BitVec 32 := Scalar.shli v4136 c3_i32_1431
  let v4138 : BitVec 32 := v4137
  let v4139 : Index := Scalar.indexCast v4138
  let c0_1432 : Index := 0#32
  ![v4139.toNat, 0]

def k0_chk239 (v4135 : BitVec 32) : Prop :=
  (8 ∣ (k0_mult239 v4135).toNat) ∧
  (∀ a, (k0_off491 v4135) a + S8x512.size a ≤ S20000x512.size a)
theorem k0_mult239_dvd : ∀ (v4135 : BitVec 32) (k0_hw239 : k0_chk239 v4135), 8 ∣ (k0_mult239 v4135).toNat := fun v4135 k0_hw239 => k0_hw239.1
theorem k0_off491_inb : ∀ (v4135 : BitVec 32) (k0_hw239 : k0_chk239 v4135), ∀ a, (k0_off491 v4135) a + S8x512.size a ≤ S20000x512.size a := fun v4135 k0_hw239 => k0_hw239.2

def k0_off492 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1434 : BitVec 32 := 192#32
  let v4149 : BitVec 32 := Scalar.addi v63 c192_i32_1434
  let c47_i32_1435 : BitVec 32 := 47#32
  let v4150 : BitVec 32 := Scalar.addi v4149 c47_i32_1435
  let v4151 : Index := Scalar.indexCast v4150
  ![v4151.toNat]
def k0_mult240 (v4152 : BitVec 32) : BitVec 32 :=
  let c3_i32_1436 : BitVec 32 := 3#32
  let v4153 : BitVec 32 := Scalar.shrsi v4152 c3_i32_1436
  let c3_i32_1437 : BitVec 32 := 3#32
  let v4154 : BitVec 32 := Scalar.shli v4153 c3_i32_1437
  v4154

def k0_off493 (v4152 : BitVec 32) : Fin 2 → Nat :=
  let c3_i32_1436 : BitVec 32 := 3#32
  let v4153 : BitVec 32 := Scalar.shrsi v4152 c3_i32_1436
  let c3_i32_1437 : BitVec 32 := 3#32
  let v4154 : BitVec 32 := Scalar.shli v4153 c3_i32_1437
  let v4155 : BitVec 32 := v4154
  let v4156 : Index := Scalar.indexCast v4155
  let c0_1438 : Index := 0#32
  ![v4156.toNat, 0]

def k0_chk240 (v4152 : BitVec 32) : Prop :=
  (8 ∣ (k0_mult240 v4152).toNat) ∧
  (∀ a, (k0_off493 v4152) a + S8x512.size a ≤ S20000x512.size a)
theorem k0_mult240_dvd : ∀ (v4152 : BitVec 32) (k0_hw240 : k0_chk240 v4152), 8 ∣ (k0_mult240 v4152).toNat := fun v4152 k0_hw240 => k0_hw240.1
theorem k0_off493_inb : ∀ (v4152 : BitVec 32) (k0_hw240 : k0_chk240 v4152), ∀ a, (k0_off493 v4152) a + S8x512.size a ≤ S20000x512.size a := fun v4152 k0_hw240 => k0_hw240.2

def k0_off494 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1440 : BitVec 32 := 192#32
  let v4166 : BitVec 32 := Scalar.addi v63 c192_i32_1440
  let c48_i32_1441 : BitVec 32 := 48#32
  let v4167 : BitVec 32 := Scalar.addi v4166 c48_i32_1441
  let v4168 : Index := Scalar.indexCast v4167
  ![v4168.toNat]
def k0_mult241 (v4169 : BitVec 32) : BitVec 32 :=
  let c3_i32_1442 : BitVec 32 := 3#32
  let v4170 : BitVec 32 := Scalar.shrsi v4169 c3_i32_1442
  let c3_i32_1443 : BitVec 32 := 3#32
  let v4171 : BitVec 32 := Scalar.shli v4170 c3_i32_1443
  v4171

def k0_off495 (v4169 : BitVec 32) : Fin 2 → Nat :=
  let c3_i32_1442 : BitVec 32 := 3#32
  let v4170 : BitVec 32 := Scalar.shrsi v4169 c3_i32_1442
  let c3_i32_1443 : BitVec 32 := 3#32
  let v4171 : BitVec 32 := Scalar.shli v4170 c3_i32_1443
  let v4172 : BitVec 32 := v4171
  let v4173 : Index := Scalar.indexCast v4172
  let c0_1444 : Index := 0#32
  ![v4173.toNat, 0]

def k0_chk241 (v4169 : BitVec 32) : Prop :=
  (8 ∣ (k0_mult241 v4169).toNat) ∧
  (∀ a, (k0_off495 v4169) a + S8x512.size a ≤ S20000x512.size a)
theorem k0_mult241_dvd : ∀ (v4169 : BitVec 32) (k0_hw241 : k0_chk241 v4169), 8 ∣ (k0_mult241 v4169).toNat := fun v4169 k0_hw241 => k0_hw241.1
theorem k0_off495_inb : ∀ (v4169 : BitVec 32) (k0_hw241 : k0_chk241 v4169), ∀ a, (k0_off495 v4169) a + S8x512.size a ≤ S20000x512.size a := fun v4169 k0_hw241 => k0_hw241.2

def k0_off496 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1446 : BitVec 32 := 192#32
  let v4183 : BitVec 32 := Scalar.addi v63 c192_i32_1446
  let c49_i32_1447 : BitVec 32 := 49#32
  let v4184 : BitVec 32 := Scalar.addi v4183 c49_i32_1447
  let v4185 : Index := Scalar.indexCast v4184
  ![v4185.toNat]
def k0_mult242 (v4186 : BitVec 32) : BitVec 32 :=
  let c3_i32_1448 : BitVec 32 := 3#32
  let v4187 : BitVec 32 := Scalar.shrsi v4186 c3_i32_1448
  let c3_i32_1449 : BitVec 32 := 3#32
  let v4188 : BitVec 32 := Scalar.shli v4187 c3_i32_1449
  v4188

def k0_off497 (v4186 : BitVec 32) : Fin 2 → Nat :=
  let c3_i32_1448 : BitVec 32 := 3#32
  let v4187 : BitVec 32 := Scalar.shrsi v4186 c3_i32_1448
  let c3_i32_1449 : BitVec 32 := 3#32
  let v4188 : BitVec 32 := Scalar.shli v4187 c3_i32_1449
  let v4189 : BitVec 32 := v4188
  let v4190 : Index := Scalar.indexCast v4189
  let c0_1450 : Index := 0#32
  ![v4190.toNat, 0]

def k0_chk242 (v4186 : BitVec 32) : Prop :=
  (8 ∣ (k0_mult242 v4186).toNat) ∧
  (∀ a, (k0_off497 v4186) a + S8x512.size a ≤ S20000x512.size a)
theorem k0_mult242_dvd : ∀ (v4186 : BitVec 32) (k0_hw242 : k0_chk242 v4186), 8 ∣ (k0_mult242 v4186).toNat := fun v4186 k0_hw242 => k0_hw242.1
theorem k0_off497_inb : ∀ (v4186 : BitVec 32) (k0_hw242 : k0_chk242 v4186), ∀ a, (k0_off497 v4186) a + S8x512.size a ≤ S20000x512.size a := fun v4186 k0_hw242 => k0_hw242.2

def k0_off498 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1452 : BitVec 32 := 192#32
  let v4200 : BitVec 32 := Scalar.addi v63 c192_i32_1452
  let c50_i32_1453 : BitVec 32 := 50#32
  let v4201 : BitVec 32 := Scalar.addi v4200 c50_i32_1453
  let v4202 : Index := Scalar.indexCast v4201
  ![v4202.toNat]
def k0_mult243 (v4203 : BitVec 32) : BitVec 32 :=
  let c3_i32_1454 : BitVec 32 := 3#32
  let v4204 : BitVec 32 := Scalar.shrsi v4203 c3_i32_1454
  let c3_i32_1455 : BitVec 32 := 3#32
  let v4205 : BitVec 32 := Scalar.shli v4204 c3_i32_1455
  v4205

def k0_off499 (v4203 : BitVec 32) : Fin 2 → Nat :=
  let c3_i32_1454 : BitVec 32 := 3#32
  let v4204 : BitVec 32 := Scalar.shrsi v4203 c3_i32_1454
  let c3_i32_1455 : BitVec 32 := 3#32
  let v4205 : BitVec 32 := Scalar.shli v4204 c3_i32_1455
  let v4206 : BitVec 32 := v4205
  let v4207 : Index := Scalar.indexCast v4206
  let c0_1456 : Index := 0#32
  ![v4207.toNat, 0]

def k0_chk243 (v4203 : BitVec 32) : Prop :=
  (8 ∣ (k0_mult243 v4203).toNat) ∧
  (∀ a, (k0_off499 v4203) a + S8x512.size a ≤ S20000x512.size a)
theorem k0_mult243_dvd : ∀ (v4203 : BitVec 32) (k0_hw243 : k0_chk243 v4203), 8 ∣ (k0_mult243 v4203).toNat := fun v4203 k0_hw243 => k0_hw243.1
theorem k0_off499_inb : ∀ (v4203 : BitVec 32) (k0_hw243 : k0_chk243 v4203), ∀ a, (k0_off499 v4203) a + S8x512.size a ≤ S20000x512.size a := fun v4203 k0_hw243 => k0_hw243.2

def k0_off500 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1458 : BitVec 32 := 192#32
  let v4217 : BitVec 32 := Scalar.addi v63 c192_i32_1458
  let c51_i32_1459 : BitVec 32 := 51#32
  let v4218 : BitVec 32 := Scalar.addi v4217 c51_i32_1459
  let v4219 : Index := Scalar.indexCast v4218
  ![v4219.toNat]
def k0_mult244 (v4220 : BitVec 32) : BitVec 32 :=
  let c3_i32_1460 : BitVec 32 := 3#32
  let v4221 : BitVec 32 := Scalar.shrsi v4220 c3_i32_1460
  let c3_i32_1461 : BitVec 32 := 3#32
  let v4222 : BitVec 32 := Scalar.shli v4221 c3_i32_1461
  v4222

def k0_off501 (v4220 : BitVec 32) : Fin 2 → Nat :=
  let c3_i32_1460 : BitVec 32 := 3#32
  let v4221 : BitVec 32 := Scalar.shrsi v4220 c3_i32_1460
  let c3_i32_1461 : BitVec 32 := 3#32
  let v4222 : BitVec 32 := Scalar.shli v4221 c3_i32_1461
  let v4223 : BitVec 32 := v4222
  let v4224 : Index := Scalar.indexCast v4223
  let c0_1462 : Index := 0#32
  ![v4224.toNat, 0]

def k0_chk244 (v4220 : BitVec 32) : Prop :=
  (8 ∣ (k0_mult244 v4220).toNat) ∧
  (∀ a, (k0_off501 v4220) a + S8x512.size a ≤ S20000x512.size a)
theorem k0_mult244_dvd : ∀ (v4220 : BitVec 32) (k0_hw244 : k0_chk244 v4220), 8 ∣ (k0_mult244 v4220).toNat := fun v4220 k0_hw244 => k0_hw244.1
theorem k0_off501_inb : ∀ (v4220 : BitVec 32) (k0_hw244 : k0_chk244 v4220), ∀ a, (k0_off501 v4220) a + S8x512.size a ≤ S20000x512.size a := fun v4220 k0_hw244 => k0_hw244.2

def k0_off502 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1464 : BitVec 32 := 192#32
  let v4234 : BitVec 32 := Scalar.addi v63 c192_i32_1464
  let c52_i32_1465 : BitVec 32 := 52#32
  let v4235 : BitVec 32 := Scalar.addi v4234 c52_i32_1465
  let v4236 : Index := Scalar.indexCast v4235
  ![v4236.toNat]
def k0_mult245 (v4237 : BitVec 32) : BitVec 32 :=
  let c3_i32_1466 : BitVec 32 := 3#32
  let v4238 : BitVec 32 := Scalar.shrsi v4237 c3_i32_1466
  let c3_i32_1467 : BitVec 32 := 3#32
  let v4239 : BitVec 32 := Scalar.shli v4238 c3_i32_1467
  v4239

def k0_off503 (v4237 : BitVec 32) : Fin 2 → Nat :=
  let c3_i32_1466 : BitVec 32 := 3#32
  let v4238 : BitVec 32 := Scalar.shrsi v4237 c3_i32_1466
  let c3_i32_1467 : BitVec 32 := 3#32
  let v4239 : BitVec 32 := Scalar.shli v4238 c3_i32_1467
  let v4240 : BitVec 32 := v4239
  let v4241 : Index := Scalar.indexCast v4240
  let c0_1468 : Index := 0#32
  ![v4241.toNat, 0]

def k0_chk245 (v4237 : BitVec 32) : Prop :=
  (8 ∣ (k0_mult245 v4237).toNat) ∧
  (∀ a, (k0_off503 v4237) a + S8x512.size a ≤ S20000x512.size a)
theorem k0_mult245_dvd : ∀ (v4237 : BitVec 32) (k0_hw245 : k0_chk245 v4237), 8 ∣ (k0_mult245 v4237).toNat := fun v4237 k0_hw245 => k0_hw245.1
theorem k0_off503_inb : ∀ (v4237 : BitVec 32) (k0_hw245 : k0_chk245 v4237), ∀ a, (k0_off503 v4237) a + S8x512.size a ≤ S20000x512.size a := fun v4237 k0_hw245 => k0_hw245.2

def k0_off504 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1470 : BitVec 32 := 192#32
  let v4251 : BitVec 32 := Scalar.addi v63 c192_i32_1470
  let c53_i32_1471 : BitVec 32 := 53#32
  let v4252 : BitVec 32 := Scalar.addi v4251 c53_i32_1471
  let v4253 : Index := Scalar.indexCast v4252
  ![v4253.toNat]
def k0_mult246 (v4254 : BitVec 32) : BitVec 32 :=
  let c3_i32_1472 : BitVec 32 := 3#32
  let v4255 : BitVec 32 := Scalar.shrsi v4254 c3_i32_1472
  let c3_i32_1473 : BitVec 32 := 3#32
  let v4256 : BitVec 32 := Scalar.shli v4255 c3_i32_1473
  v4256

def k0_off505 (v4254 : BitVec 32) : Fin 2 → Nat :=
  let c3_i32_1472 : BitVec 32 := 3#32
  let v4255 : BitVec 32 := Scalar.shrsi v4254 c3_i32_1472
  let c3_i32_1473 : BitVec 32 := 3#32
  let v4256 : BitVec 32 := Scalar.shli v4255 c3_i32_1473
  let v4257 : BitVec 32 := v4256
  let v4258 : Index := Scalar.indexCast v4257
  let c0_1474 : Index := 0#32
  ![v4258.toNat, 0]

def k0_chk246 (v4254 : BitVec 32) : Prop :=
  (8 ∣ (k0_mult246 v4254).toNat) ∧
  (∀ a, (k0_off505 v4254) a + S8x512.size a ≤ S20000x512.size a)
theorem k0_mult246_dvd : ∀ (v4254 : BitVec 32) (k0_hw246 : k0_chk246 v4254), 8 ∣ (k0_mult246 v4254).toNat := fun v4254 k0_hw246 => k0_hw246.1
theorem k0_off505_inb : ∀ (v4254 : BitVec 32) (k0_hw246 : k0_chk246 v4254), ∀ a, (k0_off505 v4254) a + S8x512.size a ≤ S20000x512.size a := fun v4254 k0_hw246 => k0_hw246.2

def k0_off506 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1476 : BitVec 32 := 192#32
  let v4268 : BitVec 32 := Scalar.addi v63 c192_i32_1476
  let c54_i32_1477 : BitVec 32 := 54#32
  let v4269 : BitVec 32 := Scalar.addi v4268 c54_i32_1477
  let v4270 : Index := Scalar.indexCast v4269
  ![v4270.toNat]
def k0_mult247 (v4271 : BitVec 32) : BitVec 32 :=
  let c3_i32_1478 : BitVec 32 := 3#32
  let v4272 : BitVec 32 := Scalar.shrsi v4271 c3_i32_1478
  let c3_i32_1479 : BitVec 32 := 3#32
  let v4273 : BitVec 32 := Scalar.shli v4272 c3_i32_1479
  v4273

def k0_off507 (v4271 : BitVec 32) : Fin 2 → Nat :=
  let c3_i32_1478 : BitVec 32 := 3#32
  let v4272 : BitVec 32 := Scalar.shrsi v4271 c3_i32_1478
  let c3_i32_1479 : BitVec 32 := 3#32
  let v4273 : BitVec 32 := Scalar.shli v4272 c3_i32_1479
  let v4274 : BitVec 32 := v4273
  let v4275 : Index := Scalar.indexCast v4274
  let c0_1480 : Index := 0#32
  ![v4275.toNat, 0]

def k0_chk247 (v4271 : BitVec 32) : Prop :=
  (8 ∣ (k0_mult247 v4271).toNat) ∧
  (∀ a, (k0_off507 v4271) a + S8x512.size a ≤ S20000x512.size a)
theorem k0_mult247_dvd : ∀ (v4271 : BitVec 32) (k0_hw247 : k0_chk247 v4271), 8 ∣ (k0_mult247 v4271).toNat := fun v4271 k0_hw247 => k0_hw247.1
theorem k0_off507_inb : ∀ (v4271 : BitVec 32) (k0_hw247 : k0_chk247 v4271), ∀ a, (k0_off507 v4271) a + S8x512.size a ≤ S20000x512.size a := fun v4271 k0_hw247 => k0_hw247.2

def k0_off508 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1482 : BitVec 32 := 192#32
  let v4285 : BitVec 32 := Scalar.addi v63 c192_i32_1482
  let c55_i32_1483 : BitVec 32 := 55#32
  let v4286 : BitVec 32 := Scalar.addi v4285 c55_i32_1483
  let v4287 : Index := Scalar.indexCast v4286
  ![v4287.toNat]
def k0_mult248 (v4288 : BitVec 32) : BitVec 32 :=
  let c3_i32_1484 : BitVec 32 := 3#32
  let v4289 : BitVec 32 := Scalar.shrsi v4288 c3_i32_1484
  let c3_i32_1485 : BitVec 32 := 3#32
  let v4290 : BitVec 32 := Scalar.shli v4289 c3_i32_1485
  v4290

def k0_off509 (v4288 : BitVec 32) : Fin 2 → Nat :=
  let c3_i32_1484 : BitVec 32 := 3#32
  let v4289 : BitVec 32 := Scalar.shrsi v4288 c3_i32_1484
  let c3_i32_1485 : BitVec 32 := 3#32
  let v4290 : BitVec 32 := Scalar.shli v4289 c3_i32_1485
  let v4291 : BitVec 32 := v4290
  let v4292 : Index := Scalar.indexCast v4291
  let c0_1486 : Index := 0#32
  ![v4292.toNat, 0]

def k0_chk248 (v4288 : BitVec 32) : Prop :=
  (8 ∣ (k0_mult248 v4288).toNat) ∧
  (∀ a, (k0_off509 v4288) a + S8x512.size a ≤ S20000x512.size a)
theorem k0_mult248_dvd : ∀ (v4288 : BitVec 32) (k0_hw248 : k0_chk248 v4288), 8 ∣ (k0_mult248 v4288).toNat := fun v4288 k0_hw248 => k0_hw248.1
theorem k0_off509_inb : ∀ (v4288 : BitVec 32) (k0_hw248 : k0_chk248 v4288), ∀ a, (k0_off509 v4288) a + S8x512.size a ≤ S20000x512.size a := fun v4288 k0_hw248 => k0_hw248.2

def k0_off510 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1488 : BitVec 32 := 192#32
  let v4302 : BitVec 32 := Scalar.addi v63 c192_i32_1488
  let c56_i32_1489 : BitVec 32 := 56#32
  let v4303 : BitVec 32 := Scalar.addi v4302 c56_i32_1489
  let v4304 : Index := Scalar.indexCast v4303
  ![v4304.toNat]
def k0_mult249 (v4305 : BitVec 32) : BitVec 32 :=
  let c3_i32_1490 : BitVec 32 := 3#32
  let v4306 : BitVec 32 := Scalar.shrsi v4305 c3_i32_1490
  let c3_i32_1491 : BitVec 32 := 3#32
  let v4307 : BitVec 32 := Scalar.shli v4306 c3_i32_1491
  v4307

def k0_off511 (v4305 : BitVec 32) : Fin 2 → Nat :=
  let c3_i32_1490 : BitVec 32 := 3#32
  let v4306 : BitVec 32 := Scalar.shrsi v4305 c3_i32_1490
  let c3_i32_1491 : BitVec 32 := 3#32
  let v4307 : BitVec 32 := Scalar.shli v4306 c3_i32_1491
  let v4308 : BitVec 32 := v4307
  let v4309 : Index := Scalar.indexCast v4308
  let c0_1492 : Index := 0#32
  ![v4309.toNat, 0]

def k0_chk249 (v4305 : BitVec 32) : Prop :=
  (8 ∣ (k0_mult249 v4305).toNat) ∧
  (∀ a, (k0_off511 v4305) a + S8x512.size a ≤ S20000x512.size a)
theorem k0_mult249_dvd : ∀ (v4305 : BitVec 32) (k0_hw249 : k0_chk249 v4305), 8 ∣ (k0_mult249 v4305).toNat := fun v4305 k0_hw249 => k0_hw249.1
theorem k0_off511_inb : ∀ (v4305 : BitVec 32) (k0_hw249 : k0_chk249 v4305), ∀ a, (k0_off511 v4305) a + S8x512.size a ≤ S20000x512.size a := fun v4305 k0_hw249 => k0_hw249.2

def k0_off512 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1494 : BitVec 32 := 192#32
  let v4319 : BitVec 32 := Scalar.addi v63 c192_i32_1494
  let c57_i32_1495 : BitVec 32 := 57#32
  let v4320 : BitVec 32 := Scalar.addi v4319 c57_i32_1495
  let v4321 : Index := Scalar.indexCast v4320
  ![v4321.toNat]
def k0_mult250 (v4322 : BitVec 32) : BitVec 32 :=
  let c3_i32_1496 : BitVec 32 := 3#32
  let v4323 : BitVec 32 := Scalar.shrsi v4322 c3_i32_1496
  let c3_i32_1497 : BitVec 32 := 3#32
  let v4324 : BitVec 32 := Scalar.shli v4323 c3_i32_1497
  v4324

def k0_off513 (v4322 : BitVec 32) : Fin 2 → Nat :=
  let c3_i32_1496 : BitVec 32 := 3#32
  let v4323 : BitVec 32 := Scalar.shrsi v4322 c3_i32_1496
  let c3_i32_1497 : BitVec 32 := 3#32
  let v4324 : BitVec 32 := Scalar.shli v4323 c3_i32_1497
  let v4325 : BitVec 32 := v4324
  let v4326 : Index := Scalar.indexCast v4325
  let c0_1498 : Index := 0#32
  ![v4326.toNat, 0]

def k0_chk250 (v4322 : BitVec 32) : Prop :=
  (8 ∣ (k0_mult250 v4322).toNat) ∧
  (∀ a, (k0_off513 v4322) a + S8x512.size a ≤ S20000x512.size a)
theorem k0_mult250_dvd : ∀ (v4322 : BitVec 32) (k0_hw250 : k0_chk250 v4322), 8 ∣ (k0_mult250 v4322).toNat := fun v4322 k0_hw250 => k0_hw250.1
theorem k0_off513_inb : ∀ (v4322 : BitVec 32) (k0_hw250 : k0_chk250 v4322), ∀ a, (k0_off513 v4322) a + S8x512.size a ≤ S20000x512.size a := fun v4322 k0_hw250 => k0_hw250.2

def k0_off514 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1500 : BitVec 32 := 192#32
  let v4336 : BitVec 32 := Scalar.addi v63 c192_i32_1500
  let c58_i32_1501 : BitVec 32 := 58#32
  let v4337 : BitVec 32 := Scalar.addi v4336 c58_i32_1501
  let v4338 : Index := Scalar.indexCast v4337
  ![v4338.toNat]
def k0_mult251 (v4339 : BitVec 32) : BitVec 32 :=
  let c3_i32_1502 : BitVec 32 := 3#32
  let v4340 : BitVec 32 := Scalar.shrsi v4339 c3_i32_1502
  let c3_i32_1503 : BitVec 32 := 3#32
  let v4341 : BitVec 32 := Scalar.shli v4340 c3_i32_1503
  v4341

def k0_off515 (v4339 : BitVec 32) : Fin 2 → Nat :=
  let c3_i32_1502 : BitVec 32 := 3#32
  let v4340 : BitVec 32 := Scalar.shrsi v4339 c3_i32_1502
  let c3_i32_1503 : BitVec 32 := 3#32
  let v4341 : BitVec 32 := Scalar.shli v4340 c3_i32_1503
  let v4342 : BitVec 32 := v4341
  let v4343 : Index := Scalar.indexCast v4342
  let c0_1504 : Index := 0#32
  ![v4343.toNat, 0]

def k0_chk251 (v4339 : BitVec 32) : Prop :=
  (8 ∣ (k0_mult251 v4339).toNat) ∧
  (∀ a, (k0_off515 v4339) a + S8x512.size a ≤ S20000x512.size a)
theorem k0_mult251_dvd : ∀ (v4339 : BitVec 32) (k0_hw251 : k0_chk251 v4339), 8 ∣ (k0_mult251 v4339).toNat := fun v4339 k0_hw251 => k0_hw251.1
theorem k0_off515_inb : ∀ (v4339 : BitVec 32) (k0_hw251 : k0_chk251 v4339), ∀ a, (k0_off515 v4339) a + S8x512.size a ≤ S20000x512.size a := fun v4339 k0_hw251 => k0_hw251.2

def k0_off516 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1506 : BitVec 32 := 192#32
  let v4353 : BitVec 32 := Scalar.addi v63 c192_i32_1506
  let c59_i32_1507 : BitVec 32 := 59#32
  let v4354 : BitVec 32 := Scalar.addi v4353 c59_i32_1507
  let v4355 : Index := Scalar.indexCast v4354
  ![v4355.toNat]
def k0_mult252 (v4356 : BitVec 32) : BitVec 32 :=
  let c3_i32_1508 : BitVec 32 := 3#32
  let v4357 : BitVec 32 := Scalar.shrsi v4356 c3_i32_1508
  let c3_i32_1509 : BitVec 32 := 3#32
  let v4358 : BitVec 32 := Scalar.shli v4357 c3_i32_1509
  v4358

def k0_off517 (v4356 : BitVec 32) : Fin 2 → Nat :=
  let c3_i32_1508 : BitVec 32 := 3#32
  let v4357 : BitVec 32 := Scalar.shrsi v4356 c3_i32_1508
  let c3_i32_1509 : BitVec 32 := 3#32
  let v4358 : BitVec 32 := Scalar.shli v4357 c3_i32_1509
  let v4359 : BitVec 32 := v4358
  let v4360 : Index := Scalar.indexCast v4359
  let c0_1510 : Index := 0#32
  ![v4360.toNat, 0]

def k0_chk252 (v4356 : BitVec 32) : Prop :=
  (8 ∣ (k0_mult252 v4356).toNat) ∧
  (∀ a, (k0_off517 v4356) a + S8x512.size a ≤ S20000x512.size a)
theorem k0_mult252_dvd : ∀ (v4356 : BitVec 32) (k0_hw252 : k0_chk252 v4356), 8 ∣ (k0_mult252 v4356).toNat := fun v4356 k0_hw252 => k0_hw252.1
theorem k0_off517_inb : ∀ (v4356 : BitVec 32) (k0_hw252 : k0_chk252 v4356), ∀ a, (k0_off517 v4356) a + S8x512.size a ≤ S20000x512.size a := fun v4356 k0_hw252 => k0_hw252.2

def k0_off518 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1512 : BitVec 32 := 192#32
  let v4370 : BitVec 32 := Scalar.addi v63 c192_i32_1512
  let c60_i32_1513 : BitVec 32 := 60#32
  let v4371 : BitVec 32 := Scalar.addi v4370 c60_i32_1513
  let v4372 : Index := Scalar.indexCast v4371
  ![v4372.toNat]
def k0_mult253 (v4373 : BitVec 32) : BitVec 32 :=
  let c3_i32_1514 : BitVec 32 := 3#32
  let v4374 : BitVec 32 := Scalar.shrsi v4373 c3_i32_1514
  let c3_i32_1515 : BitVec 32 := 3#32
  let v4375 : BitVec 32 := Scalar.shli v4374 c3_i32_1515
  v4375

def k0_off519 (v4373 : BitVec 32) : Fin 2 → Nat :=
  let c3_i32_1514 : BitVec 32 := 3#32
  let v4374 : BitVec 32 := Scalar.shrsi v4373 c3_i32_1514
  let c3_i32_1515 : BitVec 32 := 3#32
  let v4375 : BitVec 32 := Scalar.shli v4374 c3_i32_1515
  let v4376 : BitVec 32 := v4375
  let v4377 : Index := Scalar.indexCast v4376
  let c0_1516 : Index := 0#32
  ![v4377.toNat, 0]

def k0_chk253 (v4373 : BitVec 32) : Prop :=
  (8 ∣ (k0_mult253 v4373).toNat) ∧
  (∀ a, (k0_off519 v4373) a + S8x512.size a ≤ S20000x512.size a)
theorem k0_mult253_dvd : ∀ (v4373 : BitVec 32) (k0_hw253 : k0_chk253 v4373), 8 ∣ (k0_mult253 v4373).toNat := fun v4373 k0_hw253 => k0_hw253.1
theorem k0_off519_inb : ∀ (v4373 : BitVec 32) (k0_hw253 : k0_chk253 v4373), ∀ a, (k0_off519 v4373) a + S8x512.size a ≤ S20000x512.size a := fun v4373 k0_hw253 => k0_hw253.2

def k0_off520 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1518 : BitVec 32 := 192#32
  let v4387 : BitVec 32 := Scalar.addi v63 c192_i32_1518
  let c61_i32_1519 : BitVec 32 := 61#32
  let v4388 : BitVec 32 := Scalar.addi v4387 c61_i32_1519
  let v4389 : Index := Scalar.indexCast v4388
  ![v4389.toNat]
def k0_mult254 (v4390 : BitVec 32) : BitVec 32 :=
  let c3_i32_1520 : BitVec 32 := 3#32
  let v4391 : BitVec 32 := Scalar.shrsi v4390 c3_i32_1520
  let c3_i32_1521 : BitVec 32 := 3#32
  let v4392 : BitVec 32 := Scalar.shli v4391 c3_i32_1521
  v4392

def k0_off521 (v4390 : BitVec 32) : Fin 2 → Nat :=
  let c3_i32_1520 : BitVec 32 := 3#32
  let v4391 : BitVec 32 := Scalar.shrsi v4390 c3_i32_1520
  let c3_i32_1521 : BitVec 32 := 3#32
  let v4392 : BitVec 32 := Scalar.shli v4391 c3_i32_1521
  let v4393 : BitVec 32 := v4392
  let v4394 : Index := Scalar.indexCast v4393
  let c0_1522 : Index := 0#32
  ![v4394.toNat, 0]

def k0_chk254 (v4390 : BitVec 32) : Prop :=
  (8 ∣ (k0_mult254 v4390).toNat) ∧
  (∀ a, (k0_off521 v4390) a + S8x512.size a ≤ S20000x512.size a)
theorem k0_mult254_dvd : ∀ (v4390 : BitVec 32) (k0_hw254 : k0_chk254 v4390), 8 ∣ (k0_mult254 v4390).toNat := fun v4390 k0_hw254 => k0_hw254.1
theorem k0_off521_inb : ∀ (v4390 : BitVec 32) (k0_hw254 : k0_chk254 v4390), ∀ a, (k0_off521 v4390) a + S8x512.size a ≤ S20000x512.size a := fun v4390 k0_hw254 => k0_hw254.2

def k0_off522 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1524 : BitVec 32 := 192#32
  let v4404 : BitVec 32 := Scalar.addi v63 c192_i32_1524
  let c62_i32_1525 : BitVec 32 := 62#32
  let v4405 : BitVec 32 := Scalar.addi v4404 c62_i32_1525
  let v4406 : Index := Scalar.indexCast v4405
  ![v4406.toNat]
def k0_mult255 (v4407 : BitVec 32) : BitVec 32 :=
  let c3_i32_1526 : BitVec 32 := 3#32
  let v4408 : BitVec 32 := Scalar.shrsi v4407 c3_i32_1526
  let c3_i32_1527 : BitVec 32 := 3#32
  let v4409 : BitVec 32 := Scalar.shli v4408 c3_i32_1527
  v4409

def k0_off523 (v4407 : BitVec 32) : Fin 2 → Nat :=
  let c3_i32_1526 : BitVec 32 := 3#32
  let v4408 : BitVec 32 := Scalar.shrsi v4407 c3_i32_1526
  let c3_i32_1527 : BitVec 32 := 3#32
  let v4409 : BitVec 32 := Scalar.shli v4408 c3_i32_1527
  let v4410 : BitVec 32 := v4409
  let v4411 : Index := Scalar.indexCast v4410
  let c0_1528 : Index := 0#32
  ![v4411.toNat, 0]

def k0_chk255 (v4407 : BitVec 32) : Prop :=
  (8 ∣ (k0_mult255 v4407).toNat) ∧
  (∀ a, (k0_off523 v4407) a + S8x512.size a ≤ S20000x512.size a)
theorem k0_mult255_dvd : ∀ (v4407 : BitVec 32) (k0_hw255 : k0_chk255 v4407), 8 ∣ (k0_mult255 v4407).toNat := fun v4407 k0_hw255 => k0_hw255.1
theorem k0_off523_inb : ∀ (v4407 : BitVec 32) (k0_hw255 : k0_chk255 v4407), ∀ a, (k0_off523 v4407) a + S8x512.size a ≤ S20000x512.size a := fun v4407 k0_hw255 => k0_hw255.2

def k0_off524 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c192_i32_1530 : BitVec 32 := 192#32
  let v4421 : BitVec 32 := Scalar.addi v63 c192_i32_1530
  let c63_i32_1531 : BitVec 32 := 63#32
  let v4422 : BitVec 32 := Scalar.addi v4421 c63_i32_1531
  let v4423 : Index := Scalar.indexCast v4422
  ![v4423.toNat]
def k0_mult256 (v4424 : BitVec 32) : BitVec 32 :=
  let c3_i32_1532 : BitVec 32 := 3#32
  let v4425 : BitVec 32 := Scalar.shrsi v4424 c3_i32_1532
  let c3_i32_1533 : BitVec 32 := 3#32
  let v4426 : BitVec 32 := Scalar.shli v4425 c3_i32_1533
  v4426

def k0_off525 (v4424 : BitVec 32) : Fin 2 → Nat :=
  let c3_i32_1532 : BitVec 32 := 3#32
  let v4425 : BitVec 32 := Scalar.shrsi v4424 c3_i32_1532
  let c3_i32_1533 : BitVec 32 := 3#32
  let v4426 : BitVec 32 := Scalar.shli v4425 c3_i32_1533
  let v4427 : BitVec 32 := v4426
  let v4428 : Index := Scalar.indexCast v4427
  let c0_1534 : Index := 0#32
  ![v4428.toNat, 0]

def k0_chk256 (v4424 : BitVec 32) : Prop :=
  (8 ∣ (k0_mult256 v4424).toNat) ∧
  (∀ a, (k0_off525 v4424) a + S8x512.size a ≤ S20000x512.size a)
theorem k0_mult256_dvd : ∀ (v4424 : BitVec 32) (k0_hw256 : k0_chk256 v4424), 8 ∣ (k0_mult256 v4424).toNat := fun v4424 k0_hw256 => k0_hw256.1
theorem k0_off525_inb : ∀ (v4424 : BitVec 32) (k0_hw256 : k0_chk256 v4424), ∀ a, (k0_off525 v4424) a + S8x512.size a ≤ S20000x512.size a := fun v4424 k0_hw256 => k0_hw256.2

def k0_off526 (k0_t1 : Fin k0_t1_loop.trips) : Fin 3 → Nat :=
  let c0_i32_18 : BitVec 32 := 0#32
  let c1_i32_19 : BitVec 32 := 1#32
  let arg12 : BitVec 32 := Scf.iv c0_i32_18 c1_i32_19 k0_t1
  let c8_i32_1536 : BitVec 32 := 8#32
  let v4438 : BitVec 32 := Scalar.muli arg12 c8_i32_1536
  let c3_i32_1537 : BitVec 32 := 3#32
  let v4439 : BitVec 32 := Scalar.addi v4438 c3_i32_1537
  let v4440 : Index := Scalar.indexCast v4439
  let c0_1538 : Index := 0#32
  let c0_1539 : Index := 0#32
  ![v4440.toNat, 0, 0]
def k0_off527 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32 : BitVec 32 := 256#32
  let v4445 : BitVec 32 := Scalar.addi v63 c256_i32
  let c0_i32_1541 : BitVec 32 := 0#32
  let v4446 : BitVec 32 := Scalar.addi v4445 c0_i32_1541
  let v4447 : Index := Scalar.indexCast v4446
  ![v4447.toNat]
def k0_mult257 (v4448 : BitVec 32) : BitVec 32 :=
  let c3_i32_1542 : BitVec 32 := 3#32
  let v4449 : BitVec 32 := Scalar.shrsi v4448 c3_i32_1542
  let c3_i32_1543 : BitVec 32 := 3#32
  let v4450 : BitVec 32 := Scalar.shli v4449 c3_i32_1543
  v4450

def k0_off528 (v4448 : BitVec 32) : Fin 2 → Nat :=
  let c3_i32_1542 : BitVec 32 := 3#32
  let v4449 : BitVec 32 := Scalar.shrsi v4448 c3_i32_1542
  let c3_i32_1543 : BitVec 32 := 3#32
  let v4450 : BitVec 32 := Scalar.shli v4449 c3_i32_1543
  let v4451 : BitVec 32 := v4450
  let v4452 : Index := Scalar.indexCast v4451
  let c0_1544 : Index := 0#32
  ![v4452.toNat, 0]

def k0_chk257 (v4448 : BitVec 32) : Prop :=
  (8 ∣ (k0_mult257 v4448).toNat) ∧
  (∀ a, (k0_off528 v4448) a + S8x512.size a ≤ S20000x512.size a)
theorem k0_mult257_dvd : ∀ (v4448 : BitVec 32) (k0_hw257 : k0_chk257 v4448), 8 ∣ (k0_mult257 v4448).toNat := fun v4448 k0_hw257 => k0_hw257.1
theorem k0_off528_inb : ∀ (v4448 : BitVec 32) (k0_hw257 : k0_chk257 v4448), ∀ a, (k0_off528 v4448) a + S8x512.size a ≤ S20000x512.size a := fun v4448 k0_hw257 => k0_hw257.2

def k0_off529 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1546 : BitVec 32 := 256#32
  let v4462 : BitVec 32 := Scalar.addi v63 c256_i32_1546
  let c1_i32_1547 : BitVec 32 := 1#32
  let v4463 : BitVec 32 := Scalar.addi v4462 c1_i32_1547
  let v4464 : Index := Scalar.indexCast v4463
  ![v4464.toNat]
def k0_mult258 (v4465 : BitVec 32) : BitVec 32 :=
  let c3_i32_1548 : BitVec 32 := 3#32
  let v4466 : BitVec 32 := Scalar.shrsi v4465 c3_i32_1548
  let c3_i32_1549 : BitVec 32 := 3#32
  let v4467 : BitVec 32 := Scalar.shli v4466 c3_i32_1549
  v4467

def k0_off530 (v4465 : BitVec 32) : Fin 2 → Nat :=
  let c3_i32_1548 : BitVec 32 := 3#32
  let v4466 : BitVec 32 := Scalar.shrsi v4465 c3_i32_1548
  let c3_i32_1549 : BitVec 32 := 3#32
  let v4467 : BitVec 32 := Scalar.shli v4466 c3_i32_1549
  let v4468 : BitVec 32 := v4467
  let v4469 : Index := Scalar.indexCast v4468
  let c0_1550 : Index := 0#32
  ![v4469.toNat, 0]

def k0_chk258 (v4465 : BitVec 32) : Prop :=
  (8 ∣ (k0_mult258 v4465).toNat) ∧
  (∀ a, (k0_off530 v4465) a + S8x512.size a ≤ S20000x512.size a)
theorem k0_mult258_dvd : ∀ (v4465 : BitVec 32) (k0_hw258 : k0_chk258 v4465), 8 ∣ (k0_mult258 v4465).toNat := fun v4465 k0_hw258 => k0_hw258.1
theorem k0_off530_inb : ∀ (v4465 : BitVec 32) (k0_hw258 : k0_chk258 v4465), ∀ a, (k0_off530 v4465) a + S8x512.size a ≤ S20000x512.size a := fun v4465 k0_hw258 => k0_hw258.2

def k0_off531 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1552 : BitVec 32 := 256#32
  let v4479 : BitVec 32 := Scalar.addi v63 c256_i32_1552
  let c2_i32_1553 : BitVec 32 := 2#32
  let v4480 : BitVec 32 := Scalar.addi v4479 c2_i32_1553
  let v4481 : Index := Scalar.indexCast v4480
  ![v4481.toNat]
def k0_mult259 (v4482 : BitVec 32) : BitVec 32 :=
  let c3_i32_1554 : BitVec 32 := 3#32
  let v4483 : BitVec 32 := Scalar.shrsi v4482 c3_i32_1554
  let c3_i32_1555 : BitVec 32 := 3#32
  let v4484 : BitVec 32 := Scalar.shli v4483 c3_i32_1555
  v4484

def k0_off532 (v4482 : BitVec 32) : Fin 2 → Nat :=
  let c3_i32_1554 : BitVec 32 := 3#32
  let v4483 : BitVec 32 := Scalar.shrsi v4482 c3_i32_1554
  let c3_i32_1555 : BitVec 32 := 3#32
  let v4484 : BitVec 32 := Scalar.shli v4483 c3_i32_1555
  let v4485 : BitVec 32 := v4484
  let v4486 : Index := Scalar.indexCast v4485
  let c0_1556 : Index := 0#32
  ![v4486.toNat, 0]

def k0_chk259 (v4482 : BitVec 32) : Prop :=
  (8 ∣ (k0_mult259 v4482).toNat) ∧
  (∀ a, (k0_off532 v4482) a + S8x512.size a ≤ S20000x512.size a)
theorem k0_mult259_dvd : ∀ (v4482 : BitVec 32) (k0_hw259 : k0_chk259 v4482), 8 ∣ (k0_mult259 v4482).toNat := fun v4482 k0_hw259 => k0_hw259.1
theorem k0_off532_inb : ∀ (v4482 : BitVec 32) (k0_hw259 : k0_chk259 v4482), ∀ a, (k0_off532 v4482) a + S8x512.size a ≤ S20000x512.size a := fun v4482 k0_hw259 => k0_hw259.2

def k0_off533 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1558 : BitVec 32 := 256#32
  let v4496 : BitVec 32 := Scalar.addi v63 c256_i32_1558
  let c3_i32_1559 : BitVec 32 := 3#32
  let v4497 : BitVec 32 := Scalar.addi v4496 c3_i32_1559
  let v4498 : Index := Scalar.indexCast v4497
  ![v4498.toNat]
def k0_mult260 (v4499 : BitVec 32) : BitVec 32 :=
  let c3_i32_1560 : BitVec 32 := 3#32
  let v4500 : BitVec 32 := Scalar.shrsi v4499 c3_i32_1560
  let c3_i32_1561 : BitVec 32 := 3#32
  let v4501 : BitVec 32 := Scalar.shli v4500 c3_i32_1561
  v4501

def k0_off534 (v4499 : BitVec 32) : Fin 2 → Nat :=
  let c3_i32_1560 : BitVec 32 := 3#32
  let v4500 : BitVec 32 := Scalar.shrsi v4499 c3_i32_1560
  let c3_i32_1561 : BitVec 32 := 3#32
  let v4501 : BitVec 32 := Scalar.shli v4500 c3_i32_1561
  let v4502 : BitVec 32 := v4501
  let v4503 : Index := Scalar.indexCast v4502
  let c0_1562 : Index := 0#32
  ![v4503.toNat, 0]

def k0_chk260 (v4499 : BitVec 32) : Prop :=
  (8 ∣ (k0_mult260 v4499).toNat) ∧
  (∀ a, (k0_off534 v4499) a + S8x512.size a ≤ S20000x512.size a)
theorem k0_mult260_dvd : ∀ (v4499 : BitVec 32) (k0_hw260 : k0_chk260 v4499), 8 ∣ (k0_mult260 v4499).toNat := fun v4499 k0_hw260 => k0_hw260.1
theorem k0_off534_inb : ∀ (v4499 : BitVec 32) (k0_hw260 : k0_chk260 v4499), ∀ a, (k0_off534 v4499) a + S8x512.size a ≤ S20000x512.size a := fun v4499 k0_hw260 => k0_hw260.2

def k0_off535 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1564 : BitVec 32 := 256#32
  let v4513 : BitVec 32 := Scalar.addi v63 c256_i32_1564
  let c4_i32_1565 : BitVec 32 := 4#32
  let v4514 : BitVec 32 := Scalar.addi v4513 c4_i32_1565
  let v4515 : Index := Scalar.indexCast v4514
  ![v4515.toNat]
def k0_mult261 (v4516 : BitVec 32) : BitVec 32 :=
  let c3_i32_1566 : BitVec 32 := 3#32
  let v4517 : BitVec 32 := Scalar.shrsi v4516 c3_i32_1566
  let c3_i32_1567 : BitVec 32 := 3#32
  let v4518 : BitVec 32 := Scalar.shli v4517 c3_i32_1567
  v4518

def k0_off536 (v4516 : BitVec 32) : Fin 2 → Nat :=
  let c3_i32_1566 : BitVec 32 := 3#32
  let v4517 : BitVec 32 := Scalar.shrsi v4516 c3_i32_1566
  let c3_i32_1567 : BitVec 32 := 3#32
  let v4518 : BitVec 32 := Scalar.shli v4517 c3_i32_1567
  let v4519 : BitVec 32 := v4518
  let v4520 : Index := Scalar.indexCast v4519
  let c0_1568 : Index := 0#32
  ![v4520.toNat, 0]

def k0_chk261 (v4516 : BitVec 32) : Prop :=
  (8 ∣ (k0_mult261 v4516).toNat) ∧
  (∀ a, (k0_off536 v4516) a + S8x512.size a ≤ S20000x512.size a)
theorem k0_mult261_dvd : ∀ (v4516 : BitVec 32) (k0_hw261 : k0_chk261 v4516), 8 ∣ (k0_mult261 v4516).toNat := fun v4516 k0_hw261 => k0_hw261.1
theorem k0_off536_inb : ∀ (v4516 : BitVec 32) (k0_hw261 : k0_chk261 v4516), ∀ a, (k0_off536 v4516) a + S8x512.size a ≤ S20000x512.size a := fun v4516 k0_hw261 => k0_hw261.2

def k0_off537 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1570 : BitVec 32 := 256#32
  let v4530 : BitVec 32 := Scalar.addi v63 c256_i32_1570
  let c5_i32_1571 : BitVec 32 := 5#32
  let v4531 : BitVec 32 := Scalar.addi v4530 c5_i32_1571
  let v4532 : Index := Scalar.indexCast v4531
  ![v4532.toNat]
def k0_mult262 (v4533 : BitVec 32) : BitVec 32 :=
  let c3_i32_1572 : BitVec 32 := 3#32
  let v4534 : BitVec 32 := Scalar.shrsi v4533 c3_i32_1572
  let c3_i32_1573 : BitVec 32 := 3#32
  let v4535 : BitVec 32 := Scalar.shli v4534 c3_i32_1573
  v4535

def k0_off538 (v4533 : BitVec 32) : Fin 2 → Nat :=
  let c3_i32_1572 : BitVec 32 := 3#32
  let v4534 : BitVec 32 := Scalar.shrsi v4533 c3_i32_1572
  let c3_i32_1573 : BitVec 32 := 3#32
  let v4535 : BitVec 32 := Scalar.shli v4534 c3_i32_1573
  let v4536 : BitVec 32 := v4535
  let v4537 : Index := Scalar.indexCast v4536
  let c0_1574 : Index := 0#32
  ![v4537.toNat, 0]

def k0_chk262 (v4533 : BitVec 32) : Prop :=
  (8 ∣ (k0_mult262 v4533).toNat) ∧
  (∀ a, (k0_off538 v4533) a + S8x512.size a ≤ S20000x512.size a)
theorem k0_mult262_dvd : ∀ (v4533 : BitVec 32) (k0_hw262 : k0_chk262 v4533), 8 ∣ (k0_mult262 v4533).toNat := fun v4533 k0_hw262 => k0_hw262.1
theorem k0_off538_inb : ∀ (v4533 : BitVec 32) (k0_hw262 : k0_chk262 v4533), ∀ a, (k0_off538 v4533) a + S8x512.size a ≤ S20000x512.size a := fun v4533 k0_hw262 => k0_hw262.2

def k0_off539 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1576 : BitVec 32 := 256#32
  let v4547 : BitVec 32 := Scalar.addi v63 c256_i32_1576
  let c6_i32_1577 : BitVec 32 := 6#32
  let v4548 : BitVec 32 := Scalar.addi v4547 c6_i32_1577
  let v4549 : Index := Scalar.indexCast v4548
  ![v4549.toNat]
def k0_mult263 (v4550 : BitVec 32) : BitVec 32 :=
  let c3_i32_1578 : BitVec 32 := 3#32
  let v4551 : BitVec 32 := Scalar.shrsi v4550 c3_i32_1578
  let c3_i32_1579 : BitVec 32 := 3#32
  let v4552 : BitVec 32 := Scalar.shli v4551 c3_i32_1579
  v4552

def k0_off540 (v4550 : BitVec 32) : Fin 2 → Nat :=
  let c3_i32_1578 : BitVec 32 := 3#32
  let v4551 : BitVec 32 := Scalar.shrsi v4550 c3_i32_1578
  let c3_i32_1579 : BitVec 32 := 3#32
  let v4552 : BitVec 32 := Scalar.shli v4551 c3_i32_1579
  let v4553 : BitVec 32 := v4552
  let v4554 : Index := Scalar.indexCast v4553
  let c0_1580 : Index := 0#32
  ![v4554.toNat, 0]

def k0_chk263 (v4550 : BitVec 32) : Prop :=
  (8 ∣ (k0_mult263 v4550).toNat) ∧
  (∀ a, (k0_off540 v4550) a + S8x512.size a ≤ S20000x512.size a)
theorem k0_mult263_dvd : ∀ (v4550 : BitVec 32) (k0_hw263 : k0_chk263 v4550), 8 ∣ (k0_mult263 v4550).toNat := fun v4550 k0_hw263 => k0_hw263.1
theorem k0_off540_inb : ∀ (v4550 : BitVec 32) (k0_hw263 : k0_chk263 v4550), ∀ a, (k0_off540 v4550) a + S8x512.size a ≤ S20000x512.size a := fun v4550 k0_hw263 => k0_hw263.2

def k0_off541 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1582 : BitVec 32 := 256#32
  let v4564 : BitVec 32 := Scalar.addi v63 c256_i32_1582
  let c7_i32_1583 : BitVec 32 := 7#32
  let v4565 : BitVec 32 := Scalar.addi v4564 c7_i32_1583
  let v4566 : Index := Scalar.indexCast v4565
  ![v4566.toNat]
def k0_mult264 (v4567 : BitVec 32) : BitVec 32 :=
  let c3_i32_1584 : BitVec 32 := 3#32
  let v4568 : BitVec 32 := Scalar.shrsi v4567 c3_i32_1584
  let c3_i32_1585 : BitVec 32 := 3#32
  let v4569 : BitVec 32 := Scalar.shli v4568 c3_i32_1585
  v4569

def k0_off542 (v4567 : BitVec 32) : Fin 2 → Nat :=
  let c3_i32_1584 : BitVec 32 := 3#32
  let v4568 : BitVec 32 := Scalar.shrsi v4567 c3_i32_1584
  let c3_i32_1585 : BitVec 32 := 3#32
  let v4569 : BitVec 32 := Scalar.shli v4568 c3_i32_1585
  let v4570 : BitVec 32 := v4569
  let v4571 : Index := Scalar.indexCast v4570
  let c0_1586 : Index := 0#32
  ![v4571.toNat, 0]

def k0_chk264 (v4567 : BitVec 32) : Prop :=
  (8 ∣ (k0_mult264 v4567).toNat) ∧
  (∀ a, (k0_off542 v4567) a + S8x512.size a ≤ S20000x512.size a)
theorem k0_mult264_dvd : ∀ (v4567 : BitVec 32) (k0_hw264 : k0_chk264 v4567), 8 ∣ (k0_mult264 v4567).toNat := fun v4567 k0_hw264 => k0_hw264.1
theorem k0_off542_inb : ∀ (v4567 : BitVec 32) (k0_hw264 : k0_chk264 v4567), ∀ a, (k0_off542 v4567) a + S8x512.size a ≤ S20000x512.size a := fun v4567 k0_hw264 => k0_hw264.2

def k0_off543 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1588 : BitVec 32 := 256#32
  let v4581 : BitVec 32 := Scalar.addi v63 c256_i32_1588
  let c8_i32_1589 : BitVec 32 := 8#32
  let v4582 : BitVec 32 := Scalar.addi v4581 c8_i32_1589
  let v4583 : Index := Scalar.indexCast v4582
  ![v4583.toNat]
def k0_mult265 (v4584 : BitVec 32) : BitVec 32 :=
  let c3_i32_1590 : BitVec 32 := 3#32
  let v4585 : BitVec 32 := Scalar.shrsi v4584 c3_i32_1590
  let c3_i32_1591 : BitVec 32 := 3#32
  let v4586 : BitVec 32 := Scalar.shli v4585 c3_i32_1591
  v4586

def k0_off544 (v4584 : BitVec 32) : Fin 2 → Nat :=
  let c3_i32_1590 : BitVec 32 := 3#32
  let v4585 : BitVec 32 := Scalar.shrsi v4584 c3_i32_1590
  let c3_i32_1591 : BitVec 32 := 3#32
  let v4586 : BitVec 32 := Scalar.shli v4585 c3_i32_1591
  let v4587 : BitVec 32 := v4586
  let v4588 : Index := Scalar.indexCast v4587
  let c0_1592 : Index := 0#32
  ![v4588.toNat, 0]

def k0_chk265 (v4584 : BitVec 32) : Prop :=
  (8 ∣ (k0_mult265 v4584).toNat) ∧
  (∀ a, (k0_off544 v4584) a + S8x512.size a ≤ S20000x512.size a)
theorem k0_mult265_dvd : ∀ (v4584 : BitVec 32) (k0_hw265 : k0_chk265 v4584), 8 ∣ (k0_mult265 v4584).toNat := fun v4584 k0_hw265 => k0_hw265.1
theorem k0_off544_inb : ∀ (v4584 : BitVec 32) (k0_hw265 : k0_chk265 v4584), ∀ a, (k0_off544 v4584) a + S8x512.size a ≤ S20000x512.size a := fun v4584 k0_hw265 => k0_hw265.2

def k0_off545 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1594 : BitVec 32 := 256#32
  let v4598 : BitVec 32 := Scalar.addi v63 c256_i32_1594
  let c9_i32_1595 : BitVec 32 := 9#32
  let v4599 : BitVec 32 := Scalar.addi v4598 c9_i32_1595
  let v4600 : Index := Scalar.indexCast v4599
  ![v4600.toNat]
def k0_mult266 (v4601 : BitVec 32) : BitVec 32 :=
  let c3_i32_1596 : BitVec 32 := 3#32
  let v4602 : BitVec 32 := Scalar.shrsi v4601 c3_i32_1596
  let c3_i32_1597 : BitVec 32 := 3#32
  let v4603 : BitVec 32 := Scalar.shli v4602 c3_i32_1597
  v4603

def k0_off546 (v4601 : BitVec 32) : Fin 2 → Nat :=
  let c3_i32_1596 : BitVec 32 := 3#32
  let v4602 : BitVec 32 := Scalar.shrsi v4601 c3_i32_1596
  let c3_i32_1597 : BitVec 32 := 3#32
  let v4603 : BitVec 32 := Scalar.shli v4602 c3_i32_1597
  let v4604 : BitVec 32 := v4603
  let v4605 : Index := Scalar.indexCast v4604
  let c0_1598 : Index := 0#32
  ![v4605.toNat, 0]

def k0_chk266 (v4601 : BitVec 32) : Prop :=
  (8 ∣ (k0_mult266 v4601).toNat) ∧
  (∀ a, (k0_off546 v4601) a + S8x512.size a ≤ S20000x512.size a)
theorem k0_mult266_dvd : ∀ (v4601 : BitVec 32) (k0_hw266 : k0_chk266 v4601), 8 ∣ (k0_mult266 v4601).toNat := fun v4601 k0_hw266 => k0_hw266.1
theorem k0_off546_inb : ∀ (v4601 : BitVec 32) (k0_hw266 : k0_chk266 v4601), ∀ a, (k0_off546 v4601) a + S8x512.size a ≤ S20000x512.size a := fun v4601 k0_hw266 => k0_hw266.2

def k0_off547 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1600 : BitVec 32 := 256#32
  let v4615 : BitVec 32 := Scalar.addi v63 c256_i32_1600
  let c10_i32_1601 : BitVec 32 := 10#32
  let v4616 : BitVec 32 := Scalar.addi v4615 c10_i32_1601
  let v4617 : Index := Scalar.indexCast v4616
  ![v4617.toNat]
def k0_mult267 (v4618 : BitVec 32) : BitVec 32 :=
  let c3_i32_1602 : BitVec 32 := 3#32
  let v4619 : BitVec 32 := Scalar.shrsi v4618 c3_i32_1602
  let c3_i32_1603 : BitVec 32 := 3#32
  let v4620 : BitVec 32 := Scalar.shli v4619 c3_i32_1603
  v4620

def k0_off548 (v4618 : BitVec 32) : Fin 2 → Nat :=
  let c3_i32_1602 : BitVec 32 := 3#32
  let v4619 : BitVec 32 := Scalar.shrsi v4618 c3_i32_1602
  let c3_i32_1603 : BitVec 32 := 3#32
  let v4620 : BitVec 32 := Scalar.shli v4619 c3_i32_1603
  let v4621 : BitVec 32 := v4620
  let v4622 : Index := Scalar.indexCast v4621
  let c0_1604 : Index := 0#32
  ![v4622.toNat, 0]

def k0_chk267 (v4618 : BitVec 32) : Prop :=
  (8 ∣ (k0_mult267 v4618).toNat) ∧
  (∀ a, (k0_off548 v4618) a + S8x512.size a ≤ S20000x512.size a)
theorem k0_mult267_dvd : ∀ (v4618 : BitVec 32) (k0_hw267 : k0_chk267 v4618), 8 ∣ (k0_mult267 v4618).toNat := fun v4618 k0_hw267 => k0_hw267.1
theorem k0_off548_inb : ∀ (v4618 : BitVec 32) (k0_hw267 : k0_chk267 v4618), ∀ a, (k0_off548 v4618) a + S8x512.size a ≤ S20000x512.size a := fun v4618 k0_hw267 => k0_hw267.2

def k0_off549 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1606 : BitVec 32 := 256#32
  let v4632 : BitVec 32 := Scalar.addi v63 c256_i32_1606
  let c11_i32_1607 : BitVec 32 := 11#32
  let v4633 : BitVec 32 := Scalar.addi v4632 c11_i32_1607
  let v4634 : Index := Scalar.indexCast v4633
  ![v4634.toNat]
def k0_mult268 (v4635 : BitVec 32) : BitVec 32 :=
  let c3_i32_1608 : BitVec 32 := 3#32
  let v4636 : BitVec 32 := Scalar.shrsi v4635 c3_i32_1608
  let c3_i32_1609 : BitVec 32 := 3#32
  let v4637 : BitVec 32 := Scalar.shli v4636 c3_i32_1609
  v4637

def k0_off550 (v4635 : BitVec 32) : Fin 2 → Nat :=
  let c3_i32_1608 : BitVec 32 := 3#32
  let v4636 : BitVec 32 := Scalar.shrsi v4635 c3_i32_1608
  let c3_i32_1609 : BitVec 32 := 3#32
  let v4637 : BitVec 32 := Scalar.shli v4636 c3_i32_1609
  let v4638 : BitVec 32 := v4637
  let v4639 : Index := Scalar.indexCast v4638
  let c0_1610 : Index := 0#32
  ![v4639.toNat, 0]

def k0_chk268 (v4635 : BitVec 32) : Prop :=
  (8 ∣ (k0_mult268 v4635).toNat) ∧
  (∀ a, (k0_off550 v4635) a + S8x512.size a ≤ S20000x512.size a)
theorem k0_mult268_dvd : ∀ (v4635 : BitVec 32) (k0_hw268 : k0_chk268 v4635), 8 ∣ (k0_mult268 v4635).toNat := fun v4635 k0_hw268 => k0_hw268.1
theorem k0_off550_inb : ∀ (v4635 : BitVec 32) (k0_hw268 : k0_chk268 v4635), ∀ a, (k0_off550 v4635) a + S8x512.size a ≤ S20000x512.size a := fun v4635 k0_hw268 => k0_hw268.2

def k0_off551 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1612 : BitVec 32 := 256#32
  let v4649 : BitVec 32 := Scalar.addi v63 c256_i32_1612
  let c12_i32_1613 : BitVec 32 := 12#32
  let v4650 : BitVec 32 := Scalar.addi v4649 c12_i32_1613
  let v4651 : Index := Scalar.indexCast v4650
  ![v4651.toNat]
def k0_mult269 (v4652 : BitVec 32) : BitVec 32 :=
  let c3_i32_1614 : BitVec 32 := 3#32
  let v4653 : BitVec 32 := Scalar.shrsi v4652 c3_i32_1614
  let c3_i32_1615 : BitVec 32 := 3#32
  let v4654 : BitVec 32 := Scalar.shli v4653 c3_i32_1615
  v4654

def k0_off552 (v4652 : BitVec 32) : Fin 2 → Nat :=
  let c3_i32_1614 : BitVec 32 := 3#32
  let v4653 : BitVec 32 := Scalar.shrsi v4652 c3_i32_1614
  let c3_i32_1615 : BitVec 32 := 3#32
  let v4654 : BitVec 32 := Scalar.shli v4653 c3_i32_1615
  let v4655 : BitVec 32 := v4654
  let v4656 : Index := Scalar.indexCast v4655
  let c0_1616 : Index := 0#32
  ![v4656.toNat, 0]

def k0_chk269 (v4652 : BitVec 32) : Prop :=
  (8 ∣ (k0_mult269 v4652).toNat) ∧
  (∀ a, (k0_off552 v4652) a + S8x512.size a ≤ S20000x512.size a)
theorem k0_mult269_dvd : ∀ (v4652 : BitVec 32) (k0_hw269 : k0_chk269 v4652), 8 ∣ (k0_mult269 v4652).toNat := fun v4652 k0_hw269 => k0_hw269.1
theorem k0_off552_inb : ∀ (v4652 : BitVec 32) (k0_hw269 : k0_chk269 v4652), ∀ a, (k0_off552 v4652) a + S8x512.size a ≤ S20000x512.size a := fun v4652 k0_hw269 => k0_hw269.2

def k0_off553 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1618 : BitVec 32 := 256#32
  let v4666 : BitVec 32 := Scalar.addi v63 c256_i32_1618
  let c13_i32_1619 : BitVec 32 := 13#32
  let v4667 : BitVec 32 := Scalar.addi v4666 c13_i32_1619
  let v4668 : Index := Scalar.indexCast v4667
  ![v4668.toNat]
def k0_mult270 (v4669 : BitVec 32) : BitVec 32 :=
  let c3_i32_1620 : BitVec 32 := 3#32
  let v4670 : BitVec 32 := Scalar.shrsi v4669 c3_i32_1620
  let c3_i32_1621 : BitVec 32 := 3#32
  let v4671 : BitVec 32 := Scalar.shli v4670 c3_i32_1621
  v4671

def k0_off554 (v4669 : BitVec 32) : Fin 2 → Nat :=
  let c3_i32_1620 : BitVec 32 := 3#32
  let v4670 : BitVec 32 := Scalar.shrsi v4669 c3_i32_1620
  let c3_i32_1621 : BitVec 32 := 3#32
  let v4671 : BitVec 32 := Scalar.shli v4670 c3_i32_1621
  let v4672 : BitVec 32 := v4671
  let v4673 : Index := Scalar.indexCast v4672
  let c0_1622 : Index := 0#32
  ![v4673.toNat, 0]

def k0_chk270 (v4669 : BitVec 32) : Prop :=
  (8 ∣ (k0_mult270 v4669).toNat) ∧
  (∀ a, (k0_off554 v4669) a + S8x512.size a ≤ S20000x512.size a)
theorem k0_mult270_dvd : ∀ (v4669 : BitVec 32) (k0_hw270 : k0_chk270 v4669), 8 ∣ (k0_mult270 v4669).toNat := fun v4669 k0_hw270 => k0_hw270.1
theorem k0_off554_inb : ∀ (v4669 : BitVec 32) (k0_hw270 : k0_chk270 v4669), ∀ a, (k0_off554 v4669) a + S8x512.size a ≤ S20000x512.size a := fun v4669 k0_hw270 => k0_hw270.2

def k0_off555 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1624 : BitVec 32 := 256#32
  let v4683 : BitVec 32 := Scalar.addi v63 c256_i32_1624
  let c14_i32_1625 : BitVec 32 := 14#32
  let v4684 : BitVec 32 := Scalar.addi v4683 c14_i32_1625
  let v4685 : Index := Scalar.indexCast v4684
  ![v4685.toNat]
def k0_mult271 (v4686 : BitVec 32) : BitVec 32 :=
  let c3_i32_1626 : BitVec 32 := 3#32
  let v4687 : BitVec 32 := Scalar.shrsi v4686 c3_i32_1626
  let c3_i32_1627 : BitVec 32 := 3#32
  let v4688 : BitVec 32 := Scalar.shli v4687 c3_i32_1627
  v4688

def k0_off556 (v4686 : BitVec 32) : Fin 2 → Nat :=
  let c3_i32_1626 : BitVec 32 := 3#32
  let v4687 : BitVec 32 := Scalar.shrsi v4686 c3_i32_1626
  let c3_i32_1627 : BitVec 32 := 3#32
  let v4688 : BitVec 32 := Scalar.shli v4687 c3_i32_1627
  let v4689 : BitVec 32 := v4688
  let v4690 : Index := Scalar.indexCast v4689
  let c0_1628 : Index := 0#32
  ![v4690.toNat, 0]

def k0_chk271 (v4686 : BitVec 32) : Prop :=
  (8 ∣ (k0_mult271 v4686).toNat) ∧
  (∀ a, (k0_off556 v4686) a + S8x512.size a ≤ S20000x512.size a)
theorem k0_mult271_dvd : ∀ (v4686 : BitVec 32) (k0_hw271 : k0_chk271 v4686), 8 ∣ (k0_mult271 v4686).toNat := fun v4686 k0_hw271 => k0_hw271.1
theorem k0_off556_inb : ∀ (v4686 : BitVec 32) (k0_hw271 : k0_chk271 v4686), ∀ a, (k0_off556 v4686) a + S8x512.size a ≤ S20000x512.size a := fun v4686 k0_hw271 => k0_hw271.2

def k0_off557 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1630 : BitVec 32 := 256#32
  let v4700 : BitVec 32 := Scalar.addi v63 c256_i32_1630
  let c15_i32_1631 : BitVec 32 := 15#32
  let v4701 : BitVec 32 := Scalar.addi v4700 c15_i32_1631
  let v4702 : Index := Scalar.indexCast v4701
  ![v4702.toNat]
def k0_mult272 (v4703 : BitVec 32) : BitVec 32 :=
  let c3_i32_1632 : BitVec 32 := 3#32
  let v4704 : BitVec 32 := Scalar.shrsi v4703 c3_i32_1632
  let c3_i32_1633 : BitVec 32 := 3#32
  let v4705 : BitVec 32 := Scalar.shli v4704 c3_i32_1633
  v4705

def k0_off558 (v4703 : BitVec 32) : Fin 2 → Nat :=
  let c3_i32_1632 : BitVec 32 := 3#32
  let v4704 : BitVec 32 := Scalar.shrsi v4703 c3_i32_1632
  let c3_i32_1633 : BitVec 32 := 3#32
  let v4705 : BitVec 32 := Scalar.shli v4704 c3_i32_1633
  let v4706 : BitVec 32 := v4705
  let v4707 : Index := Scalar.indexCast v4706
  let c0_1634 : Index := 0#32
  ![v4707.toNat, 0]

def k0_chk272 (v4703 : BitVec 32) : Prop :=
  (8 ∣ (k0_mult272 v4703).toNat) ∧
  (∀ a, (k0_off558 v4703) a + S8x512.size a ≤ S20000x512.size a)
theorem k0_mult272_dvd : ∀ (v4703 : BitVec 32) (k0_hw272 : k0_chk272 v4703), 8 ∣ (k0_mult272 v4703).toNat := fun v4703 k0_hw272 => k0_hw272.1
theorem k0_off558_inb : ∀ (v4703 : BitVec 32) (k0_hw272 : k0_chk272 v4703), ∀ a, (k0_off558 v4703) a + S8x512.size a ≤ S20000x512.size a := fun v4703 k0_hw272 => k0_hw272.2

def k0_off559 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1636 : BitVec 32 := 256#32
  let v4717 : BitVec 32 := Scalar.addi v63 c256_i32_1636
  let c16_i32_1637 : BitVec 32 := 16#32
  let v4718 : BitVec 32 := Scalar.addi v4717 c16_i32_1637
  let v4719 : Index := Scalar.indexCast v4718
  ![v4719.toNat]
def k0_mult273 (v4720 : BitVec 32) : BitVec 32 :=
  let c3_i32_1638 : BitVec 32 := 3#32
  let v4721 : BitVec 32 := Scalar.shrsi v4720 c3_i32_1638
  let c3_i32_1639 : BitVec 32 := 3#32
  let v4722 : BitVec 32 := Scalar.shli v4721 c3_i32_1639
  v4722

def k0_off560 (v4720 : BitVec 32) : Fin 2 → Nat :=
  let c3_i32_1638 : BitVec 32 := 3#32
  let v4721 : BitVec 32 := Scalar.shrsi v4720 c3_i32_1638
  let c3_i32_1639 : BitVec 32 := 3#32
  let v4722 : BitVec 32 := Scalar.shli v4721 c3_i32_1639
  let v4723 : BitVec 32 := v4722
  let v4724 : Index := Scalar.indexCast v4723
  let c0_1640 : Index := 0#32
  ![v4724.toNat, 0]

def k0_chk273 (v4720 : BitVec 32) : Prop :=
  (8 ∣ (k0_mult273 v4720).toNat) ∧
  (∀ a, (k0_off560 v4720) a + S8x512.size a ≤ S20000x512.size a)
theorem k0_mult273_dvd : ∀ (v4720 : BitVec 32) (k0_hw273 : k0_chk273 v4720), 8 ∣ (k0_mult273 v4720).toNat := fun v4720 k0_hw273 => k0_hw273.1
theorem k0_off560_inb : ∀ (v4720 : BitVec 32) (k0_hw273 : k0_chk273 v4720), ∀ a, (k0_off560 v4720) a + S8x512.size a ≤ S20000x512.size a := fun v4720 k0_hw273 => k0_hw273.2

def k0_off561 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1642 : BitVec 32 := 256#32
  let v4734 : BitVec 32 := Scalar.addi v63 c256_i32_1642
  let c17_i32_1643 : BitVec 32 := 17#32
  let v4735 : BitVec 32 := Scalar.addi v4734 c17_i32_1643
  let v4736 : Index := Scalar.indexCast v4735
  ![v4736.toNat]
def k0_mult274 (v4737 : BitVec 32) : BitVec 32 :=
  let c3_i32_1644 : BitVec 32 := 3#32
  let v4738 : BitVec 32 := Scalar.shrsi v4737 c3_i32_1644
  let c3_i32_1645 : BitVec 32 := 3#32
  let v4739 : BitVec 32 := Scalar.shli v4738 c3_i32_1645
  v4739

def k0_off562 (v4737 : BitVec 32) : Fin 2 → Nat :=
  let c3_i32_1644 : BitVec 32 := 3#32
  let v4738 : BitVec 32 := Scalar.shrsi v4737 c3_i32_1644
  let c3_i32_1645 : BitVec 32 := 3#32
  let v4739 : BitVec 32 := Scalar.shli v4738 c3_i32_1645
  let v4740 : BitVec 32 := v4739
  let v4741 : Index := Scalar.indexCast v4740
  let c0_1646 : Index := 0#32
  ![v4741.toNat, 0]

def k0_chk274 (v4737 : BitVec 32) : Prop :=
  (8 ∣ (k0_mult274 v4737).toNat) ∧
  (∀ a, (k0_off562 v4737) a + S8x512.size a ≤ S20000x512.size a)
theorem k0_mult274_dvd : ∀ (v4737 : BitVec 32) (k0_hw274 : k0_chk274 v4737), 8 ∣ (k0_mult274 v4737).toNat := fun v4737 k0_hw274 => k0_hw274.1
theorem k0_off562_inb : ∀ (v4737 : BitVec 32) (k0_hw274 : k0_chk274 v4737), ∀ a, (k0_off562 v4737) a + S8x512.size a ≤ S20000x512.size a := fun v4737 k0_hw274 => k0_hw274.2

def k0_off563 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1648 : BitVec 32 := 256#32
  let v4751 : BitVec 32 := Scalar.addi v63 c256_i32_1648
  let c18_i32_1649 : BitVec 32 := 18#32
  let v4752 : BitVec 32 := Scalar.addi v4751 c18_i32_1649
  let v4753 : Index := Scalar.indexCast v4752
  ![v4753.toNat]
def k0_mult275 (v4754 : BitVec 32) : BitVec 32 :=
  let c3_i32_1650 : BitVec 32 := 3#32
  let v4755 : BitVec 32 := Scalar.shrsi v4754 c3_i32_1650
  let c3_i32_1651 : BitVec 32 := 3#32
  let v4756 : BitVec 32 := Scalar.shli v4755 c3_i32_1651
  v4756

def k0_off564 (v4754 : BitVec 32) : Fin 2 → Nat :=
  let c3_i32_1650 : BitVec 32 := 3#32
  let v4755 : BitVec 32 := Scalar.shrsi v4754 c3_i32_1650
  let c3_i32_1651 : BitVec 32 := 3#32
  let v4756 : BitVec 32 := Scalar.shli v4755 c3_i32_1651
  let v4757 : BitVec 32 := v4756
  let v4758 : Index := Scalar.indexCast v4757
  let c0_1652 : Index := 0#32
  ![v4758.toNat, 0]

def k0_chk275 (v4754 : BitVec 32) : Prop :=
  (8 ∣ (k0_mult275 v4754).toNat) ∧
  (∀ a, (k0_off564 v4754) a + S8x512.size a ≤ S20000x512.size a)
theorem k0_mult275_dvd : ∀ (v4754 : BitVec 32) (k0_hw275 : k0_chk275 v4754), 8 ∣ (k0_mult275 v4754).toNat := fun v4754 k0_hw275 => k0_hw275.1
theorem k0_off564_inb : ∀ (v4754 : BitVec 32) (k0_hw275 : k0_chk275 v4754), ∀ a, (k0_off564 v4754) a + S8x512.size a ≤ S20000x512.size a := fun v4754 k0_hw275 => k0_hw275.2

def k0_off565 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1654 : BitVec 32 := 256#32
  let v4768 : BitVec 32 := Scalar.addi v63 c256_i32_1654
  let c19_i32_1655 : BitVec 32 := 19#32
  let v4769 : BitVec 32 := Scalar.addi v4768 c19_i32_1655
  let v4770 : Index := Scalar.indexCast v4769
  ![v4770.toNat]
def k0_mult276 (v4771 : BitVec 32) : BitVec 32 :=
  let c3_i32_1656 : BitVec 32 := 3#32
  let v4772 : BitVec 32 := Scalar.shrsi v4771 c3_i32_1656
  let c3_i32_1657 : BitVec 32 := 3#32
  let v4773 : BitVec 32 := Scalar.shli v4772 c3_i32_1657
  v4773

def k0_off566 (v4771 : BitVec 32) : Fin 2 → Nat :=
  let c3_i32_1656 : BitVec 32 := 3#32
  let v4772 : BitVec 32 := Scalar.shrsi v4771 c3_i32_1656
  let c3_i32_1657 : BitVec 32 := 3#32
  let v4773 : BitVec 32 := Scalar.shli v4772 c3_i32_1657
  let v4774 : BitVec 32 := v4773
  let v4775 : Index := Scalar.indexCast v4774
  let c0_1658 : Index := 0#32
  ![v4775.toNat, 0]

def k0_chk276 (v4771 : BitVec 32) : Prop :=
  (8 ∣ (k0_mult276 v4771).toNat) ∧
  (∀ a, (k0_off566 v4771) a + S8x512.size a ≤ S20000x512.size a)
theorem k0_mult276_dvd : ∀ (v4771 : BitVec 32) (k0_hw276 : k0_chk276 v4771), 8 ∣ (k0_mult276 v4771).toNat := fun v4771 k0_hw276 => k0_hw276.1
theorem k0_off566_inb : ∀ (v4771 : BitVec 32) (k0_hw276 : k0_chk276 v4771), ∀ a, (k0_off566 v4771) a + S8x512.size a ≤ S20000x512.size a := fun v4771 k0_hw276 => k0_hw276.2

def k0_off567 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1660 : BitVec 32 := 256#32
  let v4785 : BitVec 32 := Scalar.addi v63 c256_i32_1660
  let c20_i32_1661 : BitVec 32 := 20#32
  let v4786 : BitVec 32 := Scalar.addi v4785 c20_i32_1661
  let v4787 : Index := Scalar.indexCast v4786
  ![v4787.toNat]
def k0_mult277 (v4788 : BitVec 32) : BitVec 32 :=
  let c3_i32_1662 : BitVec 32 := 3#32
  let v4789 : BitVec 32 := Scalar.shrsi v4788 c3_i32_1662
  let c3_i32_1663 : BitVec 32 := 3#32
  let v4790 : BitVec 32 := Scalar.shli v4789 c3_i32_1663
  v4790

def k0_off568 (v4788 : BitVec 32) : Fin 2 → Nat :=
  let c3_i32_1662 : BitVec 32 := 3#32
  let v4789 : BitVec 32 := Scalar.shrsi v4788 c3_i32_1662
  let c3_i32_1663 : BitVec 32 := 3#32
  let v4790 : BitVec 32 := Scalar.shli v4789 c3_i32_1663
  let v4791 : BitVec 32 := v4790
  let v4792 : Index := Scalar.indexCast v4791
  let c0_1664 : Index := 0#32
  ![v4792.toNat, 0]

def k0_chk277 (v4788 : BitVec 32) : Prop :=
  (8 ∣ (k0_mult277 v4788).toNat) ∧
  (∀ a, (k0_off568 v4788) a + S8x512.size a ≤ S20000x512.size a)
theorem k0_mult277_dvd : ∀ (v4788 : BitVec 32) (k0_hw277 : k0_chk277 v4788), 8 ∣ (k0_mult277 v4788).toNat := fun v4788 k0_hw277 => k0_hw277.1
theorem k0_off568_inb : ∀ (v4788 : BitVec 32) (k0_hw277 : k0_chk277 v4788), ∀ a, (k0_off568 v4788) a + S8x512.size a ≤ S20000x512.size a := fun v4788 k0_hw277 => k0_hw277.2

def k0_off569 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1666 : BitVec 32 := 256#32
  let v4802 : BitVec 32 := Scalar.addi v63 c256_i32_1666
  let c21_i32_1667 : BitVec 32 := 21#32
  let v4803 : BitVec 32 := Scalar.addi v4802 c21_i32_1667
  let v4804 : Index := Scalar.indexCast v4803
  ![v4804.toNat]
def k0_mult278 (v4805 : BitVec 32) : BitVec 32 :=
  let c3_i32_1668 : BitVec 32 := 3#32
  let v4806 : BitVec 32 := Scalar.shrsi v4805 c3_i32_1668
  let c3_i32_1669 : BitVec 32 := 3#32
  let v4807 : BitVec 32 := Scalar.shli v4806 c3_i32_1669
  v4807

def k0_off570 (v4805 : BitVec 32) : Fin 2 → Nat :=
  let c3_i32_1668 : BitVec 32 := 3#32
  let v4806 : BitVec 32 := Scalar.shrsi v4805 c3_i32_1668
  let c3_i32_1669 : BitVec 32 := 3#32
  let v4807 : BitVec 32 := Scalar.shli v4806 c3_i32_1669
  let v4808 : BitVec 32 := v4807
  let v4809 : Index := Scalar.indexCast v4808
  let c0_1670 : Index := 0#32
  ![v4809.toNat, 0]

def k0_chk278 (v4805 : BitVec 32) : Prop :=
  (8 ∣ (k0_mult278 v4805).toNat) ∧
  (∀ a, (k0_off570 v4805) a + S8x512.size a ≤ S20000x512.size a)
theorem k0_mult278_dvd : ∀ (v4805 : BitVec 32) (k0_hw278 : k0_chk278 v4805), 8 ∣ (k0_mult278 v4805).toNat := fun v4805 k0_hw278 => k0_hw278.1
theorem k0_off570_inb : ∀ (v4805 : BitVec 32) (k0_hw278 : k0_chk278 v4805), ∀ a, (k0_off570 v4805) a + S8x512.size a ≤ S20000x512.size a := fun v4805 k0_hw278 => k0_hw278.2

def k0_off571 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1672 : BitVec 32 := 256#32
  let v4819 : BitVec 32 := Scalar.addi v63 c256_i32_1672
  let c22_i32_1673 : BitVec 32 := 22#32
  let v4820 : BitVec 32 := Scalar.addi v4819 c22_i32_1673
  let v4821 : Index := Scalar.indexCast v4820
  ![v4821.toNat]
def k0_mult279 (v4822 : BitVec 32) : BitVec 32 :=
  let c3_i32_1674 : BitVec 32 := 3#32
  let v4823 : BitVec 32 := Scalar.shrsi v4822 c3_i32_1674
  let c3_i32_1675 : BitVec 32 := 3#32
  let v4824 : BitVec 32 := Scalar.shli v4823 c3_i32_1675
  v4824

def k0_off572 (v4822 : BitVec 32) : Fin 2 → Nat :=
  let c3_i32_1674 : BitVec 32 := 3#32
  let v4823 : BitVec 32 := Scalar.shrsi v4822 c3_i32_1674
  let c3_i32_1675 : BitVec 32 := 3#32
  let v4824 : BitVec 32 := Scalar.shli v4823 c3_i32_1675
  let v4825 : BitVec 32 := v4824
  let v4826 : Index := Scalar.indexCast v4825
  let c0_1676 : Index := 0#32
  ![v4826.toNat, 0]

def k0_chk279 (v4822 : BitVec 32) : Prop :=
  (8 ∣ (k0_mult279 v4822).toNat) ∧
  (∀ a, (k0_off572 v4822) a + S8x512.size a ≤ S20000x512.size a)
theorem k0_mult279_dvd : ∀ (v4822 : BitVec 32) (k0_hw279 : k0_chk279 v4822), 8 ∣ (k0_mult279 v4822).toNat := fun v4822 k0_hw279 => k0_hw279.1
theorem k0_off572_inb : ∀ (v4822 : BitVec 32) (k0_hw279 : k0_chk279 v4822), ∀ a, (k0_off572 v4822) a + S8x512.size a ≤ S20000x512.size a := fun v4822 k0_hw279 => k0_hw279.2

def k0_off573 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1678 : BitVec 32 := 256#32
  let v4836 : BitVec 32 := Scalar.addi v63 c256_i32_1678
  let c23_i32_1679 : BitVec 32 := 23#32
  let v4837 : BitVec 32 := Scalar.addi v4836 c23_i32_1679
  let v4838 : Index := Scalar.indexCast v4837
  ![v4838.toNat]
def k0_mult280 (v4839 : BitVec 32) : BitVec 32 :=
  let c3_i32_1680 : BitVec 32 := 3#32
  let v4840 : BitVec 32 := Scalar.shrsi v4839 c3_i32_1680
  let c3_i32_1681 : BitVec 32 := 3#32
  let v4841 : BitVec 32 := Scalar.shli v4840 c3_i32_1681
  v4841

def k0_off574 (v4839 : BitVec 32) : Fin 2 → Nat :=
  let c3_i32_1680 : BitVec 32 := 3#32
  let v4840 : BitVec 32 := Scalar.shrsi v4839 c3_i32_1680
  let c3_i32_1681 : BitVec 32 := 3#32
  let v4841 : BitVec 32 := Scalar.shli v4840 c3_i32_1681
  let v4842 : BitVec 32 := v4841
  let v4843 : Index := Scalar.indexCast v4842
  let c0_1682 : Index := 0#32
  ![v4843.toNat, 0]

def k0_chk280 (v4839 : BitVec 32) : Prop :=
  (8 ∣ (k0_mult280 v4839).toNat) ∧
  (∀ a, (k0_off574 v4839) a + S8x512.size a ≤ S20000x512.size a)
theorem k0_mult280_dvd : ∀ (v4839 : BitVec 32) (k0_hw280 : k0_chk280 v4839), 8 ∣ (k0_mult280 v4839).toNat := fun v4839 k0_hw280 => k0_hw280.1
theorem k0_off574_inb : ∀ (v4839 : BitVec 32) (k0_hw280 : k0_chk280 v4839), ∀ a, (k0_off574 v4839) a + S8x512.size a ≤ S20000x512.size a := fun v4839 k0_hw280 => k0_hw280.2

def k0_off575 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1684 : BitVec 32 := 256#32
  let v4853 : BitVec 32 := Scalar.addi v63 c256_i32_1684
  let c24_i32_1685 : BitVec 32 := 24#32
  let v4854 : BitVec 32 := Scalar.addi v4853 c24_i32_1685
  let v4855 : Index := Scalar.indexCast v4854
  ![v4855.toNat]
def k0_mult281 (v4856 : BitVec 32) : BitVec 32 :=
  let c3_i32_1686 : BitVec 32 := 3#32
  let v4857 : BitVec 32 := Scalar.shrsi v4856 c3_i32_1686
  let c3_i32_1687 : BitVec 32 := 3#32
  let v4858 : BitVec 32 := Scalar.shli v4857 c3_i32_1687
  v4858

def k0_off576 (v4856 : BitVec 32) : Fin 2 → Nat :=
  let c3_i32_1686 : BitVec 32 := 3#32
  let v4857 : BitVec 32 := Scalar.shrsi v4856 c3_i32_1686
  let c3_i32_1687 : BitVec 32 := 3#32
  let v4858 : BitVec 32 := Scalar.shli v4857 c3_i32_1687
  let v4859 : BitVec 32 := v4858
  let v4860 : Index := Scalar.indexCast v4859
  let c0_1688 : Index := 0#32
  ![v4860.toNat, 0]

def k0_chk281 (v4856 : BitVec 32) : Prop :=
  (8 ∣ (k0_mult281 v4856).toNat) ∧
  (∀ a, (k0_off576 v4856) a + S8x512.size a ≤ S20000x512.size a)
theorem k0_mult281_dvd : ∀ (v4856 : BitVec 32) (k0_hw281 : k0_chk281 v4856), 8 ∣ (k0_mult281 v4856).toNat := fun v4856 k0_hw281 => k0_hw281.1
theorem k0_off576_inb : ∀ (v4856 : BitVec 32) (k0_hw281 : k0_chk281 v4856), ∀ a, (k0_off576 v4856) a + S8x512.size a ≤ S20000x512.size a := fun v4856 k0_hw281 => k0_hw281.2

def k0_off577 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1690 : BitVec 32 := 256#32
  let v4870 : BitVec 32 := Scalar.addi v63 c256_i32_1690
  let c25_i32_1691 : BitVec 32 := 25#32
  let v4871 : BitVec 32 := Scalar.addi v4870 c25_i32_1691
  let v4872 : Index := Scalar.indexCast v4871
  ![v4872.toNat]
def k0_mult282 (v4873 : BitVec 32) : BitVec 32 :=
  let c3_i32_1692 : BitVec 32 := 3#32
  let v4874 : BitVec 32 := Scalar.shrsi v4873 c3_i32_1692
  let c3_i32_1693 : BitVec 32 := 3#32
  let v4875 : BitVec 32 := Scalar.shli v4874 c3_i32_1693
  v4875

def k0_off578 (v4873 : BitVec 32) : Fin 2 → Nat :=
  let c3_i32_1692 : BitVec 32 := 3#32
  let v4874 : BitVec 32 := Scalar.shrsi v4873 c3_i32_1692
  let c3_i32_1693 : BitVec 32 := 3#32
  let v4875 : BitVec 32 := Scalar.shli v4874 c3_i32_1693
  let v4876 : BitVec 32 := v4875
  let v4877 : Index := Scalar.indexCast v4876
  let c0_1694 : Index := 0#32
  ![v4877.toNat, 0]

def k0_chk282 (v4873 : BitVec 32) : Prop :=
  (8 ∣ (k0_mult282 v4873).toNat) ∧
  (∀ a, (k0_off578 v4873) a + S8x512.size a ≤ S20000x512.size a)
theorem k0_mult282_dvd : ∀ (v4873 : BitVec 32) (k0_hw282 : k0_chk282 v4873), 8 ∣ (k0_mult282 v4873).toNat := fun v4873 k0_hw282 => k0_hw282.1
theorem k0_off578_inb : ∀ (v4873 : BitVec 32) (k0_hw282 : k0_chk282 v4873), ∀ a, (k0_off578 v4873) a + S8x512.size a ≤ S20000x512.size a := fun v4873 k0_hw282 => k0_hw282.2

def k0_off579 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1696 : BitVec 32 := 256#32
  let v4887 : BitVec 32 := Scalar.addi v63 c256_i32_1696
  let c26_i32_1697 : BitVec 32 := 26#32
  let v4888 : BitVec 32 := Scalar.addi v4887 c26_i32_1697
  let v4889 : Index := Scalar.indexCast v4888
  ![v4889.toNat]
def k0_mult283 (v4890 : BitVec 32) : BitVec 32 :=
  let c3_i32_1698 : BitVec 32 := 3#32
  let v4891 : BitVec 32 := Scalar.shrsi v4890 c3_i32_1698
  let c3_i32_1699 : BitVec 32 := 3#32
  let v4892 : BitVec 32 := Scalar.shli v4891 c3_i32_1699
  v4892

def k0_off580 (v4890 : BitVec 32) : Fin 2 → Nat :=
  let c3_i32_1698 : BitVec 32 := 3#32
  let v4891 : BitVec 32 := Scalar.shrsi v4890 c3_i32_1698
  let c3_i32_1699 : BitVec 32 := 3#32
  let v4892 : BitVec 32 := Scalar.shli v4891 c3_i32_1699
  let v4893 : BitVec 32 := v4892
  let v4894 : Index := Scalar.indexCast v4893
  let c0_1700 : Index := 0#32
  ![v4894.toNat, 0]

def k0_chk283 (v4890 : BitVec 32) : Prop :=
  (8 ∣ (k0_mult283 v4890).toNat) ∧
  (∀ a, (k0_off580 v4890) a + S8x512.size a ≤ S20000x512.size a)
theorem k0_mult283_dvd : ∀ (v4890 : BitVec 32) (k0_hw283 : k0_chk283 v4890), 8 ∣ (k0_mult283 v4890).toNat := fun v4890 k0_hw283 => k0_hw283.1
theorem k0_off580_inb : ∀ (v4890 : BitVec 32) (k0_hw283 : k0_chk283 v4890), ∀ a, (k0_off580 v4890) a + S8x512.size a ≤ S20000x512.size a := fun v4890 k0_hw283 => k0_hw283.2

def k0_off581 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1702 : BitVec 32 := 256#32
  let v4904 : BitVec 32 := Scalar.addi v63 c256_i32_1702
  let c27_i32_1703 : BitVec 32 := 27#32
  let v4905 : BitVec 32 := Scalar.addi v4904 c27_i32_1703
  let v4906 : Index := Scalar.indexCast v4905
  ![v4906.toNat]
def k0_mult284 (v4907 : BitVec 32) : BitVec 32 :=
  let c3_i32_1704 : BitVec 32 := 3#32
  let v4908 : BitVec 32 := Scalar.shrsi v4907 c3_i32_1704
  let c3_i32_1705 : BitVec 32 := 3#32
  let v4909 : BitVec 32 := Scalar.shli v4908 c3_i32_1705
  v4909

def k0_off582 (v4907 : BitVec 32) : Fin 2 → Nat :=
  let c3_i32_1704 : BitVec 32 := 3#32
  let v4908 : BitVec 32 := Scalar.shrsi v4907 c3_i32_1704
  let c3_i32_1705 : BitVec 32 := 3#32
  let v4909 : BitVec 32 := Scalar.shli v4908 c3_i32_1705
  let v4910 : BitVec 32 := v4909
  let v4911 : Index := Scalar.indexCast v4910
  let c0_1706 : Index := 0#32
  ![v4911.toNat, 0]

def k0_chk284 (v4907 : BitVec 32) : Prop :=
  (8 ∣ (k0_mult284 v4907).toNat) ∧
  (∀ a, (k0_off582 v4907) a + S8x512.size a ≤ S20000x512.size a)
theorem k0_mult284_dvd : ∀ (v4907 : BitVec 32) (k0_hw284 : k0_chk284 v4907), 8 ∣ (k0_mult284 v4907).toNat := fun v4907 k0_hw284 => k0_hw284.1
theorem k0_off582_inb : ∀ (v4907 : BitVec 32) (k0_hw284 : k0_chk284 v4907), ∀ a, (k0_off582 v4907) a + S8x512.size a ≤ S20000x512.size a := fun v4907 k0_hw284 => k0_hw284.2

def k0_off583 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1708 : BitVec 32 := 256#32
  let v4921 : BitVec 32 := Scalar.addi v63 c256_i32_1708
  let c28_i32_1709 : BitVec 32 := 28#32
  let v4922 : BitVec 32 := Scalar.addi v4921 c28_i32_1709
  let v4923 : Index := Scalar.indexCast v4922
  ![v4923.toNat]
def k0_mult285 (v4924 : BitVec 32) : BitVec 32 :=
  let c3_i32_1710 : BitVec 32 := 3#32
  let v4925 : BitVec 32 := Scalar.shrsi v4924 c3_i32_1710
  let c3_i32_1711 : BitVec 32 := 3#32
  let v4926 : BitVec 32 := Scalar.shli v4925 c3_i32_1711
  v4926

def k0_off584 (v4924 : BitVec 32) : Fin 2 → Nat :=
  let c3_i32_1710 : BitVec 32 := 3#32
  let v4925 : BitVec 32 := Scalar.shrsi v4924 c3_i32_1710
  let c3_i32_1711 : BitVec 32 := 3#32
  let v4926 : BitVec 32 := Scalar.shli v4925 c3_i32_1711
  let v4927 : BitVec 32 := v4926
  let v4928 : Index := Scalar.indexCast v4927
  let c0_1712 : Index := 0#32
  ![v4928.toNat, 0]

def k0_chk285 (v4924 : BitVec 32) : Prop :=
  (8 ∣ (k0_mult285 v4924).toNat) ∧
  (∀ a, (k0_off584 v4924) a + S8x512.size a ≤ S20000x512.size a)
theorem k0_mult285_dvd : ∀ (v4924 : BitVec 32) (k0_hw285 : k0_chk285 v4924), 8 ∣ (k0_mult285 v4924).toNat := fun v4924 k0_hw285 => k0_hw285.1
theorem k0_off584_inb : ∀ (v4924 : BitVec 32) (k0_hw285 : k0_chk285 v4924), ∀ a, (k0_off584 v4924) a + S8x512.size a ≤ S20000x512.size a := fun v4924 k0_hw285 => k0_hw285.2

def k0_off585 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1714 : BitVec 32 := 256#32
  let v4938 : BitVec 32 := Scalar.addi v63 c256_i32_1714
  let c29_i32_1715 : BitVec 32 := 29#32
  let v4939 : BitVec 32 := Scalar.addi v4938 c29_i32_1715
  let v4940 : Index := Scalar.indexCast v4939
  ![v4940.toNat]
def k0_mult286 (v4941 : BitVec 32) : BitVec 32 :=
  let c3_i32_1716 : BitVec 32 := 3#32
  let v4942 : BitVec 32 := Scalar.shrsi v4941 c3_i32_1716
  let c3_i32_1717 : BitVec 32 := 3#32
  let v4943 : BitVec 32 := Scalar.shli v4942 c3_i32_1717
  v4943

def k0_off586 (v4941 : BitVec 32) : Fin 2 → Nat :=
  let c3_i32_1716 : BitVec 32 := 3#32
  let v4942 : BitVec 32 := Scalar.shrsi v4941 c3_i32_1716
  let c3_i32_1717 : BitVec 32 := 3#32
  let v4943 : BitVec 32 := Scalar.shli v4942 c3_i32_1717
  let v4944 : BitVec 32 := v4943
  let v4945 : Index := Scalar.indexCast v4944
  let c0_1718 : Index := 0#32
  ![v4945.toNat, 0]

def k0_chk286 (v4941 : BitVec 32) : Prop :=
  (8 ∣ (k0_mult286 v4941).toNat) ∧
  (∀ a, (k0_off586 v4941) a + S8x512.size a ≤ S20000x512.size a)
theorem k0_mult286_dvd : ∀ (v4941 : BitVec 32) (k0_hw286 : k0_chk286 v4941), 8 ∣ (k0_mult286 v4941).toNat := fun v4941 k0_hw286 => k0_hw286.1
theorem k0_off586_inb : ∀ (v4941 : BitVec 32) (k0_hw286 : k0_chk286 v4941), ∀ a, (k0_off586 v4941) a + S8x512.size a ≤ S20000x512.size a := fun v4941 k0_hw286 => k0_hw286.2

def k0_off587 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1720 : BitVec 32 := 256#32
  let v4955 : BitVec 32 := Scalar.addi v63 c256_i32_1720
  let c30_i32_1721 : BitVec 32 := 30#32
  let v4956 : BitVec 32 := Scalar.addi v4955 c30_i32_1721
  let v4957 : Index := Scalar.indexCast v4956
  ![v4957.toNat]
def k0_mult287 (v4958 : BitVec 32) : BitVec 32 :=
  let c3_i32_1722 : BitVec 32 := 3#32
  let v4959 : BitVec 32 := Scalar.shrsi v4958 c3_i32_1722
  let c3_i32_1723 : BitVec 32 := 3#32
  let v4960 : BitVec 32 := Scalar.shli v4959 c3_i32_1723
  v4960

def k0_off588 (v4958 : BitVec 32) : Fin 2 → Nat :=
  let c3_i32_1722 : BitVec 32 := 3#32
  let v4959 : BitVec 32 := Scalar.shrsi v4958 c3_i32_1722
  let c3_i32_1723 : BitVec 32 := 3#32
  let v4960 : BitVec 32 := Scalar.shli v4959 c3_i32_1723
  let v4961 : BitVec 32 := v4960
  let v4962 : Index := Scalar.indexCast v4961
  let c0_1724 : Index := 0#32
  ![v4962.toNat, 0]

def k0_chk287 (v4958 : BitVec 32) : Prop :=
  (8 ∣ (k0_mult287 v4958).toNat) ∧
  (∀ a, (k0_off588 v4958) a + S8x512.size a ≤ S20000x512.size a)
theorem k0_mult287_dvd : ∀ (v4958 : BitVec 32) (k0_hw287 : k0_chk287 v4958), 8 ∣ (k0_mult287 v4958).toNat := fun v4958 k0_hw287 => k0_hw287.1
theorem k0_off588_inb : ∀ (v4958 : BitVec 32) (k0_hw287 : k0_chk287 v4958), ∀ a, (k0_off588 v4958) a + S8x512.size a ≤ S20000x512.size a := fun v4958 k0_hw287 => k0_hw287.2

def k0_off589 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1726 : BitVec 32 := 256#32
  let v4972 : BitVec 32 := Scalar.addi v63 c256_i32_1726
  let c31_i32_1727 : BitVec 32 := 31#32
  let v4973 : BitVec 32 := Scalar.addi v4972 c31_i32_1727
  let v4974 : Index := Scalar.indexCast v4973
  ![v4974.toNat]
def k0_mult288 (v4975 : BitVec 32) : BitVec 32 :=
  let c3_i32_1728 : BitVec 32 := 3#32
  let v4976 : BitVec 32 := Scalar.shrsi v4975 c3_i32_1728
  let c3_i32_1729 : BitVec 32 := 3#32
  let v4977 : BitVec 32 := Scalar.shli v4976 c3_i32_1729
  v4977

def k0_off590 (v4975 : BitVec 32) : Fin 2 → Nat :=
  let c3_i32_1728 : BitVec 32 := 3#32
  let v4976 : BitVec 32 := Scalar.shrsi v4975 c3_i32_1728
  let c3_i32_1729 : BitVec 32 := 3#32
  let v4977 : BitVec 32 := Scalar.shli v4976 c3_i32_1729
  let v4978 : BitVec 32 := v4977
  let v4979 : Index := Scalar.indexCast v4978
  let c0_1730 : Index := 0#32
  ![v4979.toNat, 0]

def k0_chk288 (v4975 : BitVec 32) : Prop :=
  (8 ∣ (k0_mult288 v4975).toNat) ∧
  (∀ a, (k0_off590 v4975) a + S8x512.size a ≤ S20000x512.size a)
theorem k0_mult288_dvd : ∀ (v4975 : BitVec 32) (k0_hw288 : k0_chk288 v4975), 8 ∣ (k0_mult288 v4975).toNat := fun v4975 k0_hw288 => k0_hw288.1
theorem k0_off590_inb : ∀ (v4975 : BitVec 32) (k0_hw288 : k0_chk288 v4975), ∀ a, (k0_off590 v4975) a + S8x512.size a ≤ S20000x512.size a := fun v4975 k0_hw288 => k0_hw288.2

def k0_off591 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1732 : BitVec 32 := 256#32
  let v4989 : BitVec 32 := Scalar.addi v63 c256_i32_1732
  let c32_i32_1733 : BitVec 32 := 32#32
  let v4990 : BitVec 32 := Scalar.addi v4989 c32_i32_1733
  let v4991 : Index := Scalar.indexCast v4990
  ![v4991.toNat]
def k0_mult289 (v4992 : BitVec 32) : BitVec 32 :=
  let c3_i32_1734 : BitVec 32 := 3#32
  let v4993 : BitVec 32 := Scalar.shrsi v4992 c3_i32_1734
  let c3_i32_1735 : BitVec 32 := 3#32
  let v4994 : BitVec 32 := Scalar.shli v4993 c3_i32_1735
  v4994

def k0_off592 (v4992 : BitVec 32) : Fin 2 → Nat :=
  let c3_i32_1734 : BitVec 32 := 3#32
  let v4993 : BitVec 32 := Scalar.shrsi v4992 c3_i32_1734
  let c3_i32_1735 : BitVec 32 := 3#32
  let v4994 : BitVec 32 := Scalar.shli v4993 c3_i32_1735
  let v4995 : BitVec 32 := v4994
  let v4996 : Index := Scalar.indexCast v4995
  let c0_1736 : Index := 0#32
  ![v4996.toNat, 0]

def k0_chk289 (v4992 : BitVec 32) : Prop :=
  (8 ∣ (k0_mult289 v4992).toNat) ∧
  (∀ a, (k0_off592 v4992) a + S8x512.size a ≤ S20000x512.size a)
theorem k0_mult289_dvd : ∀ (v4992 : BitVec 32) (k0_hw289 : k0_chk289 v4992), 8 ∣ (k0_mult289 v4992).toNat := fun v4992 k0_hw289 => k0_hw289.1
theorem k0_off592_inb : ∀ (v4992 : BitVec 32) (k0_hw289 : k0_chk289 v4992), ∀ a, (k0_off592 v4992) a + S8x512.size a ≤ S20000x512.size a := fun v4992 k0_hw289 => k0_hw289.2

def k0_off593 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1738 : BitVec 32 := 256#32
  let v5006 : BitVec 32 := Scalar.addi v63 c256_i32_1738
  let c33_i32_1739 : BitVec 32 := 33#32
  let v5007 : BitVec 32 := Scalar.addi v5006 c33_i32_1739
  let v5008 : Index := Scalar.indexCast v5007
  ![v5008.toNat]
def k0_mult290 (v5009 : BitVec 32) : BitVec 32 :=
  let c3_i32_1740 : BitVec 32 := 3#32
  let v5010 : BitVec 32 := Scalar.shrsi v5009 c3_i32_1740
  let c3_i32_1741 : BitVec 32 := 3#32
  let v5011 : BitVec 32 := Scalar.shli v5010 c3_i32_1741
  v5011

def k0_off594 (v5009 : BitVec 32) : Fin 2 → Nat :=
  let c3_i32_1740 : BitVec 32 := 3#32
  let v5010 : BitVec 32 := Scalar.shrsi v5009 c3_i32_1740
  let c3_i32_1741 : BitVec 32 := 3#32
  let v5011 : BitVec 32 := Scalar.shli v5010 c3_i32_1741
  let v5012 : BitVec 32 := v5011
  let v5013 : Index := Scalar.indexCast v5012
  let c0_1742 : Index := 0#32
  ![v5013.toNat, 0]

def k0_chk290 (v5009 : BitVec 32) : Prop :=
  (8 ∣ (k0_mult290 v5009).toNat) ∧
  (∀ a, (k0_off594 v5009) a + S8x512.size a ≤ S20000x512.size a)
theorem k0_mult290_dvd : ∀ (v5009 : BitVec 32) (k0_hw290 : k0_chk290 v5009), 8 ∣ (k0_mult290 v5009).toNat := fun v5009 k0_hw290 => k0_hw290.1
theorem k0_off594_inb : ∀ (v5009 : BitVec 32) (k0_hw290 : k0_chk290 v5009), ∀ a, (k0_off594 v5009) a + S8x512.size a ≤ S20000x512.size a := fun v5009 k0_hw290 => k0_hw290.2

def k0_off595 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1744 : BitVec 32 := 256#32
  let v5023 : BitVec 32 := Scalar.addi v63 c256_i32_1744
  let c34_i32_1745 : BitVec 32 := 34#32
  let v5024 : BitVec 32 := Scalar.addi v5023 c34_i32_1745
  let v5025 : Index := Scalar.indexCast v5024
  ![v5025.toNat]
def k0_mult291 (v5026 : BitVec 32) : BitVec 32 :=
  let c3_i32_1746 : BitVec 32 := 3#32
  let v5027 : BitVec 32 := Scalar.shrsi v5026 c3_i32_1746
  let c3_i32_1747 : BitVec 32 := 3#32
  let v5028 : BitVec 32 := Scalar.shli v5027 c3_i32_1747
  v5028

def k0_off596 (v5026 : BitVec 32) : Fin 2 → Nat :=
  let c3_i32_1746 : BitVec 32 := 3#32
  let v5027 : BitVec 32 := Scalar.shrsi v5026 c3_i32_1746
  let c3_i32_1747 : BitVec 32 := 3#32
  let v5028 : BitVec 32 := Scalar.shli v5027 c3_i32_1747
  let v5029 : BitVec 32 := v5028
  let v5030 : Index := Scalar.indexCast v5029
  let c0_1748 : Index := 0#32
  ![v5030.toNat, 0]

def k0_chk291 (v5026 : BitVec 32) : Prop :=
  (8 ∣ (k0_mult291 v5026).toNat) ∧
  (∀ a, (k0_off596 v5026) a + S8x512.size a ≤ S20000x512.size a)
theorem k0_mult291_dvd : ∀ (v5026 : BitVec 32) (k0_hw291 : k0_chk291 v5026), 8 ∣ (k0_mult291 v5026).toNat := fun v5026 k0_hw291 => k0_hw291.1
theorem k0_off596_inb : ∀ (v5026 : BitVec 32) (k0_hw291 : k0_chk291 v5026), ∀ a, (k0_off596 v5026) a + S8x512.size a ≤ S20000x512.size a := fun v5026 k0_hw291 => k0_hw291.2

def k0_off597 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1750 : BitVec 32 := 256#32
  let v5040 : BitVec 32 := Scalar.addi v63 c256_i32_1750
  let c35_i32_1751 : BitVec 32 := 35#32
  let v5041 : BitVec 32 := Scalar.addi v5040 c35_i32_1751
  let v5042 : Index := Scalar.indexCast v5041
  ![v5042.toNat]
def k0_mult292 (v5043 : BitVec 32) : BitVec 32 :=
  let c3_i32_1752 : BitVec 32 := 3#32
  let v5044 : BitVec 32 := Scalar.shrsi v5043 c3_i32_1752
  let c3_i32_1753 : BitVec 32 := 3#32
  let v5045 : BitVec 32 := Scalar.shli v5044 c3_i32_1753
  v5045

def k0_off598 (v5043 : BitVec 32) : Fin 2 → Nat :=
  let c3_i32_1752 : BitVec 32 := 3#32
  let v5044 : BitVec 32 := Scalar.shrsi v5043 c3_i32_1752
  let c3_i32_1753 : BitVec 32 := 3#32
  let v5045 : BitVec 32 := Scalar.shli v5044 c3_i32_1753
  let v5046 : BitVec 32 := v5045
  let v5047 : Index := Scalar.indexCast v5046
  let c0_1754 : Index := 0#32
  ![v5047.toNat, 0]

def k0_chk292 (v5043 : BitVec 32) : Prop :=
  (8 ∣ (k0_mult292 v5043).toNat) ∧
  (∀ a, (k0_off598 v5043) a + S8x512.size a ≤ S20000x512.size a)
theorem k0_mult292_dvd : ∀ (v5043 : BitVec 32) (k0_hw292 : k0_chk292 v5043), 8 ∣ (k0_mult292 v5043).toNat := fun v5043 k0_hw292 => k0_hw292.1
theorem k0_off598_inb : ∀ (v5043 : BitVec 32) (k0_hw292 : k0_chk292 v5043), ∀ a, (k0_off598 v5043) a + S8x512.size a ≤ S20000x512.size a := fun v5043 k0_hw292 => k0_hw292.2

def k0_off599 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1756 : BitVec 32 := 256#32
  let v5057 : BitVec 32 := Scalar.addi v63 c256_i32_1756
  let c36_i32_1757 : BitVec 32 := 36#32
  let v5058 : BitVec 32 := Scalar.addi v5057 c36_i32_1757
  let v5059 : Index := Scalar.indexCast v5058
  ![v5059.toNat]
def k0_mult293 (v5060 : BitVec 32) : BitVec 32 :=
  let c3_i32_1758 : BitVec 32 := 3#32
  let v5061 : BitVec 32 := Scalar.shrsi v5060 c3_i32_1758
  let c3_i32_1759 : BitVec 32 := 3#32
  let v5062 : BitVec 32 := Scalar.shli v5061 c3_i32_1759
  v5062

def k0_off600 (v5060 : BitVec 32) : Fin 2 → Nat :=
  let c3_i32_1758 : BitVec 32 := 3#32
  let v5061 : BitVec 32 := Scalar.shrsi v5060 c3_i32_1758
  let c3_i32_1759 : BitVec 32 := 3#32
  let v5062 : BitVec 32 := Scalar.shli v5061 c3_i32_1759
  let v5063 : BitVec 32 := v5062
  let v5064 : Index := Scalar.indexCast v5063
  let c0_1760 : Index := 0#32
  ![v5064.toNat, 0]

def k0_chk293 (v5060 : BitVec 32) : Prop :=
  (8 ∣ (k0_mult293 v5060).toNat) ∧
  (∀ a, (k0_off600 v5060) a + S8x512.size a ≤ S20000x512.size a)
theorem k0_mult293_dvd : ∀ (v5060 : BitVec 32) (k0_hw293 : k0_chk293 v5060), 8 ∣ (k0_mult293 v5060).toNat := fun v5060 k0_hw293 => k0_hw293.1
theorem k0_off600_inb : ∀ (v5060 : BitVec 32) (k0_hw293 : k0_chk293 v5060), ∀ a, (k0_off600 v5060) a + S8x512.size a ≤ S20000x512.size a := fun v5060 k0_hw293 => k0_hw293.2

def k0_off601 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1762 : BitVec 32 := 256#32
  let v5074 : BitVec 32 := Scalar.addi v63 c256_i32_1762
  let c37_i32_1763 : BitVec 32 := 37#32
  let v5075 : BitVec 32 := Scalar.addi v5074 c37_i32_1763
  let v5076 : Index := Scalar.indexCast v5075
  ![v5076.toNat]
def k0_mult294 (v5077 : BitVec 32) : BitVec 32 :=
  let c3_i32_1764 : BitVec 32 := 3#32
  let v5078 : BitVec 32 := Scalar.shrsi v5077 c3_i32_1764
  let c3_i32_1765 : BitVec 32 := 3#32
  let v5079 : BitVec 32 := Scalar.shli v5078 c3_i32_1765
  v5079

def k0_off602 (v5077 : BitVec 32) : Fin 2 → Nat :=
  let c3_i32_1764 : BitVec 32 := 3#32
  let v5078 : BitVec 32 := Scalar.shrsi v5077 c3_i32_1764
  let c3_i32_1765 : BitVec 32 := 3#32
  let v5079 : BitVec 32 := Scalar.shli v5078 c3_i32_1765
  let v5080 : BitVec 32 := v5079
  let v5081 : Index := Scalar.indexCast v5080
  let c0_1766 : Index := 0#32
  ![v5081.toNat, 0]

def k0_chk294 (v5077 : BitVec 32) : Prop :=
  (8 ∣ (k0_mult294 v5077).toNat) ∧
  (∀ a, (k0_off602 v5077) a + S8x512.size a ≤ S20000x512.size a)
theorem k0_mult294_dvd : ∀ (v5077 : BitVec 32) (k0_hw294 : k0_chk294 v5077), 8 ∣ (k0_mult294 v5077).toNat := fun v5077 k0_hw294 => k0_hw294.1
theorem k0_off602_inb : ∀ (v5077 : BitVec 32) (k0_hw294 : k0_chk294 v5077), ∀ a, (k0_off602 v5077) a + S8x512.size a ≤ S20000x512.size a := fun v5077 k0_hw294 => k0_hw294.2

def k0_off603 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1768 : BitVec 32 := 256#32
  let v5091 : BitVec 32 := Scalar.addi v63 c256_i32_1768
  let c38_i32_1769 : BitVec 32 := 38#32
  let v5092 : BitVec 32 := Scalar.addi v5091 c38_i32_1769
  let v5093 : Index := Scalar.indexCast v5092
  ![v5093.toNat]
def k0_mult295 (v5094 : BitVec 32) : BitVec 32 :=
  let c3_i32_1770 : BitVec 32 := 3#32
  let v5095 : BitVec 32 := Scalar.shrsi v5094 c3_i32_1770
  let c3_i32_1771 : BitVec 32 := 3#32
  let v5096 : BitVec 32 := Scalar.shli v5095 c3_i32_1771
  v5096

def k0_off604 (v5094 : BitVec 32) : Fin 2 → Nat :=
  let c3_i32_1770 : BitVec 32 := 3#32
  let v5095 : BitVec 32 := Scalar.shrsi v5094 c3_i32_1770
  let c3_i32_1771 : BitVec 32 := 3#32
  let v5096 : BitVec 32 := Scalar.shli v5095 c3_i32_1771
  let v5097 : BitVec 32 := v5096
  let v5098 : Index := Scalar.indexCast v5097
  let c0_1772 : Index := 0#32
  ![v5098.toNat, 0]

def k0_chk295 (v5094 : BitVec 32) : Prop :=
  (8 ∣ (k0_mult295 v5094).toNat) ∧
  (∀ a, (k0_off604 v5094) a + S8x512.size a ≤ S20000x512.size a)
theorem k0_mult295_dvd : ∀ (v5094 : BitVec 32) (k0_hw295 : k0_chk295 v5094), 8 ∣ (k0_mult295 v5094).toNat := fun v5094 k0_hw295 => k0_hw295.1
theorem k0_off604_inb : ∀ (v5094 : BitVec 32) (k0_hw295 : k0_chk295 v5094), ∀ a, (k0_off604 v5094) a + S8x512.size a ≤ S20000x512.size a := fun v5094 k0_hw295 => k0_hw295.2

def k0_off605 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1774 : BitVec 32 := 256#32
  let v5108 : BitVec 32 := Scalar.addi v63 c256_i32_1774
  let c39_i32_1775 : BitVec 32 := 39#32
  let v5109 : BitVec 32 := Scalar.addi v5108 c39_i32_1775
  let v5110 : Index := Scalar.indexCast v5109
  ![v5110.toNat]
def k0_mult296 (v5111 : BitVec 32) : BitVec 32 :=
  let c3_i32_1776 : BitVec 32 := 3#32
  let v5112 : BitVec 32 := Scalar.shrsi v5111 c3_i32_1776
  let c3_i32_1777 : BitVec 32 := 3#32
  let v5113 : BitVec 32 := Scalar.shli v5112 c3_i32_1777
  v5113

def k0_off606 (v5111 : BitVec 32) : Fin 2 → Nat :=
  let c3_i32_1776 : BitVec 32 := 3#32
  let v5112 : BitVec 32 := Scalar.shrsi v5111 c3_i32_1776
  let c3_i32_1777 : BitVec 32 := 3#32
  let v5113 : BitVec 32 := Scalar.shli v5112 c3_i32_1777
  let v5114 : BitVec 32 := v5113
  let v5115 : Index := Scalar.indexCast v5114
  let c0_1778 : Index := 0#32
  ![v5115.toNat, 0]

def k0_chk296 (v5111 : BitVec 32) : Prop :=
  (8 ∣ (k0_mult296 v5111).toNat) ∧
  (∀ a, (k0_off606 v5111) a + S8x512.size a ≤ S20000x512.size a)
theorem k0_mult296_dvd : ∀ (v5111 : BitVec 32) (k0_hw296 : k0_chk296 v5111), 8 ∣ (k0_mult296 v5111).toNat := fun v5111 k0_hw296 => k0_hw296.1
theorem k0_off606_inb : ∀ (v5111 : BitVec 32) (k0_hw296 : k0_chk296 v5111), ∀ a, (k0_off606 v5111) a + S8x512.size a ≤ S20000x512.size a := fun v5111 k0_hw296 => k0_hw296.2

def k0_off607 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1780 : BitVec 32 := 256#32
  let v5125 : BitVec 32 := Scalar.addi v63 c256_i32_1780
  let c40_i32_1781 : BitVec 32 := 40#32
  let v5126 : BitVec 32 := Scalar.addi v5125 c40_i32_1781
  let v5127 : Index := Scalar.indexCast v5126
  ![v5127.toNat]
def k0_mult297 (v5128 : BitVec 32) : BitVec 32 :=
  let c3_i32_1782 : BitVec 32 := 3#32
  let v5129 : BitVec 32 := Scalar.shrsi v5128 c3_i32_1782
  let c3_i32_1783 : BitVec 32 := 3#32
  let v5130 : BitVec 32 := Scalar.shli v5129 c3_i32_1783
  v5130

def k0_off608 (v5128 : BitVec 32) : Fin 2 → Nat :=
  let c3_i32_1782 : BitVec 32 := 3#32
  let v5129 : BitVec 32 := Scalar.shrsi v5128 c3_i32_1782
  let c3_i32_1783 : BitVec 32 := 3#32
  let v5130 : BitVec 32 := Scalar.shli v5129 c3_i32_1783
  let v5131 : BitVec 32 := v5130
  let v5132 : Index := Scalar.indexCast v5131
  let c0_1784 : Index := 0#32
  ![v5132.toNat, 0]

def k0_chk297 (v5128 : BitVec 32) : Prop :=
  (8 ∣ (k0_mult297 v5128).toNat) ∧
  (∀ a, (k0_off608 v5128) a + S8x512.size a ≤ S20000x512.size a)
theorem k0_mult297_dvd : ∀ (v5128 : BitVec 32) (k0_hw297 : k0_chk297 v5128), 8 ∣ (k0_mult297 v5128).toNat := fun v5128 k0_hw297 => k0_hw297.1
theorem k0_off608_inb : ∀ (v5128 : BitVec 32) (k0_hw297 : k0_chk297 v5128), ∀ a, (k0_off608 v5128) a + S8x512.size a ≤ S20000x512.size a := fun v5128 k0_hw297 => k0_hw297.2

def k0_off609 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1786 : BitVec 32 := 256#32
  let v5142 : BitVec 32 := Scalar.addi v63 c256_i32_1786
  let c41_i32_1787 : BitVec 32 := 41#32
  let v5143 : BitVec 32 := Scalar.addi v5142 c41_i32_1787
  let v5144 : Index := Scalar.indexCast v5143
  ![v5144.toNat]
def k0_mult298 (v5145 : BitVec 32) : BitVec 32 :=
  let c3_i32_1788 : BitVec 32 := 3#32
  let v5146 : BitVec 32 := Scalar.shrsi v5145 c3_i32_1788
  let c3_i32_1789 : BitVec 32 := 3#32
  let v5147 : BitVec 32 := Scalar.shli v5146 c3_i32_1789
  v5147

def k0_off610 (v5145 : BitVec 32) : Fin 2 → Nat :=
  let c3_i32_1788 : BitVec 32 := 3#32
  let v5146 : BitVec 32 := Scalar.shrsi v5145 c3_i32_1788
  let c3_i32_1789 : BitVec 32 := 3#32
  let v5147 : BitVec 32 := Scalar.shli v5146 c3_i32_1789
  let v5148 : BitVec 32 := v5147
  let v5149 : Index := Scalar.indexCast v5148
  let c0_1790 : Index := 0#32
  ![v5149.toNat, 0]

def k0_chk298 (v5145 : BitVec 32) : Prop :=
  (8 ∣ (k0_mult298 v5145).toNat) ∧
  (∀ a, (k0_off610 v5145) a + S8x512.size a ≤ S20000x512.size a)
theorem k0_mult298_dvd : ∀ (v5145 : BitVec 32) (k0_hw298 : k0_chk298 v5145), 8 ∣ (k0_mult298 v5145).toNat := fun v5145 k0_hw298 => k0_hw298.1
theorem k0_off610_inb : ∀ (v5145 : BitVec 32) (k0_hw298 : k0_chk298 v5145), ∀ a, (k0_off610 v5145) a + S8x512.size a ≤ S20000x512.size a := fun v5145 k0_hw298 => k0_hw298.2

def k0_off611 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1792 : BitVec 32 := 256#32
  let v5159 : BitVec 32 := Scalar.addi v63 c256_i32_1792
  let c42_i32_1793 : BitVec 32 := 42#32
  let v5160 : BitVec 32 := Scalar.addi v5159 c42_i32_1793
  let v5161 : Index := Scalar.indexCast v5160
  ![v5161.toNat]
def k0_mult299 (v5162 : BitVec 32) : BitVec 32 :=
  let c3_i32_1794 : BitVec 32 := 3#32
  let v5163 : BitVec 32 := Scalar.shrsi v5162 c3_i32_1794
  let c3_i32_1795 : BitVec 32 := 3#32
  let v5164 : BitVec 32 := Scalar.shli v5163 c3_i32_1795
  v5164

def k0_off612 (v5162 : BitVec 32) : Fin 2 → Nat :=
  let c3_i32_1794 : BitVec 32 := 3#32
  let v5163 : BitVec 32 := Scalar.shrsi v5162 c3_i32_1794
  let c3_i32_1795 : BitVec 32 := 3#32
  let v5164 : BitVec 32 := Scalar.shli v5163 c3_i32_1795
  let v5165 : BitVec 32 := v5164
  let v5166 : Index := Scalar.indexCast v5165
  let c0_1796 : Index := 0#32
  ![v5166.toNat, 0]

def k0_chk299 (v5162 : BitVec 32) : Prop :=
  (8 ∣ (k0_mult299 v5162).toNat) ∧
  (∀ a, (k0_off612 v5162) a + S8x512.size a ≤ S20000x512.size a)
theorem k0_mult299_dvd : ∀ (v5162 : BitVec 32) (k0_hw299 : k0_chk299 v5162), 8 ∣ (k0_mult299 v5162).toNat := fun v5162 k0_hw299 => k0_hw299.1
theorem k0_off612_inb : ∀ (v5162 : BitVec 32) (k0_hw299 : k0_chk299 v5162), ∀ a, (k0_off612 v5162) a + S8x512.size a ≤ S20000x512.size a := fun v5162 k0_hw299 => k0_hw299.2

def k0_off613 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1798 : BitVec 32 := 256#32
  let v5176 : BitVec 32 := Scalar.addi v63 c256_i32_1798
  let c43_i32_1799 : BitVec 32 := 43#32
  let v5177 : BitVec 32 := Scalar.addi v5176 c43_i32_1799
  let v5178 : Index := Scalar.indexCast v5177
  ![v5178.toNat]
def k0_mult300 (v5179 : BitVec 32) : BitVec 32 :=
  let c3_i32_1800 : BitVec 32 := 3#32
  let v5180 : BitVec 32 := Scalar.shrsi v5179 c3_i32_1800
  let c3_i32_1801 : BitVec 32 := 3#32
  let v5181 : BitVec 32 := Scalar.shli v5180 c3_i32_1801
  v5181

def k0_off614 (v5179 : BitVec 32) : Fin 2 → Nat :=
  let c3_i32_1800 : BitVec 32 := 3#32
  let v5180 : BitVec 32 := Scalar.shrsi v5179 c3_i32_1800
  let c3_i32_1801 : BitVec 32 := 3#32
  let v5181 : BitVec 32 := Scalar.shli v5180 c3_i32_1801
  let v5182 : BitVec 32 := v5181
  let v5183 : Index := Scalar.indexCast v5182
  let c0_1802 : Index := 0#32
  ![v5183.toNat, 0]

def k0_chk300 (v5179 : BitVec 32) : Prop :=
  (8 ∣ (k0_mult300 v5179).toNat) ∧
  (∀ a, (k0_off614 v5179) a + S8x512.size a ≤ S20000x512.size a)
theorem k0_mult300_dvd : ∀ (v5179 : BitVec 32) (k0_hw300 : k0_chk300 v5179), 8 ∣ (k0_mult300 v5179).toNat := fun v5179 k0_hw300 => k0_hw300.1
theorem k0_off614_inb : ∀ (v5179 : BitVec 32) (k0_hw300 : k0_chk300 v5179), ∀ a, (k0_off614 v5179) a + S8x512.size a ≤ S20000x512.size a := fun v5179 k0_hw300 => k0_hw300.2

def k0_off615 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1804 : BitVec 32 := 256#32
  let v5193 : BitVec 32 := Scalar.addi v63 c256_i32_1804
  let c44_i32_1805 : BitVec 32 := 44#32
  let v5194 : BitVec 32 := Scalar.addi v5193 c44_i32_1805
  let v5195 : Index := Scalar.indexCast v5194
  ![v5195.toNat]
def k0_mult301 (v5196 : BitVec 32) : BitVec 32 :=
  let c3_i32_1806 : BitVec 32 := 3#32
  let v5197 : BitVec 32 := Scalar.shrsi v5196 c3_i32_1806
  let c3_i32_1807 : BitVec 32 := 3#32
  let v5198 : BitVec 32 := Scalar.shli v5197 c3_i32_1807
  v5198

def k0_off616 (v5196 : BitVec 32) : Fin 2 → Nat :=
  let c3_i32_1806 : BitVec 32 := 3#32
  let v5197 : BitVec 32 := Scalar.shrsi v5196 c3_i32_1806
  let c3_i32_1807 : BitVec 32 := 3#32
  let v5198 : BitVec 32 := Scalar.shli v5197 c3_i32_1807
  let v5199 : BitVec 32 := v5198
  let v5200 : Index := Scalar.indexCast v5199
  let c0_1808 : Index := 0#32
  ![v5200.toNat, 0]

def k0_chk301 (v5196 : BitVec 32) : Prop :=
  (8 ∣ (k0_mult301 v5196).toNat) ∧
  (∀ a, (k0_off616 v5196) a + S8x512.size a ≤ S20000x512.size a)
theorem k0_mult301_dvd : ∀ (v5196 : BitVec 32) (k0_hw301 : k0_chk301 v5196), 8 ∣ (k0_mult301 v5196).toNat := fun v5196 k0_hw301 => k0_hw301.1
theorem k0_off616_inb : ∀ (v5196 : BitVec 32) (k0_hw301 : k0_chk301 v5196), ∀ a, (k0_off616 v5196) a + S8x512.size a ≤ S20000x512.size a := fun v5196 k0_hw301 => k0_hw301.2

def k0_off617 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1810 : BitVec 32 := 256#32
  let v5210 : BitVec 32 := Scalar.addi v63 c256_i32_1810
  let c45_i32_1811 : BitVec 32 := 45#32
  let v5211 : BitVec 32 := Scalar.addi v5210 c45_i32_1811
  let v5212 : Index := Scalar.indexCast v5211
  ![v5212.toNat]
def k0_mult302 (v5213 : BitVec 32) : BitVec 32 :=
  let c3_i32_1812 : BitVec 32 := 3#32
  let v5214 : BitVec 32 := Scalar.shrsi v5213 c3_i32_1812
  let c3_i32_1813 : BitVec 32 := 3#32
  let v5215 : BitVec 32 := Scalar.shli v5214 c3_i32_1813
  v5215

def k0_off618 (v5213 : BitVec 32) : Fin 2 → Nat :=
  let c3_i32_1812 : BitVec 32 := 3#32
  let v5214 : BitVec 32 := Scalar.shrsi v5213 c3_i32_1812
  let c3_i32_1813 : BitVec 32 := 3#32
  let v5215 : BitVec 32 := Scalar.shli v5214 c3_i32_1813
  let v5216 : BitVec 32 := v5215
  let v5217 : Index := Scalar.indexCast v5216
  let c0_1814 : Index := 0#32
  ![v5217.toNat, 0]

def k0_chk302 (v5213 : BitVec 32) : Prop :=
  (8 ∣ (k0_mult302 v5213).toNat) ∧
  (∀ a, (k0_off618 v5213) a + S8x512.size a ≤ S20000x512.size a)
theorem k0_mult302_dvd : ∀ (v5213 : BitVec 32) (k0_hw302 : k0_chk302 v5213), 8 ∣ (k0_mult302 v5213).toNat := fun v5213 k0_hw302 => k0_hw302.1
theorem k0_off618_inb : ∀ (v5213 : BitVec 32) (k0_hw302 : k0_chk302 v5213), ∀ a, (k0_off618 v5213) a + S8x512.size a ≤ S20000x512.size a := fun v5213 k0_hw302 => k0_hw302.2

def k0_off619 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1816 : BitVec 32 := 256#32
  let v5227 : BitVec 32 := Scalar.addi v63 c256_i32_1816
  let c46_i32_1817 : BitVec 32 := 46#32
  let v5228 : BitVec 32 := Scalar.addi v5227 c46_i32_1817
  let v5229 : Index := Scalar.indexCast v5228
  ![v5229.toNat]
def k0_mult303 (v5230 : BitVec 32) : BitVec 32 :=
  let c3_i32_1818 : BitVec 32 := 3#32
  let v5231 : BitVec 32 := Scalar.shrsi v5230 c3_i32_1818
  let c3_i32_1819 : BitVec 32 := 3#32
  let v5232 : BitVec 32 := Scalar.shli v5231 c3_i32_1819
  v5232

def k0_off620 (v5230 : BitVec 32) : Fin 2 → Nat :=
  let c3_i32_1818 : BitVec 32 := 3#32
  let v5231 : BitVec 32 := Scalar.shrsi v5230 c3_i32_1818
  let c3_i32_1819 : BitVec 32 := 3#32
  let v5232 : BitVec 32 := Scalar.shli v5231 c3_i32_1819
  let v5233 : BitVec 32 := v5232
  let v5234 : Index := Scalar.indexCast v5233
  let c0_1820 : Index := 0#32
  ![v5234.toNat, 0]

def k0_chk303 (v5230 : BitVec 32) : Prop :=
  (8 ∣ (k0_mult303 v5230).toNat) ∧
  (∀ a, (k0_off620 v5230) a + S8x512.size a ≤ S20000x512.size a)
theorem k0_mult303_dvd : ∀ (v5230 : BitVec 32) (k0_hw303 : k0_chk303 v5230), 8 ∣ (k0_mult303 v5230).toNat := fun v5230 k0_hw303 => k0_hw303.1
theorem k0_off620_inb : ∀ (v5230 : BitVec 32) (k0_hw303 : k0_chk303 v5230), ∀ a, (k0_off620 v5230) a + S8x512.size a ≤ S20000x512.size a := fun v5230 k0_hw303 => k0_hw303.2

def k0_off621 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1822 : BitVec 32 := 256#32
  let v5244 : BitVec 32 := Scalar.addi v63 c256_i32_1822
  let c47_i32_1823 : BitVec 32 := 47#32
  let v5245 : BitVec 32 := Scalar.addi v5244 c47_i32_1823
  let v5246 : Index := Scalar.indexCast v5245
  ![v5246.toNat]
def k0_mult304 (v5247 : BitVec 32) : BitVec 32 :=
  let c3_i32_1824 : BitVec 32 := 3#32
  let v5248 : BitVec 32 := Scalar.shrsi v5247 c3_i32_1824
  let c3_i32_1825 : BitVec 32 := 3#32
  let v5249 : BitVec 32 := Scalar.shli v5248 c3_i32_1825
  v5249

def k0_off622 (v5247 : BitVec 32) : Fin 2 → Nat :=
  let c3_i32_1824 : BitVec 32 := 3#32
  let v5248 : BitVec 32 := Scalar.shrsi v5247 c3_i32_1824
  let c3_i32_1825 : BitVec 32 := 3#32
  let v5249 : BitVec 32 := Scalar.shli v5248 c3_i32_1825
  let v5250 : BitVec 32 := v5249
  let v5251 : Index := Scalar.indexCast v5250
  let c0_1826 : Index := 0#32
  ![v5251.toNat, 0]

def k0_chk304 (v5247 : BitVec 32) : Prop :=
  (8 ∣ (k0_mult304 v5247).toNat) ∧
  (∀ a, (k0_off622 v5247) a + S8x512.size a ≤ S20000x512.size a)
theorem k0_mult304_dvd : ∀ (v5247 : BitVec 32) (k0_hw304 : k0_chk304 v5247), 8 ∣ (k0_mult304 v5247).toNat := fun v5247 k0_hw304 => k0_hw304.1
theorem k0_off622_inb : ∀ (v5247 : BitVec 32) (k0_hw304 : k0_chk304 v5247), ∀ a, (k0_off622 v5247) a + S8x512.size a ≤ S20000x512.size a := fun v5247 k0_hw304 => k0_hw304.2

def k0_off623 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1828 : BitVec 32 := 256#32
  let v5261 : BitVec 32 := Scalar.addi v63 c256_i32_1828
  let c48_i32_1829 : BitVec 32 := 48#32
  let v5262 : BitVec 32 := Scalar.addi v5261 c48_i32_1829
  let v5263 : Index := Scalar.indexCast v5262
  ![v5263.toNat]
def k0_mult305 (v5264 : BitVec 32) : BitVec 32 :=
  let c3_i32_1830 : BitVec 32 := 3#32
  let v5265 : BitVec 32 := Scalar.shrsi v5264 c3_i32_1830
  let c3_i32_1831 : BitVec 32 := 3#32
  let v5266 : BitVec 32 := Scalar.shli v5265 c3_i32_1831
  v5266

def k0_off624 (v5264 : BitVec 32) : Fin 2 → Nat :=
  let c3_i32_1830 : BitVec 32 := 3#32
  let v5265 : BitVec 32 := Scalar.shrsi v5264 c3_i32_1830
  let c3_i32_1831 : BitVec 32 := 3#32
  let v5266 : BitVec 32 := Scalar.shli v5265 c3_i32_1831
  let v5267 : BitVec 32 := v5266
  let v5268 : Index := Scalar.indexCast v5267
  let c0_1832 : Index := 0#32
  ![v5268.toNat, 0]

def k0_chk305 (v5264 : BitVec 32) : Prop :=
  (8 ∣ (k0_mult305 v5264).toNat) ∧
  (∀ a, (k0_off624 v5264) a + S8x512.size a ≤ S20000x512.size a)
theorem k0_mult305_dvd : ∀ (v5264 : BitVec 32) (k0_hw305 : k0_chk305 v5264), 8 ∣ (k0_mult305 v5264).toNat := fun v5264 k0_hw305 => k0_hw305.1
theorem k0_off624_inb : ∀ (v5264 : BitVec 32) (k0_hw305 : k0_chk305 v5264), ∀ a, (k0_off624 v5264) a + S8x512.size a ≤ S20000x512.size a := fun v5264 k0_hw305 => k0_hw305.2

def k0_off625 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1834 : BitVec 32 := 256#32
  let v5278 : BitVec 32 := Scalar.addi v63 c256_i32_1834
  let c49_i32_1835 : BitVec 32 := 49#32
  let v5279 : BitVec 32 := Scalar.addi v5278 c49_i32_1835
  let v5280 : Index := Scalar.indexCast v5279
  ![v5280.toNat]
def k0_mult306 (v5281 : BitVec 32) : BitVec 32 :=
  let c3_i32_1836 : BitVec 32 := 3#32
  let v5282 : BitVec 32 := Scalar.shrsi v5281 c3_i32_1836
  let c3_i32_1837 : BitVec 32 := 3#32
  let v5283 : BitVec 32 := Scalar.shli v5282 c3_i32_1837
  v5283

def k0_off626 (v5281 : BitVec 32) : Fin 2 → Nat :=
  let c3_i32_1836 : BitVec 32 := 3#32
  let v5282 : BitVec 32 := Scalar.shrsi v5281 c3_i32_1836
  let c3_i32_1837 : BitVec 32 := 3#32
  let v5283 : BitVec 32 := Scalar.shli v5282 c3_i32_1837
  let v5284 : BitVec 32 := v5283
  let v5285 : Index := Scalar.indexCast v5284
  let c0_1838 : Index := 0#32
  ![v5285.toNat, 0]

def k0_chk306 (v5281 : BitVec 32) : Prop :=
  (8 ∣ (k0_mult306 v5281).toNat) ∧
  (∀ a, (k0_off626 v5281) a + S8x512.size a ≤ S20000x512.size a)
theorem k0_mult306_dvd : ∀ (v5281 : BitVec 32) (k0_hw306 : k0_chk306 v5281), 8 ∣ (k0_mult306 v5281).toNat := fun v5281 k0_hw306 => k0_hw306.1
theorem k0_off626_inb : ∀ (v5281 : BitVec 32) (k0_hw306 : k0_chk306 v5281), ∀ a, (k0_off626 v5281) a + S8x512.size a ≤ S20000x512.size a := fun v5281 k0_hw306 => k0_hw306.2

def k0_off627 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1840 : BitVec 32 := 256#32
  let v5295 : BitVec 32 := Scalar.addi v63 c256_i32_1840
  let c50_i32_1841 : BitVec 32 := 50#32
  let v5296 : BitVec 32 := Scalar.addi v5295 c50_i32_1841
  let v5297 : Index := Scalar.indexCast v5296
  ![v5297.toNat]
def k0_mult307 (v5298 : BitVec 32) : BitVec 32 :=
  let c3_i32_1842 : BitVec 32 := 3#32
  let v5299 : BitVec 32 := Scalar.shrsi v5298 c3_i32_1842
  let c3_i32_1843 : BitVec 32 := 3#32
  let v5300 : BitVec 32 := Scalar.shli v5299 c3_i32_1843
  v5300

def k0_off628 (v5298 : BitVec 32) : Fin 2 → Nat :=
  let c3_i32_1842 : BitVec 32 := 3#32
  let v5299 : BitVec 32 := Scalar.shrsi v5298 c3_i32_1842
  let c3_i32_1843 : BitVec 32 := 3#32
  let v5300 : BitVec 32 := Scalar.shli v5299 c3_i32_1843
  let v5301 : BitVec 32 := v5300
  let v5302 : Index := Scalar.indexCast v5301
  let c0_1844 : Index := 0#32
  ![v5302.toNat, 0]

def k0_chk307 (v5298 : BitVec 32) : Prop :=
  (8 ∣ (k0_mult307 v5298).toNat) ∧
  (∀ a, (k0_off628 v5298) a + S8x512.size a ≤ S20000x512.size a)
theorem k0_mult307_dvd : ∀ (v5298 : BitVec 32) (k0_hw307 : k0_chk307 v5298), 8 ∣ (k0_mult307 v5298).toNat := fun v5298 k0_hw307 => k0_hw307.1
theorem k0_off628_inb : ∀ (v5298 : BitVec 32) (k0_hw307 : k0_chk307 v5298), ∀ a, (k0_off628 v5298) a + S8x512.size a ≤ S20000x512.size a := fun v5298 k0_hw307 => k0_hw307.2

def k0_off629 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1846 : BitVec 32 := 256#32
  let v5312 : BitVec 32 := Scalar.addi v63 c256_i32_1846
  let c51_i32_1847 : BitVec 32 := 51#32
  let v5313 : BitVec 32 := Scalar.addi v5312 c51_i32_1847
  let v5314 : Index := Scalar.indexCast v5313
  ![v5314.toNat]
def k0_mult308 (v5315 : BitVec 32) : BitVec 32 :=
  let c3_i32_1848 : BitVec 32 := 3#32
  let v5316 : BitVec 32 := Scalar.shrsi v5315 c3_i32_1848
  let c3_i32_1849 : BitVec 32 := 3#32
  let v5317 : BitVec 32 := Scalar.shli v5316 c3_i32_1849
  v5317

def k0_off630 (v5315 : BitVec 32) : Fin 2 → Nat :=
  let c3_i32_1848 : BitVec 32 := 3#32
  let v5316 : BitVec 32 := Scalar.shrsi v5315 c3_i32_1848
  let c3_i32_1849 : BitVec 32 := 3#32
  let v5317 : BitVec 32 := Scalar.shli v5316 c3_i32_1849
  let v5318 : BitVec 32 := v5317
  let v5319 : Index := Scalar.indexCast v5318
  let c0_1850 : Index := 0#32
  ![v5319.toNat, 0]

def k0_chk308 (v5315 : BitVec 32) : Prop :=
  (8 ∣ (k0_mult308 v5315).toNat) ∧
  (∀ a, (k0_off630 v5315) a + S8x512.size a ≤ S20000x512.size a)
theorem k0_mult308_dvd : ∀ (v5315 : BitVec 32) (k0_hw308 : k0_chk308 v5315), 8 ∣ (k0_mult308 v5315).toNat := fun v5315 k0_hw308 => k0_hw308.1
theorem k0_off630_inb : ∀ (v5315 : BitVec 32) (k0_hw308 : k0_chk308 v5315), ∀ a, (k0_off630 v5315) a + S8x512.size a ≤ S20000x512.size a := fun v5315 k0_hw308 => k0_hw308.2

def k0_off631 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1852 : BitVec 32 := 256#32
  let v5329 : BitVec 32 := Scalar.addi v63 c256_i32_1852
  let c52_i32_1853 : BitVec 32 := 52#32
  let v5330 : BitVec 32 := Scalar.addi v5329 c52_i32_1853
  let v5331 : Index := Scalar.indexCast v5330
  ![v5331.toNat]
def k0_mult309 (v5332 : BitVec 32) : BitVec 32 :=
  let c3_i32_1854 : BitVec 32 := 3#32
  let v5333 : BitVec 32 := Scalar.shrsi v5332 c3_i32_1854
  let c3_i32_1855 : BitVec 32 := 3#32
  let v5334 : BitVec 32 := Scalar.shli v5333 c3_i32_1855
  v5334

def k0_off632 (v5332 : BitVec 32) : Fin 2 → Nat :=
  let c3_i32_1854 : BitVec 32 := 3#32
  let v5333 : BitVec 32 := Scalar.shrsi v5332 c3_i32_1854
  let c3_i32_1855 : BitVec 32 := 3#32
  let v5334 : BitVec 32 := Scalar.shli v5333 c3_i32_1855
  let v5335 : BitVec 32 := v5334
  let v5336 : Index := Scalar.indexCast v5335
  let c0_1856 : Index := 0#32
  ![v5336.toNat, 0]

def k0_chk309 (v5332 : BitVec 32) : Prop :=
  (8 ∣ (k0_mult309 v5332).toNat) ∧
  (∀ a, (k0_off632 v5332) a + S8x512.size a ≤ S20000x512.size a)
theorem k0_mult309_dvd : ∀ (v5332 : BitVec 32) (k0_hw309 : k0_chk309 v5332), 8 ∣ (k0_mult309 v5332).toNat := fun v5332 k0_hw309 => k0_hw309.1
theorem k0_off632_inb : ∀ (v5332 : BitVec 32) (k0_hw309 : k0_chk309 v5332), ∀ a, (k0_off632 v5332) a + S8x512.size a ≤ S20000x512.size a := fun v5332 k0_hw309 => k0_hw309.2

def k0_off633 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1858 : BitVec 32 := 256#32
  let v5346 : BitVec 32 := Scalar.addi v63 c256_i32_1858
  let c53_i32_1859 : BitVec 32 := 53#32
  let v5347 : BitVec 32 := Scalar.addi v5346 c53_i32_1859
  let v5348 : Index := Scalar.indexCast v5347
  ![v5348.toNat]
def k0_mult310 (v5349 : BitVec 32) : BitVec 32 :=
  let c3_i32_1860 : BitVec 32 := 3#32
  let v5350 : BitVec 32 := Scalar.shrsi v5349 c3_i32_1860
  let c3_i32_1861 : BitVec 32 := 3#32
  let v5351 : BitVec 32 := Scalar.shli v5350 c3_i32_1861
  v5351

def k0_off634 (v5349 : BitVec 32) : Fin 2 → Nat :=
  let c3_i32_1860 : BitVec 32 := 3#32
  let v5350 : BitVec 32 := Scalar.shrsi v5349 c3_i32_1860
  let c3_i32_1861 : BitVec 32 := 3#32
  let v5351 : BitVec 32 := Scalar.shli v5350 c3_i32_1861
  let v5352 : BitVec 32 := v5351
  let v5353 : Index := Scalar.indexCast v5352
  let c0_1862 : Index := 0#32
  ![v5353.toNat, 0]

def k0_chk310 (v5349 : BitVec 32) : Prop :=
  (8 ∣ (k0_mult310 v5349).toNat) ∧
  (∀ a, (k0_off634 v5349) a + S8x512.size a ≤ S20000x512.size a)
theorem k0_mult310_dvd : ∀ (v5349 : BitVec 32) (k0_hw310 : k0_chk310 v5349), 8 ∣ (k0_mult310 v5349).toNat := fun v5349 k0_hw310 => k0_hw310.1
theorem k0_off634_inb : ∀ (v5349 : BitVec 32) (k0_hw310 : k0_chk310 v5349), ∀ a, (k0_off634 v5349) a + S8x512.size a ≤ S20000x512.size a := fun v5349 k0_hw310 => k0_hw310.2

def k0_off635 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1864 : BitVec 32 := 256#32
  let v5363 : BitVec 32 := Scalar.addi v63 c256_i32_1864
  let c54_i32_1865 : BitVec 32 := 54#32
  let v5364 : BitVec 32 := Scalar.addi v5363 c54_i32_1865
  let v5365 : Index := Scalar.indexCast v5364
  ![v5365.toNat]
def k0_mult311 (v5366 : BitVec 32) : BitVec 32 :=
  let c3_i32_1866 : BitVec 32 := 3#32
  let v5367 : BitVec 32 := Scalar.shrsi v5366 c3_i32_1866
  let c3_i32_1867 : BitVec 32 := 3#32
  let v5368 : BitVec 32 := Scalar.shli v5367 c3_i32_1867
  v5368

def k0_off636 (v5366 : BitVec 32) : Fin 2 → Nat :=
  let c3_i32_1866 : BitVec 32 := 3#32
  let v5367 : BitVec 32 := Scalar.shrsi v5366 c3_i32_1866
  let c3_i32_1867 : BitVec 32 := 3#32
  let v5368 : BitVec 32 := Scalar.shli v5367 c3_i32_1867
  let v5369 : BitVec 32 := v5368
  let v5370 : Index := Scalar.indexCast v5369
  let c0_1868 : Index := 0#32
  ![v5370.toNat, 0]

def k0_chk311 (v5366 : BitVec 32) : Prop :=
  (8 ∣ (k0_mult311 v5366).toNat) ∧
  (∀ a, (k0_off636 v5366) a + S8x512.size a ≤ S20000x512.size a)
theorem k0_mult311_dvd : ∀ (v5366 : BitVec 32) (k0_hw311 : k0_chk311 v5366), 8 ∣ (k0_mult311 v5366).toNat := fun v5366 k0_hw311 => k0_hw311.1
theorem k0_off636_inb : ∀ (v5366 : BitVec 32) (k0_hw311 : k0_chk311 v5366), ∀ a, (k0_off636 v5366) a + S8x512.size a ≤ S20000x512.size a := fun v5366 k0_hw311 => k0_hw311.2

def k0_off637 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1870 : BitVec 32 := 256#32
  let v5380 : BitVec 32 := Scalar.addi v63 c256_i32_1870
  let c55_i32_1871 : BitVec 32 := 55#32
  let v5381 : BitVec 32 := Scalar.addi v5380 c55_i32_1871
  let v5382 : Index := Scalar.indexCast v5381
  ![v5382.toNat]
def k0_mult312 (v5383 : BitVec 32) : BitVec 32 :=
  let c3_i32_1872 : BitVec 32 := 3#32
  let v5384 : BitVec 32 := Scalar.shrsi v5383 c3_i32_1872
  let c3_i32_1873 : BitVec 32 := 3#32
  let v5385 : BitVec 32 := Scalar.shli v5384 c3_i32_1873
  v5385

def k0_off638 (v5383 : BitVec 32) : Fin 2 → Nat :=
  let c3_i32_1872 : BitVec 32 := 3#32
  let v5384 : BitVec 32 := Scalar.shrsi v5383 c3_i32_1872
  let c3_i32_1873 : BitVec 32 := 3#32
  let v5385 : BitVec 32 := Scalar.shli v5384 c3_i32_1873
  let v5386 : BitVec 32 := v5385
  let v5387 : Index := Scalar.indexCast v5386
  let c0_1874 : Index := 0#32
  ![v5387.toNat, 0]

def k0_chk312 (v5383 : BitVec 32) : Prop :=
  (8 ∣ (k0_mult312 v5383).toNat) ∧
  (∀ a, (k0_off638 v5383) a + S8x512.size a ≤ S20000x512.size a)
theorem k0_mult312_dvd : ∀ (v5383 : BitVec 32) (k0_hw312 : k0_chk312 v5383), 8 ∣ (k0_mult312 v5383).toNat := fun v5383 k0_hw312 => k0_hw312.1
theorem k0_off638_inb : ∀ (v5383 : BitVec 32) (k0_hw312 : k0_chk312 v5383), ∀ a, (k0_off638 v5383) a + S8x512.size a ≤ S20000x512.size a := fun v5383 k0_hw312 => k0_hw312.2

def k0_off639 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1876 : BitVec 32 := 256#32
  let v5397 : BitVec 32 := Scalar.addi v63 c256_i32_1876
  let c56_i32_1877 : BitVec 32 := 56#32
  let v5398 : BitVec 32 := Scalar.addi v5397 c56_i32_1877
  let v5399 : Index := Scalar.indexCast v5398
  ![v5399.toNat]
def k0_mult313 (v5400 : BitVec 32) : BitVec 32 :=
  let c3_i32_1878 : BitVec 32 := 3#32
  let v5401 : BitVec 32 := Scalar.shrsi v5400 c3_i32_1878
  let c3_i32_1879 : BitVec 32 := 3#32
  let v5402 : BitVec 32 := Scalar.shli v5401 c3_i32_1879
  v5402

def k0_off640 (v5400 : BitVec 32) : Fin 2 → Nat :=
  let c3_i32_1878 : BitVec 32 := 3#32
  let v5401 : BitVec 32 := Scalar.shrsi v5400 c3_i32_1878
  let c3_i32_1879 : BitVec 32 := 3#32
  let v5402 : BitVec 32 := Scalar.shli v5401 c3_i32_1879
  let v5403 : BitVec 32 := v5402
  let v5404 : Index := Scalar.indexCast v5403
  let c0_1880 : Index := 0#32
  ![v5404.toNat, 0]

def k0_chk313 (v5400 : BitVec 32) : Prop :=
  (8 ∣ (k0_mult313 v5400).toNat) ∧
  (∀ a, (k0_off640 v5400) a + S8x512.size a ≤ S20000x512.size a)
theorem k0_mult313_dvd : ∀ (v5400 : BitVec 32) (k0_hw313 : k0_chk313 v5400), 8 ∣ (k0_mult313 v5400).toNat := fun v5400 k0_hw313 => k0_hw313.1
theorem k0_off640_inb : ∀ (v5400 : BitVec 32) (k0_hw313 : k0_chk313 v5400), ∀ a, (k0_off640 v5400) a + S8x512.size a ≤ S20000x512.size a := fun v5400 k0_hw313 => k0_hw313.2

def k0_off641 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1882 : BitVec 32 := 256#32
  let v5414 : BitVec 32 := Scalar.addi v63 c256_i32_1882
  let c57_i32_1883 : BitVec 32 := 57#32
  let v5415 : BitVec 32 := Scalar.addi v5414 c57_i32_1883
  let v5416 : Index := Scalar.indexCast v5415
  ![v5416.toNat]
def k0_mult314 (v5417 : BitVec 32) : BitVec 32 :=
  let c3_i32_1884 : BitVec 32 := 3#32
  let v5418 : BitVec 32 := Scalar.shrsi v5417 c3_i32_1884
  let c3_i32_1885 : BitVec 32 := 3#32
  let v5419 : BitVec 32 := Scalar.shli v5418 c3_i32_1885
  v5419

def k0_off642 (v5417 : BitVec 32) : Fin 2 → Nat :=
  let c3_i32_1884 : BitVec 32 := 3#32
  let v5418 : BitVec 32 := Scalar.shrsi v5417 c3_i32_1884
  let c3_i32_1885 : BitVec 32 := 3#32
  let v5419 : BitVec 32 := Scalar.shli v5418 c3_i32_1885
  let v5420 : BitVec 32 := v5419
  let v5421 : Index := Scalar.indexCast v5420
  let c0_1886 : Index := 0#32
  ![v5421.toNat, 0]

def k0_chk314 (v5417 : BitVec 32) : Prop :=
  (8 ∣ (k0_mult314 v5417).toNat) ∧
  (∀ a, (k0_off642 v5417) a + S8x512.size a ≤ S20000x512.size a)
theorem k0_mult314_dvd : ∀ (v5417 : BitVec 32) (k0_hw314 : k0_chk314 v5417), 8 ∣ (k0_mult314 v5417).toNat := fun v5417 k0_hw314 => k0_hw314.1
theorem k0_off642_inb : ∀ (v5417 : BitVec 32) (k0_hw314 : k0_chk314 v5417), ∀ a, (k0_off642 v5417) a + S8x512.size a ≤ S20000x512.size a := fun v5417 k0_hw314 => k0_hw314.2

def k0_off643 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1888 : BitVec 32 := 256#32
  let v5431 : BitVec 32 := Scalar.addi v63 c256_i32_1888
  let c58_i32_1889 : BitVec 32 := 58#32
  let v5432 : BitVec 32 := Scalar.addi v5431 c58_i32_1889
  let v5433 : Index := Scalar.indexCast v5432
  ![v5433.toNat]
def k0_mult315 (v5434 : BitVec 32) : BitVec 32 :=
  let c3_i32_1890 : BitVec 32 := 3#32
  let v5435 : BitVec 32 := Scalar.shrsi v5434 c3_i32_1890
  let c3_i32_1891 : BitVec 32 := 3#32
  let v5436 : BitVec 32 := Scalar.shli v5435 c3_i32_1891
  v5436

def k0_off644 (v5434 : BitVec 32) : Fin 2 → Nat :=
  let c3_i32_1890 : BitVec 32 := 3#32
  let v5435 : BitVec 32 := Scalar.shrsi v5434 c3_i32_1890
  let c3_i32_1891 : BitVec 32 := 3#32
  let v5436 : BitVec 32 := Scalar.shli v5435 c3_i32_1891
  let v5437 : BitVec 32 := v5436
  let v5438 : Index := Scalar.indexCast v5437
  let c0_1892 : Index := 0#32
  ![v5438.toNat, 0]

def k0_chk315 (v5434 : BitVec 32) : Prop :=
  (8 ∣ (k0_mult315 v5434).toNat) ∧
  (∀ a, (k0_off644 v5434) a + S8x512.size a ≤ S20000x512.size a)
theorem k0_mult315_dvd : ∀ (v5434 : BitVec 32) (k0_hw315 : k0_chk315 v5434), 8 ∣ (k0_mult315 v5434).toNat := fun v5434 k0_hw315 => k0_hw315.1
theorem k0_off644_inb : ∀ (v5434 : BitVec 32) (k0_hw315 : k0_chk315 v5434), ∀ a, (k0_off644 v5434) a + S8x512.size a ≤ S20000x512.size a := fun v5434 k0_hw315 => k0_hw315.2

def k0_off645 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1894 : BitVec 32 := 256#32
  let v5448 : BitVec 32 := Scalar.addi v63 c256_i32_1894
  let c59_i32_1895 : BitVec 32 := 59#32
  let v5449 : BitVec 32 := Scalar.addi v5448 c59_i32_1895
  let v5450 : Index := Scalar.indexCast v5449
  ![v5450.toNat]
def k0_mult316 (v5451 : BitVec 32) : BitVec 32 :=
  let c3_i32_1896 : BitVec 32 := 3#32
  let v5452 : BitVec 32 := Scalar.shrsi v5451 c3_i32_1896
  let c3_i32_1897 : BitVec 32 := 3#32
  let v5453 : BitVec 32 := Scalar.shli v5452 c3_i32_1897
  v5453

def k0_off646 (v5451 : BitVec 32) : Fin 2 → Nat :=
  let c3_i32_1896 : BitVec 32 := 3#32
  let v5452 : BitVec 32 := Scalar.shrsi v5451 c3_i32_1896
  let c3_i32_1897 : BitVec 32 := 3#32
  let v5453 : BitVec 32 := Scalar.shli v5452 c3_i32_1897
  let v5454 : BitVec 32 := v5453
  let v5455 : Index := Scalar.indexCast v5454
  let c0_1898 : Index := 0#32
  ![v5455.toNat, 0]

def k0_chk316 (v5451 : BitVec 32) : Prop :=
  (8 ∣ (k0_mult316 v5451).toNat) ∧
  (∀ a, (k0_off646 v5451) a + S8x512.size a ≤ S20000x512.size a)
theorem k0_mult316_dvd : ∀ (v5451 : BitVec 32) (k0_hw316 : k0_chk316 v5451), 8 ∣ (k0_mult316 v5451).toNat := fun v5451 k0_hw316 => k0_hw316.1
theorem k0_off646_inb : ∀ (v5451 : BitVec 32) (k0_hw316 : k0_chk316 v5451), ∀ a, (k0_off646 v5451) a + S8x512.size a ≤ S20000x512.size a := fun v5451 k0_hw316 => k0_hw316.2

def k0_off647 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1900 : BitVec 32 := 256#32
  let v5465 : BitVec 32 := Scalar.addi v63 c256_i32_1900
  let c60_i32_1901 : BitVec 32 := 60#32
  let v5466 : BitVec 32 := Scalar.addi v5465 c60_i32_1901
  let v5467 : Index := Scalar.indexCast v5466
  ![v5467.toNat]
def k0_mult317 (v5468 : BitVec 32) : BitVec 32 :=
  let c3_i32_1902 : BitVec 32 := 3#32
  let v5469 : BitVec 32 := Scalar.shrsi v5468 c3_i32_1902
  let c3_i32_1903 : BitVec 32 := 3#32
  let v5470 : BitVec 32 := Scalar.shli v5469 c3_i32_1903
  v5470

def k0_off648 (v5468 : BitVec 32) : Fin 2 → Nat :=
  let c3_i32_1902 : BitVec 32 := 3#32
  let v5469 : BitVec 32 := Scalar.shrsi v5468 c3_i32_1902
  let c3_i32_1903 : BitVec 32 := 3#32
  let v5470 : BitVec 32 := Scalar.shli v5469 c3_i32_1903
  let v5471 : BitVec 32 := v5470
  let v5472 : Index := Scalar.indexCast v5471
  let c0_1904 : Index := 0#32
  ![v5472.toNat, 0]

def k0_chk317 (v5468 : BitVec 32) : Prop :=
  (8 ∣ (k0_mult317 v5468).toNat) ∧
  (∀ a, (k0_off648 v5468) a + S8x512.size a ≤ S20000x512.size a)
theorem k0_mult317_dvd : ∀ (v5468 : BitVec 32) (k0_hw317 : k0_chk317 v5468), 8 ∣ (k0_mult317 v5468).toNat := fun v5468 k0_hw317 => k0_hw317.1
theorem k0_off648_inb : ∀ (v5468 : BitVec 32) (k0_hw317 : k0_chk317 v5468), ∀ a, (k0_off648 v5468) a + S8x512.size a ≤ S20000x512.size a := fun v5468 k0_hw317 => k0_hw317.2

def k0_off649 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1906 : BitVec 32 := 256#32
  let v5482 : BitVec 32 := Scalar.addi v63 c256_i32_1906
  let c61_i32_1907 : BitVec 32 := 61#32
  let v5483 : BitVec 32 := Scalar.addi v5482 c61_i32_1907
  let v5484 : Index := Scalar.indexCast v5483
  ![v5484.toNat]
def k0_mult318 (v5485 : BitVec 32) : BitVec 32 :=
  let c3_i32_1908 : BitVec 32 := 3#32
  let v5486 : BitVec 32 := Scalar.shrsi v5485 c3_i32_1908
  let c3_i32_1909 : BitVec 32 := 3#32
  let v5487 : BitVec 32 := Scalar.shli v5486 c3_i32_1909
  v5487

def k0_off650 (v5485 : BitVec 32) : Fin 2 → Nat :=
  let c3_i32_1908 : BitVec 32 := 3#32
  let v5486 : BitVec 32 := Scalar.shrsi v5485 c3_i32_1908
  let c3_i32_1909 : BitVec 32 := 3#32
  let v5487 : BitVec 32 := Scalar.shli v5486 c3_i32_1909
  let v5488 : BitVec 32 := v5487
  let v5489 : Index := Scalar.indexCast v5488
  let c0_1910 : Index := 0#32
  ![v5489.toNat, 0]

def k0_chk318 (v5485 : BitVec 32) : Prop :=
  (8 ∣ (k0_mult318 v5485).toNat) ∧
  (∀ a, (k0_off650 v5485) a + S8x512.size a ≤ S20000x512.size a)
theorem k0_mult318_dvd : ∀ (v5485 : BitVec 32) (k0_hw318 : k0_chk318 v5485), 8 ∣ (k0_mult318 v5485).toNat := fun v5485 k0_hw318 => k0_hw318.1
theorem k0_off650_inb : ∀ (v5485 : BitVec 32) (k0_hw318 : k0_chk318 v5485), ∀ a, (k0_off650 v5485) a + S8x512.size a ≤ S20000x512.size a := fun v5485 k0_hw318 => k0_hw318.2

def k0_off651 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1912 : BitVec 32 := 256#32
  let v5499 : BitVec 32 := Scalar.addi v63 c256_i32_1912
  let c62_i32_1913 : BitVec 32 := 62#32
  let v5500 : BitVec 32 := Scalar.addi v5499 c62_i32_1913
  let v5501 : Index := Scalar.indexCast v5500
  ![v5501.toNat]
def k0_mult319 (v5502 : BitVec 32) : BitVec 32 :=
  let c3_i32_1914 : BitVec 32 := 3#32
  let v5503 : BitVec 32 := Scalar.shrsi v5502 c3_i32_1914
  let c3_i32_1915 : BitVec 32 := 3#32
  let v5504 : BitVec 32 := Scalar.shli v5503 c3_i32_1915
  v5504

def k0_off652 (v5502 : BitVec 32) : Fin 2 → Nat :=
  let c3_i32_1914 : BitVec 32 := 3#32
  let v5503 : BitVec 32 := Scalar.shrsi v5502 c3_i32_1914
  let c3_i32_1915 : BitVec 32 := 3#32
  let v5504 : BitVec 32 := Scalar.shli v5503 c3_i32_1915
  let v5505 : BitVec 32 := v5504
  let v5506 : Index := Scalar.indexCast v5505
  let c0_1916 : Index := 0#32
  ![v5506.toNat, 0]

def k0_chk319 (v5502 : BitVec 32) : Prop :=
  (8 ∣ (k0_mult319 v5502).toNat) ∧
  (∀ a, (k0_off652 v5502) a + S8x512.size a ≤ S20000x512.size a)
theorem k0_mult319_dvd : ∀ (v5502 : BitVec 32) (k0_hw319 : k0_chk319 v5502), 8 ∣ (k0_mult319 v5502).toNat := fun v5502 k0_hw319 => k0_hw319.1
theorem k0_off652_inb : ∀ (v5502 : BitVec 32) (k0_hw319 : k0_chk319 v5502), ∀ a, (k0_off652 v5502) a + S8x512.size a ≤ S20000x512.size a := fun v5502 k0_hw319 => k0_hw319.2

def k0_off653 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c256_i32_1918 : BitVec 32 := 256#32
  let v5516 : BitVec 32 := Scalar.addi v63 c256_i32_1918
  let c63_i32_1919 : BitVec 32 := 63#32
  let v5517 : BitVec 32 := Scalar.addi v5516 c63_i32_1919
  let v5518 : Index := Scalar.indexCast v5517
  ![v5518.toNat]
def k0_mult320 (v5519 : BitVec 32) : BitVec 32 :=
  let c3_i32_1920 : BitVec 32 := 3#32
  let v5520 : BitVec 32 := Scalar.shrsi v5519 c3_i32_1920
  let c3_i32_1921 : BitVec 32 := 3#32
  let v5521 : BitVec 32 := Scalar.shli v5520 c3_i32_1921
  v5521

def k0_off654 (v5519 : BitVec 32) : Fin 2 → Nat :=
  let c3_i32_1920 : BitVec 32 := 3#32
  let v5520 : BitVec 32 := Scalar.shrsi v5519 c3_i32_1920
  let c3_i32_1921 : BitVec 32 := 3#32
  let v5521 : BitVec 32 := Scalar.shli v5520 c3_i32_1921
  let v5522 : BitVec 32 := v5521
  let v5523 : Index := Scalar.indexCast v5522
  let c0_1922 : Index := 0#32
  ![v5523.toNat, 0]

def k0_chk320 (v5519 : BitVec 32) : Prop :=
  (8 ∣ (k0_mult320 v5519).toNat) ∧
  (∀ a, (k0_off654 v5519) a + S8x512.size a ≤ S20000x512.size a)
theorem k0_mult320_dvd : ∀ (v5519 : BitVec 32) (k0_hw320 : k0_chk320 v5519), 8 ∣ (k0_mult320 v5519).toNat := fun v5519 k0_hw320 => k0_hw320.1
theorem k0_off654_inb : ∀ (v5519 : BitVec 32) (k0_hw320 : k0_chk320 v5519), ∀ a, (k0_off654 v5519) a + S8x512.size a ≤ S20000x512.size a := fun v5519 k0_hw320 => k0_hw320.2

def k0_off655 (k0_t1 : Fin k0_t1_loop.trips) : Fin 3 → Nat :=
  let c0_i32_18 : BitVec 32 := 0#32
  let c1_i32_19 : BitVec 32 := 1#32
  let arg12 : BitVec 32 := Scf.iv c0_i32_18 c1_i32_19 k0_t1
  let c8_i32_1924 : BitVec 32 := 8#32
  let v5533 : BitVec 32 := Scalar.muli arg12 c8_i32_1924
  let c4_i32_1925 : BitVec 32 := 4#32
  let v5534 : BitVec 32 := Scalar.addi v5533 c4_i32_1925
  let v5535 : Index := Scalar.indexCast v5534
  let c0_1926 : Index := 0#32
  let c0_1927 : Index := 0#32
  ![v5535.toNat, 0, 0]
def k0_off656 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32 : BitVec 32 := 320#32
  let v5540 : BitVec 32 := Scalar.addi v63 c320_i32
  let c0_i32_1929 : BitVec 32 := 0#32
  let v5541 : BitVec 32 := Scalar.addi v5540 c0_i32_1929
  let v5542 : Index := Scalar.indexCast v5541
  ![v5542.toNat]
def k0_mult321 (v5543 : BitVec 32) : BitVec 32 :=
  let c3_i32_1930 : BitVec 32 := 3#32
  let v5544 : BitVec 32 := Scalar.shrsi v5543 c3_i32_1930
  let c3_i32_1931 : BitVec 32 := 3#32
  let v5545 : BitVec 32 := Scalar.shli v5544 c3_i32_1931
  v5545

def k0_off657 (v5543 : BitVec 32) : Fin 2 → Nat :=
  let c3_i32_1930 : BitVec 32 := 3#32
  let v5544 : BitVec 32 := Scalar.shrsi v5543 c3_i32_1930
  let c3_i32_1931 : BitVec 32 := 3#32
  let v5545 : BitVec 32 := Scalar.shli v5544 c3_i32_1931
  let v5546 : BitVec 32 := v5545
  let v5547 : Index := Scalar.indexCast v5546
  let c0_1932 : Index := 0#32
  ![v5547.toNat, 0]

def k0_chk321 (v5543 : BitVec 32) : Prop :=
  (8 ∣ (k0_mult321 v5543).toNat) ∧
  (∀ a, (k0_off657 v5543) a + S8x512.size a ≤ S20000x512.size a)
theorem k0_mult321_dvd : ∀ (v5543 : BitVec 32) (k0_hw321 : k0_chk321 v5543), 8 ∣ (k0_mult321 v5543).toNat := fun v5543 k0_hw321 => k0_hw321.1
theorem k0_off657_inb : ∀ (v5543 : BitVec 32) (k0_hw321 : k0_chk321 v5543), ∀ a, (k0_off657 v5543) a + S8x512.size a ≤ S20000x512.size a := fun v5543 k0_hw321 => k0_hw321.2

def k0_off658 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_1934 : BitVec 32 := 320#32
  let v5557 : BitVec 32 := Scalar.addi v63 c320_i32_1934
  let c1_i32_1935 : BitVec 32 := 1#32
  let v5558 : BitVec 32 := Scalar.addi v5557 c1_i32_1935
  let v5559 : Index := Scalar.indexCast v5558
  ![v5559.toNat]
def k0_mult322 (v5560 : BitVec 32) : BitVec 32 :=
  let c3_i32_1936 : BitVec 32 := 3#32
  let v5561 : BitVec 32 := Scalar.shrsi v5560 c3_i32_1936
  let c3_i32_1937 : BitVec 32 := 3#32
  let v5562 : BitVec 32 := Scalar.shli v5561 c3_i32_1937
  v5562

def k0_off659 (v5560 : BitVec 32) : Fin 2 → Nat :=
  let c3_i32_1936 : BitVec 32 := 3#32
  let v5561 : BitVec 32 := Scalar.shrsi v5560 c3_i32_1936
  let c3_i32_1937 : BitVec 32 := 3#32
  let v5562 : BitVec 32 := Scalar.shli v5561 c3_i32_1937
  let v5563 : BitVec 32 := v5562
  let v5564 : Index := Scalar.indexCast v5563
  let c0_1938 : Index := 0#32
  ![v5564.toNat, 0]

def k0_chk322 (v5560 : BitVec 32) : Prop :=
  (8 ∣ (k0_mult322 v5560).toNat) ∧
  (∀ a, (k0_off659 v5560) a + S8x512.size a ≤ S20000x512.size a)
theorem k0_mult322_dvd : ∀ (v5560 : BitVec 32) (k0_hw322 : k0_chk322 v5560), 8 ∣ (k0_mult322 v5560).toNat := fun v5560 k0_hw322 => k0_hw322.1
theorem k0_off659_inb : ∀ (v5560 : BitVec 32) (k0_hw322 : k0_chk322 v5560), ∀ a, (k0_off659 v5560) a + S8x512.size a ≤ S20000x512.size a := fun v5560 k0_hw322 => k0_hw322.2

def k0_off660 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_1940 : BitVec 32 := 320#32
  let v5574 : BitVec 32 := Scalar.addi v63 c320_i32_1940
  let c2_i32_1941 : BitVec 32 := 2#32
  let v5575 : BitVec 32 := Scalar.addi v5574 c2_i32_1941
  let v5576 : Index := Scalar.indexCast v5575
  ![v5576.toNat]
def k0_mult323 (v5577 : BitVec 32) : BitVec 32 :=
  let c3_i32_1942 : BitVec 32 := 3#32
  let v5578 : BitVec 32 := Scalar.shrsi v5577 c3_i32_1942
  let c3_i32_1943 : BitVec 32 := 3#32
  let v5579 : BitVec 32 := Scalar.shli v5578 c3_i32_1943
  v5579

def k0_off661 (v5577 : BitVec 32) : Fin 2 → Nat :=
  let c3_i32_1942 : BitVec 32 := 3#32
  let v5578 : BitVec 32 := Scalar.shrsi v5577 c3_i32_1942
  let c3_i32_1943 : BitVec 32 := 3#32
  let v5579 : BitVec 32 := Scalar.shli v5578 c3_i32_1943
  let v5580 : BitVec 32 := v5579
  let v5581 : Index := Scalar.indexCast v5580
  let c0_1944 : Index := 0#32
  ![v5581.toNat, 0]

def k0_chk323 (v5577 : BitVec 32) : Prop :=
  (8 ∣ (k0_mult323 v5577).toNat) ∧
  (∀ a, (k0_off661 v5577) a + S8x512.size a ≤ S20000x512.size a)
theorem k0_mult323_dvd : ∀ (v5577 : BitVec 32) (k0_hw323 : k0_chk323 v5577), 8 ∣ (k0_mult323 v5577).toNat := fun v5577 k0_hw323 => k0_hw323.1
theorem k0_off661_inb : ∀ (v5577 : BitVec 32) (k0_hw323 : k0_chk323 v5577), ∀ a, (k0_off661 v5577) a + S8x512.size a ≤ S20000x512.size a := fun v5577 k0_hw323 => k0_hw323.2

def k0_off662 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_1946 : BitVec 32 := 320#32
  let v5591 : BitVec 32 := Scalar.addi v63 c320_i32_1946
  let c3_i32_1947 : BitVec 32 := 3#32
  let v5592 : BitVec 32 := Scalar.addi v5591 c3_i32_1947
  let v5593 : Index := Scalar.indexCast v5592
  ![v5593.toNat]
def k0_mult324 (v5594 : BitVec 32) : BitVec 32 :=
  let c3_i32_1948 : BitVec 32 := 3#32
  let v5595 : BitVec 32 := Scalar.shrsi v5594 c3_i32_1948
  let c3_i32_1949 : BitVec 32 := 3#32
  let v5596 : BitVec 32 := Scalar.shli v5595 c3_i32_1949
  v5596

def k0_off663 (v5594 : BitVec 32) : Fin 2 → Nat :=
  let c3_i32_1948 : BitVec 32 := 3#32
  let v5595 : BitVec 32 := Scalar.shrsi v5594 c3_i32_1948
  let c3_i32_1949 : BitVec 32 := 3#32
  let v5596 : BitVec 32 := Scalar.shli v5595 c3_i32_1949
  let v5597 : BitVec 32 := v5596
  let v5598 : Index := Scalar.indexCast v5597
  let c0_1950 : Index := 0#32
  ![v5598.toNat, 0]

def k0_chk324 (v5594 : BitVec 32) : Prop :=
  (8 ∣ (k0_mult324 v5594).toNat) ∧
  (∀ a, (k0_off663 v5594) a + S8x512.size a ≤ S20000x512.size a)
theorem k0_mult324_dvd : ∀ (v5594 : BitVec 32) (k0_hw324 : k0_chk324 v5594), 8 ∣ (k0_mult324 v5594).toNat := fun v5594 k0_hw324 => k0_hw324.1
theorem k0_off663_inb : ∀ (v5594 : BitVec 32) (k0_hw324 : k0_chk324 v5594), ∀ a, (k0_off663 v5594) a + S8x512.size a ≤ S20000x512.size a := fun v5594 k0_hw324 => k0_hw324.2

def k0_off664 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_1952 : BitVec 32 := 320#32
  let v5608 : BitVec 32 := Scalar.addi v63 c320_i32_1952
  let c4_i32_1953 : BitVec 32 := 4#32
  let v5609 : BitVec 32 := Scalar.addi v5608 c4_i32_1953
  let v5610 : Index := Scalar.indexCast v5609
  ![v5610.toNat]
def k0_mult325 (v5611 : BitVec 32) : BitVec 32 :=
  let c3_i32_1954 : BitVec 32 := 3#32
  let v5612 : BitVec 32 := Scalar.shrsi v5611 c3_i32_1954
  let c3_i32_1955 : BitVec 32 := 3#32
  let v5613 : BitVec 32 := Scalar.shli v5612 c3_i32_1955
  v5613

def k0_off665 (v5611 : BitVec 32) : Fin 2 → Nat :=
  let c3_i32_1954 : BitVec 32 := 3#32
  let v5612 : BitVec 32 := Scalar.shrsi v5611 c3_i32_1954
  let c3_i32_1955 : BitVec 32 := 3#32
  let v5613 : BitVec 32 := Scalar.shli v5612 c3_i32_1955
  let v5614 : BitVec 32 := v5613
  let v5615 : Index := Scalar.indexCast v5614
  let c0_1956 : Index := 0#32
  ![v5615.toNat, 0]

def k0_chk325 (v5611 : BitVec 32) : Prop :=
  (8 ∣ (k0_mult325 v5611).toNat) ∧
  (∀ a, (k0_off665 v5611) a + S8x512.size a ≤ S20000x512.size a)
theorem k0_mult325_dvd : ∀ (v5611 : BitVec 32) (k0_hw325 : k0_chk325 v5611), 8 ∣ (k0_mult325 v5611).toNat := fun v5611 k0_hw325 => k0_hw325.1
theorem k0_off665_inb : ∀ (v5611 : BitVec 32) (k0_hw325 : k0_chk325 v5611), ∀ a, (k0_off665 v5611) a + S8x512.size a ≤ S20000x512.size a := fun v5611 k0_hw325 => k0_hw325.2

def k0_off666 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_1958 : BitVec 32 := 320#32
  let v5625 : BitVec 32 := Scalar.addi v63 c320_i32_1958
  let c5_i32_1959 : BitVec 32 := 5#32
  let v5626 : BitVec 32 := Scalar.addi v5625 c5_i32_1959
  let v5627 : Index := Scalar.indexCast v5626
  ![v5627.toNat]
def k0_mult326 (v5628 : BitVec 32) : BitVec 32 :=
  let c3_i32_1960 : BitVec 32 := 3#32
  let v5629 : BitVec 32 := Scalar.shrsi v5628 c3_i32_1960
  let c3_i32_1961 : BitVec 32 := 3#32
  let v5630 : BitVec 32 := Scalar.shli v5629 c3_i32_1961
  v5630

def k0_off667 (v5628 : BitVec 32) : Fin 2 → Nat :=
  let c3_i32_1960 : BitVec 32 := 3#32
  let v5629 : BitVec 32 := Scalar.shrsi v5628 c3_i32_1960
  let c3_i32_1961 : BitVec 32 := 3#32
  let v5630 : BitVec 32 := Scalar.shli v5629 c3_i32_1961
  let v5631 : BitVec 32 := v5630
  let v5632 : Index := Scalar.indexCast v5631
  let c0_1962 : Index := 0#32
  ![v5632.toNat, 0]

def k0_chk326 (v5628 : BitVec 32) : Prop :=
  (8 ∣ (k0_mult326 v5628).toNat) ∧
  (∀ a, (k0_off667 v5628) a + S8x512.size a ≤ S20000x512.size a)
theorem k0_mult326_dvd : ∀ (v5628 : BitVec 32) (k0_hw326 : k0_chk326 v5628), 8 ∣ (k0_mult326 v5628).toNat := fun v5628 k0_hw326 => k0_hw326.1
theorem k0_off667_inb : ∀ (v5628 : BitVec 32) (k0_hw326 : k0_chk326 v5628), ∀ a, (k0_off667 v5628) a + S8x512.size a ≤ S20000x512.size a := fun v5628 k0_hw326 => k0_hw326.2

def k0_off668 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_1964 : BitVec 32 := 320#32
  let v5642 : BitVec 32 := Scalar.addi v63 c320_i32_1964
  let c6_i32_1965 : BitVec 32 := 6#32
  let v5643 : BitVec 32 := Scalar.addi v5642 c6_i32_1965
  let v5644 : Index := Scalar.indexCast v5643
  ![v5644.toNat]
def k0_mult327 (v5645 : BitVec 32) : BitVec 32 :=
  let c3_i32_1966 : BitVec 32 := 3#32
  let v5646 : BitVec 32 := Scalar.shrsi v5645 c3_i32_1966
  let c3_i32_1967 : BitVec 32 := 3#32
  let v5647 : BitVec 32 := Scalar.shli v5646 c3_i32_1967
  v5647

def k0_off669 (v5645 : BitVec 32) : Fin 2 → Nat :=
  let c3_i32_1966 : BitVec 32 := 3#32
  let v5646 : BitVec 32 := Scalar.shrsi v5645 c3_i32_1966
  let c3_i32_1967 : BitVec 32 := 3#32
  let v5647 : BitVec 32 := Scalar.shli v5646 c3_i32_1967
  let v5648 : BitVec 32 := v5647
  let v5649 : Index := Scalar.indexCast v5648
  let c0_1968 : Index := 0#32
  ![v5649.toNat, 0]

def k0_chk327 (v5645 : BitVec 32) : Prop :=
  (8 ∣ (k0_mult327 v5645).toNat) ∧
  (∀ a, (k0_off669 v5645) a + S8x512.size a ≤ S20000x512.size a)
theorem k0_mult327_dvd : ∀ (v5645 : BitVec 32) (k0_hw327 : k0_chk327 v5645), 8 ∣ (k0_mult327 v5645).toNat := fun v5645 k0_hw327 => k0_hw327.1
theorem k0_off669_inb : ∀ (v5645 : BitVec 32) (k0_hw327 : k0_chk327 v5645), ∀ a, (k0_off669 v5645) a + S8x512.size a ≤ S20000x512.size a := fun v5645 k0_hw327 => k0_hw327.2

def k0_off670 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_1970 : BitVec 32 := 320#32
  let v5659 : BitVec 32 := Scalar.addi v63 c320_i32_1970
  let c7_i32_1971 : BitVec 32 := 7#32
  let v5660 : BitVec 32 := Scalar.addi v5659 c7_i32_1971
  let v5661 : Index := Scalar.indexCast v5660
  ![v5661.toNat]
def k0_mult328 (v5662 : BitVec 32) : BitVec 32 :=
  let c3_i32_1972 : BitVec 32 := 3#32
  let v5663 : BitVec 32 := Scalar.shrsi v5662 c3_i32_1972
  let c3_i32_1973 : BitVec 32 := 3#32
  let v5664 : BitVec 32 := Scalar.shli v5663 c3_i32_1973
  v5664

def k0_off671 (v5662 : BitVec 32) : Fin 2 → Nat :=
  let c3_i32_1972 : BitVec 32 := 3#32
  let v5663 : BitVec 32 := Scalar.shrsi v5662 c3_i32_1972
  let c3_i32_1973 : BitVec 32 := 3#32
  let v5664 : BitVec 32 := Scalar.shli v5663 c3_i32_1973
  let v5665 : BitVec 32 := v5664
  let v5666 : Index := Scalar.indexCast v5665
  let c0_1974 : Index := 0#32
  ![v5666.toNat, 0]

def k0_chk328 (v5662 : BitVec 32) : Prop :=
  (8 ∣ (k0_mult328 v5662).toNat) ∧
  (∀ a, (k0_off671 v5662) a + S8x512.size a ≤ S20000x512.size a)
theorem k0_mult328_dvd : ∀ (v5662 : BitVec 32) (k0_hw328 : k0_chk328 v5662), 8 ∣ (k0_mult328 v5662).toNat := fun v5662 k0_hw328 => k0_hw328.1
theorem k0_off671_inb : ∀ (v5662 : BitVec 32) (k0_hw328 : k0_chk328 v5662), ∀ a, (k0_off671 v5662) a + S8x512.size a ≤ S20000x512.size a := fun v5662 k0_hw328 => k0_hw328.2

def k0_off672 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_1976 : BitVec 32 := 320#32
  let v5676 : BitVec 32 := Scalar.addi v63 c320_i32_1976
  let c8_i32_1977 : BitVec 32 := 8#32
  let v5677 : BitVec 32 := Scalar.addi v5676 c8_i32_1977
  let v5678 : Index := Scalar.indexCast v5677
  ![v5678.toNat]
def k0_mult329 (v5679 : BitVec 32) : BitVec 32 :=
  let c3_i32_1978 : BitVec 32 := 3#32
  let v5680 : BitVec 32 := Scalar.shrsi v5679 c3_i32_1978
  let c3_i32_1979 : BitVec 32 := 3#32
  let v5681 : BitVec 32 := Scalar.shli v5680 c3_i32_1979
  v5681

def k0_off673 (v5679 : BitVec 32) : Fin 2 → Nat :=
  let c3_i32_1978 : BitVec 32 := 3#32
  let v5680 : BitVec 32 := Scalar.shrsi v5679 c3_i32_1978
  let c3_i32_1979 : BitVec 32 := 3#32
  let v5681 : BitVec 32 := Scalar.shli v5680 c3_i32_1979
  let v5682 : BitVec 32 := v5681
  let v5683 : Index := Scalar.indexCast v5682
  let c0_1980 : Index := 0#32
  ![v5683.toNat, 0]

def k0_chk329 (v5679 : BitVec 32) : Prop :=
  (8 ∣ (k0_mult329 v5679).toNat) ∧
  (∀ a, (k0_off673 v5679) a + S8x512.size a ≤ S20000x512.size a)
theorem k0_mult329_dvd : ∀ (v5679 : BitVec 32) (k0_hw329 : k0_chk329 v5679), 8 ∣ (k0_mult329 v5679).toNat := fun v5679 k0_hw329 => k0_hw329.1
theorem k0_off673_inb : ∀ (v5679 : BitVec 32) (k0_hw329 : k0_chk329 v5679), ∀ a, (k0_off673 v5679) a + S8x512.size a ≤ S20000x512.size a := fun v5679 k0_hw329 => k0_hw329.2

def k0_off674 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_1982 : BitVec 32 := 320#32
  let v5693 : BitVec 32 := Scalar.addi v63 c320_i32_1982
  let c9_i32_1983 : BitVec 32 := 9#32
  let v5694 : BitVec 32 := Scalar.addi v5693 c9_i32_1983
  let v5695 : Index := Scalar.indexCast v5694
  ![v5695.toNat]
def k0_mult330 (v5696 : BitVec 32) : BitVec 32 :=
  let c3_i32_1984 : BitVec 32 := 3#32
  let v5697 : BitVec 32 := Scalar.shrsi v5696 c3_i32_1984
  let c3_i32_1985 : BitVec 32 := 3#32
  let v5698 : BitVec 32 := Scalar.shli v5697 c3_i32_1985
  v5698

def k0_off675 (v5696 : BitVec 32) : Fin 2 → Nat :=
  let c3_i32_1984 : BitVec 32 := 3#32
  let v5697 : BitVec 32 := Scalar.shrsi v5696 c3_i32_1984
  let c3_i32_1985 : BitVec 32 := 3#32
  let v5698 : BitVec 32 := Scalar.shli v5697 c3_i32_1985
  let v5699 : BitVec 32 := v5698
  let v5700 : Index := Scalar.indexCast v5699
  let c0_1986 : Index := 0#32
  ![v5700.toNat, 0]

def k0_chk330 (v5696 : BitVec 32) : Prop :=
  (8 ∣ (k0_mult330 v5696).toNat) ∧
  (∀ a, (k0_off675 v5696) a + S8x512.size a ≤ S20000x512.size a)
theorem k0_mult330_dvd : ∀ (v5696 : BitVec 32) (k0_hw330 : k0_chk330 v5696), 8 ∣ (k0_mult330 v5696).toNat := fun v5696 k0_hw330 => k0_hw330.1
theorem k0_off675_inb : ∀ (v5696 : BitVec 32) (k0_hw330 : k0_chk330 v5696), ∀ a, (k0_off675 v5696) a + S8x512.size a ≤ S20000x512.size a := fun v5696 k0_hw330 => k0_hw330.2

def k0_off676 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_1988 : BitVec 32 := 320#32
  let v5710 : BitVec 32 := Scalar.addi v63 c320_i32_1988
  let c10_i32_1989 : BitVec 32 := 10#32
  let v5711 : BitVec 32 := Scalar.addi v5710 c10_i32_1989
  let v5712 : Index := Scalar.indexCast v5711
  ![v5712.toNat]
def k0_mult331 (v5713 : BitVec 32) : BitVec 32 :=
  let c3_i32_1990 : BitVec 32 := 3#32
  let v5714 : BitVec 32 := Scalar.shrsi v5713 c3_i32_1990
  let c3_i32_1991 : BitVec 32 := 3#32
  let v5715 : BitVec 32 := Scalar.shli v5714 c3_i32_1991
  v5715

def k0_off677 (v5713 : BitVec 32) : Fin 2 → Nat :=
  let c3_i32_1990 : BitVec 32 := 3#32
  let v5714 : BitVec 32 := Scalar.shrsi v5713 c3_i32_1990
  let c3_i32_1991 : BitVec 32 := 3#32
  let v5715 : BitVec 32 := Scalar.shli v5714 c3_i32_1991
  let v5716 : BitVec 32 := v5715
  let v5717 : Index := Scalar.indexCast v5716
  let c0_1992 : Index := 0#32
  ![v5717.toNat, 0]

def k0_chk331 (v5713 : BitVec 32) : Prop :=
  (8 ∣ (k0_mult331 v5713).toNat) ∧
  (∀ a, (k0_off677 v5713) a + S8x512.size a ≤ S20000x512.size a)
theorem k0_mult331_dvd : ∀ (v5713 : BitVec 32) (k0_hw331 : k0_chk331 v5713), 8 ∣ (k0_mult331 v5713).toNat := fun v5713 k0_hw331 => k0_hw331.1
theorem k0_off677_inb : ∀ (v5713 : BitVec 32) (k0_hw331 : k0_chk331 v5713), ∀ a, (k0_off677 v5713) a + S8x512.size a ≤ S20000x512.size a := fun v5713 k0_hw331 => k0_hw331.2

def k0_off678 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_1994 : BitVec 32 := 320#32
  let v5727 : BitVec 32 := Scalar.addi v63 c320_i32_1994
  let c11_i32_1995 : BitVec 32 := 11#32
  let v5728 : BitVec 32 := Scalar.addi v5727 c11_i32_1995
  let v5729 : Index := Scalar.indexCast v5728
  ![v5729.toNat]
def k0_mult332 (v5730 : BitVec 32) : BitVec 32 :=
  let c3_i32_1996 : BitVec 32 := 3#32
  let v5731 : BitVec 32 := Scalar.shrsi v5730 c3_i32_1996
  let c3_i32_1997 : BitVec 32 := 3#32
  let v5732 : BitVec 32 := Scalar.shli v5731 c3_i32_1997
  v5732

def k0_off679 (v5730 : BitVec 32) : Fin 2 → Nat :=
  let c3_i32_1996 : BitVec 32 := 3#32
  let v5731 : BitVec 32 := Scalar.shrsi v5730 c3_i32_1996
  let c3_i32_1997 : BitVec 32 := 3#32
  let v5732 : BitVec 32 := Scalar.shli v5731 c3_i32_1997
  let v5733 : BitVec 32 := v5732
  let v5734 : Index := Scalar.indexCast v5733
  let c0_1998 : Index := 0#32
  ![v5734.toNat, 0]

def k0_chk332 (v5730 : BitVec 32) : Prop :=
  (8 ∣ (k0_mult332 v5730).toNat) ∧
  (∀ a, (k0_off679 v5730) a + S8x512.size a ≤ S20000x512.size a)
theorem k0_mult332_dvd : ∀ (v5730 : BitVec 32) (k0_hw332 : k0_chk332 v5730), 8 ∣ (k0_mult332 v5730).toNat := fun v5730 k0_hw332 => k0_hw332.1
theorem k0_off679_inb : ∀ (v5730 : BitVec 32) (k0_hw332 : k0_chk332 v5730), ∀ a, (k0_off679 v5730) a + S8x512.size a ≤ S20000x512.size a := fun v5730 k0_hw332 => k0_hw332.2

def k0_off680 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2000 : BitVec 32 := 320#32
  let v5744 : BitVec 32 := Scalar.addi v63 c320_i32_2000
  let c12_i32_2001 : BitVec 32 := 12#32
  let v5745 : BitVec 32 := Scalar.addi v5744 c12_i32_2001
  let v5746 : Index := Scalar.indexCast v5745
  ![v5746.toNat]
def k0_mult333 (v5747 : BitVec 32) : BitVec 32 :=
  let c3_i32_2002 : BitVec 32 := 3#32
  let v5748 : BitVec 32 := Scalar.shrsi v5747 c3_i32_2002
  let c3_i32_2003 : BitVec 32 := 3#32
  let v5749 : BitVec 32 := Scalar.shli v5748 c3_i32_2003
  v5749

def k0_off681 (v5747 : BitVec 32) : Fin 2 → Nat :=
  let c3_i32_2002 : BitVec 32 := 3#32
  let v5748 : BitVec 32 := Scalar.shrsi v5747 c3_i32_2002
  let c3_i32_2003 : BitVec 32 := 3#32
  let v5749 : BitVec 32 := Scalar.shli v5748 c3_i32_2003
  let v5750 : BitVec 32 := v5749
  let v5751 : Index := Scalar.indexCast v5750
  let c0_2004 : Index := 0#32
  ![v5751.toNat, 0]

def k0_chk333 (v5747 : BitVec 32) : Prop :=
  (8 ∣ (k0_mult333 v5747).toNat) ∧
  (∀ a, (k0_off681 v5747) a + S8x512.size a ≤ S20000x512.size a)
theorem k0_mult333_dvd : ∀ (v5747 : BitVec 32) (k0_hw333 : k0_chk333 v5747), 8 ∣ (k0_mult333 v5747).toNat := fun v5747 k0_hw333 => k0_hw333.1
theorem k0_off681_inb : ∀ (v5747 : BitVec 32) (k0_hw333 : k0_chk333 v5747), ∀ a, (k0_off681 v5747) a + S8x512.size a ≤ S20000x512.size a := fun v5747 k0_hw333 => k0_hw333.2

def k0_off682 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2006 : BitVec 32 := 320#32
  let v5761 : BitVec 32 := Scalar.addi v63 c320_i32_2006
  let c13_i32_2007 : BitVec 32 := 13#32
  let v5762 : BitVec 32 := Scalar.addi v5761 c13_i32_2007
  let v5763 : Index := Scalar.indexCast v5762
  ![v5763.toNat]
def k0_mult334 (v5764 : BitVec 32) : BitVec 32 :=
  let c3_i32_2008 : BitVec 32 := 3#32
  let v5765 : BitVec 32 := Scalar.shrsi v5764 c3_i32_2008
  let c3_i32_2009 : BitVec 32 := 3#32
  let v5766 : BitVec 32 := Scalar.shli v5765 c3_i32_2009
  v5766

def k0_off683 (v5764 : BitVec 32) : Fin 2 → Nat :=
  let c3_i32_2008 : BitVec 32 := 3#32
  let v5765 : BitVec 32 := Scalar.shrsi v5764 c3_i32_2008
  let c3_i32_2009 : BitVec 32 := 3#32
  let v5766 : BitVec 32 := Scalar.shli v5765 c3_i32_2009
  let v5767 : BitVec 32 := v5766
  let v5768 : Index := Scalar.indexCast v5767
  let c0_2010 : Index := 0#32
  ![v5768.toNat, 0]

def k0_chk334 (v5764 : BitVec 32) : Prop :=
  (8 ∣ (k0_mult334 v5764).toNat) ∧
  (∀ a, (k0_off683 v5764) a + S8x512.size a ≤ S20000x512.size a)
theorem k0_mult334_dvd : ∀ (v5764 : BitVec 32) (k0_hw334 : k0_chk334 v5764), 8 ∣ (k0_mult334 v5764).toNat := fun v5764 k0_hw334 => k0_hw334.1
theorem k0_off683_inb : ∀ (v5764 : BitVec 32) (k0_hw334 : k0_chk334 v5764), ∀ a, (k0_off683 v5764) a + S8x512.size a ≤ S20000x512.size a := fun v5764 k0_hw334 => k0_hw334.2

def k0_off684 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2012 : BitVec 32 := 320#32
  let v5778 : BitVec 32 := Scalar.addi v63 c320_i32_2012
  let c14_i32_2013 : BitVec 32 := 14#32
  let v5779 : BitVec 32 := Scalar.addi v5778 c14_i32_2013
  let v5780 : Index := Scalar.indexCast v5779
  ![v5780.toNat]
def k0_mult335 (v5781 : BitVec 32) : BitVec 32 :=
  let c3_i32_2014 : BitVec 32 := 3#32
  let v5782 : BitVec 32 := Scalar.shrsi v5781 c3_i32_2014
  let c3_i32_2015 : BitVec 32 := 3#32
  let v5783 : BitVec 32 := Scalar.shli v5782 c3_i32_2015
  v5783

def k0_off685 (v5781 : BitVec 32) : Fin 2 → Nat :=
  let c3_i32_2014 : BitVec 32 := 3#32
  let v5782 : BitVec 32 := Scalar.shrsi v5781 c3_i32_2014
  let c3_i32_2015 : BitVec 32 := 3#32
  let v5783 : BitVec 32 := Scalar.shli v5782 c3_i32_2015
  let v5784 : BitVec 32 := v5783
  let v5785 : Index := Scalar.indexCast v5784
  let c0_2016 : Index := 0#32
  ![v5785.toNat, 0]

def k0_chk335 (v5781 : BitVec 32) : Prop :=
  (8 ∣ (k0_mult335 v5781).toNat) ∧
  (∀ a, (k0_off685 v5781) a + S8x512.size a ≤ S20000x512.size a)
theorem k0_mult335_dvd : ∀ (v5781 : BitVec 32) (k0_hw335 : k0_chk335 v5781), 8 ∣ (k0_mult335 v5781).toNat := fun v5781 k0_hw335 => k0_hw335.1
theorem k0_off685_inb : ∀ (v5781 : BitVec 32) (k0_hw335 : k0_chk335 v5781), ∀ a, (k0_off685 v5781) a + S8x512.size a ≤ S20000x512.size a := fun v5781 k0_hw335 => k0_hw335.2

def k0_off686 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2018 : BitVec 32 := 320#32
  let v5795 : BitVec 32 := Scalar.addi v63 c320_i32_2018
  let c15_i32_2019 : BitVec 32 := 15#32
  let v5796 : BitVec 32 := Scalar.addi v5795 c15_i32_2019
  let v5797 : Index := Scalar.indexCast v5796
  ![v5797.toNat]
def k0_mult336 (v5798 : BitVec 32) : BitVec 32 :=
  let c3_i32_2020 : BitVec 32 := 3#32
  let v5799 : BitVec 32 := Scalar.shrsi v5798 c3_i32_2020
  let c3_i32_2021 : BitVec 32 := 3#32
  let v5800 : BitVec 32 := Scalar.shli v5799 c3_i32_2021
  v5800

def k0_off687 (v5798 : BitVec 32) : Fin 2 → Nat :=
  let c3_i32_2020 : BitVec 32 := 3#32
  let v5799 : BitVec 32 := Scalar.shrsi v5798 c3_i32_2020
  let c3_i32_2021 : BitVec 32 := 3#32
  let v5800 : BitVec 32 := Scalar.shli v5799 c3_i32_2021
  let v5801 : BitVec 32 := v5800
  let v5802 : Index := Scalar.indexCast v5801
  let c0_2022 : Index := 0#32
  ![v5802.toNat, 0]

def k0_chk336 (v5798 : BitVec 32) : Prop :=
  (8 ∣ (k0_mult336 v5798).toNat) ∧
  (∀ a, (k0_off687 v5798) a + S8x512.size a ≤ S20000x512.size a)
theorem k0_mult336_dvd : ∀ (v5798 : BitVec 32) (k0_hw336 : k0_chk336 v5798), 8 ∣ (k0_mult336 v5798).toNat := fun v5798 k0_hw336 => k0_hw336.1
theorem k0_off687_inb : ∀ (v5798 : BitVec 32) (k0_hw336 : k0_chk336 v5798), ∀ a, (k0_off687 v5798) a + S8x512.size a ≤ S20000x512.size a := fun v5798 k0_hw336 => k0_hw336.2

def k0_off688 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2024 : BitVec 32 := 320#32
  let v5812 : BitVec 32 := Scalar.addi v63 c320_i32_2024
  let c16_i32_2025 : BitVec 32 := 16#32
  let v5813 : BitVec 32 := Scalar.addi v5812 c16_i32_2025
  let v5814 : Index := Scalar.indexCast v5813
  ![v5814.toNat]
def k0_mult337 (v5815 : BitVec 32) : BitVec 32 :=
  let c3_i32_2026 : BitVec 32 := 3#32
  let v5816 : BitVec 32 := Scalar.shrsi v5815 c3_i32_2026
  let c3_i32_2027 : BitVec 32 := 3#32
  let v5817 : BitVec 32 := Scalar.shli v5816 c3_i32_2027
  v5817

def k0_off689 (v5815 : BitVec 32) : Fin 2 → Nat :=
  let c3_i32_2026 : BitVec 32 := 3#32
  let v5816 : BitVec 32 := Scalar.shrsi v5815 c3_i32_2026
  let c3_i32_2027 : BitVec 32 := 3#32
  let v5817 : BitVec 32 := Scalar.shli v5816 c3_i32_2027
  let v5818 : BitVec 32 := v5817
  let v5819 : Index := Scalar.indexCast v5818
  let c0_2028 : Index := 0#32
  ![v5819.toNat, 0]

def k0_chk337 (v5815 : BitVec 32) : Prop :=
  (8 ∣ (k0_mult337 v5815).toNat) ∧
  (∀ a, (k0_off689 v5815) a + S8x512.size a ≤ S20000x512.size a)
theorem k0_mult337_dvd : ∀ (v5815 : BitVec 32) (k0_hw337 : k0_chk337 v5815), 8 ∣ (k0_mult337 v5815).toNat := fun v5815 k0_hw337 => k0_hw337.1
theorem k0_off689_inb : ∀ (v5815 : BitVec 32) (k0_hw337 : k0_chk337 v5815), ∀ a, (k0_off689 v5815) a + S8x512.size a ≤ S20000x512.size a := fun v5815 k0_hw337 => k0_hw337.2

def k0_off690 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2030 : BitVec 32 := 320#32
  let v5829 : BitVec 32 := Scalar.addi v63 c320_i32_2030
  let c17_i32_2031 : BitVec 32 := 17#32
  let v5830 : BitVec 32 := Scalar.addi v5829 c17_i32_2031
  let v5831 : Index := Scalar.indexCast v5830
  ![v5831.toNat]
def k0_mult338 (v5832 : BitVec 32) : BitVec 32 :=
  let c3_i32_2032 : BitVec 32 := 3#32
  let v5833 : BitVec 32 := Scalar.shrsi v5832 c3_i32_2032
  let c3_i32_2033 : BitVec 32 := 3#32
  let v5834 : BitVec 32 := Scalar.shli v5833 c3_i32_2033
  v5834

def k0_off691 (v5832 : BitVec 32) : Fin 2 → Nat :=
  let c3_i32_2032 : BitVec 32 := 3#32
  let v5833 : BitVec 32 := Scalar.shrsi v5832 c3_i32_2032
  let c3_i32_2033 : BitVec 32 := 3#32
  let v5834 : BitVec 32 := Scalar.shli v5833 c3_i32_2033
  let v5835 : BitVec 32 := v5834
  let v5836 : Index := Scalar.indexCast v5835
  let c0_2034 : Index := 0#32
  ![v5836.toNat, 0]

def k0_chk338 (v5832 : BitVec 32) : Prop :=
  (8 ∣ (k0_mult338 v5832).toNat) ∧
  (∀ a, (k0_off691 v5832) a + S8x512.size a ≤ S20000x512.size a)
theorem k0_mult338_dvd : ∀ (v5832 : BitVec 32) (k0_hw338 : k0_chk338 v5832), 8 ∣ (k0_mult338 v5832).toNat := fun v5832 k0_hw338 => k0_hw338.1
theorem k0_off691_inb : ∀ (v5832 : BitVec 32) (k0_hw338 : k0_chk338 v5832), ∀ a, (k0_off691 v5832) a + S8x512.size a ≤ S20000x512.size a := fun v5832 k0_hw338 => k0_hw338.2

def k0_off692 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2036 : BitVec 32 := 320#32
  let v5846 : BitVec 32 := Scalar.addi v63 c320_i32_2036
  let c18_i32_2037 : BitVec 32 := 18#32
  let v5847 : BitVec 32 := Scalar.addi v5846 c18_i32_2037
  let v5848 : Index := Scalar.indexCast v5847
  ![v5848.toNat]
def k0_mult339 (v5849 : BitVec 32) : BitVec 32 :=
  let c3_i32_2038 : BitVec 32 := 3#32
  let v5850 : BitVec 32 := Scalar.shrsi v5849 c3_i32_2038
  let c3_i32_2039 : BitVec 32 := 3#32
  let v5851 : BitVec 32 := Scalar.shli v5850 c3_i32_2039
  v5851

def k0_off693 (v5849 : BitVec 32) : Fin 2 → Nat :=
  let c3_i32_2038 : BitVec 32 := 3#32
  let v5850 : BitVec 32 := Scalar.shrsi v5849 c3_i32_2038
  let c3_i32_2039 : BitVec 32 := 3#32
  let v5851 : BitVec 32 := Scalar.shli v5850 c3_i32_2039
  let v5852 : BitVec 32 := v5851
  let v5853 : Index := Scalar.indexCast v5852
  let c0_2040 : Index := 0#32
  ![v5853.toNat, 0]

def k0_chk339 (v5849 : BitVec 32) : Prop :=
  (8 ∣ (k0_mult339 v5849).toNat) ∧
  (∀ a, (k0_off693 v5849) a + S8x512.size a ≤ S20000x512.size a)
theorem k0_mult339_dvd : ∀ (v5849 : BitVec 32) (k0_hw339 : k0_chk339 v5849), 8 ∣ (k0_mult339 v5849).toNat := fun v5849 k0_hw339 => k0_hw339.1
theorem k0_off693_inb : ∀ (v5849 : BitVec 32) (k0_hw339 : k0_chk339 v5849), ∀ a, (k0_off693 v5849) a + S8x512.size a ≤ S20000x512.size a := fun v5849 k0_hw339 => k0_hw339.2

def k0_off694 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2042 : BitVec 32 := 320#32
  let v5863 : BitVec 32 := Scalar.addi v63 c320_i32_2042
  let c19_i32_2043 : BitVec 32 := 19#32
  let v5864 : BitVec 32 := Scalar.addi v5863 c19_i32_2043
  let v5865 : Index := Scalar.indexCast v5864
  ![v5865.toNat]
def k0_mult340 (v5866 : BitVec 32) : BitVec 32 :=
  let c3_i32_2044 : BitVec 32 := 3#32
  let v5867 : BitVec 32 := Scalar.shrsi v5866 c3_i32_2044
  let c3_i32_2045 : BitVec 32 := 3#32
  let v5868 : BitVec 32 := Scalar.shli v5867 c3_i32_2045
  v5868

def k0_off695 (v5866 : BitVec 32) : Fin 2 → Nat :=
  let c3_i32_2044 : BitVec 32 := 3#32
  let v5867 : BitVec 32 := Scalar.shrsi v5866 c3_i32_2044
  let c3_i32_2045 : BitVec 32 := 3#32
  let v5868 : BitVec 32 := Scalar.shli v5867 c3_i32_2045
  let v5869 : BitVec 32 := v5868
  let v5870 : Index := Scalar.indexCast v5869
  let c0_2046 : Index := 0#32
  ![v5870.toNat, 0]

def k0_chk340 (v5866 : BitVec 32) : Prop :=
  (8 ∣ (k0_mult340 v5866).toNat) ∧
  (∀ a, (k0_off695 v5866) a + S8x512.size a ≤ S20000x512.size a)
theorem k0_mult340_dvd : ∀ (v5866 : BitVec 32) (k0_hw340 : k0_chk340 v5866), 8 ∣ (k0_mult340 v5866).toNat := fun v5866 k0_hw340 => k0_hw340.1
theorem k0_off695_inb : ∀ (v5866 : BitVec 32) (k0_hw340 : k0_chk340 v5866), ∀ a, (k0_off695 v5866) a + S8x512.size a ≤ S20000x512.size a := fun v5866 k0_hw340 => k0_hw340.2

def k0_off696 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2048 : BitVec 32 := 320#32
  let v5880 : BitVec 32 := Scalar.addi v63 c320_i32_2048
  let c20_i32_2049 : BitVec 32 := 20#32
  let v5881 : BitVec 32 := Scalar.addi v5880 c20_i32_2049
  let v5882 : Index := Scalar.indexCast v5881
  ![v5882.toNat]
def k0_mult341 (v5883 : BitVec 32) : BitVec 32 :=
  let c3_i32_2050 : BitVec 32 := 3#32
  let v5884 : BitVec 32 := Scalar.shrsi v5883 c3_i32_2050
  let c3_i32_2051 : BitVec 32 := 3#32
  let v5885 : BitVec 32 := Scalar.shli v5884 c3_i32_2051
  v5885

def k0_off697 (v5883 : BitVec 32) : Fin 2 → Nat :=
  let c3_i32_2050 : BitVec 32 := 3#32
  let v5884 : BitVec 32 := Scalar.shrsi v5883 c3_i32_2050
  let c3_i32_2051 : BitVec 32 := 3#32
  let v5885 : BitVec 32 := Scalar.shli v5884 c3_i32_2051
  let v5886 : BitVec 32 := v5885
  let v5887 : Index := Scalar.indexCast v5886
  let c0_2052 : Index := 0#32
  ![v5887.toNat, 0]

def k0_chk341 (v5883 : BitVec 32) : Prop :=
  (8 ∣ (k0_mult341 v5883).toNat) ∧
  (∀ a, (k0_off697 v5883) a + S8x512.size a ≤ S20000x512.size a)
theorem k0_mult341_dvd : ∀ (v5883 : BitVec 32) (k0_hw341 : k0_chk341 v5883), 8 ∣ (k0_mult341 v5883).toNat := fun v5883 k0_hw341 => k0_hw341.1
theorem k0_off697_inb : ∀ (v5883 : BitVec 32) (k0_hw341 : k0_chk341 v5883), ∀ a, (k0_off697 v5883) a + S8x512.size a ≤ S20000x512.size a := fun v5883 k0_hw341 => k0_hw341.2

def k0_off698 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2054 : BitVec 32 := 320#32
  let v5897 : BitVec 32 := Scalar.addi v63 c320_i32_2054
  let c21_i32_2055 : BitVec 32 := 21#32
  let v5898 : BitVec 32 := Scalar.addi v5897 c21_i32_2055
  let v5899 : Index := Scalar.indexCast v5898
  ![v5899.toNat]
def k0_mult342 (v5900 : BitVec 32) : BitVec 32 :=
  let c3_i32_2056 : BitVec 32 := 3#32
  let v5901 : BitVec 32 := Scalar.shrsi v5900 c3_i32_2056
  let c3_i32_2057 : BitVec 32 := 3#32
  let v5902 : BitVec 32 := Scalar.shli v5901 c3_i32_2057
  v5902

def k0_off699 (v5900 : BitVec 32) : Fin 2 → Nat :=
  let c3_i32_2056 : BitVec 32 := 3#32
  let v5901 : BitVec 32 := Scalar.shrsi v5900 c3_i32_2056
  let c3_i32_2057 : BitVec 32 := 3#32
  let v5902 : BitVec 32 := Scalar.shli v5901 c3_i32_2057
  let v5903 : BitVec 32 := v5902
  let v5904 : Index := Scalar.indexCast v5903
  let c0_2058 : Index := 0#32
  ![v5904.toNat, 0]

def k0_chk342 (v5900 : BitVec 32) : Prop :=
  (8 ∣ (k0_mult342 v5900).toNat) ∧
  (∀ a, (k0_off699 v5900) a + S8x512.size a ≤ S20000x512.size a)
theorem k0_mult342_dvd : ∀ (v5900 : BitVec 32) (k0_hw342 : k0_chk342 v5900), 8 ∣ (k0_mult342 v5900).toNat := fun v5900 k0_hw342 => k0_hw342.1
theorem k0_off699_inb : ∀ (v5900 : BitVec 32) (k0_hw342 : k0_chk342 v5900), ∀ a, (k0_off699 v5900) a + S8x512.size a ≤ S20000x512.size a := fun v5900 k0_hw342 => k0_hw342.2

def k0_off700 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2060 : BitVec 32 := 320#32
  let v5914 : BitVec 32 := Scalar.addi v63 c320_i32_2060
  let c22_i32_2061 : BitVec 32 := 22#32
  let v5915 : BitVec 32 := Scalar.addi v5914 c22_i32_2061
  let v5916 : Index := Scalar.indexCast v5915
  ![v5916.toNat]
def k0_mult343 (v5917 : BitVec 32) : BitVec 32 :=
  let c3_i32_2062 : BitVec 32 := 3#32
  let v5918 : BitVec 32 := Scalar.shrsi v5917 c3_i32_2062
  let c3_i32_2063 : BitVec 32 := 3#32
  let v5919 : BitVec 32 := Scalar.shli v5918 c3_i32_2063
  v5919

def k0_off701 (v5917 : BitVec 32) : Fin 2 → Nat :=
  let c3_i32_2062 : BitVec 32 := 3#32
  let v5918 : BitVec 32 := Scalar.shrsi v5917 c3_i32_2062
  let c3_i32_2063 : BitVec 32 := 3#32
  let v5919 : BitVec 32 := Scalar.shli v5918 c3_i32_2063
  let v5920 : BitVec 32 := v5919
  let v5921 : Index := Scalar.indexCast v5920
  let c0_2064 : Index := 0#32
  ![v5921.toNat, 0]

def k0_chk343 (v5917 : BitVec 32) : Prop :=
  (8 ∣ (k0_mult343 v5917).toNat) ∧
  (∀ a, (k0_off701 v5917) a + S8x512.size a ≤ S20000x512.size a)
theorem k0_mult343_dvd : ∀ (v5917 : BitVec 32) (k0_hw343 : k0_chk343 v5917), 8 ∣ (k0_mult343 v5917).toNat := fun v5917 k0_hw343 => k0_hw343.1
theorem k0_off701_inb : ∀ (v5917 : BitVec 32) (k0_hw343 : k0_chk343 v5917), ∀ a, (k0_off701 v5917) a + S8x512.size a ≤ S20000x512.size a := fun v5917 k0_hw343 => k0_hw343.2

def k0_off702 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2066 : BitVec 32 := 320#32
  let v5931 : BitVec 32 := Scalar.addi v63 c320_i32_2066
  let c23_i32_2067 : BitVec 32 := 23#32
  let v5932 : BitVec 32 := Scalar.addi v5931 c23_i32_2067
  let v5933 : Index := Scalar.indexCast v5932
  ![v5933.toNat]
def k0_mult344 (v5934 : BitVec 32) : BitVec 32 :=
  let c3_i32_2068 : BitVec 32 := 3#32
  let v5935 : BitVec 32 := Scalar.shrsi v5934 c3_i32_2068
  let c3_i32_2069 : BitVec 32 := 3#32
  let v5936 : BitVec 32 := Scalar.shli v5935 c3_i32_2069
  v5936

def k0_off703 (v5934 : BitVec 32) : Fin 2 → Nat :=
  let c3_i32_2068 : BitVec 32 := 3#32
  let v5935 : BitVec 32 := Scalar.shrsi v5934 c3_i32_2068
  let c3_i32_2069 : BitVec 32 := 3#32
  let v5936 : BitVec 32 := Scalar.shli v5935 c3_i32_2069
  let v5937 : BitVec 32 := v5936
  let v5938 : Index := Scalar.indexCast v5937
  let c0_2070 : Index := 0#32
  ![v5938.toNat, 0]

def k0_chk344 (v5934 : BitVec 32) : Prop :=
  (8 ∣ (k0_mult344 v5934).toNat) ∧
  (∀ a, (k0_off703 v5934) a + S8x512.size a ≤ S20000x512.size a)
theorem k0_mult344_dvd : ∀ (v5934 : BitVec 32) (k0_hw344 : k0_chk344 v5934), 8 ∣ (k0_mult344 v5934).toNat := fun v5934 k0_hw344 => k0_hw344.1
theorem k0_off703_inb : ∀ (v5934 : BitVec 32) (k0_hw344 : k0_chk344 v5934), ∀ a, (k0_off703 v5934) a + S8x512.size a ≤ S20000x512.size a := fun v5934 k0_hw344 => k0_hw344.2

def k0_off704 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2072 : BitVec 32 := 320#32
  let v5948 : BitVec 32 := Scalar.addi v63 c320_i32_2072
  let c24_i32_2073 : BitVec 32 := 24#32
  let v5949 : BitVec 32 := Scalar.addi v5948 c24_i32_2073
  let v5950 : Index := Scalar.indexCast v5949
  ![v5950.toNat]
def k0_mult345 (v5951 : BitVec 32) : BitVec 32 :=
  let c3_i32_2074 : BitVec 32 := 3#32
  let v5952 : BitVec 32 := Scalar.shrsi v5951 c3_i32_2074
  let c3_i32_2075 : BitVec 32 := 3#32
  let v5953 : BitVec 32 := Scalar.shli v5952 c3_i32_2075
  v5953

def k0_off705 (v5951 : BitVec 32) : Fin 2 → Nat :=
  let c3_i32_2074 : BitVec 32 := 3#32
  let v5952 : BitVec 32 := Scalar.shrsi v5951 c3_i32_2074
  let c3_i32_2075 : BitVec 32 := 3#32
  let v5953 : BitVec 32 := Scalar.shli v5952 c3_i32_2075
  let v5954 : BitVec 32 := v5953
  let v5955 : Index := Scalar.indexCast v5954
  let c0_2076 : Index := 0#32
  ![v5955.toNat, 0]

def k0_chk345 (v5951 : BitVec 32) : Prop :=
  (8 ∣ (k0_mult345 v5951).toNat) ∧
  (∀ a, (k0_off705 v5951) a + S8x512.size a ≤ S20000x512.size a)
theorem k0_mult345_dvd : ∀ (v5951 : BitVec 32) (k0_hw345 : k0_chk345 v5951), 8 ∣ (k0_mult345 v5951).toNat := fun v5951 k0_hw345 => k0_hw345.1
theorem k0_off705_inb : ∀ (v5951 : BitVec 32) (k0_hw345 : k0_chk345 v5951), ∀ a, (k0_off705 v5951) a + S8x512.size a ≤ S20000x512.size a := fun v5951 k0_hw345 => k0_hw345.2

def k0_off706 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2078 : BitVec 32 := 320#32
  let v5965 : BitVec 32 := Scalar.addi v63 c320_i32_2078
  let c25_i32_2079 : BitVec 32 := 25#32
  let v5966 : BitVec 32 := Scalar.addi v5965 c25_i32_2079
  let v5967 : Index := Scalar.indexCast v5966
  ![v5967.toNat]
def k0_mult346 (v5968 : BitVec 32) : BitVec 32 :=
  let c3_i32_2080 : BitVec 32 := 3#32
  let v5969 : BitVec 32 := Scalar.shrsi v5968 c3_i32_2080
  let c3_i32_2081 : BitVec 32 := 3#32
  let v5970 : BitVec 32 := Scalar.shli v5969 c3_i32_2081
  v5970

def k0_off707 (v5968 : BitVec 32) : Fin 2 → Nat :=
  let c3_i32_2080 : BitVec 32 := 3#32
  let v5969 : BitVec 32 := Scalar.shrsi v5968 c3_i32_2080
  let c3_i32_2081 : BitVec 32 := 3#32
  let v5970 : BitVec 32 := Scalar.shli v5969 c3_i32_2081
  let v5971 : BitVec 32 := v5970
  let v5972 : Index := Scalar.indexCast v5971
  let c0_2082 : Index := 0#32
  ![v5972.toNat, 0]

def k0_chk346 (v5968 : BitVec 32) : Prop :=
  (8 ∣ (k0_mult346 v5968).toNat) ∧
  (∀ a, (k0_off707 v5968) a + S8x512.size a ≤ S20000x512.size a)
theorem k0_mult346_dvd : ∀ (v5968 : BitVec 32) (k0_hw346 : k0_chk346 v5968), 8 ∣ (k0_mult346 v5968).toNat := fun v5968 k0_hw346 => k0_hw346.1
theorem k0_off707_inb : ∀ (v5968 : BitVec 32) (k0_hw346 : k0_chk346 v5968), ∀ a, (k0_off707 v5968) a + S8x512.size a ≤ S20000x512.size a := fun v5968 k0_hw346 => k0_hw346.2

def k0_off708 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2084 : BitVec 32 := 320#32
  let v5982 : BitVec 32 := Scalar.addi v63 c320_i32_2084
  let c26_i32_2085 : BitVec 32 := 26#32
  let v5983 : BitVec 32 := Scalar.addi v5982 c26_i32_2085
  let v5984 : Index := Scalar.indexCast v5983
  ![v5984.toNat]
def k0_mult347 (v5985 : BitVec 32) : BitVec 32 :=
  let c3_i32_2086 : BitVec 32 := 3#32
  let v5986 : BitVec 32 := Scalar.shrsi v5985 c3_i32_2086
  let c3_i32_2087 : BitVec 32 := 3#32
  let v5987 : BitVec 32 := Scalar.shli v5986 c3_i32_2087
  v5987

def k0_off709 (v5985 : BitVec 32) : Fin 2 → Nat :=
  let c3_i32_2086 : BitVec 32 := 3#32
  let v5986 : BitVec 32 := Scalar.shrsi v5985 c3_i32_2086
  let c3_i32_2087 : BitVec 32 := 3#32
  let v5987 : BitVec 32 := Scalar.shli v5986 c3_i32_2087
  let v5988 : BitVec 32 := v5987
  let v5989 : Index := Scalar.indexCast v5988
  let c0_2088 : Index := 0#32
  ![v5989.toNat, 0]

def k0_chk347 (v5985 : BitVec 32) : Prop :=
  (8 ∣ (k0_mult347 v5985).toNat) ∧
  (∀ a, (k0_off709 v5985) a + S8x512.size a ≤ S20000x512.size a)
theorem k0_mult347_dvd : ∀ (v5985 : BitVec 32) (k0_hw347 : k0_chk347 v5985), 8 ∣ (k0_mult347 v5985).toNat := fun v5985 k0_hw347 => k0_hw347.1
theorem k0_off709_inb : ∀ (v5985 : BitVec 32) (k0_hw347 : k0_chk347 v5985), ∀ a, (k0_off709 v5985) a + S8x512.size a ≤ S20000x512.size a := fun v5985 k0_hw347 => k0_hw347.2

def k0_off710 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2090 : BitVec 32 := 320#32
  let v5999 : BitVec 32 := Scalar.addi v63 c320_i32_2090
  let c27_i32_2091 : BitVec 32 := 27#32
  let v6000 : BitVec 32 := Scalar.addi v5999 c27_i32_2091
  let v6001 : Index := Scalar.indexCast v6000
  ![v6001.toNat]
def k0_mult348 (v6002 : BitVec 32) : BitVec 32 :=
  let c3_i32_2092 : BitVec 32 := 3#32
  let v6003 : BitVec 32 := Scalar.shrsi v6002 c3_i32_2092
  let c3_i32_2093 : BitVec 32 := 3#32
  let v6004 : BitVec 32 := Scalar.shli v6003 c3_i32_2093
  v6004

def k0_off711 (v6002 : BitVec 32) : Fin 2 → Nat :=
  let c3_i32_2092 : BitVec 32 := 3#32
  let v6003 : BitVec 32 := Scalar.shrsi v6002 c3_i32_2092
  let c3_i32_2093 : BitVec 32 := 3#32
  let v6004 : BitVec 32 := Scalar.shli v6003 c3_i32_2093
  let v6005 : BitVec 32 := v6004
  let v6006 : Index := Scalar.indexCast v6005
  let c0_2094 : Index := 0#32
  ![v6006.toNat, 0]

def k0_chk348 (v6002 : BitVec 32) : Prop :=
  (8 ∣ (k0_mult348 v6002).toNat) ∧
  (∀ a, (k0_off711 v6002) a + S8x512.size a ≤ S20000x512.size a)
theorem k0_mult348_dvd : ∀ (v6002 : BitVec 32) (k0_hw348 : k0_chk348 v6002), 8 ∣ (k0_mult348 v6002).toNat := fun v6002 k0_hw348 => k0_hw348.1
theorem k0_off711_inb : ∀ (v6002 : BitVec 32) (k0_hw348 : k0_chk348 v6002), ∀ a, (k0_off711 v6002) a + S8x512.size a ≤ S20000x512.size a := fun v6002 k0_hw348 => k0_hw348.2

def k0_off712 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2096 : BitVec 32 := 320#32
  let v6016 : BitVec 32 := Scalar.addi v63 c320_i32_2096
  let c28_i32_2097 : BitVec 32 := 28#32
  let v6017 : BitVec 32 := Scalar.addi v6016 c28_i32_2097
  let v6018 : Index := Scalar.indexCast v6017
  ![v6018.toNat]
def k0_mult349 (v6019 : BitVec 32) : BitVec 32 :=
  let c3_i32_2098 : BitVec 32 := 3#32
  let v6020 : BitVec 32 := Scalar.shrsi v6019 c3_i32_2098
  let c3_i32_2099 : BitVec 32 := 3#32
  let v6021 : BitVec 32 := Scalar.shli v6020 c3_i32_2099
  v6021

def k0_off713 (v6019 : BitVec 32) : Fin 2 → Nat :=
  let c3_i32_2098 : BitVec 32 := 3#32
  let v6020 : BitVec 32 := Scalar.shrsi v6019 c3_i32_2098
  let c3_i32_2099 : BitVec 32 := 3#32
  let v6021 : BitVec 32 := Scalar.shli v6020 c3_i32_2099
  let v6022 : BitVec 32 := v6021
  let v6023 : Index := Scalar.indexCast v6022
  let c0_2100 : Index := 0#32
  ![v6023.toNat, 0]

def k0_chk349 (v6019 : BitVec 32) : Prop :=
  (8 ∣ (k0_mult349 v6019).toNat) ∧
  (∀ a, (k0_off713 v6019) a + S8x512.size a ≤ S20000x512.size a)
theorem k0_mult349_dvd : ∀ (v6019 : BitVec 32) (k0_hw349 : k0_chk349 v6019), 8 ∣ (k0_mult349 v6019).toNat := fun v6019 k0_hw349 => k0_hw349.1
theorem k0_off713_inb : ∀ (v6019 : BitVec 32) (k0_hw349 : k0_chk349 v6019), ∀ a, (k0_off713 v6019) a + S8x512.size a ≤ S20000x512.size a := fun v6019 k0_hw349 => k0_hw349.2

def k0_off714 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2102 : BitVec 32 := 320#32
  let v6033 : BitVec 32 := Scalar.addi v63 c320_i32_2102
  let c29_i32_2103 : BitVec 32 := 29#32
  let v6034 : BitVec 32 := Scalar.addi v6033 c29_i32_2103
  let v6035 : Index := Scalar.indexCast v6034
  ![v6035.toNat]
def k0_mult350 (v6036 : BitVec 32) : BitVec 32 :=
  let c3_i32_2104 : BitVec 32 := 3#32
  let v6037 : BitVec 32 := Scalar.shrsi v6036 c3_i32_2104
  let c3_i32_2105 : BitVec 32 := 3#32
  let v6038 : BitVec 32 := Scalar.shli v6037 c3_i32_2105
  v6038

def k0_off715 (v6036 : BitVec 32) : Fin 2 → Nat :=
  let c3_i32_2104 : BitVec 32 := 3#32
  let v6037 : BitVec 32 := Scalar.shrsi v6036 c3_i32_2104
  let c3_i32_2105 : BitVec 32 := 3#32
  let v6038 : BitVec 32 := Scalar.shli v6037 c3_i32_2105
  let v6039 : BitVec 32 := v6038
  let v6040 : Index := Scalar.indexCast v6039
  let c0_2106 : Index := 0#32
  ![v6040.toNat, 0]

def k0_chk350 (v6036 : BitVec 32) : Prop :=
  (8 ∣ (k0_mult350 v6036).toNat) ∧
  (∀ a, (k0_off715 v6036) a + S8x512.size a ≤ S20000x512.size a)
theorem k0_mult350_dvd : ∀ (v6036 : BitVec 32) (k0_hw350 : k0_chk350 v6036), 8 ∣ (k0_mult350 v6036).toNat := fun v6036 k0_hw350 => k0_hw350.1
theorem k0_off715_inb : ∀ (v6036 : BitVec 32) (k0_hw350 : k0_chk350 v6036), ∀ a, (k0_off715 v6036) a + S8x512.size a ≤ S20000x512.size a := fun v6036 k0_hw350 => k0_hw350.2

def k0_off716 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2108 : BitVec 32 := 320#32
  let v6050 : BitVec 32 := Scalar.addi v63 c320_i32_2108
  let c30_i32_2109 : BitVec 32 := 30#32
  let v6051 : BitVec 32 := Scalar.addi v6050 c30_i32_2109
  let v6052 : Index := Scalar.indexCast v6051
  ![v6052.toNat]
def k0_mult351 (v6053 : BitVec 32) : BitVec 32 :=
  let c3_i32_2110 : BitVec 32 := 3#32
  let v6054 : BitVec 32 := Scalar.shrsi v6053 c3_i32_2110
  let c3_i32_2111 : BitVec 32 := 3#32
  let v6055 : BitVec 32 := Scalar.shli v6054 c3_i32_2111
  v6055

def k0_off717 (v6053 : BitVec 32) : Fin 2 → Nat :=
  let c3_i32_2110 : BitVec 32 := 3#32
  let v6054 : BitVec 32 := Scalar.shrsi v6053 c3_i32_2110
  let c3_i32_2111 : BitVec 32 := 3#32
  let v6055 : BitVec 32 := Scalar.shli v6054 c3_i32_2111
  let v6056 : BitVec 32 := v6055
  let v6057 : Index := Scalar.indexCast v6056
  let c0_2112 : Index := 0#32
  ![v6057.toNat, 0]

def k0_chk351 (v6053 : BitVec 32) : Prop :=
  (8 ∣ (k0_mult351 v6053).toNat) ∧
  (∀ a, (k0_off717 v6053) a + S8x512.size a ≤ S20000x512.size a)
theorem k0_mult351_dvd : ∀ (v6053 : BitVec 32) (k0_hw351 : k0_chk351 v6053), 8 ∣ (k0_mult351 v6053).toNat := fun v6053 k0_hw351 => k0_hw351.1
theorem k0_off717_inb : ∀ (v6053 : BitVec 32) (k0_hw351 : k0_chk351 v6053), ∀ a, (k0_off717 v6053) a + S8x512.size a ≤ S20000x512.size a := fun v6053 k0_hw351 => k0_hw351.2

def k0_off718 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2114 : BitVec 32 := 320#32
  let v6067 : BitVec 32 := Scalar.addi v63 c320_i32_2114
  let c31_i32_2115 : BitVec 32 := 31#32
  let v6068 : BitVec 32 := Scalar.addi v6067 c31_i32_2115
  let v6069 : Index := Scalar.indexCast v6068
  ![v6069.toNat]
def k0_mult352 (v6070 : BitVec 32) : BitVec 32 :=
  let c3_i32_2116 : BitVec 32 := 3#32
  let v6071 : BitVec 32 := Scalar.shrsi v6070 c3_i32_2116
  let c3_i32_2117 : BitVec 32 := 3#32
  let v6072 : BitVec 32 := Scalar.shli v6071 c3_i32_2117
  v6072

def k0_off719 (v6070 : BitVec 32) : Fin 2 → Nat :=
  let c3_i32_2116 : BitVec 32 := 3#32
  let v6071 : BitVec 32 := Scalar.shrsi v6070 c3_i32_2116
  let c3_i32_2117 : BitVec 32 := 3#32
  let v6072 : BitVec 32 := Scalar.shli v6071 c3_i32_2117
  let v6073 : BitVec 32 := v6072
  let v6074 : Index := Scalar.indexCast v6073
  let c0_2118 : Index := 0#32
  ![v6074.toNat, 0]

def k0_chk352 (v6070 : BitVec 32) : Prop :=
  (8 ∣ (k0_mult352 v6070).toNat) ∧
  (∀ a, (k0_off719 v6070) a + S8x512.size a ≤ S20000x512.size a)
theorem k0_mult352_dvd : ∀ (v6070 : BitVec 32) (k0_hw352 : k0_chk352 v6070), 8 ∣ (k0_mult352 v6070).toNat := fun v6070 k0_hw352 => k0_hw352.1
theorem k0_off719_inb : ∀ (v6070 : BitVec 32) (k0_hw352 : k0_chk352 v6070), ∀ a, (k0_off719 v6070) a + S8x512.size a ≤ S20000x512.size a := fun v6070 k0_hw352 => k0_hw352.2

def k0_off720 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2120 : BitVec 32 := 320#32
  let v6084 : BitVec 32 := Scalar.addi v63 c320_i32_2120
  let c32_i32_2121 : BitVec 32 := 32#32
  let v6085 : BitVec 32 := Scalar.addi v6084 c32_i32_2121
  let v6086 : Index := Scalar.indexCast v6085
  ![v6086.toNat]
def k0_mult353 (v6087 : BitVec 32) : BitVec 32 :=
  let c3_i32_2122 : BitVec 32 := 3#32
  let v6088 : BitVec 32 := Scalar.shrsi v6087 c3_i32_2122
  let c3_i32_2123 : BitVec 32 := 3#32
  let v6089 : BitVec 32 := Scalar.shli v6088 c3_i32_2123
  v6089

def k0_off721 (v6087 : BitVec 32) : Fin 2 → Nat :=
  let c3_i32_2122 : BitVec 32 := 3#32
  let v6088 : BitVec 32 := Scalar.shrsi v6087 c3_i32_2122
  let c3_i32_2123 : BitVec 32 := 3#32
  let v6089 : BitVec 32 := Scalar.shli v6088 c3_i32_2123
  let v6090 : BitVec 32 := v6089
  let v6091 : Index := Scalar.indexCast v6090
  let c0_2124 : Index := 0#32
  ![v6091.toNat, 0]

def k0_chk353 (v6087 : BitVec 32) : Prop :=
  (8 ∣ (k0_mult353 v6087).toNat) ∧
  (∀ a, (k0_off721 v6087) a + S8x512.size a ≤ S20000x512.size a)
theorem k0_mult353_dvd : ∀ (v6087 : BitVec 32) (k0_hw353 : k0_chk353 v6087), 8 ∣ (k0_mult353 v6087).toNat := fun v6087 k0_hw353 => k0_hw353.1
theorem k0_off721_inb : ∀ (v6087 : BitVec 32) (k0_hw353 : k0_chk353 v6087), ∀ a, (k0_off721 v6087) a + S8x512.size a ≤ S20000x512.size a := fun v6087 k0_hw353 => k0_hw353.2

def k0_off722 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2126 : BitVec 32 := 320#32
  let v6101 : BitVec 32 := Scalar.addi v63 c320_i32_2126
  let c33_i32_2127 : BitVec 32 := 33#32
  let v6102 : BitVec 32 := Scalar.addi v6101 c33_i32_2127
  let v6103 : Index := Scalar.indexCast v6102
  ![v6103.toNat]
def k0_mult354 (v6104 : BitVec 32) : BitVec 32 :=
  let c3_i32_2128 : BitVec 32 := 3#32
  let v6105 : BitVec 32 := Scalar.shrsi v6104 c3_i32_2128
  let c3_i32_2129 : BitVec 32 := 3#32
  let v6106 : BitVec 32 := Scalar.shli v6105 c3_i32_2129
  v6106

def k0_off723 (v6104 : BitVec 32) : Fin 2 → Nat :=
  let c3_i32_2128 : BitVec 32 := 3#32
  let v6105 : BitVec 32 := Scalar.shrsi v6104 c3_i32_2128
  let c3_i32_2129 : BitVec 32 := 3#32
  let v6106 : BitVec 32 := Scalar.shli v6105 c3_i32_2129
  let v6107 : BitVec 32 := v6106
  let v6108 : Index := Scalar.indexCast v6107
  let c0_2130 : Index := 0#32
  ![v6108.toNat, 0]

def k0_chk354 (v6104 : BitVec 32) : Prop :=
  (8 ∣ (k0_mult354 v6104).toNat) ∧
  (∀ a, (k0_off723 v6104) a + S8x512.size a ≤ S20000x512.size a)
theorem k0_mult354_dvd : ∀ (v6104 : BitVec 32) (k0_hw354 : k0_chk354 v6104), 8 ∣ (k0_mult354 v6104).toNat := fun v6104 k0_hw354 => k0_hw354.1
theorem k0_off723_inb : ∀ (v6104 : BitVec 32) (k0_hw354 : k0_chk354 v6104), ∀ a, (k0_off723 v6104) a + S8x512.size a ≤ S20000x512.size a := fun v6104 k0_hw354 => k0_hw354.2

def k0_off724 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2132 : BitVec 32 := 320#32
  let v6118 : BitVec 32 := Scalar.addi v63 c320_i32_2132
  let c34_i32_2133 : BitVec 32 := 34#32
  let v6119 : BitVec 32 := Scalar.addi v6118 c34_i32_2133
  let v6120 : Index := Scalar.indexCast v6119
  ![v6120.toNat]
def k0_mult355 (v6121 : BitVec 32) : BitVec 32 :=
  let c3_i32_2134 : BitVec 32 := 3#32
  let v6122 : BitVec 32 := Scalar.shrsi v6121 c3_i32_2134
  let c3_i32_2135 : BitVec 32 := 3#32
  let v6123 : BitVec 32 := Scalar.shli v6122 c3_i32_2135
  v6123

def k0_off725 (v6121 : BitVec 32) : Fin 2 → Nat :=
  let c3_i32_2134 : BitVec 32 := 3#32
  let v6122 : BitVec 32 := Scalar.shrsi v6121 c3_i32_2134
  let c3_i32_2135 : BitVec 32 := 3#32
  let v6123 : BitVec 32 := Scalar.shli v6122 c3_i32_2135
  let v6124 : BitVec 32 := v6123
  let v6125 : Index := Scalar.indexCast v6124
  let c0_2136 : Index := 0#32
  ![v6125.toNat, 0]

def k0_chk355 (v6121 : BitVec 32) : Prop :=
  (8 ∣ (k0_mult355 v6121).toNat) ∧
  (∀ a, (k0_off725 v6121) a + S8x512.size a ≤ S20000x512.size a)
theorem k0_mult355_dvd : ∀ (v6121 : BitVec 32) (k0_hw355 : k0_chk355 v6121), 8 ∣ (k0_mult355 v6121).toNat := fun v6121 k0_hw355 => k0_hw355.1
theorem k0_off725_inb : ∀ (v6121 : BitVec 32) (k0_hw355 : k0_chk355 v6121), ∀ a, (k0_off725 v6121) a + S8x512.size a ≤ S20000x512.size a := fun v6121 k0_hw355 => k0_hw355.2

def k0_off726 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2138 : BitVec 32 := 320#32
  let v6135 : BitVec 32 := Scalar.addi v63 c320_i32_2138
  let c35_i32_2139 : BitVec 32 := 35#32
  let v6136 : BitVec 32 := Scalar.addi v6135 c35_i32_2139
  let v6137 : Index := Scalar.indexCast v6136
  ![v6137.toNat]
def k0_mult356 (v6138 : BitVec 32) : BitVec 32 :=
  let c3_i32_2140 : BitVec 32 := 3#32
  let v6139 : BitVec 32 := Scalar.shrsi v6138 c3_i32_2140
  let c3_i32_2141 : BitVec 32 := 3#32
  let v6140 : BitVec 32 := Scalar.shli v6139 c3_i32_2141
  v6140

def k0_off727 (v6138 : BitVec 32) : Fin 2 → Nat :=
  let c3_i32_2140 : BitVec 32 := 3#32
  let v6139 : BitVec 32 := Scalar.shrsi v6138 c3_i32_2140
  let c3_i32_2141 : BitVec 32 := 3#32
  let v6140 : BitVec 32 := Scalar.shli v6139 c3_i32_2141
  let v6141 : BitVec 32 := v6140
  let v6142 : Index := Scalar.indexCast v6141
  let c0_2142 : Index := 0#32
  ![v6142.toNat, 0]

def k0_chk356 (v6138 : BitVec 32) : Prop :=
  (8 ∣ (k0_mult356 v6138).toNat) ∧
  (∀ a, (k0_off727 v6138) a + S8x512.size a ≤ S20000x512.size a)
theorem k0_mult356_dvd : ∀ (v6138 : BitVec 32) (k0_hw356 : k0_chk356 v6138), 8 ∣ (k0_mult356 v6138).toNat := fun v6138 k0_hw356 => k0_hw356.1
theorem k0_off727_inb : ∀ (v6138 : BitVec 32) (k0_hw356 : k0_chk356 v6138), ∀ a, (k0_off727 v6138) a + S8x512.size a ≤ S20000x512.size a := fun v6138 k0_hw356 => k0_hw356.2

def k0_off728 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2144 : BitVec 32 := 320#32
  let v6152 : BitVec 32 := Scalar.addi v63 c320_i32_2144
  let c36_i32_2145 : BitVec 32 := 36#32
  let v6153 : BitVec 32 := Scalar.addi v6152 c36_i32_2145
  let v6154 : Index := Scalar.indexCast v6153
  ![v6154.toNat]
def k0_mult357 (v6155 : BitVec 32) : BitVec 32 :=
  let c3_i32_2146 : BitVec 32 := 3#32
  let v6156 : BitVec 32 := Scalar.shrsi v6155 c3_i32_2146
  let c3_i32_2147 : BitVec 32 := 3#32
  let v6157 : BitVec 32 := Scalar.shli v6156 c3_i32_2147
  v6157

def k0_off729 (v6155 : BitVec 32) : Fin 2 → Nat :=
  let c3_i32_2146 : BitVec 32 := 3#32
  let v6156 : BitVec 32 := Scalar.shrsi v6155 c3_i32_2146
  let c3_i32_2147 : BitVec 32 := 3#32
  let v6157 : BitVec 32 := Scalar.shli v6156 c3_i32_2147
  let v6158 : BitVec 32 := v6157
  let v6159 : Index := Scalar.indexCast v6158
  let c0_2148 : Index := 0#32
  ![v6159.toNat, 0]

def k0_chk357 (v6155 : BitVec 32) : Prop :=
  (8 ∣ (k0_mult357 v6155).toNat) ∧
  (∀ a, (k0_off729 v6155) a + S8x512.size a ≤ S20000x512.size a)
theorem k0_mult357_dvd : ∀ (v6155 : BitVec 32) (k0_hw357 : k0_chk357 v6155), 8 ∣ (k0_mult357 v6155).toNat := fun v6155 k0_hw357 => k0_hw357.1
theorem k0_off729_inb : ∀ (v6155 : BitVec 32) (k0_hw357 : k0_chk357 v6155), ∀ a, (k0_off729 v6155) a + S8x512.size a ≤ S20000x512.size a := fun v6155 k0_hw357 => k0_hw357.2

def k0_off730 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2150 : BitVec 32 := 320#32
  let v6169 : BitVec 32 := Scalar.addi v63 c320_i32_2150
  let c37_i32_2151 : BitVec 32 := 37#32
  let v6170 : BitVec 32 := Scalar.addi v6169 c37_i32_2151
  let v6171 : Index := Scalar.indexCast v6170
  ![v6171.toNat]
def k0_mult358 (v6172 : BitVec 32) : BitVec 32 :=
  let c3_i32_2152 : BitVec 32 := 3#32
  let v6173 : BitVec 32 := Scalar.shrsi v6172 c3_i32_2152
  let c3_i32_2153 : BitVec 32 := 3#32
  let v6174 : BitVec 32 := Scalar.shli v6173 c3_i32_2153
  v6174

def k0_off731 (v6172 : BitVec 32) : Fin 2 → Nat :=
  let c3_i32_2152 : BitVec 32 := 3#32
  let v6173 : BitVec 32 := Scalar.shrsi v6172 c3_i32_2152
  let c3_i32_2153 : BitVec 32 := 3#32
  let v6174 : BitVec 32 := Scalar.shli v6173 c3_i32_2153
  let v6175 : BitVec 32 := v6174
  let v6176 : Index := Scalar.indexCast v6175
  let c0_2154 : Index := 0#32
  ![v6176.toNat, 0]

def k0_chk358 (v6172 : BitVec 32) : Prop :=
  (8 ∣ (k0_mult358 v6172).toNat) ∧
  (∀ a, (k0_off731 v6172) a + S8x512.size a ≤ S20000x512.size a)
theorem k0_mult358_dvd : ∀ (v6172 : BitVec 32) (k0_hw358 : k0_chk358 v6172), 8 ∣ (k0_mult358 v6172).toNat := fun v6172 k0_hw358 => k0_hw358.1
theorem k0_off731_inb : ∀ (v6172 : BitVec 32) (k0_hw358 : k0_chk358 v6172), ∀ a, (k0_off731 v6172) a + S8x512.size a ≤ S20000x512.size a := fun v6172 k0_hw358 => k0_hw358.2

def k0_off732 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2156 : BitVec 32 := 320#32
  let v6186 : BitVec 32 := Scalar.addi v63 c320_i32_2156
  let c38_i32_2157 : BitVec 32 := 38#32
  let v6187 : BitVec 32 := Scalar.addi v6186 c38_i32_2157
  let v6188 : Index := Scalar.indexCast v6187
  ![v6188.toNat]
def k0_mult359 (v6189 : BitVec 32) : BitVec 32 :=
  let c3_i32_2158 : BitVec 32 := 3#32
  let v6190 : BitVec 32 := Scalar.shrsi v6189 c3_i32_2158
  let c3_i32_2159 : BitVec 32 := 3#32
  let v6191 : BitVec 32 := Scalar.shli v6190 c3_i32_2159
  v6191

def k0_off733 (v6189 : BitVec 32) : Fin 2 → Nat :=
  let c3_i32_2158 : BitVec 32 := 3#32
  let v6190 : BitVec 32 := Scalar.shrsi v6189 c3_i32_2158
  let c3_i32_2159 : BitVec 32 := 3#32
  let v6191 : BitVec 32 := Scalar.shli v6190 c3_i32_2159
  let v6192 : BitVec 32 := v6191
  let v6193 : Index := Scalar.indexCast v6192
  let c0_2160 : Index := 0#32
  ![v6193.toNat, 0]

def k0_chk359 (v6189 : BitVec 32) : Prop :=
  (8 ∣ (k0_mult359 v6189).toNat) ∧
  (∀ a, (k0_off733 v6189) a + S8x512.size a ≤ S20000x512.size a)
theorem k0_mult359_dvd : ∀ (v6189 : BitVec 32) (k0_hw359 : k0_chk359 v6189), 8 ∣ (k0_mult359 v6189).toNat := fun v6189 k0_hw359 => k0_hw359.1
theorem k0_off733_inb : ∀ (v6189 : BitVec 32) (k0_hw359 : k0_chk359 v6189), ∀ a, (k0_off733 v6189) a + S8x512.size a ≤ S20000x512.size a := fun v6189 k0_hw359 => k0_hw359.2

def k0_off734 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2162 : BitVec 32 := 320#32
  let v6203 : BitVec 32 := Scalar.addi v63 c320_i32_2162
  let c39_i32_2163 : BitVec 32 := 39#32
  let v6204 : BitVec 32 := Scalar.addi v6203 c39_i32_2163
  let v6205 : Index := Scalar.indexCast v6204
  ![v6205.toNat]
def k0_mult360 (v6206 : BitVec 32) : BitVec 32 :=
  let c3_i32_2164 : BitVec 32 := 3#32
  let v6207 : BitVec 32 := Scalar.shrsi v6206 c3_i32_2164
  let c3_i32_2165 : BitVec 32 := 3#32
  let v6208 : BitVec 32 := Scalar.shli v6207 c3_i32_2165
  v6208

def k0_off735 (v6206 : BitVec 32) : Fin 2 → Nat :=
  let c3_i32_2164 : BitVec 32 := 3#32
  let v6207 : BitVec 32 := Scalar.shrsi v6206 c3_i32_2164
  let c3_i32_2165 : BitVec 32 := 3#32
  let v6208 : BitVec 32 := Scalar.shli v6207 c3_i32_2165
  let v6209 : BitVec 32 := v6208
  let v6210 : Index := Scalar.indexCast v6209
  let c0_2166 : Index := 0#32
  ![v6210.toNat, 0]

def k0_chk360 (v6206 : BitVec 32) : Prop :=
  (8 ∣ (k0_mult360 v6206).toNat) ∧
  (∀ a, (k0_off735 v6206) a + S8x512.size a ≤ S20000x512.size a)
theorem k0_mult360_dvd : ∀ (v6206 : BitVec 32) (k0_hw360 : k0_chk360 v6206), 8 ∣ (k0_mult360 v6206).toNat := fun v6206 k0_hw360 => k0_hw360.1
theorem k0_off735_inb : ∀ (v6206 : BitVec 32) (k0_hw360 : k0_chk360 v6206), ∀ a, (k0_off735 v6206) a + S8x512.size a ≤ S20000x512.size a := fun v6206 k0_hw360 => k0_hw360.2

def k0_off736 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2168 : BitVec 32 := 320#32
  let v6220 : BitVec 32 := Scalar.addi v63 c320_i32_2168
  let c40_i32_2169 : BitVec 32 := 40#32
  let v6221 : BitVec 32 := Scalar.addi v6220 c40_i32_2169
  let v6222 : Index := Scalar.indexCast v6221
  ![v6222.toNat]
def k0_mult361 (v6223 : BitVec 32) : BitVec 32 :=
  let c3_i32_2170 : BitVec 32 := 3#32
  let v6224 : BitVec 32 := Scalar.shrsi v6223 c3_i32_2170
  let c3_i32_2171 : BitVec 32 := 3#32
  let v6225 : BitVec 32 := Scalar.shli v6224 c3_i32_2171
  v6225

def k0_off737 (v6223 : BitVec 32) : Fin 2 → Nat :=
  let c3_i32_2170 : BitVec 32 := 3#32
  let v6224 : BitVec 32 := Scalar.shrsi v6223 c3_i32_2170
  let c3_i32_2171 : BitVec 32 := 3#32
  let v6225 : BitVec 32 := Scalar.shli v6224 c3_i32_2171
  let v6226 : BitVec 32 := v6225
  let v6227 : Index := Scalar.indexCast v6226
  let c0_2172 : Index := 0#32
  ![v6227.toNat, 0]

def k0_chk361 (v6223 : BitVec 32) : Prop :=
  (8 ∣ (k0_mult361 v6223).toNat) ∧
  (∀ a, (k0_off737 v6223) a + S8x512.size a ≤ S20000x512.size a)
theorem k0_mult361_dvd : ∀ (v6223 : BitVec 32) (k0_hw361 : k0_chk361 v6223), 8 ∣ (k0_mult361 v6223).toNat := fun v6223 k0_hw361 => k0_hw361.1
theorem k0_off737_inb : ∀ (v6223 : BitVec 32) (k0_hw361 : k0_chk361 v6223), ∀ a, (k0_off737 v6223) a + S8x512.size a ≤ S20000x512.size a := fun v6223 k0_hw361 => k0_hw361.2

def k0_off738 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2174 : BitVec 32 := 320#32
  let v6237 : BitVec 32 := Scalar.addi v63 c320_i32_2174
  let c41_i32_2175 : BitVec 32 := 41#32
  let v6238 : BitVec 32 := Scalar.addi v6237 c41_i32_2175
  let v6239 : Index := Scalar.indexCast v6238
  ![v6239.toNat]
def k0_mult362 (v6240 : BitVec 32) : BitVec 32 :=
  let c3_i32_2176 : BitVec 32 := 3#32
  let v6241 : BitVec 32 := Scalar.shrsi v6240 c3_i32_2176
  let c3_i32_2177 : BitVec 32 := 3#32
  let v6242 : BitVec 32 := Scalar.shli v6241 c3_i32_2177
  v6242

def k0_off739 (v6240 : BitVec 32) : Fin 2 → Nat :=
  let c3_i32_2176 : BitVec 32 := 3#32
  let v6241 : BitVec 32 := Scalar.shrsi v6240 c3_i32_2176
  let c3_i32_2177 : BitVec 32 := 3#32
  let v6242 : BitVec 32 := Scalar.shli v6241 c3_i32_2177
  let v6243 : BitVec 32 := v6242
  let v6244 : Index := Scalar.indexCast v6243
  let c0_2178 : Index := 0#32
  ![v6244.toNat, 0]

def k0_chk362 (v6240 : BitVec 32) : Prop :=
  (8 ∣ (k0_mult362 v6240).toNat) ∧
  (∀ a, (k0_off739 v6240) a + S8x512.size a ≤ S20000x512.size a)
theorem k0_mult362_dvd : ∀ (v6240 : BitVec 32) (k0_hw362 : k0_chk362 v6240), 8 ∣ (k0_mult362 v6240).toNat := fun v6240 k0_hw362 => k0_hw362.1
theorem k0_off739_inb : ∀ (v6240 : BitVec 32) (k0_hw362 : k0_chk362 v6240), ∀ a, (k0_off739 v6240) a + S8x512.size a ≤ S20000x512.size a := fun v6240 k0_hw362 => k0_hw362.2

def k0_off740 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2180 : BitVec 32 := 320#32
  let v6254 : BitVec 32 := Scalar.addi v63 c320_i32_2180
  let c42_i32_2181 : BitVec 32 := 42#32
  let v6255 : BitVec 32 := Scalar.addi v6254 c42_i32_2181
  let v6256 : Index := Scalar.indexCast v6255
  ![v6256.toNat]
def k0_mult363 (v6257 : BitVec 32) : BitVec 32 :=
  let c3_i32_2182 : BitVec 32 := 3#32
  let v6258 : BitVec 32 := Scalar.shrsi v6257 c3_i32_2182
  let c3_i32_2183 : BitVec 32 := 3#32
  let v6259 : BitVec 32 := Scalar.shli v6258 c3_i32_2183
  v6259

def k0_off741 (v6257 : BitVec 32) : Fin 2 → Nat :=
  let c3_i32_2182 : BitVec 32 := 3#32
  let v6258 : BitVec 32 := Scalar.shrsi v6257 c3_i32_2182
  let c3_i32_2183 : BitVec 32 := 3#32
  let v6259 : BitVec 32 := Scalar.shli v6258 c3_i32_2183
  let v6260 : BitVec 32 := v6259
  let v6261 : Index := Scalar.indexCast v6260
  let c0_2184 : Index := 0#32
  ![v6261.toNat, 0]

def k0_chk363 (v6257 : BitVec 32) : Prop :=
  (8 ∣ (k0_mult363 v6257).toNat) ∧
  (∀ a, (k0_off741 v6257) a + S8x512.size a ≤ S20000x512.size a)
theorem k0_mult363_dvd : ∀ (v6257 : BitVec 32) (k0_hw363 : k0_chk363 v6257), 8 ∣ (k0_mult363 v6257).toNat := fun v6257 k0_hw363 => k0_hw363.1
theorem k0_off741_inb : ∀ (v6257 : BitVec 32) (k0_hw363 : k0_chk363 v6257), ∀ a, (k0_off741 v6257) a + S8x512.size a ≤ S20000x512.size a := fun v6257 k0_hw363 => k0_hw363.2

def k0_off742 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2186 : BitVec 32 := 320#32
  let v6271 : BitVec 32 := Scalar.addi v63 c320_i32_2186
  let c43_i32_2187 : BitVec 32 := 43#32
  let v6272 : BitVec 32 := Scalar.addi v6271 c43_i32_2187
  let v6273 : Index := Scalar.indexCast v6272
  ![v6273.toNat]
def k0_mult364 (v6274 : BitVec 32) : BitVec 32 :=
  let c3_i32_2188 : BitVec 32 := 3#32
  let v6275 : BitVec 32 := Scalar.shrsi v6274 c3_i32_2188
  let c3_i32_2189 : BitVec 32 := 3#32
  let v6276 : BitVec 32 := Scalar.shli v6275 c3_i32_2189
  v6276

def k0_off743 (v6274 : BitVec 32) : Fin 2 → Nat :=
  let c3_i32_2188 : BitVec 32 := 3#32
  let v6275 : BitVec 32 := Scalar.shrsi v6274 c3_i32_2188
  let c3_i32_2189 : BitVec 32 := 3#32
  let v6276 : BitVec 32 := Scalar.shli v6275 c3_i32_2189
  let v6277 : BitVec 32 := v6276
  let v6278 : Index := Scalar.indexCast v6277
  let c0_2190 : Index := 0#32
  ![v6278.toNat, 0]

def k0_chk364 (v6274 : BitVec 32) : Prop :=
  (8 ∣ (k0_mult364 v6274).toNat) ∧
  (∀ a, (k0_off743 v6274) a + S8x512.size a ≤ S20000x512.size a)
theorem k0_mult364_dvd : ∀ (v6274 : BitVec 32) (k0_hw364 : k0_chk364 v6274), 8 ∣ (k0_mult364 v6274).toNat := fun v6274 k0_hw364 => k0_hw364.1
theorem k0_off743_inb : ∀ (v6274 : BitVec 32) (k0_hw364 : k0_chk364 v6274), ∀ a, (k0_off743 v6274) a + S8x512.size a ≤ S20000x512.size a := fun v6274 k0_hw364 => k0_hw364.2

def k0_off744 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2192 : BitVec 32 := 320#32
  let v6288 : BitVec 32 := Scalar.addi v63 c320_i32_2192
  let c44_i32_2193 : BitVec 32 := 44#32
  let v6289 : BitVec 32 := Scalar.addi v6288 c44_i32_2193
  let v6290 : Index := Scalar.indexCast v6289
  ![v6290.toNat]
def k0_mult365 (v6291 : BitVec 32) : BitVec 32 :=
  let c3_i32_2194 : BitVec 32 := 3#32
  let v6292 : BitVec 32 := Scalar.shrsi v6291 c3_i32_2194
  let c3_i32_2195 : BitVec 32 := 3#32
  let v6293 : BitVec 32 := Scalar.shli v6292 c3_i32_2195
  v6293

def k0_off745 (v6291 : BitVec 32) : Fin 2 → Nat :=
  let c3_i32_2194 : BitVec 32 := 3#32
  let v6292 : BitVec 32 := Scalar.shrsi v6291 c3_i32_2194
  let c3_i32_2195 : BitVec 32 := 3#32
  let v6293 : BitVec 32 := Scalar.shli v6292 c3_i32_2195
  let v6294 : BitVec 32 := v6293
  let v6295 : Index := Scalar.indexCast v6294
  let c0_2196 : Index := 0#32
  ![v6295.toNat, 0]

def k0_chk365 (v6291 : BitVec 32) : Prop :=
  (8 ∣ (k0_mult365 v6291).toNat) ∧
  (∀ a, (k0_off745 v6291) a + S8x512.size a ≤ S20000x512.size a)
theorem k0_mult365_dvd : ∀ (v6291 : BitVec 32) (k0_hw365 : k0_chk365 v6291), 8 ∣ (k0_mult365 v6291).toNat := fun v6291 k0_hw365 => k0_hw365.1
theorem k0_off745_inb : ∀ (v6291 : BitVec 32) (k0_hw365 : k0_chk365 v6291), ∀ a, (k0_off745 v6291) a + S8x512.size a ≤ S20000x512.size a := fun v6291 k0_hw365 => k0_hw365.2

def k0_off746 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2198 : BitVec 32 := 320#32
  let v6305 : BitVec 32 := Scalar.addi v63 c320_i32_2198
  let c45_i32_2199 : BitVec 32 := 45#32
  let v6306 : BitVec 32 := Scalar.addi v6305 c45_i32_2199
  let v6307 : Index := Scalar.indexCast v6306
  ![v6307.toNat]
def k0_mult366 (v6308 : BitVec 32) : BitVec 32 :=
  let c3_i32_2200 : BitVec 32 := 3#32
  let v6309 : BitVec 32 := Scalar.shrsi v6308 c3_i32_2200
  let c3_i32_2201 : BitVec 32 := 3#32
  let v6310 : BitVec 32 := Scalar.shli v6309 c3_i32_2201
  v6310

def k0_off747 (v6308 : BitVec 32) : Fin 2 → Nat :=
  let c3_i32_2200 : BitVec 32 := 3#32
  let v6309 : BitVec 32 := Scalar.shrsi v6308 c3_i32_2200
  let c3_i32_2201 : BitVec 32 := 3#32
  let v6310 : BitVec 32 := Scalar.shli v6309 c3_i32_2201
  let v6311 : BitVec 32 := v6310
  let v6312 : Index := Scalar.indexCast v6311
  let c0_2202 : Index := 0#32
  ![v6312.toNat, 0]

def k0_chk366 (v6308 : BitVec 32) : Prop :=
  (8 ∣ (k0_mult366 v6308).toNat) ∧
  (∀ a, (k0_off747 v6308) a + S8x512.size a ≤ S20000x512.size a)
theorem k0_mult366_dvd : ∀ (v6308 : BitVec 32) (k0_hw366 : k0_chk366 v6308), 8 ∣ (k0_mult366 v6308).toNat := fun v6308 k0_hw366 => k0_hw366.1
theorem k0_off747_inb : ∀ (v6308 : BitVec 32) (k0_hw366 : k0_chk366 v6308), ∀ a, (k0_off747 v6308) a + S8x512.size a ≤ S20000x512.size a := fun v6308 k0_hw366 => k0_hw366.2

def k0_off748 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2204 : BitVec 32 := 320#32
  let v6322 : BitVec 32 := Scalar.addi v63 c320_i32_2204
  let c46_i32_2205 : BitVec 32 := 46#32
  let v6323 : BitVec 32 := Scalar.addi v6322 c46_i32_2205
  let v6324 : Index := Scalar.indexCast v6323
  ![v6324.toNat]
def k0_mult367 (v6325 : BitVec 32) : BitVec 32 :=
  let c3_i32_2206 : BitVec 32 := 3#32
  let v6326 : BitVec 32 := Scalar.shrsi v6325 c3_i32_2206
  let c3_i32_2207 : BitVec 32 := 3#32
  let v6327 : BitVec 32 := Scalar.shli v6326 c3_i32_2207
  v6327

def k0_off749 (v6325 : BitVec 32) : Fin 2 → Nat :=
  let c3_i32_2206 : BitVec 32 := 3#32
  let v6326 : BitVec 32 := Scalar.shrsi v6325 c3_i32_2206
  let c3_i32_2207 : BitVec 32 := 3#32
  let v6327 : BitVec 32 := Scalar.shli v6326 c3_i32_2207
  let v6328 : BitVec 32 := v6327
  let v6329 : Index := Scalar.indexCast v6328
  let c0_2208 : Index := 0#32
  ![v6329.toNat, 0]

def k0_chk367 (v6325 : BitVec 32) : Prop :=
  (8 ∣ (k0_mult367 v6325).toNat) ∧
  (∀ a, (k0_off749 v6325) a + S8x512.size a ≤ S20000x512.size a)
theorem k0_mult367_dvd : ∀ (v6325 : BitVec 32) (k0_hw367 : k0_chk367 v6325), 8 ∣ (k0_mult367 v6325).toNat := fun v6325 k0_hw367 => k0_hw367.1
theorem k0_off749_inb : ∀ (v6325 : BitVec 32) (k0_hw367 : k0_chk367 v6325), ∀ a, (k0_off749 v6325) a + S8x512.size a ≤ S20000x512.size a := fun v6325 k0_hw367 => k0_hw367.2

def k0_off750 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2210 : BitVec 32 := 320#32
  let v6339 : BitVec 32 := Scalar.addi v63 c320_i32_2210
  let c47_i32_2211 : BitVec 32 := 47#32
  let v6340 : BitVec 32 := Scalar.addi v6339 c47_i32_2211
  let v6341 : Index := Scalar.indexCast v6340
  ![v6341.toNat]
def k0_mult368 (v6342 : BitVec 32) : BitVec 32 :=
  let c3_i32_2212 : BitVec 32 := 3#32
  let v6343 : BitVec 32 := Scalar.shrsi v6342 c3_i32_2212
  let c3_i32_2213 : BitVec 32 := 3#32
  let v6344 : BitVec 32 := Scalar.shli v6343 c3_i32_2213
  v6344

def k0_off751 (v6342 : BitVec 32) : Fin 2 → Nat :=
  let c3_i32_2212 : BitVec 32 := 3#32
  let v6343 : BitVec 32 := Scalar.shrsi v6342 c3_i32_2212
  let c3_i32_2213 : BitVec 32 := 3#32
  let v6344 : BitVec 32 := Scalar.shli v6343 c3_i32_2213
  let v6345 : BitVec 32 := v6344
  let v6346 : Index := Scalar.indexCast v6345
  let c0_2214 : Index := 0#32
  ![v6346.toNat, 0]

def k0_chk368 (v6342 : BitVec 32) : Prop :=
  (8 ∣ (k0_mult368 v6342).toNat) ∧
  (∀ a, (k0_off751 v6342) a + S8x512.size a ≤ S20000x512.size a)
theorem k0_mult368_dvd : ∀ (v6342 : BitVec 32) (k0_hw368 : k0_chk368 v6342), 8 ∣ (k0_mult368 v6342).toNat := fun v6342 k0_hw368 => k0_hw368.1
theorem k0_off751_inb : ∀ (v6342 : BitVec 32) (k0_hw368 : k0_chk368 v6342), ∀ a, (k0_off751 v6342) a + S8x512.size a ≤ S20000x512.size a := fun v6342 k0_hw368 => k0_hw368.2

def k0_off752 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2216 : BitVec 32 := 320#32
  let v6356 : BitVec 32 := Scalar.addi v63 c320_i32_2216
  let c48_i32_2217 : BitVec 32 := 48#32
  let v6357 : BitVec 32 := Scalar.addi v6356 c48_i32_2217
  let v6358 : Index := Scalar.indexCast v6357
  ![v6358.toNat]
def k0_mult369 (v6359 : BitVec 32) : BitVec 32 :=
  let c3_i32_2218 : BitVec 32 := 3#32
  let v6360 : BitVec 32 := Scalar.shrsi v6359 c3_i32_2218
  let c3_i32_2219 : BitVec 32 := 3#32
  let v6361 : BitVec 32 := Scalar.shli v6360 c3_i32_2219
  v6361

def k0_off753 (v6359 : BitVec 32) : Fin 2 → Nat :=
  let c3_i32_2218 : BitVec 32 := 3#32
  let v6360 : BitVec 32 := Scalar.shrsi v6359 c3_i32_2218
  let c3_i32_2219 : BitVec 32 := 3#32
  let v6361 : BitVec 32 := Scalar.shli v6360 c3_i32_2219
  let v6362 : BitVec 32 := v6361
  let v6363 : Index := Scalar.indexCast v6362
  let c0_2220 : Index := 0#32
  ![v6363.toNat, 0]

def k0_chk369 (v6359 : BitVec 32) : Prop :=
  (8 ∣ (k0_mult369 v6359).toNat) ∧
  (∀ a, (k0_off753 v6359) a + S8x512.size a ≤ S20000x512.size a)
theorem k0_mult369_dvd : ∀ (v6359 : BitVec 32) (k0_hw369 : k0_chk369 v6359), 8 ∣ (k0_mult369 v6359).toNat := fun v6359 k0_hw369 => k0_hw369.1
theorem k0_off753_inb : ∀ (v6359 : BitVec 32) (k0_hw369 : k0_chk369 v6359), ∀ a, (k0_off753 v6359) a + S8x512.size a ≤ S20000x512.size a := fun v6359 k0_hw369 => k0_hw369.2

def k0_off754 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2222 : BitVec 32 := 320#32
  let v6373 : BitVec 32 := Scalar.addi v63 c320_i32_2222
  let c49_i32_2223 : BitVec 32 := 49#32
  let v6374 : BitVec 32 := Scalar.addi v6373 c49_i32_2223
  let v6375 : Index := Scalar.indexCast v6374
  ![v6375.toNat]
def k0_mult370 (v6376 : BitVec 32) : BitVec 32 :=
  let c3_i32_2224 : BitVec 32 := 3#32
  let v6377 : BitVec 32 := Scalar.shrsi v6376 c3_i32_2224
  let c3_i32_2225 : BitVec 32 := 3#32
  let v6378 : BitVec 32 := Scalar.shli v6377 c3_i32_2225
  v6378

def k0_off755 (v6376 : BitVec 32) : Fin 2 → Nat :=
  let c3_i32_2224 : BitVec 32 := 3#32
  let v6377 : BitVec 32 := Scalar.shrsi v6376 c3_i32_2224
  let c3_i32_2225 : BitVec 32 := 3#32
  let v6378 : BitVec 32 := Scalar.shli v6377 c3_i32_2225
  let v6379 : BitVec 32 := v6378
  let v6380 : Index := Scalar.indexCast v6379
  let c0_2226 : Index := 0#32
  ![v6380.toNat, 0]

def k0_chk370 (v6376 : BitVec 32) : Prop :=
  (8 ∣ (k0_mult370 v6376).toNat) ∧
  (∀ a, (k0_off755 v6376) a + S8x512.size a ≤ S20000x512.size a)
theorem k0_mult370_dvd : ∀ (v6376 : BitVec 32) (k0_hw370 : k0_chk370 v6376), 8 ∣ (k0_mult370 v6376).toNat := fun v6376 k0_hw370 => k0_hw370.1
theorem k0_off755_inb : ∀ (v6376 : BitVec 32) (k0_hw370 : k0_chk370 v6376), ∀ a, (k0_off755 v6376) a + S8x512.size a ≤ S20000x512.size a := fun v6376 k0_hw370 => k0_hw370.2

def k0_off756 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2228 : BitVec 32 := 320#32
  let v6390 : BitVec 32 := Scalar.addi v63 c320_i32_2228
  let c50_i32_2229 : BitVec 32 := 50#32
  let v6391 : BitVec 32 := Scalar.addi v6390 c50_i32_2229
  let v6392 : Index := Scalar.indexCast v6391
  ![v6392.toNat]
def k0_mult371 (v6393 : BitVec 32) : BitVec 32 :=
  let c3_i32_2230 : BitVec 32 := 3#32
  let v6394 : BitVec 32 := Scalar.shrsi v6393 c3_i32_2230
  let c3_i32_2231 : BitVec 32 := 3#32
  let v6395 : BitVec 32 := Scalar.shli v6394 c3_i32_2231
  v6395

def k0_off757 (v6393 : BitVec 32) : Fin 2 → Nat :=
  let c3_i32_2230 : BitVec 32 := 3#32
  let v6394 : BitVec 32 := Scalar.shrsi v6393 c3_i32_2230
  let c3_i32_2231 : BitVec 32 := 3#32
  let v6395 : BitVec 32 := Scalar.shli v6394 c3_i32_2231
  let v6396 : BitVec 32 := v6395
  let v6397 : Index := Scalar.indexCast v6396
  let c0_2232 : Index := 0#32
  ![v6397.toNat, 0]

def k0_chk371 (v6393 : BitVec 32) : Prop :=
  (8 ∣ (k0_mult371 v6393).toNat) ∧
  (∀ a, (k0_off757 v6393) a + S8x512.size a ≤ S20000x512.size a)
theorem k0_mult371_dvd : ∀ (v6393 : BitVec 32) (k0_hw371 : k0_chk371 v6393), 8 ∣ (k0_mult371 v6393).toNat := fun v6393 k0_hw371 => k0_hw371.1
theorem k0_off757_inb : ∀ (v6393 : BitVec 32) (k0_hw371 : k0_chk371 v6393), ∀ a, (k0_off757 v6393) a + S8x512.size a ≤ S20000x512.size a := fun v6393 k0_hw371 => k0_hw371.2

def k0_off758 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2234 : BitVec 32 := 320#32
  let v6407 : BitVec 32 := Scalar.addi v63 c320_i32_2234
  let c51_i32_2235 : BitVec 32 := 51#32
  let v6408 : BitVec 32 := Scalar.addi v6407 c51_i32_2235
  let v6409 : Index := Scalar.indexCast v6408
  ![v6409.toNat]
def k0_mult372 (v6410 : BitVec 32) : BitVec 32 :=
  let c3_i32_2236 : BitVec 32 := 3#32
  let v6411 : BitVec 32 := Scalar.shrsi v6410 c3_i32_2236
  let c3_i32_2237 : BitVec 32 := 3#32
  let v6412 : BitVec 32 := Scalar.shli v6411 c3_i32_2237
  v6412

def k0_off759 (v6410 : BitVec 32) : Fin 2 → Nat :=
  let c3_i32_2236 : BitVec 32 := 3#32
  let v6411 : BitVec 32 := Scalar.shrsi v6410 c3_i32_2236
  let c3_i32_2237 : BitVec 32 := 3#32
  let v6412 : BitVec 32 := Scalar.shli v6411 c3_i32_2237
  let v6413 : BitVec 32 := v6412
  let v6414 : Index := Scalar.indexCast v6413
  let c0_2238 : Index := 0#32
  ![v6414.toNat, 0]

def k0_chk372 (v6410 : BitVec 32) : Prop :=
  (8 ∣ (k0_mult372 v6410).toNat) ∧
  (∀ a, (k0_off759 v6410) a + S8x512.size a ≤ S20000x512.size a)
theorem k0_mult372_dvd : ∀ (v6410 : BitVec 32) (k0_hw372 : k0_chk372 v6410), 8 ∣ (k0_mult372 v6410).toNat := fun v6410 k0_hw372 => k0_hw372.1
theorem k0_off759_inb : ∀ (v6410 : BitVec 32) (k0_hw372 : k0_chk372 v6410), ∀ a, (k0_off759 v6410) a + S8x512.size a ≤ S20000x512.size a := fun v6410 k0_hw372 => k0_hw372.2

def k0_off760 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2240 : BitVec 32 := 320#32
  let v6424 : BitVec 32 := Scalar.addi v63 c320_i32_2240
  let c52_i32_2241 : BitVec 32 := 52#32
  let v6425 : BitVec 32 := Scalar.addi v6424 c52_i32_2241
  let v6426 : Index := Scalar.indexCast v6425
  ![v6426.toNat]
def k0_mult373 (v6427 : BitVec 32) : BitVec 32 :=
  let c3_i32_2242 : BitVec 32 := 3#32
  let v6428 : BitVec 32 := Scalar.shrsi v6427 c3_i32_2242
  let c3_i32_2243 : BitVec 32 := 3#32
  let v6429 : BitVec 32 := Scalar.shli v6428 c3_i32_2243
  v6429

def k0_off761 (v6427 : BitVec 32) : Fin 2 → Nat :=
  let c3_i32_2242 : BitVec 32 := 3#32
  let v6428 : BitVec 32 := Scalar.shrsi v6427 c3_i32_2242
  let c3_i32_2243 : BitVec 32 := 3#32
  let v6429 : BitVec 32 := Scalar.shli v6428 c3_i32_2243
  let v6430 : BitVec 32 := v6429
  let v6431 : Index := Scalar.indexCast v6430
  let c0_2244 : Index := 0#32
  ![v6431.toNat, 0]

def k0_chk373 (v6427 : BitVec 32) : Prop :=
  (8 ∣ (k0_mult373 v6427).toNat) ∧
  (∀ a, (k0_off761 v6427) a + S8x512.size a ≤ S20000x512.size a)
theorem k0_mult373_dvd : ∀ (v6427 : BitVec 32) (k0_hw373 : k0_chk373 v6427), 8 ∣ (k0_mult373 v6427).toNat := fun v6427 k0_hw373 => k0_hw373.1
theorem k0_off761_inb : ∀ (v6427 : BitVec 32) (k0_hw373 : k0_chk373 v6427), ∀ a, (k0_off761 v6427) a + S8x512.size a ≤ S20000x512.size a := fun v6427 k0_hw373 => k0_hw373.2

def k0_off762 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2246 : BitVec 32 := 320#32
  let v6441 : BitVec 32 := Scalar.addi v63 c320_i32_2246
  let c53_i32_2247 : BitVec 32 := 53#32
  let v6442 : BitVec 32 := Scalar.addi v6441 c53_i32_2247
  let v6443 : Index := Scalar.indexCast v6442
  ![v6443.toNat]
def k0_mult374 (v6444 : BitVec 32) : BitVec 32 :=
  let c3_i32_2248 : BitVec 32 := 3#32
  let v6445 : BitVec 32 := Scalar.shrsi v6444 c3_i32_2248
  let c3_i32_2249 : BitVec 32 := 3#32
  let v6446 : BitVec 32 := Scalar.shli v6445 c3_i32_2249
  v6446

def k0_off763 (v6444 : BitVec 32) : Fin 2 → Nat :=
  let c3_i32_2248 : BitVec 32 := 3#32
  let v6445 : BitVec 32 := Scalar.shrsi v6444 c3_i32_2248
  let c3_i32_2249 : BitVec 32 := 3#32
  let v6446 : BitVec 32 := Scalar.shli v6445 c3_i32_2249
  let v6447 : BitVec 32 := v6446
  let v6448 : Index := Scalar.indexCast v6447
  let c0_2250 : Index := 0#32
  ![v6448.toNat, 0]

def k0_chk374 (v6444 : BitVec 32) : Prop :=
  (8 ∣ (k0_mult374 v6444).toNat) ∧
  (∀ a, (k0_off763 v6444) a + S8x512.size a ≤ S20000x512.size a)
theorem k0_mult374_dvd : ∀ (v6444 : BitVec 32) (k0_hw374 : k0_chk374 v6444), 8 ∣ (k0_mult374 v6444).toNat := fun v6444 k0_hw374 => k0_hw374.1
theorem k0_off763_inb : ∀ (v6444 : BitVec 32) (k0_hw374 : k0_chk374 v6444), ∀ a, (k0_off763 v6444) a + S8x512.size a ≤ S20000x512.size a := fun v6444 k0_hw374 => k0_hw374.2

def k0_off764 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2252 : BitVec 32 := 320#32
  let v6458 : BitVec 32 := Scalar.addi v63 c320_i32_2252
  let c54_i32_2253 : BitVec 32 := 54#32
  let v6459 : BitVec 32 := Scalar.addi v6458 c54_i32_2253
  let v6460 : Index := Scalar.indexCast v6459
  ![v6460.toNat]
def k0_mult375 (v6461 : BitVec 32) : BitVec 32 :=
  let c3_i32_2254 : BitVec 32 := 3#32
  let v6462 : BitVec 32 := Scalar.shrsi v6461 c3_i32_2254
  let c3_i32_2255 : BitVec 32 := 3#32
  let v6463 : BitVec 32 := Scalar.shli v6462 c3_i32_2255
  v6463

def k0_off765 (v6461 : BitVec 32) : Fin 2 → Nat :=
  let c3_i32_2254 : BitVec 32 := 3#32
  let v6462 : BitVec 32 := Scalar.shrsi v6461 c3_i32_2254
  let c3_i32_2255 : BitVec 32 := 3#32
  let v6463 : BitVec 32 := Scalar.shli v6462 c3_i32_2255
  let v6464 : BitVec 32 := v6463
  let v6465 : Index := Scalar.indexCast v6464
  let c0_2256 : Index := 0#32
  ![v6465.toNat, 0]

def k0_chk375 (v6461 : BitVec 32) : Prop :=
  (8 ∣ (k0_mult375 v6461).toNat) ∧
  (∀ a, (k0_off765 v6461) a + S8x512.size a ≤ S20000x512.size a)
theorem k0_mult375_dvd : ∀ (v6461 : BitVec 32) (k0_hw375 : k0_chk375 v6461), 8 ∣ (k0_mult375 v6461).toNat := fun v6461 k0_hw375 => k0_hw375.1
theorem k0_off765_inb : ∀ (v6461 : BitVec 32) (k0_hw375 : k0_chk375 v6461), ∀ a, (k0_off765 v6461) a + S8x512.size a ≤ S20000x512.size a := fun v6461 k0_hw375 => k0_hw375.2

def k0_off766 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2258 : BitVec 32 := 320#32
  let v6475 : BitVec 32 := Scalar.addi v63 c320_i32_2258
  let c55_i32_2259 : BitVec 32 := 55#32
  let v6476 : BitVec 32 := Scalar.addi v6475 c55_i32_2259
  let v6477 : Index := Scalar.indexCast v6476
  ![v6477.toNat]
def k0_mult376 (v6478 : BitVec 32) : BitVec 32 :=
  let c3_i32_2260 : BitVec 32 := 3#32
  let v6479 : BitVec 32 := Scalar.shrsi v6478 c3_i32_2260
  let c3_i32_2261 : BitVec 32 := 3#32
  let v6480 : BitVec 32 := Scalar.shli v6479 c3_i32_2261
  v6480

def k0_off767 (v6478 : BitVec 32) : Fin 2 → Nat :=
  let c3_i32_2260 : BitVec 32 := 3#32
  let v6479 : BitVec 32 := Scalar.shrsi v6478 c3_i32_2260
  let c3_i32_2261 : BitVec 32 := 3#32
  let v6480 : BitVec 32 := Scalar.shli v6479 c3_i32_2261
  let v6481 : BitVec 32 := v6480
  let v6482 : Index := Scalar.indexCast v6481
  let c0_2262 : Index := 0#32
  ![v6482.toNat, 0]

def k0_chk376 (v6478 : BitVec 32) : Prop :=
  (8 ∣ (k0_mult376 v6478).toNat) ∧
  (∀ a, (k0_off767 v6478) a + S8x512.size a ≤ S20000x512.size a)
theorem k0_mult376_dvd : ∀ (v6478 : BitVec 32) (k0_hw376 : k0_chk376 v6478), 8 ∣ (k0_mult376 v6478).toNat := fun v6478 k0_hw376 => k0_hw376.1
theorem k0_off767_inb : ∀ (v6478 : BitVec 32) (k0_hw376 : k0_chk376 v6478), ∀ a, (k0_off767 v6478) a + S8x512.size a ≤ S20000x512.size a := fun v6478 k0_hw376 => k0_hw376.2

def k0_off768 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2264 : BitVec 32 := 320#32
  let v6492 : BitVec 32 := Scalar.addi v63 c320_i32_2264
  let c56_i32_2265 : BitVec 32 := 56#32
  let v6493 : BitVec 32 := Scalar.addi v6492 c56_i32_2265
  let v6494 : Index := Scalar.indexCast v6493
  ![v6494.toNat]
def k0_mult377 (v6495 : BitVec 32) : BitVec 32 :=
  let c3_i32_2266 : BitVec 32 := 3#32
  let v6496 : BitVec 32 := Scalar.shrsi v6495 c3_i32_2266
  let c3_i32_2267 : BitVec 32 := 3#32
  let v6497 : BitVec 32 := Scalar.shli v6496 c3_i32_2267
  v6497

def k0_off769 (v6495 : BitVec 32) : Fin 2 → Nat :=
  let c3_i32_2266 : BitVec 32 := 3#32
  let v6496 : BitVec 32 := Scalar.shrsi v6495 c3_i32_2266
  let c3_i32_2267 : BitVec 32 := 3#32
  let v6497 : BitVec 32 := Scalar.shli v6496 c3_i32_2267
  let v6498 : BitVec 32 := v6497
  let v6499 : Index := Scalar.indexCast v6498
  let c0_2268 : Index := 0#32
  ![v6499.toNat, 0]

def k0_chk377 (v6495 : BitVec 32) : Prop :=
  (8 ∣ (k0_mult377 v6495).toNat) ∧
  (∀ a, (k0_off769 v6495) a + S8x512.size a ≤ S20000x512.size a)
theorem k0_mult377_dvd : ∀ (v6495 : BitVec 32) (k0_hw377 : k0_chk377 v6495), 8 ∣ (k0_mult377 v6495).toNat := fun v6495 k0_hw377 => k0_hw377.1
theorem k0_off769_inb : ∀ (v6495 : BitVec 32) (k0_hw377 : k0_chk377 v6495), ∀ a, (k0_off769 v6495) a + S8x512.size a ≤ S20000x512.size a := fun v6495 k0_hw377 => k0_hw377.2

def k0_off770 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2270 : BitVec 32 := 320#32
  let v6509 : BitVec 32 := Scalar.addi v63 c320_i32_2270
  let c57_i32_2271 : BitVec 32 := 57#32
  let v6510 : BitVec 32 := Scalar.addi v6509 c57_i32_2271
  let v6511 : Index := Scalar.indexCast v6510
  ![v6511.toNat]
def k0_mult378 (v6512 : BitVec 32) : BitVec 32 :=
  let c3_i32_2272 : BitVec 32 := 3#32
  let v6513 : BitVec 32 := Scalar.shrsi v6512 c3_i32_2272
  let c3_i32_2273 : BitVec 32 := 3#32
  let v6514 : BitVec 32 := Scalar.shli v6513 c3_i32_2273
  v6514

def k0_off771 (v6512 : BitVec 32) : Fin 2 → Nat :=
  let c3_i32_2272 : BitVec 32 := 3#32
  let v6513 : BitVec 32 := Scalar.shrsi v6512 c3_i32_2272
  let c3_i32_2273 : BitVec 32 := 3#32
  let v6514 : BitVec 32 := Scalar.shli v6513 c3_i32_2273
  let v6515 : BitVec 32 := v6514
  let v6516 : Index := Scalar.indexCast v6515
  let c0_2274 : Index := 0#32
  ![v6516.toNat, 0]

def k0_chk378 (v6512 : BitVec 32) : Prop :=
  (8 ∣ (k0_mult378 v6512).toNat) ∧
  (∀ a, (k0_off771 v6512) a + S8x512.size a ≤ S20000x512.size a)
theorem k0_mult378_dvd : ∀ (v6512 : BitVec 32) (k0_hw378 : k0_chk378 v6512), 8 ∣ (k0_mult378 v6512).toNat := fun v6512 k0_hw378 => k0_hw378.1
theorem k0_off771_inb : ∀ (v6512 : BitVec 32) (k0_hw378 : k0_chk378 v6512), ∀ a, (k0_off771 v6512) a + S8x512.size a ≤ S20000x512.size a := fun v6512 k0_hw378 => k0_hw378.2

def k0_off772 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2276 : BitVec 32 := 320#32
  let v6526 : BitVec 32 := Scalar.addi v63 c320_i32_2276
  let c58_i32_2277 : BitVec 32 := 58#32
  let v6527 : BitVec 32 := Scalar.addi v6526 c58_i32_2277
  let v6528 : Index := Scalar.indexCast v6527
  ![v6528.toNat]
def k0_mult379 (v6529 : BitVec 32) : BitVec 32 :=
  let c3_i32_2278 : BitVec 32 := 3#32
  let v6530 : BitVec 32 := Scalar.shrsi v6529 c3_i32_2278
  let c3_i32_2279 : BitVec 32 := 3#32
  let v6531 : BitVec 32 := Scalar.shli v6530 c3_i32_2279
  v6531

def k0_off773 (v6529 : BitVec 32) : Fin 2 → Nat :=
  let c3_i32_2278 : BitVec 32 := 3#32
  let v6530 : BitVec 32 := Scalar.shrsi v6529 c3_i32_2278
  let c3_i32_2279 : BitVec 32 := 3#32
  let v6531 : BitVec 32 := Scalar.shli v6530 c3_i32_2279
  let v6532 : BitVec 32 := v6531
  let v6533 : Index := Scalar.indexCast v6532
  let c0_2280 : Index := 0#32
  ![v6533.toNat, 0]

def k0_chk379 (v6529 : BitVec 32) : Prop :=
  (8 ∣ (k0_mult379 v6529).toNat) ∧
  (∀ a, (k0_off773 v6529) a + S8x512.size a ≤ S20000x512.size a)
theorem k0_mult379_dvd : ∀ (v6529 : BitVec 32) (k0_hw379 : k0_chk379 v6529), 8 ∣ (k0_mult379 v6529).toNat := fun v6529 k0_hw379 => k0_hw379.1
theorem k0_off773_inb : ∀ (v6529 : BitVec 32) (k0_hw379 : k0_chk379 v6529), ∀ a, (k0_off773 v6529) a + S8x512.size a ≤ S20000x512.size a := fun v6529 k0_hw379 => k0_hw379.2

def k0_off774 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2282 : BitVec 32 := 320#32
  let v6543 : BitVec 32 := Scalar.addi v63 c320_i32_2282
  let c59_i32_2283 : BitVec 32 := 59#32
  let v6544 : BitVec 32 := Scalar.addi v6543 c59_i32_2283
  let v6545 : Index := Scalar.indexCast v6544
  ![v6545.toNat]
def k0_mult380 (v6546 : BitVec 32) : BitVec 32 :=
  let c3_i32_2284 : BitVec 32 := 3#32
  let v6547 : BitVec 32 := Scalar.shrsi v6546 c3_i32_2284
  let c3_i32_2285 : BitVec 32 := 3#32
  let v6548 : BitVec 32 := Scalar.shli v6547 c3_i32_2285
  v6548

def k0_off775 (v6546 : BitVec 32) : Fin 2 → Nat :=
  let c3_i32_2284 : BitVec 32 := 3#32
  let v6547 : BitVec 32 := Scalar.shrsi v6546 c3_i32_2284
  let c3_i32_2285 : BitVec 32 := 3#32
  let v6548 : BitVec 32 := Scalar.shli v6547 c3_i32_2285
  let v6549 : BitVec 32 := v6548
  let v6550 : Index := Scalar.indexCast v6549
  let c0_2286 : Index := 0#32
  ![v6550.toNat, 0]

def k0_chk380 (v6546 : BitVec 32) : Prop :=
  (8 ∣ (k0_mult380 v6546).toNat) ∧
  (∀ a, (k0_off775 v6546) a + S8x512.size a ≤ S20000x512.size a)
theorem k0_mult380_dvd : ∀ (v6546 : BitVec 32) (k0_hw380 : k0_chk380 v6546), 8 ∣ (k0_mult380 v6546).toNat := fun v6546 k0_hw380 => k0_hw380.1
theorem k0_off775_inb : ∀ (v6546 : BitVec 32) (k0_hw380 : k0_chk380 v6546), ∀ a, (k0_off775 v6546) a + S8x512.size a ≤ S20000x512.size a := fun v6546 k0_hw380 => k0_hw380.2

def k0_off776 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2288 : BitVec 32 := 320#32
  let v6560 : BitVec 32 := Scalar.addi v63 c320_i32_2288
  let c60_i32_2289 : BitVec 32 := 60#32
  let v6561 : BitVec 32 := Scalar.addi v6560 c60_i32_2289
  let v6562 : Index := Scalar.indexCast v6561
  ![v6562.toNat]
def k0_mult381 (v6563 : BitVec 32) : BitVec 32 :=
  let c3_i32_2290 : BitVec 32 := 3#32
  let v6564 : BitVec 32 := Scalar.shrsi v6563 c3_i32_2290
  let c3_i32_2291 : BitVec 32 := 3#32
  let v6565 : BitVec 32 := Scalar.shli v6564 c3_i32_2291
  v6565

def k0_off777 (v6563 : BitVec 32) : Fin 2 → Nat :=
  let c3_i32_2290 : BitVec 32 := 3#32
  let v6564 : BitVec 32 := Scalar.shrsi v6563 c3_i32_2290
  let c3_i32_2291 : BitVec 32 := 3#32
  let v6565 : BitVec 32 := Scalar.shli v6564 c3_i32_2291
  let v6566 : BitVec 32 := v6565
  let v6567 : Index := Scalar.indexCast v6566
  let c0_2292 : Index := 0#32
  ![v6567.toNat, 0]

def k0_chk381 (v6563 : BitVec 32) : Prop :=
  (8 ∣ (k0_mult381 v6563).toNat) ∧
  (∀ a, (k0_off777 v6563) a + S8x512.size a ≤ S20000x512.size a)
theorem k0_mult381_dvd : ∀ (v6563 : BitVec 32) (k0_hw381 : k0_chk381 v6563), 8 ∣ (k0_mult381 v6563).toNat := fun v6563 k0_hw381 => k0_hw381.1
theorem k0_off777_inb : ∀ (v6563 : BitVec 32) (k0_hw381 : k0_chk381 v6563), ∀ a, (k0_off777 v6563) a + S8x512.size a ≤ S20000x512.size a := fun v6563 k0_hw381 => k0_hw381.2

def k0_off778 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2294 : BitVec 32 := 320#32
  let v6577 : BitVec 32 := Scalar.addi v63 c320_i32_2294
  let c61_i32_2295 : BitVec 32 := 61#32
  let v6578 : BitVec 32 := Scalar.addi v6577 c61_i32_2295
  let v6579 : Index := Scalar.indexCast v6578
  ![v6579.toNat]
def k0_mult382 (v6580 : BitVec 32) : BitVec 32 :=
  let c3_i32_2296 : BitVec 32 := 3#32
  let v6581 : BitVec 32 := Scalar.shrsi v6580 c3_i32_2296
  let c3_i32_2297 : BitVec 32 := 3#32
  let v6582 : BitVec 32 := Scalar.shli v6581 c3_i32_2297
  v6582

def k0_off779 (v6580 : BitVec 32) : Fin 2 → Nat :=
  let c3_i32_2296 : BitVec 32 := 3#32
  let v6581 : BitVec 32 := Scalar.shrsi v6580 c3_i32_2296
  let c3_i32_2297 : BitVec 32 := 3#32
  let v6582 : BitVec 32 := Scalar.shli v6581 c3_i32_2297
  let v6583 : BitVec 32 := v6582
  let v6584 : Index := Scalar.indexCast v6583
  let c0_2298 : Index := 0#32
  ![v6584.toNat, 0]

def k0_chk382 (v6580 : BitVec 32) : Prop :=
  (8 ∣ (k0_mult382 v6580).toNat) ∧
  (∀ a, (k0_off779 v6580) a + S8x512.size a ≤ S20000x512.size a)
theorem k0_mult382_dvd : ∀ (v6580 : BitVec 32) (k0_hw382 : k0_chk382 v6580), 8 ∣ (k0_mult382 v6580).toNat := fun v6580 k0_hw382 => k0_hw382.1
theorem k0_off779_inb : ∀ (v6580 : BitVec 32) (k0_hw382 : k0_chk382 v6580), ∀ a, (k0_off779 v6580) a + S8x512.size a ≤ S20000x512.size a := fun v6580 k0_hw382 => k0_hw382.2

def k0_off780 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2300 : BitVec 32 := 320#32
  let v6594 : BitVec 32 := Scalar.addi v63 c320_i32_2300
  let c62_i32_2301 : BitVec 32 := 62#32
  let v6595 : BitVec 32 := Scalar.addi v6594 c62_i32_2301
  let v6596 : Index := Scalar.indexCast v6595
  ![v6596.toNat]
def k0_mult383 (v6597 : BitVec 32) : BitVec 32 :=
  let c3_i32_2302 : BitVec 32 := 3#32
  let v6598 : BitVec 32 := Scalar.shrsi v6597 c3_i32_2302
  let c3_i32_2303 : BitVec 32 := 3#32
  let v6599 : BitVec 32 := Scalar.shli v6598 c3_i32_2303
  v6599

def k0_off781 (v6597 : BitVec 32) : Fin 2 → Nat :=
  let c3_i32_2302 : BitVec 32 := 3#32
  let v6598 : BitVec 32 := Scalar.shrsi v6597 c3_i32_2302
  let c3_i32_2303 : BitVec 32 := 3#32
  let v6599 : BitVec 32 := Scalar.shli v6598 c3_i32_2303
  let v6600 : BitVec 32 := v6599
  let v6601 : Index := Scalar.indexCast v6600
  let c0_2304 : Index := 0#32
  ![v6601.toNat, 0]

def k0_chk383 (v6597 : BitVec 32) : Prop :=
  (8 ∣ (k0_mult383 v6597).toNat) ∧
  (∀ a, (k0_off781 v6597) a + S8x512.size a ≤ S20000x512.size a)
theorem k0_mult383_dvd : ∀ (v6597 : BitVec 32) (k0_hw383 : k0_chk383 v6597), 8 ∣ (k0_mult383 v6597).toNat := fun v6597 k0_hw383 => k0_hw383.1
theorem k0_off781_inb : ∀ (v6597 : BitVec 32) (k0_hw383 : k0_chk383 v6597), ∀ a, (k0_off781 v6597) a + S8x512.size a ≤ S20000x512.size a := fun v6597 k0_hw383 => k0_hw383.2

def k0_off782 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c320_i32_2306 : BitVec 32 := 320#32
  let v6611 : BitVec 32 := Scalar.addi v63 c320_i32_2306
  let c63_i32_2307 : BitVec 32 := 63#32
  let v6612 : BitVec 32 := Scalar.addi v6611 c63_i32_2307
  let v6613 : Index := Scalar.indexCast v6612
  ![v6613.toNat]
def k0_mult384 (v6614 : BitVec 32) : BitVec 32 :=
  let c3_i32_2308 : BitVec 32 := 3#32
  let v6615 : BitVec 32 := Scalar.shrsi v6614 c3_i32_2308
  let c3_i32_2309 : BitVec 32 := 3#32
  let v6616 : BitVec 32 := Scalar.shli v6615 c3_i32_2309
  v6616

def k0_off783 (v6614 : BitVec 32) : Fin 2 → Nat :=
  let c3_i32_2308 : BitVec 32 := 3#32
  let v6615 : BitVec 32 := Scalar.shrsi v6614 c3_i32_2308
  let c3_i32_2309 : BitVec 32 := 3#32
  let v6616 : BitVec 32 := Scalar.shli v6615 c3_i32_2309
  let v6617 : BitVec 32 := v6616
  let v6618 : Index := Scalar.indexCast v6617
  let c0_2310 : Index := 0#32
  ![v6618.toNat, 0]

def k0_chk384 (v6614 : BitVec 32) : Prop :=
  (8 ∣ (k0_mult384 v6614).toNat) ∧
  (∀ a, (k0_off783 v6614) a + S8x512.size a ≤ S20000x512.size a)
theorem k0_mult384_dvd : ∀ (v6614 : BitVec 32) (k0_hw384 : k0_chk384 v6614), 8 ∣ (k0_mult384 v6614).toNat := fun v6614 k0_hw384 => k0_hw384.1
theorem k0_off783_inb : ∀ (v6614 : BitVec 32) (k0_hw384 : k0_chk384 v6614), ∀ a, (k0_off783 v6614) a + S8x512.size a ≤ S20000x512.size a := fun v6614 k0_hw384 => k0_hw384.2

def k0_off784 (k0_t1 : Fin k0_t1_loop.trips) : Fin 3 → Nat :=
  let c0_i32_18 : BitVec 32 := 0#32
  let c1_i32_19 : BitVec 32 := 1#32
  let arg12 : BitVec 32 := Scf.iv c0_i32_18 c1_i32_19 k0_t1
  let c8_i32_2312 : BitVec 32 := 8#32
  let v6628 : BitVec 32 := Scalar.muli arg12 c8_i32_2312
  let c5_i32_2313 : BitVec 32 := 5#32
  let v6629 : BitVec 32 := Scalar.addi v6628 c5_i32_2313
  let v6630 : Index := Scalar.indexCast v6629
  let c0_2314 : Index := 0#32
  let c0_2315 : Index := 0#32
  ![v6630.toNat, 0, 0]
def k0_off785 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32 : BitVec 32 := 384#32
  let v6635 : BitVec 32 := Scalar.addi v63 c384_i32
  let c0_i32_2317 : BitVec 32 := 0#32
  let v6636 : BitVec 32 := Scalar.addi v6635 c0_i32_2317
  let v6637 : Index := Scalar.indexCast v6636
  ![v6637.toNat]
def k0_mult385 (v6638 : BitVec 32) : BitVec 32 :=
  let c3_i32_2318 : BitVec 32 := 3#32
  let v6639 : BitVec 32 := Scalar.shrsi v6638 c3_i32_2318
  let c3_i32_2319 : BitVec 32 := 3#32
  let v6640 : BitVec 32 := Scalar.shli v6639 c3_i32_2319
  v6640

def k0_off786 (v6638 : BitVec 32) : Fin 2 → Nat :=
  let c3_i32_2318 : BitVec 32 := 3#32
  let v6639 : BitVec 32 := Scalar.shrsi v6638 c3_i32_2318
  let c3_i32_2319 : BitVec 32 := 3#32
  let v6640 : BitVec 32 := Scalar.shli v6639 c3_i32_2319
  let v6641 : BitVec 32 := v6640
  let v6642 : Index := Scalar.indexCast v6641
  let c0_2320 : Index := 0#32
  ![v6642.toNat, 0]

def k0_chk385 (v6638 : BitVec 32) : Prop :=
  (8 ∣ (k0_mult385 v6638).toNat) ∧
  (∀ a, (k0_off786 v6638) a + S8x512.size a ≤ S20000x512.size a)
theorem k0_mult385_dvd : ∀ (v6638 : BitVec 32) (k0_hw385 : k0_chk385 v6638), 8 ∣ (k0_mult385 v6638).toNat := fun v6638 k0_hw385 => k0_hw385.1
theorem k0_off786_inb : ∀ (v6638 : BitVec 32) (k0_hw385 : k0_chk385 v6638), ∀ a, (k0_off786 v6638) a + S8x512.size a ≤ S20000x512.size a := fun v6638 k0_hw385 => k0_hw385.2

def k0_off787 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2322 : BitVec 32 := 384#32
  let v6652 : BitVec 32 := Scalar.addi v63 c384_i32_2322
  let c1_i32_2323 : BitVec 32 := 1#32
  let v6653 : BitVec 32 := Scalar.addi v6652 c1_i32_2323
  let v6654 : Index := Scalar.indexCast v6653
  ![v6654.toNat]
def k0_mult386 (v6655 : BitVec 32) : BitVec 32 :=
  let c3_i32_2324 : BitVec 32 := 3#32
  let v6656 : BitVec 32 := Scalar.shrsi v6655 c3_i32_2324
  let c3_i32_2325 : BitVec 32 := 3#32
  let v6657 : BitVec 32 := Scalar.shli v6656 c3_i32_2325
  v6657

def k0_off788 (v6655 : BitVec 32) : Fin 2 → Nat :=
  let c3_i32_2324 : BitVec 32 := 3#32
  let v6656 : BitVec 32 := Scalar.shrsi v6655 c3_i32_2324
  let c3_i32_2325 : BitVec 32 := 3#32
  let v6657 : BitVec 32 := Scalar.shli v6656 c3_i32_2325
  let v6658 : BitVec 32 := v6657
  let v6659 : Index := Scalar.indexCast v6658
  let c0_2326 : Index := 0#32
  ![v6659.toNat, 0]

def k0_chk386 (v6655 : BitVec 32) : Prop :=
  (8 ∣ (k0_mult386 v6655).toNat) ∧
  (∀ a, (k0_off788 v6655) a + S8x512.size a ≤ S20000x512.size a)
theorem k0_mult386_dvd : ∀ (v6655 : BitVec 32) (k0_hw386 : k0_chk386 v6655), 8 ∣ (k0_mult386 v6655).toNat := fun v6655 k0_hw386 => k0_hw386.1
theorem k0_off788_inb : ∀ (v6655 : BitVec 32) (k0_hw386 : k0_chk386 v6655), ∀ a, (k0_off788 v6655) a + S8x512.size a ≤ S20000x512.size a := fun v6655 k0_hw386 => k0_hw386.2

def k0_off789 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2328 : BitVec 32 := 384#32
  let v6669 : BitVec 32 := Scalar.addi v63 c384_i32_2328
  let c2_i32_2329 : BitVec 32 := 2#32
  let v6670 : BitVec 32 := Scalar.addi v6669 c2_i32_2329
  let v6671 : Index := Scalar.indexCast v6670
  ![v6671.toNat]
def k0_mult387 (v6672 : BitVec 32) : BitVec 32 :=
  let c3_i32_2330 : BitVec 32 := 3#32
  let v6673 : BitVec 32 := Scalar.shrsi v6672 c3_i32_2330
  let c3_i32_2331 : BitVec 32 := 3#32
  let v6674 : BitVec 32 := Scalar.shli v6673 c3_i32_2331
  v6674

def k0_off790 (v6672 : BitVec 32) : Fin 2 → Nat :=
  let c3_i32_2330 : BitVec 32 := 3#32
  let v6673 : BitVec 32 := Scalar.shrsi v6672 c3_i32_2330
  let c3_i32_2331 : BitVec 32 := 3#32
  let v6674 : BitVec 32 := Scalar.shli v6673 c3_i32_2331
  let v6675 : BitVec 32 := v6674
  let v6676 : Index := Scalar.indexCast v6675
  let c0_2332 : Index := 0#32
  ![v6676.toNat, 0]

def k0_chk387 (v6672 : BitVec 32) : Prop :=
  (8 ∣ (k0_mult387 v6672).toNat) ∧
  (∀ a, (k0_off790 v6672) a + S8x512.size a ≤ S20000x512.size a)
theorem k0_mult387_dvd : ∀ (v6672 : BitVec 32) (k0_hw387 : k0_chk387 v6672), 8 ∣ (k0_mult387 v6672).toNat := fun v6672 k0_hw387 => k0_hw387.1
theorem k0_off790_inb : ∀ (v6672 : BitVec 32) (k0_hw387 : k0_chk387 v6672), ∀ a, (k0_off790 v6672) a + S8x512.size a ≤ S20000x512.size a := fun v6672 k0_hw387 => k0_hw387.2

def k0_off791 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2334 : BitVec 32 := 384#32
  let v6686 : BitVec 32 := Scalar.addi v63 c384_i32_2334
  let c3_i32_2335 : BitVec 32 := 3#32
  let v6687 : BitVec 32 := Scalar.addi v6686 c3_i32_2335
  let v6688 : Index := Scalar.indexCast v6687
  ![v6688.toNat]
def k0_mult388 (v6689 : BitVec 32) : BitVec 32 :=
  let c3_i32_2336 : BitVec 32 := 3#32
  let v6690 : BitVec 32 := Scalar.shrsi v6689 c3_i32_2336
  let c3_i32_2337 : BitVec 32 := 3#32
  let v6691 : BitVec 32 := Scalar.shli v6690 c3_i32_2337
  v6691

def k0_off792 (v6689 : BitVec 32) : Fin 2 → Nat :=
  let c3_i32_2336 : BitVec 32 := 3#32
  let v6690 : BitVec 32 := Scalar.shrsi v6689 c3_i32_2336
  let c3_i32_2337 : BitVec 32 := 3#32
  let v6691 : BitVec 32 := Scalar.shli v6690 c3_i32_2337
  let v6692 : BitVec 32 := v6691
  let v6693 : Index := Scalar.indexCast v6692
  let c0_2338 : Index := 0#32
  ![v6693.toNat, 0]

def k0_chk388 (v6689 : BitVec 32) : Prop :=
  (8 ∣ (k0_mult388 v6689).toNat) ∧
  (∀ a, (k0_off792 v6689) a + S8x512.size a ≤ S20000x512.size a)
theorem k0_mult388_dvd : ∀ (v6689 : BitVec 32) (k0_hw388 : k0_chk388 v6689), 8 ∣ (k0_mult388 v6689).toNat := fun v6689 k0_hw388 => k0_hw388.1
theorem k0_off792_inb : ∀ (v6689 : BitVec 32) (k0_hw388 : k0_chk388 v6689), ∀ a, (k0_off792 v6689) a + S8x512.size a ≤ S20000x512.size a := fun v6689 k0_hw388 => k0_hw388.2

def k0_off793 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2340 : BitVec 32 := 384#32
  let v6703 : BitVec 32 := Scalar.addi v63 c384_i32_2340
  let c4_i32_2341 : BitVec 32 := 4#32
  let v6704 : BitVec 32 := Scalar.addi v6703 c4_i32_2341
  let v6705 : Index := Scalar.indexCast v6704
  ![v6705.toNat]
def k0_mult389 (v6706 : BitVec 32) : BitVec 32 :=
  let c3_i32_2342 : BitVec 32 := 3#32
  let v6707 : BitVec 32 := Scalar.shrsi v6706 c3_i32_2342
  let c3_i32_2343 : BitVec 32 := 3#32
  let v6708 : BitVec 32 := Scalar.shli v6707 c3_i32_2343
  v6708

def k0_off794 (v6706 : BitVec 32) : Fin 2 → Nat :=
  let c3_i32_2342 : BitVec 32 := 3#32
  let v6707 : BitVec 32 := Scalar.shrsi v6706 c3_i32_2342
  let c3_i32_2343 : BitVec 32 := 3#32
  let v6708 : BitVec 32 := Scalar.shli v6707 c3_i32_2343
  let v6709 : BitVec 32 := v6708
  let v6710 : Index := Scalar.indexCast v6709
  let c0_2344 : Index := 0#32
  ![v6710.toNat, 0]

def k0_chk389 (v6706 : BitVec 32) : Prop :=
  (8 ∣ (k0_mult389 v6706).toNat) ∧
  (∀ a, (k0_off794 v6706) a + S8x512.size a ≤ S20000x512.size a)
theorem k0_mult389_dvd : ∀ (v6706 : BitVec 32) (k0_hw389 : k0_chk389 v6706), 8 ∣ (k0_mult389 v6706).toNat := fun v6706 k0_hw389 => k0_hw389.1
theorem k0_off794_inb : ∀ (v6706 : BitVec 32) (k0_hw389 : k0_chk389 v6706), ∀ a, (k0_off794 v6706) a + S8x512.size a ≤ S20000x512.size a := fun v6706 k0_hw389 => k0_hw389.2

def k0_off795 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2346 : BitVec 32 := 384#32
  let v6720 : BitVec 32 := Scalar.addi v63 c384_i32_2346
  let c5_i32_2347 : BitVec 32 := 5#32
  let v6721 : BitVec 32 := Scalar.addi v6720 c5_i32_2347
  let v6722 : Index := Scalar.indexCast v6721
  ![v6722.toNat]
def k0_mult390 (v6723 : BitVec 32) : BitVec 32 :=
  let c3_i32_2348 : BitVec 32 := 3#32
  let v6724 : BitVec 32 := Scalar.shrsi v6723 c3_i32_2348
  let c3_i32_2349 : BitVec 32 := 3#32
  let v6725 : BitVec 32 := Scalar.shli v6724 c3_i32_2349
  v6725

def k0_off796 (v6723 : BitVec 32) : Fin 2 → Nat :=
  let c3_i32_2348 : BitVec 32 := 3#32
  let v6724 : BitVec 32 := Scalar.shrsi v6723 c3_i32_2348
  let c3_i32_2349 : BitVec 32 := 3#32
  let v6725 : BitVec 32 := Scalar.shli v6724 c3_i32_2349
  let v6726 : BitVec 32 := v6725
  let v6727 : Index := Scalar.indexCast v6726
  let c0_2350 : Index := 0#32
  ![v6727.toNat, 0]

def k0_chk390 (v6723 : BitVec 32) : Prop :=
  (8 ∣ (k0_mult390 v6723).toNat) ∧
  (∀ a, (k0_off796 v6723) a + S8x512.size a ≤ S20000x512.size a)
theorem k0_mult390_dvd : ∀ (v6723 : BitVec 32) (k0_hw390 : k0_chk390 v6723), 8 ∣ (k0_mult390 v6723).toNat := fun v6723 k0_hw390 => k0_hw390.1
theorem k0_off796_inb : ∀ (v6723 : BitVec 32) (k0_hw390 : k0_chk390 v6723), ∀ a, (k0_off796 v6723) a + S8x512.size a ≤ S20000x512.size a := fun v6723 k0_hw390 => k0_hw390.2

def k0_off797 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2352 : BitVec 32 := 384#32
  let v6737 : BitVec 32 := Scalar.addi v63 c384_i32_2352
  let c6_i32_2353 : BitVec 32 := 6#32
  let v6738 : BitVec 32 := Scalar.addi v6737 c6_i32_2353
  let v6739 : Index := Scalar.indexCast v6738
  ![v6739.toNat]
def k0_mult391 (v6740 : BitVec 32) : BitVec 32 :=
  let c3_i32_2354 : BitVec 32 := 3#32
  let v6741 : BitVec 32 := Scalar.shrsi v6740 c3_i32_2354
  let c3_i32_2355 : BitVec 32 := 3#32
  let v6742 : BitVec 32 := Scalar.shli v6741 c3_i32_2355
  v6742

def k0_off798 (v6740 : BitVec 32) : Fin 2 → Nat :=
  let c3_i32_2354 : BitVec 32 := 3#32
  let v6741 : BitVec 32 := Scalar.shrsi v6740 c3_i32_2354
  let c3_i32_2355 : BitVec 32 := 3#32
  let v6742 : BitVec 32 := Scalar.shli v6741 c3_i32_2355
  let v6743 : BitVec 32 := v6742
  let v6744 : Index := Scalar.indexCast v6743
  let c0_2356 : Index := 0#32
  ![v6744.toNat, 0]

def k0_chk391 (v6740 : BitVec 32) : Prop :=
  (8 ∣ (k0_mult391 v6740).toNat) ∧
  (∀ a, (k0_off798 v6740) a + S8x512.size a ≤ S20000x512.size a)
theorem k0_mult391_dvd : ∀ (v6740 : BitVec 32) (k0_hw391 : k0_chk391 v6740), 8 ∣ (k0_mult391 v6740).toNat := fun v6740 k0_hw391 => k0_hw391.1
theorem k0_off798_inb : ∀ (v6740 : BitVec 32) (k0_hw391 : k0_chk391 v6740), ∀ a, (k0_off798 v6740) a + S8x512.size a ≤ S20000x512.size a := fun v6740 k0_hw391 => k0_hw391.2

def k0_off799 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2358 : BitVec 32 := 384#32
  let v6754 : BitVec 32 := Scalar.addi v63 c384_i32_2358
  let c7_i32_2359 : BitVec 32 := 7#32
  let v6755 : BitVec 32 := Scalar.addi v6754 c7_i32_2359
  let v6756 : Index := Scalar.indexCast v6755
  ![v6756.toNat]
def k0_mult392 (v6757 : BitVec 32) : BitVec 32 :=
  let c3_i32_2360 : BitVec 32 := 3#32
  let v6758 : BitVec 32 := Scalar.shrsi v6757 c3_i32_2360
  let c3_i32_2361 : BitVec 32 := 3#32
  let v6759 : BitVec 32 := Scalar.shli v6758 c3_i32_2361
  v6759

def k0_off800 (v6757 : BitVec 32) : Fin 2 → Nat :=
  let c3_i32_2360 : BitVec 32 := 3#32
  let v6758 : BitVec 32 := Scalar.shrsi v6757 c3_i32_2360
  let c3_i32_2361 : BitVec 32 := 3#32
  let v6759 : BitVec 32 := Scalar.shli v6758 c3_i32_2361
  let v6760 : BitVec 32 := v6759
  let v6761 : Index := Scalar.indexCast v6760
  let c0_2362 : Index := 0#32
  ![v6761.toNat, 0]

def k0_chk392 (v6757 : BitVec 32) : Prop :=
  (8 ∣ (k0_mult392 v6757).toNat) ∧
  (∀ a, (k0_off800 v6757) a + S8x512.size a ≤ S20000x512.size a)
theorem k0_mult392_dvd : ∀ (v6757 : BitVec 32) (k0_hw392 : k0_chk392 v6757), 8 ∣ (k0_mult392 v6757).toNat := fun v6757 k0_hw392 => k0_hw392.1
theorem k0_off800_inb : ∀ (v6757 : BitVec 32) (k0_hw392 : k0_chk392 v6757), ∀ a, (k0_off800 v6757) a + S8x512.size a ≤ S20000x512.size a := fun v6757 k0_hw392 => k0_hw392.2

def k0_off801 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2364 : BitVec 32 := 384#32
  let v6771 : BitVec 32 := Scalar.addi v63 c384_i32_2364
  let c8_i32_2365 : BitVec 32 := 8#32
  let v6772 : BitVec 32 := Scalar.addi v6771 c8_i32_2365
  let v6773 : Index := Scalar.indexCast v6772
  ![v6773.toNat]
def k0_mult393 (v6774 : BitVec 32) : BitVec 32 :=
  let c3_i32_2366 : BitVec 32 := 3#32
  let v6775 : BitVec 32 := Scalar.shrsi v6774 c3_i32_2366
  let c3_i32_2367 : BitVec 32 := 3#32
  let v6776 : BitVec 32 := Scalar.shli v6775 c3_i32_2367
  v6776

def k0_off802 (v6774 : BitVec 32) : Fin 2 → Nat :=
  let c3_i32_2366 : BitVec 32 := 3#32
  let v6775 : BitVec 32 := Scalar.shrsi v6774 c3_i32_2366
  let c3_i32_2367 : BitVec 32 := 3#32
  let v6776 : BitVec 32 := Scalar.shli v6775 c3_i32_2367
  let v6777 : BitVec 32 := v6776
  let v6778 : Index := Scalar.indexCast v6777
  let c0_2368 : Index := 0#32
  ![v6778.toNat, 0]

def k0_chk393 (v6774 : BitVec 32) : Prop :=
  (8 ∣ (k0_mult393 v6774).toNat) ∧
  (∀ a, (k0_off802 v6774) a + S8x512.size a ≤ S20000x512.size a)
theorem k0_mult393_dvd : ∀ (v6774 : BitVec 32) (k0_hw393 : k0_chk393 v6774), 8 ∣ (k0_mult393 v6774).toNat := fun v6774 k0_hw393 => k0_hw393.1
theorem k0_off802_inb : ∀ (v6774 : BitVec 32) (k0_hw393 : k0_chk393 v6774), ∀ a, (k0_off802 v6774) a + S8x512.size a ≤ S20000x512.size a := fun v6774 k0_hw393 => k0_hw393.2

def k0_off803 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2370 : BitVec 32 := 384#32
  let v6788 : BitVec 32 := Scalar.addi v63 c384_i32_2370
  let c9_i32_2371 : BitVec 32 := 9#32
  let v6789 : BitVec 32 := Scalar.addi v6788 c9_i32_2371
  let v6790 : Index := Scalar.indexCast v6789
  ![v6790.toNat]
def k0_mult394 (v6791 : BitVec 32) : BitVec 32 :=
  let c3_i32_2372 : BitVec 32 := 3#32
  let v6792 : BitVec 32 := Scalar.shrsi v6791 c3_i32_2372
  let c3_i32_2373 : BitVec 32 := 3#32
  let v6793 : BitVec 32 := Scalar.shli v6792 c3_i32_2373
  v6793

def k0_off804 (v6791 : BitVec 32) : Fin 2 → Nat :=
  let c3_i32_2372 : BitVec 32 := 3#32
  let v6792 : BitVec 32 := Scalar.shrsi v6791 c3_i32_2372
  let c3_i32_2373 : BitVec 32 := 3#32
  let v6793 : BitVec 32 := Scalar.shli v6792 c3_i32_2373
  let v6794 : BitVec 32 := v6793
  let v6795 : Index := Scalar.indexCast v6794
  let c0_2374 : Index := 0#32
  ![v6795.toNat, 0]

def k0_chk394 (v6791 : BitVec 32) : Prop :=
  (8 ∣ (k0_mult394 v6791).toNat) ∧
  (∀ a, (k0_off804 v6791) a + S8x512.size a ≤ S20000x512.size a)
theorem k0_mult394_dvd : ∀ (v6791 : BitVec 32) (k0_hw394 : k0_chk394 v6791), 8 ∣ (k0_mult394 v6791).toNat := fun v6791 k0_hw394 => k0_hw394.1
theorem k0_off804_inb : ∀ (v6791 : BitVec 32) (k0_hw394 : k0_chk394 v6791), ∀ a, (k0_off804 v6791) a + S8x512.size a ≤ S20000x512.size a := fun v6791 k0_hw394 => k0_hw394.2

def k0_off805 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2376 : BitVec 32 := 384#32
  let v6805 : BitVec 32 := Scalar.addi v63 c384_i32_2376
  let c10_i32_2377 : BitVec 32 := 10#32
  let v6806 : BitVec 32 := Scalar.addi v6805 c10_i32_2377
  let v6807 : Index := Scalar.indexCast v6806
  ![v6807.toNat]
def k0_mult395 (v6808 : BitVec 32) : BitVec 32 :=
  let c3_i32_2378 : BitVec 32 := 3#32
  let v6809 : BitVec 32 := Scalar.shrsi v6808 c3_i32_2378
  let c3_i32_2379 : BitVec 32 := 3#32
  let v6810 : BitVec 32 := Scalar.shli v6809 c3_i32_2379
  v6810

def k0_off806 (v6808 : BitVec 32) : Fin 2 → Nat :=
  let c3_i32_2378 : BitVec 32 := 3#32
  let v6809 : BitVec 32 := Scalar.shrsi v6808 c3_i32_2378
  let c3_i32_2379 : BitVec 32 := 3#32
  let v6810 : BitVec 32 := Scalar.shli v6809 c3_i32_2379
  let v6811 : BitVec 32 := v6810
  let v6812 : Index := Scalar.indexCast v6811
  let c0_2380 : Index := 0#32
  ![v6812.toNat, 0]

def k0_chk395 (v6808 : BitVec 32) : Prop :=
  (8 ∣ (k0_mult395 v6808).toNat) ∧
  (∀ a, (k0_off806 v6808) a + S8x512.size a ≤ S20000x512.size a)
theorem k0_mult395_dvd : ∀ (v6808 : BitVec 32) (k0_hw395 : k0_chk395 v6808), 8 ∣ (k0_mult395 v6808).toNat := fun v6808 k0_hw395 => k0_hw395.1
theorem k0_off806_inb : ∀ (v6808 : BitVec 32) (k0_hw395 : k0_chk395 v6808), ∀ a, (k0_off806 v6808) a + S8x512.size a ≤ S20000x512.size a := fun v6808 k0_hw395 => k0_hw395.2

def k0_off807 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2382 : BitVec 32 := 384#32
  let v6822 : BitVec 32 := Scalar.addi v63 c384_i32_2382
  let c11_i32_2383 : BitVec 32 := 11#32
  let v6823 : BitVec 32 := Scalar.addi v6822 c11_i32_2383
  let v6824 : Index := Scalar.indexCast v6823
  ![v6824.toNat]
def k0_mult396 (v6825 : BitVec 32) : BitVec 32 :=
  let c3_i32_2384 : BitVec 32 := 3#32
  let v6826 : BitVec 32 := Scalar.shrsi v6825 c3_i32_2384
  let c3_i32_2385 : BitVec 32 := 3#32
  let v6827 : BitVec 32 := Scalar.shli v6826 c3_i32_2385
  v6827

def k0_off808 (v6825 : BitVec 32) : Fin 2 → Nat :=
  let c3_i32_2384 : BitVec 32 := 3#32
  let v6826 : BitVec 32 := Scalar.shrsi v6825 c3_i32_2384
  let c3_i32_2385 : BitVec 32 := 3#32
  let v6827 : BitVec 32 := Scalar.shli v6826 c3_i32_2385
  let v6828 : BitVec 32 := v6827
  let v6829 : Index := Scalar.indexCast v6828
  let c0_2386 : Index := 0#32
  ![v6829.toNat, 0]

def k0_chk396 (v6825 : BitVec 32) : Prop :=
  (8 ∣ (k0_mult396 v6825).toNat) ∧
  (∀ a, (k0_off808 v6825) a + S8x512.size a ≤ S20000x512.size a)
theorem k0_mult396_dvd : ∀ (v6825 : BitVec 32) (k0_hw396 : k0_chk396 v6825), 8 ∣ (k0_mult396 v6825).toNat := fun v6825 k0_hw396 => k0_hw396.1
theorem k0_off808_inb : ∀ (v6825 : BitVec 32) (k0_hw396 : k0_chk396 v6825), ∀ a, (k0_off808 v6825) a + S8x512.size a ≤ S20000x512.size a := fun v6825 k0_hw396 => k0_hw396.2

def k0_off809 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2388 : BitVec 32 := 384#32
  let v6839 : BitVec 32 := Scalar.addi v63 c384_i32_2388
  let c12_i32_2389 : BitVec 32 := 12#32
  let v6840 : BitVec 32 := Scalar.addi v6839 c12_i32_2389
  let v6841 : Index := Scalar.indexCast v6840
  ![v6841.toNat]
def k0_mult397 (v6842 : BitVec 32) : BitVec 32 :=
  let c3_i32_2390 : BitVec 32 := 3#32
  let v6843 : BitVec 32 := Scalar.shrsi v6842 c3_i32_2390
  let c3_i32_2391 : BitVec 32 := 3#32
  let v6844 : BitVec 32 := Scalar.shli v6843 c3_i32_2391
  v6844

def k0_off810 (v6842 : BitVec 32) : Fin 2 → Nat :=
  let c3_i32_2390 : BitVec 32 := 3#32
  let v6843 : BitVec 32 := Scalar.shrsi v6842 c3_i32_2390
  let c3_i32_2391 : BitVec 32 := 3#32
  let v6844 : BitVec 32 := Scalar.shli v6843 c3_i32_2391
  let v6845 : BitVec 32 := v6844
  let v6846 : Index := Scalar.indexCast v6845
  let c0_2392 : Index := 0#32
  ![v6846.toNat, 0]

def k0_chk397 (v6842 : BitVec 32) : Prop :=
  (8 ∣ (k0_mult397 v6842).toNat) ∧
  (∀ a, (k0_off810 v6842) a + S8x512.size a ≤ S20000x512.size a)
theorem k0_mult397_dvd : ∀ (v6842 : BitVec 32) (k0_hw397 : k0_chk397 v6842), 8 ∣ (k0_mult397 v6842).toNat := fun v6842 k0_hw397 => k0_hw397.1
theorem k0_off810_inb : ∀ (v6842 : BitVec 32) (k0_hw397 : k0_chk397 v6842), ∀ a, (k0_off810 v6842) a + S8x512.size a ≤ S20000x512.size a := fun v6842 k0_hw397 => k0_hw397.2

def k0_off811 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2394 : BitVec 32 := 384#32
  let v6856 : BitVec 32 := Scalar.addi v63 c384_i32_2394
  let c13_i32_2395 : BitVec 32 := 13#32
  let v6857 : BitVec 32 := Scalar.addi v6856 c13_i32_2395
  let v6858 : Index := Scalar.indexCast v6857
  ![v6858.toNat]
def k0_mult398 (v6859 : BitVec 32) : BitVec 32 :=
  let c3_i32_2396 : BitVec 32 := 3#32
  let v6860 : BitVec 32 := Scalar.shrsi v6859 c3_i32_2396
  let c3_i32_2397 : BitVec 32 := 3#32
  let v6861 : BitVec 32 := Scalar.shli v6860 c3_i32_2397
  v6861

def k0_off812 (v6859 : BitVec 32) : Fin 2 → Nat :=
  let c3_i32_2396 : BitVec 32 := 3#32
  let v6860 : BitVec 32 := Scalar.shrsi v6859 c3_i32_2396
  let c3_i32_2397 : BitVec 32 := 3#32
  let v6861 : BitVec 32 := Scalar.shli v6860 c3_i32_2397
  let v6862 : BitVec 32 := v6861
  let v6863 : Index := Scalar.indexCast v6862
  let c0_2398 : Index := 0#32
  ![v6863.toNat, 0]

def k0_chk398 (v6859 : BitVec 32) : Prop :=
  (8 ∣ (k0_mult398 v6859).toNat) ∧
  (∀ a, (k0_off812 v6859) a + S8x512.size a ≤ S20000x512.size a)
theorem k0_mult398_dvd : ∀ (v6859 : BitVec 32) (k0_hw398 : k0_chk398 v6859), 8 ∣ (k0_mult398 v6859).toNat := fun v6859 k0_hw398 => k0_hw398.1
theorem k0_off812_inb : ∀ (v6859 : BitVec 32) (k0_hw398 : k0_chk398 v6859), ∀ a, (k0_off812 v6859) a + S8x512.size a ≤ S20000x512.size a := fun v6859 k0_hw398 => k0_hw398.2

def k0_off813 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2400 : BitVec 32 := 384#32
  let v6873 : BitVec 32 := Scalar.addi v63 c384_i32_2400
  let c14_i32_2401 : BitVec 32 := 14#32
  let v6874 : BitVec 32 := Scalar.addi v6873 c14_i32_2401
  let v6875 : Index := Scalar.indexCast v6874
  ![v6875.toNat]
def k0_mult399 (v6876 : BitVec 32) : BitVec 32 :=
  let c3_i32_2402 : BitVec 32 := 3#32
  let v6877 : BitVec 32 := Scalar.shrsi v6876 c3_i32_2402
  let c3_i32_2403 : BitVec 32 := 3#32
  let v6878 : BitVec 32 := Scalar.shli v6877 c3_i32_2403
  v6878

def k0_off814 (v6876 : BitVec 32) : Fin 2 → Nat :=
  let c3_i32_2402 : BitVec 32 := 3#32
  let v6877 : BitVec 32 := Scalar.shrsi v6876 c3_i32_2402
  let c3_i32_2403 : BitVec 32 := 3#32
  let v6878 : BitVec 32 := Scalar.shli v6877 c3_i32_2403
  let v6879 : BitVec 32 := v6878
  let v6880 : Index := Scalar.indexCast v6879
  let c0_2404 : Index := 0#32
  ![v6880.toNat, 0]

def k0_chk399 (v6876 : BitVec 32) : Prop :=
  (8 ∣ (k0_mult399 v6876).toNat) ∧
  (∀ a, (k0_off814 v6876) a + S8x512.size a ≤ S20000x512.size a)
theorem k0_mult399_dvd : ∀ (v6876 : BitVec 32) (k0_hw399 : k0_chk399 v6876), 8 ∣ (k0_mult399 v6876).toNat := fun v6876 k0_hw399 => k0_hw399.1
theorem k0_off814_inb : ∀ (v6876 : BitVec 32) (k0_hw399 : k0_chk399 v6876), ∀ a, (k0_off814 v6876) a + S8x512.size a ≤ S20000x512.size a := fun v6876 k0_hw399 => k0_hw399.2

def k0_off815 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2406 : BitVec 32 := 384#32
  let v6890 : BitVec 32 := Scalar.addi v63 c384_i32_2406
  let c15_i32_2407 : BitVec 32 := 15#32
  let v6891 : BitVec 32 := Scalar.addi v6890 c15_i32_2407
  let v6892 : Index := Scalar.indexCast v6891
  ![v6892.toNat]
def k0_mult400 (v6893 : BitVec 32) : BitVec 32 :=
  let c3_i32_2408 : BitVec 32 := 3#32
  let v6894 : BitVec 32 := Scalar.shrsi v6893 c3_i32_2408
  let c3_i32_2409 : BitVec 32 := 3#32
  let v6895 : BitVec 32 := Scalar.shli v6894 c3_i32_2409
  v6895

def k0_off816 (v6893 : BitVec 32) : Fin 2 → Nat :=
  let c3_i32_2408 : BitVec 32 := 3#32
  let v6894 : BitVec 32 := Scalar.shrsi v6893 c3_i32_2408
  let c3_i32_2409 : BitVec 32 := 3#32
  let v6895 : BitVec 32 := Scalar.shli v6894 c3_i32_2409
  let v6896 : BitVec 32 := v6895
  let v6897 : Index := Scalar.indexCast v6896
  let c0_2410 : Index := 0#32
  ![v6897.toNat, 0]

def k0_chk400 (v6893 : BitVec 32) : Prop :=
  (8 ∣ (k0_mult400 v6893).toNat) ∧
  (∀ a, (k0_off816 v6893) a + S8x512.size a ≤ S20000x512.size a)
theorem k0_mult400_dvd : ∀ (v6893 : BitVec 32) (k0_hw400 : k0_chk400 v6893), 8 ∣ (k0_mult400 v6893).toNat := fun v6893 k0_hw400 => k0_hw400.1
theorem k0_off816_inb : ∀ (v6893 : BitVec 32) (k0_hw400 : k0_chk400 v6893), ∀ a, (k0_off816 v6893) a + S8x512.size a ≤ S20000x512.size a := fun v6893 k0_hw400 => k0_hw400.2

def k0_off817 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2412 : BitVec 32 := 384#32
  let v6907 : BitVec 32 := Scalar.addi v63 c384_i32_2412
  let c16_i32_2413 : BitVec 32 := 16#32
  let v6908 : BitVec 32 := Scalar.addi v6907 c16_i32_2413
  let v6909 : Index := Scalar.indexCast v6908
  ![v6909.toNat]
def k0_mult401 (v6910 : BitVec 32) : BitVec 32 :=
  let c3_i32_2414 : BitVec 32 := 3#32
  let v6911 : BitVec 32 := Scalar.shrsi v6910 c3_i32_2414
  let c3_i32_2415 : BitVec 32 := 3#32
  let v6912 : BitVec 32 := Scalar.shli v6911 c3_i32_2415
  v6912

def k0_off818 (v6910 : BitVec 32) : Fin 2 → Nat :=
  let c3_i32_2414 : BitVec 32 := 3#32
  let v6911 : BitVec 32 := Scalar.shrsi v6910 c3_i32_2414
  let c3_i32_2415 : BitVec 32 := 3#32
  let v6912 : BitVec 32 := Scalar.shli v6911 c3_i32_2415
  let v6913 : BitVec 32 := v6912
  let v6914 : Index := Scalar.indexCast v6913
  let c0_2416 : Index := 0#32
  ![v6914.toNat, 0]

def k0_chk401 (v6910 : BitVec 32) : Prop :=
  (8 ∣ (k0_mult401 v6910).toNat) ∧
  (∀ a, (k0_off818 v6910) a + S8x512.size a ≤ S20000x512.size a)
theorem k0_mult401_dvd : ∀ (v6910 : BitVec 32) (k0_hw401 : k0_chk401 v6910), 8 ∣ (k0_mult401 v6910).toNat := fun v6910 k0_hw401 => k0_hw401.1
theorem k0_off818_inb : ∀ (v6910 : BitVec 32) (k0_hw401 : k0_chk401 v6910), ∀ a, (k0_off818 v6910) a + S8x512.size a ≤ S20000x512.size a := fun v6910 k0_hw401 => k0_hw401.2

def k0_off819 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2418 : BitVec 32 := 384#32
  let v6924 : BitVec 32 := Scalar.addi v63 c384_i32_2418
  let c17_i32_2419 : BitVec 32 := 17#32
  let v6925 : BitVec 32 := Scalar.addi v6924 c17_i32_2419
  let v6926 : Index := Scalar.indexCast v6925
  ![v6926.toNat]
def k0_mult402 (v6927 : BitVec 32) : BitVec 32 :=
  let c3_i32_2420 : BitVec 32 := 3#32
  let v6928 : BitVec 32 := Scalar.shrsi v6927 c3_i32_2420
  let c3_i32_2421 : BitVec 32 := 3#32
  let v6929 : BitVec 32 := Scalar.shli v6928 c3_i32_2421
  v6929

def k0_off820 (v6927 : BitVec 32) : Fin 2 → Nat :=
  let c3_i32_2420 : BitVec 32 := 3#32
  let v6928 : BitVec 32 := Scalar.shrsi v6927 c3_i32_2420
  let c3_i32_2421 : BitVec 32 := 3#32
  let v6929 : BitVec 32 := Scalar.shli v6928 c3_i32_2421
  let v6930 : BitVec 32 := v6929
  let v6931 : Index := Scalar.indexCast v6930
  let c0_2422 : Index := 0#32
  ![v6931.toNat, 0]

def k0_chk402 (v6927 : BitVec 32) : Prop :=
  (8 ∣ (k0_mult402 v6927).toNat) ∧
  (∀ a, (k0_off820 v6927) a + S8x512.size a ≤ S20000x512.size a)
theorem k0_mult402_dvd : ∀ (v6927 : BitVec 32) (k0_hw402 : k0_chk402 v6927), 8 ∣ (k0_mult402 v6927).toNat := fun v6927 k0_hw402 => k0_hw402.1
theorem k0_off820_inb : ∀ (v6927 : BitVec 32) (k0_hw402 : k0_chk402 v6927), ∀ a, (k0_off820 v6927) a + S8x512.size a ≤ S20000x512.size a := fun v6927 k0_hw402 => k0_hw402.2

def k0_off821 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2424 : BitVec 32 := 384#32
  let v6941 : BitVec 32 := Scalar.addi v63 c384_i32_2424
  let c18_i32_2425 : BitVec 32 := 18#32
  let v6942 : BitVec 32 := Scalar.addi v6941 c18_i32_2425
  let v6943 : Index := Scalar.indexCast v6942
  ![v6943.toNat]
def k0_mult403 (v6944 : BitVec 32) : BitVec 32 :=
  let c3_i32_2426 : BitVec 32 := 3#32
  let v6945 : BitVec 32 := Scalar.shrsi v6944 c3_i32_2426
  let c3_i32_2427 : BitVec 32 := 3#32
  let v6946 : BitVec 32 := Scalar.shli v6945 c3_i32_2427
  v6946

def k0_off822 (v6944 : BitVec 32) : Fin 2 → Nat :=
  let c3_i32_2426 : BitVec 32 := 3#32
  let v6945 : BitVec 32 := Scalar.shrsi v6944 c3_i32_2426
  let c3_i32_2427 : BitVec 32 := 3#32
  let v6946 : BitVec 32 := Scalar.shli v6945 c3_i32_2427
  let v6947 : BitVec 32 := v6946
  let v6948 : Index := Scalar.indexCast v6947
  let c0_2428 : Index := 0#32
  ![v6948.toNat, 0]

def k0_chk403 (v6944 : BitVec 32) : Prop :=
  (8 ∣ (k0_mult403 v6944).toNat) ∧
  (∀ a, (k0_off822 v6944) a + S8x512.size a ≤ S20000x512.size a)
theorem k0_mult403_dvd : ∀ (v6944 : BitVec 32) (k0_hw403 : k0_chk403 v6944), 8 ∣ (k0_mult403 v6944).toNat := fun v6944 k0_hw403 => k0_hw403.1
theorem k0_off822_inb : ∀ (v6944 : BitVec 32) (k0_hw403 : k0_chk403 v6944), ∀ a, (k0_off822 v6944) a + S8x512.size a ≤ S20000x512.size a := fun v6944 k0_hw403 => k0_hw403.2

def k0_off823 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2430 : BitVec 32 := 384#32
  let v6958 : BitVec 32 := Scalar.addi v63 c384_i32_2430
  let c19_i32_2431 : BitVec 32 := 19#32
  let v6959 : BitVec 32 := Scalar.addi v6958 c19_i32_2431
  let v6960 : Index := Scalar.indexCast v6959
  ![v6960.toNat]
def k0_mult404 (v6961 : BitVec 32) : BitVec 32 :=
  let c3_i32_2432 : BitVec 32 := 3#32
  let v6962 : BitVec 32 := Scalar.shrsi v6961 c3_i32_2432
  let c3_i32_2433 : BitVec 32 := 3#32
  let v6963 : BitVec 32 := Scalar.shli v6962 c3_i32_2433
  v6963

def k0_off824 (v6961 : BitVec 32) : Fin 2 → Nat :=
  let c3_i32_2432 : BitVec 32 := 3#32
  let v6962 : BitVec 32 := Scalar.shrsi v6961 c3_i32_2432
  let c3_i32_2433 : BitVec 32 := 3#32
  let v6963 : BitVec 32 := Scalar.shli v6962 c3_i32_2433
  let v6964 : BitVec 32 := v6963
  let v6965 : Index := Scalar.indexCast v6964
  let c0_2434 : Index := 0#32
  ![v6965.toNat, 0]

def k0_chk404 (v6961 : BitVec 32) : Prop :=
  (8 ∣ (k0_mult404 v6961).toNat) ∧
  (∀ a, (k0_off824 v6961) a + S8x512.size a ≤ S20000x512.size a)
theorem k0_mult404_dvd : ∀ (v6961 : BitVec 32) (k0_hw404 : k0_chk404 v6961), 8 ∣ (k0_mult404 v6961).toNat := fun v6961 k0_hw404 => k0_hw404.1
theorem k0_off824_inb : ∀ (v6961 : BitVec 32) (k0_hw404 : k0_chk404 v6961), ∀ a, (k0_off824 v6961) a + S8x512.size a ≤ S20000x512.size a := fun v6961 k0_hw404 => k0_hw404.2

def k0_off825 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2436 : BitVec 32 := 384#32
  let v6975 : BitVec 32 := Scalar.addi v63 c384_i32_2436
  let c20_i32_2437 : BitVec 32 := 20#32
  let v6976 : BitVec 32 := Scalar.addi v6975 c20_i32_2437
  let v6977 : Index := Scalar.indexCast v6976
  ![v6977.toNat]
def k0_mult405 (v6978 : BitVec 32) : BitVec 32 :=
  let c3_i32_2438 : BitVec 32 := 3#32
  let v6979 : BitVec 32 := Scalar.shrsi v6978 c3_i32_2438
  let c3_i32_2439 : BitVec 32 := 3#32
  let v6980 : BitVec 32 := Scalar.shli v6979 c3_i32_2439
  v6980

def k0_off826 (v6978 : BitVec 32) : Fin 2 → Nat :=
  let c3_i32_2438 : BitVec 32 := 3#32
  let v6979 : BitVec 32 := Scalar.shrsi v6978 c3_i32_2438
  let c3_i32_2439 : BitVec 32 := 3#32
  let v6980 : BitVec 32 := Scalar.shli v6979 c3_i32_2439
  let v6981 : BitVec 32 := v6980
  let v6982 : Index := Scalar.indexCast v6981
  let c0_2440 : Index := 0#32
  ![v6982.toNat, 0]

def k0_chk405 (v6978 : BitVec 32) : Prop :=
  (8 ∣ (k0_mult405 v6978).toNat) ∧
  (∀ a, (k0_off826 v6978) a + S8x512.size a ≤ S20000x512.size a)
theorem k0_mult405_dvd : ∀ (v6978 : BitVec 32) (k0_hw405 : k0_chk405 v6978), 8 ∣ (k0_mult405 v6978).toNat := fun v6978 k0_hw405 => k0_hw405.1
theorem k0_off826_inb : ∀ (v6978 : BitVec 32) (k0_hw405 : k0_chk405 v6978), ∀ a, (k0_off826 v6978) a + S8x512.size a ≤ S20000x512.size a := fun v6978 k0_hw405 => k0_hw405.2

def k0_off827 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2442 : BitVec 32 := 384#32
  let v6992 : BitVec 32 := Scalar.addi v63 c384_i32_2442
  let c21_i32_2443 : BitVec 32 := 21#32
  let v6993 : BitVec 32 := Scalar.addi v6992 c21_i32_2443
  let v6994 : Index := Scalar.indexCast v6993
  ![v6994.toNat]
def k0_mult406 (v6995 : BitVec 32) : BitVec 32 :=
  let c3_i32_2444 : BitVec 32 := 3#32
  let v6996 : BitVec 32 := Scalar.shrsi v6995 c3_i32_2444
  let c3_i32_2445 : BitVec 32 := 3#32
  let v6997 : BitVec 32 := Scalar.shli v6996 c3_i32_2445
  v6997

def k0_off828 (v6995 : BitVec 32) : Fin 2 → Nat :=
  let c3_i32_2444 : BitVec 32 := 3#32
  let v6996 : BitVec 32 := Scalar.shrsi v6995 c3_i32_2444
  let c3_i32_2445 : BitVec 32 := 3#32
  let v6997 : BitVec 32 := Scalar.shli v6996 c3_i32_2445
  let v6998 : BitVec 32 := v6997
  let v6999 : Index := Scalar.indexCast v6998
  let c0_2446 : Index := 0#32
  ![v6999.toNat, 0]

def k0_chk406 (v6995 : BitVec 32) : Prop :=
  (8 ∣ (k0_mult406 v6995).toNat) ∧
  (∀ a, (k0_off828 v6995) a + S8x512.size a ≤ S20000x512.size a)
theorem k0_mult406_dvd : ∀ (v6995 : BitVec 32) (k0_hw406 : k0_chk406 v6995), 8 ∣ (k0_mult406 v6995).toNat := fun v6995 k0_hw406 => k0_hw406.1
theorem k0_off828_inb : ∀ (v6995 : BitVec 32) (k0_hw406 : k0_chk406 v6995), ∀ a, (k0_off828 v6995) a + S8x512.size a ≤ S20000x512.size a := fun v6995 k0_hw406 => k0_hw406.2

def k0_off829 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2448 : BitVec 32 := 384#32
  let v7009 : BitVec 32 := Scalar.addi v63 c384_i32_2448
  let c22_i32_2449 : BitVec 32 := 22#32
  let v7010 : BitVec 32 := Scalar.addi v7009 c22_i32_2449
  let v7011 : Index := Scalar.indexCast v7010
  ![v7011.toNat]
def k0_mult407 (v7012 : BitVec 32) : BitVec 32 :=
  let c3_i32_2450 : BitVec 32 := 3#32
  let v7013 : BitVec 32 := Scalar.shrsi v7012 c3_i32_2450
  let c3_i32_2451 : BitVec 32 := 3#32
  let v7014 : BitVec 32 := Scalar.shli v7013 c3_i32_2451
  v7014

def k0_off830 (v7012 : BitVec 32) : Fin 2 → Nat :=
  let c3_i32_2450 : BitVec 32 := 3#32
  let v7013 : BitVec 32 := Scalar.shrsi v7012 c3_i32_2450
  let c3_i32_2451 : BitVec 32 := 3#32
  let v7014 : BitVec 32 := Scalar.shli v7013 c3_i32_2451
  let v7015 : BitVec 32 := v7014
  let v7016 : Index := Scalar.indexCast v7015
  let c0_2452 : Index := 0#32
  ![v7016.toNat, 0]

def k0_chk407 (v7012 : BitVec 32) : Prop :=
  (8 ∣ (k0_mult407 v7012).toNat) ∧
  (∀ a, (k0_off830 v7012) a + S8x512.size a ≤ S20000x512.size a)
theorem k0_mult407_dvd : ∀ (v7012 : BitVec 32) (k0_hw407 : k0_chk407 v7012), 8 ∣ (k0_mult407 v7012).toNat := fun v7012 k0_hw407 => k0_hw407.1
theorem k0_off830_inb : ∀ (v7012 : BitVec 32) (k0_hw407 : k0_chk407 v7012), ∀ a, (k0_off830 v7012) a + S8x512.size a ≤ S20000x512.size a := fun v7012 k0_hw407 => k0_hw407.2

def k0_off831 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2454 : BitVec 32 := 384#32
  let v7026 : BitVec 32 := Scalar.addi v63 c384_i32_2454
  let c23_i32_2455 : BitVec 32 := 23#32
  let v7027 : BitVec 32 := Scalar.addi v7026 c23_i32_2455
  let v7028 : Index := Scalar.indexCast v7027
  ![v7028.toNat]
def k0_mult408 (v7029 : BitVec 32) : BitVec 32 :=
  let c3_i32_2456 : BitVec 32 := 3#32
  let v7030 : BitVec 32 := Scalar.shrsi v7029 c3_i32_2456
  let c3_i32_2457 : BitVec 32 := 3#32
  let v7031 : BitVec 32 := Scalar.shli v7030 c3_i32_2457
  v7031

def k0_off832 (v7029 : BitVec 32) : Fin 2 → Nat :=
  let c3_i32_2456 : BitVec 32 := 3#32
  let v7030 : BitVec 32 := Scalar.shrsi v7029 c3_i32_2456
  let c3_i32_2457 : BitVec 32 := 3#32
  let v7031 : BitVec 32 := Scalar.shli v7030 c3_i32_2457
  let v7032 : BitVec 32 := v7031
  let v7033 : Index := Scalar.indexCast v7032
  let c0_2458 : Index := 0#32
  ![v7033.toNat, 0]

def k0_chk408 (v7029 : BitVec 32) : Prop :=
  (8 ∣ (k0_mult408 v7029).toNat) ∧
  (∀ a, (k0_off832 v7029) a + S8x512.size a ≤ S20000x512.size a)
theorem k0_mult408_dvd : ∀ (v7029 : BitVec 32) (k0_hw408 : k0_chk408 v7029), 8 ∣ (k0_mult408 v7029).toNat := fun v7029 k0_hw408 => k0_hw408.1
theorem k0_off832_inb : ∀ (v7029 : BitVec 32) (k0_hw408 : k0_chk408 v7029), ∀ a, (k0_off832 v7029) a + S8x512.size a ≤ S20000x512.size a := fun v7029 k0_hw408 => k0_hw408.2

def k0_off833 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2460 : BitVec 32 := 384#32
  let v7043 : BitVec 32 := Scalar.addi v63 c384_i32_2460
  let c24_i32_2461 : BitVec 32 := 24#32
  let v7044 : BitVec 32 := Scalar.addi v7043 c24_i32_2461
  let v7045 : Index := Scalar.indexCast v7044
  ![v7045.toNat]
def k0_mult409 (v7046 : BitVec 32) : BitVec 32 :=
  let c3_i32_2462 : BitVec 32 := 3#32
  let v7047 : BitVec 32 := Scalar.shrsi v7046 c3_i32_2462
  let c3_i32_2463 : BitVec 32 := 3#32
  let v7048 : BitVec 32 := Scalar.shli v7047 c3_i32_2463
  v7048

def k0_off834 (v7046 : BitVec 32) : Fin 2 → Nat :=
  let c3_i32_2462 : BitVec 32 := 3#32
  let v7047 : BitVec 32 := Scalar.shrsi v7046 c3_i32_2462
  let c3_i32_2463 : BitVec 32 := 3#32
  let v7048 : BitVec 32 := Scalar.shli v7047 c3_i32_2463
  let v7049 : BitVec 32 := v7048
  let v7050 : Index := Scalar.indexCast v7049
  let c0_2464 : Index := 0#32
  ![v7050.toNat, 0]

def k0_chk409 (v7046 : BitVec 32) : Prop :=
  (8 ∣ (k0_mult409 v7046).toNat) ∧
  (∀ a, (k0_off834 v7046) a + S8x512.size a ≤ S20000x512.size a)
theorem k0_mult409_dvd : ∀ (v7046 : BitVec 32) (k0_hw409 : k0_chk409 v7046), 8 ∣ (k0_mult409 v7046).toNat := fun v7046 k0_hw409 => k0_hw409.1
theorem k0_off834_inb : ∀ (v7046 : BitVec 32) (k0_hw409 : k0_chk409 v7046), ∀ a, (k0_off834 v7046) a + S8x512.size a ≤ S20000x512.size a := fun v7046 k0_hw409 => k0_hw409.2

def k0_off835 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2466 : BitVec 32 := 384#32
  let v7060 : BitVec 32 := Scalar.addi v63 c384_i32_2466
  let c25_i32_2467 : BitVec 32 := 25#32
  let v7061 : BitVec 32 := Scalar.addi v7060 c25_i32_2467
  let v7062 : Index := Scalar.indexCast v7061
  ![v7062.toNat]
def k0_mult410 (v7063 : BitVec 32) : BitVec 32 :=
  let c3_i32_2468 : BitVec 32 := 3#32
  let v7064 : BitVec 32 := Scalar.shrsi v7063 c3_i32_2468
  let c3_i32_2469 : BitVec 32 := 3#32
  let v7065 : BitVec 32 := Scalar.shli v7064 c3_i32_2469
  v7065

def k0_off836 (v7063 : BitVec 32) : Fin 2 → Nat :=
  let c3_i32_2468 : BitVec 32 := 3#32
  let v7064 : BitVec 32 := Scalar.shrsi v7063 c3_i32_2468
  let c3_i32_2469 : BitVec 32 := 3#32
  let v7065 : BitVec 32 := Scalar.shli v7064 c3_i32_2469
  let v7066 : BitVec 32 := v7065
  let v7067 : Index := Scalar.indexCast v7066
  let c0_2470 : Index := 0#32
  ![v7067.toNat, 0]

def k0_chk410 (v7063 : BitVec 32) : Prop :=
  (8 ∣ (k0_mult410 v7063).toNat) ∧
  (∀ a, (k0_off836 v7063) a + S8x512.size a ≤ S20000x512.size a)
theorem k0_mult410_dvd : ∀ (v7063 : BitVec 32) (k0_hw410 : k0_chk410 v7063), 8 ∣ (k0_mult410 v7063).toNat := fun v7063 k0_hw410 => k0_hw410.1
theorem k0_off836_inb : ∀ (v7063 : BitVec 32) (k0_hw410 : k0_chk410 v7063), ∀ a, (k0_off836 v7063) a + S8x512.size a ≤ S20000x512.size a := fun v7063 k0_hw410 => k0_hw410.2

def k0_off837 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2472 : BitVec 32 := 384#32
  let v7077 : BitVec 32 := Scalar.addi v63 c384_i32_2472
  let c26_i32_2473 : BitVec 32 := 26#32
  let v7078 : BitVec 32 := Scalar.addi v7077 c26_i32_2473
  let v7079 : Index := Scalar.indexCast v7078
  ![v7079.toNat]
def k0_mult411 (v7080 : BitVec 32) : BitVec 32 :=
  let c3_i32_2474 : BitVec 32 := 3#32
  let v7081 : BitVec 32 := Scalar.shrsi v7080 c3_i32_2474
  let c3_i32_2475 : BitVec 32 := 3#32
  let v7082 : BitVec 32 := Scalar.shli v7081 c3_i32_2475
  v7082

def k0_off838 (v7080 : BitVec 32) : Fin 2 → Nat :=
  let c3_i32_2474 : BitVec 32 := 3#32
  let v7081 : BitVec 32 := Scalar.shrsi v7080 c3_i32_2474
  let c3_i32_2475 : BitVec 32 := 3#32
  let v7082 : BitVec 32 := Scalar.shli v7081 c3_i32_2475
  let v7083 : BitVec 32 := v7082
  let v7084 : Index := Scalar.indexCast v7083
  let c0_2476 : Index := 0#32
  ![v7084.toNat, 0]

def k0_chk411 (v7080 : BitVec 32) : Prop :=
  (8 ∣ (k0_mult411 v7080).toNat) ∧
  (∀ a, (k0_off838 v7080) a + S8x512.size a ≤ S20000x512.size a)
theorem k0_mult411_dvd : ∀ (v7080 : BitVec 32) (k0_hw411 : k0_chk411 v7080), 8 ∣ (k0_mult411 v7080).toNat := fun v7080 k0_hw411 => k0_hw411.1
theorem k0_off838_inb : ∀ (v7080 : BitVec 32) (k0_hw411 : k0_chk411 v7080), ∀ a, (k0_off838 v7080) a + S8x512.size a ≤ S20000x512.size a := fun v7080 k0_hw411 => k0_hw411.2

def k0_off839 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2478 : BitVec 32 := 384#32
  let v7094 : BitVec 32 := Scalar.addi v63 c384_i32_2478
  let c27_i32_2479 : BitVec 32 := 27#32
  let v7095 : BitVec 32 := Scalar.addi v7094 c27_i32_2479
  let v7096 : Index := Scalar.indexCast v7095
  ![v7096.toNat]
def k0_mult412 (v7097 : BitVec 32) : BitVec 32 :=
  let c3_i32_2480 : BitVec 32 := 3#32
  let v7098 : BitVec 32 := Scalar.shrsi v7097 c3_i32_2480
  let c3_i32_2481 : BitVec 32 := 3#32
  let v7099 : BitVec 32 := Scalar.shli v7098 c3_i32_2481
  v7099

def k0_off840 (v7097 : BitVec 32) : Fin 2 → Nat :=
  let c3_i32_2480 : BitVec 32 := 3#32
  let v7098 : BitVec 32 := Scalar.shrsi v7097 c3_i32_2480
  let c3_i32_2481 : BitVec 32 := 3#32
  let v7099 : BitVec 32 := Scalar.shli v7098 c3_i32_2481
  let v7100 : BitVec 32 := v7099
  let v7101 : Index := Scalar.indexCast v7100
  let c0_2482 : Index := 0#32
  ![v7101.toNat, 0]

def k0_chk412 (v7097 : BitVec 32) : Prop :=
  (8 ∣ (k0_mult412 v7097).toNat) ∧
  (∀ a, (k0_off840 v7097) a + S8x512.size a ≤ S20000x512.size a)
theorem k0_mult412_dvd : ∀ (v7097 : BitVec 32) (k0_hw412 : k0_chk412 v7097), 8 ∣ (k0_mult412 v7097).toNat := fun v7097 k0_hw412 => k0_hw412.1
theorem k0_off840_inb : ∀ (v7097 : BitVec 32) (k0_hw412 : k0_chk412 v7097), ∀ a, (k0_off840 v7097) a + S8x512.size a ≤ S20000x512.size a := fun v7097 k0_hw412 => k0_hw412.2

def k0_off841 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2484 : BitVec 32 := 384#32
  let v7111 : BitVec 32 := Scalar.addi v63 c384_i32_2484
  let c28_i32_2485 : BitVec 32 := 28#32
  let v7112 : BitVec 32 := Scalar.addi v7111 c28_i32_2485
  let v7113 : Index := Scalar.indexCast v7112
  ![v7113.toNat]
def k0_mult413 (v7114 : BitVec 32) : BitVec 32 :=
  let c3_i32_2486 : BitVec 32 := 3#32
  let v7115 : BitVec 32 := Scalar.shrsi v7114 c3_i32_2486
  let c3_i32_2487 : BitVec 32 := 3#32
  let v7116 : BitVec 32 := Scalar.shli v7115 c3_i32_2487
  v7116

def k0_off842 (v7114 : BitVec 32) : Fin 2 → Nat :=
  let c3_i32_2486 : BitVec 32 := 3#32
  let v7115 : BitVec 32 := Scalar.shrsi v7114 c3_i32_2486
  let c3_i32_2487 : BitVec 32 := 3#32
  let v7116 : BitVec 32 := Scalar.shli v7115 c3_i32_2487
  let v7117 : BitVec 32 := v7116
  let v7118 : Index := Scalar.indexCast v7117
  let c0_2488 : Index := 0#32
  ![v7118.toNat, 0]

def k0_chk413 (v7114 : BitVec 32) : Prop :=
  (8 ∣ (k0_mult413 v7114).toNat) ∧
  (∀ a, (k0_off842 v7114) a + S8x512.size a ≤ S20000x512.size a)
theorem k0_mult413_dvd : ∀ (v7114 : BitVec 32) (k0_hw413 : k0_chk413 v7114), 8 ∣ (k0_mult413 v7114).toNat := fun v7114 k0_hw413 => k0_hw413.1
theorem k0_off842_inb : ∀ (v7114 : BitVec 32) (k0_hw413 : k0_chk413 v7114), ∀ a, (k0_off842 v7114) a + S8x512.size a ≤ S20000x512.size a := fun v7114 k0_hw413 => k0_hw413.2

def k0_off843 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2490 : BitVec 32 := 384#32
  let v7128 : BitVec 32 := Scalar.addi v63 c384_i32_2490
  let c29_i32_2491 : BitVec 32 := 29#32
  let v7129 : BitVec 32 := Scalar.addi v7128 c29_i32_2491
  let v7130 : Index := Scalar.indexCast v7129
  ![v7130.toNat]
def k0_mult414 (v7131 : BitVec 32) : BitVec 32 :=
  let c3_i32_2492 : BitVec 32 := 3#32
  let v7132 : BitVec 32 := Scalar.shrsi v7131 c3_i32_2492
  let c3_i32_2493 : BitVec 32 := 3#32
  let v7133 : BitVec 32 := Scalar.shli v7132 c3_i32_2493
  v7133

def k0_off844 (v7131 : BitVec 32) : Fin 2 → Nat :=
  let c3_i32_2492 : BitVec 32 := 3#32
  let v7132 : BitVec 32 := Scalar.shrsi v7131 c3_i32_2492
  let c3_i32_2493 : BitVec 32 := 3#32
  let v7133 : BitVec 32 := Scalar.shli v7132 c3_i32_2493
  let v7134 : BitVec 32 := v7133
  let v7135 : Index := Scalar.indexCast v7134
  let c0_2494 : Index := 0#32
  ![v7135.toNat, 0]

def k0_chk414 (v7131 : BitVec 32) : Prop :=
  (8 ∣ (k0_mult414 v7131).toNat) ∧
  (∀ a, (k0_off844 v7131) a + S8x512.size a ≤ S20000x512.size a)
theorem k0_mult414_dvd : ∀ (v7131 : BitVec 32) (k0_hw414 : k0_chk414 v7131), 8 ∣ (k0_mult414 v7131).toNat := fun v7131 k0_hw414 => k0_hw414.1
theorem k0_off844_inb : ∀ (v7131 : BitVec 32) (k0_hw414 : k0_chk414 v7131), ∀ a, (k0_off844 v7131) a + S8x512.size a ≤ S20000x512.size a := fun v7131 k0_hw414 => k0_hw414.2

def k0_off845 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2496 : BitVec 32 := 384#32
  let v7145 : BitVec 32 := Scalar.addi v63 c384_i32_2496
  let c30_i32_2497 : BitVec 32 := 30#32
  let v7146 : BitVec 32 := Scalar.addi v7145 c30_i32_2497
  let v7147 : Index := Scalar.indexCast v7146
  ![v7147.toNat]
def k0_mult415 (v7148 : BitVec 32) : BitVec 32 :=
  let c3_i32_2498 : BitVec 32 := 3#32
  let v7149 : BitVec 32 := Scalar.shrsi v7148 c3_i32_2498
  let c3_i32_2499 : BitVec 32 := 3#32
  let v7150 : BitVec 32 := Scalar.shli v7149 c3_i32_2499
  v7150

def k0_off846 (v7148 : BitVec 32) : Fin 2 → Nat :=
  let c3_i32_2498 : BitVec 32 := 3#32
  let v7149 : BitVec 32 := Scalar.shrsi v7148 c3_i32_2498
  let c3_i32_2499 : BitVec 32 := 3#32
  let v7150 : BitVec 32 := Scalar.shli v7149 c3_i32_2499
  let v7151 : BitVec 32 := v7150
  let v7152 : Index := Scalar.indexCast v7151
  let c0_2500 : Index := 0#32
  ![v7152.toNat, 0]

def k0_chk415 (v7148 : BitVec 32) : Prop :=
  (8 ∣ (k0_mult415 v7148).toNat) ∧
  (∀ a, (k0_off846 v7148) a + S8x512.size a ≤ S20000x512.size a)
theorem k0_mult415_dvd : ∀ (v7148 : BitVec 32) (k0_hw415 : k0_chk415 v7148), 8 ∣ (k0_mult415 v7148).toNat := fun v7148 k0_hw415 => k0_hw415.1
theorem k0_off846_inb : ∀ (v7148 : BitVec 32) (k0_hw415 : k0_chk415 v7148), ∀ a, (k0_off846 v7148) a + S8x512.size a ≤ S20000x512.size a := fun v7148 k0_hw415 => k0_hw415.2

def k0_off847 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2502 : BitVec 32 := 384#32
  let v7162 : BitVec 32 := Scalar.addi v63 c384_i32_2502
  let c31_i32_2503 : BitVec 32 := 31#32
  let v7163 : BitVec 32 := Scalar.addi v7162 c31_i32_2503
  let v7164 : Index := Scalar.indexCast v7163
  ![v7164.toNat]
def k0_mult416 (v7165 : BitVec 32) : BitVec 32 :=
  let c3_i32_2504 : BitVec 32 := 3#32
  let v7166 : BitVec 32 := Scalar.shrsi v7165 c3_i32_2504
  let c3_i32_2505 : BitVec 32 := 3#32
  let v7167 : BitVec 32 := Scalar.shli v7166 c3_i32_2505
  v7167

def k0_off848 (v7165 : BitVec 32) : Fin 2 → Nat :=
  let c3_i32_2504 : BitVec 32 := 3#32
  let v7166 : BitVec 32 := Scalar.shrsi v7165 c3_i32_2504
  let c3_i32_2505 : BitVec 32 := 3#32
  let v7167 : BitVec 32 := Scalar.shli v7166 c3_i32_2505
  let v7168 : BitVec 32 := v7167
  let v7169 : Index := Scalar.indexCast v7168
  let c0_2506 : Index := 0#32
  ![v7169.toNat, 0]

def k0_chk416 (v7165 : BitVec 32) : Prop :=
  (8 ∣ (k0_mult416 v7165).toNat) ∧
  (∀ a, (k0_off848 v7165) a + S8x512.size a ≤ S20000x512.size a)
theorem k0_mult416_dvd : ∀ (v7165 : BitVec 32) (k0_hw416 : k0_chk416 v7165), 8 ∣ (k0_mult416 v7165).toNat := fun v7165 k0_hw416 => k0_hw416.1
theorem k0_off848_inb : ∀ (v7165 : BitVec 32) (k0_hw416 : k0_chk416 v7165), ∀ a, (k0_off848 v7165) a + S8x512.size a ≤ S20000x512.size a := fun v7165 k0_hw416 => k0_hw416.2

def k0_off849 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2508 : BitVec 32 := 384#32
  let v7179 : BitVec 32 := Scalar.addi v63 c384_i32_2508
  let c32_i32_2509 : BitVec 32 := 32#32
  let v7180 : BitVec 32 := Scalar.addi v7179 c32_i32_2509
  let v7181 : Index := Scalar.indexCast v7180
  ![v7181.toNat]
def k0_mult417 (v7182 : BitVec 32) : BitVec 32 :=
  let c3_i32_2510 : BitVec 32 := 3#32
  let v7183 : BitVec 32 := Scalar.shrsi v7182 c3_i32_2510
  let c3_i32_2511 : BitVec 32 := 3#32
  let v7184 : BitVec 32 := Scalar.shli v7183 c3_i32_2511
  v7184

def k0_off850 (v7182 : BitVec 32) : Fin 2 → Nat :=
  let c3_i32_2510 : BitVec 32 := 3#32
  let v7183 : BitVec 32 := Scalar.shrsi v7182 c3_i32_2510
  let c3_i32_2511 : BitVec 32 := 3#32
  let v7184 : BitVec 32 := Scalar.shli v7183 c3_i32_2511
  let v7185 : BitVec 32 := v7184
  let v7186 : Index := Scalar.indexCast v7185
  let c0_2512 : Index := 0#32
  ![v7186.toNat, 0]

def k0_chk417 (v7182 : BitVec 32) : Prop :=
  (8 ∣ (k0_mult417 v7182).toNat) ∧
  (∀ a, (k0_off850 v7182) a + S8x512.size a ≤ S20000x512.size a)
theorem k0_mult417_dvd : ∀ (v7182 : BitVec 32) (k0_hw417 : k0_chk417 v7182), 8 ∣ (k0_mult417 v7182).toNat := fun v7182 k0_hw417 => k0_hw417.1
theorem k0_off850_inb : ∀ (v7182 : BitVec 32) (k0_hw417 : k0_chk417 v7182), ∀ a, (k0_off850 v7182) a + S8x512.size a ≤ S20000x512.size a := fun v7182 k0_hw417 => k0_hw417.2

def k0_off851 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2514 : BitVec 32 := 384#32
  let v7196 : BitVec 32 := Scalar.addi v63 c384_i32_2514
  let c33_i32_2515 : BitVec 32 := 33#32
  let v7197 : BitVec 32 := Scalar.addi v7196 c33_i32_2515
  let v7198 : Index := Scalar.indexCast v7197
  ![v7198.toNat]
def k0_mult418 (v7199 : BitVec 32) : BitVec 32 :=
  let c3_i32_2516 : BitVec 32 := 3#32
  let v7200 : BitVec 32 := Scalar.shrsi v7199 c3_i32_2516
  let c3_i32_2517 : BitVec 32 := 3#32
  let v7201 : BitVec 32 := Scalar.shli v7200 c3_i32_2517
  v7201

def k0_off852 (v7199 : BitVec 32) : Fin 2 → Nat :=
  let c3_i32_2516 : BitVec 32 := 3#32
  let v7200 : BitVec 32 := Scalar.shrsi v7199 c3_i32_2516
  let c3_i32_2517 : BitVec 32 := 3#32
  let v7201 : BitVec 32 := Scalar.shli v7200 c3_i32_2517
  let v7202 : BitVec 32 := v7201
  let v7203 : Index := Scalar.indexCast v7202
  let c0_2518 : Index := 0#32
  ![v7203.toNat, 0]

def k0_chk418 (v7199 : BitVec 32) : Prop :=
  (8 ∣ (k0_mult418 v7199).toNat) ∧
  (∀ a, (k0_off852 v7199) a + S8x512.size a ≤ S20000x512.size a)
theorem k0_mult418_dvd : ∀ (v7199 : BitVec 32) (k0_hw418 : k0_chk418 v7199), 8 ∣ (k0_mult418 v7199).toNat := fun v7199 k0_hw418 => k0_hw418.1
theorem k0_off852_inb : ∀ (v7199 : BitVec 32) (k0_hw418 : k0_chk418 v7199), ∀ a, (k0_off852 v7199) a + S8x512.size a ≤ S20000x512.size a := fun v7199 k0_hw418 => k0_hw418.2

def k0_off853 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2520 : BitVec 32 := 384#32
  let v7213 : BitVec 32 := Scalar.addi v63 c384_i32_2520
  let c34_i32_2521 : BitVec 32 := 34#32
  let v7214 : BitVec 32 := Scalar.addi v7213 c34_i32_2521
  let v7215 : Index := Scalar.indexCast v7214
  ![v7215.toNat]
def k0_mult419 (v7216 : BitVec 32) : BitVec 32 :=
  let c3_i32_2522 : BitVec 32 := 3#32
  let v7217 : BitVec 32 := Scalar.shrsi v7216 c3_i32_2522
  let c3_i32_2523 : BitVec 32 := 3#32
  let v7218 : BitVec 32 := Scalar.shli v7217 c3_i32_2523
  v7218

def k0_off854 (v7216 : BitVec 32) : Fin 2 → Nat :=
  let c3_i32_2522 : BitVec 32 := 3#32
  let v7217 : BitVec 32 := Scalar.shrsi v7216 c3_i32_2522
  let c3_i32_2523 : BitVec 32 := 3#32
  let v7218 : BitVec 32 := Scalar.shli v7217 c3_i32_2523
  let v7219 : BitVec 32 := v7218
  let v7220 : Index := Scalar.indexCast v7219
  let c0_2524 : Index := 0#32
  ![v7220.toNat, 0]

def k0_chk419 (v7216 : BitVec 32) : Prop :=
  (8 ∣ (k0_mult419 v7216).toNat) ∧
  (∀ a, (k0_off854 v7216) a + S8x512.size a ≤ S20000x512.size a)
theorem k0_mult419_dvd : ∀ (v7216 : BitVec 32) (k0_hw419 : k0_chk419 v7216), 8 ∣ (k0_mult419 v7216).toNat := fun v7216 k0_hw419 => k0_hw419.1
theorem k0_off854_inb : ∀ (v7216 : BitVec 32) (k0_hw419 : k0_chk419 v7216), ∀ a, (k0_off854 v7216) a + S8x512.size a ≤ S20000x512.size a := fun v7216 k0_hw419 => k0_hw419.2

def k0_off855 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2526 : BitVec 32 := 384#32
  let v7230 : BitVec 32 := Scalar.addi v63 c384_i32_2526
  let c35_i32_2527 : BitVec 32 := 35#32
  let v7231 : BitVec 32 := Scalar.addi v7230 c35_i32_2527
  let v7232 : Index := Scalar.indexCast v7231
  ![v7232.toNat]
def k0_mult420 (v7233 : BitVec 32) : BitVec 32 :=
  let c3_i32_2528 : BitVec 32 := 3#32
  let v7234 : BitVec 32 := Scalar.shrsi v7233 c3_i32_2528
  let c3_i32_2529 : BitVec 32 := 3#32
  let v7235 : BitVec 32 := Scalar.shli v7234 c3_i32_2529
  v7235

def k0_off856 (v7233 : BitVec 32) : Fin 2 → Nat :=
  let c3_i32_2528 : BitVec 32 := 3#32
  let v7234 : BitVec 32 := Scalar.shrsi v7233 c3_i32_2528
  let c3_i32_2529 : BitVec 32 := 3#32
  let v7235 : BitVec 32 := Scalar.shli v7234 c3_i32_2529
  let v7236 : BitVec 32 := v7235
  let v7237 : Index := Scalar.indexCast v7236
  let c0_2530 : Index := 0#32
  ![v7237.toNat, 0]

def k0_chk420 (v7233 : BitVec 32) : Prop :=
  (8 ∣ (k0_mult420 v7233).toNat) ∧
  (∀ a, (k0_off856 v7233) a + S8x512.size a ≤ S20000x512.size a)
theorem k0_mult420_dvd : ∀ (v7233 : BitVec 32) (k0_hw420 : k0_chk420 v7233), 8 ∣ (k0_mult420 v7233).toNat := fun v7233 k0_hw420 => k0_hw420.1
theorem k0_off856_inb : ∀ (v7233 : BitVec 32) (k0_hw420 : k0_chk420 v7233), ∀ a, (k0_off856 v7233) a + S8x512.size a ≤ S20000x512.size a := fun v7233 k0_hw420 => k0_hw420.2

def k0_off857 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2532 : BitVec 32 := 384#32
  let v7247 : BitVec 32 := Scalar.addi v63 c384_i32_2532
  let c36_i32_2533 : BitVec 32 := 36#32
  let v7248 : BitVec 32 := Scalar.addi v7247 c36_i32_2533
  let v7249 : Index := Scalar.indexCast v7248
  ![v7249.toNat]
def k0_mult421 (v7250 : BitVec 32) : BitVec 32 :=
  let c3_i32_2534 : BitVec 32 := 3#32
  let v7251 : BitVec 32 := Scalar.shrsi v7250 c3_i32_2534
  let c3_i32_2535 : BitVec 32 := 3#32
  let v7252 : BitVec 32 := Scalar.shli v7251 c3_i32_2535
  v7252

def k0_off858 (v7250 : BitVec 32) : Fin 2 → Nat :=
  let c3_i32_2534 : BitVec 32 := 3#32
  let v7251 : BitVec 32 := Scalar.shrsi v7250 c3_i32_2534
  let c3_i32_2535 : BitVec 32 := 3#32
  let v7252 : BitVec 32 := Scalar.shli v7251 c3_i32_2535
  let v7253 : BitVec 32 := v7252
  let v7254 : Index := Scalar.indexCast v7253
  let c0_2536 : Index := 0#32
  ![v7254.toNat, 0]

def k0_chk421 (v7250 : BitVec 32) : Prop :=
  (8 ∣ (k0_mult421 v7250).toNat) ∧
  (∀ a, (k0_off858 v7250) a + S8x512.size a ≤ S20000x512.size a)
theorem k0_mult421_dvd : ∀ (v7250 : BitVec 32) (k0_hw421 : k0_chk421 v7250), 8 ∣ (k0_mult421 v7250).toNat := fun v7250 k0_hw421 => k0_hw421.1
theorem k0_off858_inb : ∀ (v7250 : BitVec 32) (k0_hw421 : k0_chk421 v7250), ∀ a, (k0_off858 v7250) a + S8x512.size a ≤ S20000x512.size a := fun v7250 k0_hw421 => k0_hw421.2

def k0_off859 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2538 : BitVec 32 := 384#32
  let v7264 : BitVec 32 := Scalar.addi v63 c384_i32_2538
  let c37_i32_2539 : BitVec 32 := 37#32
  let v7265 : BitVec 32 := Scalar.addi v7264 c37_i32_2539
  let v7266 : Index := Scalar.indexCast v7265
  ![v7266.toNat]
def k0_mult422 (v7267 : BitVec 32) : BitVec 32 :=
  let c3_i32_2540 : BitVec 32 := 3#32
  let v7268 : BitVec 32 := Scalar.shrsi v7267 c3_i32_2540
  let c3_i32_2541 : BitVec 32 := 3#32
  let v7269 : BitVec 32 := Scalar.shli v7268 c3_i32_2541
  v7269

def k0_off860 (v7267 : BitVec 32) : Fin 2 → Nat :=
  let c3_i32_2540 : BitVec 32 := 3#32
  let v7268 : BitVec 32 := Scalar.shrsi v7267 c3_i32_2540
  let c3_i32_2541 : BitVec 32 := 3#32
  let v7269 : BitVec 32 := Scalar.shli v7268 c3_i32_2541
  let v7270 : BitVec 32 := v7269
  let v7271 : Index := Scalar.indexCast v7270
  let c0_2542 : Index := 0#32
  ![v7271.toNat, 0]

def k0_chk422 (v7267 : BitVec 32) : Prop :=
  (8 ∣ (k0_mult422 v7267).toNat) ∧
  (∀ a, (k0_off860 v7267) a + S8x512.size a ≤ S20000x512.size a)
theorem k0_mult422_dvd : ∀ (v7267 : BitVec 32) (k0_hw422 : k0_chk422 v7267), 8 ∣ (k0_mult422 v7267).toNat := fun v7267 k0_hw422 => k0_hw422.1
theorem k0_off860_inb : ∀ (v7267 : BitVec 32) (k0_hw422 : k0_chk422 v7267), ∀ a, (k0_off860 v7267) a + S8x512.size a ≤ S20000x512.size a := fun v7267 k0_hw422 => k0_hw422.2

def k0_off861 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2544 : BitVec 32 := 384#32
  let v7281 : BitVec 32 := Scalar.addi v63 c384_i32_2544
  let c38_i32_2545 : BitVec 32 := 38#32
  let v7282 : BitVec 32 := Scalar.addi v7281 c38_i32_2545
  let v7283 : Index := Scalar.indexCast v7282
  ![v7283.toNat]
def k0_mult423 (v7284 : BitVec 32) : BitVec 32 :=
  let c3_i32_2546 : BitVec 32 := 3#32
  let v7285 : BitVec 32 := Scalar.shrsi v7284 c3_i32_2546
  let c3_i32_2547 : BitVec 32 := 3#32
  let v7286 : BitVec 32 := Scalar.shli v7285 c3_i32_2547
  v7286

def k0_off862 (v7284 : BitVec 32) : Fin 2 → Nat :=
  let c3_i32_2546 : BitVec 32 := 3#32
  let v7285 : BitVec 32 := Scalar.shrsi v7284 c3_i32_2546
  let c3_i32_2547 : BitVec 32 := 3#32
  let v7286 : BitVec 32 := Scalar.shli v7285 c3_i32_2547
  let v7287 : BitVec 32 := v7286
  let v7288 : Index := Scalar.indexCast v7287
  let c0_2548 : Index := 0#32
  ![v7288.toNat, 0]

def k0_chk423 (v7284 : BitVec 32) : Prop :=
  (8 ∣ (k0_mult423 v7284).toNat) ∧
  (∀ a, (k0_off862 v7284) a + S8x512.size a ≤ S20000x512.size a)
theorem k0_mult423_dvd : ∀ (v7284 : BitVec 32) (k0_hw423 : k0_chk423 v7284), 8 ∣ (k0_mult423 v7284).toNat := fun v7284 k0_hw423 => k0_hw423.1
theorem k0_off862_inb : ∀ (v7284 : BitVec 32) (k0_hw423 : k0_chk423 v7284), ∀ a, (k0_off862 v7284) a + S8x512.size a ≤ S20000x512.size a := fun v7284 k0_hw423 => k0_hw423.2

def k0_off863 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2550 : BitVec 32 := 384#32
  let v7298 : BitVec 32 := Scalar.addi v63 c384_i32_2550
  let c39_i32_2551 : BitVec 32 := 39#32
  let v7299 : BitVec 32 := Scalar.addi v7298 c39_i32_2551
  let v7300 : Index := Scalar.indexCast v7299
  ![v7300.toNat]
def k0_mult424 (v7301 : BitVec 32) : BitVec 32 :=
  let c3_i32_2552 : BitVec 32 := 3#32
  let v7302 : BitVec 32 := Scalar.shrsi v7301 c3_i32_2552
  let c3_i32_2553 : BitVec 32 := 3#32
  let v7303 : BitVec 32 := Scalar.shli v7302 c3_i32_2553
  v7303

def k0_off864 (v7301 : BitVec 32) : Fin 2 → Nat :=
  let c3_i32_2552 : BitVec 32 := 3#32
  let v7302 : BitVec 32 := Scalar.shrsi v7301 c3_i32_2552
  let c3_i32_2553 : BitVec 32 := 3#32
  let v7303 : BitVec 32 := Scalar.shli v7302 c3_i32_2553
  let v7304 : BitVec 32 := v7303
  let v7305 : Index := Scalar.indexCast v7304
  let c0_2554 : Index := 0#32
  ![v7305.toNat, 0]

def k0_chk424 (v7301 : BitVec 32) : Prop :=
  (8 ∣ (k0_mult424 v7301).toNat) ∧
  (∀ a, (k0_off864 v7301) a + S8x512.size a ≤ S20000x512.size a)
theorem k0_mult424_dvd : ∀ (v7301 : BitVec 32) (k0_hw424 : k0_chk424 v7301), 8 ∣ (k0_mult424 v7301).toNat := fun v7301 k0_hw424 => k0_hw424.1
theorem k0_off864_inb : ∀ (v7301 : BitVec 32) (k0_hw424 : k0_chk424 v7301), ∀ a, (k0_off864 v7301) a + S8x512.size a ≤ S20000x512.size a := fun v7301 k0_hw424 => k0_hw424.2

def k0_off865 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2556 : BitVec 32 := 384#32
  let v7315 : BitVec 32 := Scalar.addi v63 c384_i32_2556
  let c40_i32_2557 : BitVec 32 := 40#32
  let v7316 : BitVec 32 := Scalar.addi v7315 c40_i32_2557
  let v7317 : Index := Scalar.indexCast v7316
  ![v7317.toNat]
def k0_mult425 (v7318 : BitVec 32) : BitVec 32 :=
  let c3_i32_2558 : BitVec 32 := 3#32
  let v7319 : BitVec 32 := Scalar.shrsi v7318 c3_i32_2558
  let c3_i32_2559 : BitVec 32 := 3#32
  let v7320 : BitVec 32 := Scalar.shli v7319 c3_i32_2559
  v7320

def k0_off866 (v7318 : BitVec 32) : Fin 2 → Nat :=
  let c3_i32_2558 : BitVec 32 := 3#32
  let v7319 : BitVec 32 := Scalar.shrsi v7318 c3_i32_2558
  let c3_i32_2559 : BitVec 32 := 3#32
  let v7320 : BitVec 32 := Scalar.shli v7319 c3_i32_2559
  let v7321 : BitVec 32 := v7320
  let v7322 : Index := Scalar.indexCast v7321
  let c0_2560 : Index := 0#32
  ![v7322.toNat, 0]

def k0_chk425 (v7318 : BitVec 32) : Prop :=
  (8 ∣ (k0_mult425 v7318).toNat) ∧
  (∀ a, (k0_off866 v7318) a + S8x512.size a ≤ S20000x512.size a)
theorem k0_mult425_dvd : ∀ (v7318 : BitVec 32) (k0_hw425 : k0_chk425 v7318), 8 ∣ (k0_mult425 v7318).toNat := fun v7318 k0_hw425 => k0_hw425.1
theorem k0_off866_inb : ∀ (v7318 : BitVec 32) (k0_hw425 : k0_chk425 v7318), ∀ a, (k0_off866 v7318) a + S8x512.size a ≤ S20000x512.size a := fun v7318 k0_hw425 => k0_hw425.2

def k0_off867 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2562 : BitVec 32 := 384#32
  let v7332 : BitVec 32 := Scalar.addi v63 c384_i32_2562
  let c41_i32_2563 : BitVec 32 := 41#32
  let v7333 : BitVec 32 := Scalar.addi v7332 c41_i32_2563
  let v7334 : Index := Scalar.indexCast v7333
  ![v7334.toNat]
def k0_mult426 (v7335 : BitVec 32) : BitVec 32 :=
  let c3_i32_2564 : BitVec 32 := 3#32
  let v7336 : BitVec 32 := Scalar.shrsi v7335 c3_i32_2564
  let c3_i32_2565 : BitVec 32 := 3#32
  let v7337 : BitVec 32 := Scalar.shli v7336 c3_i32_2565
  v7337

def k0_off868 (v7335 : BitVec 32) : Fin 2 → Nat :=
  let c3_i32_2564 : BitVec 32 := 3#32
  let v7336 : BitVec 32 := Scalar.shrsi v7335 c3_i32_2564
  let c3_i32_2565 : BitVec 32 := 3#32
  let v7337 : BitVec 32 := Scalar.shli v7336 c3_i32_2565
  let v7338 : BitVec 32 := v7337
  let v7339 : Index := Scalar.indexCast v7338
  let c0_2566 : Index := 0#32
  ![v7339.toNat, 0]

def k0_chk426 (v7335 : BitVec 32) : Prop :=
  (8 ∣ (k0_mult426 v7335).toNat) ∧
  (∀ a, (k0_off868 v7335) a + S8x512.size a ≤ S20000x512.size a)
theorem k0_mult426_dvd : ∀ (v7335 : BitVec 32) (k0_hw426 : k0_chk426 v7335), 8 ∣ (k0_mult426 v7335).toNat := fun v7335 k0_hw426 => k0_hw426.1
theorem k0_off868_inb : ∀ (v7335 : BitVec 32) (k0_hw426 : k0_chk426 v7335), ∀ a, (k0_off868 v7335) a + S8x512.size a ≤ S20000x512.size a := fun v7335 k0_hw426 => k0_hw426.2

def k0_off869 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2568 : BitVec 32 := 384#32
  let v7349 : BitVec 32 := Scalar.addi v63 c384_i32_2568
  let c42_i32_2569 : BitVec 32 := 42#32
  let v7350 : BitVec 32 := Scalar.addi v7349 c42_i32_2569
  let v7351 : Index := Scalar.indexCast v7350
  ![v7351.toNat]
def k0_mult427 (v7352 : BitVec 32) : BitVec 32 :=
  let c3_i32_2570 : BitVec 32 := 3#32
  let v7353 : BitVec 32 := Scalar.shrsi v7352 c3_i32_2570
  let c3_i32_2571 : BitVec 32 := 3#32
  let v7354 : BitVec 32 := Scalar.shli v7353 c3_i32_2571
  v7354

def k0_off870 (v7352 : BitVec 32) : Fin 2 → Nat :=
  let c3_i32_2570 : BitVec 32 := 3#32
  let v7353 : BitVec 32 := Scalar.shrsi v7352 c3_i32_2570
  let c3_i32_2571 : BitVec 32 := 3#32
  let v7354 : BitVec 32 := Scalar.shli v7353 c3_i32_2571
  let v7355 : BitVec 32 := v7354
  let v7356 : Index := Scalar.indexCast v7355
  let c0_2572 : Index := 0#32
  ![v7356.toNat, 0]

def k0_chk427 (v7352 : BitVec 32) : Prop :=
  (8 ∣ (k0_mult427 v7352).toNat) ∧
  (∀ a, (k0_off870 v7352) a + S8x512.size a ≤ S20000x512.size a)
theorem k0_mult427_dvd : ∀ (v7352 : BitVec 32) (k0_hw427 : k0_chk427 v7352), 8 ∣ (k0_mult427 v7352).toNat := fun v7352 k0_hw427 => k0_hw427.1
theorem k0_off870_inb : ∀ (v7352 : BitVec 32) (k0_hw427 : k0_chk427 v7352), ∀ a, (k0_off870 v7352) a + S8x512.size a ≤ S20000x512.size a := fun v7352 k0_hw427 => k0_hw427.2

def k0_off871 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2574 : BitVec 32 := 384#32
  let v7366 : BitVec 32 := Scalar.addi v63 c384_i32_2574
  let c43_i32_2575 : BitVec 32 := 43#32
  let v7367 : BitVec 32 := Scalar.addi v7366 c43_i32_2575
  let v7368 : Index := Scalar.indexCast v7367
  ![v7368.toNat]
def k0_mult428 (v7369 : BitVec 32) : BitVec 32 :=
  let c3_i32_2576 : BitVec 32 := 3#32
  let v7370 : BitVec 32 := Scalar.shrsi v7369 c3_i32_2576
  let c3_i32_2577 : BitVec 32 := 3#32
  let v7371 : BitVec 32 := Scalar.shli v7370 c3_i32_2577
  v7371

def k0_off872 (v7369 : BitVec 32) : Fin 2 → Nat :=
  let c3_i32_2576 : BitVec 32 := 3#32
  let v7370 : BitVec 32 := Scalar.shrsi v7369 c3_i32_2576
  let c3_i32_2577 : BitVec 32 := 3#32
  let v7371 : BitVec 32 := Scalar.shli v7370 c3_i32_2577
  let v7372 : BitVec 32 := v7371
  let v7373 : Index := Scalar.indexCast v7372
  let c0_2578 : Index := 0#32
  ![v7373.toNat, 0]

def k0_chk428 (v7369 : BitVec 32) : Prop :=
  (8 ∣ (k0_mult428 v7369).toNat) ∧
  (∀ a, (k0_off872 v7369) a + S8x512.size a ≤ S20000x512.size a)
theorem k0_mult428_dvd : ∀ (v7369 : BitVec 32) (k0_hw428 : k0_chk428 v7369), 8 ∣ (k0_mult428 v7369).toNat := fun v7369 k0_hw428 => k0_hw428.1
theorem k0_off872_inb : ∀ (v7369 : BitVec 32) (k0_hw428 : k0_chk428 v7369), ∀ a, (k0_off872 v7369) a + S8x512.size a ≤ S20000x512.size a := fun v7369 k0_hw428 => k0_hw428.2

def k0_off873 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2580 : BitVec 32 := 384#32
  let v7383 : BitVec 32 := Scalar.addi v63 c384_i32_2580
  let c44_i32_2581 : BitVec 32 := 44#32
  let v7384 : BitVec 32 := Scalar.addi v7383 c44_i32_2581
  let v7385 : Index := Scalar.indexCast v7384
  ![v7385.toNat]
def k0_mult429 (v7386 : BitVec 32) : BitVec 32 :=
  let c3_i32_2582 : BitVec 32 := 3#32
  let v7387 : BitVec 32 := Scalar.shrsi v7386 c3_i32_2582
  let c3_i32_2583 : BitVec 32 := 3#32
  let v7388 : BitVec 32 := Scalar.shli v7387 c3_i32_2583
  v7388

def k0_off874 (v7386 : BitVec 32) : Fin 2 → Nat :=
  let c3_i32_2582 : BitVec 32 := 3#32
  let v7387 : BitVec 32 := Scalar.shrsi v7386 c3_i32_2582
  let c3_i32_2583 : BitVec 32 := 3#32
  let v7388 : BitVec 32 := Scalar.shli v7387 c3_i32_2583
  let v7389 : BitVec 32 := v7388
  let v7390 : Index := Scalar.indexCast v7389
  let c0_2584 : Index := 0#32
  ![v7390.toNat, 0]

def k0_chk429 (v7386 : BitVec 32) : Prop :=
  (8 ∣ (k0_mult429 v7386).toNat) ∧
  (∀ a, (k0_off874 v7386) a + S8x512.size a ≤ S20000x512.size a)
theorem k0_mult429_dvd : ∀ (v7386 : BitVec 32) (k0_hw429 : k0_chk429 v7386), 8 ∣ (k0_mult429 v7386).toNat := fun v7386 k0_hw429 => k0_hw429.1
theorem k0_off874_inb : ∀ (v7386 : BitVec 32) (k0_hw429 : k0_chk429 v7386), ∀ a, (k0_off874 v7386) a + S8x512.size a ≤ S20000x512.size a := fun v7386 k0_hw429 => k0_hw429.2

def k0_off875 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2586 : BitVec 32 := 384#32
  let v7400 : BitVec 32 := Scalar.addi v63 c384_i32_2586
  let c45_i32_2587 : BitVec 32 := 45#32
  let v7401 : BitVec 32 := Scalar.addi v7400 c45_i32_2587
  let v7402 : Index := Scalar.indexCast v7401
  ![v7402.toNat]
def k0_mult430 (v7403 : BitVec 32) : BitVec 32 :=
  let c3_i32_2588 : BitVec 32 := 3#32
  let v7404 : BitVec 32 := Scalar.shrsi v7403 c3_i32_2588
  let c3_i32_2589 : BitVec 32 := 3#32
  let v7405 : BitVec 32 := Scalar.shli v7404 c3_i32_2589
  v7405

def k0_off876 (v7403 : BitVec 32) : Fin 2 → Nat :=
  let c3_i32_2588 : BitVec 32 := 3#32
  let v7404 : BitVec 32 := Scalar.shrsi v7403 c3_i32_2588
  let c3_i32_2589 : BitVec 32 := 3#32
  let v7405 : BitVec 32 := Scalar.shli v7404 c3_i32_2589
  let v7406 : BitVec 32 := v7405
  let v7407 : Index := Scalar.indexCast v7406
  let c0_2590 : Index := 0#32
  ![v7407.toNat, 0]

def k0_chk430 (v7403 : BitVec 32) : Prop :=
  (8 ∣ (k0_mult430 v7403).toNat) ∧
  (∀ a, (k0_off876 v7403) a + S8x512.size a ≤ S20000x512.size a)
theorem k0_mult430_dvd : ∀ (v7403 : BitVec 32) (k0_hw430 : k0_chk430 v7403), 8 ∣ (k0_mult430 v7403).toNat := fun v7403 k0_hw430 => k0_hw430.1
theorem k0_off876_inb : ∀ (v7403 : BitVec 32) (k0_hw430 : k0_chk430 v7403), ∀ a, (k0_off876 v7403) a + S8x512.size a ≤ S20000x512.size a := fun v7403 k0_hw430 => k0_hw430.2

def k0_off877 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2592 : BitVec 32 := 384#32
  let v7417 : BitVec 32 := Scalar.addi v63 c384_i32_2592
  let c46_i32_2593 : BitVec 32 := 46#32
  let v7418 : BitVec 32 := Scalar.addi v7417 c46_i32_2593
  let v7419 : Index := Scalar.indexCast v7418
  ![v7419.toNat]
def k0_mult431 (v7420 : BitVec 32) : BitVec 32 :=
  let c3_i32_2594 : BitVec 32 := 3#32
  let v7421 : BitVec 32 := Scalar.shrsi v7420 c3_i32_2594
  let c3_i32_2595 : BitVec 32 := 3#32
  let v7422 : BitVec 32 := Scalar.shli v7421 c3_i32_2595
  v7422

def k0_off878 (v7420 : BitVec 32) : Fin 2 → Nat :=
  let c3_i32_2594 : BitVec 32 := 3#32
  let v7421 : BitVec 32 := Scalar.shrsi v7420 c3_i32_2594
  let c3_i32_2595 : BitVec 32 := 3#32
  let v7422 : BitVec 32 := Scalar.shli v7421 c3_i32_2595
  let v7423 : BitVec 32 := v7422
  let v7424 : Index := Scalar.indexCast v7423
  let c0_2596 : Index := 0#32
  ![v7424.toNat, 0]

def k0_chk431 (v7420 : BitVec 32) : Prop :=
  (8 ∣ (k0_mult431 v7420).toNat) ∧
  (∀ a, (k0_off878 v7420) a + S8x512.size a ≤ S20000x512.size a)
theorem k0_mult431_dvd : ∀ (v7420 : BitVec 32) (k0_hw431 : k0_chk431 v7420), 8 ∣ (k0_mult431 v7420).toNat := fun v7420 k0_hw431 => k0_hw431.1
theorem k0_off878_inb : ∀ (v7420 : BitVec 32) (k0_hw431 : k0_chk431 v7420), ∀ a, (k0_off878 v7420) a + S8x512.size a ≤ S20000x512.size a := fun v7420 k0_hw431 => k0_hw431.2

def k0_off879 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2598 : BitVec 32 := 384#32
  let v7434 : BitVec 32 := Scalar.addi v63 c384_i32_2598
  let c47_i32_2599 : BitVec 32 := 47#32
  let v7435 : BitVec 32 := Scalar.addi v7434 c47_i32_2599
  let v7436 : Index := Scalar.indexCast v7435
  ![v7436.toNat]
def k0_mult432 (v7437 : BitVec 32) : BitVec 32 :=
  let c3_i32_2600 : BitVec 32 := 3#32
  let v7438 : BitVec 32 := Scalar.shrsi v7437 c3_i32_2600
  let c3_i32_2601 : BitVec 32 := 3#32
  let v7439 : BitVec 32 := Scalar.shli v7438 c3_i32_2601
  v7439

def k0_off880 (v7437 : BitVec 32) : Fin 2 → Nat :=
  let c3_i32_2600 : BitVec 32 := 3#32
  let v7438 : BitVec 32 := Scalar.shrsi v7437 c3_i32_2600
  let c3_i32_2601 : BitVec 32 := 3#32
  let v7439 : BitVec 32 := Scalar.shli v7438 c3_i32_2601
  let v7440 : BitVec 32 := v7439
  let v7441 : Index := Scalar.indexCast v7440
  let c0_2602 : Index := 0#32
  ![v7441.toNat, 0]

def k0_chk432 (v7437 : BitVec 32) : Prop :=
  (8 ∣ (k0_mult432 v7437).toNat) ∧
  (∀ a, (k0_off880 v7437) a + S8x512.size a ≤ S20000x512.size a)
theorem k0_mult432_dvd : ∀ (v7437 : BitVec 32) (k0_hw432 : k0_chk432 v7437), 8 ∣ (k0_mult432 v7437).toNat := fun v7437 k0_hw432 => k0_hw432.1
theorem k0_off880_inb : ∀ (v7437 : BitVec 32) (k0_hw432 : k0_chk432 v7437), ∀ a, (k0_off880 v7437) a + S8x512.size a ≤ S20000x512.size a := fun v7437 k0_hw432 => k0_hw432.2

def k0_off881 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2604 : BitVec 32 := 384#32
  let v7451 : BitVec 32 := Scalar.addi v63 c384_i32_2604
  let c48_i32_2605 : BitVec 32 := 48#32
  let v7452 : BitVec 32 := Scalar.addi v7451 c48_i32_2605
  let v7453 : Index := Scalar.indexCast v7452
  ![v7453.toNat]
def k0_mult433 (v7454 : BitVec 32) : BitVec 32 :=
  let c3_i32_2606 : BitVec 32 := 3#32
  let v7455 : BitVec 32 := Scalar.shrsi v7454 c3_i32_2606
  let c3_i32_2607 : BitVec 32 := 3#32
  let v7456 : BitVec 32 := Scalar.shli v7455 c3_i32_2607
  v7456

def k0_off882 (v7454 : BitVec 32) : Fin 2 → Nat :=
  let c3_i32_2606 : BitVec 32 := 3#32
  let v7455 : BitVec 32 := Scalar.shrsi v7454 c3_i32_2606
  let c3_i32_2607 : BitVec 32 := 3#32
  let v7456 : BitVec 32 := Scalar.shli v7455 c3_i32_2607
  let v7457 : BitVec 32 := v7456
  let v7458 : Index := Scalar.indexCast v7457
  let c0_2608 : Index := 0#32
  ![v7458.toNat, 0]

def k0_chk433 (v7454 : BitVec 32) : Prop :=
  (8 ∣ (k0_mult433 v7454).toNat) ∧
  (∀ a, (k0_off882 v7454) a + S8x512.size a ≤ S20000x512.size a)
theorem k0_mult433_dvd : ∀ (v7454 : BitVec 32) (k0_hw433 : k0_chk433 v7454), 8 ∣ (k0_mult433 v7454).toNat := fun v7454 k0_hw433 => k0_hw433.1
theorem k0_off882_inb : ∀ (v7454 : BitVec 32) (k0_hw433 : k0_chk433 v7454), ∀ a, (k0_off882 v7454) a + S8x512.size a ≤ S20000x512.size a := fun v7454 k0_hw433 => k0_hw433.2

def k0_off883 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2610 : BitVec 32 := 384#32
  let v7468 : BitVec 32 := Scalar.addi v63 c384_i32_2610
  let c49_i32_2611 : BitVec 32 := 49#32
  let v7469 : BitVec 32 := Scalar.addi v7468 c49_i32_2611
  let v7470 : Index := Scalar.indexCast v7469
  ![v7470.toNat]
def k0_mult434 (v7471 : BitVec 32) : BitVec 32 :=
  let c3_i32_2612 : BitVec 32 := 3#32
  let v7472 : BitVec 32 := Scalar.shrsi v7471 c3_i32_2612
  let c3_i32_2613 : BitVec 32 := 3#32
  let v7473 : BitVec 32 := Scalar.shli v7472 c3_i32_2613
  v7473

def k0_off884 (v7471 : BitVec 32) : Fin 2 → Nat :=
  let c3_i32_2612 : BitVec 32 := 3#32
  let v7472 : BitVec 32 := Scalar.shrsi v7471 c3_i32_2612
  let c3_i32_2613 : BitVec 32 := 3#32
  let v7473 : BitVec 32 := Scalar.shli v7472 c3_i32_2613
  let v7474 : BitVec 32 := v7473
  let v7475 : Index := Scalar.indexCast v7474
  let c0_2614 : Index := 0#32
  ![v7475.toNat, 0]

def k0_chk434 (v7471 : BitVec 32) : Prop :=
  (8 ∣ (k0_mult434 v7471).toNat) ∧
  (∀ a, (k0_off884 v7471) a + S8x512.size a ≤ S20000x512.size a)
theorem k0_mult434_dvd : ∀ (v7471 : BitVec 32) (k0_hw434 : k0_chk434 v7471), 8 ∣ (k0_mult434 v7471).toNat := fun v7471 k0_hw434 => k0_hw434.1
theorem k0_off884_inb : ∀ (v7471 : BitVec 32) (k0_hw434 : k0_chk434 v7471), ∀ a, (k0_off884 v7471) a + S8x512.size a ≤ S20000x512.size a := fun v7471 k0_hw434 => k0_hw434.2

def k0_off885 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2616 : BitVec 32 := 384#32
  let v7485 : BitVec 32 := Scalar.addi v63 c384_i32_2616
  let c50_i32_2617 : BitVec 32 := 50#32
  let v7486 : BitVec 32 := Scalar.addi v7485 c50_i32_2617
  let v7487 : Index := Scalar.indexCast v7486
  ![v7487.toNat]
def k0_mult435 (v7488 : BitVec 32) : BitVec 32 :=
  let c3_i32_2618 : BitVec 32 := 3#32
  let v7489 : BitVec 32 := Scalar.shrsi v7488 c3_i32_2618
  let c3_i32_2619 : BitVec 32 := 3#32
  let v7490 : BitVec 32 := Scalar.shli v7489 c3_i32_2619
  v7490

def k0_off886 (v7488 : BitVec 32) : Fin 2 → Nat :=
  let c3_i32_2618 : BitVec 32 := 3#32
  let v7489 : BitVec 32 := Scalar.shrsi v7488 c3_i32_2618
  let c3_i32_2619 : BitVec 32 := 3#32
  let v7490 : BitVec 32 := Scalar.shli v7489 c3_i32_2619
  let v7491 : BitVec 32 := v7490
  let v7492 : Index := Scalar.indexCast v7491
  let c0_2620 : Index := 0#32
  ![v7492.toNat, 0]

def k0_chk435 (v7488 : BitVec 32) : Prop :=
  (8 ∣ (k0_mult435 v7488).toNat) ∧
  (∀ a, (k0_off886 v7488) a + S8x512.size a ≤ S20000x512.size a)
theorem k0_mult435_dvd : ∀ (v7488 : BitVec 32) (k0_hw435 : k0_chk435 v7488), 8 ∣ (k0_mult435 v7488).toNat := fun v7488 k0_hw435 => k0_hw435.1
theorem k0_off886_inb : ∀ (v7488 : BitVec 32) (k0_hw435 : k0_chk435 v7488), ∀ a, (k0_off886 v7488) a + S8x512.size a ≤ S20000x512.size a := fun v7488 k0_hw435 => k0_hw435.2

def k0_off887 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2622 : BitVec 32 := 384#32
  let v7502 : BitVec 32 := Scalar.addi v63 c384_i32_2622
  let c51_i32_2623 : BitVec 32 := 51#32
  let v7503 : BitVec 32 := Scalar.addi v7502 c51_i32_2623
  let v7504 : Index := Scalar.indexCast v7503
  ![v7504.toNat]
def k0_mult436 (v7505 : BitVec 32) : BitVec 32 :=
  let c3_i32_2624 : BitVec 32 := 3#32
  let v7506 : BitVec 32 := Scalar.shrsi v7505 c3_i32_2624
  let c3_i32_2625 : BitVec 32 := 3#32
  let v7507 : BitVec 32 := Scalar.shli v7506 c3_i32_2625
  v7507

def k0_off888 (v7505 : BitVec 32) : Fin 2 → Nat :=
  let c3_i32_2624 : BitVec 32 := 3#32
  let v7506 : BitVec 32 := Scalar.shrsi v7505 c3_i32_2624
  let c3_i32_2625 : BitVec 32 := 3#32
  let v7507 : BitVec 32 := Scalar.shli v7506 c3_i32_2625
  let v7508 : BitVec 32 := v7507
  let v7509 : Index := Scalar.indexCast v7508
  let c0_2626 : Index := 0#32
  ![v7509.toNat, 0]

def k0_chk436 (v7505 : BitVec 32) : Prop :=
  (8 ∣ (k0_mult436 v7505).toNat) ∧
  (∀ a, (k0_off888 v7505) a + S8x512.size a ≤ S20000x512.size a)
theorem k0_mult436_dvd : ∀ (v7505 : BitVec 32) (k0_hw436 : k0_chk436 v7505), 8 ∣ (k0_mult436 v7505).toNat := fun v7505 k0_hw436 => k0_hw436.1
theorem k0_off888_inb : ∀ (v7505 : BitVec 32) (k0_hw436 : k0_chk436 v7505), ∀ a, (k0_off888 v7505) a + S8x512.size a ≤ S20000x512.size a := fun v7505 k0_hw436 => k0_hw436.2

def k0_off889 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2628 : BitVec 32 := 384#32
  let v7519 : BitVec 32 := Scalar.addi v63 c384_i32_2628
  let c52_i32_2629 : BitVec 32 := 52#32
  let v7520 : BitVec 32 := Scalar.addi v7519 c52_i32_2629
  let v7521 : Index := Scalar.indexCast v7520
  ![v7521.toNat]
def k0_mult437 (v7522 : BitVec 32) : BitVec 32 :=
  let c3_i32_2630 : BitVec 32 := 3#32
  let v7523 : BitVec 32 := Scalar.shrsi v7522 c3_i32_2630
  let c3_i32_2631 : BitVec 32 := 3#32
  let v7524 : BitVec 32 := Scalar.shli v7523 c3_i32_2631
  v7524

def k0_off890 (v7522 : BitVec 32) : Fin 2 → Nat :=
  let c3_i32_2630 : BitVec 32 := 3#32
  let v7523 : BitVec 32 := Scalar.shrsi v7522 c3_i32_2630
  let c3_i32_2631 : BitVec 32 := 3#32
  let v7524 : BitVec 32 := Scalar.shli v7523 c3_i32_2631
  let v7525 : BitVec 32 := v7524
  let v7526 : Index := Scalar.indexCast v7525
  let c0_2632 : Index := 0#32
  ![v7526.toNat, 0]

def k0_chk437 (v7522 : BitVec 32) : Prop :=
  (8 ∣ (k0_mult437 v7522).toNat) ∧
  (∀ a, (k0_off890 v7522) a + S8x512.size a ≤ S20000x512.size a)
theorem k0_mult437_dvd : ∀ (v7522 : BitVec 32) (k0_hw437 : k0_chk437 v7522), 8 ∣ (k0_mult437 v7522).toNat := fun v7522 k0_hw437 => k0_hw437.1
theorem k0_off890_inb : ∀ (v7522 : BitVec 32) (k0_hw437 : k0_chk437 v7522), ∀ a, (k0_off890 v7522) a + S8x512.size a ≤ S20000x512.size a := fun v7522 k0_hw437 => k0_hw437.2

def k0_off891 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2634 : BitVec 32 := 384#32
  let v7536 : BitVec 32 := Scalar.addi v63 c384_i32_2634
  let c53_i32_2635 : BitVec 32 := 53#32
  let v7537 : BitVec 32 := Scalar.addi v7536 c53_i32_2635
  let v7538 : Index := Scalar.indexCast v7537
  ![v7538.toNat]
def k0_mult438 (v7539 : BitVec 32) : BitVec 32 :=
  let c3_i32_2636 : BitVec 32 := 3#32
  let v7540 : BitVec 32 := Scalar.shrsi v7539 c3_i32_2636
  let c3_i32_2637 : BitVec 32 := 3#32
  let v7541 : BitVec 32 := Scalar.shli v7540 c3_i32_2637
  v7541

def k0_off892 (v7539 : BitVec 32) : Fin 2 → Nat :=
  let c3_i32_2636 : BitVec 32 := 3#32
  let v7540 : BitVec 32 := Scalar.shrsi v7539 c3_i32_2636
  let c3_i32_2637 : BitVec 32 := 3#32
  let v7541 : BitVec 32 := Scalar.shli v7540 c3_i32_2637
  let v7542 : BitVec 32 := v7541
  let v7543 : Index := Scalar.indexCast v7542
  let c0_2638 : Index := 0#32
  ![v7543.toNat, 0]

def k0_chk438 (v7539 : BitVec 32) : Prop :=
  (8 ∣ (k0_mult438 v7539).toNat) ∧
  (∀ a, (k0_off892 v7539) a + S8x512.size a ≤ S20000x512.size a)
theorem k0_mult438_dvd : ∀ (v7539 : BitVec 32) (k0_hw438 : k0_chk438 v7539), 8 ∣ (k0_mult438 v7539).toNat := fun v7539 k0_hw438 => k0_hw438.1
theorem k0_off892_inb : ∀ (v7539 : BitVec 32) (k0_hw438 : k0_chk438 v7539), ∀ a, (k0_off892 v7539) a + S8x512.size a ≤ S20000x512.size a := fun v7539 k0_hw438 => k0_hw438.2

def k0_off893 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2640 : BitVec 32 := 384#32
  let v7553 : BitVec 32 := Scalar.addi v63 c384_i32_2640
  let c54_i32_2641 : BitVec 32 := 54#32
  let v7554 : BitVec 32 := Scalar.addi v7553 c54_i32_2641
  let v7555 : Index := Scalar.indexCast v7554
  ![v7555.toNat]
def k0_mult439 (v7556 : BitVec 32) : BitVec 32 :=
  let c3_i32_2642 : BitVec 32 := 3#32
  let v7557 : BitVec 32 := Scalar.shrsi v7556 c3_i32_2642
  let c3_i32_2643 : BitVec 32 := 3#32
  let v7558 : BitVec 32 := Scalar.shli v7557 c3_i32_2643
  v7558

def k0_off894 (v7556 : BitVec 32) : Fin 2 → Nat :=
  let c3_i32_2642 : BitVec 32 := 3#32
  let v7557 : BitVec 32 := Scalar.shrsi v7556 c3_i32_2642
  let c3_i32_2643 : BitVec 32 := 3#32
  let v7558 : BitVec 32 := Scalar.shli v7557 c3_i32_2643
  let v7559 : BitVec 32 := v7558
  let v7560 : Index := Scalar.indexCast v7559
  let c0_2644 : Index := 0#32
  ![v7560.toNat, 0]

def k0_chk439 (v7556 : BitVec 32) : Prop :=
  (8 ∣ (k0_mult439 v7556).toNat) ∧
  (∀ a, (k0_off894 v7556) a + S8x512.size a ≤ S20000x512.size a)
theorem k0_mult439_dvd : ∀ (v7556 : BitVec 32) (k0_hw439 : k0_chk439 v7556), 8 ∣ (k0_mult439 v7556).toNat := fun v7556 k0_hw439 => k0_hw439.1
theorem k0_off894_inb : ∀ (v7556 : BitVec 32) (k0_hw439 : k0_chk439 v7556), ∀ a, (k0_off894 v7556) a + S8x512.size a ≤ S20000x512.size a := fun v7556 k0_hw439 => k0_hw439.2

def k0_off895 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2646 : BitVec 32 := 384#32
  let v7570 : BitVec 32 := Scalar.addi v63 c384_i32_2646
  let c55_i32_2647 : BitVec 32 := 55#32
  let v7571 : BitVec 32 := Scalar.addi v7570 c55_i32_2647
  let v7572 : Index := Scalar.indexCast v7571
  ![v7572.toNat]
def k0_mult440 (v7573 : BitVec 32) : BitVec 32 :=
  let c3_i32_2648 : BitVec 32 := 3#32
  let v7574 : BitVec 32 := Scalar.shrsi v7573 c3_i32_2648
  let c3_i32_2649 : BitVec 32 := 3#32
  let v7575 : BitVec 32 := Scalar.shli v7574 c3_i32_2649
  v7575

def k0_off896 (v7573 : BitVec 32) : Fin 2 → Nat :=
  let c3_i32_2648 : BitVec 32 := 3#32
  let v7574 : BitVec 32 := Scalar.shrsi v7573 c3_i32_2648
  let c3_i32_2649 : BitVec 32 := 3#32
  let v7575 : BitVec 32 := Scalar.shli v7574 c3_i32_2649
  let v7576 : BitVec 32 := v7575
  let v7577 : Index := Scalar.indexCast v7576
  let c0_2650 : Index := 0#32
  ![v7577.toNat, 0]

def k0_chk440 (v7573 : BitVec 32) : Prop :=
  (8 ∣ (k0_mult440 v7573).toNat) ∧
  (∀ a, (k0_off896 v7573) a + S8x512.size a ≤ S20000x512.size a)
theorem k0_mult440_dvd : ∀ (v7573 : BitVec 32) (k0_hw440 : k0_chk440 v7573), 8 ∣ (k0_mult440 v7573).toNat := fun v7573 k0_hw440 => k0_hw440.1
theorem k0_off896_inb : ∀ (v7573 : BitVec 32) (k0_hw440 : k0_chk440 v7573), ∀ a, (k0_off896 v7573) a + S8x512.size a ≤ S20000x512.size a := fun v7573 k0_hw440 => k0_hw440.2

def k0_off897 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2652 : BitVec 32 := 384#32
  let v7587 : BitVec 32 := Scalar.addi v63 c384_i32_2652
  let c56_i32_2653 : BitVec 32 := 56#32
  let v7588 : BitVec 32 := Scalar.addi v7587 c56_i32_2653
  let v7589 : Index := Scalar.indexCast v7588
  ![v7589.toNat]
def k0_mult441 (v7590 : BitVec 32) : BitVec 32 :=
  let c3_i32_2654 : BitVec 32 := 3#32
  let v7591 : BitVec 32 := Scalar.shrsi v7590 c3_i32_2654
  let c3_i32_2655 : BitVec 32 := 3#32
  let v7592 : BitVec 32 := Scalar.shli v7591 c3_i32_2655
  v7592

def k0_off898 (v7590 : BitVec 32) : Fin 2 → Nat :=
  let c3_i32_2654 : BitVec 32 := 3#32
  let v7591 : BitVec 32 := Scalar.shrsi v7590 c3_i32_2654
  let c3_i32_2655 : BitVec 32 := 3#32
  let v7592 : BitVec 32 := Scalar.shli v7591 c3_i32_2655
  let v7593 : BitVec 32 := v7592
  let v7594 : Index := Scalar.indexCast v7593
  let c0_2656 : Index := 0#32
  ![v7594.toNat, 0]

def k0_chk441 (v7590 : BitVec 32) : Prop :=
  (8 ∣ (k0_mult441 v7590).toNat) ∧
  (∀ a, (k0_off898 v7590) a + S8x512.size a ≤ S20000x512.size a)
theorem k0_mult441_dvd : ∀ (v7590 : BitVec 32) (k0_hw441 : k0_chk441 v7590), 8 ∣ (k0_mult441 v7590).toNat := fun v7590 k0_hw441 => k0_hw441.1
theorem k0_off898_inb : ∀ (v7590 : BitVec 32) (k0_hw441 : k0_chk441 v7590), ∀ a, (k0_off898 v7590) a + S8x512.size a ≤ S20000x512.size a := fun v7590 k0_hw441 => k0_hw441.2

def k0_off899 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2658 : BitVec 32 := 384#32
  let v7604 : BitVec 32 := Scalar.addi v63 c384_i32_2658
  let c57_i32_2659 : BitVec 32 := 57#32
  let v7605 : BitVec 32 := Scalar.addi v7604 c57_i32_2659
  let v7606 : Index := Scalar.indexCast v7605
  ![v7606.toNat]
def k0_mult442 (v7607 : BitVec 32) : BitVec 32 :=
  let c3_i32_2660 : BitVec 32 := 3#32
  let v7608 : BitVec 32 := Scalar.shrsi v7607 c3_i32_2660
  let c3_i32_2661 : BitVec 32 := 3#32
  let v7609 : BitVec 32 := Scalar.shli v7608 c3_i32_2661
  v7609

def k0_off900 (v7607 : BitVec 32) : Fin 2 → Nat :=
  let c3_i32_2660 : BitVec 32 := 3#32
  let v7608 : BitVec 32 := Scalar.shrsi v7607 c3_i32_2660
  let c3_i32_2661 : BitVec 32 := 3#32
  let v7609 : BitVec 32 := Scalar.shli v7608 c3_i32_2661
  let v7610 : BitVec 32 := v7609
  let v7611 : Index := Scalar.indexCast v7610
  let c0_2662 : Index := 0#32
  ![v7611.toNat, 0]

def k0_chk442 (v7607 : BitVec 32) : Prop :=
  (8 ∣ (k0_mult442 v7607).toNat) ∧
  (∀ a, (k0_off900 v7607) a + S8x512.size a ≤ S20000x512.size a)
theorem k0_mult442_dvd : ∀ (v7607 : BitVec 32) (k0_hw442 : k0_chk442 v7607), 8 ∣ (k0_mult442 v7607).toNat := fun v7607 k0_hw442 => k0_hw442.1
theorem k0_off900_inb : ∀ (v7607 : BitVec 32) (k0_hw442 : k0_chk442 v7607), ∀ a, (k0_off900 v7607) a + S8x512.size a ≤ S20000x512.size a := fun v7607 k0_hw442 => k0_hw442.2

def k0_off901 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2664 : BitVec 32 := 384#32
  let v7621 : BitVec 32 := Scalar.addi v63 c384_i32_2664
  let c58_i32_2665 : BitVec 32 := 58#32
  let v7622 : BitVec 32 := Scalar.addi v7621 c58_i32_2665
  let v7623 : Index := Scalar.indexCast v7622
  ![v7623.toNat]
def k0_mult443 (v7624 : BitVec 32) : BitVec 32 :=
  let c3_i32_2666 : BitVec 32 := 3#32
  let v7625 : BitVec 32 := Scalar.shrsi v7624 c3_i32_2666
  let c3_i32_2667 : BitVec 32 := 3#32
  let v7626 : BitVec 32 := Scalar.shli v7625 c3_i32_2667
  v7626

def k0_off902 (v7624 : BitVec 32) : Fin 2 → Nat :=
  let c3_i32_2666 : BitVec 32 := 3#32
  let v7625 : BitVec 32 := Scalar.shrsi v7624 c3_i32_2666
  let c3_i32_2667 : BitVec 32 := 3#32
  let v7626 : BitVec 32 := Scalar.shli v7625 c3_i32_2667
  let v7627 : BitVec 32 := v7626
  let v7628 : Index := Scalar.indexCast v7627
  let c0_2668 : Index := 0#32
  ![v7628.toNat, 0]

def k0_chk443 (v7624 : BitVec 32) : Prop :=
  (8 ∣ (k0_mult443 v7624).toNat) ∧
  (∀ a, (k0_off902 v7624) a + S8x512.size a ≤ S20000x512.size a)
theorem k0_mult443_dvd : ∀ (v7624 : BitVec 32) (k0_hw443 : k0_chk443 v7624), 8 ∣ (k0_mult443 v7624).toNat := fun v7624 k0_hw443 => k0_hw443.1
theorem k0_off902_inb : ∀ (v7624 : BitVec 32) (k0_hw443 : k0_chk443 v7624), ∀ a, (k0_off902 v7624) a + S8x512.size a ≤ S20000x512.size a := fun v7624 k0_hw443 => k0_hw443.2

def k0_off903 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2670 : BitVec 32 := 384#32
  let v7638 : BitVec 32 := Scalar.addi v63 c384_i32_2670
  let c59_i32_2671 : BitVec 32 := 59#32
  let v7639 : BitVec 32 := Scalar.addi v7638 c59_i32_2671
  let v7640 : Index := Scalar.indexCast v7639
  ![v7640.toNat]
def k0_mult444 (v7641 : BitVec 32) : BitVec 32 :=
  let c3_i32_2672 : BitVec 32 := 3#32
  let v7642 : BitVec 32 := Scalar.shrsi v7641 c3_i32_2672
  let c3_i32_2673 : BitVec 32 := 3#32
  let v7643 : BitVec 32 := Scalar.shli v7642 c3_i32_2673
  v7643

def k0_off904 (v7641 : BitVec 32) : Fin 2 → Nat :=
  let c3_i32_2672 : BitVec 32 := 3#32
  let v7642 : BitVec 32 := Scalar.shrsi v7641 c3_i32_2672
  let c3_i32_2673 : BitVec 32 := 3#32
  let v7643 : BitVec 32 := Scalar.shli v7642 c3_i32_2673
  let v7644 : BitVec 32 := v7643
  let v7645 : Index := Scalar.indexCast v7644
  let c0_2674 : Index := 0#32
  ![v7645.toNat, 0]

def k0_chk444 (v7641 : BitVec 32) : Prop :=
  (8 ∣ (k0_mult444 v7641).toNat) ∧
  (∀ a, (k0_off904 v7641) a + S8x512.size a ≤ S20000x512.size a)
theorem k0_mult444_dvd : ∀ (v7641 : BitVec 32) (k0_hw444 : k0_chk444 v7641), 8 ∣ (k0_mult444 v7641).toNat := fun v7641 k0_hw444 => k0_hw444.1
theorem k0_off904_inb : ∀ (v7641 : BitVec 32) (k0_hw444 : k0_chk444 v7641), ∀ a, (k0_off904 v7641) a + S8x512.size a ≤ S20000x512.size a := fun v7641 k0_hw444 => k0_hw444.2

def k0_off905 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2676 : BitVec 32 := 384#32
  let v7655 : BitVec 32 := Scalar.addi v63 c384_i32_2676
  let c60_i32_2677 : BitVec 32 := 60#32
  let v7656 : BitVec 32 := Scalar.addi v7655 c60_i32_2677
  let v7657 : Index := Scalar.indexCast v7656
  ![v7657.toNat]
def k0_mult445 (v7658 : BitVec 32) : BitVec 32 :=
  let c3_i32_2678 : BitVec 32 := 3#32
  let v7659 : BitVec 32 := Scalar.shrsi v7658 c3_i32_2678
  let c3_i32_2679 : BitVec 32 := 3#32
  let v7660 : BitVec 32 := Scalar.shli v7659 c3_i32_2679
  v7660

def k0_off906 (v7658 : BitVec 32) : Fin 2 → Nat :=
  let c3_i32_2678 : BitVec 32 := 3#32
  let v7659 : BitVec 32 := Scalar.shrsi v7658 c3_i32_2678
  let c3_i32_2679 : BitVec 32 := 3#32
  let v7660 : BitVec 32 := Scalar.shli v7659 c3_i32_2679
  let v7661 : BitVec 32 := v7660
  let v7662 : Index := Scalar.indexCast v7661
  let c0_2680 : Index := 0#32
  ![v7662.toNat, 0]

def k0_chk445 (v7658 : BitVec 32) : Prop :=
  (8 ∣ (k0_mult445 v7658).toNat) ∧
  (∀ a, (k0_off906 v7658) a + S8x512.size a ≤ S20000x512.size a)
theorem k0_mult445_dvd : ∀ (v7658 : BitVec 32) (k0_hw445 : k0_chk445 v7658), 8 ∣ (k0_mult445 v7658).toNat := fun v7658 k0_hw445 => k0_hw445.1
theorem k0_off906_inb : ∀ (v7658 : BitVec 32) (k0_hw445 : k0_chk445 v7658), ∀ a, (k0_off906 v7658) a + S8x512.size a ≤ S20000x512.size a := fun v7658 k0_hw445 => k0_hw445.2

def k0_off907 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2682 : BitVec 32 := 384#32
  let v7672 : BitVec 32 := Scalar.addi v63 c384_i32_2682
  let c61_i32_2683 : BitVec 32 := 61#32
  let v7673 : BitVec 32 := Scalar.addi v7672 c61_i32_2683
  let v7674 : Index := Scalar.indexCast v7673
  ![v7674.toNat]
def k0_mult446 (v7675 : BitVec 32) : BitVec 32 :=
  let c3_i32_2684 : BitVec 32 := 3#32
  let v7676 : BitVec 32 := Scalar.shrsi v7675 c3_i32_2684
  let c3_i32_2685 : BitVec 32 := 3#32
  let v7677 : BitVec 32 := Scalar.shli v7676 c3_i32_2685
  v7677

def k0_off908 (v7675 : BitVec 32) : Fin 2 → Nat :=
  let c3_i32_2684 : BitVec 32 := 3#32
  let v7676 : BitVec 32 := Scalar.shrsi v7675 c3_i32_2684
  let c3_i32_2685 : BitVec 32 := 3#32
  let v7677 : BitVec 32 := Scalar.shli v7676 c3_i32_2685
  let v7678 : BitVec 32 := v7677
  let v7679 : Index := Scalar.indexCast v7678
  let c0_2686 : Index := 0#32
  ![v7679.toNat, 0]

def k0_chk446 (v7675 : BitVec 32) : Prop :=
  (8 ∣ (k0_mult446 v7675).toNat) ∧
  (∀ a, (k0_off908 v7675) a + S8x512.size a ≤ S20000x512.size a)
theorem k0_mult446_dvd : ∀ (v7675 : BitVec 32) (k0_hw446 : k0_chk446 v7675), 8 ∣ (k0_mult446 v7675).toNat := fun v7675 k0_hw446 => k0_hw446.1
theorem k0_off908_inb : ∀ (v7675 : BitVec 32) (k0_hw446 : k0_chk446 v7675), ∀ a, (k0_off908 v7675) a + S8x512.size a ≤ S20000x512.size a := fun v7675 k0_hw446 => k0_hw446.2

def k0_off909 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2688 : BitVec 32 := 384#32
  let v7689 : BitVec 32 := Scalar.addi v63 c384_i32_2688
  let c62_i32_2689 : BitVec 32 := 62#32
  let v7690 : BitVec 32 := Scalar.addi v7689 c62_i32_2689
  let v7691 : Index := Scalar.indexCast v7690
  ![v7691.toNat]
def k0_mult447 (v7692 : BitVec 32) : BitVec 32 :=
  let c3_i32_2690 : BitVec 32 := 3#32
  let v7693 : BitVec 32 := Scalar.shrsi v7692 c3_i32_2690
  let c3_i32_2691 : BitVec 32 := 3#32
  let v7694 : BitVec 32 := Scalar.shli v7693 c3_i32_2691
  v7694

def k0_off910 (v7692 : BitVec 32) : Fin 2 → Nat :=
  let c3_i32_2690 : BitVec 32 := 3#32
  let v7693 : BitVec 32 := Scalar.shrsi v7692 c3_i32_2690
  let c3_i32_2691 : BitVec 32 := 3#32
  let v7694 : BitVec 32 := Scalar.shli v7693 c3_i32_2691
  let v7695 : BitVec 32 := v7694
  let v7696 : Index := Scalar.indexCast v7695
  let c0_2692 : Index := 0#32
  ![v7696.toNat, 0]

def k0_chk447 (v7692 : BitVec 32) : Prop :=
  (8 ∣ (k0_mult447 v7692).toNat) ∧
  (∀ a, (k0_off910 v7692) a + S8x512.size a ≤ S20000x512.size a)
theorem k0_mult447_dvd : ∀ (v7692 : BitVec 32) (k0_hw447 : k0_chk447 v7692), 8 ∣ (k0_mult447 v7692).toNat := fun v7692 k0_hw447 => k0_hw447.1
theorem k0_off910_inb : ∀ (v7692 : BitVec 32) (k0_hw447 : k0_chk447 v7692), ∀ a, (k0_off910 v7692) a + S8x512.size a ≤ S20000x512.size a := fun v7692 k0_hw447 => k0_hw447.2

def k0_off911 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c384_i32_2694 : BitVec 32 := 384#32
  let v7706 : BitVec 32 := Scalar.addi v63 c384_i32_2694
  let c63_i32_2695 : BitVec 32 := 63#32
  let v7707 : BitVec 32 := Scalar.addi v7706 c63_i32_2695
  let v7708 : Index := Scalar.indexCast v7707
  ![v7708.toNat]
def k0_mult448 (v7709 : BitVec 32) : BitVec 32 :=
  let c3_i32_2696 : BitVec 32 := 3#32
  let v7710 : BitVec 32 := Scalar.shrsi v7709 c3_i32_2696
  let c3_i32_2697 : BitVec 32 := 3#32
  let v7711 : BitVec 32 := Scalar.shli v7710 c3_i32_2697
  v7711

def k0_off912 (v7709 : BitVec 32) : Fin 2 → Nat :=
  let c3_i32_2696 : BitVec 32 := 3#32
  let v7710 : BitVec 32 := Scalar.shrsi v7709 c3_i32_2696
  let c3_i32_2697 : BitVec 32 := 3#32
  let v7711 : BitVec 32 := Scalar.shli v7710 c3_i32_2697
  let v7712 : BitVec 32 := v7711
  let v7713 : Index := Scalar.indexCast v7712
  let c0_2698 : Index := 0#32
  ![v7713.toNat, 0]

def k0_chk448 (v7709 : BitVec 32) : Prop :=
  (8 ∣ (k0_mult448 v7709).toNat) ∧
  (∀ a, (k0_off912 v7709) a + S8x512.size a ≤ S20000x512.size a)
theorem k0_mult448_dvd : ∀ (v7709 : BitVec 32) (k0_hw448 : k0_chk448 v7709), 8 ∣ (k0_mult448 v7709).toNat := fun v7709 k0_hw448 => k0_hw448.1
theorem k0_off912_inb : ∀ (v7709 : BitVec 32) (k0_hw448 : k0_chk448 v7709), ∀ a, (k0_off912 v7709) a + S8x512.size a ≤ S20000x512.size a := fun v7709 k0_hw448 => k0_hw448.2

def k0_off913 (k0_t1 : Fin k0_t1_loop.trips) : Fin 3 → Nat :=
  let c0_i32_18 : BitVec 32 := 0#32
  let c1_i32_19 : BitVec 32 := 1#32
  let arg12 : BitVec 32 := Scf.iv c0_i32_18 c1_i32_19 k0_t1
  let c8_i32_2700 : BitVec 32 := 8#32
  let v7723 : BitVec 32 := Scalar.muli arg12 c8_i32_2700
  let c6_i32_2701 : BitVec 32 := 6#32
  let v7724 : BitVec 32 := Scalar.addi v7723 c6_i32_2701
  let v7725 : Index := Scalar.indexCast v7724
  let c0_2702 : Index := 0#32
  let c0_2703 : Index := 0#32
  ![v7725.toNat, 0, 0]
def k0_off914 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32 : BitVec 32 := 448#32
  let v7730 : BitVec 32 := Scalar.addi v63 c448_i32
  let c0_i32_2705 : BitVec 32 := 0#32
  let v7731 : BitVec 32 := Scalar.addi v7730 c0_i32_2705
  let v7732 : Index := Scalar.indexCast v7731
  ![v7732.toNat]
def k0_mult449 (v7733 : BitVec 32) : BitVec 32 :=
  let c3_i32_2706 : BitVec 32 := 3#32
  let v7734 : BitVec 32 := Scalar.shrsi v7733 c3_i32_2706
  let c3_i32_2707 : BitVec 32 := 3#32
  let v7735 : BitVec 32 := Scalar.shli v7734 c3_i32_2707
  v7735

def k0_off915 (v7733 : BitVec 32) : Fin 2 → Nat :=
  let c3_i32_2706 : BitVec 32 := 3#32
  let v7734 : BitVec 32 := Scalar.shrsi v7733 c3_i32_2706
  let c3_i32_2707 : BitVec 32 := 3#32
  let v7735 : BitVec 32 := Scalar.shli v7734 c3_i32_2707
  let v7736 : BitVec 32 := v7735
  let v7737 : Index := Scalar.indexCast v7736
  let c0_2708 : Index := 0#32
  ![v7737.toNat, 0]

def k0_chk449 (v7733 : BitVec 32) : Prop :=
  (8 ∣ (k0_mult449 v7733).toNat) ∧
  (∀ a, (k0_off915 v7733) a + S8x512.size a ≤ S20000x512.size a)
theorem k0_mult449_dvd : ∀ (v7733 : BitVec 32) (k0_hw449 : k0_chk449 v7733), 8 ∣ (k0_mult449 v7733).toNat := fun v7733 k0_hw449 => k0_hw449.1
theorem k0_off915_inb : ∀ (v7733 : BitVec 32) (k0_hw449 : k0_chk449 v7733), ∀ a, (k0_off915 v7733) a + S8x512.size a ≤ S20000x512.size a := fun v7733 k0_hw449 => k0_hw449.2

def k0_off916 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2710 : BitVec 32 := 448#32
  let v7747 : BitVec 32 := Scalar.addi v63 c448_i32_2710
  let c1_i32_2711 : BitVec 32 := 1#32
  let v7748 : BitVec 32 := Scalar.addi v7747 c1_i32_2711
  let v7749 : Index := Scalar.indexCast v7748
  ![v7749.toNat]
def k0_mult450 (v7750 : BitVec 32) : BitVec 32 :=
  let c3_i32_2712 : BitVec 32 := 3#32
  let v7751 : BitVec 32 := Scalar.shrsi v7750 c3_i32_2712
  let c3_i32_2713 : BitVec 32 := 3#32
  let v7752 : BitVec 32 := Scalar.shli v7751 c3_i32_2713
  v7752

def k0_off917 (v7750 : BitVec 32) : Fin 2 → Nat :=
  let c3_i32_2712 : BitVec 32 := 3#32
  let v7751 : BitVec 32 := Scalar.shrsi v7750 c3_i32_2712
  let c3_i32_2713 : BitVec 32 := 3#32
  let v7752 : BitVec 32 := Scalar.shli v7751 c3_i32_2713
  let v7753 : BitVec 32 := v7752
  let v7754 : Index := Scalar.indexCast v7753
  let c0_2714 : Index := 0#32
  ![v7754.toNat, 0]

def k0_chk450 (v7750 : BitVec 32) : Prop :=
  (8 ∣ (k0_mult450 v7750).toNat) ∧
  (∀ a, (k0_off917 v7750) a + S8x512.size a ≤ S20000x512.size a)
theorem k0_mult450_dvd : ∀ (v7750 : BitVec 32) (k0_hw450 : k0_chk450 v7750), 8 ∣ (k0_mult450 v7750).toNat := fun v7750 k0_hw450 => k0_hw450.1
theorem k0_off917_inb : ∀ (v7750 : BitVec 32) (k0_hw450 : k0_chk450 v7750), ∀ a, (k0_off917 v7750) a + S8x512.size a ≤ S20000x512.size a := fun v7750 k0_hw450 => k0_hw450.2

def k0_off918 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2716 : BitVec 32 := 448#32
  let v7764 : BitVec 32 := Scalar.addi v63 c448_i32_2716
  let c2_i32_2717 : BitVec 32 := 2#32
  let v7765 : BitVec 32 := Scalar.addi v7764 c2_i32_2717
  let v7766 : Index := Scalar.indexCast v7765
  ![v7766.toNat]
def k0_mult451 (v7767 : BitVec 32) : BitVec 32 :=
  let c3_i32_2718 : BitVec 32 := 3#32
  let v7768 : BitVec 32 := Scalar.shrsi v7767 c3_i32_2718
  let c3_i32_2719 : BitVec 32 := 3#32
  let v7769 : BitVec 32 := Scalar.shli v7768 c3_i32_2719
  v7769

def k0_off919 (v7767 : BitVec 32) : Fin 2 → Nat :=
  let c3_i32_2718 : BitVec 32 := 3#32
  let v7768 : BitVec 32 := Scalar.shrsi v7767 c3_i32_2718
  let c3_i32_2719 : BitVec 32 := 3#32
  let v7769 : BitVec 32 := Scalar.shli v7768 c3_i32_2719
  let v7770 : BitVec 32 := v7769
  let v7771 : Index := Scalar.indexCast v7770
  let c0_2720 : Index := 0#32
  ![v7771.toNat, 0]

def k0_chk451 (v7767 : BitVec 32) : Prop :=
  (8 ∣ (k0_mult451 v7767).toNat) ∧
  (∀ a, (k0_off919 v7767) a + S8x512.size a ≤ S20000x512.size a)
theorem k0_mult451_dvd : ∀ (v7767 : BitVec 32) (k0_hw451 : k0_chk451 v7767), 8 ∣ (k0_mult451 v7767).toNat := fun v7767 k0_hw451 => k0_hw451.1
theorem k0_off919_inb : ∀ (v7767 : BitVec 32) (k0_hw451 : k0_chk451 v7767), ∀ a, (k0_off919 v7767) a + S8x512.size a ≤ S20000x512.size a := fun v7767 k0_hw451 => k0_hw451.2

def k0_off920 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2722 : BitVec 32 := 448#32
  let v7781 : BitVec 32 := Scalar.addi v63 c448_i32_2722
  let c3_i32_2723 : BitVec 32 := 3#32
  let v7782 : BitVec 32 := Scalar.addi v7781 c3_i32_2723
  let v7783 : Index := Scalar.indexCast v7782
  ![v7783.toNat]
def k0_mult452 (v7784 : BitVec 32) : BitVec 32 :=
  let c3_i32_2724 : BitVec 32 := 3#32
  let v7785 : BitVec 32 := Scalar.shrsi v7784 c3_i32_2724
  let c3_i32_2725 : BitVec 32 := 3#32
  let v7786 : BitVec 32 := Scalar.shli v7785 c3_i32_2725
  v7786

def k0_off921 (v7784 : BitVec 32) : Fin 2 → Nat :=
  let c3_i32_2724 : BitVec 32 := 3#32
  let v7785 : BitVec 32 := Scalar.shrsi v7784 c3_i32_2724
  let c3_i32_2725 : BitVec 32 := 3#32
  let v7786 : BitVec 32 := Scalar.shli v7785 c3_i32_2725
  let v7787 : BitVec 32 := v7786
  let v7788 : Index := Scalar.indexCast v7787
  let c0_2726 : Index := 0#32
  ![v7788.toNat, 0]

def k0_chk452 (v7784 : BitVec 32) : Prop :=
  (8 ∣ (k0_mult452 v7784).toNat) ∧
  (∀ a, (k0_off921 v7784) a + S8x512.size a ≤ S20000x512.size a)
theorem k0_mult452_dvd : ∀ (v7784 : BitVec 32) (k0_hw452 : k0_chk452 v7784), 8 ∣ (k0_mult452 v7784).toNat := fun v7784 k0_hw452 => k0_hw452.1
theorem k0_off921_inb : ∀ (v7784 : BitVec 32) (k0_hw452 : k0_chk452 v7784), ∀ a, (k0_off921 v7784) a + S8x512.size a ≤ S20000x512.size a := fun v7784 k0_hw452 => k0_hw452.2

def k0_off922 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2728 : BitVec 32 := 448#32
  let v7798 : BitVec 32 := Scalar.addi v63 c448_i32_2728
  let c4_i32_2729 : BitVec 32 := 4#32
  let v7799 : BitVec 32 := Scalar.addi v7798 c4_i32_2729
  let v7800 : Index := Scalar.indexCast v7799
  ![v7800.toNat]
def k0_mult453 (v7801 : BitVec 32) : BitVec 32 :=
  let c3_i32_2730 : BitVec 32 := 3#32
  let v7802 : BitVec 32 := Scalar.shrsi v7801 c3_i32_2730
  let c3_i32_2731 : BitVec 32 := 3#32
  let v7803 : BitVec 32 := Scalar.shli v7802 c3_i32_2731
  v7803

def k0_off923 (v7801 : BitVec 32) : Fin 2 → Nat :=
  let c3_i32_2730 : BitVec 32 := 3#32
  let v7802 : BitVec 32 := Scalar.shrsi v7801 c3_i32_2730
  let c3_i32_2731 : BitVec 32 := 3#32
  let v7803 : BitVec 32 := Scalar.shli v7802 c3_i32_2731
  let v7804 : BitVec 32 := v7803
  let v7805 : Index := Scalar.indexCast v7804
  let c0_2732 : Index := 0#32
  ![v7805.toNat, 0]

def k0_chk453 (v7801 : BitVec 32) : Prop :=
  (8 ∣ (k0_mult453 v7801).toNat) ∧
  (∀ a, (k0_off923 v7801) a + S8x512.size a ≤ S20000x512.size a)
theorem k0_mult453_dvd : ∀ (v7801 : BitVec 32) (k0_hw453 : k0_chk453 v7801), 8 ∣ (k0_mult453 v7801).toNat := fun v7801 k0_hw453 => k0_hw453.1
theorem k0_off923_inb : ∀ (v7801 : BitVec 32) (k0_hw453 : k0_chk453 v7801), ∀ a, (k0_off923 v7801) a + S8x512.size a ≤ S20000x512.size a := fun v7801 k0_hw453 => k0_hw453.2

def k0_off924 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2734 : BitVec 32 := 448#32
  let v7815 : BitVec 32 := Scalar.addi v63 c448_i32_2734
  let c5_i32_2735 : BitVec 32 := 5#32
  let v7816 : BitVec 32 := Scalar.addi v7815 c5_i32_2735
  let v7817 : Index := Scalar.indexCast v7816
  ![v7817.toNat]
def k0_mult454 (v7818 : BitVec 32) : BitVec 32 :=
  let c3_i32_2736 : BitVec 32 := 3#32
  let v7819 : BitVec 32 := Scalar.shrsi v7818 c3_i32_2736
  let c3_i32_2737 : BitVec 32 := 3#32
  let v7820 : BitVec 32 := Scalar.shli v7819 c3_i32_2737
  v7820

def k0_off925 (v7818 : BitVec 32) : Fin 2 → Nat :=
  let c3_i32_2736 : BitVec 32 := 3#32
  let v7819 : BitVec 32 := Scalar.shrsi v7818 c3_i32_2736
  let c3_i32_2737 : BitVec 32 := 3#32
  let v7820 : BitVec 32 := Scalar.shli v7819 c3_i32_2737
  let v7821 : BitVec 32 := v7820
  let v7822 : Index := Scalar.indexCast v7821
  let c0_2738 : Index := 0#32
  ![v7822.toNat, 0]

def k0_chk454 (v7818 : BitVec 32) : Prop :=
  (8 ∣ (k0_mult454 v7818).toNat) ∧
  (∀ a, (k0_off925 v7818) a + S8x512.size a ≤ S20000x512.size a)
theorem k0_mult454_dvd : ∀ (v7818 : BitVec 32) (k0_hw454 : k0_chk454 v7818), 8 ∣ (k0_mult454 v7818).toNat := fun v7818 k0_hw454 => k0_hw454.1
theorem k0_off925_inb : ∀ (v7818 : BitVec 32) (k0_hw454 : k0_chk454 v7818), ∀ a, (k0_off925 v7818) a + S8x512.size a ≤ S20000x512.size a := fun v7818 k0_hw454 => k0_hw454.2

def k0_off926 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2740 : BitVec 32 := 448#32
  let v7832 : BitVec 32 := Scalar.addi v63 c448_i32_2740
  let c6_i32_2741 : BitVec 32 := 6#32
  let v7833 : BitVec 32 := Scalar.addi v7832 c6_i32_2741
  let v7834 : Index := Scalar.indexCast v7833
  ![v7834.toNat]
def k0_mult455 (v7835 : BitVec 32) : BitVec 32 :=
  let c3_i32_2742 : BitVec 32 := 3#32
  let v7836 : BitVec 32 := Scalar.shrsi v7835 c3_i32_2742
  let c3_i32_2743 : BitVec 32 := 3#32
  let v7837 : BitVec 32 := Scalar.shli v7836 c3_i32_2743
  v7837

def k0_off927 (v7835 : BitVec 32) : Fin 2 → Nat :=
  let c3_i32_2742 : BitVec 32 := 3#32
  let v7836 : BitVec 32 := Scalar.shrsi v7835 c3_i32_2742
  let c3_i32_2743 : BitVec 32 := 3#32
  let v7837 : BitVec 32 := Scalar.shli v7836 c3_i32_2743
  let v7838 : BitVec 32 := v7837
  let v7839 : Index := Scalar.indexCast v7838
  let c0_2744 : Index := 0#32
  ![v7839.toNat, 0]

def k0_chk455 (v7835 : BitVec 32) : Prop :=
  (8 ∣ (k0_mult455 v7835).toNat) ∧
  (∀ a, (k0_off927 v7835) a + S8x512.size a ≤ S20000x512.size a)
theorem k0_mult455_dvd : ∀ (v7835 : BitVec 32) (k0_hw455 : k0_chk455 v7835), 8 ∣ (k0_mult455 v7835).toNat := fun v7835 k0_hw455 => k0_hw455.1
theorem k0_off927_inb : ∀ (v7835 : BitVec 32) (k0_hw455 : k0_chk455 v7835), ∀ a, (k0_off927 v7835) a + S8x512.size a ≤ S20000x512.size a := fun v7835 k0_hw455 => k0_hw455.2

def k0_off928 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2746 : BitVec 32 := 448#32
  let v7849 : BitVec 32 := Scalar.addi v63 c448_i32_2746
  let c7_i32_2747 : BitVec 32 := 7#32
  let v7850 : BitVec 32 := Scalar.addi v7849 c7_i32_2747
  let v7851 : Index := Scalar.indexCast v7850
  ![v7851.toNat]
def k0_mult456 (v7852 : BitVec 32) : BitVec 32 :=
  let c3_i32_2748 : BitVec 32 := 3#32
  let v7853 : BitVec 32 := Scalar.shrsi v7852 c3_i32_2748
  let c3_i32_2749 : BitVec 32 := 3#32
  let v7854 : BitVec 32 := Scalar.shli v7853 c3_i32_2749
  v7854

def k0_off929 (v7852 : BitVec 32) : Fin 2 → Nat :=
  let c3_i32_2748 : BitVec 32 := 3#32
  let v7853 : BitVec 32 := Scalar.shrsi v7852 c3_i32_2748
  let c3_i32_2749 : BitVec 32 := 3#32
  let v7854 : BitVec 32 := Scalar.shli v7853 c3_i32_2749
  let v7855 : BitVec 32 := v7854
  let v7856 : Index := Scalar.indexCast v7855
  let c0_2750 : Index := 0#32
  ![v7856.toNat, 0]

def k0_chk456 (v7852 : BitVec 32) : Prop :=
  (8 ∣ (k0_mult456 v7852).toNat) ∧
  (∀ a, (k0_off929 v7852) a + S8x512.size a ≤ S20000x512.size a)
theorem k0_mult456_dvd : ∀ (v7852 : BitVec 32) (k0_hw456 : k0_chk456 v7852), 8 ∣ (k0_mult456 v7852).toNat := fun v7852 k0_hw456 => k0_hw456.1
theorem k0_off929_inb : ∀ (v7852 : BitVec 32) (k0_hw456 : k0_chk456 v7852), ∀ a, (k0_off929 v7852) a + S8x512.size a ≤ S20000x512.size a := fun v7852 k0_hw456 => k0_hw456.2

def k0_off930 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2752 : BitVec 32 := 448#32
  let v7866 : BitVec 32 := Scalar.addi v63 c448_i32_2752
  let c8_i32_2753 : BitVec 32 := 8#32
  let v7867 : BitVec 32 := Scalar.addi v7866 c8_i32_2753
  let v7868 : Index := Scalar.indexCast v7867
  ![v7868.toNat]
def k0_mult457 (v7869 : BitVec 32) : BitVec 32 :=
  let c3_i32_2754 : BitVec 32 := 3#32
  let v7870 : BitVec 32 := Scalar.shrsi v7869 c3_i32_2754
  let c3_i32_2755 : BitVec 32 := 3#32
  let v7871 : BitVec 32 := Scalar.shli v7870 c3_i32_2755
  v7871

def k0_off931 (v7869 : BitVec 32) : Fin 2 → Nat :=
  let c3_i32_2754 : BitVec 32 := 3#32
  let v7870 : BitVec 32 := Scalar.shrsi v7869 c3_i32_2754
  let c3_i32_2755 : BitVec 32 := 3#32
  let v7871 : BitVec 32 := Scalar.shli v7870 c3_i32_2755
  let v7872 : BitVec 32 := v7871
  let v7873 : Index := Scalar.indexCast v7872
  let c0_2756 : Index := 0#32
  ![v7873.toNat, 0]

def k0_chk457 (v7869 : BitVec 32) : Prop :=
  (8 ∣ (k0_mult457 v7869).toNat) ∧
  (∀ a, (k0_off931 v7869) a + S8x512.size a ≤ S20000x512.size a)
theorem k0_mult457_dvd : ∀ (v7869 : BitVec 32) (k0_hw457 : k0_chk457 v7869), 8 ∣ (k0_mult457 v7869).toNat := fun v7869 k0_hw457 => k0_hw457.1
theorem k0_off931_inb : ∀ (v7869 : BitVec 32) (k0_hw457 : k0_chk457 v7869), ∀ a, (k0_off931 v7869) a + S8x512.size a ≤ S20000x512.size a := fun v7869 k0_hw457 => k0_hw457.2

def k0_off932 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2758 : BitVec 32 := 448#32
  let v7883 : BitVec 32 := Scalar.addi v63 c448_i32_2758
  let c9_i32_2759 : BitVec 32 := 9#32
  let v7884 : BitVec 32 := Scalar.addi v7883 c9_i32_2759
  let v7885 : Index := Scalar.indexCast v7884
  ![v7885.toNat]
def k0_mult458 (v7886 : BitVec 32) : BitVec 32 :=
  let c3_i32_2760 : BitVec 32 := 3#32
  let v7887 : BitVec 32 := Scalar.shrsi v7886 c3_i32_2760
  let c3_i32_2761 : BitVec 32 := 3#32
  let v7888 : BitVec 32 := Scalar.shli v7887 c3_i32_2761
  v7888

def k0_off933 (v7886 : BitVec 32) : Fin 2 → Nat :=
  let c3_i32_2760 : BitVec 32 := 3#32
  let v7887 : BitVec 32 := Scalar.shrsi v7886 c3_i32_2760
  let c3_i32_2761 : BitVec 32 := 3#32
  let v7888 : BitVec 32 := Scalar.shli v7887 c3_i32_2761
  let v7889 : BitVec 32 := v7888
  let v7890 : Index := Scalar.indexCast v7889
  let c0_2762 : Index := 0#32
  ![v7890.toNat, 0]

def k0_chk458 (v7886 : BitVec 32) : Prop :=
  (8 ∣ (k0_mult458 v7886).toNat) ∧
  (∀ a, (k0_off933 v7886) a + S8x512.size a ≤ S20000x512.size a)
theorem k0_mult458_dvd : ∀ (v7886 : BitVec 32) (k0_hw458 : k0_chk458 v7886), 8 ∣ (k0_mult458 v7886).toNat := fun v7886 k0_hw458 => k0_hw458.1
theorem k0_off933_inb : ∀ (v7886 : BitVec 32) (k0_hw458 : k0_chk458 v7886), ∀ a, (k0_off933 v7886) a + S8x512.size a ≤ S20000x512.size a := fun v7886 k0_hw458 => k0_hw458.2

def k0_off934 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2764 : BitVec 32 := 448#32
  let v7900 : BitVec 32 := Scalar.addi v63 c448_i32_2764
  let c10_i32_2765 : BitVec 32 := 10#32
  let v7901 : BitVec 32 := Scalar.addi v7900 c10_i32_2765
  let v7902 : Index := Scalar.indexCast v7901
  ![v7902.toNat]
def k0_mult459 (v7903 : BitVec 32) : BitVec 32 :=
  let c3_i32_2766 : BitVec 32 := 3#32
  let v7904 : BitVec 32 := Scalar.shrsi v7903 c3_i32_2766
  let c3_i32_2767 : BitVec 32 := 3#32
  let v7905 : BitVec 32 := Scalar.shli v7904 c3_i32_2767
  v7905

def k0_off935 (v7903 : BitVec 32) : Fin 2 → Nat :=
  let c3_i32_2766 : BitVec 32 := 3#32
  let v7904 : BitVec 32 := Scalar.shrsi v7903 c3_i32_2766
  let c3_i32_2767 : BitVec 32 := 3#32
  let v7905 : BitVec 32 := Scalar.shli v7904 c3_i32_2767
  let v7906 : BitVec 32 := v7905
  let v7907 : Index := Scalar.indexCast v7906
  let c0_2768 : Index := 0#32
  ![v7907.toNat, 0]

def k0_chk459 (v7903 : BitVec 32) : Prop :=
  (8 ∣ (k0_mult459 v7903).toNat) ∧
  (∀ a, (k0_off935 v7903) a + S8x512.size a ≤ S20000x512.size a)
theorem k0_mult459_dvd : ∀ (v7903 : BitVec 32) (k0_hw459 : k0_chk459 v7903), 8 ∣ (k0_mult459 v7903).toNat := fun v7903 k0_hw459 => k0_hw459.1
theorem k0_off935_inb : ∀ (v7903 : BitVec 32) (k0_hw459 : k0_chk459 v7903), ∀ a, (k0_off935 v7903) a + S8x512.size a ≤ S20000x512.size a := fun v7903 k0_hw459 => k0_hw459.2

def k0_off936 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2770 : BitVec 32 := 448#32
  let v7917 : BitVec 32 := Scalar.addi v63 c448_i32_2770
  let c11_i32_2771 : BitVec 32 := 11#32
  let v7918 : BitVec 32 := Scalar.addi v7917 c11_i32_2771
  let v7919 : Index := Scalar.indexCast v7918
  ![v7919.toNat]
def k0_mult460 (v7920 : BitVec 32) : BitVec 32 :=
  let c3_i32_2772 : BitVec 32 := 3#32
  let v7921 : BitVec 32 := Scalar.shrsi v7920 c3_i32_2772
  let c3_i32_2773 : BitVec 32 := 3#32
  let v7922 : BitVec 32 := Scalar.shli v7921 c3_i32_2773
  v7922

def k0_off937 (v7920 : BitVec 32) : Fin 2 → Nat :=
  let c3_i32_2772 : BitVec 32 := 3#32
  let v7921 : BitVec 32 := Scalar.shrsi v7920 c3_i32_2772
  let c3_i32_2773 : BitVec 32 := 3#32
  let v7922 : BitVec 32 := Scalar.shli v7921 c3_i32_2773
  let v7923 : BitVec 32 := v7922
  let v7924 : Index := Scalar.indexCast v7923
  let c0_2774 : Index := 0#32
  ![v7924.toNat, 0]

def k0_chk460 (v7920 : BitVec 32) : Prop :=
  (8 ∣ (k0_mult460 v7920).toNat) ∧
  (∀ a, (k0_off937 v7920) a + S8x512.size a ≤ S20000x512.size a)
theorem k0_mult460_dvd : ∀ (v7920 : BitVec 32) (k0_hw460 : k0_chk460 v7920), 8 ∣ (k0_mult460 v7920).toNat := fun v7920 k0_hw460 => k0_hw460.1
theorem k0_off937_inb : ∀ (v7920 : BitVec 32) (k0_hw460 : k0_chk460 v7920), ∀ a, (k0_off937 v7920) a + S8x512.size a ≤ S20000x512.size a := fun v7920 k0_hw460 => k0_hw460.2

def k0_off938 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2776 : BitVec 32 := 448#32
  let v7934 : BitVec 32 := Scalar.addi v63 c448_i32_2776
  let c12_i32_2777 : BitVec 32 := 12#32
  let v7935 : BitVec 32 := Scalar.addi v7934 c12_i32_2777
  let v7936 : Index := Scalar.indexCast v7935
  ![v7936.toNat]
def k0_mult461 (v7937 : BitVec 32) : BitVec 32 :=
  let c3_i32_2778 : BitVec 32 := 3#32
  let v7938 : BitVec 32 := Scalar.shrsi v7937 c3_i32_2778
  let c3_i32_2779 : BitVec 32 := 3#32
  let v7939 : BitVec 32 := Scalar.shli v7938 c3_i32_2779
  v7939

def k0_off939 (v7937 : BitVec 32) : Fin 2 → Nat :=
  let c3_i32_2778 : BitVec 32 := 3#32
  let v7938 : BitVec 32 := Scalar.shrsi v7937 c3_i32_2778
  let c3_i32_2779 : BitVec 32 := 3#32
  let v7939 : BitVec 32 := Scalar.shli v7938 c3_i32_2779
  let v7940 : BitVec 32 := v7939
  let v7941 : Index := Scalar.indexCast v7940
  let c0_2780 : Index := 0#32
  ![v7941.toNat, 0]

def k0_chk461 (v7937 : BitVec 32) : Prop :=
  (8 ∣ (k0_mult461 v7937).toNat) ∧
  (∀ a, (k0_off939 v7937) a + S8x512.size a ≤ S20000x512.size a)
theorem k0_mult461_dvd : ∀ (v7937 : BitVec 32) (k0_hw461 : k0_chk461 v7937), 8 ∣ (k0_mult461 v7937).toNat := fun v7937 k0_hw461 => k0_hw461.1
theorem k0_off939_inb : ∀ (v7937 : BitVec 32) (k0_hw461 : k0_chk461 v7937), ∀ a, (k0_off939 v7937) a + S8x512.size a ≤ S20000x512.size a := fun v7937 k0_hw461 => k0_hw461.2

def k0_off940 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2782 : BitVec 32 := 448#32
  let v7951 : BitVec 32 := Scalar.addi v63 c448_i32_2782
  let c13_i32_2783 : BitVec 32 := 13#32
  let v7952 : BitVec 32 := Scalar.addi v7951 c13_i32_2783
  let v7953 : Index := Scalar.indexCast v7952
  ![v7953.toNat]
def k0_mult462 (v7954 : BitVec 32) : BitVec 32 :=
  let c3_i32_2784 : BitVec 32 := 3#32
  let v7955 : BitVec 32 := Scalar.shrsi v7954 c3_i32_2784
  let c3_i32_2785 : BitVec 32 := 3#32
  let v7956 : BitVec 32 := Scalar.shli v7955 c3_i32_2785
  v7956

def k0_off941 (v7954 : BitVec 32) : Fin 2 → Nat :=
  let c3_i32_2784 : BitVec 32 := 3#32
  let v7955 : BitVec 32 := Scalar.shrsi v7954 c3_i32_2784
  let c3_i32_2785 : BitVec 32 := 3#32
  let v7956 : BitVec 32 := Scalar.shli v7955 c3_i32_2785
  let v7957 : BitVec 32 := v7956
  let v7958 : Index := Scalar.indexCast v7957
  let c0_2786 : Index := 0#32
  ![v7958.toNat, 0]

def k0_chk462 (v7954 : BitVec 32) : Prop :=
  (8 ∣ (k0_mult462 v7954).toNat) ∧
  (∀ a, (k0_off941 v7954) a + S8x512.size a ≤ S20000x512.size a)
theorem k0_mult462_dvd : ∀ (v7954 : BitVec 32) (k0_hw462 : k0_chk462 v7954), 8 ∣ (k0_mult462 v7954).toNat := fun v7954 k0_hw462 => k0_hw462.1
theorem k0_off941_inb : ∀ (v7954 : BitVec 32) (k0_hw462 : k0_chk462 v7954), ∀ a, (k0_off941 v7954) a + S8x512.size a ≤ S20000x512.size a := fun v7954 k0_hw462 => k0_hw462.2

def k0_off942 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2788 : BitVec 32 := 448#32
  let v7968 : BitVec 32 := Scalar.addi v63 c448_i32_2788
  let c14_i32_2789 : BitVec 32 := 14#32
  let v7969 : BitVec 32 := Scalar.addi v7968 c14_i32_2789
  let v7970 : Index := Scalar.indexCast v7969
  ![v7970.toNat]
def k0_mult463 (v7971 : BitVec 32) : BitVec 32 :=
  let c3_i32_2790 : BitVec 32 := 3#32
  let v7972 : BitVec 32 := Scalar.shrsi v7971 c3_i32_2790
  let c3_i32_2791 : BitVec 32 := 3#32
  let v7973 : BitVec 32 := Scalar.shli v7972 c3_i32_2791
  v7973

def k0_off943 (v7971 : BitVec 32) : Fin 2 → Nat :=
  let c3_i32_2790 : BitVec 32 := 3#32
  let v7972 : BitVec 32 := Scalar.shrsi v7971 c3_i32_2790
  let c3_i32_2791 : BitVec 32 := 3#32
  let v7973 : BitVec 32 := Scalar.shli v7972 c3_i32_2791
  let v7974 : BitVec 32 := v7973
  let v7975 : Index := Scalar.indexCast v7974
  let c0_2792 : Index := 0#32
  ![v7975.toNat, 0]

def k0_chk463 (v7971 : BitVec 32) : Prop :=
  (8 ∣ (k0_mult463 v7971).toNat) ∧
  (∀ a, (k0_off943 v7971) a + S8x512.size a ≤ S20000x512.size a)
theorem k0_mult463_dvd : ∀ (v7971 : BitVec 32) (k0_hw463 : k0_chk463 v7971), 8 ∣ (k0_mult463 v7971).toNat := fun v7971 k0_hw463 => k0_hw463.1
theorem k0_off943_inb : ∀ (v7971 : BitVec 32) (k0_hw463 : k0_chk463 v7971), ∀ a, (k0_off943 v7971) a + S8x512.size a ≤ S20000x512.size a := fun v7971 k0_hw463 => k0_hw463.2

def k0_off944 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2794 : BitVec 32 := 448#32
  let v7985 : BitVec 32 := Scalar.addi v63 c448_i32_2794
  let c15_i32_2795 : BitVec 32 := 15#32
  let v7986 : BitVec 32 := Scalar.addi v7985 c15_i32_2795
  let v7987 : Index := Scalar.indexCast v7986
  ![v7987.toNat]
def k0_mult464 (v7988 : BitVec 32) : BitVec 32 :=
  let c3_i32_2796 : BitVec 32 := 3#32
  let v7989 : BitVec 32 := Scalar.shrsi v7988 c3_i32_2796
  let c3_i32_2797 : BitVec 32 := 3#32
  let v7990 : BitVec 32 := Scalar.shli v7989 c3_i32_2797
  v7990

def k0_off945 (v7988 : BitVec 32) : Fin 2 → Nat :=
  let c3_i32_2796 : BitVec 32 := 3#32
  let v7989 : BitVec 32 := Scalar.shrsi v7988 c3_i32_2796
  let c3_i32_2797 : BitVec 32 := 3#32
  let v7990 : BitVec 32 := Scalar.shli v7989 c3_i32_2797
  let v7991 : BitVec 32 := v7990
  let v7992 : Index := Scalar.indexCast v7991
  let c0_2798 : Index := 0#32
  ![v7992.toNat, 0]

def k0_chk464 (v7988 : BitVec 32) : Prop :=
  (8 ∣ (k0_mult464 v7988).toNat) ∧
  (∀ a, (k0_off945 v7988) a + S8x512.size a ≤ S20000x512.size a)
theorem k0_mult464_dvd : ∀ (v7988 : BitVec 32) (k0_hw464 : k0_chk464 v7988), 8 ∣ (k0_mult464 v7988).toNat := fun v7988 k0_hw464 => k0_hw464.1
theorem k0_off945_inb : ∀ (v7988 : BitVec 32) (k0_hw464 : k0_chk464 v7988), ∀ a, (k0_off945 v7988) a + S8x512.size a ≤ S20000x512.size a := fun v7988 k0_hw464 => k0_hw464.2

def k0_off946 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2800 : BitVec 32 := 448#32
  let v8002 : BitVec 32 := Scalar.addi v63 c448_i32_2800
  let c16_i32_2801 : BitVec 32 := 16#32
  let v8003 : BitVec 32 := Scalar.addi v8002 c16_i32_2801
  let v8004 : Index := Scalar.indexCast v8003
  ![v8004.toNat]
def k0_mult465 (v8005 : BitVec 32) : BitVec 32 :=
  let c3_i32_2802 : BitVec 32 := 3#32
  let v8006 : BitVec 32 := Scalar.shrsi v8005 c3_i32_2802
  let c3_i32_2803 : BitVec 32 := 3#32
  let v8007 : BitVec 32 := Scalar.shli v8006 c3_i32_2803
  v8007

def k0_off947 (v8005 : BitVec 32) : Fin 2 → Nat :=
  let c3_i32_2802 : BitVec 32 := 3#32
  let v8006 : BitVec 32 := Scalar.shrsi v8005 c3_i32_2802
  let c3_i32_2803 : BitVec 32 := 3#32
  let v8007 : BitVec 32 := Scalar.shli v8006 c3_i32_2803
  let v8008 : BitVec 32 := v8007
  let v8009 : Index := Scalar.indexCast v8008
  let c0_2804 : Index := 0#32
  ![v8009.toNat, 0]

def k0_chk465 (v8005 : BitVec 32) : Prop :=
  (8 ∣ (k0_mult465 v8005).toNat) ∧
  (∀ a, (k0_off947 v8005) a + S8x512.size a ≤ S20000x512.size a)
theorem k0_mult465_dvd : ∀ (v8005 : BitVec 32) (k0_hw465 : k0_chk465 v8005), 8 ∣ (k0_mult465 v8005).toNat := fun v8005 k0_hw465 => k0_hw465.1
theorem k0_off947_inb : ∀ (v8005 : BitVec 32) (k0_hw465 : k0_chk465 v8005), ∀ a, (k0_off947 v8005) a + S8x512.size a ≤ S20000x512.size a := fun v8005 k0_hw465 => k0_hw465.2

def k0_off948 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2806 : BitVec 32 := 448#32
  let v8019 : BitVec 32 := Scalar.addi v63 c448_i32_2806
  let c17_i32_2807 : BitVec 32 := 17#32
  let v8020 : BitVec 32 := Scalar.addi v8019 c17_i32_2807
  let v8021 : Index := Scalar.indexCast v8020
  ![v8021.toNat]
def k0_mult466 (v8022 : BitVec 32) : BitVec 32 :=
  let c3_i32_2808 : BitVec 32 := 3#32
  let v8023 : BitVec 32 := Scalar.shrsi v8022 c3_i32_2808
  let c3_i32_2809 : BitVec 32 := 3#32
  let v8024 : BitVec 32 := Scalar.shli v8023 c3_i32_2809
  v8024

def k0_off949 (v8022 : BitVec 32) : Fin 2 → Nat :=
  let c3_i32_2808 : BitVec 32 := 3#32
  let v8023 : BitVec 32 := Scalar.shrsi v8022 c3_i32_2808
  let c3_i32_2809 : BitVec 32 := 3#32
  let v8024 : BitVec 32 := Scalar.shli v8023 c3_i32_2809
  let v8025 : BitVec 32 := v8024
  let v8026 : Index := Scalar.indexCast v8025
  let c0_2810 : Index := 0#32
  ![v8026.toNat, 0]

def k0_chk466 (v8022 : BitVec 32) : Prop :=
  (8 ∣ (k0_mult466 v8022).toNat) ∧
  (∀ a, (k0_off949 v8022) a + S8x512.size a ≤ S20000x512.size a)
theorem k0_mult466_dvd : ∀ (v8022 : BitVec 32) (k0_hw466 : k0_chk466 v8022), 8 ∣ (k0_mult466 v8022).toNat := fun v8022 k0_hw466 => k0_hw466.1
theorem k0_off949_inb : ∀ (v8022 : BitVec 32) (k0_hw466 : k0_chk466 v8022), ∀ a, (k0_off949 v8022) a + S8x512.size a ≤ S20000x512.size a := fun v8022 k0_hw466 => k0_hw466.2

def k0_off950 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2812 : BitVec 32 := 448#32
  let v8036 : BitVec 32 := Scalar.addi v63 c448_i32_2812
  let c18_i32_2813 : BitVec 32 := 18#32
  let v8037 : BitVec 32 := Scalar.addi v8036 c18_i32_2813
  let v8038 : Index := Scalar.indexCast v8037
  ![v8038.toNat]
def k0_mult467 (v8039 : BitVec 32) : BitVec 32 :=
  let c3_i32_2814 : BitVec 32 := 3#32
  let v8040 : BitVec 32 := Scalar.shrsi v8039 c3_i32_2814
  let c3_i32_2815 : BitVec 32 := 3#32
  let v8041 : BitVec 32 := Scalar.shli v8040 c3_i32_2815
  v8041

def k0_off951 (v8039 : BitVec 32) : Fin 2 → Nat :=
  let c3_i32_2814 : BitVec 32 := 3#32
  let v8040 : BitVec 32 := Scalar.shrsi v8039 c3_i32_2814
  let c3_i32_2815 : BitVec 32 := 3#32
  let v8041 : BitVec 32 := Scalar.shli v8040 c3_i32_2815
  let v8042 : BitVec 32 := v8041
  let v8043 : Index := Scalar.indexCast v8042
  let c0_2816 : Index := 0#32
  ![v8043.toNat, 0]

def k0_chk467 (v8039 : BitVec 32) : Prop :=
  (8 ∣ (k0_mult467 v8039).toNat) ∧
  (∀ a, (k0_off951 v8039) a + S8x512.size a ≤ S20000x512.size a)
theorem k0_mult467_dvd : ∀ (v8039 : BitVec 32) (k0_hw467 : k0_chk467 v8039), 8 ∣ (k0_mult467 v8039).toNat := fun v8039 k0_hw467 => k0_hw467.1
theorem k0_off951_inb : ∀ (v8039 : BitVec 32) (k0_hw467 : k0_chk467 v8039), ∀ a, (k0_off951 v8039) a + S8x512.size a ≤ S20000x512.size a := fun v8039 k0_hw467 => k0_hw467.2

def k0_off952 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2818 : BitVec 32 := 448#32
  let v8053 : BitVec 32 := Scalar.addi v63 c448_i32_2818
  let c19_i32_2819 : BitVec 32 := 19#32
  let v8054 : BitVec 32 := Scalar.addi v8053 c19_i32_2819
  let v8055 : Index := Scalar.indexCast v8054
  ![v8055.toNat]
def k0_mult468 (v8056 : BitVec 32) : BitVec 32 :=
  let c3_i32_2820 : BitVec 32 := 3#32
  let v8057 : BitVec 32 := Scalar.shrsi v8056 c3_i32_2820
  let c3_i32_2821 : BitVec 32 := 3#32
  let v8058 : BitVec 32 := Scalar.shli v8057 c3_i32_2821
  v8058

def k0_off953 (v8056 : BitVec 32) : Fin 2 → Nat :=
  let c3_i32_2820 : BitVec 32 := 3#32
  let v8057 : BitVec 32 := Scalar.shrsi v8056 c3_i32_2820
  let c3_i32_2821 : BitVec 32 := 3#32
  let v8058 : BitVec 32 := Scalar.shli v8057 c3_i32_2821
  let v8059 : BitVec 32 := v8058
  let v8060 : Index := Scalar.indexCast v8059
  let c0_2822 : Index := 0#32
  ![v8060.toNat, 0]

def k0_chk468 (v8056 : BitVec 32) : Prop :=
  (8 ∣ (k0_mult468 v8056).toNat) ∧
  (∀ a, (k0_off953 v8056) a + S8x512.size a ≤ S20000x512.size a)
theorem k0_mult468_dvd : ∀ (v8056 : BitVec 32) (k0_hw468 : k0_chk468 v8056), 8 ∣ (k0_mult468 v8056).toNat := fun v8056 k0_hw468 => k0_hw468.1
theorem k0_off953_inb : ∀ (v8056 : BitVec 32) (k0_hw468 : k0_chk468 v8056), ∀ a, (k0_off953 v8056) a + S8x512.size a ≤ S20000x512.size a := fun v8056 k0_hw468 => k0_hw468.2

def k0_off954 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2824 : BitVec 32 := 448#32
  let v8070 : BitVec 32 := Scalar.addi v63 c448_i32_2824
  let c20_i32_2825 : BitVec 32 := 20#32
  let v8071 : BitVec 32 := Scalar.addi v8070 c20_i32_2825
  let v8072 : Index := Scalar.indexCast v8071
  ![v8072.toNat]
def k0_mult469 (v8073 : BitVec 32) : BitVec 32 :=
  let c3_i32_2826 : BitVec 32 := 3#32
  let v8074 : BitVec 32 := Scalar.shrsi v8073 c3_i32_2826
  let c3_i32_2827 : BitVec 32 := 3#32
  let v8075 : BitVec 32 := Scalar.shli v8074 c3_i32_2827
  v8075

def k0_off955 (v8073 : BitVec 32) : Fin 2 → Nat :=
  let c3_i32_2826 : BitVec 32 := 3#32
  let v8074 : BitVec 32 := Scalar.shrsi v8073 c3_i32_2826
  let c3_i32_2827 : BitVec 32 := 3#32
  let v8075 : BitVec 32 := Scalar.shli v8074 c3_i32_2827
  let v8076 : BitVec 32 := v8075
  let v8077 : Index := Scalar.indexCast v8076
  let c0_2828 : Index := 0#32
  ![v8077.toNat, 0]

def k0_chk469 (v8073 : BitVec 32) : Prop :=
  (8 ∣ (k0_mult469 v8073).toNat) ∧
  (∀ a, (k0_off955 v8073) a + S8x512.size a ≤ S20000x512.size a)
theorem k0_mult469_dvd : ∀ (v8073 : BitVec 32) (k0_hw469 : k0_chk469 v8073), 8 ∣ (k0_mult469 v8073).toNat := fun v8073 k0_hw469 => k0_hw469.1
theorem k0_off955_inb : ∀ (v8073 : BitVec 32) (k0_hw469 : k0_chk469 v8073), ∀ a, (k0_off955 v8073) a + S8x512.size a ≤ S20000x512.size a := fun v8073 k0_hw469 => k0_hw469.2

def k0_off956 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2830 : BitVec 32 := 448#32
  let v8087 : BitVec 32 := Scalar.addi v63 c448_i32_2830
  let c21_i32_2831 : BitVec 32 := 21#32
  let v8088 : BitVec 32 := Scalar.addi v8087 c21_i32_2831
  let v8089 : Index := Scalar.indexCast v8088
  ![v8089.toNat]
def k0_mult470 (v8090 : BitVec 32) : BitVec 32 :=
  let c3_i32_2832 : BitVec 32 := 3#32
  let v8091 : BitVec 32 := Scalar.shrsi v8090 c3_i32_2832
  let c3_i32_2833 : BitVec 32 := 3#32
  let v8092 : BitVec 32 := Scalar.shli v8091 c3_i32_2833
  v8092

def k0_off957 (v8090 : BitVec 32) : Fin 2 → Nat :=
  let c3_i32_2832 : BitVec 32 := 3#32
  let v8091 : BitVec 32 := Scalar.shrsi v8090 c3_i32_2832
  let c3_i32_2833 : BitVec 32 := 3#32
  let v8092 : BitVec 32 := Scalar.shli v8091 c3_i32_2833
  let v8093 : BitVec 32 := v8092
  let v8094 : Index := Scalar.indexCast v8093
  let c0_2834 : Index := 0#32
  ![v8094.toNat, 0]

def k0_chk470 (v8090 : BitVec 32) : Prop :=
  (8 ∣ (k0_mult470 v8090).toNat) ∧
  (∀ a, (k0_off957 v8090) a + S8x512.size a ≤ S20000x512.size a)
theorem k0_mult470_dvd : ∀ (v8090 : BitVec 32) (k0_hw470 : k0_chk470 v8090), 8 ∣ (k0_mult470 v8090).toNat := fun v8090 k0_hw470 => k0_hw470.1
theorem k0_off957_inb : ∀ (v8090 : BitVec 32) (k0_hw470 : k0_chk470 v8090), ∀ a, (k0_off957 v8090) a + S8x512.size a ≤ S20000x512.size a := fun v8090 k0_hw470 => k0_hw470.2

def k0_off958 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2836 : BitVec 32 := 448#32
  let v8104 : BitVec 32 := Scalar.addi v63 c448_i32_2836
  let c22_i32_2837 : BitVec 32 := 22#32
  let v8105 : BitVec 32 := Scalar.addi v8104 c22_i32_2837
  let v8106 : Index := Scalar.indexCast v8105
  ![v8106.toNat]
def k0_mult471 (v8107 : BitVec 32) : BitVec 32 :=
  let c3_i32_2838 : BitVec 32 := 3#32
  let v8108 : BitVec 32 := Scalar.shrsi v8107 c3_i32_2838
  let c3_i32_2839 : BitVec 32 := 3#32
  let v8109 : BitVec 32 := Scalar.shli v8108 c3_i32_2839
  v8109

def k0_off959 (v8107 : BitVec 32) : Fin 2 → Nat :=
  let c3_i32_2838 : BitVec 32 := 3#32
  let v8108 : BitVec 32 := Scalar.shrsi v8107 c3_i32_2838
  let c3_i32_2839 : BitVec 32 := 3#32
  let v8109 : BitVec 32 := Scalar.shli v8108 c3_i32_2839
  let v8110 : BitVec 32 := v8109
  let v8111 : Index := Scalar.indexCast v8110
  let c0_2840 : Index := 0#32
  ![v8111.toNat, 0]

def k0_chk471 (v8107 : BitVec 32) : Prop :=
  (8 ∣ (k0_mult471 v8107).toNat) ∧
  (∀ a, (k0_off959 v8107) a + S8x512.size a ≤ S20000x512.size a)
theorem k0_mult471_dvd : ∀ (v8107 : BitVec 32) (k0_hw471 : k0_chk471 v8107), 8 ∣ (k0_mult471 v8107).toNat := fun v8107 k0_hw471 => k0_hw471.1
theorem k0_off959_inb : ∀ (v8107 : BitVec 32) (k0_hw471 : k0_chk471 v8107), ∀ a, (k0_off959 v8107) a + S8x512.size a ≤ S20000x512.size a := fun v8107 k0_hw471 => k0_hw471.2

def k0_off960 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2842 : BitVec 32 := 448#32
  let v8121 : BitVec 32 := Scalar.addi v63 c448_i32_2842
  let c23_i32_2843 : BitVec 32 := 23#32
  let v8122 : BitVec 32 := Scalar.addi v8121 c23_i32_2843
  let v8123 : Index := Scalar.indexCast v8122
  ![v8123.toNat]
def k0_mult472 (v8124 : BitVec 32) : BitVec 32 :=
  let c3_i32_2844 : BitVec 32 := 3#32
  let v8125 : BitVec 32 := Scalar.shrsi v8124 c3_i32_2844
  let c3_i32_2845 : BitVec 32 := 3#32
  let v8126 : BitVec 32 := Scalar.shli v8125 c3_i32_2845
  v8126

def k0_off961 (v8124 : BitVec 32) : Fin 2 → Nat :=
  let c3_i32_2844 : BitVec 32 := 3#32
  let v8125 : BitVec 32 := Scalar.shrsi v8124 c3_i32_2844
  let c3_i32_2845 : BitVec 32 := 3#32
  let v8126 : BitVec 32 := Scalar.shli v8125 c3_i32_2845
  let v8127 : BitVec 32 := v8126
  let v8128 : Index := Scalar.indexCast v8127
  let c0_2846 : Index := 0#32
  ![v8128.toNat, 0]

def k0_chk472 (v8124 : BitVec 32) : Prop :=
  (8 ∣ (k0_mult472 v8124).toNat) ∧
  (∀ a, (k0_off961 v8124) a + S8x512.size a ≤ S20000x512.size a)
theorem k0_mult472_dvd : ∀ (v8124 : BitVec 32) (k0_hw472 : k0_chk472 v8124), 8 ∣ (k0_mult472 v8124).toNat := fun v8124 k0_hw472 => k0_hw472.1
theorem k0_off961_inb : ∀ (v8124 : BitVec 32) (k0_hw472 : k0_chk472 v8124), ∀ a, (k0_off961 v8124) a + S8x512.size a ≤ S20000x512.size a := fun v8124 k0_hw472 => k0_hw472.2

def k0_off962 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2848 : BitVec 32 := 448#32
  let v8138 : BitVec 32 := Scalar.addi v63 c448_i32_2848
  let c24_i32_2849 : BitVec 32 := 24#32
  let v8139 : BitVec 32 := Scalar.addi v8138 c24_i32_2849
  let v8140 : Index := Scalar.indexCast v8139
  ![v8140.toNat]
def k0_mult473 (v8141 : BitVec 32) : BitVec 32 :=
  let c3_i32_2850 : BitVec 32 := 3#32
  let v8142 : BitVec 32 := Scalar.shrsi v8141 c3_i32_2850
  let c3_i32_2851 : BitVec 32 := 3#32
  let v8143 : BitVec 32 := Scalar.shli v8142 c3_i32_2851
  v8143

def k0_off963 (v8141 : BitVec 32) : Fin 2 → Nat :=
  let c3_i32_2850 : BitVec 32 := 3#32
  let v8142 : BitVec 32 := Scalar.shrsi v8141 c3_i32_2850
  let c3_i32_2851 : BitVec 32 := 3#32
  let v8143 : BitVec 32 := Scalar.shli v8142 c3_i32_2851
  let v8144 : BitVec 32 := v8143
  let v8145 : Index := Scalar.indexCast v8144
  let c0_2852 : Index := 0#32
  ![v8145.toNat, 0]

def k0_chk473 (v8141 : BitVec 32) : Prop :=
  (8 ∣ (k0_mult473 v8141).toNat) ∧
  (∀ a, (k0_off963 v8141) a + S8x512.size a ≤ S20000x512.size a)
theorem k0_mult473_dvd : ∀ (v8141 : BitVec 32) (k0_hw473 : k0_chk473 v8141), 8 ∣ (k0_mult473 v8141).toNat := fun v8141 k0_hw473 => k0_hw473.1
theorem k0_off963_inb : ∀ (v8141 : BitVec 32) (k0_hw473 : k0_chk473 v8141), ∀ a, (k0_off963 v8141) a + S8x512.size a ≤ S20000x512.size a := fun v8141 k0_hw473 => k0_hw473.2

def k0_off964 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2854 : BitVec 32 := 448#32
  let v8155 : BitVec 32 := Scalar.addi v63 c448_i32_2854
  let c25_i32_2855 : BitVec 32 := 25#32
  let v8156 : BitVec 32 := Scalar.addi v8155 c25_i32_2855
  let v8157 : Index := Scalar.indexCast v8156
  ![v8157.toNat]
def k0_mult474 (v8158 : BitVec 32) : BitVec 32 :=
  let c3_i32_2856 : BitVec 32 := 3#32
  let v8159 : BitVec 32 := Scalar.shrsi v8158 c3_i32_2856
  let c3_i32_2857 : BitVec 32 := 3#32
  let v8160 : BitVec 32 := Scalar.shli v8159 c3_i32_2857
  v8160

def k0_off965 (v8158 : BitVec 32) : Fin 2 → Nat :=
  let c3_i32_2856 : BitVec 32 := 3#32
  let v8159 : BitVec 32 := Scalar.shrsi v8158 c3_i32_2856
  let c3_i32_2857 : BitVec 32 := 3#32
  let v8160 : BitVec 32 := Scalar.shli v8159 c3_i32_2857
  let v8161 : BitVec 32 := v8160
  let v8162 : Index := Scalar.indexCast v8161
  let c0_2858 : Index := 0#32
  ![v8162.toNat, 0]

def k0_chk474 (v8158 : BitVec 32) : Prop :=
  (8 ∣ (k0_mult474 v8158).toNat) ∧
  (∀ a, (k0_off965 v8158) a + S8x512.size a ≤ S20000x512.size a)
theorem k0_mult474_dvd : ∀ (v8158 : BitVec 32) (k0_hw474 : k0_chk474 v8158), 8 ∣ (k0_mult474 v8158).toNat := fun v8158 k0_hw474 => k0_hw474.1
theorem k0_off965_inb : ∀ (v8158 : BitVec 32) (k0_hw474 : k0_chk474 v8158), ∀ a, (k0_off965 v8158) a + S8x512.size a ≤ S20000x512.size a := fun v8158 k0_hw474 => k0_hw474.2

def k0_off966 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2860 : BitVec 32 := 448#32
  let v8172 : BitVec 32 := Scalar.addi v63 c448_i32_2860
  let c26_i32_2861 : BitVec 32 := 26#32
  let v8173 : BitVec 32 := Scalar.addi v8172 c26_i32_2861
  let v8174 : Index := Scalar.indexCast v8173
  ![v8174.toNat]
def k0_mult475 (v8175 : BitVec 32) : BitVec 32 :=
  let c3_i32_2862 : BitVec 32 := 3#32
  let v8176 : BitVec 32 := Scalar.shrsi v8175 c3_i32_2862
  let c3_i32_2863 : BitVec 32 := 3#32
  let v8177 : BitVec 32 := Scalar.shli v8176 c3_i32_2863
  v8177

def k0_off967 (v8175 : BitVec 32) : Fin 2 → Nat :=
  let c3_i32_2862 : BitVec 32 := 3#32
  let v8176 : BitVec 32 := Scalar.shrsi v8175 c3_i32_2862
  let c3_i32_2863 : BitVec 32 := 3#32
  let v8177 : BitVec 32 := Scalar.shli v8176 c3_i32_2863
  let v8178 : BitVec 32 := v8177
  let v8179 : Index := Scalar.indexCast v8178
  let c0_2864 : Index := 0#32
  ![v8179.toNat, 0]

def k0_chk475 (v8175 : BitVec 32) : Prop :=
  (8 ∣ (k0_mult475 v8175).toNat) ∧
  (∀ a, (k0_off967 v8175) a + S8x512.size a ≤ S20000x512.size a)
theorem k0_mult475_dvd : ∀ (v8175 : BitVec 32) (k0_hw475 : k0_chk475 v8175), 8 ∣ (k0_mult475 v8175).toNat := fun v8175 k0_hw475 => k0_hw475.1
theorem k0_off967_inb : ∀ (v8175 : BitVec 32) (k0_hw475 : k0_chk475 v8175), ∀ a, (k0_off967 v8175) a + S8x512.size a ≤ S20000x512.size a := fun v8175 k0_hw475 => k0_hw475.2

def k0_off968 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2866 : BitVec 32 := 448#32
  let v8189 : BitVec 32 := Scalar.addi v63 c448_i32_2866
  let c27_i32_2867 : BitVec 32 := 27#32
  let v8190 : BitVec 32 := Scalar.addi v8189 c27_i32_2867
  let v8191 : Index := Scalar.indexCast v8190
  ![v8191.toNat]
def k0_mult476 (v8192 : BitVec 32) : BitVec 32 :=
  let c3_i32_2868 : BitVec 32 := 3#32
  let v8193 : BitVec 32 := Scalar.shrsi v8192 c3_i32_2868
  let c3_i32_2869 : BitVec 32 := 3#32
  let v8194 : BitVec 32 := Scalar.shli v8193 c3_i32_2869
  v8194

def k0_off969 (v8192 : BitVec 32) : Fin 2 → Nat :=
  let c3_i32_2868 : BitVec 32 := 3#32
  let v8193 : BitVec 32 := Scalar.shrsi v8192 c3_i32_2868
  let c3_i32_2869 : BitVec 32 := 3#32
  let v8194 : BitVec 32 := Scalar.shli v8193 c3_i32_2869
  let v8195 : BitVec 32 := v8194
  let v8196 : Index := Scalar.indexCast v8195
  let c0_2870 : Index := 0#32
  ![v8196.toNat, 0]

def k0_chk476 (v8192 : BitVec 32) : Prop :=
  (8 ∣ (k0_mult476 v8192).toNat) ∧
  (∀ a, (k0_off969 v8192) a + S8x512.size a ≤ S20000x512.size a)
theorem k0_mult476_dvd : ∀ (v8192 : BitVec 32) (k0_hw476 : k0_chk476 v8192), 8 ∣ (k0_mult476 v8192).toNat := fun v8192 k0_hw476 => k0_hw476.1
theorem k0_off969_inb : ∀ (v8192 : BitVec 32) (k0_hw476 : k0_chk476 v8192), ∀ a, (k0_off969 v8192) a + S8x512.size a ≤ S20000x512.size a := fun v8192 k0_hw476 => k0_hw476.2

def k0_off970 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2872 : BitVec 32 := 448#32
  let v8206 : BitVec 32 := Scalar.addi v63 c448_i32_2872
  let c28_i32_2873 : BitVec 32 := 28#32
  let v8207 : BitVec 32 := Scalar.addi v8206 c28_i32_2873
  let v8208 : Index := Scalar.indexCast v8207
  ![v8208.toNat]
def k0_mult477 (v8209 : BitVec 32) : BitVec 32 :=
  let c3_i32_2874 : BitVec 32 := 3#32
  let v8210 : BitVec 32 := Scalar.shrsi v8209 c3_i32_2874
  let c3_i32_2875 : BitVec 32 := 3#32
  let v8211 : BitVec 32 := Scalar.shli v8210 c3_i32_2875
  v8211

def k0_off971 (v8209 : BitVec 32) : Fin 2 → Nat :=
  let c3_i32_2874 : BitVec 32 := 3#32
  let v8210 : BitVec 32 := Scalar.shrsi v8209 c3_i32_2874
  let c3_i32_2875 : BitVec 32 := 3#32
  let v8211 : BitVec 32 := Scalar.shli v8210 c3_i32_2875
  let v8212 : BitVec 32 := v8211
  let v8213 : Index := Scalar.indexCast v8212
  let c0_2876 : Index := 0#32
  ![v8213.toNat, 0]

def k0_chk477 (v8209 : BitVec 32) : Prop :=
  (8 ∣ (k0_mult477 v8209).toNat) ∧
  (∀ a, (k0_off971 v8209) a + S8x512.size a ≤ S20000x512.size a)
theorem k0_mult477_dvd : ∀ (v8209 : BitVec 32) (k0_hw477 : k0_chk477 v8209), 8 ∣ (k0_mult477 v8209).toNat := fun v8209 k0_hw477 => k0_hw477.1
theorem k0_off971_inb : ∀ (v8209 : BitVec 32) (k0_hw477 : k0_chk477 v8209), ∀ a, (k0_off971 v8209) a + S8x512.size a ≤ S20000x512.size a := fun v8209 k0_hw477 => k0_hw477.2

def k0_off972 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2878 : BitVec 32 := 448#32
  let v8223 : BitVec 32 := Scalar.addi v63 c448_i32_2878
  let c29_i32_2879 : BitVec 32 := 29#32
  let v8224 : BitVec 32 := Scalar.addi v8223 c29_i32_2879
  let v8225 : Index := Scalar.indexCast v8224
  ![v8225.toNat]
def k0_mult478 (v8226 : BitVec 32) : BitVec 32 :=
  let c3_i32_2880 : BitVec 32 := 3#32
  let v8227 : BitVec 32 := Scalar.shrsi v8226 c3_i32_2880
  let c3_i32_2881 : BitVec 32 := 3#32
  let v8228 : BitVec 32 := Scalar.shli v8227 c3_i32_2881
  v8228

def k0_off973 (v8226 : BitVec 32) : Fin 2 → Nat :=
  let c3_i32_2880 : BitVec 32 := 3#32
  let v8227 : BitVec 32 := Scalar.shrsi v8226 c3_i32_2880
  let c3_i32_2881 : BitVec 32 := 3#32
  let v8228 : BitVec 32 := Scalar.shli v8227 c3_i32_2881
  let v8229 : BitVec 32 := v8228
  let v8230 : Index := Scalar.indexCast v8229
  let c0_2882 : Index := 0#32
  ![v8230.toNat, 0]

def k0_chk478 (v8226 : BitVec 32) : Prop :=
  (8 ∣ (k0_mult478 v8226).toNat) ∧
  (∀ a, (k0_off973 v8226) a + S8x512.size a ≤ S20000x512.size a)
theorem k0_mult478_dvd : ∀ (v8226 : BitVec 32) (k0_hw478 : k0_chk478 v8226), 8 ∣ (k0_mult478 v8226).toNat := fun v8226 k0_hw478 => k0_hw478.1
theorem k0_off973_inb : ∀ (v8226 : BitVec 32) (k0_hw478 : k0_chk478 v8226), ∀ a, (k0_off973 v8226) a + S8x512.size a ≤ S20000x512.size a := fun v8226 k0_hw478 => k0_hw478.2

def k0_off974 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2884 : BitVec 32 := 448#32
  let v8240 : BitVec 32 := Scalar.addi v63 c448_i32_2884
  let c30_i32_2885 : BitVec 32 := 30#32
  let v8241 : BitVec 32 := Scalar.addi v8240 c30_i32_2885
  let v8242 : Index := Scalar.indexCast v8241
  ![v8242.toNat]
def k0_mult479 (v8243 : BitVec 32) : BitVec 32 :=
  let c3_i32_2886 : BitVec 32 := 3#32
  let v8244 : BitVec 32 := Scalar.shrsi v8243 c3_i32_2886
  let c3_i32_2887 : BitVec 32 := 3#32
  let v8245 : BitVec 32 := Scalar.shli v8244 c3_i32_2887
  v8245

def k0_off975 (v8243 : BitVec 32) : Fin 2 → Nat :=
  let c3_i32_2886 : BitVec 32 := 3#32
  let v8244 : BitVec 32 := Scalar.shrsi v8243 c3_i32_2886
  let c3_i32_2887 : BitVec 32 := 3#32
  let v8245 : BitVec 32 := Scalar.shli v8244 c3_i32_2887
  let v8246 : BitVec 32 := v8245
  let v8247 : Index := Scalar.indexCast v8246
  let c0_2888 : Index := 0#32
  ![v8247.toNat, 0]

def k0_chk479 (v8243 : BitVec 32) : Prop :=
  (8 ∣ (k0_mult479 v8243).toNat) ∧
  (∀ a, (k0_off975 v8243) a + S8x512.size a ≤ S20000x512.size a)
theorem k0_mult479_dvd : ∀ (v8243 : BitVec 32) (k0_hw479 : k0_chk479 v8243), 8 ∣ (k0_mult479 v8243).toNat := fun v8243 k0_hw479 => k0_hw479.1
theorem k0_off975_inb : ∀ (v8243 : BitVec 32) (k0_hw479 : k0_chk479 v8243), ∀ a, (k0_off975 v8243) a + S8x512.size a ≤ S20000x512.size a := fun v8243 k0_hw479 => k0_hw479.2

def k0_off976 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2890 : BitVec 32 := 448#32
  let v8257 : BitVec 32 := Scalar.addi v63 c448_i32_2890
  let c31_i32_2891 : BitVec 32 := 31#32
  let v8258 : BitVec 32 := Scalar.addi v8257 c31_i32_2891
  let v8259 : Index := Scalar.indexCast v8258
  ![v8259.toNat]
def k0_mult480 (v8260 : BitVec 32) : BitVec 32 :=
  let c3_i32_2892 : BitVec 32 := 3#32
  let v8261 : BitVec 32 := Scalar.shrsi v8260 c3_i32_2892
  let c3_i32_2893 : BitVec 32 := 3#32
  let v8262 : BitVec 32 := Scalar.shli v8261 c3_i32_2893
  v8262

def k0_off977 (v8260 : BitVec 32) : Fin 2 → Nat :=
  let c3_i32_2892 : BitVec 32 := 3#32
  let v8261 : BitVec 32 := Scalar.shrsi v8260 c3_i32_2892
  let c3_i32_2893 : BitVec 32 := 3#32
  let v8262 : BitVec 32 := Scalar.shli v8261 c3_i32_2893
  let v8263 : BitVec 32 := v8262
  let v8264 : Index := Scalar.indexCast v8263
  let c0_2894 : Index := 0#32
  ![v8264.toNat, 0]

def k0_chk480 (v8260 : BitVec 32) : Prop :=
  (8 ∣ (k0_mult480 v8260).toNat) ∧
  (∀ a, (k0_off977 v8260) a + S8x512.size a ≤ S20000x512.size a)
theorem k0_mult480_dvd : ∀ (v8260 : BitVec 32) (k0_hw480 : k0_chk480 v8260), 8 ∣ (k0_mult480 v8260).toNat := fun v8260 k0_hw480 => k0_hw480.1
theorem k0_off977_inb : ∀ (v8260 : BitVec 32) (k0_hw480 : k0_chk480 v8260), ∀ a, (k0_off977 v8260) a + S8x512.size a ≤ S20000x512.size a := fun v8260 k0_hw480 => k0_hw480.2

def k0_off978 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2896 : BitVec 32 := 448#32
  let v8274 : BitVec 32 := Scalar.addi v63 c448_i32_2896
  let c32_i32_2897 : BitVec 32 := 32#32
  let v8275 : BitVec 32 := Scalar.addi v8274 c32_i32_2897
  let v8276 : Index := Scalar.indexCast v8275
  ![v8276.toNat]
def k0_mult481 (v8277 : BitVec 32) : BitVec 32 :=
  let c3_i32_2898 : BitVec 32 := 3#32
  let v8278 : BitVec 32 := Scalar.shrsi v8277 c3_i32_2898
  let c3_i32_2899 : BitVec 32 := 3#32
  let v8279 : BitVec 32 := Scalar.shli v8278 c3_i32_2899
  v8279

def k0_off979 (v8277 : BitVec 32) : Fin 2 → Nat :=
  let c3_i32_2898 : BitVec 32 := 3#32
  let v8278 : BitVec 32 := Scalar.shrsi v8277 c3_i32_2898
  let c3_i32_2899 : BitVec 32 := 3#32
  let v8279 : BitVec 32 := Scalar.shli v8278 c3_i32_2899
  let v8280 : BitVec 32 := v8279
  let v8281 : Index := Scalar.indexCast v8280
  let c0_2900 : Index := 0#32
  ![v8281.toNat, 0]

def k0_chk481 (v8277 : BitVec 32) : Prop :=
  (8 ∣ (k0_mult481 v8277).toNat) ∧
  (∀ a, (k0_off979 v8277) a + S8x512.size a ≤ S20000x512.size a)
theorem k0_mult481_dvd : ∀ (v8277 : BitVec 32) (k0_hw481 : k0_chk481 v8277), 8 ∣ (k0_mult481 v8277).toNat := fun v8277 k0_hw481 => k0_hw481.1
theorem k0_off979_inb : ∀ (v8277 : BitVec 32) (k0_hw481 : k0_chk481 v8277), ∀ a, (k0_off979 v8277) a + S8x512.size a ≤ S20000x512.size a := fun v8277 k0_hw481 => k0_hw481.2

def k0_off980 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2902 : BitVec 32 := 448#32
  let v8291 : BitVec 32 := Scalar.addi v63 c448_i32_2902
  let c33_i32_2903 : BitVec 32 := 33#32
  let v8292 : BitVec 32 := Scalar.addi v8291 c33_i32_2903
  let v8293 : Index := Scalar.indexCast v8292
  ![v8293.toNat]
def k0_mult482 (v8294 : BitVec 32) : BitVec 32 :=
  let c3_i32_2904 : BitVec 32 := 3#32
  let v8295 : BitVec 32 := Scalar.shrsi v8294 c3_i32_2904
  let c3_i32_2905 : BitVec 32 := 3#32
  let v8296 : BitVec 32 := Scalar.shli v8295 c3_i32_2905
  v8296

def k0_off981 (v8294 : BitVec 32) : Fin 2 → Nat :=
  let c3_i32_2904 : BitVec 32 := 3#32
  let v8295 : BitVec 32 := Scalar.shrsi v8294 c3_i32_2904
  let c3_i32_2905 : BitVec 32 := 3#32
  let v8296 : BitVec 32 := Scalar.shli v8295 c3_i32_2905
  let v8297 : BitVec 32 := v8296
  let v8298 : Index := Scalar.indexCast v8297
  let c0_2906 : Index := 0#32
  ![v8298.toNat, 0]

def k0_chk482 (v8294 : BitVec 32) : Prop :=
  (8 ∣ (k0_mult482 v8294).toNat) ∧
  (∀ a, (k0_off981 v8294) a + S8x512.size a ≤ S20000x512.size a)
theorem k0_mult482_dvd : ∀ (v8294 : BitVec 32) (k0_hw482 : k0_chk482 v8294), 8 ∣ (k0_mult482 v8294).toNat := fun v8294 k0_hw482 => k0_hw482.1
theorem k0_off981_inb : ∀ (v8294 : BitVec 32) (k0_hw482 : k0_chk482 v8294), ∀ a, (k0_off981 v8294) a + S8x512.size a ≤ S20000x512.size a := fun v8294 k0_hw482 => k0_hw482.2

def k0_off982 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2908 : BitVec 32 := 448#32
  let v8308 : BitVec 32 := Scalar.addi v63 c448_i32_2908
  let c34_i32_2909 : BitVec 32 := 34#32
  let v8309 : BitVec 32 := Scalar.addi v8308 c34_i32_2909
  let v8310 : Index := Scalar.indexCast v8309
  ![v8310.toNat]
def k0_mult483 (v8311 : BitVec 32) : BitVec 32 :=
  let c3_i32_2910 : BitVec 32 := 3#32
  let v8312 : BitVec 32 := Scalar.shrsi v8311 c3_i32_2910
  let c3_i32_2911 : BitVec 32 := 3#32
  let v8313 : BitVec 32 := Scalar.shli v8312 c3_i32_2911
  v8313

def k0_off983 (v8311 : BitVec 32) : Fin 2 → Nat :=
  let c3_i32_2910 : BitVec 32 := 3#32
  let v8312 : BitVec 32 := Scalar.shrsi v8311 c3_i32_2910
  let c3_i32_2911 : BitVec 32 := 3#32
  let v8313 : BitVec 32 := Scalar.shli v8312 c3_i32_2911
  let v8314 : BitVec 32 := v8313
  let v8315 : Index := Scalar.indexCast v8314
  let c0_2912 : Index := 0#32
  ![v8315.toNat, 0]

def k0_chk483 (v8311 : BitVec 32) : Prop :=
  (8 ∣ (k0_mult483 v8311).toNat) ∧
  (∀ a, (k0_off983 v8311) a + S8x512.size a ≤ S20000x512.size a)
theorem k0_mult483_dvd : ∀ (v8311 : BitVec 32) (k0_hw483 : k0_chk483 v8311), 8 ∣ (k0_mult483 v8311).toNat := fun v8311 k0_hw483 => k0_hw483.1
theorem k0_off983_inb : ∀ (v8311 : BitVec 32) (k0_hw483 : k0_chk483 v8311), ∀ a, (k0_off983 v8311) a + S8x512.size a ≤ S20000x512.size a := fun v8311 k0_hw483 => k0_hw483.2

def k0_off984 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2914 : BitVec 32 := 448#32
  let v8325 : BitVec 32 := Scalar.addi v63 c448_i32_2914
  let c35_i32_2915 : BitVec 32 := 35#32
  let v8326 : BitVec 32 := Scalar.addi v8325 c35_i32_2915
  let v8327 : Index := Scalar.indexCast v8326
  ![v8327.toNat]
def k0_mult484 (v8328 : BitVec 32) : BitVec 32 :=
  let c3_i32_2916 : BitVec 32 := 3#32
  let v8329 : BitVec 32 := Scalar.shrsi v8328 c3_i32_2916
  let c3_i32_2917 : BitVec 32 := 3#32
  let v8330 : BitVec 32 := Scalar.shli v8329 c3_i32_2917
  v8330

def k0_off985 (v8328 : BitVec 32) : Fin 2 → Nat :=
  let c3_i32_2916 : BitVec 32 := 3#32
  let v8329 : BitVec 32 := Scalar.shrsi v8328 c3_i32_2916
  let c3_i32_2917 : BitVec 32 := 3#32
  let v8330 : BitVec 32 := Scalar.shli v8329 c3_i32_2917
  let v8331 : BitVec 32 := v8330
  let v8332 : Index := Scalar.indexCast v8331
  let c0_2918 : Index := 0#32
  ![v8332.toNat, 0]

def k0_chk484 (v8328 : BitVec 32) : Prop :=
  (8 ∣ (k0_mult484 v8328).toNat) ∧
  (∀ a, (k0_off985 v8328) a + S8x512.size a ≤ S20000x512.size a)
theorem k0_mult484_dvd : ∀ (v8328 : BitVec 32) (k0_hw484 : k0_chk484 v8328), 8 ∣ (k0_mult484 v8328).toNat := fun v8328 k0_hw484 => k0_hw484.1
theorem k0_off985_inb : ∀ (v8328 : BitVec 32) (k0_hw484 : k0_chk484 v8328), ∀ a, (k0_off985 v8328) a + S8x512.size a ≤ S20000x512.size a := fun v8328 k0_hw484 => k0_hw484.2

def k0_off986 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2920 : BitVec 32 := 448#32
  let v8342 : BitVec 32 := Scalar.addi v63 c448_i32_2920
  let c36_i32_2921 : BitVec 32 := 36#32
  let v8343 : BitVec 32 := Scalar.addi v8342 c36_i32_2921
  let v8344 : Index := Scalar.indexCast v8343
  ![v8344.toNat]
def k0_mult485 (v8345 : BitVec 32) : BitVec 32 :=
  let c3_i32_2922 : BitVec 32 := 3#32
  let v8346 : BitVec 32 := Scalar.shrsi v8345 c3_i32_2922
  let c3_i32_2923 : BitVec 32 := 3#32
  let v8347 : BitVec 32 := Scalar.shli v8346 c3_i32_2923
  v8347

def k0_off987 (v8345 : BitVec 32) : Fin 2 → Nat :=
  let c3_i32_2922 : BitVec 32 := 3#32
  let v8346 : BitVec 32 := Scalar.shrsi v8345 c3_i32_2922
  let c3_i32_2923 : BitVec 32 := 3#32
  let v8347 : BitVec 32 := Scalar.shli v8346 c3_i32_2923
  let v8348 : BitVec 32 := v8347
  let v8349 : Index := Scalar.indexCast v8348
  let c0_2924 : Index := 0#32
  ![v8349.toNat, 0]

def k0_chk485 (v8345 : BitVec 32) : Prop :=
  (8 ∣ (k0_mult485 v8345).toNat) ∧
  (∀ a, (k0_off987 v8345) a + S8x512.size a ≤ S20000x512.size a)
theorem k0_mult485_dvd : ∀ (v8345 : BitVec 32) (k0_hw485 : k0_chk485 v8345), 8 ∣ (k0_mult485 v8345).toNat := fun v8345 k0_hw485 => k0_hw485.1
theorem k0_off987_inb : ∀ (v8345 : BitVec 32) (k0_hw485 : k0_chk485 v8345), ∀ a, (k0_off987 v8345) a + S8x512.size a ≤ S20000x512.size a := fun v8345 k0_hw485 => k0_hw485.2

def k0_off988 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2926 : BitVec 32 := 448#32
  let v8359 : BitVec 32 := Scalar.addi v63 c448_i32_2926
  let c37_i32_2927 : BitVec 32 := 37#32
  let v8360 : BitVec 32 := Scalar.addi v8359 c37_i32_2927
  let v8361 : Index := Scalar.indexCast v8360
  ![v8361.toNat]
def k0_mult486 (v8362 : BitVec 32) : BitVec 32 :=
  let c3_i32_2928 : BitVec 32 := 3#32
  let v8363 : BitVec 32 := Scalar.shrsi v8362 c3_i32_2928
  let c3_i32_2929 : BitVec 32 := 3#32
  let v8364 : BitVec 32 := Scalar.shli v8363 c3_i32_2929
  v8364

def k0_off989 (v8362 : BitVec 32) : Fin 2 → Nat :=
  let c3_i32_2928 : BitVec 32 := 3#32
  let v8363 : BitVec 32 := Scalar.shrsi v8362 c3_i32_2928
  let c3_i32_2929 : BitVec 32 := 3#32
  let v8364 : BitVec 32 := Scalar.shli v8363 c3_i32_2929
  let v8365 : BitVec 32 := v8364
  let v8366 : Index := Scalar.indexCast v8365
  let c0_2930 : Index := 0#32
  ![v8366.toNat, 0]

def k0_chk486 (v8362 : BitVec 32) : Prop :=
  (8 ∣ (k0_mult486 v8362).toNat) ∧
  (∀ a, (k0_off989 v8362) a + S8x512.size a ≤ S20000x512.size a)
theorem k0_mult486_dvd : ∀ (v8362 : BitVec 32) (k0_hw486 : k0_chk486 v8362), 8 ∣ (k0_mult486 v8362).toNat := fun v8362 k0_hw486 => k0_hw486.1
theorem k0_off989_inb : ∀ (v8362 : BitVec 32) (k0_hw486 : k0_chk486 v8362), ∀ a, (k0_off989 v8362) a + S8x512.size a ≤ S20000x512.size a := fun v8362 k0_hw486 => k0_hw486.2

def k0_off990 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2932 : BitVec 32 := 448#32
  let v8376 : BitVec 32 := Scalar.addi v63 c448_i32_2932
  let c38_i32_2933 : BitVec 32 := 38#32
  let v8377 : BitVec 32 := Scalar.addi v8376 c38_i32_2933
  let v8378 : Index := Scalar.indexCast v8377
  ![v8378.toNat]
def k0_mult487 (v8379 : BitVec 32) : BitVec 32 :=
  let c3_i32_2934 : BitVec 32 := 3#32
  let v8380 : BitVec 32 := Scalar.shrsi v8379 c3_i32_2934
  let c3_i32_2935 : BitVec 32 := 3#32
  let v8381 : BitVec 32 := Scalar.shli v8380 c3_i32_2935
  v8381

def k0_off991 (v8379 : BitVec 32) : Fin 2 → Nat :=
  let c3_i32_2934 : BitVec 32 := 3#32
  let v8380 : BitVec 32 := Scalar.shrsi v8379 c3_i32_2934
  let c3_i32_2935 : BitVec 32 := 3#32
  let v8381 : BitVec 32 := Scalar.shli v8380 c3_i32_2935
  let v8382 : BitVec 32 := v8381
  let v8383 : Index := Scalar.indexCast v8382
  let c0_2936 : Index := 0#32
  ![v8383.toNat, 0]

def k0_chk487 (v8379 : BitVec 32) : Prop :=
  (8 ∣ (k0_mult487 v8379).toNat) ∧
  (∀ a, (k0_off991 v8379) a + S8x512.size a ≤ S20000x512.size a)
theorem k0_mult487_dvd : ∀ (v8379 : BitVec 32) (k0_hw487 : k0_chk487 v8379), 8 ∣ (k0_mult487 v8379).toNat := fun v8379 k0_hw487 => k0_hw487.1
theorem k0_off991_inb : ∀ (v8379 : BitVec 32) (k0_hw487 : k0_chk487 v8379), ∀ a, (k0_off991 v8379) a + S8x512.size a ≤ S20000x512.size a := fun v8379 k0_hw487 => k0_hw487.2

def k0_off992 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2938 : BitVec 32 := 448#32
  let v8393 : BitVec 32 := Scalar.addi v63 c448_i32_2938
  let c39_i32_2939 : BitVec 32 := 39#32
  let v8394 : BitVec 32 := Scalar.addi v8393 c39_i32_2939
  let v8395 : Index := Scalar.indexCast v8394
  ![v8395.toNat]
def k0_mult488 (v8396 : BitVec 32) : BitVec 32 :=
  let c3_i32_2940 : BitVec 32 := 3#32
  let v8397 : BitVec 32 := Scalar.shrsi v8396 c3_i32_2940
  let c3_i32_2941 : BitVec 32 := 3#32
  let v8398 : BitVec 32 := Scalar.shli v8397 c3_i32_2941
  v8398

def k0_off993 (v8396 : BitVec 32) : Fin 2 → Nat :=
  let c3_i32_2940 : BitVec 32 := 3#32
  let v8397 : BitVec 32 := Scalar.shrsi v8396 c3_i32_2940
  let c3_i32_2941 : BitVec 32 := 3#32
  let v8398 : BitVec 32 := Scalar.shli v8397 c3_i32_2941
  let v8399 : BitVec 32 := v8398
  let v8400 : Index := Scalar.indexCast v8399
  let c0_2942 : Index := 0#32
  ![v8400.toNat, 0]

def k0_chk488 (v8396 : BitVec 32) : Prop :=
  (8 ∣ (k0_mult488 v8396).toNat) ∧
  (∀ a, (k0_off993 v8396) a + S8x512.size a ≤ S20000x512.size a)
theorem k0_mult488_dvd : ∀ (v8396 : BitVec 32) (k0_hw488 : k0_chk488 v8396), 8 ∣ (k0_mult488 v8396).toNat := fun v8396 k0_hw488 => k0_hw488.1
theorem k0_off993_inb : ∀ (v8396 : BitVec 32) (k0_hw488 : k0_chk488 v8396), ∀ a, (k0_off993 v8396) a + S8x512.size a ≤ S20000x512.size a := fun v8396 k0_hw488 => k0_hw488.2

def k0_off994 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2944 : BitVec 32 := 448#32
  let v8410 : BitVec 32 := Scalar.addi v63 c448_i32_2944
  let c40_i32_2945 : BitVec 32 := 40#32
  let v8411 : BitVec 32 := Scalar.addi v8410 c40_i32_2945
  let v8412 : Index := Scalar.indexCast v8411
  ![v8412.toNat]
def k0_mult489 (v8413 : BitVec 32) : BitVec 32 :=
  let c3_i32_2946 : BitVec 32 := 3#32
  let v8414 : BitVec 32 := Scalar.shrsi v8413 c3_i32_2946
  let c3_i32_2947 : BitVec 32 := 3#32
  let v8415 : BitVec 32 := Scalar.shli v8414 c3_i32_2947
  v8415

def k0_off995 (v8413 : BitVec 32) : Fin 2 → Nat :=
  let c3_i32_2946 : BitVec 32 := 3#32
  let v8414 : BitVec 32 := Scalar.shrsi v8413 c3_i32_2946
  let c3_i32_2947 : BitVec 32 := 3#32
  let v8415 : BitVec 32 := Scalar.shli v8414 c3_i32_2947
  let v8416 : BitVec 32 := v8415
  let v8417 : Index := Scalar.indexCast v8416
  let c0_2948 : Index := 0#32
  ![v8417.toNat, 0]

def k0_chk489 (v8413 : BitVec 32) : Prop :=
  (8 ∣ (k0_mult489 v8413).toNat) ∧
  (∀ a, (k0_off995 v8413) a + S8x512.size a ≤ S20000x512.size a)
theorem k0_mult489_dvd : ∀ (v8413 : BitVec 32) (k0_hw489 : k0_chk489 v8413), 8 ∣ (k0_mult489 v8413).toNat := fun v8413 k0_hw489 => k0_hw489.1
theorem k0_off995_inb : ∀ (v8413 : BitVec 32) (k0_hw489 : k0_chk489 v8413), ∀ a, (k0_off995 v8413) a + S8x512.size a ≤ S20000x512.size a := fun v8413 k0_hw489 => k0_hw489.2

def k0_off996 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2950 : BitVec 32 := 448#32
  let v8427 : BitVec 32 := Scalar.addi v63 c448_i32_2950
  let c41_i32_2951 : BitVec 32 := 41#32
  let v8428 : BitVec 32 := Scalar.addi v8427 c41_i32_2951
  let v8429 : Index := Scalar.indexCast v8428
  ![v8429.toNat]
def k0_mult490 (v8430 : BitVec 32) : BitVec 32 :=
  let c3_i32_2952 : BitVec 32 := 3#32
  let v8431 : BitVec 32 := Scalar.shrsi v8430 c3_i32_2952
  let c3_i32_2953 : BitVec 32 := 3#32
  let v8432 : BitVec 32 := Scalar.shli v8431 c3_i32_2953
  v8432

def k0_off997 (v8430 : BitVec 32) : Fin 2 → Nat :=
  let c3_i32_2952 : BitVec 32 := 3#32
  let v8431 : BitVec 32 := Scalar.shrsi v8430 c3_i32_2952
  let c3_i32_2953 : BitVec 32 := 3#32
  let v8432 : BitVec 32 := Scalar.shli v8431 c3_i32_2953
  let v8433 : BitVec 32 := v8432
  let v8434 : Index := Scalar.indexCast v8433
  let c0_2954 : Index := 0#32
  ![v8434.toNat, 0]

def k0_chk490 (v8430 : BitVec 32) : Prop :=
  (8 ∣ (k0_mult490 v8430).toNat) ∧
  (∀ a, (k0_off997 v8430) a + S8x512.size a ≤ S20000x512.size a)
theorem k0_mult490_dvd : ∀ (v8430 : BitVec 32) (k0_hw490 : k0_chk490 v8430), 8 ∣ (k0_mult490 v8430).toNat := fun v8430 k0_hw490 => k0_hw490.1
theorem k0_off997_inb : ∀ (v8430 : BitVec 32) (k0_hw490 : k0_chk490 v8430), ∀ a, (k0_off997 v8430) a + S8x512.size a ≤ S20000x512.size a := fun v8430 k0_hw490 => k0_hw490.2

def k0_off998 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2956 : BitVec 32 := 448#32
  let v8444 : BitVec 32 := Scalar.addi v63 c448_i32_2956
  let c42_i32_2957 : BitVec 32 := 42#32
  let v8445 : BitVec 32 := Scalar.addi v8444 c42_i32_2957
  let v8446 : Index := Scalar.indexCast v8445
  ![v8446.toNat]
def k0_mult491 (v8447 : BitVec 32) : BitVec 32 :=
  let c3_i32_2958 : BitVec 32 := 3#32
  let v8448 : BitVec 32 := Scalar.shrsi v8447 c3_i32_2958
  let c3_i32_2959 : BitVec 32 := 3#32
  let v8449 : BitVec 32 := Scalar.shli v8448 c3_i32_2959
  v8449

def k0_off999 (v8447 : BitVec 32) : Fin 2 → Nat :=
  let c3_i32_2958 : BitVec 32 := 3#32
  let v8448 : BitVec 32 := Scalar.shrsi v8447 c3_i32_2958
  let c3_i32_2959 : BitVec 32 := 3#32
  let v8449 : BitVec 32 := Scalar.shli v8448 c3_i32_2959
  let v8450 : BitVec 32 := v8449
  let v8451 : Index := Scalar.indexCast v8450
  let c0_2960 : Index := 0#32
  ![v8451.toNat, 0]

def k0_chk491 (v8447 : BitVec 32) : Prop :=
  (8 ∣ (k0_mult491 v8447).toNat) ∧
  (∀ a, (k0_off999 v8447) a + S8x512.size a ≤ S20000x512.size a)
theorem k0_mult491_dvd : ∀ (v8447 : BitVec 32) (k0_hw491 : k0_chk491 v8447), 8 ∣ (k0_mult491 v8447).toNat := fun v8447 k0_hw491 => k0_hw491.1
theorem k0_off999_inb : ∀ (v8447 : BitVec 32) (k0_hw491 : k0_chk491 v8447), ∀ a, (k0_off999 v8447) a + S8x512.size a ≤ S20000x512.size a := fun v8447 k0_hw491 => k0_hw491.2

def k0_off1000 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2962 : BitVec 32 := 448#32
  let v8461 : BitVec 32 := Scalar.addi v63 c448_i32_2962
  let c43_i32_2963 : BitVec 32 := 43#32
  let v8462 : BitVec 32 := Scalar.addi v8461 c43_i32_2963
  let v8463 : Index := Scalar.indexCast v8462
  ![v8463.toNat]
def k0_mult492 (v8464 : BitVec 32) : BitVec 32 :=
  let c3_i32_2964 : BitVec 32 := 3#32
  let v8465 : BitVec 32 := Scalar.shrsi v8464 c3_i32_2964
  let c3_i32_2965 : BitVec 32 := 3#32
  let v8466 : BitVec 32 := Scalar.shli v8465 c3_i32_2965
  v8466

def k0_off1001 (v8464 : BitVec 32) : Fin 2 → Nat :=
  let c3_i32_2964 : BitVec 32 := 3#32
  let v8465 : BitVec 32 := Scalar.shrsi v8464 c3_i32_2964
  let c3_i32_2965 : BitVec 32 := 3#32
  let v8466 : BitVec 32 := Scalar.shli v8465 c3_i32_2965
  let v8467 : BitVec 32 := v8466
  let v8468 : Index := Scalar.indexCast v8467
  let c0_2966 : Index := 0#32
  ![v8468.toNat, 0]

def k0_chk492 (v8464 : BitVec 32) : Prop :=
  (8 ∣ (k0_mult492 v8464).toNat) ∧
  (∀ a, (k0_off1001 v8464) a + S8x512.size a ≤ S20000x512.size a)
theorem k0_mult492_dvd : ∀ (v8464 : BitVec 32) (k0_hw492 : k0_chk492 v8464), 8 ∣ (k0_mult492 v8464).toNat := fun v8464 k0_hw492 => k0_hw492.1
theorem k0_off1001_inb : ∀ (v8464 : BitVec 32) (k0_hw492 : k0_chk492 v8464), ∀ a, (k0_off1001 v8464) a + S8x512.size a ≤ S20000x512.size a := fun v8464 k0_hw492 => k0_hw492.2

def k0_off1002 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2968 : BitVec 32 := 448#32
  let v8478 : BitVec 32 := Scalar.addi v63 c448_i32_2968
  let c44_i32_2969 : BitVec 32 := 44#32
  let v8479 : BitVec 32 := Scalar.addi v8478 c44_i32_2969
  let v8480 : Index := Scalar.indexCast v8479
  ![v8480.toNat]
def k0_mult493 (v8481 : BitVec 32) : BitVec 32 :=
  let c3_i32_2970 : BitVec 32 := 3#32
  let v8482 : BitVec 32 := Scalar.shrsi v8481 c3_i32_2970
  let c3_i32_2971 : BitVec 32 := 3#32
  let v8483 : BitVec 32 := Scalar.shli v8482 c3_i32_2971
  v8483

def k0_off1003 (v8481 : BitVec 32) : Fin 2 → Nat :=
  let c3_i32_2970 : BitVec 32 := 3#32
  let v8482 : BitVec 32 := Scalar.shrsi v8481 c3_i32_2970
  let c3_i32_2971 : BitVec 32 := 3#32
  let v8483 : BitVec 32 := Scalar.shli v8482 c3_i32_2971
  let v8484 : BitVec 32 := v8483
  let v8485 : Index := Scalar.indexCast v8484
  let c0_2972 : Index := 0#32
  ![v8485.toNat, 0]

def k0_chk493 (v8481 : BitVec 32) : Prop :=
  (8 ∣ (k0_mult493 v8481).toNat) ∧
  (∀ a, (k0_off1003 v8481) a + S8x512.size a ≤ S20000x512.size a)
theorem k0_mult493_dvd : ∀ (v8481 : BitVec 32) (k0_hw493 : k0_chk493 v8481), 8 ∣ (k0_mult493 v8481).toNat := fun v8481 k0_hw493 => k0_hw493.1
theorem k0_off1003_inb : ∀ (v8481 : BitVec 32) (k0_hw493 : k0_chk493 v8481), ∀ a, (k0_off1003 v8481) a + S8x512.size a ≤ S20000x512.size a := fun v8481 k0_hw493 => k0_hw493.2

def k0_off1004 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2974 : BitVec 32 := 448#32
  let v8495 : BitVec 32 := Scalar.addi v63 c448_i32_2974
  let c45_i32_2975 : BitVec 32 := 45#32
  let v8496 : BitVec 32 := Scalar.addi v8495 c45_i32_2975
  let v8497 : Index := Scalar.indexCast v8496
  ![v8497.toNat]
def k0_mult494 (v8498 : BitVec 32) : BitVec 32 :=
  let c3_i32_2976 : BitVec 32 := 3#32
  let v8499 : BitVec 32 := Scalar.shrsi v8498 c3_i32_2976
  let c3_i32_2977 : BitVec 32 := 3#32
  let v8500 : BitVec 32 := Scalar.shli v8499 c3_i32_2977
  v8500

def k0_off1005 (v8498 : BitVec 32) : Fin 2 → Nat :=
  let c3_i32_2976 : BitVec 32 := 3#32
  let v8499 : BitVec 32 := Scalar.shrsi v8498 c3_i32_2976
  let c3_i32_2977 : BitVec 32 := 3#32
  let v8500 : BitVec 32 := Scalar.shli v8499 c3_i32_2977
  let v8501 : BitVec 32 := v8500
  let v8502 : Index := Scalar.indexCast v8501
  let c0_2978 : Index := 0#32
  ![v8502.toNat, 0]

def k0_chk494 (v8498 : BitVec 32) : Prop :=
  (8 ∣ (k0_mult494 v8498).toNat) ∧
  (∀ a, (k0_off1005 v8498) a + S8x512.size a ≤ S20000x512.size a)
theorem k0_mult494_dvd : ∀ (v8498 : BitVec 32) (k0_hw494 : k0_chk494 v8498), 8 ∣ (k0_mult494 v8498).toNat := fun v8498 k0_hw494 => k0_hw494.1
theorem k0_off1005_inb : ∀ (v8498 : BitVec 32) (k0_hw494 : k0_chk494 v8498), ∀ a, (k0_off1005 v8498) a + S8x512.size a ≤ S20000x512.size a := fun v8498 k0_hw494 => k0_hw494.2

def k0_off1006 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2980 : BitVec 32 := 448#32
  let v8512 : BitVec 32 := Scalar.addi v63 c448_i32_2980
  let c46_i32_2981 : BitVec 32 := 46#32
  let v8513 : BitVec 32 := Scalar.addi v8512 c46_i32_2981
  let v8514 : Index := Scalar.indexCast v8513
  ![v8514.toNat]
def k0_mult495 (v8515 : BitVec 32) : BitVec 32 :=
  let c3_i32_2982 : BitVec 32 := 3#32
  let v8516 : BitVec 32 := Scalar.shrsi v8515 c3_i32_2982
  let c3_i32_2983 : BitVec 32 := 3#32
  let v8517 : BitVec 32 := Scalar.shli v8516 c3_i32_2983
  v8517

def k0_off1007 (v8515 : BitVec 32) : Fin 2 → Nat :=
  let c3_i32_2982 : BitVec 32 := 3#32
  let v8516 : BitVec 32 := Scalar.shrsi v8515 c3_i32_2982
  let c3_i32_2983 : BitVec 32 := 3#32
  let v8517 : BitVec 32 := Scalar.shli v8516 c3_i32_2983
  let v8518 : BitVec 32 := v8517
  let v8519 : Index := Scalar.indexCast v8518
  let c0_2984 : Index := 0#32
  ![v8519.toNat, 0]

def k0_chk495 (v8515 : BitVec 32) : Prop :=
  (8 ∣ (k0_mult495 v8515).toNat) ∧
  (∀ a, (k0_off1007 v8515) a + S8x512.size a ≤ S20000x512.size a)
theorem k0_mult495_dvd : ∀ (v8515 : BitVec 32) (k0_hw495 : k0_chk495 v8515), 8 ∣ (k0_mult495 v8515).toNat := fun v8515 k0_hw495 => k0_hw495.1
theorem k0_off1007_inb : ∀ (v8515 : BitVec 32) (k0_hw495 : k0_chk495 v8515), ∀ a, (k0_off1007 v8515) a + S8x512.size a ≤ S20000x512.size a := fun v8515 k0_hw495 => k0_hw495.2

def k0_off1008 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2986 : BitVec 32 := 448#32
  let v8529 : BitVec 32 := Scalar.addi v63 c448_i32_2986
  let c47_i32_2987 : BitVec 32 := 47#32
  let v8530 : BitVec 32 := Scalar.addi v8529 c47_i32_2987
  let v8531 : Index := Scalar.indexCast v8530
  ![v8531.toNat]
def k0_mult496 (v8532 : BitVec 32) : BitVec 32 :=
  let c3_i32_2988 : BitVec 32 := 3#32
  let v8533 : BitVec 32 := Scalar.shrsi v8532 c3_i32_2988
  let c3_i32_2989 : BitVec 32 := 3#32
  let v8534 : BitVec 32 := Scalar.shli v8533 c3_i32_2989
  v8534

def k0_off1009 (v8532 : BitVec 32) : Fin 2 → Nat :=
  let c3_i32_2988 : BitVec 32 := 3#32
  let v8533 : BitVec 32 := Scalar.shrsi v8532 c3_i32_2988
  let c3_i32_2989 : BitVec 32 := 3#32
  let v8534 : BitVec 32 := Scalar.shli v8533 c3_i32_2989
  let v8535 : BitVec 32 := v8534
  let v8536 : Index := Scalar.indexCast v8535
  let c0_2990 : Index := 0#32
  ![v8536.toNat, 0]

def k0_chk496 (v8532 : BitVec 32) : Prop :=
  (8 ∣ (k0_mult496 v8532).toNat) ∧
  (∀ a, (k0_off1009 v8532) a + S8x512.size a ≤ S20000x512.size a)
theorem k0_mult496_dvd : ∀ (v8532 : BitVec 32) (k0_hw496 : k0_chk496 v8532), 8 ∣ (k0_mult496 v8532).toNat := fun v8532 k0_hw496 => k0_hw496.1
theorem k0_off1009_inb : ∀ (v8532 : BitVec 32) (k0_hw496 : k0_chk496 v8532), ∀ a, (k0_off1009 v8532) a + S8x512.size a ≤ S20000x512.size a := fun v8532 k0_hw496 => k0_hw496.2

def k0_off1010 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2992 : BitVec 32 := 448#32
  let v8546 : BitVec 32 := Scalar.addi v63 c448_i32_2992
  let c48_i32_2993 : BitVec 32 := 48#32
  let v8547 : BitVec 32 := Scalar.addi v8546 c48_i32_2993
  let v8548 : Index := Scalar.indexCast v8547
  ![v8548.toNat]
def k0_mult497 (v8549 : BitVec 32) : BitVec 32 :=
  let c3_i32_2994 : BitVec 32 := 3#32
  let v8550 : BitVec 32 := Scalar.shrsi v8549 c3_i32_2994
  let c3_i32_2995 : BitVec 32 := 3#32
  let v8551 : BitVec 32 := Scalar.shli v8550 c3_i32_2995
  v8551

def k0_off1011 (v8549 : BitVec 32) : Fin 2 → Nat :=
  let c3_i32_2994 : BitVec 32 := 3#32
  let v8550 : BitVec 32 := Scalar.shrsi v8549 c3_i32_2994
  let c3_i32_2995 : BitVec 32 := 3#32
  let v8551 : BitVec 32 := Scalar.shli v8550 c3_i32_2995
  let v8552 : BitVec 32 := v8551
  let v8553 : Index := Scalar.indexCast v8552
  let c0_2996 : Index := 0#32
  ![v8553.toNat, 0]

def k0_chk497 (v8549 : BitVec 32) : Prop :=
  (8 ∣ (k0_mult497 v8549).toNat) ∧
  (∀ a, (k0_off1011 v8549) a + S8x512.size a ≤ S20000x512.size a)
theorem k0_mult497_dvd : ∀ (v8549 : BitVec 32) (k0_hw497 : k0_chk497 v8549), 8 ∣ (k0_mult497 v8549).toNat := fun v8549 k0_hw497 => k0_hw497.1
theorem k0_off1011_inb : ∀ (v8549 : BitVec 32) (k0_hw497 : k0_chk497 v8549), ∀ a, (k0_off1011 v8549) a + S8x512.size a ≤ S20000x512.size a := fun v8549 k0_hw497 => k0_hw497.2

def k0_off1012 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_2998 : BitVec 32 := 448#32
  let v8563 : BitVec 32 := Scalar.addi v63 c448_i32_2998
  let c49_i32_2999 : BitVec 32 := 49#32
  let v8564 : BitVec 32 := Scalar.addi v8563 c49_i32_2999
  let v8565 : Index := Scalar.indexCast v8564
  ![v8565.toNat]
def k0_mult498 (v8566 : BitVec 32) : BitVec 32 :=
  let c3_i32_3000 : BitVec 32 := 3#32
  let v8567 : BitVec 32 := Scalar.shrsi v8566 c3_i32_3000
  let c3_i32_3001 : BitVec 32 := 3#32
  let v8568 : BitVec 32 := Scalar.shli v8567 c3_i32_3001
  v8568

def k0_off1013 (v8566 : BitVec 32) : Fin 2 → Nat :=
  let c3_i32_3000 : BitVec 32 := 3#32
  let v8567 : BitVec 32 := Scalar.shrsi v8566 c3_i32_3000
  let c3_i32_3001 : BitVec 32 := 3#32
  let v8568 : BitVec 32 := Scalar.shli v8567 c3_i32_3001
  let v8569 : BitVec 32 := v8568
  let v8570 : Index := Scalar.indexCast v8569
  let c0_3002 : Index := 0#32
  ![v8570.toNat, 0]

def k0_chk498 (v8566 : BitVec 32) : Prop :=
  (8 ∣ (k0_mult498 v8566).toNat) ∧
  (∀ a, (k0_off1013 v8566) a + S8x512.size a ≤ S20000x512.size a)
theorem k0_mult498_dvd : ∀ (v8566 : BitVec 32) (k0_hw498 : k0_chk498 v8566), 8 ∣ (k0_mult498 v8566).toNat := fun v8566 k0_hw498 => k0_hw498.1
theorem k0_off1013_inb : ∀ (v8566 : BitVec 32) (k0_hw498 : k0_chk498 v8566), ∀ a, (k0_off1013 v8566) a + S8x512.size a ≤ S20000x512.size a := fun v8566 k0_hw498 => k0_hw498.2

def k0_off1014 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_3004 : BitVec 32 := 448#32
  let v8580 : BitVec 32 := Scalar.addi v63 c448_i32_3004
  let c50_i32_3005 : BitVec 32 := 50#32
  let v8581 : BitVec 32 := Scalar.addi v8580 c50_i32_3005
  let v8582 : Index := Scalar.indexCast v8581
  ![v8582.toNat]
def k0_mult499 (v8583 : BitVec 32) : BitVec 32 :=
  let c3_i32_3006 : BitVec 32 := 3#32
  let v8584 : BitVec 32 := Scalar.shrsi v8583 c3_i32_3006
  let c3_i32_3007 : BitVec 32 := 3#32
  let v8585 : BitVec 32 := Scalar.shli v8584 c3_i32_3007
  v8585

def k0_off1015 (v8583 : BitVec 32) : Fin 2 → Nat :=
  let c3_i32_3006 : BitVec 32 := 3#32
  let v8584 : BitVec 32 := Scalar.shrsi v8583 c3_i32_3006
  let c3_i32_3007 : BitVec 32 := 3#32
  let v8585 : BitVec 32 := Scalar.shli v8584 c3_i32_3007
  let v8586 : BitVec 32 := v8585
  let v8587 : Index := Scalar.indexCast v8586
  let c0_3008 : Index := 0#32
  ![v8587.toNat, 0]

def k0_chk499 (v8583 : BitVec 32) : Prop :=
  (8 ∣ (k0_mult499 v8583).toNat) ∧
  (∀ a, (k0_off1015 v8583) a + S8x512.size a ≤ S20000x512.size a)
theorem k0_mult499_dvd : ∀ (v8583 : BitVec 32) (k0_hw499 : k0_chk499 v8583), 8 ∣ (k0_mult499 v8583).toNat := fun v8583 k0_hw499 => k0_hw499.1
theorem k0_off1015_inb : ∀ (v8583 : BitVec 32) (k0_hw499 : k0_chk499 v8583), ∀ a, (k0_off1015 v8583) a + S8x512.size a ≤ S20000x512.size a := fun v8583 k0_hw499 => k0_hw499.2

def k0_off1016 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_3010 : BitVec 32 := 448#32
  let v8597 : BitVec 32 := Scalar.addi v63 c448_i32_3010
  let c51_i32_3011 : BitVec 32 := 51#32
  let v8598 : BitVec 32 := Scalar.addi v8597 c51_i32_3011
  let v8599 : Index := Scalar.indexCast v8598
  ![v8599.toNat]
def k0_mult500 (v8600 : BitVec 32) : BitVec 32 :=
  let c3_i32_3012 : BitVec 32 := 3#32
  let v8601 : BitVec 32 := Scalar.shrsi v8600 c3_i32_3012
  let c3_i32_3013 : BitVec 32 := 3#32
  let v8602 : BitVec 32 := Scalar.shli v8601 c3_i32_3013
  v8602

def k0_off1017 (v8600 : BitVec 32) : Fin 2 → Nat :=
  let c3_i32_3012 : BitVec 32 := 3#32
  let v8601 : BitVec 32 := Scalar.shrsi v8600 c3_i32_3012
  let c3_i32_3013 : BitVec 32 := 3#32
  let v8602 : BitVec 32 := Scalar.shli v8601 c3_i32_3013
  let v8603 : BitVec 32 := v8602
  let v8604 : Index := Scalar.indexCast v8603
  let c0_3014 : Index := 0#32
  ![v8604.toNat, 0]

def k0_chk500 (v8600 : BitVec 32) : Prop :=
  (8 ∣ (k0_mult500 v8600).toNat) ∧
  (∀ a, (k0_off1017 v8600) a + S8x512.size a ≤ S20000x512.size a)
theorem k0_mult500_dvd : ∀ (v8600 : BitVec 32) (k0_hw500 : k0_chk500 v8600), 8 ∣ (k0_mult500 v8600).toNat := fun v8600 k0_hw500 => k0_hw500.1
theorem k0_off1017_inb : ∀ (v8600 : BitVec 32) (k0_hw500 : k0_chk500 v8600), ∀ a, (k0_off1017 v8600) a + S8x512.size a ≤ S20000x512.size a := fun v8600 k0_hw500 => k0_hw500.2

def k0_off1018 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_3016 : BitVec 32 := 448#32
  let v8614 : BitVec 32 := Scalar.addi v63 c448_i32_3016
  let c52_i32_3017 : BitVec 32 := 52#32
  let v8615 : BitVec 32 := Scalar.addi v8614 c52_i32_3017
  let v8616 : Index := Scalar.indexCast v8615
  ![v8616.toNat]
def k0_mult501 (v8617 : BitVec 32) : BitVec 32 :=
  let c3_i32_3018 : BitVec 32 := 3#32
  let v8618 : BitVec 32 := Scalar.shrsi v8617 c3_i32_3018
  let c3_i32_3019 : BitVec 32 := 3#32
  let v8619 : BitVec 32 := Scalar.shli v8618 c3_i32_3019
  v8619

def k0_off1019 (v8617 : BitVec 32) : Fin 2 → Nat :=
  let c3_i32_3018 : BitVec 32 := 3#32
  let v8618 : BitVec 32 := Scalar.shrsi v8617 c3_i32_3018
  let c3_i32_3019 : BitVec 32 := 3#32
  let v8619 : BitVec 32 := Scalar.shli v8618 c3_i32_3019
  let v8620 : BitVec 32 := v8619
  let v8621 : Index := Scalar.indexCast v8620
  let c0_3020 : Index := 0#32
  ![v8621.toNat, 0]

def k0_chk501 (v8617 : BitVec 32) : Prop :=
  (8 ∣ (k0_mult501 v8617).toNat) ∧
  (∀ a, (k0_off1019 v8617) a + S8x512.size a ≤ S20000x512.size a)
theorem k0_mult501_dvd : ∀ (v8617 : BitVec 32) (k0_hw501 : k0_chk501 v8617), 8 ∣ (k0_mult501 v8617).toNat := fun v8617 k0_hw501 => k0_hw501.1
theorem k0_off1019_inb : ∀ (v8617 : BitVec 32) (k0_hw501 : k0_chk501 v8617), ∀ a, (k0_off1019 v8617) a + S8x512.size a ≤ S20000x512.size a := fun v8617 k0_hw501 => k0_hw501.2

def k0_off1020 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_3022 : BitVec 32 := 448#32
  let v8631 : BitVec 32 := Scalar.addi v63 c448_i32_3022
  let c53_i32_3023 : BitVec 32 := 53#32
  let v8632 : BitVec 32 := Scalar.addi v8631 c53_i32_3023
  let v8633 : Index := Scalar.indexCast v8632
  ![v8633.toNat]
def k0_mult502 (v8634 : BitVec 32) : BitVec 32 :=
  let c3_i32_3024 : BitVec 32 := 3#32
  let v8635 : BitVec 32 := Scalar.shrsi v8634 c3_i32_3024
  let c3_i32_3025 : BitVec 32 := 3#32
  let v8636 : BitVec 32 := Scalar.shli v8635 c3_i32_3025
  v8636

def k0_off1021 (v8634 : BitVec 32) : Fin 2 → Nat :=
  let c3_i32_3024 : BitVec 32 := 3#32
  let v8635 : BitVec 32 := Scalar.shrsi v8634 c3_i32_3024
  let c3_i32_3025 : BitVec 32 := 3#32
  let v8636 : BitVec 32 := Scalar.shli v8635 c3_i32_3025
  let v8637 : BitVec 32 := v8636
  let v8638 : Index := Scalar.indexCast v8637
  let c0_3026 : Index := 0#32
  ![v8638.toNat, 0]

def k0_chk502 (v8634 : BitVec 32) : Prop :=
  (8 ∣ (k0_mult502 v8634).toNat) ∧
  (∀ a, (k0_off1021 v8634) a + S8x512.size a ≤ S20000x512.size a)
theorem k0_mult502_dvd : ∀ (v8634 : BitVec 32) (k0_hw502 : k0_chk502 v8634), 8 ∣ (k0_mult502 v8634).toNat := fun v8634 k0_hw502 => k0_hw502.1
theorem k0_off1021_inb : ∀ (v8634 : BitVec 32) (k0_hw502 : k0_chk502 v8634), ∀ a, (k0_off1021 v8634) a + S8x512.size a ≤ S20000x512.size a := fun v8634 k0_hw502 => k0_hw502.2

def k0_off1022 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_3028 : BitVec 32 := 448#32
  let v8648 : BitVec 32 := Scalar.addi v63 c448_i32_3028
  let c54_i32_3029 : BitVec 32 := 54#32
  let v8649 : BitVec 32 := Scalar.addi v8648 c54_i32_3029
  let v8650 : Index := Scalar.indexCast v8649
  ![v8650.toNat]
def k0_mult503 (v8651 : BitVec 32) : BitVec 32 :=
  let c3_i32_3030 : BitVec 32 := 3#32
  let v8652 : BitVec 32 := Scalar.shrsi v8651 c3_i32_3030
  let c3_i32_3031 : BitVec 32 := 3#32
  let v8653 : BitVec 32 := Scalar.shli v8652 c3_i32_3031
  v8653

def k0_off1023 (v8651 : BitVec 32) : Fin 2 → Nat :=
  let c3_i32_3030 : BitVec 32 := 3#32
  let v8652 : BitVec 32 := Scalar.shrsi v8651 c3_i32_3030
  let c3_i32_3031 : BitVec 32 := 3#32
  let v8653 : BitVec 32 := Scalar.shli v8652 c3_i32_3031
  let v8654 : BitVec 32 := v8653
  let v8655 : Index := Scalar.indexCast v8654
  let c0_3032 : Index := 0#32
  ![v8655.toNat, 0]

def k0_chk503 (v8651 : BitVec 32) : Prop :=
  (8 ∣ (k0_mult503 v8651).toNat) ∧
  (∀ a, (k0_off1023 v8651) a + S8x512.size a ≤ S20000x512.size a)
theorem k0_mult503_dvd : ∀ (v8651 : BitVec 32) (k0_hw503 : k0_chk503 v8651), 8 ∣ (k0_mult503 v8651).toNat := fun v8651 k0_hw503 => k0_hw503.1
theorem k0_off1023_inb : ∀ (v8651 : BitVec 32) (k0_hw503 : k0_chk503 v8651), ∀ a, (k0_off1023 v8651) a + S8x512.size a ≤ S20000x512.size a := fun v8651 k0_hw503 => k0_hw503.2

def k0_off1024 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_3034 : BitVec 32 := 448#32
  let v8665 : BitVec 32 := Scalar.addi v63 c448_i32_3034
  let c55_i32_3035 : BitVec 32 := 55#32
  let v8666 : BitVec 32 := Scalar.addi v8665 c55_i32_3035
  let v8667 : Index := Scalar.indexCast v8666
  ![v8667.toNat]
def k0_mult504 (v8668 : BitVec 32) : BitVec 32 :=
  let c3_i32_3036 : BitVec 32 := 3#32
  let v8669 : BitVec 32 := Scalar.shrsi v8668 c3_i32_3036
  let c3_i32_3037 : BitVec 32 := 3#32
  let v8670 : BitVec 32 := Scalar.shli v8669 c3_i32_3037
  v8670

def k0_off1025 (v8668 : BitVec 32) : Fin 2 → Nat :=
  let c3_i32_3036 : BitVec 32 := 3#32
  let v8669 : BitVec 32 := Scalar.shrsi v8668 c3_i32_3036
  let c3_i32_3037 : BitVec 32 := 3#32
  let v8670 : BitVec 32 := Scalar.shli v8669 c3_i32_3037
  let v8671 : BitVec 32 := v8670
  let v8672 : Index := Scalar.indexCast v8671
  let c0_3038 : Index := 0#32
  ![v8672.toNat, 0]

def k0_chk504 (v8668 : BitVec 32) : Prop :=
  (8 ∣ (k0_mult504 v8668).toNat) ∧
  (∀ a, (k0_off1025 v8668) a + S8x512.size a ≤ S20000x512.size a)
theorem k0_mult504_dvd : ∀ (v8668 : BitVec 32) (k0_hw504 : k0_chk504 v8668), 8 ∣ (k0_mult504 v8668).toNat := fun v8668 k0_hw504 => k0_hw504.1
theorem k0_off1025_inb : ∀ (v8668 : BitVec 32) (k0_hw504 : k0_chk504 v8668), ∀ a, (k0_off1025 v8668) a + S8x512.size a ≤ S20000x512.size a := fun v8668 k0_hw504 => k0_hw504.2

def k0_off1026 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_3040 : BitVec 32 := 448#32
  let v8682 : BitVec 32 := Scalar.addi v63 c448_i32_3040
  let c56_i32_3041 : BitVec 32 := 56#32
  let v8683 : BitVec 32 := Scalar.addi v8682 c56_i32_3041
  let v8684 : Index := Scalar.indexCast v8683
  ![v8684.toNat]
def k0_mult505 (v8685 : BitVec 32) : BitVec 32 :=
  let c3_i32_3042 : BitVec 32 := 3#32
  let v8686 : BitVec 32 := Scalar.shrsi v8685 c3_i32_3042
  let c3_i32_3043 : BitVec 32 := 3#32
  let v8687 : BitVec 32 := Scalar.shli v8686 c3_i32_3043
  v8687

def k0_off1027 (v8685 : BitVec 32) : Fin 2 → Nat :=
  let c3_i32_3042 : BitVec 32 := 3#32
  let v8686 : BitVec 32 := Scalar.shrsi v8685 c3_i32_3042
  let c3_i32_3043 : BitVec 32 := 3#32
  let v8687 : BitVec 32 := Scalar.shli v8686 c3_i32_3043
  let v8688 : BitVec 32 := v8687
  let v8689 : Index := Scalar.indexCast v8688
  let c0_3044 : Index := 0#32
  ![v8689.toNat, 0]

def k0_chk505 (v8685 : BitVec 32) : Prop :=
  (8 ∣ (k0_mult505 v8685).toNat) ∧
  (∀ a, (k0_off1027 v8685) a + S8x512.size a ≤ S20000x512.size a)
theorem k0_mult505_dvd : ∀ (v8685 : BitVec 32) (k0_hw505 : k0_chk505 v8685), 8 ∣ (k0_mult505 v8685).toNat := fun v8685 k0_hw505 => k0_hw505.1
theorem k0_off1027_inb : ∀ (v8685 : BitVec 32) (k0_hw505 : k0_chk505 v8685), ∀ a, (k0_off1027 v8685) a + S8x512.size a ≤ S20000x512.size a := fun v8685 k0_hw505 => k0_hw505.2

def k0_off1028 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_3046 : BitVec 32 := 448#32
  let v8699 : BitVec 32 := Scalar.addi v63 c448_i32_3046
  let c57_i32_3047 : BitVec 32 := 57#32
  let v8700 : BitVec 32 := Scalar.addi v8699 c57_i32_3047
  let v8701 : Index := Scalar.indexCast v8700
  ![v8701.toNat]
def k0_mult506 (v8702 : BitVec 32) : BitVec 32 :=
  let c3_i32_3048 : BitVec 32 := 3#32
  let v8703 : BitVec 32 := Scalar.shrsi v8702 c3_i32_3048
  let c3_i32_3049 : BitVec 32 := 3#32
  let v8704 : BitVec 32 := Scalar.shli v8703 c3_i32_3049
  v8704

def k0_off1029 (v8702 : BitVec 32) : Fin 2 → Nat :=
  let c3_i32_3048 : BitVec 32 := 3#32
  let v8703 : BitVec 32 := Scalar.shrsi v8702 c3_i32_3048
  let c3_i32_3049 : BitVec 32 := 3#32
  let v8704 : BitVec 32 := Scalar.shli v8703 c3_i32_3049
  let v8705 : BitVec 32 := v8704
  let v8706 : Index := Scalar.indexCast v8705
  let c0_3050 : Index := 0#32
  ![v8706.toNat, 0]

def k0_chk506 (v8702 : BitVec 32) : Prop :=
  (8 ∣ (k0_mult506 v8702).toNat) ∧
  (∀ a, (k0_off1029 v8702) a + S8x512.size a ≤ S20000x512.size a)
theorem k0_mult506_dvd : ∀ (v8702 : BitVec 32) (k0_hw506 : k0_chk506 v8702), 8 ∣ (k0_mult506 v8702).toNat := fun v8702 k0_hw506 => k0_hw506.1
theorem k0_off1029_inb : ∀ (v8702 : BitVec 32) (k0_hw506 : k0_chk506 v8702), ∀ a, (k0_off1029 v8702) a + S8x512.size a ≤ S20000x512.size a := fun v8702 k0_hw506 => k0_hw506.2

def k0_off1030 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_3052 : BitVec 32 := 448#32
  let v8716 : BitVec 32 := Scalar.addi v63 c448_i32_3052
  let c58_i32_3053 : BitVec 32 := 58#32
  let v8717 : BitVec 32 := Scalar.addi v8716 c58_i32_3053
  let v8718 : Index := Scalar.indexCast v8717
  ![v8718.toNat]
def k0_mult507 (v8719 : BitVec 32) : BitVec 32 :=
  let c3_i32_3054 : BitVec 32 := 3#32
  let v8720 : BitVec 32 := Scalar.shrsi v8719 c3_i32_3054
  let c3_i32_3055 : BitVec 32 := 3#32
  let v8721 : BitVec 32 := Scalar.shli v8720 c3_i32_3055
  v8721

def k0_off1031 (v8719 : BitVec 32) : Fin 2 → Nat :=
  let c3_i32_3054 : BitVec 32 := 3#32
  let v8720 : BitVec 32 := Scalar.shrsi v8719 c3_i32_3054
  let c3_i32_3055 : BitVec 32 := 3#32
  let v8721 : BitVec 32 := Scalar.shli v8720 c3_i32_3055
  let v8722 : BitVec 32 := v8721
  let v8723 : Index := Scalar.indexCast v8722
  let c0_3056 : Index := 0#32
  ![v8723.toNat, 0]

def k0_chk507 (v8719 : BitVec 32) : Prop :=
  (8 ∣ (k0_mult507 v8719).toNat) ∧
  (∀ a, (k0_off1031 v8719) a + S8x512.size a ≤ S20000x512.size a)
theorem k0_mult507_dvd : ∀ (v8719 : BitVec 32) (k0_hw507 : k0_chk507 v8719), 8 ∣ (k0_mult507 v8719).toNat := fun v8719 k0_hw507 => k0_hw507.1
theorem k0_off1031_inb : ∀ (v8719 : BitVec 32) (k0_hw507 : k0_chk507 v8719), ∀ a, (k0_off1031 v8719) a + S8x512.size a ≤ S20000x512.size a := fun v8719 k0_hw507 => k0_hw507.2

def k0_off1032 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_3058 : BitVec 32 := 448#32
  let v8733 : BitVec 32 := Scalar.addi v63 c448_i32_3058
  let c59_i32_3059 : BitVec 32 := 59#32
  let v8734 : BitVec 32 := Scalar.addi v8733 c59_i32_3059
  let v8735 : Index := Scalar.indexCast v8734
  ![v8735.toNat]
def k0_mult508 (v8736 : BitVec 32) : BitVec 32 :=
  let c3_i32_3060 : BitVec 32 := 3#32
  let v8737 : BitVec 32 := Scalar.shrsi v8736 c3_i32_3060
  let c3_i32_3061 : BitVec 32 := 3#32
  let v8738 : BitVec 32 := Scalar.shli v8737 c3_i32_3061
  v8738

def k0_off1033 (v8736 : BitVec 32) : Fin 2 → Nat :=
  let c3_i32_3060 : BitVec 32 := 3#32
  let v8737 : BitVec 32 := Scalar.shrsi v8736 c3_i32_3060
  let c3_i32_3061 : BitVec 32 := 3#32
  let v8738 : BitVec 32 := Scalar.shli v8737 c3_i32_3061
  let v8739 : BitVec 32 := v8738
  let v8740 : Index := Scalar.indexCast v8739
  let c0_3062 : Index := 0#32
  ![v8740.toNat, 0]

def k0_chk508 (v8736 : BitVec 32) : Prop :=
  (8 ∣ (k0_mult508 v8736).toNat) ∧
  (∀ a, (k0_off1033 v8736) a + S8x512.size a ≤ S20000x512.size a)
theorem k0_mult508_dvd : ∀ (v8736 : BitVec 32) (k0_hw508 : k0_chk508 v8736), 8 ∣ (k0_mult508 v8736).toNat := fun v8736 k0_hw508 => k0_hw508.1
theorem k0_off1033_inb : ∀ (v8736 : BitVec 32) (k0_hw508 : k0_chk508 v8736), ∀ a, (k0_off1033 v8736) a + S8x512.size a ≤ S20000x512.size a := fun v8736 k0_hw508 => k0_hw508.2

def k0_off1034 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_3064 : BitVec 32 := 448#32
  let v8750 : BitVec 32 := Scalar.addi v63 c448_i32_3064
  let c60_i32_3065 : BitVec 32 := 60#32
  let v8751 : BitVec 32 := Scalar.addi v8750 c60_i32_3065
  let v8752 : Index := Scalar.indexCast v8751
  ![v8752.toNat]
def k0_mult509 (v8753 : BitVec 32) : BitVec 32 :=
  let c3_i32_3066 : BitVec 32 := 3#32
  let v8754 : BitVec 32 := Scalar.shrsi v8753 c3_i32_3066
  let c3_i32_3067 : BitVec 32 := 3#32
  let v8755 : BitVec 32 := Scalar.shli v8754 c3_i32_3067
  v8755

def k0_off1035 (v8753 : BitVec 32) : Fin 2 → Nat :=
  let c3_i32_3066 : BitVec 32 := 3#32
  let v8754 : BitVec 32 := Scalar.shrsi v8753 c3_i32_3066
  let c3_i32_3067 : BitVec 32 := 3#32
  let v8755 : BitVec 32 := Scalar.shli v8754 c3_i32_3067
  let v8756 : BitVec 32 := v8755
  let v8757 : Index := Scalar.indexCast v8756
  let c0_3068 : Index := 0#32
  ![v8757.toNat, 0]

def k0_chk509 (v8753 : BitVec 32) : Prop :=
  (8 ∣ (k0_mult509 v8753).toNat) ∧
  (∀ a, (k0_off1035 v8753) a + S8x512.size a ≤ S20000x512.size a)
theorem k0_mult509_dvd : ∀ (v8753 : BitVec 32) (k0_hw509 : k0_chk509 v8753), 8 ∣ (k0_mult509 v8753).toNat := fun v8753 k0_hw509 => k0_hw509.1
theorem k0_off1035_inb : ∀ (v8753 : BitVec 32) (k0_hw509 : k0_chk509 v8753), ∀ a, (k0_off1035 v8753) a + S8x512.size a ≤ S20000x512.size a := fun v8753 k0_hw509 => k0_hw509.2

def k0_off1036 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_3070 : BitVec 32 := 448#32
  let v8767 : BitVec 32 := Scalar.addi v63 c448_i32_3070
  let c61_i32_3071 : BitVec 32 := 61#32
  let v8768 : BitVec 32 := Scalar.addi v8767 c61_i32_3071
  let v8769 : Index := Scalar.indexCast v8768
  ![v8769.toNat]
def k0_mult510 (v8770 : BitVec 32) : BitVec 32 :=
  let c3_i32_3072 : BitVec 32 := 3#32
  let v8771 : BitVec 32 := Scalar.shrsi v8770 c3_i32_3072
  let c3_i32_3073 : BitVec 32 := 3#32
  let v8772 : BitVec 32 := Scalar.shli v8771 c3_i32_3073
  v8772

def k0_off1037 (v8770 : BitVec 32) : Fin 2 → Nat :=
  let c3_i32_3072 : BitVec 32 := 3#32
  let v8771 : BitVec 32 := Scalar.shrsi v8770 c3_i32_3072
  let c3_i32_3073 : BitVec 32 := 3#32
  let v8772 : BitVec 32 := Scalar.shli v8771 c3_i32_3073
  let v8773 : BitVec 32 := v8772
  let v8774 : Index := Scalar.indexCast v8773
  let c0_3074 : Index := 0#32
  ![v8774.toNat, 0]

def k0_chk510 (v8770 : BitVec 32) : Prop :=
  (8 ∣ (k0_mult510 v8770).toNat) ∧
  (∀ a, (k0_off1037 v8770) a + S8x512.size a ≤ S20000x512.size a)
theorem k0_mult510_dvd : ∀ (v8770 : BitVec 32) (k0_hw510 : k0_chk510 v8770), 8 ∣ (k0_mult510 v8770).toNat := fun v8770 k0_hw510 => k0_hw510.1
theorem k0_off1037_inb : ∀ (v8770 : BitVec 32) (k0_hw510 : k0_chk510 v8770), ∀ a, (k0_off1037 v8770) a + S8x512.size a ≤ S20000x512.size a := fun v8770 k0_hw510 => k0_hw510.2

def k0_off1038 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_3076 : BitVec 32 := 448#32
  let v8784 : BitVec 32 := Scalar.addi v63 c448_i32_3076
  let c62_i32_3077 : BitVec 32 := 62#32
  let v8785 : BitVec 32 := Scalar.addi v8784 c62_i32_3077
  let v8786 : Index := Scalar.indexCast v8785
  ![v8786.toNat]
def k0_mult511 (v8787 : BitVec 32) : BitVec 32 :=
  let c3_i32_3078 : BitVec 32 := 3#32
  let v8788 : BitVec 32 := Scalar.shrsi v8787 c3_i32_3078
  let c3_i32_3079 : BitVec 32 := 3#32
  let v8789 : BitVec 32 := Scalar.shli v8788 c3_i32_3079
  v8789

def k0_off1039 (v8787 : BitVec 32) : Fin 2 → Nat :=
  let c3_i32_3078 : BitVec 32 := 3#32
  let v8788 : BitVec 32 := Scalar.shrsi v8787 c3_i32_3078
  let c3_i32_3079 : BitVec 32 := 3#32
  let v8789 : BitVec 32 := Scalar.shli v8788 c3_i32_3079
  let v8790 : BitVec 32 := v8789
  let v8791 : Index := Scalar.indexCast v8790
  let c0_3080 : Index := 0#32
  ![v8791.toNat, 0]

def k0_chk511 (v8787 : BitVec 32) : Prop :=
  (8 ∣ (k0_mult511 v8787).toNat) ∧
  (∀ a, (k0_off1039 v8787) a + S8x512.size a ≤ S20000x512.size a)
theorem k0_mult511_dvd : ∀ (v8787 : BitVec 32) (k0_hw511 : k0_chk511 v8787), 8 ∣ (k0_mult511 v8787).toNat := fun v8787 k0_hw511 => k0_hw511.1
theorem k0_off1039_inb : ∀ (v8787 : BitVec 32) (k0_hw511 : k0_chk511 v8787), ∀ a, (k0_off1039 v8787) a + S8x512.size a ≤ S20000x512.size a := fun v8787 k0_hw511 => k0_hw511.2

def k0_off1040 (i : grid0.Coords) (k0_t1 : Fin k0_t1_loop.trips) : Fin 1 → Nat :=
  let arg0 : BitVec 32 := BitVec.ofNat 32 (i 0).val
  let c8192_i32 : BitVec 32 := 8192#32
  let v61 : BitVec 32 := Scalar.muli arg0 c8192_i32
  let c0_i32_18 : BitVec 32 := 0#32
  let c1_i32_19 : BitVec 32 := 1#32
  let arg12 : BitVec 32 := Scf.iv c0_i32_18 c1_i32_19 k0_t1
  let c512_i32 : BitVec 32 := 512#32
  let v62 : BitVec 32 := Scalar.muli arg12 c512_i32
  let v63 : BitVec 32 := Scalar.addi v61 v62
  let c448_i32_3082 : BitVec 32 := 448#32
  let v8801 : BitVec 32 := Scalar.addi v63 c448_i32_3082
  let c63_i32_3083 : BitVec 32 := 63#32
  let v8802 : BitVec 32 := Scalar.addi v8801 c63_i32_3083
  let v8803 : Index := Scalar.indexCast v8802
  ![v8803.toNat]
def k0_mult512 (v8804 : BitVec 32) : BitVec 32 :=
  let c3_i32_3084 : BitVec 32 := 3#32
  let v8805 : BitVec 32 := Scalar.shrsi v8804 c3_i32_3084
  let c3_i32_3085 : BitVec 32 := 3#32
  let v8806 : BitVec 32 := Scalar.shli v8805 c3_i32_3085
  v8806

def k0_off1041 (v8804 : BitVec 32) : Fin 2 → Nat :=
  let c3_i32_3084 : BitVec 32 := 3#32
  let v8805 : BitVec 32 := Scalar.shrsi v8804 c3_i32_3084
  let c3_i32_3085 : BitVec 32 := 3#32
  let v8806 : BitVec 32 := Scalar.shli v8805 c3_i32_3085
  let v8807 : BitVec 32 := v8806
  let v8808 : Index := Scalar.indexCast v8807
  let c0_3086 : Index := 0#32
  ![v8808.toNat, 0]

def k0_chk512 (v8804 : BitVec 32) : Prop :=
  (8 ∣ (k0_mult512 v8804).toNat) ∧
  (∀ a, (k0_off1041 v8804) a + S8x512.size a ≤ S20000x512.size a)
theorem k0_mult512_dvd : ∀ (v8804 : BitVec 32) (k0_hw512 : k0_chk512 v8804), 8 ∣ (k0_mult512 v8804).toNat := fun v8804 k0_hw512 => k0_hw512.1
theorem k0_off1041_inb : ∀ (v8804 : BitVec 32) (k0_hw512 : k0_chk512 v8804), ∀ a, (k0_off1041 v8804) a + S8x512.size a ≤ S20000x512.size a := fun v8804 k0_hw512 => k0_hw512.2

def k0_off1042 (k0_t1 : Fin k0_t1_loop.trips) : Fin 3 → Nat :=
  let c0_i32_18 : BitVec 32 := 0#32
  let c1_i32_19 : BitVec 32 := 1#32
  let arg12 : BitVec 32 := Scf.iv c0_i32_18 c1_i32_19 k0_t1
  let c8_i32_3088 : BitVec 32 := 8#32
  let v8818 : BitVec 32 := Scalar.muli arg12 c8_i32_3088
  let c7_i32_3089 : BitVec 32 := 7#32
  let v8819 : BitVec 32 := Scalar.addi v8818 c7_i32_3089
  let v8820 : Index := Scalar.indexCast v8819
  let c0_3090 : Index := 0#32
  let c0_3091 : Index := 0#32
  ![v8820.toNat, 0, 0]
def k0_cond2 (i : grid0.Coords) : BitVec 1 :=
  let arg0 : BitVec 32 := BitVec.ofNat 32 (i 0).val
  let c2_i32_21 : BitVec 32 := 2#32
  let v30 : BitVec 1 := Scalar.cmpi .slt arg0 c2_i32_21
  let v31 : BitVec 32 := Scalar.extui v30
  let c0_i32_22 : BitVec 32 := 0#32
  let v32 : BitVec 1 := Scalar.cmpi .ne v31 c0_i32_22
  v32

def k0_off1043 (i : grid0.Coords) : Fin 3 → Nat :=
  let arg0 : BitVec 32 := BitVec.ofNat 32 (i 0).val
  let c1_i32_44 : BitVec 32 := 1#32
  let v61 : BitVec 32 := Scalar.addi arg0 c1_i32_44
  let c0_i32_48 : BitVec 32 := 0#32
  let c0_i32_49 : BitVec 32 := 0#32
  ![v61.toNat, 0, 0]
def k0_off1044 (i : grid0.Coords) : Fin 3 → Nat :=
  let arg0 : BitVec 32 := BitVec.ofNat 32 (i 0).val
  let c1_i32_44 : BitVec 32 := 1#32
  let v61 : BitVec 32 := Scalar.addi arg0 c1_i32_44
  let c4000_i32_53 : BitVec 32 := 4000#32
  let c0_i32_54 : BitVec 32 := 0#32
  ![v61.toNat, 4000, 0]
def k0_off1045 (i : grid0.Coords) : Fin 3 → Nat :=
  let arg0 : BitVec 32 := BitVec.ofNat 32 (i 0).val
  let c1_i32_44 : BitVec 32 := 1#32
  let v61 : BitVec 32 := Scalar.addi arg0 c1_i32_44
  let c8000_i32_58 : BitVec 32 := 8000#32
  let c0_i32_59 : BitVec 32 := 0#32
  ![v61.toNat, 8000, 0]
def k0_off1046 (i : grid0.Coords) : Fin 3 → Nat :=
  let arg0 : BitVec 32 := BitVec.ofNat 32 (i 0).val
  let c1_i32_44 : BitVec 32 := 1#32
  let v61 : BitVec 32 := Scalar.addi arg0 c1_i32_44
  let c12000_i32_63 : BitVec 32 := 12000#32
  let c0_i32_64 : BitVec 32 := 0#32
  ![v61.toNat, 12000, 0]
def k0_off1047 (i : grid0.Coords) : Fin 3 → Nat :=
  let arg0 : BitVec 32 := BitVec.ofNat 32 (i 0).val
  let c1_i32_44 : BitVec 32 := 1#32
  let v61 : BitVec 32 := Scalar.addi arg0 c1_i32_44
  let c16000_i32_68 : BitVec 32 := 16000#32
  let c0_i32_69 : BitVec 32 := 0#32
  ![v61.toNat, 16000, 0]
def k0_off1048 (i : grid0.Coords) : Fin 2 → Nat :=
  let arg0 : BitVec 32 := BitVec.ofNat 32 (i 0).val
  let c128_i32 : BitVec 32 := 128#32
  let v53 : BitVec 32 := Scalar.muli arg0 c128_i32
  let v54 : Index := Scalar.indexCast v53
  let c0_41 : Index := 0#32
  ![v54.toNat, 0]
def k0_cond3 (i : grid0.Coords) : BitVec 1 :=
  let arg0 : BitVec 32 := BitVec.ofNat 32 (i 0).val
  let c2_i32_42 : BitVec 32 := 2#32
  let v58 : BitVec 1 := Scalar.cmpi .eq arg0 c2_i32_42
  let v59 : BitVec 32 := Scalar.extui v58
  let c0_i32_43 : BitVec 32 := 0#32
  let v60 : BitVec 1 := Scalar.cmpi .ne v59 c0_i32_43
  v60

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "inv_temperature" => some ((134217728 / 13421773 : ℝ) : EReal)
  | _ => none
-- ==== ReferenceIdeal.lean ====
abbrev S3x20000x512 : Shape := ⟨3, ![3, 20000, 512]⟩
abbrev S3x512x512 : Shape := ⟨3, ![3, 512, 512]⟩
abbrev S3x512 : Shape := ⟨2, ![3, 512]⟩
abbrev S3x512x128 : Shape := ⟨3, ![3, 512, 128]⟩
abbrev S3x128 : Shape := ⟨2, ![3, 128]⟩
abbrev S3x128x64 : Shape := ⟨3, ![3, 128, 64]⟩
abbrev S_ : Shape := ⟨0, ![]⟩
abbrev S3x128x64x1 : Shape := ⟨4, ![3, 128, 64, 1]⟩
abbrev S3x128x64x512 : Shape := ⟨4, ![3, 128, 64, 512]⟩
abbrev S3x128x512 : Shape := ⟨3, ![3, 128, 512]⟩
abbrev S3x1x512 : Shape := ⟨3, ![3, 1, 512]⟩
abbrev S3x128x128 : Shape := ⟨3, ![3, 128, 128]⟩
abbrev S3x1x128 : Shape := ⟨3, ![3, 1, 128]⟩
abbrev S128x3x128 : Shape := ⟨3, ![128, 3, 128]⟩
abbrev S384x128 : Shape := ⟨2, ![384, 128]⟩
abbrev S384 : Shape := ⟨1, ![384]⟩
abbrev S384x1 : Shape := ⟨2, ![384, 1]⟩
abbrev S128 : Shape := ⟨1, ![128]⟩
abbrev S128x3 : Shape := ⟨2, ![128, 3]⟩
abbrev S128x384 : Shape := ⟨2, ![128, 384]⟩
abbrev S384x384 : Shape := ⟨2, ![384, 384]⟩
abbrev S1x384 : Shape := ⟨2, ![1, 384]⟩
abbrev S1x1 : Shape := ⟨2, ![1, 1]⟩

abbrev nBuf : Space → Nat
  | .hbm => 89
  | .vmem => 0
  | .smem => 0
  | _ => 0

abbrev bufTy : (tb : Table) → Fin (tcTables nBuf tb) → BufTy
  | .hbm, ⟨0, _⟩ => ⟨S3x20000x512, .f32⟩
  | .hbm, ⟨1, _⟩ => ⟨S3x512x512, .f32⟩
  | .hbm, ⟨2, _⟩ => ⟨S3x512, .f32⟩
  | .hbm, ⟨3, _⟩ => ⟨S3x512x128, .f32⟩
  | .hbm, ⟨4, _⟩ => ⟨S3x128, .f32⟩
  | .hbm, ⟨5, _⟩ => ⟨S3x128x64, .i32⟩
  | .hbm, ⟨6, _⟩ => ⟨S_, .i32⟩
  | .hbm, ⟨7, _⟩ => ⟨S3x128x64, .i32⟩
  | .hbm, ⟨8, _⟩ => ⟨S3x128x64, .i1⟩
  | .hbm, ⟨9, _⟩ => ⟨S_, .i32⟩
  | .hbm, ⟨10, _⟩ => ⟨S3x128x64, .i32⟩
  | .hbm, ⟨11, _⟩ => ⟨S3x128x64, .i32⟩
  | .hbm, ⟨12, _⟩ => ⟨S3x128x64, .i32⟩
  | .hbm, ⟨13, _⟩ => ⟨S3x128x64x1, .i32⟩
  | .hbm, ⟨14, _⟩ => ⟨S3x128x64x512, .f32⟩
  | .hbm, ⟨15, _⟩ => ⟨S_, .f32⟩
  | .hbm, ⟨16, _⟩ => ⟨S3x128x512, .f32⟩
  | .hbm, ⟨17, _⟩ => ⟨S_, .f32⟩
  | .hbm, ⟨18, _⟩ => ⟨S3x128x512, .f32⟩
  | .hbm, ⟨19, _⟩ => ⟨S3x128x512, .f32⟩
  | .hbm, ⟨20, _⟩ => ⟨S3x128x512, .f32⟩
  | .hbm, ⟨21, _⟩ => ⟨S3x1x512, .f32⟩
  | .hbm, ⟨22, _⟩ => ⟨S3x128x512, .f32⟩
  | .hbm, ⟨23, _⟩ => ⟨S3x128x512, .f32⟩
  | .hbm, ⟨24, _⟩ => ⟨S_, .f32⟩
  | .hbm, ⟨25, _⟩ => ⟨S3x128x512, .f32⟩
  | .hbm, ⟨26, _⟩ => ⟨S3x128x512, .f32⟩
  | .hbm, ⟨27, _⟩ => ⟨S3x128x128, .f32⟩
  | .hbm, ⟨28, _⟩ => ⟨S3x1x128, .f32⟩
  | .hbm, ⟨29, _⟩ => ⟨S3x128x128, .f32⟩
  | .hbm, ⟨30, _⟩ => ⟨S3x128x128, .f32⟩
  | .hbm, ⟨31, _⟩ => ⟨S128x3x128, .f32⟩
  | .hbm, ⟨32, _⟩ => ⟨S384x128, .f32⟩
  | .hbm, ⟨33, _⟩ => ⟨S384x128, .f32⟩
  | .hbm, ⟨34, _⟩ => ⟨S_, .f32⟩
  | .hbm, ⟨35, _⟩ => ⟨S384, .f32⟩
  | .hbm, ⟨36, _⟩ => ⟨S384x1, .f32⟩
  | .hbm, ⟨37, _⟩ => ⟨S384x1, .f32⟩
  | .hbm, ⟨38, _⟩ => ⟨S_, .f32⟩
  | .hbm, ⟨39, _⟩ => ⟨S384x1, .f32⟩
  | .hbm, ⟨40, _⟩ => ⟨S384x1, .f32⟩
  | .hbm, ⟨41, _⟩ => ⟨S384x128, .f32⟩
  | .hbm, ⟨42, _⟩ => ⟨S384x128, .f32⟩
  | .hbm, ⟨43, _⟩ => ⟨S128, .i32⟩
  | .hbm, ⟨44, _⟩ => ⟨S128x3, .i32⟩
  | .hbm, ⟨45, _⟩ => ⟨S384, .i32⟩
  | .hbm, ⟨46, _⟩ => ⟨S128x384, .f32⟩
  | .hbm, ⟨47, _⟩ => ⟨S384x384, .f32⟩
  | .hbm, ⟨48, _⟩ => ⟨S_, .f32⟩
  | .hbm, ⟨49, _⟩ => ⟨S384x384, .f32⟩
  | .hbm, ⟨50, _⟩ => ⟨S384x384, .f32⟩
  | .hbm, ⟨51, _⟩ => ⟨S384x384, .i32⟩
  | .hbm, ⟨52, _⟩ => ⟨S384x384, .i32⟩
  | .hbm, ⟨53, _⟩ => ⟨S_, .i32⟩
  | .hbm, ⟨54, _⟩ => ⟨S384x384, .i32⟩
  | .hbm, ⟨55, _⟩ => ⟨S384x384, .i32⟩
  | .hbm, ⟨56, _⟩ => ⟨S384x384, .i1⟩
  | .hbm, ⟨57, _⟩ => ⟨S_, .f32⟩
  | .hbm, ⟨58, _⟩ => ⟨S_, .f32⟩
  | .hbm, ⟨59, _⟩ => ⟨S384x384, .f32⟩
  | .hbm, ⟨60, _⟩ => ⟨S384x384, .f32⟩
  | .hbm, ⟨61, _⟩ => ⟨S1x384, .i32⟩
  | .hbm, ⟨62, _⟩ => ⟨S384x1, .i32⟩
  | .hbm, ⟨63, _⟩ => ⟨S384x384, .i32⟩
  | .hbm, ⟨64, _⟩ => ⟨S384x384, .i32⟩
  | .hbm, ⟨65, _⟩ => ⟨S384x384, .i1⟩
  | .hbm, ⟨66, _⟩ => ⟨S384x384, .i1⟩
  | .hbm, ⟨67, _⟩ => ⟨S384x384, .i1⟩
  | .hbm, ⟨68, _⟩ => ⟨S384x384, .f32⟩
  | .hbm, ⟨69, _⟩ => ⟨S_, .f32⟩
  | .hbm, ⟨70, _⟩ => ⟨S384, .f32⟩
  | .hbm, ⟨71, _⟩ => ⟨S_, .f32⟩
  | .hbm, ⟨72, _⟩ => ⟨S384, .f32⟩
  | .hbm, ⟨73, _⟩ => ⟨S384, .f32⟩
  | .hbm, ⟨74, _⟩ => ⟨S384x384, .f32⟩
  | .hbm, ⟨75, _⟩ => ⟨S384x384, .f32⟩
  | .hbm, ⟨76, _⟩ => ⟨S_, .f32⟩
  | .hbm, ⟨77, _⟩ => ⟨S384, .f32⟩
  | .hbm, ⟨78, _⟩ => ⟨S_, .f32⟩
  | .hbm, ⟨79, _⟩ => ⟨S384, .f32⟩
  | .hbm, ⟨80, _⟩ => ⟨S384, .f32⟩
  | .hbm, ⟨81, _⟩ => ⟨S384, .f32⟩
  | .hbm, ⟨82, _⟩ => ⟨S384, .f32⟩
  | .hbm, ⟨83, _⟩ => ⟨S384, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S1x1, .f32⟩
  | _, _ => ⟨S3x20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call1_v0 : Ref sig .tc := ⟨.hbm, 33, rfl⟩
abbrev main_call1_cst : Ref sig .tc := ⟨.hbm, 34, rfl⟩
abbrev main_call1_v1 : Ref sig .tc := ⟨.hbm, 35, rfl⟩
abbrev main_call1_v2 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_call2_v0 : Ref sig .tc := ⟨.hbm, 58, rfl⟩
abbrev main_call2_v1 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩

abbrev nD : Nat := 1
abbrev τ : Topo := Topo.v7x

variable {F : FTy → Type} [FloatOps F]
-- ==== Proof.Trip.lean ====
/-
  ONE TRIP OF THE GATHER LOOP as a short recursive program, over any signature: eight rows, each the sum of sixty-four
  gathered rows. The printed kernel writes the same trip out gather by gather; each program's own module shows that the
  two are one program, and everything that is proved about a trip is proved here, about the short one.
-/
module

public import Idealize.ShloMosaic.Lib.Pipeline
public import Idealize.ShloMosaic.Lib.Scf
public import Idealize.ShloMosaic.Lib.Sig
public import Idealize.ShloMosaic.Lib.Exec
public import Idealize.ShloMosaic.Lib.Tactic
public import Idealize.ShloMosaic.Lib.Pipeline.Kit
public import Idealize.ShloMosaic.PureOps

@[expose] public section

noncomputable section

namespace Pathway

open Idealize.ShloMosaic
open Idealize.SL.Sem

/-! ## Shapes -/

abbrev S1 : Shape := ⟨1, ![1]⟩
abbrev S24576 : Shape := ⟨1, ![24576]⟩
abbrev S20000x512 : Shape := ⟨2, ![20000, 512]⟩
abbrev S8x512 : Shape := ⟨2, ![8, 512]⟩
abbrev S8x1 : Shape := ⟨2, ![8, 1]⟩
abbrev S1x8x512 : Shape := ⟨3, ![1, 8, 512]⟩
abbrev S128x8x512 : Shape := ⟨3, ![128, 8, 512]⟩

theorem numel1_S1 : S1.numel = 1 := by decide
theorem h_S8x512 : 0 < S8x512.numel := by decide
theorem h_S1x8x512 : 0 < S1x8x512.numel := by decide
theorem natLt_1_32 : 1 < 32 := by decide
theorem broadcasts_S8x1_S8x512 : S8x1.Broadcasts S8x512 := by decide
theorem shapeCasts_S8x512_S1x8x512 : S8x512.ShapeCasts S1x8x512 := by decide

/-! ## Offsets, as the kernel computes them -/

/-- The position of gather `g` of row `q` of trip `t` at grid point `a` in the index table. -/
def wordOff (a t : BitVec 32) (q g : ℕ) : Fin 1 → ℕ :=
  ![(Scalar.indexCast (Scalar.addi (Scalar.addi (Scalar.addi (Scalar.muli a 8192#32) (Scalar.muli t 512#32)) (BitVec.ofNat 32 (64 * q)))
      (BitVec.ofNat 32 g)) : Index).toNat]

/-- The first of the eight rows that hold row `v`. -/
def chunkRow (v : BitVec 32) : BitVec 32 := Scalar.shli (Scalar.shrsi v 3#32) 3#32

/-- Where those eight rows start. -/
def chunkOff (v : BitVec 32) : Fin 2 → ℕ := ![(Scalar.indexCast (chunkRow v) : Index).toNat, 0]

/-- What a gather assumes of its index word: the eight rows start at a multiple of eight and lie in the table. -/
def chk (v : BitVec 32) : Prop :=
  (8 ∣ (chunkRow v).toNat) ∧ (∀ a, (chunkOff v) a + S8x512.size a ≤ S20000x512.size a)
instance chk.dec : ∀ (v : BitVec 32), Decidable (chk v) := fun v => decidable_of_iff' _ (Iff.of_eq (chk.eq_1 v))

/-- Where row `q` of trip `t` is stored. -/
def rowOff (t : BitVec 32) (q : ℕ) : Fin 3 → ℕ :=
  ![(Scalar.indexCast (Scalar.addi (Scalar.muli t 8#32) (BitVec.ofNat 32 q)) : Index).toNat, 0, 0]

/-- The place of a word in numbers, -/
theorem wordOff_val {a t : BitVec 32} (ha : a.toNat < 3) (ht : t.toNat < 16) {q g : ℕ} (hq : q < 8) (hg : g < 64) :
    wordOff a t q g 0 = 8192 * a.toNat + 512 * t.toNat + 64 * q + g := by
  simp only [wordOff, Scalar.addi, Scalar.muli, Scalar.indexCast, Matrix.cons_val_zero, IntOp.addi, IntOp.muli,
    BitVec.toNat_add, BitVec.toNat_mul, BitVec.toNat_ofNat]
  omega

/-- which is in the table of words. -/
theorem wordOff_inb {a t : BitVec 32} (ha : a.toNat < 3) (ht : t.toNat < 16) {q g : ℕ} (hq : q < 8) (hg : g < 64) :
    ∀ d, wordOff a t q g d + S1.size d ≤ S24576.size d := by
  intro d
  have hd : d = 0 := Subsingleton.elim _ _
  subst hd
  rw [wordOff_val ha ht hq hg]
  show _ + 1 ≤ 24576
  omega

/-- The place of a row in numbers, -/
theorem rowOff_val {t : BitVec 32} (ht : t.toNat < 16) {q : ℕ} (hq : q < 8) :
    rowOff t q = ![8 * t.toNat + q, 0, 0] := by
  have : (Scalar.indexCast (Scalar.addi (Scalar.muli t 8#32) (BitVec.ofNat 32 q)) : Index).toNat = 8 * t.toNat + q := by
    simp only [Scalar.addi, Scalar.muli, Scalar.indexCast, IntOp.addi, IntOp.muli,
      BitVec.toNat_add, BitVec.toNat_mul, BitVec.toNat_ofNat]
    omega
  rw [rowOff, this]

/-- which is in the scratch block. -/
theorem rowOff_inb {t : BitVec 32} (ht : t.toNat < 16) {q : ℕ} (hq : q < 8) :
    ∀ d, rowOff t q d + S1x8x512.size d ≤ S128x8x512.size d := by
  intro d
  rw [rowOff_val ht hq]
  fin_cases d
  · show 8 * t.toNat + q + 1 ≤ 128; omega
  · show 0 + 8 ≤ 8; omega
  · show 0 + 512 ≤ 512; omega

/-! ## The program -/

section Program

variable {nD : ℕ} {τ : Topo} {sig : RefSig} {Λ : Labels} {F : FTy → Type} [FloatOps F]

/-- One gathered piece: the eight rows read, with all but row `v mod 8` multiplied by zero. -/
def piece (v28 : IVec S8x1 32) (v : BitVec 32) (x : FVec F S8x512 .f32) : FVec F S8x512 .f32 :=
  mulf x (broadcastTo S8x512 (sitofp .f32 (extui 32 (cmpi .eq v28 (broadcast S8x1 (Scalar.andi v 7#32))) natLt_1_32)) broadcasts_S8x1_S8x512)

variable (arg1 : Memref sig .tc .smem S24576 .i32) (arg8 : Memref sig .tc .vmem S20000x512 .f32)
  (arg9 : Memref sig .tc .vmem S128x8x512 .f32) (v28 : IVec S8x1 32)
  {a t : BitVec 32} (ha : a.toNat < 3) (ht : t.toNat < 16)

/-- The last `n` gathers of row `q`, on top of `acc`. -/
def gathers {α : Type} {q : ℕ} (hq : q < 8) (k : FVec F S8x512 .f32 → Prog (TpuEff nD τ sig (Elt F) Λ .tc) α) :
    (n : ℕ) → FVec F S8x512 .f32 → Prog (TpuEff nD τ sig (Elt F) Λ .tc) α
  | 0, acc => k acc
  | n + 1, acc =>
    smemLoad arg1 (Rect.unit (s := S24576) (wordOff a t q (63 - n)) S1.size
      (wordOff_inb ha ht hq (Nat.lt_of_le_of_lt (Nat.sub_le 63 n) (by decide)))) numel1_S1 rfl >>= fun v =>
    Prog.op (TpuEff.assume (chk v) (chk.dec v)) fun hw =>
    Prog.op (.load arg8 (Rect.unit (s := S20000x512) (chunkOff v) S8x512.size hw.down.2).toLoadRect (View.loadsAt_vmem h_S8x512)) fun (x : Vec F S8x512 .f32) =>
    gathers hq k n (addf acc (piece v28 v x))

/-- The last `n` rows of a trip. -/
def rows : (n : ℕ) → n ≤ 8 → Prog (TpuEff nD τ sig (Elt F) Λ .tc) PUnit
  | 0, _ => .ret ⟨⟩
  | n + 1, h =>
    gathers arg1 arg8 v28 ha ht (q := 7 - n) (Nat.lt_of_le_of_lt (Nat.sub_le 7 n) (by decide)) (fun acc =>
      Prog.op (.load arg9 (Rect.unit (s := S128x8x512) (rowOff t (7 - n)) S1x8x512.size
        (rowOff_inb ht (Nat.lt_of_le_of_lt (Nat.sub_le 7 n) (by decide)))).toLoadRect (View.loadsAt_vmem h_S1x8x512)) fun _ =>
      Prog.op (.store arg9 (Rect.unit (s := S128x8x512) (rowOff t (7 - n)) S1x8x512.size
        (rowOff_inb ht (Nat.lt_of_le_of_lt (Nat.sub_le 7 n) (by decide))))
        (shapeCast S1x8x512 acc shapeCasts_S8x512_S1x8x512) Finset.univ (View.stores_vmem_bits_univ h_S1x8x512 rfl) (.inl rfl)) fun _ =>
      rows n (Nat.le_of_succ_le h))
      64 (broadcast S8x512 (Scalar.ofBits .f32 0x00000000#32))

/-- A whole trip: eight rows. -/
def trip : Prog (TpuEff nD τ sig (Elt F) Λ .tc) PUnit := rows arg1 arg8 arg9 v28 ha ht 8 (Nat.le_refl 8)

end Program

end Pathway
end
-- ==== Proof.Body.lean ====
/-
  THE KERNEL'S BODY as a short program over any signature: at grid point `t` the five copies of the embedding block in
  flight land, a loop of sixteen trips gathers, the next block's five copies are issued, the gathered sums go through
  the two dense layers into a slab of the representation buffer, and after the last point the loss is stored.
-/
module

public import proofs.«01_k».proof.Proof.Trip

@[expose] public section

noncomputable section

namespace Pathway

open Idealize.ShloMosaic
open Idealize.SL.Sem

/-! ## Shapes and their evidence -/

abbrev S_ : Shape := ⟨0, ![]⟩
abbrev S5 : Shape := ⟨1, ![5]⟩
abbrev S1x1 : Shape := ⟨2, ![1, 1]⟩
abbrev S384 : Shape := ⟨1, ![384]⟩
abbrev S384x1 : Shape := ⟨2, ![384, 1]⟩
abbrev S1x384 : Shape := ⟨2, ![1, 384]⟩
abbrev S384x128 : Shape := ⟨2, ![384, 128]⟩
abbrev S384x384 : Shape := ⟨2, ![384, 384]⟩
abbrev S128x128 : Shape := ⟨2, ![128, 128]⟩
abbrev S128x512 : Shape := ⟨2, ![128, 512]⟩
abbrev S512x512 : Shape := ⟨2, ![512, 512]⟩
abbrev S512x128 : Shape := ⟨2, ![512, 128]⟩
abbrev S1x512 : Shape := ⟨2, ![1, 512]⟩
abbrev S1x128 : Shape := ⟨2, ![1, 128]⟩
abbrev S4000x512 : Shape := ⟨2, ![4000, 512]⟩
abbrev S1x4000x512 : Shape := ⟨3, ![1, 4000, 512]⟩
abbrev S3x20000x512 : Shape := ⟨3, ![3, 20000, 512]⟩
abbrev S1x512x512 : Shape := ⟨3, ![1, 512, 512]⟩
abbrev S1x1x512 : Shape := ⟨3, ![1, 1, 512]⟩
abbrev S1x512x128 : Shape := ⟨3, ![1, 512, 128]⟩
abbrev S1x1x128 : Shape := ⟨3, ![1, 1, 128]⟩

theorem squeezes_S1_S_ : S1.Squeezes S_ := by decide
theorem squeezes_S1x4000x512_S4000x512 : S1x4000x512.Squeezes S4000x512 := by decide
theorem iota_S8x1 : S8x1.Iotas .tc 32 [0] := by decide
theorem h_S128x8x512 : 0 < S128x8x512.numel := by decide
theorem h_S1x512x512 : 0 < S1x512x512.numel := by decide
theorem h_S1x1x512 : 0 < S1x1x512.numel := by decide
theorem h_S1x512x128 : 0 < S1x512x128.numel := by decide
theorem h_S1x1x128 : 0 < S1x1x128.numel := by decide
theorem h_S128x128 : 0 < S128x128.numel := by decide
theorem h_S384x128 : 0 < S384x128.numel := by decide
theorem numel1_S1x1 : S1x1.numel = 1 := by decide
theorem reduces_S128x8x512_S128x512 : S128x8x512.Reduces [1] S128x512 := by decide
theorem shapeCasts_S1x512x512_S512x512 : S1x512x512.ShapeCasts S512x512 := by decide
theorem shapeCasts_S1x1x512_S1x512 : S1x1x512.ShapeCasts S1x512 := by decide
theorem broadcasts_S1x512_S128x512 : S1x512.Broadcasts S128x512 := by decide
theorem shapeCasts_S1x512x128_S512x128 : S1x512x128.ShapeCasts S512x128 := by decide
theorem shapeCasts_S1x1x128_S1x128 : S1x1x128.ShapeCasts S1x128 := by decide
theorem broadcasts_S1x128_S128x128 : S1x128.Broadcasts S128x128 := by decide
theorem shapeCasts_S128x128_S128x128 : S128x128.ShapeCasts S128x128 := by decide
theorem reduces_S384x128_S384 : S384x128.Reduces [1] S384 := by decide
theorem shapeCasts_S384_S384x1 : S384.ShapeCasts S384x1 := by decide
theorem broadcasts_S384x1_S384x128 : S384x1.Broadcasts S384x128 := by decide
theorem iota_S384x384_d0 : S384x384.Iotas .tc 32 [0] := by decide
theorem iota_S384x384_d1 : S384x384.Iotas .tc 32 [1] := by decide
theorem broadcasts_S384x384_S384x384 : S384x384.Broadcasts S384x384 := by decide
theorem reduces_S384x384_S384 : S384x384.Reduces [1] S384 := by decide
theorem shapeCasts_S384_S1x384 : S384.ShapeCasts S1x384 := by decide
theorem reduces_S1x384_S1 : S1x384.Reduces [1] S1 := by decide
theorem shapeCasts_S1_S1x1 : S1.ShapeCasts S1x1 := by decide
theorem inpos_S1x1 : ∀ a, (![0, 0] : Fin 2 → Nat) a < S1x1.size a := by decide

/-- The first dense layer's product: rows by columns. -/
def dotHid : DotDims S128x512 S512x512 S128x512 where
  lhsContracting := [1]
  rhsContracting := [0]
  lhsNonContracting := [0]
  rhsNonContracting := [1]
  lhsBatch := []
  rhsBatch := []
  wf := by decide
/-- The second dense layer's. -/
def dotOut : DotDims S128x512 S512x128 S128x128 where
  lhsContracting := [1]
  rhsContracting := [0]
  lhsNonContracting := [0]
  rhsNonContracting := [1]
  lhsBatch := []
  rhsBatch := []
  wf := by decide
/-- The similarities': rows by rows. -/
def dotSim : DotDims S384x128 S384x128 S384x384 where
  lhsContracting := [1]
  rhsContracting := [1]
  lhsNonContracting := [0]
  rhsNonContracting := [0]
  lhsBatch := []
  rhsBatch := []
  wf := by decide

/-! ## The values -/

section Values

variable {F : FTy → Type} [FloatOps F]

/-- The iota over the eight rows of a piece. -/
def lane : IVec S8x1 32 := iota .tc S8x1 32 [0] iota_S8x1

/-- The representations of one block of rows: the gathered rows averaged, through the two dense layers. -/
def encode (acc3 : FVec F S128x8x512 .f32) (w1 : FVec F S1x512x512 .f32) (b1 : FVec F S1x1x512 .f32) (w2 : FVec F S1x512x128 .f32)
    (b2 : FVec F S1x1x128 .f32) : FVec F S128x128 .f32 :=
  addf (matmul dotOut none
      (maximumf
        (addf
          (matmul dotHid none
            (mulf (multiReduction .add [1] S128x512 acc3 0x00000000#32 reduces_S128x8x512_S128x512 (.inl rfl) rfl)
              (broadcast S128x512 (Scalar.ofBits .f32 0x3C800000#32)))
            (shapeCast S512x512 w1 shapeCasts_S1x512x512_S512x512) (constant S128x512 .f32 0x00000000#32))
          (broadcastTo S128x512 (shapeCast S1x512 b1 shapeCasts_S1x1x512_S1x512) broadcasts_S1x512_S128x512))
        (broadcast S128x512 (Scalar.ofBits .f32 0x00000000#32)))
      (shapeCast S512x128 w2 shapeCasts_S1x512x128_S512x128) (constant S128x128 .f32 0x00000000#32))
    (broadcastTo S128x128 (shapeCast S1x128 b2 shapeCasts_S1x1x128_S1x128) broadcasts_S1x128_S128x128)

/-- The similarities of the normalised representations, scaled by `s`. -/
def similarity (s : F .f32) (z : FVec F S384x128 .f32) : FVec F S384x384 .f32 :=
  let n : FVec F S384x1 .f32 := sqrt (shapeCast S384x1
    (multiReduction .add [1] S384 (mulf z z) 0x00000000#32 reduces_S384x128_S384 (.inl rfl) rfl) shapeCasts_S384_S384x1)
  let zn : FVec F S384x128 .f32 := divf z (broadcastTo S384x128 (addf n (broadcast S384x1 (Scalar.ofBits .f32 0x2B8CBCCC#32))) broadcasts_S384x1_S384x128)
  mulf (matmul dotSim none zn zn (constant S384x384 .f32 0x00000000#32)) (broadcast S384x384 s)

/-- A word array modulo 128, as the kernel computes it. -/
def mod128 (x : IVec S384x384 32) : IVec S384x384 32 :=
  let d : BitVec 32 := Scalar.select (Scalar.cmpi .eq 128#32 0#32) 1#32 128#32
  let r : IVec S384x384 32 := remsi x (broadcast S384x384 d)
  select (andi (xori (cmpi .slt r (broadcast S384x384 0#32))
      (broadcastTo S384x384 (broadcast S384x384 (Scalar.cmpi .slt d 0#32)) broadcasts_S384x384_S384x384))
    (cmpi .ne r (broadcast S384x384 0#32))) (addi r (broadcast S384x384 d)) r

/-- The loss of the representations, their similarities scaled by `s`. -/
def lossOf (s : F .f32) (z : FVec F S384x128 .f32) : F .f32 :=
  let rows : IVec S384x384 32 := iota .tc S384x384 32 [0] iota_S384x384_d0
  let cols : IVec S384x384 32 := iota .tc S384x384 32 [1] iota_S384x384_d1
  let diag : IVec S384x384 1 := cmpi .eq rows cols
  let pos : IVec S384x384 1 := andi (cmpi .eq (mod128 rows) (mod128 cols)) (xori diag (constantI S384x384 1 1#1))
  let ex : FVec F S384x384 .f32 := select diag (broadcast S384x384 (Scalar.ofBits .f32 0x00000000#32)) (exp (similarity s z))
  let den : FVec F S384 .f32 := addf (multiReduction .add [1] S384 ex 0x00000000#32 reduces_S384x384_S384 (.inl rfl) rfl)
    (broadcast S384 (Scalar.ofBits .f32 0x2B8CBCCC#32))
  let num : FVec F S384 .f32 := addf (multiReduction .add [1] S384
      (select pos ex (broadcast S384x384 (Scalar.ofBits .f32 0x00000000#32))) 0x00000000#32 reduces_S384x384_S384 (.inl rfl) rfl)
    (broadcast S384 (Scalar.ofBits .f32 0x2B8CBCCC#32))
  Scalar.divf (extractAt ![0, 0] (shapeCast S1x1 (multiReduction .add [1] S1
      (shapeCast S1x384 (subf (log den) (log num)) shapeCasts_S384_S1x384) 0x00000000#32 reduces_S1x384_S1 (.inl rfl) rfl)
    shapeCasts_S1_S1x1) inpos_S1x1) (Scalar.ofBits .f32 0x43C00000#32)

end Values

/-! ## The copies' ends -/

section Program

variable {nD : ℕ} {τ : Topo} {sig : RefSig} {Λ : Labels} {F : FTy → Type} [FloatOps F]

/-- A piece of a block lies in the embeddings, -/
theorem src_inb {b : ℕ} (hb : b < 3) {s : ℕ} (hs : s < 5) : ∀ d, (![b, 4000 * s, 0] : Fin 3 → ℕ) d + S1x4000x512.size d ≤ S3x20000x512.size d := by
  intro d; fin_cases d
  · show b + 1 ≤ 3; omega
  · show 4000 * s + 4000 ≤ 20000; omega
  · show 0 + 512 ≤ 512; omega

/-- and in the table; -/
theorem dst_inb {s : ℕ} (hs : s < 5) : ∀ d, (![4000 * s, 0] : Fin 2 → ℕ) d + S4000x512.size d ≤ S20000x512.size d := by
  intro d; fin_cases d
  · show 4000 * s + 4000 ≤ 20000; omega
  · show 0 + 512 ≤ 512; omega

/-- its semaphore is one of the five. -/
theorem sem_inb {s : ℕ} (hs : s < 5) : ∀ d, (![s] : Fin 1 → ℕ) d + S1.size d ≤ S5.size d := by
  intro d; fin_cases d
  show s + 1 ≤ 5; omega

/-- Rows `4000 s` on of block `b` of the embeddings. -/
abbrev srcM (m : Memref sig .tc .hbm S3x20000x512 .f32) {b : ℕ} (hb : b < 3) {s : ℕ} (hs : s < 5) : Memref sig .tc .hbm S4000x512 .f32 :=
  (m.slice (Rect.unit (s := S3x20000x512) ![b, 4000 * s, 0] S1x4000x512.size (src_inb hb hs)) (fun _ => rfl)).squeeze S4000x512
    squeezes_S1x4000x512_S4000x512

/-- Rows `4000 s` on of the table in VMEM. -/
abbrev dstM (m : Memref sig .tc .vmem S20000x512 .f32) {s : ℕ} (hs : s < 5) : Memref sig .tc .vmem S4000x512 .f32 :=
  m.slice (Rect.unit (s := S20000x512) ![4000 * s, 0] S4000x512.size (dst_inb hs)) (fun _ => rfl)

/-- The semaphore of copy `s`. -/
abbrev semM (m : DmaSems sig S5) {s : ℕ} (hs : s < 5) : DmaSem sig :=
  ((m.slice (Rect.unit (s := S5) ![s] S1.size (sem_inb hs))).squeeze S_ squeezes_S1_S_).sem

/-- Pieces are numbered below five. -/
theorem piece_lt (n : ℕ) : 4 - n < 5 := Nat.lt_of_le_of_lt (Nat.sub_le 4 n) (by decide)

/-- Issue the last `n` copies of block `b`. -/
def issue {α : Type} (arg2 : Memref sig .tc .hbm S3x20000x512 .f32) (arg8 : Memref sig .tc .vmem S20000x512 .f32) (arg11 : DmaSems sig S5)
    {b : ℕ} (hb : b < 3) (k : Prog (TpuEff nD τ sig (Elt F) Λ .tc) α) : ℕ → Prog (TpuEff nD τ sig (Elt F) Λ .tc) α
  | 0 => k
  | n + 1 => Prog.op (.enqueueDma (srcM arg2 hb (piece_lt n)) (.here (dstM arg8 (piece_lt n))) (.dma (semM arg11 (piece_lt n)))
      ((View.wordExact_bits rfl).reshape _ _) (View.wordExact_bits rfl) ⟨Or.inl rfl, trivial⟩) fun _ => issue arg2 arg8 arg11 hb k n

/-- Wait for the last `n` copies of block `b`. -/
def await {α : Type} (arg2 : Memref sig .tc .hbm S3x20000x512 .f32) (arg8 : Memref sig .tc .vmem S20000x512 .f32) (arg11 : DmaSems sig S5)
    {b : ℕ} (hb : b < 3) (k : Prog (TpuEff nD τ sig (Elt F) Λ .tc) α) : ℕ → Prog (TpuEff nD τ sig (Elt F) Λ .tc) α
  | 0 => k
  | n + 1 => Prog.op (.waitDma2 (semM arg11 (piece_lt n)) (srcM arg2 hb (piece_lt n)) (dstM arg8 (piece_lt n))
      ((View.wordExact_bits rfl).reshape _ _) (View.wordExact_bits rfl)) fun _ => await arg2 arg8 arg11 hb k n

/-! ## The loop and the rest of a grid point -/

/-- The sixteen trips. -/
abbrev loop16 : Scf.Loop 32 := ⟨0#32, Scalar.addi 0#32 16#32, 1#32⟩
/-- The loop of sixteen trips is well formed. -/
theorem loop16_ok : loop16.OK := by decide

/-- A grid point's number as a word is below three; -/
theorem point_lt {t : ℕ} (ht : t < 3) : (BitVec.ofNat 32 t).toNat < 3 := by
  rw [BitVec.toNat_ofNat]; omega

/-- a trip's is below sixteen. -/
theorem trip_lt (k : Fin loop16.trips) : (Scf.iv 0#32 1#32 k.val).toNat < 16 := by
  have h : k.val < 16 := k.isLt
  simp only [Scf.iv, BitVec.toNat_add, BitVec.toNat_mul, BitVec.toNat_ofNat]; omega

/-- Where the representations of grid point `t` are stored. -/
def repOff (a : BitVec 32) : Fin 2 → ℕ := ![(Scalar.indexCast (Scalar.muli a 128#32) : Index).toNat, 0]

/-- A point's representations start at row 128 times its number, -/
theorem repOff_val {t : ℕ} (ht : t < 3) : repOff (BitVec.ofNat 32 t) = ![128 * t, 0] := by
  have : (Scalar.indexCast (Scalar.muli (BitVec.ofNat 32 t) 128#32) : Index).toNat = 128 * t := by
    simp only [Scalar.muli, Scalar.indexCast, IntOp.muli, BitVec.toNat_mul, BitVec.toNat_ofNat]; omega
  rw [repOff, this]

/-- and lie in the buffer. -/
theorem repOff_inb {t : ℕ} (ht : t < 3) : ∀ d, repOff (BitVec.ofNat 32 t) d + S128x128.size d ≤ S384x128.size d := by
  intro d; rw [repOff_val ht]; fin_cases d
  · show 128 * t + 128 ≤ 384; omega
  · show 0 + 128 ≤ 128; omega

variable (arg1 : Memref sig .tc .smem S24576 .i32) (arg2 : Memref sig .tc .hbm S3x20000x512 .f32)
  (arg3 : Memref sig .tc .vmem S1x512x512 .f32) (arg4 : Memref sig .tc .vmem S1x1x512 .f32)
  (arg5 : Memref sig .tc .vmem S1x512x128 .f32) (arg6 : Memref sig .tc .vmem S1x1x128 .f32)
  (arg7 : Memref sig .tc .smem S1x1 .f32) (arg8 : Memref sig .tc .vmem S20000x512 .f32)
  (arg9 : Memref sig .tc .vmem S128x8x512 .f32) (arg10 : Memref sig .tc .vmem S384x128 .f32) (arg11 : DmaSems sig S5)

/-- The loss, stored. -/
def finish (s : F .f32) : Prog (TpuEff nD τ sig (Elt F) Λ .tc) PUnit :=
  Prog.op (.load arg10 (Rect.unit (s := S384x128) ![0, 0] S384x128.size (by decide)).toLoadRect (View.loadsAt_vmem h_S384x128)) fun (z : Vec F S384x128 .f32) =>
  smemLoad arg7 (Rect.unit (s := S1x1) ![0, 0] S1x1.size (by decide)) numel1_S1x1 rfl >>= fun _ =>
  Prog.op (.store arg7 (Rect.unit (s := S1x1) ![0, 0] S1x1.size (by decide)) (fun _ => lossOf s z) Finset.univ (View.stores_smem_one rfl numel1_S1x1) (.inl rfl)) fun _ =>
  .ret ⟨⟩

/-- The dense layers: the representations and what was stored in their place before, handed to `k`. -/
def dense {α : Type} {t : ℕ} (ht : t < 3) (k : FVec F S128x128 .f32 → Vec F S128x128 .f32 → Prog (TpuEff nD τ sig (Elt F) Λ .tc) α) : Prog (TpuEff nD τ sig (Elt F) Λ .tc) α :=
  Prog.op (.load arg9 (Rect.unit (s := S128x8x512) ![0, 0, 0] S128x8x512.size (by decide)).toLoadRect (View.loadsAt_vmem h_S128x8x512)) fun (acc3 : Vec F S128x8x512 .f32) =>
  Prog.op (.load arg3 (Rect.unit (s := S1x512x512) ![0, 0, 0] S1x512x512.size (by decide)).toLoadRect (View.loadsAt_vmem h_S1x512x512)) fun (w1 : Vec F S1x512x512 .f32) =>
  Prog.op (.load arg4 (Rect.unit (s := S1x1x512) ![0, 0, 0] S1x1x512.size (by decide)).toLoadRect (View.loadsAt_vmem h_S1x1x512)) fun (b1 : Vec F S1x1x512 .f32) =>
  Prog.op (.load arg5 (Rect.unit (s := S1x512x128) ![0, 0, 0] S1x512x128.size (by decide)).toLoadRect (View.loadsAt_vmem h_S1x512x128)) fun (w2 : Vec F S1x512x128 .f32) =>
  Prog.op (.load arg6 (Rect.unit (s := S1x1x128) ![0, 0, 0] S1x1x128.size (by decide)).toLoadRect (View.loadsAt_vmem h_S1x1x128)) fun (b2 : Vec F S1x1x128 .f32) =>
  Prog.op (.load arg10 (Rect.unit (s := S384x128) (repOff (BitVec.ofNat 32 t)) S128x128.size (repOff_inb ht)).toLoadRect (View.loadsAt_vmem h_S128x128)) fun (z : Vec F S128x128 .f32) =>
  k (encode acc3 w1 b1 w2 b2) z

/-- Store the representations, and `k`. -/
def keep {t : ℕ} (ht : t < 3) (k : Prog (TpuEff nD τ sig (Elt F) Λ .tc) PUnit) (z : FVec F S128x128 .f32) : Prog (TpuEff nD τ sig (Elt F) Λ .tc) PUnit :=
  Prog.op (.store arg10 (Rect.unit (s := S384x128) (repOff (BitVec.ofNat 32 t)) S128x128.size (repOff_inb ht))
    (shapeCast S128x128 z shapeCasts_S128x128_S128x128) Finset.univ (View.stores_vmem_bits_univ h_S128x128 rfl) (.inl rfl)) fun _ => k

/-- The gather loop, and `k`. -/
def gatherLoop {α : Type} {t : ℕ} (ht : t < 3) (k : Prog (TpuEff nD τ sig (Elt F) Λ .tc) α) : Prog (TpuEff nD τ sig (Elt F) Λ .tc) α :=
  (Scf.Loop.for loop16 loop16_ok ⟨⟩ fun j _ => trip arg1 arg8 arg9 lane (point_lt ht) (trip_lt j)) >>= fun _ => k

/-- What the dense layers hand on. -/
abbrev Reps (F : FTy → Type) : Type := Σ' (_ : FVec F S128x128 .f32), Vec F S128x128 .f32

/-- Grid point 0 up to its representations. -/
def front0 {α : Type} (k : FVec F S128x128 .f32 → Vec F S128x128 .f32 → Prog (TpuEff nD τ sig (Elt F) Λ .tc) α) : Prog (TpuEff nD τ sig (Elt F) Λ .tc) α :=
  issue arg2 arg8 arg11 (b := 0) (by decide) (await arg2 arg8 arg11 (b := 0) (by decide)
    (gatherLoop arg1 arg8 arg9 (t := 0) (by decide) (issue arg2 arg8 arg11 (b := 1) (by decide)
      (dense arg3 arg4 arg5 arg6 arg9 arg10 (t := 0) (by decide) k) 5)) 5) 5

/-- Grid point 1 up to its representations. -/
def front1 {α : Type} (k : FVec F S128x128 .f32 → Vec F S128x128 .f32 → Prog (TpuEff nD τ sig (Elt F) Λ .tc) α) : Prog (TpuEff nD τ sig (Elt F) Λ .tc) α :=
  await arg2 arg8 arg11 (b := 1) (by decide)
    (gatherLoop arg1 arg8 arg9 (t := 1) (by decide) (issue arg2 arg8 arg11 (b := 2) (by decide)
      (dense arg3 arg4 arg5 arg6 arg9 arg10 (t := 1) (by decide) k) 5)) 5

/-- Grid point 2 up to its representations. -/
def front2 {α : Type} (k : FVec F S128x128 .f32 → Vec F S128x128 .f32 → Prog (TpuEff nD τ sig (Elt F) Λ .tc) α) : Prog (TpuEff nD τ sig (Elt F) Λ .tc) α :=
  await arg2 arg8 arg11 (b := 2) (by decide)
    (gatherLoop arg1 arg8 arg9 (t := 2) (by decide) (dense arg3 arg4 arg5 arg6 arg9 arg10 (t := 2) (by decide) k)) 5

/-- What follows the issued copies may be taken into them; -/
theorem issue_bind {α β : Type} {b : ℕ} (hb : b < 3) (k : Prog (TpuEff nD τ sig (Elt F) Λ .tc) α) (f : α → Prog (TpuEff nD τ sig (Elt F) Λ .tc) β) (n : ℕ) :
    issue arg2 arg8 arg11 hb k n >>= f = issue arg2 arg8 arg11 hb (k >>= f) n := by
  induction n with
  | zero => rfl
  | succ n ih => exact congrArg (Prog.op _) (funext fun _ => ih)

/-- what follows the waits into the waits; -/
theorem await_bind {α β : Type} {b : ℕ} (hb : b < 3) (k : Prog (TpuEff nD τ sig (Elt F) Λ .tc) α) (f : α → Prog (TpuEff nD τ sig (Elt F) Λ .tc) β) (n : ℕ) :
    await arg2 arg8 arg11 hb k n >>= f = await arg2 arg8 arg11 hb (k >>= f) n := by
  induction n with
  | zero => rfl
  | succ n ih => exact congrArg (Prog.op _) (funext fun _ => ih)

/-- what follows the loop into the loop. -/
theorem gatherLoop_bind {α β : Type} {t : ℕ} (ht : t < 3) (k : Prog (TpuEff nD τ sig (Elt F) Λ .tc) α) (f : α → Prog (TpuEff nD τ sig (Elt F) Λ .tc) β) :
    gatherLoop arg1 arg8 arg9 ht k >>= f = gatherLoop arg1 arg8 arg9 ht (k >>= f) := bind_assoc ..

/-- A continuation of the whole of grid point 0's front is a continuation of its end. -/
theorem front0_bind {α β : Type} (k : FVec F S128x128 .f32 → Vec F S128x128 .f32 → Prog (TpuEff nD τ sig (Elt F) Λ .tc) α) (f : α → Prog (TpuEff nD τ sig (Elt F) Λ .tc) β) :
    front0 arg1 arg2 arg3 arg4 arg5 arg6 arg8 arg9 arg10 arg11 k >>= f
      = front0 arg1 arg2 arg3 arg4 arg5 arg6 arg8 arg9 arg10 arg11 fun z y => k z y >>= f := by
  unfold front0
  rw [issue_bind, await_bind, gatherLoop_bind, issue_bind]; rfl

/-- The same of grid point 1. -/
theorem front1_bind {α β : Type} (k : FVec F S128x128 .f32 → Vec F S128x128 .f32 → Prog (TpuEff nD τ sig (Elt F) Λ .tc) α) (f : α → Prog (TpuEff nD τ sig (Elt F) Λ .tc) β) :
    front1 arg1 arg2 arg3 arg4 arg5 arg6 arg8 arg9 arg10 arg11 k >>= f
      = front1 arg1 arg2 arg3 arg4 arg5 arg6 arg8 arg9 arg10 arg11 fun z y => k z y >>= f := by
  unfold front1
  rw [await_bind, gatherLoop_bind, issue_bind]; rfl

/-- The same of grid point 2. -/
theorem front2_bind {α β : Type} (k : FVec F S128x128 .f32 → Vec F S128x128 .f32 → Prog (TpuEff nD τ sig (Elt F) Λ .tc) α) (f : α → Prog (TpuEff nD τ sig (Elt F) Λ .tc) β) :
    front2 arg1 arg2 arg3 arg4 arg5 arg6 arg8 arg9 arg10 arg11 k >>= f
      = front2 arg1 arg2 arg3 arg4 arg5 arg6 arg8 arg9 arg10 arg11 fun z y => k z y >>= f := by
  unfold front2
  rw [await_bind, gatherLoop_bind]; rfl

end Program

end Pathway
end
-- ==== Proof.Copies.lean ====
/-
  The five copies that bring one block of the embeddings into VMEM: what is in flight between issuing them and waiting
  for them, and that the table then reads as the block.
-/
module

public import proofs.«01_k».proof.Proof.Body
public import Idealize.ShloMosaic.Lib.Pipeline
public import Idealize.ShloMosaic.Lib.Pipeline.FrameBody
public import Idealize.ShloMosaic.Lib.Pipeline.Value
public import Idealize.ShloMosaic.Lib.Writes
public import Idealize.ShloMosaic.Lib.ValueLayout
public import Idealize.ShloMosaic.Lib.Transfers
public import Idealize.ShloMosaic.Lib.Tactic

@[expose] public section

noncomputable section

namespace Pathway

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]

local notation "𝕄" => MT nD τ sig Unit (Elt F) ℕ (Pipeline.UD sig nD τ) ℕ
local notation "EC" => (countersEmb (U := Pipeline.UD sig nD τ) : UEmb Counters (MT nD τ sig Unit (Elt F) ℕ (Pipeline.UD sig nD τ) ℕ))

/-! ## The pieces of a list of five -/

/-- `P` at the last `n` of five. -/
def pend (P : Fin 5 → sProp 𝕄) : ℕ → sProp 𝕄
  | 0 => iprop(emp)
  | n + 1 => iprop(P ⟨4 - n, piece_lt n⟩ ∗ pend P n)

/-- Five pending pieces are all pieces. -/
theorem pend_five (P : Fin 5 → sProp 𝕄) : pend P 5 = bigSep Finset.univ P := by
  rw [BI.bigSep_eq_bigSepL_of_eq [0, 1, 2, 3, 4] (by decide) (by decide)]
  simp only [pend]
  exact congrArg (fun x => iprop(P 0 ∗ P 1 ∗ P 2 ∗ P 3 ∗ x)) (equiv_iff.mp sep_emp)

variable (arg2 : Memref sig .tc .hbm S3x20000x512 .f32) (arg8 : Memref sig .tc .vmem S20000x512 .f32) (arg11 : DmaSems sig S5) (c : Dev nD)

/-- The contents of the embeddings' buffer, and of the table's. -/
abbrev EmbBuf : Type := Buf (Elt F) (arg2.view.loc (c : Thread nD τ))
/-- The table buffer's contents. -/
abbrev TabBuf : Type := Buf (Elt F) (arg8.view.loc (c : Thread nD τ))

/-- The elements of a piece in the embeddings, -/
abbrev srcSet {b : ℕ} (hb : b < 3) (s : Fin 5) : Finset (Idx (arg2.view.loc (c : Thread nD τ))) := (srcM arg2 hb s.isLt).view.set
/-- and in the table. -/
abbrev dstSet (s : Fin 5) : Finset (Idx (arg8.view.loc (c : Thread nD τ))) := (dstM arg8 s.isLt).view.set

/-- What copy `s` of block `b` delivers. -/
def landed {b : ℕ} (hb : b < 3) (f2 : EmbBuf (F := F) (τ := τ) arg2 c) (fd : TabBuf (F := F) (τ := τ) arg8 c) (s : Fin 5) : TabBuf (F := F) (τ := τ) arg8 c :=
  (dstM arg8 s.isLt).view.write (Elt F) fd ((srcM arg2 hb s.isLt).view.read (Elt F) f2) Finset.univ

/-- What copy `s` takes and, its destination rewritten, gives back. -/
def ends {b : ℕ} (hb : b < 3) (f2 : EmbBuf (F := F) (τ := τ) arg2 c) (g : TabBuf (F := F) (τ := τ) arg8 c) (s : Fin 5) : sProp 𝕄 :=
  iprop((arg8.view.loc (c : Thread nD τ) ↦[dstSet arg8 c s]{fullShare} g)
    ∗ (arg2.view.loc (c : Thread nD τ) ↦[srcSet arg2 c hb s]{fullShare} f2))

/-- Copy `s` in flight. -/
def flying {b : ℕ} (hb : b < 3) (f2 : EmbBuf (F := F) (τ := τ) arg2 c) (fd : TabBuf (F := F) (τ := τ) arg8 c) (s : Fin 5) : sProp 𝕄 :=
  Transfers.Flight EC (c : Thread nD τ) (.dma (semM arg11 s.isLt)) () ((dstM arg8 s.isLt).view.dmaCredit) (ends arg2 arg8 c hb f2 (landed arg2 arg8 c hb f2 fd s) s)

/-- The cell of copy `s` at zero. -/
def idle (s : Fin 5) : sProp 𝕄 := semVal ((c : Thread nD τ), .dma (semM arg11 s.isLt)) 0

/-- A copy is worth a positive number of credits. -/
theorem credit_pos (s : Fin 5) : 0 < (dstM arg8 s.isLt).view.dmaCredit := View.dmaCredit_pos _ (by decide)

variable {defs : Defs nD τ sig (Elt F) Λ} (𝒱 : Variants) (bd : Option 𝒱.V)

/-- Issuing the five copies of a block puts each in flight, given its piece of the embeddings and of the table and its idle semaphore. -/
theorem issue_pend {α : Type} {b : ℕ} (hb : b < 3) (f2 : EmbBuf (F := F) (τ := τ) arg2 c) (fd : TabBuf (F := F) (τ := τ) arg8 c)
    (k : Prog (TpuEff nD τ sig (Elt F) Λ .tc) α) (Q : α → sProp 𝕄) (n : ℕ) :
    iprop(pend (fun s => iprop(ends arg2 arg8 c hb f2 fd s ∗ idle arg11 c s)) n
        ∗ (pend (flying arg2 arg8 arg11 c hb f2 fd) n -∗ wp frame (wpE defs 𝒱 (c : Thread nD τ) bd) Set.univ k Q))
      ⊢ wp frame (wpE defs 𝒱 (c : Thread nD τ) bd) Set.univ (issue arg2 arg8 arg11 hb k n) Q := by
  induction n generalizing Q with
  | zero =>
    iintro ⟨H, Hk⟩
    iapply Hk
    iexact H
  | succ n ih =>
    unfold pend ends idle issue
    iintro ⟨⟨⟨⟨Hd, Hs⟩, Hv⟩, Hr⟩, Hk⟩
    iapply (Transfers.wp_dmaLocal EC 𝒱 (c : Thread nD τ) bd () _ (View.amount_dma _ _) (credit_pos arg8 ⟨4 - n, piece_lt n⟩) (Finset.Subset.refl _)) $$ [Hs Hd Hv]
    · isplitl [Hs]; · iexact Hs
      isplitl [Hd]; · iexact Hd
      iexact Hv
    iintro Hf
    iapply ih
    isplitl [Hr]; · iexact Hr
    iintro Hp
    iapply Hk
    isplitl [Hf]
    · unfold flying ends landed; iexact Hf
    iexact Hp

/-- Waiting for the five copies gives each landed piece back. -/
theorem await_pend {α : Type} {b : ℕ} (hb : b < 3) (f2 : EmbBuf (F := F) (τ := τ) arg2 c) (fd : TabBuf (F := F) (τ := τ) arg8 c)
    (k : Prog (TpuEff nD τ sig (Elt F) Λ .tc) α) (Q : α → sProp 𝕄) (n : ℕ) (W : Waits sig Unit) :
    iprop(pend (flying arg2 arg8 arg11 c hb f2 fd) n ∗ owes (c : Thread nD τ) 0 W
        ∗ (pend (fun s => iprop(ends arg2 arg8 c hb f2 (landed arg2 arg8 c hb f2 fd s) s ∗ idle arg11 c s)) n -∗ (∃ W', owes (c : Thread nD τ) 0 W')
          -∗ wp frame (wpE defs 𝒱 (c : Thread nD τ) bd) Set.univ k Q))
      ⊢ wp frame (wpE defs 𝒱 (c : Thread nD τ) bd) Set.univ (await arg2 arg8 arg11 hb k n) Q := by
  induction n generalizing Q W with
  | zero =>
    unfold await pend
    iintro ⟨H, HW, Hk⟩
    iapply Hk $$ H
    iexists W; iexact HW
  | succ n ih =>
    unfold pend flying idle await
    iintro ⟨⟨Hf, Hr⟩, HW, Hk⟩
    iapply (Transfers.wp_waitLocal EC 𝒱 (c : Thread nD τ) bd () rfl) $$ [Hf HW]
    · isplitl [Hf]; · iexact Hf
      iexact HW
    iintro ⟨Hd, Hv, HW⟩
    iapply ih
    isplitl [Hr]; · iexact Hr
    isplitl [HW]; · iexact HW
    iintro Hp HW
    iapply Hk $$ [Hd Hv Hp] HW
    isplitl [Hd Hv]
    · isplitl [Hd]; · iexact Hd
      iexact Hv
    iexact Hp

/-! ## The sets of the ends -/

/-- A place of the table is in the piece that its row is of; -/
theorem mem_dst {s : Fin 5} {x : S20000x512.Idx} :
    arg8.view.emb x ∈ dstSet (τ := τ) arg8 c s ↔ 4000 * s.val ≤ (x 0).val ∧ (x 0).val < 4000 * s.val + 4000 := by
  show _ ∈ (arg8.view.slice _).set ↔ _
  rw [View.set_slice, Finset.mem_map' arg8.view.emb, Rect.mem_set_unit]
  constructor
  · intro h; exact h 0
  · intro h a
    fin_cases a
    · exact h
    · exact ⟨Nat.zero_le _, lt_of_lt_of_eq (x 1).isLt (Nat.zero_add _).symm⟩

/-- a place of the embeddings likewise, in its own block. -/
theorem mem_src {b : ℕ} (hb : b < 3) {s : Fin 5} {x : S3x20000x512.Idx} :
    arg2.view.emb x ∈ srcSet (τ := τ) arg2 c hb s ↔ (x 0).val = b ∧ 4000 * s.val ≤ (x 1).val ∧ (x 1).val < 4000 * s.val + 4000 := by
  show _ ∈ ((arg2.view.slice _).reshape _ _).set ↔ _
  rw [View.set_reshape, View.set_slice, Finset.mem_map' arg2.view.emb, Rect.mem_set_unit]
  constructor
  · intro h
    have h0 : b ≤ (x 0).val ∧ (x 0).val < b + 1 := h 0
    exact ⟨by omega, h 1⟩
  · intro h a
    fin_cases a
    · show b ≤ (x 0).val ∧ (x 0).val < b + 1; omega
    · exact h.2
    · exact ⟨Nat.zero_le _, lt_of_lt_of_eq (x 2).isLt (Nat.zero_add _).symm⟩

/-- A piece's places are the table's, -/
theorem dst_subset (s : Fin 5) : dstSet (τ := τ) arg8 c s ⊆ arg8.view.set := View.set_slice_subset _ _
/-- and the embeddings'. -/
theorem src_subset {b : ℕ} (hb : b < 3) (s : Fin 5) : srcSet (τ := τ) arg2 c hb s ⊆ arg2.view.set := by
  show ((arg2.view.slice _).reshape _ _).set ⊆ _
  rw [View.set_reshape]; exact View.set_slice_subset _ _

/-- Different pieces share no place of the table, -/
theorem dst_disjoint (s s' : Fin 5) (h : s ≠ s') : Disjoint (dstSet (τ := τ) arg8 c s) (dstSet (τ := τ) arg8 c s') := by
  rw [Finset.disjoint_left]
  intro i hi hi'
  obtain ⟨x, -, rfl⟩ := Finset.mem_map.mp (dst_subset (τ := τ) arg8 c s hi)
  rw [mem_dst] at hi hi'
  exact h (Fin.ext (by omega))

/-- and none of the embeddings. -/
theorem src_disjoint {b : ℕ} (hb : b < 3) (s s' : Fin 5) (h : s ≠ s') : Disjoint (srcSet (τ := τ) arg2 c hb s) (srcSet (τ := τ) arg2 c hb s') := by
  rw [Finset.disjoint_left]
  intro i hi hi'
  obtain ⟨x, -, rfl⟩ := Finset.mem_map.mp (src_subset (τ := τ) arg2 c hb s hi)
  rw [mem_src] at hi hi'
  exact h (Fin.ext (by omega))

/-- The five destinations are the whole table. -/
theorem dst_cover : (Finset.univ : Finset (Fin 5)).biUnion (dstSet (τ := τ) arg8 c) = arg8.view.set := by
  ext i
  rw [Finset.mem_biUnion]
  constructor
  · rintro ⟨s, -, h⟩; exact dst_subset (τ := τ) arg8 c s h
  · intro h
    obtain ⟨x, -, rfl⟩ := Finset.mem_map.mp h
    have hx : (x 0).val < 20000 := (x 0).isLt
    refine ⟨⟨(x 0).val / 4000, by omega⟩, Finset.mem_univ _, ?_⟩
    rw [mem_dst]
    show 4000 * ((x 0).val / 4000) ≤ _ ∧ _ < 4000 * ((x 0).val / 4000) + 4000
    omega

/-- The five sources together. -/
abbrev blockSet {b : ℕ} (hb : b < 3) : Finset (Idx (arg2.view.loc (c : Thread nD τ))) := (Finset.univ : Finset (Fin 5)).biUnion (srcSet (τ := τ) arg2 c hb)
/-- A block's places are the embeddings'. -/
theorem block_subset {b : ℕ} (hb : b < 3) : blockSet (τ := τ) arg2 c hb ⊆ arg2.view.set := by
  intro i h
  obtain ⟨s, -, h⟩ := Finset.mem_biUnion.mp h
  exact src_subset (τ := τ) arg2 c hb s h

/-! ## The landed table -/

/-- Block `b` of the embeddings, as a table. -/
def tableOf (E : S3x20000x512.Idx → Elt F .f32) {b : ℕ} (hb : b < 3) : S20000x512.Idx → Elt F .f32 :=
  fun x => E (ix3 (⟨b, hb⟩ : Fin 3) (x 0) (x 1))

/-- The table, each piece landed, reads as the embeddings' block. -/
theorem read_landed {b : ℕ} (hb : b < 3) (f2 : EmbBuf (F := F) (τ := τ) arg2 c) (fd g : TabBuf (F := F) (τ := τ) arg8 c)
    (hg : ∀ s ∈ (Finset.univ : Finset (Fin 5)), ∀ i ∈ dstSet (τ := τ) arg8 c s, g i = landed arg2 arg8 c hb f2 fd s i) :
    arg8.view.read (Elt F) g = tableOf (arg2.view.read (Elt F) f2) hb := by
  funext y
  have hy : (y 0).val < 20000 := (y 0).isLt
  let s : Fin 5 := ⟨(y 0).val / 4000, by omega⟩
  let x : S4000x512.Idx := ix2 (⟨(y 0).val - 4000 * s.val, by show (y 0).val - 4000 * ((y 0).val / 4000) < 4000; omega⟩ : Fin 4000) (y 1)
  have hs : s.val = (y 0).val / 4000 := rfl
  have e : (Rect.unit (s := S20000x512) ![4000 * s.val, 0] S4000x512.size (dst_inb s.isLt)).emb x = y := by
    refine Rect.emb_eq_of_coords _ _ _ fun a => ?_
    fin_cases a
    · show (y 0).val = 4000 * s.val + 1 * ((y 0).val - 4000 * s.val); omega
    · show (y 1).val = 0 + 1 * (y 1).val; omega
  have h1 : (dstM arg8 s.isLt).view.read (Elt F) g x = (dstM arg8 s.isLt).view.read (Elt F) (landed arg2 arg8 c hb f2 fd s) x := by
    unfold View.read
    rw [hg s (Finset.mem_univ _) _ (View.emb_mem_set _ x)]
  have h2 : (dstM arg8 s.isLt).view.read (Elt F) (landed arg2 arg8 c hb f2 fd s) = (srcM arg2 hb s.isLt).view.read (Elt F) f2 := View.read_write_univ _ _
  have h3 : (srcM arg2 hb s.isLt).view.read (Elt F) f2 x
      = shapeCast S4000x512 (arg2.view.readAt (Elt F) (Rect.unit (s := S3x20000x512) ![b, 4000 * s.val, 0] S1x4000x512.size (src_inb hb s.isLt)).toLoadRect f2)
          (by decide : S1x4000x512.ShapeCasts S4000x512) x := rfl
  have h4 : arg8.view.read (Elt F) g y = (dstM arg8 s.isLt).view.read (Elt F) g x :=
    congrArg (arg8.view.read (Elt F) g) e.symm
  rw [h4, h1, h2, h3]
  refine (shapeCast_1ab_ab_apply _ _ _ _).trans ?_
  refine congrArg (arg2.view.read (Elt F) f2) (funext fun a => Fin.ext ?_)
  fin_cases a
  · show b + 1 * 0 = b; omega
  · show 4000 * s.val + 1 * ((y 0).val - 4000 * s.val) = (y 0).val; omega
  · show 0 + 1 * (y 1).val = (y 1).val; omega

/-! ## Between grid points -/

/-- Block `b` in flight: the five copies, and the embeddings outside the block. -/
def inFlight {b : ℕ} (hb : b < 3) (f2 : EmbBuf (F := F) (τ := τ) arg2 c) : sProp 𝕄 :=
  iprop(∃ fd, bigSep Finset.univ (flying arg2 arg8 arg11 c hb f2 fd)
    ∗ (arg2.view.loc (c : Thread nD τ) ↦[arg2.view.set \ blockSet (τ := τ) arg2 c hb]{fullShare} f2))

/-- The embeddings whole. -/
def embs (f2 : EmbBuf (F := F) (τ := τ) arg2 c) : sProp 𝕄 := iprop(arg2.view.loc (c : Thread nD τ) ↦[arg2.view.set]{fullShare} f2)

/-- The five cells at zero. -/
def idles : sProp 𝕄 := bigSep Finset.univ (idle (F := F) (τ := τ) arg11 c)

/-- The five landed pieces are the block and the table, piece by piece. -/
theorem ends_split {b : ℕ} (hb : b < 3) (f2 : EmbBuf (F := F) (τ := τ) arg2 c) (g : Fin 5 → TabBuf (F := F) (τ := τ) arg8 c) :
    bigSep Finset.univ (fun s => iprop(ends arg2 arg8 c hb f2 (g s) s ∗ idle arg11 c s))
      = iprop((bigSep Finset.univ (fun s => iprop(arg8.view.loc (c : Thread nD τ) ↦[dstSet (τ := τ) arg8 c s]{fullShare} g s))
          ∗ (arg2.view.loc (c : Thread nD τ) ↦[blockSet (τ := τ) arg2 c hb]{fullShare} f2))
          ∗ bigSep Finset.univ (idle (F := F) (τ := τ) arg11 c)) :=
  (bigSep_sep _ (fun s => ends arg2 arg8 c hb f2 (g s) s) (idle arg11 c)).trans
    (congrArg (fun x : sProp 𝕄 => BI.sep x (bigSep Finset.univ (idle (F := F) (τ := τ) arg11 c))) ((bigSep_sep _ _ _).trans
      (congrArg (BI.sep _) (pointsTo_biUnion Finset.univ (srcSet (τ := τ) arg2 c hb) (fun s _ s' _ h => src_disjoint arg2 c hb s s' h)).symm)))

/-- The five destinations join to the table. -/
theorem table_join (gs : Fin 5 → TabBuf (F := F) (τ := τ) arg8 c) (g₀ : TabBuf (F := F) (τ := τ) arg8 c) :
    bigSep Finset.univ (fun s => iprop(arg8.view.loc (c : Thread nD τ) ↦[dstSet (τ := τ) arg8 c s]{fullShare} gs s))
      ⊢ (iprop(∃ g, ⌜∀ s ∈ (Finset.univ : Finset (Fin 5)), ∀ i ∈ dstSet (τ := τ) arg8 c s, g i = gs s i⌝
          ∗ (arg8.view.loc (c : Thread nD τ) ↦[arg8.view.set]{fullShare} g)) : sProp 𝕄) := by
  rw [← dst_cover arg8 c]
  exact pointsTo_biUnion_join Finset.univ (dstSet (τ := τ) arg8 c) gs g₀ (fun s _ s' _ h => dst_disjoint arg8 c s s' h)

/-- Issuing the five copies of a block puts it in flight. -/
theorem wp_issue {α : Type} {b : ℕ} (hb : b < 3) (f2 : EmbBuf (F := F) (τ := τ) arg2 c)
    (k : Prog (TpuEff nD τ sig (Elt F) Λ .tc) α) (Q : α → sProp 𝕄) :
    iprop((∃ X, owns (c : Thread nD τ) arg8 fullShare X) ∗ embs arg2 c f2 ∗ idles arg11 c
        ∗ (inFlight arg2 arg8 arg11 c hb f2 -∗ wp frame (wpE defs 𝒱 (c : Thread nD τ) bd) Set.univ k Q))
      ⊢ wp frame (wpE defs 𝒱 (c : Thread nD τ) bd) Set.univ (issue arg2 arg8 arg11 hb k 5) Q := by
  unfold owns embs idles inFlight
  iintro ⟨⟨%X, %fd, -, H8⟩, H2, Hi, Hk⟩
  iapply (issue_pend arg2 arg8 arg11 c 𝒱 bd hb f2 fd)
  rw [pend_five, pend_five, ends_split arg2 arg8 arg11 c hb f2 (fun _ => fd)]
  ihave H2 := (pointsTo_split_subset (block_subset arg2 c hb)).1 $$ H2
  icases H2 with ⟨H2, Hrest⟩
  isplitl [H8 H2 Hi]
  · isplitl [H8 H2]
    · isplitl [H8]
      · rw [← pointsTo_biUnion Finset.univ (dstSet (τ := τ) arg8 c) (fun s _ s' _ h => dst_disjoint arg8 c s s' h), dst_cover]
        iexact H8
      · iexact H2
    iexact Hi
  iintro Hf
  iapply Hk
  iexists fd
  isplitl [Hf]; · iexact Hf
  iexact Hrest

/-- Waiting for the five copies of a block in flight leaves the table reading as the block. -/
theorem wp_await {α : Type} {b : ℕ} (hb : b < 3) (f2 : EmbBuf (F := F) (τ := τ) arg2 c)
    (k : Prog (TpuEff nD τ sig (Elt F) Λ .tc) α) (Q : α → sProp 𝕄) (W : Waits sig Unit) :
    iprop(inFlight arg2 arg8 arg11 c hb f2 ∗ owes (c : Thread nD τ) 0 W
        ∗ (owns (c : Thread nD τ) arg8 fullShare (tableOf (arg2.view.read (Elt F) f2) hb) -∗ embs arg2 c f2 -∗ idles arg11 c
          -∗ (∃ W', owes (c : Thread nD τ) 0 W') -∗ wp frame (wpE defs 𝒱 (c : Thread nD τ) bd) Set.univ k Q))
      ⊢ wp frame (wpE defs 𝒱 (c : Thread nD τ) bd) Set.univ (await arg2 arg8 arg11 hb k 5) Q := by
  unfold owns embs idles inFlight
  iintro ⟨⟨%fd, Hf, Hrest⟩, HW, Hk⟩
  iapply (await_pend arg2 arg8 arg11 c 𝒱 bd hb f2 fd)
  rw [pend_five, pend_five, ends_split arg2 arg8 arg11 c hb f2 (landed arg2 arg8 c hb f2 fd)]
  isplitl [Hf]; · iexact Hf
  isplitl [HW]; · iexact HW
  iintro ⟨⟨H8, H2⟩, Hi⟩ HW
  ihave H8 := (table_join arg8 c (landed arg2 arg8 c hb f2 fd) fd) $$ H8
  icases H8 with ⟨%g, %hg, H8⟩
  iapply Hk $$ [H8] [H2 Hrest] Hi HW
  · iexists g
    isplitr
    · ipureintro; exact read_landed arg2 arg8 c hb f2 fd g hg
    iexact H8
  · iapply (pointsTo_split_subset (block_subset arg2 c hb)).2
    isplitl [H2]; · iexact H2
    iexact Hrest

end Pathway
end
-- ==== Proof.Access.lean ====
/-
  Loads and stores through a memref that is held at named contents.
-/
module

public import proofs.«01_k».proof.Proof.Copies
public import Idealize.ShloMosaic.Lib.Memref

@[expose] public section

noncomputable section

namespace Pathway

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]

local notation "𝕄" => MT nD τ sig Unit (Elt F) ℕ (Pipeline.UD sig nD τ) ℕ

variable (c : Dev nD) {defs : Defs nD τ sig (Elt F) Λ} (𝒱 : Variants) (bd : Option 𝒱.V)

/-- A load reads the named contents at the load's indices. -/
theorem wp_read {α : Type} {cs : CoreSpace} {s : Shape} {e : EltTy} (m : Memref sig .tc cs s e) (r : LoadRect s) (hl : m.view.LoadsAt r)
    (k : (r.shape.Idx → Elt F e) → Prog (TpuEff nD τ sig (Elt F) Λ .tc) α) (q : PosShare TreeShare) (X : s.Idx → Elt F e) (Q : α → sProp 𝕄) :
    iprop(owns (c : Thread nD τ) m q X
        ∗ (owns (c : Thread nD τ) m q X -∗ wp frame (wpE defs 𝒱 (c : Thread nD τ) bd) Set.univ (k fun y => X (r.idx y)) Q))
      ⊢ wp frame (wpE defs 𝒱 (c : Thread nD τ) bd) Set.univ (.op (.load m r hl) k) Q := by
  unfold owns
  iintro ⟨⟨%f, %hf, H⟩, Hk⟩
  have e : m.view.readAt (Elt F) r f = fun y => X (r.idx y) := by rw [← hf]; rfl
  iapply (wp_load 𝒱 (c : Thread nD τ) bd Set.univ (m.view.setOn_subset_set r.set)) $$ H
  rw [e]
  iintro H
  iapply Hk
  iexists f
  isplitr
  · ipureintro; exact hf
  iexact H

/-- The same of a one-word load from scalar memory. -/
theorem wp_readWord {α : Type} {s : Shape} {e : EltTy} (m : Memref sig .tc .smem s e) (r : Rect s) (hw : (m.access r).Loads) (x : r.shape.Idx)
    (k : Elt F e → Prog (TpuEff nD τ sig (Elt F) Λ .tc) α) (q : PosShare TreeShare) (X : s.Idx → Elt F e) (Q : α → sProp 𝕄) :
    iprop(owns (c : Thread nD τ) m q X
        ∗ (owns (c : Thread nD τ) m q X -∗ wp frame (wpE defs 𝒱 (c : Thread nD τ) bd) Set.univ (k (X (r.emb x))) Q))
      ⊢ wp frame (wpE defs 𝒱 (c : Thread nD τ) bd) Set.univ (smemLoadElt m r hw x k) Q := by
  unfold owns
  iintro ⟨⟨%f, %hf, H⟩, Hk⟩
  have e : (m.access r).read (Elt F) f x = X (r.emb x) := by rw [← hf]; rfl
  iapply (wp_smemLoadElt 𝒱 (c : Thread nD τ) bd Set.univ (m := m) (r := r) (View.set_slice_subset _ _)) $$ H
  rw [e]
  iintro H
  iapply Hk
  iexists f
  isplitr
  · ipureintro; exact hf
  iexact H

/-- What a whole-mask store leaves: the stored values in its rectangle, what was there before elsewhere. -/
def Stored {s : Shape} {e : EltTy} (r : Rect s) (w : r.shape.Idx → Elt F e) (X X' : s.Idx → Elt F e) : Prop :=
  (∀ x, X' (r.emb x) = w x) ∧ ∀ y, y ∉ r.set → X' y = X y

/-- A store through a memref held at named contents leaves the stored contents. -/
theorem wp_put {α : Type} {cs : CoreSpace} {s : Shape} {e : EltTy} (m : Memref sig .tc cs s e) (r : Rect s) (w : r.shape.Idx → Elt F e)
    (hx : (m.access r).Stores Finset.univ) (hm : (Finset.univ : Finset r.shape.Idx) = Finset.univ ∨ ∀ a, r.stride a = 1)
    (k : PUnit → Prog (TpuEff nD τ sig (Elt F) Λ .tc) α) (X : s.Idx → Elt F e) (Q : α → sProp 𝕄) :
    iprop(owns (c : Thread nD τ) m fullShare X
        ∗ (∀ X', ⌜Stored r w X X'⌝ -∗ owns (c : Thread nD τ) m fullShare X' -∗ wp frame (wpE defs 𝒱 (c : Thread nD τ) bd) Set.univ (k ⟨⟩) Q))
      ⊢ wp frame (wpE defs 𝒱 (c : Thread nD τ) bd) Set.univ (.op (.store m r w Finset.univ hx hm) k) Q := by
  unfold owns
  iintro ⟨⟨%f, %hf, H⟩, Hk⟩
  iapply (wp_store 𝒱 (c : Thread nD τ) bd Set.univ (S := m.view.set) (((m.access r).setOn_subset_set _).trans (View.set_slice_subset _ _))) $$ H
  iintro H
  iapply Hk $$ %(m.view.read (Elt F) ((m.access r).write (Elt F) f w Finset.univ)) []
  · ipureintro
    refine ⟨fun x => ?_, fun y hy => ?_⟩
    · exact congrFun (View.read_write_univ (v := m.access r) f w) x
    · rw [← hf]
      unfold View.read
      refine congrArg _ (View.write_of_not_mem (v := m.access r) f w Finset.univ ?_)
      rw [View.setOn_univ]
      show _ ∉ (m.view.slice r).set
      rw [View.set_slice, Finset.mem_map' m.view.emb]
      exact hy
  iexists _
  isplitr
  · ipureintro; rfl
  iexact H

end Pathway
end
-- ==== Proof.Gather.lean ====
/-
  The gather loop: each trip leaves eight rows of the scratch block holding the sums of their gathered pieces.
-/
module

public import proofs.«01_k».proof.Proof.Access
public import Idealize.ShloMosaic.Lib.Scf

@[expose] public section

noncomputable section

namespace Pathway

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]

local notation "𝕄" => MT nD τ sig Unit (Elt F) ℕ (Pipeline.UD sig nD τ) ℕ

/-! ## What is gathered -/

section Values

variable (T : S20000x512.Idx → Elt F .f32) (I : S24576.Idx → BitVec 32)

/-- The eight rows of the table that hold row `v`. -/
def chunk (v : BitVec 32) : FVec F S8x512 .f32 :=
  fun y => T (ix2 (⟨(8 * (v.toNat / 8) + (y 0).val) % 20000, Nat.mod_lt _ (by decide)⟩ : Fin 20000) (y 1))

/-- The index word of gather `g` of row `p` of block `a`. -/
def word (a p g : ℕ) : BitVec 32 := I (ix1 (⟨(8192 * a + 64 * p + g) % 24576, Nat.mod_lt _ (by decide)⟩ : Fin 24576))

/-- The last `n` gathered pieces of row `p` of block `a`, added to `acc`. -/
def accum (a p : ℕ) : ℕ → FVec F S8x512 .f32 → FVec F S8x512 .f32
  | 0, acc => acc
  | n + 1, acc => accum a p n (addf acc (piece lane (word I a p (63 - n)) (chunk T (word I a p (63 - n)))))

/-- The gathered block `a`: at each row its sixty-four pieces added up. -/
def gathered (a : ℕ) : FVec F S128x8x512 .f32 :=
  fun y => accum T I a (y 0).val 64 (broadcast S8x512 (Scalar.ofBits .f32 0x00000000#32)) (ix2 (y 1) (y 2))

/-- The group of eight rows that a word's row is of starts at the multiple of eight below it. -/
theorem chunkRow_val {v : BitVec 32} (hv : v.toNat < 20000) : (chunkRow v).toNat = 8 * (v.toNat / 8) := by
  have hm : v.msb = false := by
    rw [BitVec.msb_eq_decide]; simp only [decide_eq_false_iff_not]; omega
  have h1 : (Scalar.shrsi v 3#32).toNat = v.toNat / 8 := by
    have h0 : Scalar.shrsi v 3#32 = v.sshiftRight' 3#32 := by
      unfold Scalar.shrsi IntOp.shrsi; rw [if_pos (by decide)]
    rw [h0]
    show (v.sshiftRight 3).toNat = _
    rw [BitVec.sshiftRight_eq_of_msb_false hm, BitVec.toNat_ushiftRight, Nat.shiftRight_eq_div_pow]
  have h2 : chunkRow v = Scalar.shrsi v 3#32 <<< 3#32 := by
    unfold chunkRow Scalar.shli IntOp.shli; rw [if_pos (by decide)]
  rw [h2]
  show (Scalar.shrsi v 3#32 <<< 3).toNat = _
  rw [BitVec.toNat_shiftLeft, h1, Nat.shiftLeft_eq]
  omega

/-- A row number meets the load's side condition. -/
theorem chk_of_lt {v : BitVec 32} (hv : v.toNat < 20000) : chk v := by
  have hr := chunkRow_val hv
  refine ⟨⟨v.toNat / 8, hr⟩, fun a => ?_⟩
  fin_cases a
  · show (chunkRow v).toNat + 8 ≤ 20000; omega
  · show 0 + 512 ≤ 512; omega

/-- Loading the group of eight rows reads it off the table. -/
theorem ld_chunk {v : BitVec 32} (hv : v.toNat < 20000) (h : ∀ a, (chunkOff v) a + S8x512.size a ≤ S20000x512.size a) :
    (fun y => T ((Rect.unit (s := S20000x512) (chunkOff v) S8x512.size h).toLoadRect.idx y)) = chunk T v := by
  funext y
  have hr := chunkRow_val hv
  have hy : (y 0).val < 8 := (y 0).isLt
  refine congrArg T (funext fun a => Fin.ext ?_)
  fin_cases a
  · show (chunkRow v).toNat + 1 * (y 0).val = (8 * (v.toNat / 8) + (y 0).val) % 20000
    omega
  · show 0 + 1 * (y 1).val = (y 1).val; omega

end Values

/-! ## The program gathers it -/

section Gathering

variable (arg1 : Memref sig .tc .smem S24576 .i32) (arg8 : Memref sig .tc .vmem S20000x512 .f32) (arg9 : Memref sig .tc .vmem S128x8x512 .f32)
  (c : Dev nD) {defs : Defs nD τ sig (Elt F) Λ} (𝒱 : Variants) (bd : Option 𝒱.V)
  (q₁ : PosShare TreeShare) (T : S20000x512.Idx → Elt F .f32) (I : S24576.Idx → BitVec 32)

/-- The word that a trip loads is the pathway's word in order. -/
theorem word_at {a t : BitVec 32} (ha : a.toNat < 3) (ht : t.toNat < 16) {q g : ℕ} (hq : q < 8) (hg : g < 64) (x : S1.Idx) :
    I ((Rect.unit (s := S24576) (wordOff a t q g) S1.size (wordOff_inb ha ht hq hg)).emb x) = word I a.toNat (8 * t.toNat + q) g := by
  refine congrArg I (Rect.emb_eq_of_coords _ _ _ fun d => ?_)
  have hd : d = 0 := Subsingleton.elim _ _
  subst hd
  have hx : (x 0).val < 1 := (x 0).isLt
  show (8192 * a.toNat + 64 * (8 * t.toNat + q) + g) % 24576 = wordOff a t q g 0 + 1 * (x 0).val
  rw [wordOff_val ha ht hq hg]
  omega

/-- The last `n` gathers of a row add its last `n` pieces. -/
theorem wp_gathers {α : Type} (hI : ∀ x, (I x).toNat < 20000) {a t : BitVec 32} (ha : a.toNat < 3) (ht : t.toNat < 16) {q : ℕ} (hq : q < 8)
    (k : FVec F S8x512 .f32 → Prog (TpuEff nD τ sig (Elt F) Λ .tc) α) (Q : α → sProp 𝕄) (n : ℕ) (acc : FVec F S8x512 .f32) :
    iprop(owns (c : Thread nD τ) arg1 q₁ I ∗ owns (c : Thread nD τ) arg8 fullShare T
        ∗ (owns (c : Thread nD τ) arg1 q₁ I -∗ owns (c : Thread nD τ) arg8 fullShare T
          -∗ wp frame (wpE defs 𝒱 (c : Thread nD τ) bd) Set.univ (k (accum T I a.toNat (8 * t.toNat + q) n acc)) Q))
      ⊢ wp frame (wpE defs 𝒱 (c : Thread nD τ) bd) Set.univ (gathers arg1 arg8 lane ha ht hq k n acc) Q := by
  induction n generalizing acc with
  | zero =>
    iintro ⟨H1, H8, Hk⟩
    iapply Hk $$ H1 H8
  | succ n ih =>
    have hg : 63 - n < 64 := Nat.lt_of_le_of_lt (Nat.sub_le 63 n) (by decide)
    have hv : (word I a.toNat (8 * t.toNat + q) (63 - n)).toNat < 20000 := hI _
    show _ ⊢ wp frame (wpE defs 𝒱 (c : Thread nD τ) bd) Set.univ (smemLoadElt arg1 (Rect.unit (s := S24576) (wordOff a t q (63 - n)) S1.size
      (wordOff_inb ha ht hq hg)) (View.loads_smem_one rfl numel1_S1) (Shape.Idx.first (numel1_S1.symm ▸ Nat.one_pos)) fun v =>
        Prog.op (TpuEff.assume (chk v) (chk.dec v)) fun hw =>
        Prog.op (.load arg8 (Rect.unit (s := S20000x512) (chunkOff v) S8x512.size hw.down.2).toLoadRect (View.loadsAt_vmem h_S8x512)) fun (x : Vec F S8x512 .f32) =>
        gathers arg1 arg8 lane ha ht hq k n (addf acc (piece lane v x))) Q
    iintro ⟨H1, H8, Hk⟩
    iapply (wp_readWord c 𝒱 bd arg1 _ _ _ _ q₁ I)
    isplitl [H1]; · iexact H1
    rw [word_at I ha ht hq hg]
    iintro H1
    iapply (wp_assume 𝒱 (c : Thread nD τ) bd Set.univ (chk_of_lt hv))
    iapply (wp_read c 𝒱 bd arg8 _ _ _ fullShare T)
    isplitl [H8]; · iexact H8
    rw [ld_chunk T hv]
    iintro H8
    iapply (ih _)
    isplitl [H1]; · iexact H1
    isplitl [H8]; · iexact H8
    iexact Hk

/-- The scratch block with its first `k` rows gathered. -/
def rowsTo (a k : ℕ) : sProp 𝕄 :=
  iprop(∃ X, ⌜∀ y : S128x8x512.Idx, (y 0).val < k → X y = gathered T I a y⌝ ∗ owns (c : Thread nD τ) arg9 fullShare X)

/-- A trip's store writes its rows and keeps the others. -/
theorem stored_row {a : ℕ} {t : BitVec 32} (ht : t.toNat < 16) {q : ℕ} (hq : q < 8) {X X' : S128x8x512.Idx → Elt F .f32}
    (hX : ∀ y : S128x8x512.Idx, (y 0).val < 8 * t.toNat + q → X y = gathered T I a y)
    (hs : Stored (Rect.unit (s := S128x8x512) (rowOff t q) S1x8x512.size (rowOff_inb ht hq))
      (shapeCast S1x8x512 (accum T I a (8 * t.toNat + q) 64 (broadcast S8x512 (Scalar.ofBits .f32 0x00000000#32))) shapeCasts_S8x512_S1x8x512) X X') :
    ∀ y : S128x8x512.Idx, (y 0).val < 8 * t.toNat + q + 1 → X' y = gathered T I a y := by
  intro y hy
  by_cases h : (y 0).val = 8 * t.toNat + q
  · have e : (Rect.unit (s := S128x8x512) (rowOff t q) S1x8x512.size (rowOff_inb ht hq)).emb (ix3 (0 : Fin 1) (y 1) (y 2)) = y := by
      refine Rect.emb_eq_of_coords _ _ _ fun d => ?_
      show (y d).val = rowOff t q d + 1 * (ix3 (0 : Fin 1) (y 1) (y 2) d).val
      rw [rowOff_val ht hq]
      fin_cases d
      · show (y 0).val = 8 * t.toNat + q + 1 * 0; omega
      · show (y 1).val = 0 + 1 * (y 1).val; omega
      · show (y 2).val = 0 + 1 * (y 2).val; omega
    have h1 := hs.1 (ix3 (0 : Fin 1) (y 1) (y 2))
    rw [e] at h1
    rw [h1]
    refine (shapeCast_ab_1ab_apply _ _ _ _ _).trans ?_
    show accum T I a (8 * t.toNat + q) 64 _ _ = accum T I a (y 0).val 64 _ _
    rw [h]
  · rw [hs.2 y, hX y (by omega)]
    rw [Rect.mem_set_unit]
    intro hc
    have h0 := hc 0
    rw [rowOff_val ht hq] at h0
    have h1 : 8 * t.toNat + q ≤ (y 0).val := h0.1
    omega

/-- The last `n` rows of a trip. -/
theorem wp_rows (hI : ∀ x, (I x).toNat < 20000) {a t : BitVec 32} (ha : a.toNat < 3) (ht : t.toNat < 16) (Q : PUnit → sProp 𝕄) (n : ℕ) (hn : n ≤ 8) :
    iprop(owns (c : Thread nD τ) arg1 q₁ I ∗ owns (c : Thread nD τ) arg8 fullShare T ∗ rowsTo arg9 c T I a.toNat (8 * t.toNat + (8 - n))
        ∗ (owns (c : Thread nD τ) arg1 q₁ I -∗ owns (c : Thread nD τ) arg8 fullShare T -∗ rowsTo arg9 c T I a.toNat (8 * t.toNat + 8) -∗ Q ⟨⟩))
      ⊢ wp frame (wpE defs 𝒱 (c : Thread nD τ) bd) Set.univ (rows arg1 arg8 arg9 lane ha ht n hn) Q := by
  induction n with
  | zero =>
    unfold rows
    iintro ⟨H1, H8, H9, Hk⟩
    rw [wp_ret]
    iapply fupd_intro
    iapply Hk $$ H1 H8 H9
  | succ n ih =>
    have hq : 7 - n < 8 := Nat.lt_of_le_of_lt (Nat.sub_le 7 n) (by decide)
    have e1 : 8 * t.toNat + (8 - (n + 1)) = 8 * t.toNat + (7 - n) := by omega
    have e2 : 8 * t.toNat + (7 - n) + 1 = 8 * t.toNat + (8 - n) := by omega
    unfold rows
    rw [e1]
    iintro ⟨H1, H8, H9, Hk⟩
    iapply (wp_gathers arg1 arg8 c 𝒱 bd q₁ T I hI ha ht hq)
    isplitl [H1]; · iexact H1
    isplitl [H8]; · iexact H8
    iintro H1 H8
    unfold rowsTo
    icases H9 with ⟨%X, %hX, H9⟩
    iapply (wp_read c 𝒱 bd arg9 _ _ _ fullShare X)
    isplitl [H9]; · iexact H9
    iintro H9
    iapply (wp_put c 𝒱 bd arg9 _ _ _ _ _ X)
    isplitl [H9]; · iexact H9
    iintro %X' %hs H9
    iapply (ih (Nat.le_of_succ_le hn))
    isplitl [H1]; · iexact H1
    isplitl [H8]; · iexact H8
    isplitl [H9]
    · unfold rowsTo
      iexists X'
      isplitr
      · ipureintro; rw [← e2]; exact stored_row T I ht hq hX hs
      iexact H9
    iexact Hk

/-- A trip gathers eight more rows. -/
theorem wp_trip (hI : ∀ x, (I x).toNat < 20000) {a t : BitVec 32} (ha : a.toNat < 3) (ht : t.toNat < 16) {a' j : ℕ} (ea : a.toNat = a') (ej : t.toNat = j) :
    iprop(owns (c : Thread nD τ) arg1 q₁ I ∗ owns (c : Thread nD τ) arg8 fullShare T ∗ rowsTo arg9 c T I a' (8 * j))
      ⊢ wp frame (wpE defs 𝒱 (c : Thread nD τ) bd) Set.univ (trip arg1 arg8 arg9 lane ha ht)
        (fun _ => iprop(owns (c : Thread nD τ) arg1 q₁ I ∗ owns (c : Thread nD τ) arg8 fullShare T ∗ rowsTo arg9 c T I a' (8 * (j + 1)))) := by
  subst ea ej
  unfold trip
  iintro ⟨H1, H8, H9⟩
  iapply (wp_rows arg1 arg8 arg9 c 𝒱 bd q₁ T I hI ha ht)
  isplitl [H1]; · iexact H1
  isplitl [H8]; · iexact H8
  isplitl [H9]; · iexact H9
  iintro H1 H8 H9
  isplitl [H1]; · iexact H1
  isplitl [H8]; · iexact H8
  iexact H9

/-- Sixteen trips of eight rows are all rows. -/
theorem trips16 : 8 * Scf.trips loop16.lb loop16.ub loop16.st = 128 := by decide

/-- A trip's number as a word is its number. -/
theorem iv_val (k : Fin loop16.trips) : (Scf.iv 0#32 1#32 k.val).toNat = k.val := by
  have h : k.val < 16 := k.isLt
  simp only [Scf.iv, BitVec.toNat_add, BitVec.toNat_mul, BitVec.toNat_ofNat]; omega

/-- After the sixteen trips the scratch block is the gathered block. -/
theorem wp_gatherLoop {α : Type} (hI : ∀ x, (I x).toNat < 20000) {t : ℕ} (ht : t < 3) (X : S128x8x512.Idx → Elt F .f32)
    (k : Prog (TpuEff nD τ sig (Elt F) Λ .tc) α) (Q : α → sProp 𝕄) :
    iprop(owns (c : Thread nD τ) arg1 q₁ I ∗ owns (c : Thread nD τ) arg8 fullShare T ∗ owns (c : Thread nD τ) arg9 fullShare X
        ∗ (owns (c : Thread nD τ) arg1 q₁ I -∗ owns (c : Thread nD τ) arg8 fullShare T -∗ owns (c : Thread nD τ) arg9 fullShare (gathered T I t)
          -∗ wp frame (wpE defs 𝒱 (c : Thread nD τ) bd) Set.univ k Q))
      ⊢ wp frame (wpE defs 𝒱 (c : Thread nD τ) bd) Set.univ (gatherLoop arg1 arg8 arg9 ht k) Q := by
  have e : (BitVec.ofNat 32 t).toNat = t := by rw [BitVec.toNat_ofNat]; omega
  unfold gatherLoop Scf.Loop.for
  iintro ⟨H1, H8, H9, Hk⟩
  iapply (Scf.wp_for_bind frame (wpE defs 𝒱 (c : Thread nD τ) bd) Set.univ loop16.lb loop16.ub loop16.st loop16_ok PUnit.unit
    (fun j _ => trip arg1 arg8 arg9 lane (point_lt ht) (trip_lt j))
    (fun j _ => iprop(owns (c : Thread nD τ) arg1 q₁ I ∗ owns (c : Thread nD τ) arg8 fullShare T ∗ rowsTo arg9 c T I t (8 * j)))
    (fun j _ => wp_trip arg1 arg8 arg9 c 𝒱 bd q₁ T I hI (point_lt ht) (trip_lt j) e (iv_val j))) $$ [H1 H8 H9]
  · isplitl [H1]; · iexact H1
    isplitl [H8]; · iexact H8
    unfold rowsTo
    iexists X
    isplitr
    · ipureintro; intro y hy; exact absurd hy (Nat.not_lt_zero _)
    iexact H9
  iintro %u ⟨H1, H8, H9⟩
  unfold rowsTo
  icases H9 with ⟨%Y, %hY, H9⟩
  have hY2 : ∀ y : S128x8x512.Idx, (y 0).val < 128 → Y y = gathered T I t y := fun y hy => hY y (lt_of_lt_of_eq hy trips16.symm)
  have hY' : Y = gathered T I t := funext fun y => hY2 y (show (y 0).val < 128 from (y 0).isLt)
  subst hY'
  iapply Hk $$ H1 H8 H9

end Gathering

end Pathway
end
-- ==== Proof.Points.lean ====
/-
  What each grid point does to the buffers: the copies of its block land, the block is gathered, the next block's copies
  are issued, and the point's 128 representations are stored; the last point stores the loss.
-/
module

public import proofs.«01_k».proof.Proof.Gather

@[expose] public section

noncomputable section

namespace Pathway

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]

local notation "𝕄" => MT nD τ sig Unit (Elt F) ℕ (Pipeline.UD sig nD τ) ℕ

/-- A rectangle of the whole shape at the origin is the whole. -/
theorem origin_emb {s : Shape} {off : Fin s.rank → ℕ} (hz : ∀ a, off a = 0) (inb : ∀ a, off a + s.size a ≤ s.size a) (y : s.Idx) :
    (Rect.unit (s := s) off s.size inb).emb y = y := by
  refine Rect.emb_eq_of_coords _ _ _ fun a => ?_
  show (y a).val = off a + 1 * (y a).val
  rw [hz a]; omega

/-- A read from the origin at full size is the whole. -/
theorem origin_read {s : Shape} {α : Type} {off : Fin s.rank → ℕ} (hz : ∀ a, off a = 0) (inb : ∀ a, off a + s.size a ≤ s.size a) (X : s.Idx → α) :
    (fun y : s.Idx => X ((Rect.unit (s := s) off s.size inb).toLoadRect.idx y)) = X :=
  funext fun y => congrArg X (origin_emb hz inb y)

theorem at0 : 0 < 3 := by decide
theorem at1 : 1 < 3 := by decide
theorem at2 : 2 < 3 := by decide
theorem zero2 (a : Fin 2) : (![0, 0] : Fin 2 → ℕ) a = 0 := by fin_cases a <;> rfl
theorem zero3 (a : Fin 3) : (![0, 0, 0] : Fin 3 → ℕ) a = 0 := by fin_cases a <;> rfl

/-- The representations of the three blocks, one under the other. -/
def stacked (enc : ℕ → FVec F S128x128 .f32) : FVec F S384x128 .f32 :=
  fun y => enc ((y 0).val / 128) (ix2 (⟨(y 0).val % 128, Nat.mod_lt _ (by decide)⟩ : Fin 128) (y 1))

/-- Storing a point's representations extends the stored rows by its 128. -/
theorem stored_reps (enc : ℕ → FVec F S128x128 .f32) {t : ℕ} (ht : t < 3) {X X' : S384x128.Idx → Elt F .f32}
    (hX : ∀ y : S384x128.Idx, (y 0).val < 128 * t → X y = stacked enc y)
    (hs : Stored (Rect.unit (s := S384x128) (repOff (BitVec.ofNat 32 t)) S128x128.size (repOff_inb ht))
      (shapeCast S128x128 (enc t) shapeCasts_S128x128_S128x128) X X') :
    ∀ y : S384x128.Idx, (y 0).val < 128 * (t + 1) → X' y = stacked enc y := by
  intro y hy
  by_cases h : (y 0).val < 128 * t
  · rw [hs.2 y, hX y h]
    rw [Rect.mem_set_unit]
    intro hc
    have h0 := hc 0
    rw [repOff_val ht] at h0
    have h1 : 128 * t ≤ (y 0).val := h0.1
    omega
  · have hq : (y 0).val / 128 = t := by omega
    have e : (Rect.unit (s := S384x128) (repOff (BitVec.ofNat 32 t)) S128x128.size (repOff_inb ht)).emb
        (ix2 (⟨(y 0).val % 128, Nat.mod_lt _ (by decide)⟩ : Fin 128) (y 1)) = y := by
      refine Rect.emb_eq_of_coords _ _ _ fun d => ?_
      show (y d).val = repOff (BitVec.ofNat 32 t) d + 1 * (ix2 (⟨(y 0).val % 128, Nat.mod_lt _ (by decide)⟩ : Fin 128) (y 1) d).val
      rw [repOff_val ht]
      fin_cases d
      · show (y 0).val = 128 * t + 1 * ((y 0).val % 128); omega
      · show (y 1).val = 0 + 1 * (y 1).val; omega
    have h1 := hs.1 (ix2 (⟨(y 0).val % 128, Nat.mod_lt _ (by decide)⟩ : Fin 128) (y 1))
    rw [e] at h1
    rw [h1, shapeCast_self]
    unfold stacked
    rw [hq]

variable (arg1 : Memref sig .tc .smem S24576 .i32) (arg2 : Memref sig .tc .hbm S3x20000x512 .f32)
  (arg3 : Memref sig .tc .vmem S1x512x512 .f32) (arg4 : Memref sig .tc .vmem S1x1x512 .f32)
  (arg5 : Memref sig .tc .vmem S1x512x128 .f32) (arg6 : Memref sig .tc .vmem S1x1x128 .f32)
  (arg7 : Memref sig .tc .smem S1x1 .f32) (arg8 : Memref sig .tc .vmem S20000x512 .f32)
  (arg9 : Memref sig .tc .vmem S128x8x512 .f32) (arg10 : Memref sig .tc .vmem S384x128 .f32) (arg11 : DmaSems sig S5)
  (c : Dev nD) {defs : Defs nD τ sig (Elt F) Λ} (𝒱 : Variants) (bd : Option 𝒱.V)

/-- A load reads what the named contents are at the load's indices. -/
theorem wp_readAs {α : Type} {cs : CoreSpace} {s : Shape} {e : EltTy} (m : Memref sig .tc cs s e) (r : LoadRect s) (hl : m.view.LoadsAt r)
    (k : (r.shape.Idx → Elt F e) → Prog (TpuEff nD τ sig (Elt F) Λ .tc) α) (X : s.Idx → Elt F e) (Y : r.shape.Idx → Elt F e)
    (hY : (fun y => X (r.idx y)) = Y) (Q : α → sProp 𝕄) :
    iprop(owns (c : Thread nD τ) m fullShare X
        ∗ (owns (c : Thread nD τ) m fullShare X -∗ wp frame (wpE defs 𝒱 (c : Thread nD τ) bd) Set.univ (k Y) Q))
      ⊢ wp frame (wpE defs 𝒱 (c : Thread nD τ) bd) Set.univ (.op (.load m r hl) k) Q := by
  subst hY; exact wp_read c 𝒱 bd m r hl k fullShare X Q

/-- A load of the whole reads the named contents. -/
theorem wp_readAll {α : Type} {cs : CoreSpace} {s : Shape} {e : EltTy} (m : Memref sig .tc cs s e) {off : Fin s.rank → ℕ} (hz : ∀ a, off a = 0)
    (inb : ∀ a, off a + s.size a ≤ s.size a) (hl : m.view.LoadsAt (Rect.unit (s := s) off s.size inb).toLoadRect)
    (k : (s.Idx → Elt F e) → Prog (TpuEff nD τ sig (Elt F) Λ .tc) α) (X : s.Idx → Elt F e) (Q : α → sProp 𝕄) :
    iprop(owns (c : Thread nD τ) m fullShare X
        ∗ (owns (c : Thread nD τ) m fullShare X -∗ wp frame (wpE defs 𝒱 (c : Thread nD τ) bd) Set.univ (k X) Q))
      ⊢ wp frame (wpE defs 𝒱 (c : Thread nD τ) bd) Set.univ (.op (.load m (Rect.unit (s := s) off s.size inb).toLoadRect hl) k) Q :=
  wp_readAs c 𝒱 bd m _ hl k X X (origin_read hz inb X) Q

/-- The four parameter windows of a grid point. -/
def params (w1 : FVec F S1x512x512 .f32) (b1 : FVec F S1x1x512 .f32) (w2 : FVec F S1x512x128 .f32) (b2 : FVec F S1x1x128 .f32) : sProp 𝕄 :=
  iprop(owns (c : Thread nD τ) arg3 fullShare w1 ∗ owns (c : Thread nD τ) arg4 fullShare b1 ∗ owns (c : Thread nD τ) arg5 fullShare w2
    ∗ owns (c : Thread nD τ) arg6 fullShare b2)

/-- The representation buffer with its first `k` rows in place. -/
def repsTo (enc : ℕ → FVec F S128x128 .f32) (k : ℕ) : sProp 𝕄 :=
  iprop(∃ X, ⌜∀ y : S384x128.Idx, (y 0).val < k → X y = stacked enc y⌝ ∗ owns (c : Thread nD τ) arg10 fullShare X)

/-- The dense layers read the gathered block and the parameters. -/
theorem wp_dense {α : Type} {t : ℕ} (ht : t < 3) (G : FVec F S128x8x512 .f32) (w1 : FVec F S1x512x512 .f32) (b1 : FVec F S1x1x512 .f32)
    (w2 : FVec F S1x512x128 .f32) (b2 : FVec F S1x1x128 .f32) (X : S384x128.Idx → Elt F .f32)
    (k : FVec F S128x128 .f32 → Vec F S128x128 .f32 → Prog (TpuEff nD τ sig (Elt F) Λ .tc) α) (Q : α → sProp 𝕄) :
    iprop(owns (c : Thread nD τ) arg9 fullShare G ∗ params arg3 arg4 arg5 arg6 c w1 b1 w2 b2 ∗ owns (c : Thread nD τ) arg10 fullShare X
        ∗ (∀ z, owns (c : Thread nD τ) arg9 fullShare G -∗ params arg3 arg4 arg5 arg6 c w1 b1 w2 b2 -∗ owns (c : Thread nD τ) arg10 fullShare X
          -∗ wp frame (wpE defs 𝒱 (c : Thread nD τ) bd) Set.univ (k (encode G w1 b1 w2 b2) z) Q))
      ⊢ wp frame (wpE defs 𝒱 (c : Thread nD τ) bd) Set.univ (dense arg3 arg4 arg5 arg6 arg9 arg10 ht k) Q := by
  unfold params dense
  iintro ⟨H9, ⟨H3, H4, H5, H6⟩, H10, Hk⟩
  iapply (wp_readAll c 𝒱 bd arg9 zero3 _ _ _ G)
  isplitl [H9]; · iexact H9
  iintro H9
  iapply (wp_readAll c 𝒱 bd arg3 zero3 _ _ _ w1)
  isplitl [H3]; · iexact H3
  iintro H3
  iapply (wp_readAll c 𝒱 bd arg4 zero3 _ _ _ b1)
  isplitl [H4]; · iexact H4
  iintro H4
  iapply (wp_readAll c 𝒱 bd arg5 zero3 _ _ _ w2)
  isplitl [H5]; · iexact H5
  iintro H5
  iapply (wp_readAll c 𝒱 bd arg6 zero3 _ _ _ b2)
  isplitl [H6]; · iexact H6
  iintro H6
  iapply (wp_read c 𝒱 bd arg10 _ _ _ fullShare X)
  isplitl [H10]; · iexact H10
  iintro H10
  iapply Hk $$ H9 [H3 H4 H5 H6] H10
  isplitl [H3]; · iexact H3
  isplitl [H4]; · iexact H4
  isplitl [H5]; · iexact H5
  iexact H6

/-- The dense layers and the store of the point's representations. -/
theorem wp_reps {t : ℕ} (ht : t < 3) (enc : ℕ → FVec F S128x128 .f32) (G : FVec F S128x8x512 .f32) (w1 : FVec F S1x512x512 .f32) (b1 : FVec F S1x1x512 .f32)
    (w2 : FVec F S1x512x128 .f32) (b2 : FVec F S1x1x128 .f32) (he : encode G w1 b1 w2 b2 = enc t)
    (k : Prog (TpuEff nD τ sig (Elt F) Λ .tc) PUnit) (Q : PUnit → sProp 𝕄) :
    iprop(owns (c : Thread nD τ) arg9 fullShare G ∗ params arg3 arg4 arg5 arg6 c w1 b1 w2 b2 ∗ repsTo arg10 c enc (128 * t)
        ∗ (owns (c : Thread nD τ) arg9 fullShare G -∗ params arg3 arg4 arg5 arg6 c w1 b1 w2 b2 -∗ repsTo arg10 c enc (128 * (t + 1))
          -∗ wp frame (wpE defs 𝒱 (c : Thread nD τ) bd) Set.univ k Q))
      ⊢ wp frame (wpE defs 𝒱 (c : Thread nD τ) bd) Set.univ (dense arg3 arg4 arg5 arg6 arg9 arg10 ht fun z _ => keep arg10 ht k z) Q := by
  unfold repsTo
  iintro ⟨H9, Hp, ⟨%X, %hX, H10⟩, Hk⟩
  iapply (wp_dense arg3 arg4 arg5 arg6 arg9 arg10 c 𝒱 bd ht G w1 b1 w2 b2 X)
  isplitl [H9]; · iexact H9
  isplitl [Hp]; · iexact Hp
  isplitl [H10]; · iexact H10
  iintro %z H9 Hp H10
  rw [he]
  unfold keep
  iapply (wp_put c 𝒱 bd arg10 _ _ _ _ _ X)
  isplitl [H10]; · iexact H10
  iintro %X' %hs H10
  iapply Hk $$ H9 Hp [H10]
  iexists X'
  isplitr
  · ipureintro; exact stored_reps enc ht hX hs
  iexact H10

/-- The loss of the stored representations, as the last point computes it. -/
theorem finish_eq (s : F .f32) : (finish arg7 arg10 s : Prog (TpuEff nD τ sig (Elt F) Λ .tc) PUnit)
    = Prog.op (.load arg10 (Rect.unit (s := S384x128) ![0, 0] S384x128.size (by decide)).toLoadRect (View.loadsAt_vmem h_S384x128)) fun (z : Vec F S384x128 .f32) =>
      smemLoadElt arg7 (Rect.unit (s := S1x1) ![0, 0] S1x1.size (by decide)) (View.loads_smem_one rfl numel1_S1x1) (Shape.Idx.first (numel1_S1x1.symm ▸ Nat.one_pos)) fun _ =>
      Prog.op (.store arg7 (Rect.unit (s := S1x1) ![0, 0] S1x1.size (by decide)) (fun _ => lossOf s z) Finset.univ (View.stores_smem_one rfl numel1_S1x1) (.inl rfl)) fun _ =>
      .ret ⟨⟩ := rfl

/-- The last step stores the loss of the representations. -/
theorem wp_finish (s : F .f32) (enc : ℕ → FVec F S128x128 .f32) (X7 : S1x1.Idx → Elt F .f32) (Q : PUnit → sProp 𝕄) :
    iprop(repsTo arg10 c enc (128 * (2 + 1)) ∗ owns (c : Thread nD τ) arg7 fullShare X7
        ∗ (repsTo arg10 c enc (128 * (2 + 1)) -∗ owns (c : Thread nD τ) arg7 fullShare (fun _ => lossOf s (stacked enc)) -∗ Q ⟨⟩))
      ⊢ wp frame (wpE defs 𝒱 (c : Thread nD τ) bd) Set.univ (finish arg7 arg10 s) Q := by
  unfold repsTo
  rw [finish_eq]
  iintro ⟨⟨%X, %hX, H10⟩, H7, Hk⟩
  have hXe : X = stacked enc := funext fun y => hX y (show (y 0).val < 384 from (y 0).isLt)
  iapply (wp_readAll c 𝒱 bd arg10 zero2 _ _ _ X)
  isplitl [H10]; · iexact H10
  iintro H10
  iapply (wp_readWord c 𝒱 bd arg7 _ _ _ _ fullShare X7)
  isplitl [H7]; · iexact H7
  iintro H7
  iapply (wp_put c 𝒱 bd arg7 _ _ _ _ _ X7)
  isplitl [H7]; · iexact H7
  iintro %X' %hs H7
  have hX' : X' = fun _ => lossOf s (stacked enc) := funext fun y => by
    have h := hs.1 y
    rw [origin_emb zero2 _ y] at h
    rw [h, hXe]
  subst hX'
  rw [wp_ret]
  iapply fupd_intro
  iapply Hk $$ [H10] H7
  iexists X
  isplitr
  · ipureintro; exact hX
  iexact H10

/-! ## Between grid points -/

variable (q₁ : PosShare TreeShare) (I : S24576.Idx → BitVec 32) (f2 : EmbBuf (F := F) (τ := τ) arg2 c) (enc : ℕ → FVec F S128x128 .f32)

/-- No copy in flight: the table and the gathered block at some contents, the copies' counters at zero. -/
def atRest (k : ℕ) : sProp 𝕄 :=
  iprop(owns (c : Thread nD τ) arg1 q₁ I ∗ (∃ X, owns (c : Thread nD τ) arg8 fullShare X) ∗ (∃ X, owns (c : Thread nD τ) arg9 fullShare X)
    ∗ repsTo arg10 c enc k ∗ embs arg2 c f2 ∗ idles arg11 c)

/-- Block `b` in flight, the representations of the blocks before it in place. -/
def between {b : ℕ} (hb : b < 3) : sProp 𝕄 :=
  iprop(owns (c : Thread nD τ) arg1 q₁ I ∗ (∃ X, owns (c : Thread nD τ) arg9 fullShare X)
    ∗ repsTo arg10 c enc (128 * b) ∗ inFlight arg2 arg8 arg11 c hb f2)

/-- What block `b` gathers. -/
abbrev blockOf {b : ℕ} (hb : b < 3) : FVec F S128x8x512 .f32 := gathered (tableOf (arg2.view.read (Elt F) f2) hb) I b

/-- A grid point that issues the next block, from its block in flight to the next in flight. -/
theorem wp_middle (hI : ∀ x, (I x).toNat < 20000) {b : ℕ} (hb : b < 3) (hb' : b + 1 < 3) (w1 : FVec F S1x512x512 .f32) (b1 : FVec F S1x1x512 .f32)
    (w2 : FVec F S1x512x128 .f32) (b2 : FVec F S1x1x128 .f32) (he : encode (blockOf arg2 c I f2 hb) w1 b1 w2 b2 = enc b)
    (W : Waits sig Unit) (Q : PUnit → sProp 𝕄) :
    iprop(between arg1 arg2 arg8 arg9 arg10 arg11 c q₁ I f2 enc hb ∗ params arg3 arg4 arg5 arg6 c w1 b1 w2 b2 ∗ owes (c : Thread nD τ) 0 W
        ∗ (between arg1 arg2 arg8 arg9 arg10 arg11 c q₁ I f2 enc hb' -∗ params arg3 arg4 arg5 arg6 c w1 b1 w2 b2 -∗ (∃ W', owes (c : Thread nD τ) 0 W') -∗ Q ⟨⟩))
      ⊢ wp frame (wpE defs 𝒱 (c : Thread nD τ) bd) Set.univ (await arg2 arg8 arg11 hb
          (gatherLoop arg1 arg8 arg9 hb (issue arg2 arg8 arg11 hb'
            (dense arg3 arg4 arg5 arg6 arg9 arg10 hb fun z _ => keep arg10 hb (.ret ⟨⟩) z) 5)) 5) Q := by
  unfold between
  iintro ⟨⟨H1, ⟨%X9, H9⟩, H10, Hf⟩, Hp, HW, Hk⟩
  iapply (wp_await arg2 arg8 arg11 c 𝒱 bd hb f2)
  isplitl [Hf]; · iexact Hf
  isplitl [HW]; · iexact HW
  iintro H8 H2 Hi HW
  iapply (wp_gatherLoop arg1 arg8 arg9 c 𝒱 bd q₁ _ I hI hb X9)
  isplitl [H1]; · iexact H1
  isplitl [H8]; · iexact H8
  isplitl [H9]; · iexact H9
  iintro H1 H8 H9
  iapply (wp_issue arg2 arg8 arg11 c 𝒱 bd hb' f2)
  isplitl [H8]; · iexists _; iexact H8
  isplitl [H2]; · iexact H2
  isplitl [Hi]; · iexact Hi
  iintro Hf
  iapply (wp_reps arg3 arg4 arg5 arg6 arg9 arg10 c 𝒱 bd hb enc _ w1 b1 w2 b2 he)
  isplitl [H9]; · iexact H9
  isplitl [Hp]; · iexact Hp
  isplitl [H10]; · iexact H10
  iintro H9 Hp H10
  rw [wp_ret]
  iapply fupd_intro
  iapply Hk $$ [H1 H9 H10 Hf] Hp HW
  isplitl [H1]; · iexact H1
  isplitl [H9]; · iexists _; iexact H9
  isplitl [H10]; · iexact H10
  iexact Hf

/-- The first grid point, from rest. -/
theorem wp_first (hI : ∀ x, (I x).toNat < 20000) (w1 : FVec F S1x512x512 .f32) (b1 : FVec F S1x1x512 .f32)
    (w2 : FVec F S1x512x128 .f32) (b2 : FVec F S1x1x128 .f32) (he : encode (blockOf arg2 c I f2 (b := 0) at0) w1 b1 w2 b2 = enc 0)
    (W : Waits sig Unit) (Q : PUnit → sProp 𝕄) :
    iprop(atRest arg1 arg2 arg8 arg9 arg10 arg11 c q₁ I f2 enc 0 ∗ params arg3 arg4 arg5 arg6 c w1 b1 w2 b2 ∗ owes (c : Thread nD τ) 0 W
        ∗ (between arg1 arg2 arg8 arg9 arg10 arg11 c q₁ I f2 enc (b := 1) at1 -∗ params arg3 arg4 arg5 arg6 c w1 b1 w2 b2 -∗ (∃ W', owes (c : Thread nD τ) 0 W') -∗ Q ⟨⟩))
      ⊢ wp frame (wpE defs 𝒱 (c : Thread nD τ) bd) Set.univ (front0 arg1 arg2 arg3 arg4 arg5 arg6 arg8 arg9 arg10 arg11
          fun z _ => keep arg10 (t := 0) at0 (.ret ⟨⟩) z) Q := by
  unfold front0 atRest
  iintro ⟨⟨H1, H8, H9, H10, H2, Hi⟩, Hp, HW, Hk⟩
  iapply (wp_issue arg2 arg8 arg11 c 𝒱 bd (b := 0) at0 f2)
  isplitl [H8]; · iexact H8
  isplitl [H2]; · iexact H2
  isplitl [Hi]; · iexact Hi
  iintro Hf
  iapply (wp_middle arg1 arg2 arg3 arg4 arg5 arg6 arg8 arg9 arg10 arg11 c 𝒱 bd q₁ I f2 enc hI (b := 0) at0 at1 w1 b1 w2 b2 he W)
  isplitl [H1 H9 H10 Hf]
  · unfold between
    isplitl [H1]; · iexact H1
    isplitl [H9]; · iexact H9
    isplitl [H10]; · iexact H10
    iexact Hf
  isplitl [Hp]; · iexact Hp
  isplitl [HW]; · iexact HW
  iexact Hk

/-- The last grid point: back to rest, with the loss stored. -/
theorem wp_last (s : F .f32) (hI : ∀ x, (I x).toNat < 20000) (w1 : FVec F S1x512x512 .f32) (b1 : FVec F S1x1x512 .f32)
    (w2 : FVec F S1x512x128 .f32) (b2 : FVec F S1x1x128 .f32) (he : encode (blockOf arg2 c I f2 (b := 2) at2) w1 b1 w2 b2 = enc 2)
    (X7 : S1x1.Idx → Elt F .f32) (W : Waits sig Unit) (Q : PUnit → sProp 𝕄) :
    iprop(between arg1 arg2 arg8 arg9 arg10 arg11 c q₁ I f2 enc (b := 2) at2 ∗ params arg3 arg4 arg5 arg6 c w1 b1 w2 b2
        ∗ owns (c : Thread nD τ) arg7 fullShare X7 ∗ owes (c : Thread nD τ) 0 W
        ∗ (atRest arg1 arg2 arg8 arg9 arg10 arg11 c q₁ I f2 enc 384 -∗ params arg3 arg4 arg5 arg6 c w1 b1 w2 b2
          -∗ owns (c : Thread nD τ) arg7 fullShare (fun _ => lossOf s (stacked enc)) -∗ (∃ W', owes (c : Thread nD τ) 0 W') -∗ Q ⟨⟩))
      ⊢ wp frame (wpE defs 𝒱 (c : Thread nD τ) bd) Set.univ (front2 arg1 arg2 arg3 arg4 arg5 arg6 arg8 arg9 arg10 arg11
          fun z _ => keep arg10 (t := 2) at2 (finish arg7 arg10 s) z) Q := by
  unfold front2 between atRest
  iintro ⟨⟨H1, ⟨%X9, H9⟩, H10, Hf⟩, Hp, H7, HW, Hk⟩
  iapply (wp_await arg2 arg8 arg11 c 𝒱 bd (b := 2) at2 f2)
  isplitl [Hf]; · iexact Hf
  isplitl [HW]; · iexact HW
  iintro H8 H2 Hi HW
  iapply (wp_gatherLoop arg1 arg8 arg9 c 𝒱 bd q₁ _ I hI (t := 2) at2 X9)
  isplitl [H1]; · iexact H1
  isplitl [H8]; · iexact H8
  isplitl [H9]; · iexact H9
  iintro H1 H8 H9
  iapply (wp_reps arg3 arg4 arg5 arg6 arg9 arg10 c 𝒱 bd (t := 2) at2 enc _ w1 b1 w2 b2 he)
  isplitl [H9]; · iexact H9
  isplitl [Hp]; · iexact Hp
  isplitl [H10]; · iexact H10
  iintro H9 Hp H10
  iapply (wp_finish arg7 arg10 c 𝒱 bd s enc X7)
  isplitl [H10]; · iexact H10
  isplitl [H7]; · iexact H7
  iintro H10 H7
  iapply Hk $$ [H1 H8 H9 H10 H2 Hi] Hp H7 HW
  isplitl [H1]; · iexact H1
  isplitl [H8]; · iexists _; iexact H8
  isplitl [H9]; · iexists _; iexact H9
  isplitl [H10]; · iexact H10
  isplitl [H2]; · iexact H2
  iexact Hi

end Pathway
end
-- ==== Proof.EqKernelIdeal.lean ====
/-
  The printed body of `KernelIdeal` at each of the three grid points is the short program of `Body.lean`.
-/
module

public import proofs.«01_k».proof.Proof.Body
public import proofs.«01_k».proof.KernelIdeal
public import Idealize.ShloMosaic.Lib.Tactic

@[expose] public section

noncomputable section

namespace Cert.KernelIdeal

open Idealize.ShloMosaic Idealize.SL.Sem Facts₀ Facts

variable {F : FTy → Type} [FloatOps F] [Named F]

/-- What the similarities are multiplied by. -/
def scale : F .f32 := Named.named κ "inv_temperature" 0x41200000#32

variable [Facts]
variable (arg1 : Memref sig .tc .smem S24576 .i32) (harg1 : arg1.IsWhole) (arg2 : Memref sig .tc .hbm S3x20000x512 .f32) (harg2 : arg2.IsWhole) (arg3 : Memref sig .tc .vmem S1x512x512 .f32) (harg3 : arg3.IsWhole)
    (arg4 : Memref sig .tc .vmem S1x1x512 .f32) (harg4 : arg4.IsWhole) (arg5 : Memref sig .tc .vmem S1x512x128 .f32) (harg5 : arg5.IsWhole)
    (arg6 : Memref sig .tc .vmem S1x1x128 .f32) (harg6 : arg6.IsWhole) (arg7 : Memref sig .tc .smem S1x1 .f32) (harg7 : arg7.IsWhole)
    (arg8 : Memref sig .tc .vmem S20000x512 .f32) (harg8 : arg8.IsWhole) (arg9 : Memref sig .tc .vmem S128x8x512 .f32) (harg9 : arg9.IsWhole)
    (arg10 : Memref sig .tc .vmem S384x128 .f32) (harg10 : arg10.IsWhole) (arg11 : DmaSems sig S5)

/-- The grid point numbered `t`. -/
def pt (t : Fin 3) : grid0.Coords := grid0.coords t

/-- Grid point 0 is its front, the representations stored. -/
theorem body0_eq : cc0__fused_kernel (F := F) (pt 0) arg1 harg1 arg2 harg2 arg3 harg3 arg4 harg4 arg5 harg5 arg6 harg6 arg7 harg7 arg8 harg8 arg9 harg9 arg10 harg10 arg11
    = Pathway.front0 arg1 arg2 arg3 arg4 arg5 arg6 arg8 arg9 arg10 arg11 fun z _ => Pathway.keep arg10 (t := 0) (by decide) (.ret ⟨⟩) z :=
  (show _ = (Pathway.front0 arg1 arg2 arg3 arg4 arg5 arg6 arg8 arg9 arg10 arg11 fun z y => .ret ⟨z, y⟩) >>=
      (fun p : Pathway.Reps F => Pathway.keep arg10 (t := 0) (by decide) (.ret ⟨⟩) p.1) from by sl_kernel_rfl).trans (Pathway.front0_bind ..)

/-- Grid point 1 is its front, the representations stored. -/
theorem body1_eq : cc0__fused_kernel (F := F) (pt 1) arg1 harg1 arg2 harg2 arg3 harg3 arg4 harg4 arg5 harg5 arg6 harg6 arg7 harg7 arg8 harg8 arg9 harg9 arg10 harg10 arg11
    = Pathway.front1 arg1 arg2 arg3 arg4 arg5 arg6 arg8 arg9 arg10 arg11 fun z _ => Pathway.keep arg10 (t := 1) (by decide) (.ret ⟨⟩) z :=
  (show _ = (Pathway.front1 arg1 arg2 arg3 arg4 arg5 arg6 arg8 arg9 arg10 arg11 fun z y => .ret ⟨z, y⟩) >>=
      (fun p : Pathway.Reps F => Pathway.keep arg10 (t := 1) (by decide) (.ret ⟨⟩) p.1) from by sl_kernel_rfl).trans (Pathway.front1_bind ..)

/-- Grid point 2 is its front, the representations stored, then the loss. -/
theorem body2_eq : cc0__fused_kernel (F := F) (pt 2) arg1 harg1 arg2 harg2 arg3 harg3 arg4 harg4 arg5 harg5 arg6 harg6 arg7 harg7 arg8 harg8 arg9 harg9 arg10 harg10 arg11
    = Pathway.front2 arg1 arg2 arg3 arg4 arg5 arg6 arg8 arg9 arg10 arg11 fun z _ => Pathway.keep arg10 (t := 2) (by decide) (Pathway.finish arg7 arg10 scale) z :=
  (show _ = (Pathway.front2 arg1 arg2 arg3 arg4 arg5 arg6 arg8 arg9 arg10 arg11 fun z y => .ret ⟨z, y⟩) >>=
      (fun p : Pathway.Reps F => Pathway.keep arg10 (t := 2) (by decide) (Pathway.finish arg7 arg10 scale) p.1) from by sl_kernel_rfl).trans (Pathway.front2_bind ..)

end Cert.KernelIdeal
end
-- ==== Proof.RunKernelIdeal.lean ====
/-
  The launch of `KernelIdeal`: what holds before and after each grid point, the run from any memory whose index words are
  below 20000, that it leaves the six arguments as they were, and that its result is the loss of the stacked
  representations.
-/
module

public import proofs.«01_k».proof.Proof.Points
public import proofs.«01_k».proof.Proof.EqKernelIdeal
public import proofs.«01_k».proof.Proof.Gen.KernelIdeal.Launch
public import Idealize.ShloMosaic.Lib.Pipeline.ValueKit.Geometry

@[expose] public section

noncomputable section

namespace Cert.KernelIdeal.Hand

open Cert.KernelIdeal Cert.KernelIdeal.Gen Pathway
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- What core `c`'s buffers hold when the region is entered: the three reshapes done. -/
abbrev V (c : Dev nD) (b : Ref sig .tc) : Buf (Elt F) ((c : Thread nD τ).loc b) := StableHlo.after hostOps0 (fun b => m (c, b)) b

/-- The five semaphores of the body's own copies. -/
abbrev osem0 : Fin 5 → SemLoc sig := fun j => (![SemLoc.dma 9, SemLoc.dma 10, SemLoc.dma 11, SemLoc.dma 12, SemLoc.dma 13] : Fin 5 → SemLoc sig) j
/-- They are distinct and no window's. -/
theorem ownSemFacts0 : Pipeline.OwnSemFacts spec0 osem0 := by decide

/-- The embeddings stay in HBM: the body's copies read them. -/
def H0 : Finset (Ref sig .tc) := {main_arg0}
/-- The embeddings are no window. -/
theorem H0_sub : H0 ⊆ Pipeline.restRefsP sig pre0 spec0 := by decide

/-- The index table the region reads at entry. -/
def adm : (p : Fin 1) → (pcfgs (F := F) p).Adm := fun _ => ⟨fun k => V m 0 (pre0.ref k), trivial⟩

/-- The region's pipeline at the index table. -/
abbrev cfgs : Fin 1 → Cfg sig Λ₀ := Pipeline.pin (pcfgs (F := F)) (adm m)

/-- Window `w`'s block at point `t`. -/
abbrev blockAt (c : Dev nD) (w : Fin 5) (t : Fin grid0.N) : (((cfg0 (adm m 0)).win w).xblock (grid0.coords t)).Idx → Elt F ((cfg0 (adm m 0)).win w).elt :=
  (((cfg0 (adm m 0)).win w).blk t).view.read (Elt F) (V m c (Pipeline.arrRef spec0 w))

/-- The first layer's weights at point `t`, -/
abbrev w1At (c : Dev nD) (t : Fin grid0.N) : FVec F S1x512x512 .f32 := blockAt m c 0 t
/-- its biases, -/
abbrev b1At (c : Dev nD) (t : Fin grid0.N) : FVec F S1x1x512 .f32 := blockAt m c 1 t
/-- the second layer's weights, -/
abbrev w2At (c : Dev nD) (t : Fin grid0.N) : FVec F S1x512x128 .f32 := blockAt m c 2 t
/-- and its biases. -/
abbrev b2At (c : Dev nD) (t : Fin grid0.N) : FVec F S1x1x128 .f32 := blockAt m c 3 t

/-- The index words, and the embeddings. -/
abbrev words (c : Dev nD) : Vec F S24576 .i32 := V m c main_call0_v0
/-- The embeddings. -/
abbrev emb (c : Dev nD) : EmbBuf (F := F) (τ := τ) (Memref.whole main_arg0) c := V m c main_arg0

/-- The grid has three points. -/
theorem lt_N {t : ℕ} (ht : t < 3) : t < grid0.N := by rw [N_0]; exact ht

/-- The representations that the point numbered `t` stores. -/
def encAt (c : Dev nD) (t : ℕ) : FVec F S128x128 .f32 :=
  if ht : t < 3 then
    encode (blockOf (Memref.whole main_arg0) c (words m c) (emb m c) ht) (w1At m c ⟨t, lt_N ht⟩) (b1At m c ⟨t, lt_N ht⟩) (w2At m c ⟨t, lt_N ht⟩)
      (b2At m c ⟨t, lt_N ht⟩)
  else fun _ => Scalar.ofBits .f32 0

/-- The representations of point `t` are its encoded block. -/
theorem encAt_eq (c : Dev nD) {t : ℕ} (ht : t < 3) :
    encode (blockOf (Memref.whole main_arg0) c (words m c) (emb m c) ht) (w1At m c ⟨t, lt_N ht⟩) (b1At m c ⟨t, lt_N ht⟩) (w2At m c ⟨t, lt_N ht⟩)
      (b2At m c ⟨t, lt_N ht⟩) = encAt m c t := by
  unfold encAt; rw [dif_pos ht]

/-- The loss of all 384 representations. -/
def result (c : Dev nD) : FVec F S1x1 .f32 := fun _ => lossOf scale (stacked (encAt m c))

/-- The buffers at rest, `k` rows of representations stored. -/
abbrev restAt (c : Dev nD) (k : ℕ) : sProp 𝕄 :=
  atRest (Memref.whole main_call0_v0) (Memref.whole main_arg0) (Memref.whole cc0_scratch0) (Memref.whole cc0_scratch1) (Memref.whole cc0_scratch2) cc0_scratch3
    c fullShare.right (words m c) (emb m c) (encAt m c) k
/-- Block `b`'s copies in flight, the representations below it stored. -/
abbrev betweenAt (c : Dev nD) {b : ℕ} (hb : b < 3) : sProp 𝕄 :=
  between (Memref.whole main_call0_v0) (Memref.whole main_arg0) (Memref.whole cc0_scratch0) (Memref.whole cc0_scratch1) (Memref.whole cc0_scratch2) cc0_scratch3
    c fullShare.right (words m c) (emb m c) (encAt m c) hb

/-- What the body's own buffers and semaphores hold before the point numbered `n`. -/
def inv (c : Dev nD) : ℕ → sProp 𝕄
  | 0 => restAt m c 0
  | 1 => betweenAt m c at1
  | 2 => betweenAt m c at2
  | _ => restAt m c 384

/-- The proof data: the arrays as the region finds them, the inputs' blocks left in place, the loss in the result. -/
def dats (p : Fin 1) (c : Dev nD) : Dat τ (Elt F) Unit ℕ (Pipeline.UD sig nD τ) ℕ (cfgs m p) c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => result m c
  Φ t := iprop((∃ r, prngReg c r) ∗ inv m c t.val)
  q _ := fullShare
  owed _ := 0

/-- Each window starts from what its array holds. -/
theorem A_eq (c : Dev nD) (w : Fin (cfg0 (adm m 0)).W) : (dats m 0 c).A w = V m c (Pipeline.arrRef spec0 w) := by dsimp only [dats]

/-- Before a point each input window's stage holds the point's block. -/
theorem before0 (c : Dev nD) (t : Fin grid0.N) (d) : (dats m 0 c).before 0 t d = w1At m c t :=
  (dats m 0 c).before_in_eq_fetched 0 rfl (fun _ => rfl) (fun _ _ _ => rfl) (fun _ => rfl) t d
theorem before1 (c : Dev nD) (t : Fin grid0.N) (d) : (dats m 0 c).before 1 t d = b1At m c t :=
  (dats m 0 c).before_in_eq_fetched 1 rfl (fun _ => rfl) (fun _ _ _ => rfl) (fun _ => rfl) t d
theorem before2 (c : Dev nD) (t : Fin grid0.N) (d) : (dats m 0 c).before 2 t d = w2At m c t :=
  (dats m 0 c).before_in_eq_fetched 2 rfl (fun _ => rfl) (fun _ _ _ => rfl) (fun _ => rfl) t d
theorem before3 (c : Dev nD) (t : Fin grid0.N) (d) : (dats m 0 c).before 3 t d = b2At m c t :=
  (dats m 0 c).before_in_eq_fetched 3 rfl (fun _ => rfl) (fun _ _ _ => rfl) (fun _ => rfl) t d

/-- Window `w`'s staging buffer at point `t`. -/
abbrev st0 (t : Fin grid0.N) : Memref sig .tc .vmem S1x512x512 .f32 := spec0_0.stage ((cfg0 (adm m 0)).slots t 0)
abbrev st1 (t : Fin grid0.N) : Memref sig .tc .vmem S1x1x512 .f32 := spec0_1.stage ((cfg0 (adm m 0)).slots t 1)
abbrev st2 (t : Fin grid0.N) : Memref sig .tc .vmem S1x512x128 .f32 := spec0_2.stage ((cfg0 (adm m 0)).slots t 2)
abbrev st3 (t : Fin grid0.N) : Memref sig .tc .vmem S1x1x128 .f32 := spec0_3.stage ((cfg0 (adm m 0)).slots t 3)
abbrev st4 (t : Fin grid0.N) : Memref sig .tc .smem S1x1 .f32 := spec0_4.stage ((cfg0 (adm m 0)).slots t 4)

/-- The body's call at point `t`. -/
def bodyAt0 (t : Fin grid0.N) : Prog (TpuEff nD τ sig (Elt F) Λ₀ .tc) PUnit :=
  cc0__fused_kernel (grid0.coords t) (Memref.whole main_call0_v0) (Memref.isWhole_whole _) (Memref.whole main_arg0) (Memref.isWhole_whole _)
    (st0 m t) (hstage0_0 (((cfg0 (adm m 0)).slots t 0).cast nbuf0_0)) (st1 m t) (hstage0_1 (((cfg0 (adm m 0)).slots t 1).cast nbuf0_1))
    (st2 m t) (hstage0_2 (((cfg0 (adm m 0)).slots t 2).cast nbuf0_2)) (st3 m t) (hstage0_3 (((cfg0 (adm m 0)).slots t 3).cast nbuf0_3))
    (st4 m t) (hstage0_4 (((cfg0 (adm m 0)).slots t 4).cast nbuf0_4)) (Memref.whole cc0_scratch0) (Memref.isWhole_whole _)
    (Memref.whole cc0_scratch1) (Memref.isWhole_whole _) (Memref.whole cc0_scratch2) (Memref.isWhole_whole _) cc0_scratch3

/-- The body's label at a point is the printed body there. -/
theorem defs₀_row (t : Fin grid0.N) :
    defs₀ (F := F) .tc (cfg0 (adm m 0)).body ((cfg0 (adm m 0)).bodyArgs t ((cfg0 (adm m 0)).slots t)) = bodyAt0 m t := by
  unfold defs₀; rw [Defs.onTc_tc]; rfl

/-- The parameters of the dense layers at point `t`, in their staging buffers. -/
abbrev paramsAt (c : Dev nD) (t : Fin grid0.N) : sProp 𝕄 :=
  params (st0 m t) (st1 m t) (st2 m t) (st3 m t) c (w1At m c t) (b1At m c t) (w2At m c t) (b2At m c t)

/-- The words are row numbers. -/
abbrev Rows (c : Dev nD) : Prop := ∀ x : S24576.Idx, (words m c x : BitVec 32).toNat < 20000

/-- The first grid point. -/
theorem point0 (c : Dev nD) (hI : Rows m c) (W : Waits sig Unit) (Q : PUnit → sProp 𝕄) :
    iprop(restAt m c 0 ∗ paramsAt m c t0_0 ∗ owes (c : Thread nD τ) 0 W
        ∗ (betweenAt m c at1 -∗ paramsAt m c t0_0 -∗ (∃ W', owes (c : Thread nD τ) 0 W') -∗ Q ⟨⟩))
      ⊢ wp frame (wpE (defs₀ (F := F)) Variants.none (c : Thread nD τ) none) Set.univ (bodyAt0 m t0_0) Q := by
  have e : bodyAt0 m t0_0 = _ := body0_eq ..
  rw [e]
  exact wp_first (defs := defs₀ (F := F)) _ _ _ _ _ _ _ _ _ _ c Variants.none none _ _ _ _ hI _ _ _ _ (encAt_eq m c at0) W Q

/-- The second. -/
theorem point1 (c : Dev nD) (hI : Rows m c) (W : Waits sig Unit) (Q : PUnit → sProp 𝕄) :
    iprop(betweenAt m c at1 ∗ paramsAt m c t0_1 ∗ owes (c : Thread nD τ) 0 W
        ∗ (betweenAt m c at2 -∗ paramsAt m c t0_1 -∗ (∃ W', owes (c : Thread nD τ) 0 W') -∗ Q ⟨⟩))
      ⊢ wp frame (wpE (defs₀ (F := F)) Variants.none (c : Thread nD τ) none) Set.univ (bodyAt0 m t0_1) Q := by
  have e : bodyAt0 m t0_1 = _ := body1_eq ..
  rw [e]
  exact wp_middle (defs := defs₀ (F := F)) _ _ _ _ _ _ _ _ _ _ c Variants.none none _ _ _ _ hI at1 at2 _ _ _ _ (encAt_eq m c at1) W Q

/-- The last, which stores the loss. -/
theorem point2 (c : Dev nD) (hI : Rows m c) (X : S1x1.Idx → Elt F .f32) (W : Waits sig Unit) (Q : PUnit → sProp 𝕄) :
    iprop(betweenAt m c at2 ∗ paramsAt m c t0_2 ∗ owns (c : Thread nD τ) (st4 m t0_2) fullShare X ∗ owes (c : Thread nD τ) 0 W
        ∗ (restAt m c 384 -∗ paramsAt m c t0_2 -∗ owns (c : Thread nD τ) (st4 m t0_2) fullShare (result m c)
          -∗ (∃ W', owes (c : Thread nD τ) 0 W') -∗ Q ⟨⟩))
      ⊢ wp frame (wpE (defs₀ (F := F)) Variants.none (c : Thread nD τ) none) Set.univ (bodyAt0 m t0_2) Q := by
  have e : bodyAt0 m t0_2 = _ := body2_eq ..
  rw [e]
  exact wp_last (defs := defs₀ (F := F)) _ _ _ _ _ _ _ _ _ _ _ c Variants.none none _ _ _ _ scale hI _ _ _ _ (encAt_eq m c at2) X W Q

/-- What the body is handed at point `t`, -/
def bodyPre (c : Dev nD) (t : Fin grid0.N) : sProp 𝕄 :=
  iprop((dats m 0 c).Φ t.castSucc ∗ (dats m 0 c).owesAt () t.castSucc
    ∗ (∃ d, owns (c : Thread nD τ) (st0 m t) fullShare ((dats m 0 c).before 0 t d))
    ∗ (∃ d, owns (c : Thread nD τ) (st1 m t) fullShare ((dats m 0 c).before 1 t d))
    ∗ (∃ d, owns (c : Thread nD τ) (st2 m t) fullShare ((dats m 0 c).before 2 t d))
    ∗ (∃ d, owns (c : Thread nD τ) (st3 m t) fullShare ((dats m 0 c).before 3 t d))
    ∗ (∃ d, owns (c : Thread nD τ) (st4 m t) fullShare ((dats m 0 c).before 4 t d)))
/-- and what it hands back, the result's staging buffer at `R`. -/
def bodyPost (c : Dev nD) (t : Fin grid0.N) (R : sProp 𝕄) : sProp 𝕄 :=
  iprop((dats m 0 c).Φ t.succ ∗ (dats m 0 c).owesAt () t.succ
    ∗ owns (c : Thread nD τ) (st0 m t) fullShare (w1At m c t)
    ∗ owns (c : Thread nD τ) (st1 m t) fullShare (b1At m c t)
    ∗ owns (c : Thread nD τ) (st2 m t) fullShare (w2At m c t)
    ∗ owns (c : Thread nD τ) (st3 m t) fullShare (b2At m c t)
    ∗ R)

/-- The result's staging buffer at a point that leaves it alone. -/
abbrev found (c : Dev nD) (t : Fin grid0.N) : sProp 𝕄 := iprop(∃ d, owns (c : Thread nD τ) (st4 m t) fullShare ((dats m 0 c).before 4 t d))

/-- A point's run, from what it is handed to what it hands back, given the triple of its body between `P` and `P'`. -/
theorem sound_point (c : Dev nD) (t : Fin grid0.N) (P P' R : sProp 𝕄) (hP : inv m c t.castSucc.val = P) (hP' : inv m c t.succ.val = P')
    (h : ∀ (W : Waits sig Unit) (Q : PUnit → sProp 𝕄),
      iprop(P ∗ paramsAt m c t ∗ found m c t ∗ owes (c : Thread nD τ) 0 W
          ∗ (P' -∗ paramsAt m c t -∗ R -∗ (∃ W', owes (c : Thread nD τ) 0 W') -∗ Q ⟨⟩))
        ⊢ wp frame (wpE (defs₀ (F := F)) Variants.none (c : Thread nD τ) none) Set.univ (bodyAt0 m t) Q) :
    bodyPre m c t ⊢ wp frame (wpE (defs₀ (F := F)) Variants.none (c : Thread nD τ) none) Set.univ (bodyAt0 m t) (fun _ => bodyPost m c t R) := by
  unfold bodyPre bodyPost
  simp only [before0, before1, before2, before3]
  rw [show (dats m 0 c).Φ t.castSucc = iprop((∃ r, prngReg c r) ∗ inv m c t.castSucc.val) from rfl,
    show (dats m 0 c).Φ t.succ = iprop((∃ r, prngReg c r) ∗ inv m c t.succ.val) from rfl, hP, hP']
  unfold Dat.owesAt Pipeline.owesWithin
  rw [show (dats m 0 c).owed t.castSucc = 0 from rfl, show (dats m 0 c).owed t.succ = 0 from rfl]
  iintro ⟨⟨Hg, HP⟩, ⟨%W, -, HW⟩, ⟨%d0, H0⟩, ⟨%d1, H1⟩, ⟨%d2, H2⟩, ⟨%d3, H3⟩, H4⟩
  iapply (h W)
  isplitl [HP]; · iexact HP
  isplitl [H0 H1 H2 H3]
  · unfold paramsAt params
    isplitl [H0]; · iexact H0
    isplitl [H1]; · iexact H1
    isplitl [H2]; · iexact H2
    iexact H3
  isplitl [H4]; · iexact H4
  isplitl [HW]; · iexact HW
  unfold paramsAt params
  iintro HP ⟨H0, H1, H2, H3⟩ HR ⟨%W', HW⟩
  isplitl [Hg HP]
  · isplitl [Hg]; · iexact Hg
    iexact HP
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact HR

/-- The body is sound at the first grid point, -/
theorem sound0 (c : Dev nD) (hI : Rows m c) : bodyPre m c t0_0
    ⊢ wp frame (wpE (defs₀ (F := F)) Variants.none (c : Thread nD τ) none) Set.univ (bodyAt0 m t0_0) (fun _ => bodyPost m c t0_0 (found m c t0_0)) :=
  sound_point m c t0_0 (restAt m c 0) (betweenAt m c at1) _ rfl rfl fun W Q => by
    iintro ⟨HP, Hp, H4, HW, Hk⟩
    iapply (point0 m c hI W)
    isplitl [HP]; · iexact HP
    isplitl [Hp]; · iexact Hp
    isplitl [HW]; · iexact HW
    iintro HP Hp HW
    iapply Hk $$ HP Hp H4 HW

/-- at the second, -/
theorem sound1 (c : Dev nD) (hI : Rows m c) : bodyPre m c t0_1
    ⊢ wp frame (wpE (defs₀ (F := F)) Variants.none (c : Thread nD τ) none) Set.univ (bodyAt0 m t0_1) (fun _ => bodyPost m c t0_1 (found m c t0_1)) :=
  sound_point m c t0_1 (betweenAt m c at1) (betweenAt m c at2) _ rfl rfl fun W Q => by
    iintro ⟨HP, Hp, H4, HW, Hk⟩
    iapply (point1 m c hI W)
    isplitl [HP]; · iexact HP
    isplitl [Hp]; · iexact Hp
    isplitl [HW]; · iexact HW
    iintro HP Hp HW
    iapply Hk $$ HP Hp H4 HW

/-- and at the last. -/
theorem sound2 (c : Dev nD) (hI : Rows m c) : bodyPre m c t0_2
    ⊢ wp frame (wpE (defs₀ (F := F)) Variants.none (c : Thread nD τ) none) Set.univ (bodyAt0 m t0_2)
        (fun _ => bodyPost m c t0_2 (owns (c : Thread nD τ) (st4 m t0_2) fullShare (result m c))) :=
  sound_point m c t0_2 (betweenAt m c at2) (restAt m c 384) _ rfl rfl fun W Q => by
    iintro ⟨HP, Hp, ⟨%d, H4⟩, HW, Hk⟩
    iapply (point2 m c hI _ W)
    isplitl [HP]; · iexact HP
    isplitl [Hp]; · iexact Hp
    isplitl [H4]; · iexact H4
    isplitl [HW]; · iexact HW
    iintro HP Hp H4 HW
    iapply Hk $$ HP Hp H4 HW

/-- The result's window is written back at the last point alone. -/
theorem idle4_0 : (cfg0 (adm m 0)).idle 4 (grid0.coords t0_0) = true := by sl_kernel_rfl
theorem idle4_1 : (cfg0 (adm m 0)).idle 4 (grid0.coords t0_1) = true := by sl_kernel_rfl
theorem idle4_2 : (cfg0 (adm m 0)).idle 4 (grid0.coords t0_2) = false := by sl_kernel_rfl
theorem flush4_0 : ((cfg0 (adm m 0)).win 4).flush t0_0 = false := by sl_kernel_rfl
theorem flush4_1 : ((cfg0 (adm m 0)).win 4).flush t0_1 = false := by sl_kernel_rfl
theorem flush4_2 : ((cfg0 (adm m 0)).win 4).flush t0_2 = true := by sl_kernel_rfl

/-- The body is sound at every grid point. -/
theorem body_obligation (c : Dev nD) (hI : Rows m c) : BodyObligation (dats (F := F) m 0 c) (defs₀ (F := F)) Variants.none () Set.univ := fun t => by
  rw [bigSep_W0, bigSep_W0, defs₀_row]
  rcases fin_N0 t with rfl | rfl | rfl
  · refine triple_restated (sound0 m c hI) rfl .rfl fun _ => ?_
    rw [idle4_0, flush4_0]
    exact .rfl
  · refine triple_restated (sound1 m c hI) rfl .rfl fun _ => ?_
    rw [idle4_1, flush4_1]
    exact .rfl
  · refine triple_restated (sound2 m c hI) rfl .rfl fun _ => ?_
    rw [idle4_2]
    exact .rfl

/-! ## Into the first point and out of the last -/

/-- The body's five semaphores are the region's own. -/
theorem sems_eq (c : Dev nD) :
    (Pipeline.ownSems0 (Ix := Unit) (Name := ℕ) (U := Pipeline.UD sig nD τ) (Lvl := ℕ) (Val := Elt F) (τ := τ) osem0 c : sProp 𝕄) = idles cc0_scratch3 c := by
  unfold Pipeline.ownSems0 idles
  congr 1
  funext s
  fin_cases s <;> rfl

/-- The embeddings held outside the windows are the body's, -/
theorem emb_eq (c : Dev nD) :
    (bigSep H0 (fun b => ((c : Thread nD τ).loc b) ↦{fullShare} V m c b) : sProp 𝕄) = embs (Memref.whole main_arg0) c (emb m c) := by
  rw [BI.bigSep_eq_bigSepL_of_eq [main_arg0] (by decide) (by decide)]
  unfold embs
  simp only [Memref.view_whole, View.set_whole]
  rfl

/-- and so is the index table. -/
theorem table_eq (c : Dev nD) :
    (Pipeline.ΦT (U := Pipeline.UD sig nD τ) pre0 (adm m 0).1 c : sProp 𝕄) = owns (c : Thread nD τ) (Memref.whole main_call0_v0) fullShare.right (words m c) := by
  obtain rfl : c = 0 := Subsingleton.elim _ _
  rw [owns_whole]
  unfold Pipeline.ΦT Pipeline.prefHeld
  exact bigSep_univ_eq_bigSepL [(0 : Fin 1)] (by decide) (by decide) _

/-- What the region leaves to the body becomes the invariant before the first point; -/
theorem rest_intro (c : Dev nD) :
    iprop(Pipeline.ΦD osem0 spec0 H0 (V m) c ∗ Pipeline.ΦT pre0 (adm m 0).1 c) ⊢ ((dats m 0 c).Φ 0 : sProp 𝕄) := by
  rw [show (dats m 0 c).Φ 0 = iprop((∃ r, prngReg c r) ∗ restAt m c 0) from rfl, Pipeline.ΦD_eq, scopedRest0_eq, sems_eq, emb_eq, table_eq]
  unfold restAt atRest repsTo
  iintro ⟨⟨⟨⟨%f0, H0⟩, ⟨%f1, H1⟩, ⟨%f2, H2⟩⟩, Hg, Hs, He⟩, Ht⟩
  isplitl [Hg]; · iexact Hg
  isplitl [Ht]; · iexact Ht
  isplitl [H0]
  · iexists f0; rw [owns_whole]; iexact H0
  isplitl [H1]
  · iexists f1; rw [owns_whole]; iexact H1
  isplitl [H2]
  · iexists f2
    isplitr
    · ipureintro; exact fun y h => absurd h (Nat.not_lt_zero _)
    rw [owns_whole]; iexact H2
  isplitl [He]; · iexact He
  iexact Hs

/-- the invariant after the last gives it back. -/
theorem rest_elim (c : Dev nD) :
    ((dats m 0 c).Φ (Fin.last (cfg0 (adm m 0)).N) : sProp 𝕄) ⊢ Pipeline.ΦD osem0 spec0 H0 (V m) c := by
  rw [show (dats m 0 c).Φ (Fin.last (cfg0 (adm m 0)).N) = iprop((∃ r, prngReg c r) ∗ restAt m c 384) from rfl, Pipeline.ΦD_eq, scopedRest0_eq, sems_eq, emb_eq]
  unfold restAt atRest repsTo
  simp only [owns_whole]
  iintro ⟨Hg, Ht, ⟨%f0, H0⟩, ⟨%f1, H1⟩, ⟨%f2, %h2, H2⟩, He, Hs⟩
  isplitl [H0 H1 H2]
  · isplitl [H0]; · iexists f0; iexact H0
    isplitl [H1]; · iexists f1; iexact H1
    iexists f2; iexact H2
  isplitl [Hg]; · iexact Hg
  isplitl [Hs]; · iexact Hs
  iexact He

/-! ## The run -/

/-- The program is three reshapes and the region. -/
theorem hmain : Pipeline.HMainP (Ix := Unit) (Name := ℕ) (U := Pipeline.UD sig nD τ) (Lvl := ℕ) (pcfgs (F := F)) 0 defs₀ Variants.none m (main (F := F)) (V m) :=
  Pipeline.hmainP_prefix (pcfgs (F := F)) 0 defs₀ Variants.none m main hostOps0 hostOps0_sub ⟨rfl, rfl, rfl⟩ main_chain

set_option backward.isDefEq.respectTransparency.types false in
/-- The run, with what each array holds at the end. -/
theorem run_main (hI : ∀ c, Rows m c) : θ_run defs (onTc (τ := τ) (main (F := F))) ⟨m, fun _ => 0, ρ⟩
    (fun r => Pipeline.FramePost (cfgs m) (dats m) 0 (V m) r ∧ r.2.sem = fun _ => 0) :=
  Pipeline.θ_run_frameP_dma (Q' := _) (pcfgs (F := F)) (adm m) (dats m) (0 : Fin 1) launch0 osem0 defs₀ Variants.none ownSemFacts0 H0 H0_sub m ρ main
    (hbody := fun c => (body_obligation m c (hI c)).loose) (hshare := fun c => (dats m 0 c).share_full fun _ => rfl)
    (howed := fun _ _ => rfl) (V := V m) (hmain := hmain m) (hA := A_eq m)
    (hpf := fun c k => by obtain rfl : c = 0 := Subsingleton.elim _ _; rfl)
    (hin := rest_intro m) (hout := rest_elim m)

/-- The last point writes the whole result. -/
theorem whole4 : ((cfg0 (adm m 0)).win 4).WholeAt t0_2 := by
  refine ⟨flush4_2 m, fun t ht => ?_, fun a => ?_⟩
  · rcases fin_N0 t with rfl | rfl | rfl
    · rw [flush4_0] at ht; exact absurd ht Bool.false_ne_true
    · rw [flush4_1] at ht; exact absurd ht Bool.false_ne_true
    · rfl
  · have ha : ∀ a : Fin 2, cc0_transform_5 (grid0.coords t0_2) a = 0 := by decide
    exact ⟨ha a, rfl⟩

/-- What is left in the result is the loss. -/
theorem result_arr (c : Dev nD) : (dats m 0 c).arrAt 4 (cfg0 (adm m 0)).N = result m c := by
  refine (dats m 0 c).arrAt_eq_of_after_last 4 t0_2 (whole4 m) _ fun j => ?_
  rfl

/-- A buffer that none of the three reshapes writes is entered as it was launched. -/
theorem V_kept (c : Dev nD) (b : Ref sig .tc) (hb : b ∉ [main_call0_v0, main_call0_v1, main_call0_v2]) : V m c b = m ((c : Thread nD τ).loc b) :=
  StableHlo.after_of_writes_sub (τ := τ) (W := [main_call0_v0, main_call0_v1, main_call0_v2]) hostOps0 (fun b => m (c, b))
    (StableHlo.forall_writes_sub_of_map rfl) hb

/-- The index words are the indices in order, -/
theorem V_words (c : Dev nD) : V m c main_call0_v0
    = (shapeCast S24576 (m ((c : Thread nD τ).loc main_arg5) : Vec F S3x128x64 .i32) shapeCasts_S3x128x64_S24576 : Vec F S24576 .i32) := by
  unfold V
  after_results
  rfl
/-- and the two biases their rows. -/
theorem V_bias1 (c : Dev nD) : V m c main_call0_v1
    = (shapeCast S3x1x512 (m ((c : Thread nD τ).loc main_arg2) : Vec F S3x512 .f32) shapeCasts_S3x512_S3x1x512 : Vec F S3x1x512 .f32) := by
  unfold V
  after_results
  rfl
/-- The second layer likewise. -/
theorem V_bias2 (c : Dev nD) : V m c main_call0_v2
    = (shapeCast S3x1x128 (m ((c : Thread nD τ).loc main_arg4) : Vec F S3x128 .f32) shapeCasts_S3x128_S3x1x128 : Vec F S3x1x128 .f32) := by
  unfold V
  after_results
  rfl

/-- These arguments are no window's arrays. -/
theorem rest0 : main_arg0 ∈ Pipeline.restRefs sig spec0 := by decide
theorem rest2 : main_arg2 ∈ Pipeline.restRefs sig spec0 := by decide
theorem rest4 : main_arg4 ∈ Pipeline.restRefs sig spec0 := by decide
theorem rest5 : main_arg5 ∈ Pipeline.restRefs sig spec0 := by decide

/-- The run: the result is the loss, the arguments are as they were, and every semaphore is at zero. -/
theorem run_result (hI : ∀ c, Rows m c) : θ_run defs (onTc (τ := τ) (main (F := F))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨((h.1 c).1 4).trans (result_arr m c),
      ((h.1 c).2 main_arg0 rest0).trans (V_kept m c _ (by decide)),
      ((h.1 c).1 0).trans (((dats m 0 c).arrAt_in 0 rfl _).trans ((A_eq m c 0).trans (V_kept m c main_arg1 (by decide)))),
      ((h.1 c).2 main_arg2 rest2).trans (V_kept m c _ (by decide)),
      ((h.1 c).1 2).trans (((dats m 0 c).arrAt_in 2 rfl _).trans ((A_eq m c 2).trans (V_kept m c main_arg3 (by decide)))),
      ((h.1 c).2 main_arg4 rest4).trans (V_kept m c _ (by decide)),
      ((h.1 c).2 main_arg5 rest5).trans (V_kept m c _ (by decide))⟩, h.2⟩)
    (run_main m ρ hI)

end Cert.KernelIdeal.Hand
end
-- ==== Proof.Range.lean ====
/-
  What the precondition says of the indices: each is a row number, at least 0 and below 20000.
-/
module

public import proofs.«01_k».proof.Pre_in_range
public import Idealize.ShloMosaic.Lib.ReduceAll

@[expose] public section

noncomputable section

namespace Pathway

open Idealize.ShloMosaic Cert.Pre_in_range

/-- A word that is nonnegative and below 20000 as a signed word is below 20000 as a number. -/
theorem toNat_lt_of_signed (x : BitVec 32) (h0 : 0 ≤ x.toInt) (h1 : x.toInt < 20000) : x.toNat < 20000 := by
  rw [BitVec.toInt_eq_toNat_cond] at h0 h1
  have := x.isLt
  split at h0 <;> split at h1 <;> omega

/-- Where the precondition holds, every index is below 20000. -/
theorem index_lt {F : FTy → Type} [FloatOps F] [Facts] (a0 : FVec F S3x20000x512 .f32) (a1 : FVec F S3x512x512 .f32) (a2 : FVec F S3x512 .f32)
    (a3 : FVec F S3x512x128 .f32) (a4 : FVec F S3x128 .f32) (idx : IVec S3x128x64 32)
    (h : fn a0 a1 a2 a3 a4 idx = fun _ => 1#1) (y : S3x128x64.Idx) : (idx y).toNat < 20000 := by
  unfold fn at h
  haveI : Subsingleton S_.Idx := ⟨fun a b => funext fun i => i.elim0⟩
  have h1 := Host.reduce_andi_all _ _ _ _ (fun i => i.elim0) (congrFun h _) y
  have h2 := IntOp.andi_eq_one.1 h1
  refine toNat_lt_of_signed _ ?_ ?_
  · have := IntOp.cmpi_sge.1 h2.1
    exact this
  · have := IntOp.cmpi_slt.1 h2.2
    exact this

end Pathway
end
-- ==== Proof.Loss.lean ====
/-
  The loss over the extended reals: the two spellings of a row's term are the same number, whatever the
  representations, since a normalised row is always real.
-/
module

public import Idealize.ShloMosaic.PureOps.Ideal.Laws

@[expose] public section

noncomputable section

namespace Pathway

open Idealize.ShloMosaic Finset

/-- The sum of real numbers is the same read as extended reals. -/
theorem coe_sum {ι : Type*} (s : Finset ι) (f : ι → ℝ) : ((∑ i ∈ s, f i : ℝ) : EReal) = ∑ i ∈ s, (f i : EReal) :=
  map_sum (⟨⟨fun x : ℝ => (x : EReal), rfl⟩, EReal.coe_add⟩ : ℝ →+ EReal) f s

/-- A square is nonnegative. -/
theorem sq_nonneg' (x : EReal) : 0 ≤ x * x := by
  induction x using EReal.rec with
  | bot => simp
  | top => simp
  | coe r => exact_mod_cast mul_self_nonneg r

/-- A number whose square is below infinity is real. -/
theorem real_of_sq_lt {x : EReal} (h : x * x < ⊤) : ∃ r : ℝ, x = r := by
  induction x using EReal.rec with
  | bot => simp at h
  | top => simp at h
  | coe r => exact ⟨r, rfl⟩

section Rows

variable {R D : Type} [Fintype R] [Fintype D] [DecidableEq R]

/-- An entry of a row divided by the row's length, `e` added. -/
def unitRow (e : EReal) (z : R → D → EReal) (r : R) (d : D) : EReal :=
  Ideal.div (z r d) (Ideal.sqrt (∑ d, z r d * z r d) + e)

/-- Such an entry is real. -/
theorem unitRow_real {e : ℝ} (he : 0 < e) (z : R → D → EReal) (r : R) (d : D) : ∃ x : ℝ, unitRow e z r d = x := by
  unfold unitRow
  have h0 : 0 ≤ ∑ d, z r d * z r d := sum_nonneg fun d _ => sq_nonneg' _
  have h1 : z r d * z r d ≤ ∑ d, z r d * z r d := single_le_sum (f := fun d => z r d * z r d) (fun d _ => sq_nonneg' _) (mem_univ d)
  revert h0 h1
  generalize (∑ d, z r d * z r d) = S
  intro h0 h1
  induction S using EReal.rec with
  | bot => simp at h0
  | top =>
    refine ⟨0, ?_⟩
    rw [Ideal.sqrt_top, EReal.top_add_coe, Ideal.div, if_neg (by simp)]
    simp
  | coe S =>
    obtain ⟨x, hx⟩ := real_of_sq_lt (lt_of_le_of_lt h1 (EReal.coe_lt_top S))
    have hS : 0 ≤ S := by exact_mod_cast h0
    rw [Ideal.sqrt_coe, if_neg (not_lt.2 hS), ← EReal.coe_add, Ideal.div_coe (by positivity), hx, ← EReal.coe_mul]
    exact ⟨_, rfl⟩

/-- The similarity of two rows. -/
def simOf (e : EReal) (z : R → D → EReal) (r s : R) : EReal := ∑ d, unitRow e z r d * unitRow e z s d

/-- A similarity is real. -/
theorem simOf_real {e : ℝ} (he : 0 < e) (z : R → D → EReal) (r s : R) : ∃ x : ℝ, simOf e z r s = x := by
  choose f hf using unitRow_real (R := R) he z
  refine ⟨∑ d, f r d * f s d, ?_⟩
  unfold simOf
  rw [coe_sum]
  exact sum_congr rfl fun d _ => by rw [hf, hf, EReal.coe_mul]

/-- A row's term as the kernel computes it: similarities multiplied, the logarithms' difference. -/
def termK (e k : EReal) (same : R → R → Prop) [∀ r s, Decidable (same r s)] (z : R → D → EReal) (r : R) : EReal :=
  Ideal.log ((∑ s, if r = s then 0 else Ideal.exp (simOf e z r s * k)) + e)
    - Ideal.log ((∑ s, if same r s ∧ ¬ r = s then (if r = s then 0 else Ideal.exp (simOf e z r s * k)) else 0) + e)

/-- A row's term as the reference computes it: similarities divided, the diagonal at minus infinity, a mask of zeros
and ones, the logarithm of the quotient. -/
def termR (e t : EReal) (same : R → R → Prop) [∀ r s, Decidable (same r s)] (z : R → D → EReal) (r : R) : EReal :=
  -Ideal.log (Ideal.div
    ((∑ s, Ideal.exp (if r = s then ⊥ else Ideal.div (simOf e z r s) t) * (if same r s ∧ ¬ r = s then 1 else 0)) + e)
    ((∑ s, Ideal.exp (if r = s then ⊥ else Ideal.div (simOf e z r s) t)) + e))

/-- They are the same number where the multiplier is the divisor's inverse. -/
theorem termR_eq_termK {e t : ℝ} (he : 0 < e) (ht : t ≠ 0) (same : R → R → Prop) [∀ r s, Decidable (same r s)] (z : R → D → EReal) (r : R) :
    termR e t same z r = termK e ((1 / t : ℝ) : EReal) same z r := by
  choose f hf using simOf_real (R := R) he z
  set w : R → ℝ := fun s => if r = s then 0 else Real.exp (f r s * (1 / t)) with hw
  have hw0 : ∀ s, 0 ≤ w s := fun s => by rw [hw]; dsimp only; split <;> positivity
  have a1 : ∀ s, Ideal.exp (if r = s then ⊥ else Ideal.div (simOf e z r s) t) = (w s : EReal) := fun s => by
    rw [hw]; dsimp only
    by_cases h : r = s
    · rw [if_pos h, if_pos h, Ideal.exp_bot, EReal.coe_zero]
    · rw [if_neg h, if_neg h, Ideal.div_coe ht, hf, ← EReal.coe_mul, Ideal.exp_coe]
  have a2 : ∀ s, (if r = s then 0 else Ideal.exp (simOf e z r s * ((1 / t : ℝ) : EReal))) = (w s : EReal) := fun s => by
    rw [hw]; dsimp only
    by_cases h : r = s
    · rw [if_pos h, if_pos h, EReal.coe_zero]
    · rw [if_neg h, if_neg h, hf, ← EReal.coe_mul, Ideal.exp_coe]
  set v : R → ℝ := fun s => if same r s ∧ ¬ r = s then w s else 0 with hv
  have hv0 : ∀ s, 0 ≤ v s := fun s => by rw [hv]; dsimp only; split; exact hw0 s; exact le_rfl
  have b1 : ∀ s, (w s : EReal) * (if same r s ∧ ¬ r = s then 1 else 0) = (v s : EReal) := fun s => by
    rw [hv]; dsimp only; split <;> simp
  have b2 : ∀ s, (if same r s ∧ ¬ r = s then (w s : EReal) else 0) = (v s : EReal) := fun s => by
    rw [hv]; dsimp only; split <;> simp
  have hp : 0 < (∑ s, w s) + e := add_pos_of_nonneg_of_pos (sum_nonneg fun s _ => hw0 s) he
  have hq : 0 < (∑ s, v s) + e := add_pos_of_nonneg_of_pos (sum_nonneg fun s _ => hv0 s) he
  unfold termR termK
  simp only [a1, a2, b1, b2]
  rw [← coe_sum, ← coe_sum, ← EReal.coe_add, ← EReal.coe_add, Ideal.div_coe hp.ne', ← EReal.coe_mul, Ideal.log_coe, Ideal.log_coe, Ideal.log_coe,
    if_neg (not_le.2 hp), if_neg (not_le.2 hq), if_neg (not_le.2 (by positivity)), ← EReal.coe_sub, ← EReal.coe_neg, mul_one_div,
    Real.log_div hq.ne' hp.ne', neg_sub]

/-- A row's term does not depend on how the rows are numbered. -/
theorem termK_comp {R' : Type} [Fintype R'] [DecidableEq R'] (σ : R' ≃ R) (e k : EReal) (same : R → R → Prop) [∀ r s, Decidable (same r s)]
    (z : R → D → EReal) (r : R') :
    termK e k (fun a b => same (σ a) (σ b)) (fun a => z (σ a)) r = termK e k same z (σ r) := by
  unfold termK
  rw [← Equiv.sum_comp σ, ← Equiv.sum_comp σ]
  simp only [EmbeddingLike.apply_eq_iff_eq]
  rfl

end Rows

end Pathway
end
-- ==== Proof.KernelLoss.lean ====
/-
  The kernel's loss over the extended reals: the rows' terms averaged.
-/
module

public import proofs.«01_k».proof.Proof.Body
public import proofs.«01_k».proof.Proof.Loss
public import Idealize.ShloMosaic.Lib.ValueIdx
public import Idealize.ShloMosaic.Lib.Pipeline.Value

@[expose] public section

noncomputable section

namespace Pathway

open Idealize.ShloMosaic Idealize.ShloMosaic.ValueIdx

/-- The number added to lengths and sums. -/
abbrev eps : EReal := Ideal.ofBits .f32 0x2B8CBCCC#32

/-- An array of 384 rows by its coordinates. -/
abbrev rowsOf (z : FVec Ideal S384x128 .f32) : Fin 384 → Fin 128 → EReal := fun r d => z (ix2 r d)

/-- A column cast from a row of numbers holds them. -/
theorem column_apply {α : Type} (x : S384.Idx → α) (r : Fin 384) (c : Fin 1) : shapeCast S384x1 x shapeCasts_S384_S384x1 (ix2 r c) = x (ix1 r) := by
  refine shapeCast_apply x _ _ _ ?_
  rw [Shape.rowMajor_val_one, Shape.rowMajor_val_two]
  show r.val = r.val * 1 + c.val
  omega

/-- The sums along the rows of an array of 384 rows. -/
theorem rowSum128 (x : FVec Ideal S384x128 .f32) (r : Fin 384) :
    multiReduction .add [1] S384 x 0x00000000#32 reduces_S384x128_S384 (.inl rfl) rfl (ix1 r) = ∑ k : Fin 128, x (ix2 r k) :=
  (Ideal.multiReduction_add_single ..).trans (Finset.sum_congr rfl fun k _ => congrArg x (by funext a; fin_cases a <;> rfl))

/-- The sums along rows of 384, -/
theorem rowSum384 (x : FVec Ideal S384x384 .f32) (r : Fin 384) :
    multiReduction .add [1] S384 x 0x00000000#32 reduces_S384x384_S384 (.inl rfl) rfl (ix1 r) = ∑ k : Fin 384, x (ix2 r k) :=
  (Ideal.multiReduction_add_single ..).trans (Finset.sum_congr rfl fun k _ => congrArg x (by funext a; fin_cases a <;> rfl))

/-- and along the one row. -/
theorem rowSumAll (x : FVec Ideal S1x384 .f32) (r : Fin 1) :
    multiReduction .add [1] S1 x 0x00000000#32 reduces_S1x384_S1 (.inl rfl) rfl (ix1 r) = ∑ k : Fin 384, x (ix2 r k) :=
  (Ideal.multiReduction_add_single ..).trans (Finset.sum_congr rfl fun k _ => congrArg x (by funext a; fin_cases a <;> rfl))

/-- A row divided by its length, at an entry. -/
theorem unit_apply (z : FVec Ideal S384x128 .f32) (r : Fin 384) (d : Fin 128) :
    divf z (broadcastTo S384x128 (addf (sqrt (shapeCast S384x1
      (multiReduction .add [1] S384 (mulf z z) 0x00000000#32 reduces_S384x128_S384 (.inl rfl) rfl) shapeCasts_S384_S384x1))
      (broadcast S384x1 (Scalar.ofBits .f32 0x2B8CBCCC#32))) broadcasts_S384x1_S384x128) (ix2 r d)
      = unitRow eps (rowsOf z) r d := by
  rw [divf_apply, broadcastTo_apply _ _ _ (ix2 r (0 : Fin 1)) (by intro a; fin_cases a <;> rfl), addf_apply]
  show Ideal.div _ (Ideal.sqrt (shapeCast S384x1 _ _ _) + _) = _
  rw [column_apply]
  exact congrArg (fun S => Ideal.div (z (ix2 r d)) (Ideal.sqrt S + eps)) (rowSum128 (mulf z z) r)

/-- A similarity is the product of two such rows, multiplied. -/
theorem similarity_apply (s : Ideal .f32) (z : FVec Ideal S384x128 .f32) (r q : Fin 384) :
    similarity s z (ix2 r q) = simOf eps (rowsOf z) r q * s := by
  unfold similarity
  show FloatOps.matmul dotSim none _ _ (constant S384x384 .f32 0x00000000#32) (ix2 r q) * s = _
  rw [Ideal.matmul_constant_zero_apply, ← Equiv.sum_comp (contrEquiv1 dotSim 128 rfl rfl).symm]
  refine congrArg (· * s) (Finset.sum_congr rfl fun k _ => ?_)
  have el : dotSim.lhsIdx (ix2 r q) ((contrEquiv1 dotSim 128 rfl rfl).symm k) = ix2 r k := by funext a; fin_cases a <;> rfl
  have er : dotSim.rhsIdx (ix2 r q) ((contrEquiv1 dotSim 128 rfl rfl).symm k) = ix2 q k := by funext a; fin_cases a <;> rfl
  rw [el, er, unit_apply, unit_apply]

/-- A word modulo 128, as the kernel computes it. -/
def mod128w (x : BitVec 32) : BitVec 32 := mod128 (fun _ => x) (ix2 (0 : Fin 384) (0 : Fin 384))

/-- It is taken entry by entry, -/
theorem mod128_apply (x : IVec S384x384 32) (j : S384x384.Idx) : mod128 x j = mod128w (x j) := rfl

/-- and is the remainder. -/
theorem mod128w_ofNat : ∀ n : Fin 384, mod128w (BitVec.ofNat 32 n.val) = BitVec.ofNat 32 (n.val % 128) := by decide +kernel

/-- Small numbers are equal where their words are. -/
theorem ofNat_inj {a b : ℕ} (ha : a < 384) (hb : b < 384) : BitVec.ofNat 32 a = BitVec.ofNat 32 b ↔ a = b := by
  constructor
  · intro h
    have := congrArg BitVec.toNat h
    simp only [BitVec.toNat_ofNat] at this
    omega
  · rintro rfl; rfl

/-- Equality of words, as a truth word. -/
theorem eq_word (a b : BitVec 32) : IntOp.cmpi .eq a b = if a = b then 1#1 else 0#1 := by
  unfold IntOp.cmpi
  by_cases h : a = b
  · rw [if_pos h, h]; simp
  · rw [if_neg h, show (a == b) = false from beq_false_of_ne h]; rfl

/-- The array of row numbers, -/
theorem rows_apply (r q : Fin 384) : iota .tc S384x384 32 [0] iota_S384x384_d0 (ix2 r q) = BitVec.ofNat 32 r.val := by
  show BitVec.ofNat 32 (0 * 384 + r.val) = _
  rw [Nat.zero_mul, Nat.zero_add]

/-- and of column numbers. -/
theorem cols_apply (r q : Fin 384) : iota .tc S384x384 32 [1] iota_S384x384_d1 (ix2 r q) = BitVec.ofNat 32 q.val := by
  show BitVec.ofNat 32 (0 * 384 + q.val) = _
  rw [Nat.zero_mul, Nat.zero_add]

/-- The diagonal as a truth word. -/
theorem diag_apply (r q : Fin 384) :
    cmpi .eq (iota .tc S384x384 32 [0] iota_S384x384_d0) (iota .tc S384x384 32 [1] iota_S384x384_d1) (ix2 r q) = if r = q then 1#1 else 0#1 := by
  show IntOp.cmpi .eq _ _ = _
  rw [rows_apply, cols_apply, eq_word]
  simp only [ofNat_inj r.isLt q.isLt, Fin.ext_iff]

/-- Rows of the same pathway: equal modulo 128. -/
abbrev sameK (r q : Fin 384) : Prop := r.val % 128 = q.val % 128

/-- The pairs of different rows of the same pathway as a truth word. -/
theorem pos_apply (r q : Fin 384) :
    andi (cmpi .eq (mod128 (iota .tc S384x384 32 [0] iota_S384x384_d0)) (mod128 (iota .tc S384x384 32 [1] iota_S384x384_d1)))
      (xori (cmpi .eq (iota .tc S384x384 32 [0] iota_S384x384_d0) (iota .tc S384x384 32 [1] iota_S384x384_d1)) (constantI S384x384 1 1#1)) (ix2 r q)
      = if sameK r q ∧ ¬ r = q then 1#1 else 0#1 := by
  show IntOp.andi (IntOp.cmpi .eq (mod128 _ _) (mod128 _ _)) (IntOp.xori (cmpi .eq _ _ _) 1#1) = _
  rw [diag_apply, mod128_apply, mod128_apply, rows_apply, cols_apply, mod128w_ofNat, mod128w_ofNat, eq_word]
  have hr := Nat.mod_lt r.val (show 0 < 128 by decide)
  have hq := Nat.mod_lt q.val (show 0 < 128 by decide)
  simp only [ofNat_inj (Nat.lt_trans hr (by decide)) (Nat.lt_trans hq (by decide))]
  by_cases h1 : r.val % 128 = q.val % 128 <;> by_cases h2 : r = q <;> simp [h1, h2, IntOp.andi, IntOp.xori]

/-- The loss of the representations is the rows' terms, averaged. -/
theorem lossOf_eq (s : Ideal .f32) (z : FVec Ideal S384x128 .f32) :
    lossOf s z = Ideal.div (∑ r, termK eps s sameK (rowsOf z) r) (Ideal.ofBits .f32 0x43C00000#32) := by
  unfold lossOf
  show Ideal.div (shapeCast S1x1 _ _ _) _ = _
  refine congrArg (fun S => Ideal.div S _) ?_
  rw [shapeCast_apply _ _ _ (ix1 (0 : Fin 1)) (by rw [Shape.rowMajor_val_one, Shape.rowMajor_val_two]; rfl)]
  refine (rowSumAll _ 0).trans (Finset.sum_congr rfl fun r _ => ?_)
  rw [shapeCast_apply _ _ _ (ix1 r) (by rw [Shape.rowMajor_val_one, Shape.rowMajor_val_two]; show r.val = 0 * 384 + r.val; omega)]
  have hex : ∀ q, (select (cmpi .eq (iota .tc S384x384 32 [0] iota_S384x384_d0) (iota .tc S384x384 32 [1] iota_S384x384_d1))
      (broadcast S384x384 (Scalar.ofBits .f32 0x00000000#32)) (exp (similarity s z)) : FVec Ideal S384x384 .f32) (ix2 r q)
      = if r = q then 0 else Ideal.exp (simOf eps (rowsOf z) r q * s) := fun q => by
    rw [select_apply, diag_apply]
    by_cases h : r = q
    · rw [if_pos h, if_pos h, select_one]; exact Ideal.ofBits_zero_f32
    · rw [if_neg h, if_neg h, select_zero]
      exact congrArg Ideal.exp (similarity_apply s z r q)
  show Ideal.log (_ + eps) - Ideal.log (_ + eps) = Ideal.log (_ + eps) - Ideal.log (_ + eps)
  refine congrArg₂ (fun A B => Ideal.log (A + eps) - Ideal.log (B + eps)) ((rowSum384 _ r).trans (Finset.sum_congr rfl fun q _ => hex q))
    ((rowSum384 _ r).trans (Finset.sum_congr rfl fun q _ => ?_))
  rw [select_apply, pos_apply]
  by_cases h : sameK r q ∧ ¬ r = q
  · rw [if_pos h, if_pos h, select_one]; exact hex q
  · rw [if_neg h, if_neg h, select_zero]; exact Ideal.ofBits_zero_f32

end Pathway
end
-- ==== Proof.KernelReps.lean ====
/-
  The kernel's representations over the extended reals: the rows of the table that the index words name, added up,
  divided by their number, through the two dense layers.
-/
module

public import proofs.«01_k».proof.Proof.Gather
public import proofs.«01_k».proof.Proof.KernelLoss

@[expose] public section

noncomputable section

namespace Pathway

open Idealize.ShloMosaic Idealize.ShloMosaic.ValueIdx

/-- A representation's entry, from the sum `g` of the gathered rows. -/
def repOf (g : Fin 512 → EReal) (w1 : Fin 512 → Fin 512 → EReal) (b1 : Fin 512 → EReal) (w2 : Fin 512 → Fin 128 → EReal) (b2 : Fin 128 → EReal)
    (d : Fin 128) : EReal :=
  (∑ k, max ((∑ h, g h * Ideal.ofBits .f32 0x3C800000#32 * w1 h k) + b1 k) 0 * w2 k d) + b2 d

/-- It depends only on the values of the sum, the weights and the biases. -/
theorem repOf_congr {g g' : Fin 512 → EReal} {w1 w1' : Fin 512 → Fin 512 → EReal} {b1 b1' : Fin 512 → EReal} {w2 w2' : Fin 512 → Fin 128 → EReal}
    {b2 b2' : Fin 128 → EReal} (hg : ∀ h, g h = g' h) (hw1 : ∀ h k, w1 h k = w1' h k) (hb1 : ∀ k, b1 k = b1' k) (hw2 : ∀ k d, w2 k d = w2' k d)
    (hb2 : ∀ d, b2 d = b2' d) (d : Fin 128) : repOf g w1 b1 w2 b2 d = repOf g' w1' b1' w2' b2' d := by
  obtain rfl : g = g' := funext hg
  obtain rfl : w1 = w1' := funext fun h => funext (hw1 h)
  obtain rfl : b1 = b1' := funext hb1
  obtain rfl : w2 = w2' := funext fun k => funext (hw2 k)
  obtain rfl : b2 = b2' := funext hb2
  rfl

section Gathered

variable (T : FVec Ideal S20000x512 .f32) (I : S24576.Idx → BitVec 32)

/-- The row of the lane `r`: whether the word's row is the `r`-th of its eight. -/
theorem lane_word (r : Fin 8) (v : BitVec 32) :
    IntOp.cmpi .eq (BitVec.ofNat 32 (0 * 8 + r.val)) (v &&& 7#32) = if r.val = v.toNat % 8 then 1#1 else 0#1 := by
  rw [eq_word]
  have h : (BitVec.ofNat 32 (0 * 8 + r.val) = v &&& 7#32) ↔ r.val = v.toNat % 8 := by
    rw [← BitVec.toNat_inj, BitVec.toNat_and, BitVec.toNat_ofNat, BitVec.toNat_ofNat]
    rw [show (7 % 2 ^ 32 : ℕ) = 2 ^ 3 - 1 by decide, Nat.and_two_pow_sub_one_eq_mod]
    have := r.isLt
    omega
  simp only [h]

/-- A gathered piece holds the word's row in one lane, zero in the other seven. -/
theorem piece_apply {v : BitVec 32} (hv : v.toNat < 20000) (r : Fin 8) (h : Fin 512) :
    piece lane v (chunk T v) (ix2 r h) = if r.val = v.toNat % 8 then T (ix2 ⟨v.toNat, hv⟩ h) else 0 := by
  unfold piece
  rw [mulf_apply, broadcastTo_apply _ _ _ (ix2 r (0 : Fin 1)) (by intro a; fin_cases a <;> rfl)]
  show (chunk (F := Ideal) T v (ix2 r h) : EReal) * ((((IntOp.cmpi .eq (BitVec.ofNat 32 (0 * 8 + r.val)) (v &&& 7#32)).setWidth 32).toInt : ℝ) : EReal) = _
  rw [lane_word]
  by_cases e : r.val = v.toNat % 8
  · rw [if_pos e, if_pos e]
    rw [show (((1#1).setWidth 32).toInt : ℝ) = 1 by norm_num [show ((1#1).setWidth 32).toInt = 1 by decide], EReal.coe_one, mul_one]
    refine congrArg T (congrArg (fun a => ix2 a h) (Fin.ext ?_))
    show (8 * (v.toNat / 8) + r.val) % 20000 = v.toNat
    omega
  · rw [if_neg e, if_neg e]
    rw [show (((0#1).setWidth 32).toInt : ℝ) = 0 by norm_num [show ((0#1).setWidth 32).toInt = 0 by decide], EReal.coe_zero, mul_zero]

/-- The accumulated pieces are their sum. -/
theorem accum_apply (a p : ℕ) (y : S8x512.Idx) : ∀ (n : ℕ) (acc : FVec Ideal S8x512 .f32),
    accum T I a p n acc y = acc y + ∑ j ∈ Finset.range n, piece lane (word I a p (63 - j)) (chunk T (word I a p (63 - j))) y
  | 0, acc => by simp [accum]
  | n + 1, acc => by
    rw [accum, accum_apply a p y n, addf_apply, Finset.sum_range_succ, add_assoc, add_comm (piece _ _ _ _)]

/-- A word is a row number where all are. -/
theorem word_lt (hI : ∀ x, (I x).toNat < 20000) (a p g : ℕ) : (word I a p g).toNat < 20000 := hI _

/-- A sum over sixty-four numbers, the last first. -/
theorem sum_last_first (f : ℕ → EReal) : ∑ j ∈ Finset.range 64, f (63 - j) = ∑ g : Fin 64, f g.val :=
  (Finset.sum_range_reflect f 64).trans (Finset.sum_range f)

/-- The eight lanes of a gathered row add up to the sum of the rows that its sixty-four words name. -/
theorem gathered_sum (hI : ∀ x, (I x).toNat < 20000) (a : ℕ) (p : Fin 128) (h : Fin 512) :
    (∑ r : Fin 8, gathered T I a (ix3 p r h)) = ∑ g : Fin 64, T (ix2 ⟨(word I a p.val g.val).toNat, word_lt I hI a p.val g.val⟩ h) := by
  have e : ∀ r : Fin 8, gathered T I a (ix3 p r h)
      = ∑ g : Fin 64, if r.val = (word I a p.val g.val).toNat % 8 then T (ix2 ⟨(word I a p.val g.val).toNat, word_lt I hI a p.val g.val⟩ h) else 0 := fun r => by
    refine (accum_apply T I a p.val (ix2 r h) 64 _).trans ?_
    have e1 : ∀ g : Fin 64, piece lane (word I a p.val g.val) (chunk T (word I a p.val g.val)) (ix2 r h)
        = if r.val = (word I a p.val g.val).toNat % 8 then T (ix2 ⟨(word I a p.val g.val).toNat, word_lt I hI a p.val g.val⟩ h) else 0 :=
      fun g => piece_apply T (word_lt I hI a p.val g.val) r h
    let f : ℕ → EReal := fun g => piece (F := Ideal) lane (word I a p.val g) (chunk (F := Ideal) T (word I a p.val g)) (ix2 r h)
    have e2 : ∑ j ∈ Finset.range 64, f (63 - j)
        = ∑ g : Fin 64, if r.val = (word I a p.val g.val).toNat % 8 then T (ix2 ⟨(word I a p.val g.val).toNat, word_lt I hI a p.val g.val⟩ h) else 0 := by
      rw [sum_last_first f]; exact Finset.sum_congr rfl fun g _ => e1 g
    exact (congrArg₂ (· + ·) Ideal.ofBits_zero_f32 e2).trans (zero_add _)
  rw [Finset.sum_congr rfl fun r _ => e r, Finset.sum_comm]
  refine Finset.sum_congr rfl fun g _ => ?_
  have hm : (word I a p.val g.val).toNat % 8 < 8 := Nat.mod_lt _ (by decide)
  rw [Finset.sum_eq_single (⟨_, hm⟩ : Fin 8) (fun r _ hr => if_neg fun h => hr (Fin.ext h)) (fun h => absurd (Finset.mem_univ _) h), if_pos rfl]

end Gathered

/-- The sum over the eight lanes, as the kernel takes it. -/
theorem laneSum (x : FVec Ideal S128x8x512 .f32) (p : Fin 128) (h : Fin 512) :
    multiReduction .add [1] S128x512 x 0x00000000#32 reduces_S128x8x512_S128x512 (.inl rfl) rfl (ix2 p h) = ∑ r : Fin 8, x (ix3 p r h) :=
  (Ideal.multiReduction_add_single ..).trans (Finset.sum_congr rfl fun k _ => congrArg x (by funext a; fin_cases a <;> rfl))

/-- The dense layers at an entry. -/
theorem encode_apply (x : FVec Ideal S128x8x512 .f32) (w1 : FVec Ideal S1x512x512 .f32) (b1 : FVec Ideal S1x1x512 .f32) (w2 : FVec Ideal S1x512x128 .f32)
    (b2 : FVec Ideal S1x1x128 .f32) (p d : Fin 128) :
    encode x w1 b1 w2 b2 (ix2 p d) = repOf (fun h => ∑ r : Fin 8, x (ix3 p r h)) (fun h k => w1 (ix3 0 h k)) (fun k => b1 (ix3 0 0 k))
      (fun k d => w2 (ix3 0 k d)) (fun d => b2 (ix3 0 0 d)) d := by
  unfold encode
  rw [addf_apply, broadcastTo_apply _ _ _ (ix2 (0 : Fin 1) d) (by intro a; fin_cases a <;> rfl),
    shapeCast_apply b2 _ _ (ix3 0 0 d) (by rw [Shape.rowMajor_val_three, Shape.rowMajor_val_two]; rfl)]
  refine congrArg (· + b2 (ix3 0 0 d)) ?_
  rw [show ∀ (l : FVec Ideal S128x512 .f32) (r : FVec Ideal S512x128 .f32), matmul dotOut none l r (constant S128x128 .f32 0x00000000#32) (ix2 p d)
      = ∑ k : dotOut.contr.Idx, l (dotOut.lhsIdx (ix2 p d) k) * r (dotOut.rhsIdx (ix2 p d) k) from fun l r => Ideal.matmul_constant_zero_apply ..,
    ← Equiv.sum_comp (contrEquiv1 dotOut 512 rfl rfl).symm]
  refine Finset.sum_congr rfl fun k _ => ?_
  have el : dotOut.lhsIdx (ix2 p d) ((contrEquiv1 dotOut 512 rfl rfl).symm k) = ix2 p k := by funext a; fin_cases a <;> rfl
  have er : dotOut.rhsIdx (ix2 p d) ((contrEquiv1 dotOut 512 rfl rfl).symm k) = ix2 k d := by funext a; fin_cases a <;> rfl
  rw [el, er, shapeCast_apply w2 _ _ (ix3 0 k d) (by
    rw [Shape.rowMajor_val_three, Shape.rowMajor_val_two]; show (0 * 512 + k.val) * 128 + d.val = k.val * 128 + d.val; omega)]
  refine congrArg (· * w2 (ix3 0 k d)) ?_
  rw [maximumf_apply, addf_apply, broadcastTo_apply _ _ _ (ix2 (0 : Fin 1) k) (by intro a; fin_cases a <;> rfl),
    shapeCast_apply b1 _ _ (ix3 0 0 k) (by rw [Shape.rowMajor_val_three, Shape.rowMajor_val_two]; rfl)]
  refine congrArg₂ max (congrArg (· + b1 (ix3 0 0 k)) ?_) Ideal.ofBits_zero_f32
  rw [show ∀ (l : FVec Ideal S128x512 .f32) (r : FVec Ideal S512x512 .f32), matmul dotHid none l r (constant S128x512 .f32 0x00000000#32) (ix2 p k)
      = ∑ h : dotHid.contr.Idx, l (dotHid.lhsIdx (ix2 p k) h) * r (dotHid.rhsIdx (ix2 p k) h) from fun l r => Ideal.matmul_constant_zero_apply ..,
    ← Equiv.sum_comp (contrEquiv1 dotHid 512 rfl rfl).symm]
  refine Finset.sum_congr rfl fun h _ => ?_
  have fl : dotHid.lhsIdx (ix2 p k) ((contrEquiv1 dotHid 512 rfl rfl).symm h) = ix2 p h := by funext a; fin_cases a <;> rfl
  have fr : dotHid.rhsIdx (ix2 p k) ((contrEquiv1 dotHid 512 rfl rfl).symm h) = ix2 h k := by funext a; fin_cases a <;> rfl
  rw [fl, fr, shapeCast_apply w1 _ _ (ix3 0 h k) (by
    rw [Shape.rowMajor_val_three, Shape.rowMajor_val_two]; show (0 * 512 + h.val) * 512 + k.val = h.val * 512 + k.val; omega), mulf_apply]
  exact congrArg (· * Ideal.ofBits .f32 0x3C800000#32 * w1 (ix3 0 h k)) (laneSum x p h)

end Pathway
end
-- ==== Proof.KernelRows.lean ====
/-
  The idealized kernel's result over the extended reals, from the arguments: its representations by table and pathway,
  the loss of their rows.
-/
module

public import proofs.«01_k».proof.Proof.RunKernelIdeal
public import proofs.«01_k».proof.Proof.KernelReps

@[expose] public section

noncomputable section

namespace Cert.KernelIdeal.Hand

open Cert.KernelIdeal Cert.KernelIdeal.Gen Pathway
open Idealize.ShloMosaic Idealize.ShloMosaic.ValueIdx Idealize.ShloMosaic.TcCoe Idealize.ShloMosaic.Tactic

section Blocks

variable {F : FTy → Type} [FloatOps F] [Named F] (m : (ℓ : Loc nD τ sig) → Buf (Elt F) ℓ) (c : Dev nD)

/-- The index word of pathway `p`'s gene `g` in table `a` is that index. -/
theorem words_apply (a : Fin 3) (p : Fin 128) (g : Fin 64) :
    word (words m c) a.val p.val g.val = (m ((c : Thread nD τ).loc main_arg5) : Vec F S3x128x64 .i32) (ix3 a p g) := by
  unfold word
  refine (congrFun (V_words m c) _).trans (shapeCast_apply (s := S3x128x64) _ _ _ (ix3 a p g) ?_)
  rw [Shape.rowMajor_val_three, Shape.rowMajor_val_one]
  have := a.isLt
  have := p.isLt
  have := g.isLt
  show (a.val * 128 + p.val) * 64 + g.val = (8192 * a.val + 64 * p.val + g.val) % 24576
  omega

/-- Each input window's block at point `t` is the `t`-th along the first axis. -/
theorem index0 (t a : Fin 3) : ((cfg0 (adm m 0)).win 0).index ⟨t.val, lt_N t.isLt⟩ a = if a = 0 then t.val else 0 := by
  fin_cases t <;> fin_cases a <;> sl_kernel_rfl
theorem index1 (t a : Fin 3) : ((cfg0 (adm m 0)).win 1).index ⟨t.val, lt_N t.isLt⟩ a = if a = 0 then t.val else 0 := by
  fin_cases t <;> fin_cases a <;> sl_kernel_rfl
theorem index2 (t a : Fin 3) : ((cfg0 (adm m 0)).win 2).index ⟨t.val, lt_N t.isLt⟩ a = if a = 0 then t.val else 0 := by
  fin_cases t <;> fin_cases a <;> sl_kernel_rfl
theorem index3 (t a : Fin 3) : ((cfg0 (adm m 0)).win 3).index ⟨t.val, lt_N t.isLt⟩ a = if a = 0 then t.val else 0 := by
  fin_cases t <;> fin_cases a <;> sl_kernel_rfl

/-- The place of a block of one slab: the slab's number on the first axis, the block's own place on the other two. -/
theorem slab_place {n1 n2 : ℕ} {i : Fin 3 → ℕ} {t : Fin 3} (e : ∀ a, i a = if a = 0 then t.val else 0) {u : Fin n1} {v : Fin n2}
    {x : (⟨3, ![3, n1, n2]⟩ : Shape).Idx} (h0 : (x 0).val = i 0 * 1 + 1 * 0) (h1 : (x 1).val = i 1 * n1 + 1 * u.val)
    (h2 : (x 2).val = i 2 * n2 + 1 * v.val) : x = ix3 t u v := by
  have e0 := e 0
  have e1 := e 1
  have e2 := e 2
  simp only [Fin.isValue, if_true, one_ne_zero, if_false, show (2 : Fin 3) ≠ 0 by decide] at e0 e1 e2
  funext a
  apply Fin.ext
  match a with
  | ⟨0, _⟩ => refine h0.trans ?_; rw [e0]; simp
  | ⟨1, _⟩ => refine h1.trans ?_; rw [e1]; simp
  | ⟨2, _⟩ => refine h2.trans ?_; rw [e2]; simp

/-- The first layer's weights at point `t` are the `t`-th of the three arrays; -/
theorem w1_apply (t : Fin 3) (h k : Fin 512) :
    w1At m c ⟨t.val, lt_N t.isLt⟩ (ix3 (0 : Fin 1) h k) = (m ((c : Thread nD τ).loc main_arg1) : Vec F S3x512x512 .f32) (ix3 t h k) :=
  (congrArg (V m c main_arg1) (slab_place (index0 m t) rfl rfl rfl)).trans (congrFun (V_kept m c main_arg1 (by decide)) (ix3 t h k))

/-- so are the second's, -/
theorem w2_apply (t : Fin 3) (k : Fin 512) (d : Fin 128) :
    w2At m c ⟨t.val, lt_N t.isLt⟩ (ix3 (0 : Fin 1) k d) = (m ((c : Thread nD τ).loc main_arg3) : Vec F S3x512x128 .f32) (ix3 t k d) :=
  (congrArg (V m c main_arg3) (slab_place (index2 m t) rfl rfl rfl)).trans (congrFun (V_kept m c main_arg3 (by decide)) (ix3 t k d))

/-- and the biases. -/
theorem b1_apply (t : Fin 3) (k : Fin 512) :
    b1At m c ⟨t.val, lt_N t.isLt⟩ (ix3 (0 : Fin 1) (0 : Fin 1) k) = (m ((c : Thread nD τ).loc main_arg2) : Vec F S3x512 .f32) (ix2 t k) := by
  refine (congrArg (V m c main_call0_v1) (slab_place (index1 m t) (u := (0 : Fin 1)) (v := k) rfl rfl rfl)).trans
    ((congrFun (V_bias1 m c) (ix3 t (0 : Fin 1) k)).trans (shapeCast_apply (s := S3x512) _ _ _ (ix2 t k) ?_))
  rw [Shape.rowMajor_val_three, Shape.rowMajor_val_two]
  show t.val * 512 + k.val = (t.val * 1 + 0) * 512 + k.val
  omega

/-- and the second layer's. -/
theorem b2_apply (t : Fin 3) (d : Fin 128) :
    b2At m c ⟨t.val, lt_N t.isLt⟩ (ix3 (0 : Fin 1) (0 : Fin 1) d) = (m ((c : Thread nD τ).loc main_arg4) : Vec F S3x128 .f32) (ix2 t d) := by
  refine (congrArg (V m c main_call0_v2) (slab_place (index3 m t) (u := (0 : Fin 1)) (v := d) rfl rfl rfl)).trans
    ((congrFun (V_bias2 m c) (ix3 t (0 : Fin 1) d)).trans (shapeCast_apply (s := S3x128) _ _ _ (ix2 t d) ?_))
  rw [Shape.rowMajor_val_three, Shape.rowMajor_val_two]
  show t.val * 128 + d.val = (t.val * 1 + 0) * 128 + d.val
  omega

/-- The table the copies read is the argument's. -/
theorem table_apply (t : Fin 3) (r : Fin 20000) (h : Fin 512) :
    tableOf ((Memref.whole main_arg0).view.read (Elt F) (emb m c)) t.isLt (ix2 r h)
      = (m ((c : Thread nD τ).loc main_arg0) : Vec F S3x20000x512 .f32) (ix3 t r h) :=
  congrFun (V_kept m c main_arg0 (by decide)) (ix3 t r h)

end Blocks

variable (m : (ℓ : Loc nD τ sig) → Buf (Elt Ideal) ℓ) (c : Dev nD)

/-- A row of the kernel. -/
theorem stacked_apply (hI : Rows m c) (E : FVec Ideal S3x20000x512 .f32) (w1 : FVec Ideal S3x512x512 .f32) (b1 : FVec Ideal S3x512 .f32)
    (w2 : FVec Ideal S3x512x128 .f32) (b2 : FVec Ideal S3x128 .f32) (idx : IVec S3x128x64 32) (hE : m ((c : Thread nD τ).loc main_arg0) = E)
    (hw1 : m ((c : Thread nD τ).loc main_arg1) = w1) (hb1 : m ((c : Thread nD τ).loc main_arg2) = b1) (hw2 : m ((c : Thread nD τ).loc main_arg3) = w2)
    (hb2 : m ((c : Thread nD τ).loc main_arg4) = b2) (hidx : m ((c : Thread nD τ).loc main_arg5) = idx) (hX : ∀ y, (idx y).toNat < 20000)
    (o : Fin 3) (p : Fin 128) (r : Fin 384) (hr : r.val = 128 * o.val + p.val) (d : Fin 128) :
    stacked (encAt m c) (ix2 r d)
      = repOf (fun h => ∑ g : Fin 64, E (ix3 o ⟨(idx (ix3 o p g)).toNat, hX _⟩ h)) (fun h k => w1 (ix3 o h k)) (fun k => b1 (ix2 o k))
          (fun k d => w2 (ix3 o k d)) (fun d => b2 (ix2 o d)) d := by
  subst hE hw1 hb1 hw2 hb2 hidx
  have e1 : r.val / 128 = o.val := by have := p.isLt; omega
  have e2 : (⟨r.val % 128, Nat.mod_lt _ (by decide)⟩ : Fin 128) = p := Fin.ext (by have := p.isLt; show r.val % 128 = p.val; omega)
  show encAt m c (r.val / 128) (ix2 (⟨r.val % 128, Nat.mod_lt _ (by decide)⟩ : Fin 128) d) = _
  rw [e1, e2, ← encAt_eq m c o.isLt]
  refine (encode_apply _ _ _ _ _ p d).trans (repOf_congr (fun h => ?_) (w1_apply m c o) (b1_apply m c o) (w2_apply m c o) (b2_apply m c o) d)
  refine (gathered_sum _ (words m c) hI o.val p h).trans (Finset.sum_congr rfl fun g _ => ?_)
  refine (table_apply m c o _ h).trans (congrArg (m ((c : Thread nD τ).loc main_arg0)) ?_)
  exact congrArg (fun r => ix3 o r h) (Fin.ext (congrArg BitVec.toNat (words_apply m c o p g)))

end Cert.KernelIdeal.Hand
end
-- ==== Proof.Reference.lean ====
/-
  The reference's value in stages: the wrapped indices, the pooled rows, the two dense layers, the rows in pathway
  order, the similarities and the loss.
-/
module

public import proofs.«01_k».proof.Proof.Gen.ReferenceIdeal.Run

@[expose] public section

noncomputable section

namespace Cert.ReferenceIdeal.Hand

open Cert.ReferenceIdeal Cert.ReferenceIdeal.Gen Idealize.ShloMosaic Idealize.ShloMosaic.TcCoe

variable {F : FTy → Type} [FloatOps F]

/-- An index below zero counts from the table's end. -/
def wrapped (idx : IVec S3x128x64 32) : IVec S3x128x64 32 :=
  select (cmpi .slt idx (broadcastInDim S3x128x64 ![] bcast_S_S3x128x64 (constantI S_ 32 0#32)))
    (addi idx (broadcastInDim S3x128x64 ![] bcast_S_S3x128x64 (constantI S_ 32 20000#32))) idx

/-- The mean of the rows that each pathway's indices name. -/
def pooled (E : FVec F S3x20000x512 .f32) (idx : IVec S3x128x64 32) : FVec F S3x128x512 .f32 :=
  Host.divf
    (Host.reduceAdd
      (Host.gather gather_S3x20000x512_S3x128x64x1_S3x128x64x512_3_1_0_0_1_3_11512 E
        (broadcastInDim S3x128x64x1 ![0, 1, 2] bcast_S3x128x64_S3x128x64x1_0_1_2 (wrapped idx)))
      (constant S_ .f32 0x00000000#32) reducesTo_S3x128x64x512_S3x128x512_d2 h_S_)
    (broadcastInDim S3x128x512 ![] bcast_S_S3x128x512 (constant S_ .f32 0x42800000#32))

/-- The first dense layer. -/
def hidden (x : FVec F S3x128x512 .f32) (w : FVec F S3x512x512 .f32) (b : FVec F S3x512 .f32) : FVec F S3x128x512 .f32 :=
  maximumf
    (addf (Host.dotGeneral dot_S3x128x512_S3x512x512_S3x128x512_2_1_1_2_0_0 none x w)
      (broadcastInDim S3x128x512 ![0, 1, 2] bcast_S3x1x512_S3x128x512_0_1_2 (broadcastInDim S3x1x512 ![0, 2] bcast_S3x512_S3x1x512_0_2 b)))
    (broadcastInDim S3x128x512 ![] bcast_S_S3x128x512 (constant S_ .f32 0x00000000#32))

/-- The second. -/
def projected (x : FVec F S3x128x512 .f32) (w : FVec F S3x512x128 .f32) (b : FVec F S3x128 .f32) : FVec F S3x128x128 .f32 :=
  addf (Host.dotGeneral dot_S3x128x512_S3x512x128_S3x128x128_2_1_1_2_0_0 none x w)
    (broadcastInDim S3x128x128 ![0, 1, 2] bcast_S3x1x128_S3x128x128_0_1_2 (broadcastInDim S3x1x128 ![0, 2] bcast_S3x128_S3x1x128_0_2 b))

/-- The representations in pathway order, one row each. -/
def flat (x : FVec F S3x128x128 .f32) : FVec F S384x128 .f32 :=
  shapeCast S384x128 (transpose S128x3x128 [1, 0, 2] x transposes_S3x128x128_S128x3x128_1_0_2) shapeCasts_S128x3x128_S384x128

/-- Each row divided by its length. -/
def normed (z : FVec F S384x128 .f32) : FVec F S384x128 .f32 :=
  Host.divf z (broadcastInDim S384x128 ![0, 1] bcast_S384x1_S384x128_0_1
    (addf (Host.sqrt (broadcastInDim S384x1 ![0] bcast_S384_S384x1_0
        (Host.reduceAdd (mulf z z) (constant S_ .f32 0x00000000#32) reducesTo_S384x128_S384_d1 h_S_)))
      (broadcastInDim S384x1 ![] bcast_S_S384x1 (constant S_ .f32 0x2B8CBCCC#32))))

/-- The diagonal. -/
def eye : IVec S384x384 1 :=
  cmpi .eq (addi (iotaInDim S384x384 32 0) (broadcastInDim S384x384 ![] bcast_S_S384x384 (constantI S_ 32 0#32))) (iotaInDim S384x384 32 1)

/-- The rows' pathways. -/
def labels : IVec S384 32 := shapeCast S384 (broadcastInDim S128x3 ![0] bcast_S128_S128x3_0 (iotaInDim S128 32 0)) shapeCasts_S128x3_S384

/-- The pairs of different rows of the same pathway. -/
def mask : IVec S384x384 1 :=
  andi (cmpi .eq (broadcastInDim S384x384 ![0, 1] bcast_S1x384_S384x384_0_1 (broadcastInDim S1x384 ![1] bcast_S384_S1x384_1 labels))
    (broadcastInDim S384x384 ![0, 1] bcast_S384x1_S384x384_0_1 (broadcastInDim S384x1 ![0] bcast_S384_S384x1_0 labels))) (noti eye)

/-- The exponentials of the similarities, the diagonal's at minus infinity. -/
def exps (z : FVec F S384x128 .f32) : FVec F S384x384 .f32 :=
  Host.exp (select eye (broadcastInDim S384x384 ![] bcast_S_S384x384 (constant S_ .f32 0xFF800000#32))
    (Host.divf (Host.dotGeneral dot_S384x128_S128x384_S384x384_1_0_0_1_n_n none (normed z)
        (transpose S128x384 [1, 0] (normed z) transposes_S384x128_S128x384_1_0))
      (broadcastInDim S384x384 ![] bcast_S_S384x384 (constant S_ .f32 0x3DCCCCCD#32))))

/-- The sums along the rows, with the small number added. -/
def sums (x : FVec F S384x384 .f32) : FVec F S384 .f32 :=
  addf (Host.reduceAdd x (constant S_ .f32 0x00000000#32) reducesTo_S384x384_S384_d1 h_S_)
    (broadcastInDim S384 ![] bcast_S_S384 (constant S_ .f32 0x2B8CBCCC#32))

/-- The loss of the representations. -/
def loss (z : FVec F S384x128 .f32) : FVec F S1x1 .f32 :=
  shapeCast S1x1
    (Host.divf
      (Host.reduceAdd (Host.negf (Host.log (Host.divf (sums (mulf (exps z) (uitofp .f32 mask))) (sums (exps z)))))
        (constant S_ .f32 0x00000000#32) reducesTo_S384_S_d0 h_S_)
      (constant S_ .f32 0x43C00000#32))
    shapeCasts_S_S1x1

/-- The rows that the loss is of. -/
def rows (E : FVec F S3x20000x512 .f32) (w1 : FVec F S3x512x512 .f32) (b1 : FVec F S3x512 .f32) (w2 : FVec F S3x512x128 .f32)
    (b2 : FVec F S3x128 .f32) (idx : IVec S3x128x64 32) : FVec F S384x128 .f32 :=
  flat (projected (hidden (pooled E idx) w1 b1) w2 b2)

/-- The reference's result is those stages after one another. -/
theorem result_eq (m : (ℓ : Loc nD τ sig) → Buf (Elt F) ℓ) (c : Dev nD) :
    Value.res_main_v60 m c = loss (rows (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5))) := by
  unfold Value.res_main_v60
  rfl

end Cert.ReferenceIdeal.Hand
end
-- ==== Proof.Consts.lean ====
/-
  The float words of the programs as the numbers they denote.
-/
module

public import Idealize.ShloMosaic.PureOps.Ideal

@[expose] public section

noncomputable section

namespace Pathway

open Idealize.ShloMosaic

/-- Minus infinity. -/
theorem ofBits_bot : Ideal.ofBits .f32 0xFF800000#32 = ⊥ := by
  simp [Ideal.ofBits, Ideal.ieee]

/-- Sixty-four, the number of rows that are averaged. -/
theorem ofBits_64 : Ideal.ofBits .f32 0x42800000#32 = ((64 : ℝ) : EReal) := by
  simp [Ideal.ofBits, Ideal.ieee, -EReal.coe_mul]; norm_num

/-- A sixty-fourth. -/
theorem ofBits_inv64 : Ideal.ofBits .f32 0x3C800000#32 = ((1 / 64 : ℝ) : EReal) := by
  simp [Ideal.ofBits, Ideal.ieee, -EReal.coe_mul]; norm_num

/-- The word of `0.1`. -/
theorem ofBits_temp : Ideal.ofBits .f32 0x3DCCCCCD#32 = ((13421773 / 134217728 : ℝ) : EReal) := by
  simp [Ideal.ofBits, Ideal.ieee, -EReal.coe_mul]; norm_num

/-- The number added to lengths and sums is a positive real. -/
theorem ofBits_eps : ∃ e : ℝ, 0 < e ∧ Ideal.ofBits .f32 0x2B8CBCCC#32 = (e : EReal) :=
  ⟨9223372 / 9223372036854775808, by norm_num, by simp [Ideal.ofBits, Ideal.ieee, -EReal.coe_mul]; norm_num⟩

end Pathway
end
-- ==== Proof.ReferenceLoss.lean ====
/-
  The reference's loss over the extended reals: the rows' terms averaged.
-/
module

public import proofs.«01_k».proof.Proof.Reference
public import proofs.«01_k».proof.Proof.Consts
public import proofs.«01_k».proof.Proof.KernelLoss
public import Idealize.ShloMosaic.Lib.IdealHost
public import Idealize.ShloMosaic.Lib.ValueIdxRank1

@[expose] public section

noncomputable section

namespace Cert.ReferenceIdeal.Hand

open Cert.ReferenceIdeal Cert.ReferenceIdeal.Gen Idealize.ShloMosaic Idealize.ShloMosaic.ValueIdx Pathway

/-- The divisor of the similarities. -/
abbrev temp : EReal := Ideal.ofBits .f32 0x3DCCCCCD#32

/-- Rows of the same pathway: equal quotients by three. -/
abbrev sameR (r q : Fin 384) : Prop := r.val / 3 = q.val / 3

/-- The host's sum along the rows, from zero. -/
theorem hostRowSum {n : ℕ} (h' : (⟨2, ![384, n]⟩ : Shape).ReducesTo [1] S384) (h : (⟨2, ![384, n]⟩ : Shape).Reduces [1] S384)
    (x : FVec Ideal ⟨2, ![384, n]⟩ .f32) (r : Fin 384) :
    Host.reduceAdd x (constant S_ .f32 0x00000000#32) h' h_S_ (ix1 r) = ∑ k : Fin n, x (ix2 r k) :=
  (Ideal.hostReduceAdd_single h' h x _ (ix1 r)).trans
    ((congrArg₂ (· + ·) Ideal.ofBits_zero_f32 (Finset.sum_congr rfl fun k _ => congrArg x (by funext a; fin_cases a <;> rfl))).trans (zero_add _))

/-- A row divided by its length, at an entry. -/
theorem normed_apply (z : FVec Ideal S384x128 .f32) (r : Fin 384) (d : Fin 128) : normed z (ix2 r d) = unitRow eps (rowsOf z) r d := by
  unfold normed
  show Ideal.div (z (ix2 r d)) _ = _
  refine congrArg (Ideal.div (z (ix2 r d))) ?_
  rw [broadcastInDim_apply _ _ _ _ (ix2 r (0 : Fin 1)) (by intro a; fin_cases a <;> rfl), addf_apply]
  refine congrArg₂ (· + ·) ?_ rfl
  show Ideal.sqrt _ = _
  refine congrArg Ideal.sqrt ?_
  rw [broadcastInDim_apply _ _ _ _ (ix1 r) (by intro a; fin_cases a; rfl)]
  exact hostRowSum _ (by decide) (mulf z z) r

/-- The divided similarities. -/
theorem sim_apply (z : FVec Ideal S384x128 .f32) (r q : Fin 384) :
    Host.divf (Host.dotGeneral dot_S384x128_S128x384_S384x384_1_0_0_1_n_n none (normed z)
        (transpose S128x384 [1, 0] (normed z) transposes_S384x128_S128x384_1_0))
      (broadcastInDim S384x384 ![] bcast_S_S384x384 (constant S_ .f32 0x3DCCCCCD#32)) (ix2 r q) = Ideal.div (simOf eps (rowsOf z) r q) temp := by
  show Ideal.div (Host.dotGeneral (F := Ideal) (φ₁ := .f32) (φ₂ := .f32) _ _ _ _ (ix2 r q)) temp = _
  refine congrArg (Ideal.div · temp) ?_
  unfold Host.dotGeneral
  rw [Ideal.dotGeneral_apply, ← Equiv.sum_comp (contrEquiv1 dot_S384x128_S128x384_S384x384_1_0_0_1_n_n 128 rfl rfl).symm]
  refine Finset.sum_congr rfl fun k _ => ?_
  have el : dot_S384x128_S128x384_S384x384_1_0_0_1_n_n.lhsIdx (ix2 r q)
      ((contrEquiv1 dot_S384x128_S128x384_S384x384_1_0_0_1_n_n 128 rfl rfl).symm k) = ix2 r k := by funext a; fin_cases a <;> rfl
  have er : dot_S384x128_S128x384_S384x384_1_0_0_1_n_n.rhsIdx (ix2 r q)
      ((contrEquiv1 dot_S384x128_S128x384_S384x384_1_0_0_1_n_n 128 rfl rfl).symm k) = ix2 k q := by funext a; fin_cases a <;> rfl
  rw [el, er, transpose_apply _ _ _ _ (ix2 q k) (by intro b; fin_cases b <;> rfl), normed_apply, normed_apply]

/-- The diagonal as a truth word. -/
theorem eye_apply (r q : Fin 384) : eye (ix2 r q) = if r = q then 1#1 else 0#1 := by
  unfold eye
  show IntOp.cmpi .eq (BitVec.ofNat 32 r.val + 0#32) (BitVec.ofNat 32 q.val) = _
  rw [BitVec.add_zero, eq_word]
  simp only [ofNat_inj r.isLt q.isLt, Fin.ext_iff]

/-- Row `r` is of pathway `r / 3`. -/
theorem labels_apply (r : Fin 384) : labels (ix1 r) = BitVec.ofNat 32 (r.val / 3) := by
  unfold labels
  have hr := r.isLt
  rw [shapeCast_apply _ _ _ (ix2 (⟨r.val / 3, by omega⟩ : Fin 128) (⟨r.val % 3, by omega⟩ : Fin 3))
    (by rw [Shape.rowMajor_val_one, Shape.rowMajor_val_two]; show r.val / 3 * 3 + r.val % 3 = r.val; omega),
    broadcastInDim_apply _ _ _ _ (ix1 (⟨r.val / 3, by omega⟩ : Fin 128)) (by intro a; fin_cases a; rfl)]
  rfl

/-- The pairs of different rows of the same pathway as a truth word. -/
theorem mask_apply (r q : Fin 384) : mask (ix2 r q) = if sameR r q ∧ ¬ r = q then 1#1 else 0#1 := by
  unfold mask
  show IntOp.andi (IntOp.cmpi .eq _ _) (~~~ (eye (ix2 r q))) = _
  rw [eye_apply, broadcastInDim_apply _ _ _ _ (ix2 (0 : Fin 1) q) (by intro a; fin_cases a <;> rfl),
    broadcastInDim_apply _ _ _ _ (ix1 q) (by intro a; fin_cases a; rfl),
    broadcastInDim_apply _ _ _ _ (ix2 r (0 : Fin 1)) (by intro a; fin_cases a <;> rfl),
    broadcastInDim_apply _ _ _ _ (ix1 r) (by intro a; fin_cases a; rfl), labels_apply, labels_apply, eq_word]
  have hr := r.isLt
  have hq := q.isLt
  simp only [ofNat_inj (show q.val / 3 < 384 by omega) (show r.val / 3 < 384 by omega)]
  by_cases h1 : r.val / 3 = q.val / 3 <;> by_cases h2 : r = q <;> simp [h1, h2, IntOp.andi, eq_comm (a := q.val / 3)]

/-- The exponentials at an entry. -/
theorem exps_apply (z : FVec Ideal S384x128 .f32) (r q : Fin 384) :
    exps z (ix2 r q) = Ideal.exp (if r = q then ⊥ else Ideal.div (simOf eps (rowsOf z) r q) temp) := by
  unfold exps
  show Ideal.exp (select _ _ _ (ix2 r q)) = _
  refine congrArg Ideal.exp ?_
  rw [select_apply, eye_apply]
  by_cases h : r = q
  · rw [if_pos h, if_pos h, select_one]
    show Ideal.ofBits .f32 0xFF800000#32 = ⊥
    exact ofBits_bot
  · rw [if_neg h, if_neg h, select_zero]; exact sim_apply z r q

/-- A sum along a row, with the small number added. -/
theorem sums_apply (x : FVec Ideal S384x384 .f32) (r : Fin 384) : sums x (ix1 r) = (∑ q : Fin 384, x (ix2 r q)) + eps :=
  congrArg (· + eps) (hostRowSum _ (by decide) x r)

/-- The mask's numbers. -/
theorem maskF_apply (r q : Fin 384) : (uitofp .f32 mask : FVec Ideal S384x384 .f32) (ix2 r q) = if sameR r q ∧ ¬ r = q then 1 else 0 := by
  show (((mask (ix2 r q)).toNat : ℝ) : EReal) = _
  rw [mask_apply]
  split <;> simp

/-- The loss of the representations is the rows' terms, averaged. -/
theorem loss_eq (z : FVec Ideal S384x128 .f32) (y : S1x1.Idx) :
    loss z y = Ideal.div (∑ r, termR eps temp sameR (rowsOf z) r) (Ideal.ofBits .f32 0x43C00000#32) := by
  unfold loss
  rw [shapeCast_apply _ _ _ ix0 (by have := y 0; have := y 1; decide +revert)]
  show Ideal.div _ _ = _
  refine congrArg (fun S => Ideal.div S (Ideal.ofBits .f32 0x43C00000#32)) ?_
  refine (Ideal.hostReduceAdd_total reducesTo_S384_S_d0 (fun b => b.elim0) _ _ ix0).trans
    ((congrArg₂ (· + ·) Ideal.ofBits_zero_f32 ((Equiv.sum_comp idxEquiv1.symm _).symm.trans <| Finset.sum_congr rfl fun r _ => ?_)).trans (zero_add _))
  show -Ideal.log (Ideal.div (sums (F := Ideal) _ (ix1 r)) (sums (F := Ideal) _ (ix1 r))) = _
  rw [sums_apply, sums_apply]
  unfold termR
  refine congrArg (fun S => -Ideal.log S) (congrArg₂ Ideal.div (congrArg (· + eps) (Finset.sum_congr rfl fun q _ => ?_))
    (congrArg (· + eps) (Finset.sum_congr rfl fun q _ => exps_apply z r q)))
  rw [mulf_apply, exps_apply, maskF_apply]

end Cert.ReferenceIdeal.Hand
end
-- ==== Proof.ReferenceReps.lean ====
/-
  The reference's representations over the extended reals: the rows that the indices name, added up, divided by their
  number, through the two dense layers, the rows in pathway order.
-/
module

public import proofs.«01_k».proof.Proof.Reference
public import proofs.«01_k».proof.Proof.KernelReps
public import proofs.«01_k».proof.Proof.Consts
public import Idealize.ShloMosaic.Lib.IdealHost

@[expose] public section

noncomputable section

namespace Cert.ReferenceIdeal.Hand

open Cert.ReferenceIdeal Cert.ReferenceIdeal.Gen Idealize.ShloMosaic Idealize.ShloMosaic.ValueIdx Pathway

/-- A row number read as a signed word is itself. -/
theorem toInt_row {v : BitVec 32} (hv : v.toNat < 20000) : v.toInt = v.toNat := by
  rw [BitVec.toInt_eq_toNat_cond, if_pos (by omega)]

/-- A row number is not wrapped. -/
theorem wrapped_apply (idx : IVec S3x128x64 32) (y : S3x128x64.Idx) (hv : (idx y).toNat < 20000) : wrapped idx y = idx y := by
  unfold wrapped
  have h : cmpi .slt idx (broadcastInDim S3x128x64 ![] bcast_S_S3x128x64 (constantI S_ 32 0#32)) y = 0#1 := by
    show IntOp.cmpi .slt (idx y) 0#32 = 0#1
    show BitVec.ofBool (decide ((idx y).toInt < (0#32).toInt)) = 0#1
    rw [toInt_row hv, show (0#32).toInt = 0 by decide, decide_eq_false (by omega)]
    rfl
  rw [select_apply, h, select_zero]

/-- The gathered array at an entry: the table's row that the index names, of the index's own table. -/
theorem gather_apply {α : Type} (E : S3x20000x512.Idx → α) (I : IVec S3x128x64x1 32) (o : Fin 3) (p : Fin 128) (g : Fin 64) (h : Fin 512)
    (hv : (I (ix4 o p g 0)).toNat < 20000) :
    Host.gather gather_S3x20000x512_S3x128x64x1_S3x128x64x512_3_1_0_0_1_3_11512 E I (ix4 o p g h) = E (ix3 o ⟨(I (ix4 o p g 0)).toNat, hv⟩ h) := by
  unfold Host.gather
  refine congrArg E (funext fun a => Fin.ext ?_)
  have hs : gather_S3x20000x512_S3x128x64x1_S3x128x64x512_3_1_0_0_1_3_11512.siIdx (ix4 o p g h) ⟨0, by decide⟩ = ix4 o p g 0 := by
    funext b; fin_cases b <;> rfl
  fin_cases a
  · show 0 + o.val + 0 = o.val
    omega
  · show min (I (gather_S3x20000x512_S3x128x64x1_S3x128x64x512_3_1_0_0_1_3_11512.siIdx (ix4 o p g h) ⟨0, by decide⟩)).toInt.toNat (20000 - 1) + 0 + 0 = _
    rw [hs, toInt_row hv, Int.toNat_natCast, Nat.min_eq_left (by omega)]
    rfl
  · show 0 + 0 + h.val = h.val
    omega

/-- Dividing by sixty-four is multiplying by a sixty-fourth. -/
theorem div_64 (x : EReal) : Ideal.div x (Ideal.ofBits .f32 0x42800000#32) = x * Ideal.ofBits .f32 0x3C800000#32 := by
  rw [ofBits_64, ofBits_inv64]
  exact Ideal.div_coe (by norm_num) x

/-- A mean is the sum of the rows that the indices name, times a sixty-fourth. -/
theorem pooled_apply (E : FVec Ideal S3x20000x512 .f32) (idx : IVec S3x128x64 32) (hI : ∀ y, (idx y).toNat < 20000)
    (o : Fin 3) (p : Fin 128) (h : Fin 512) :
    pooled E idx (ix3 o p h) = (∑ g : Fin 64, E (ix3 o ⟨(idx (ix3 o p g)).toNat, hI _⟩ h)) * Ideal.ofBits .f32 0x3C800000#32 := by
  unfold pooled
  refine Eq.trans ?_ (div_64 _)
  show Ideal.div _ _ = _
  refine congrArg (Ideal.div · (Ideal.ofBits .f32 0x42800000#32)) ?_
  have e : ∀ g : Fin 64, broadcastInDim S3x128x64x1 ![0, 1, 2] bcast_S3x128x64_S3x128x64x1_0_1_2 (wrapped idx) (ix4 o p g (0 : Fin 1)) = idx (ix3 o p g) := fun g => by
    rw [broadcastInDim_apply _ _ _ _ (ix3 o p g) (by intro a; fin_cases a <;> rfl), wrapped_apply _ _ (hI _)]
  have hl : ∀ g : Fin 64, (show S3x128x64x512.Reduces [2] S3x128x512 by decide).lift (ix3 o p h) g = ix4 o p g h := fun g => by
    funext a; fin_cases a <;> rfl
  refine (Ideal.hostReduceAdd_single reducesTo_S3x128x64x512_S3x128x512_d2 (by decide) _ _ (ix3 o p h)).trans
    ((congrArg₂ (· + ·) Ideal.ofBits_zero_f32 (Finset.sum_congr rfl fun g _ => ?_)).trans (zero_add _))
  refine (congrArg _ (hl g)).trans ((gather_apply E _ o p g h (by rw [e g]; exact hI _)).trans ?_)
  exact congrArg E (congrArg (fun r => ix3 o r h) (Fin.ext (congrArg BitVec.toNat (e g))))

/-- The first dense layer at an entry. -/
theorem hidden_apply (x : FVec Ideal S3x128x512 .f32) (w : FVec Ideal S3x512x512 .f32) (b : FVec Ideal S3x512 .f32) (o : Fin 3) (p : Fin 128)
    (k : Fin 512) : hidden x w b (ix3 o p k) = max ((∑ h : Fin 512, x (ix3 o p h) * w (ix3 o h k)) + b (ix2 o k)) 0 := by
  unfold hidden
  rw [maximumf_apply, addf_apply, broadcastInDim_apply _ _ _ _ (ix3 o (0 : Fin 1) k) (by intro a; fin_cases a <;> rfl),
    broadcastInDim_apply _ _ _ _ (ix2 o k) (by intro a; fin_cases a <;> rfl)]
  refine congrArg₂ max (congrArg (· + b (ix2 o k)) ?_) Ideal.ofBits_zero_f32
  unfold Host.dotGeneral
  rw [Ideal.dotGeneral_apply, ← Equiv.sum_comp (contrEquiv1 dot_S3x128x512_S3x512x512_S3x128x512_2_1_1_2_0_0 512 rfl rfl).symm]
  refine Finset.sum_congr rfl fun h _ => congrArg₂ (· * ·) (congrArg x ?_) (congrArg w ?_)
  · funext a; fin_cases a <;> rfl
  · funext a; fin_cases a <;> rfl

/-- The second dense layer at an entry. -/
theorem projected_apply (x : FVec Ideal S3x128x512 .f32) (w : FVec Ideal S3x512x128 .f32) (b : FVec Ideal S3x128 .f32) (o : Fin 3) (p d : Fin 128) :
    projected x w b (ix3 o p d) = (∑ k : Fin 512, x (ix3 o p k) * w (ix3 o k d)) + b (ix2 o d) := by
  unfold projected
  rw [addf_apply, broadcastInDim_apply _ _ _ _ (ix3 o (0 : Fin 1) d) (by intro a; fin_cases a <;> rfl),
    broadcastInDim_apply _ _ _ _ (ix2 o d) (by intro a; fin_cases a <;> rfl)]
  refine congrArg (· + b (ix2 o d)) ?_
  unfold Host.dotGeneral
  rw [Ideal.dotGeneral_apply, ← Equiv.sum_comp (contrEquiv1 dot_S3x128x512_S3x512x128_S3x128x128_2_1_1_2_0_0 512 rfl rfl).symm]
  refine Finset.sum_congr rfl fun h _ => congrArg₂ (· * ·) (congrArg x ?_) (congrArg w ?_)
  · funext a; fin_cases a <;> rfl
  · funext a; fin_cases a <;> rfl

/-- Row `3 p + o` is pathway `p` of the table `o`. -/
theorem flat_apply (x : FVec Ideal S3x128x128 .f32) (r : Fin 384) (d : Fin 128) :
    flat x (ix2 r d) = x (ix3 (⟨r.val % 3, Nat.mod_lt _ (by decide)⟩ : Fin 3) (⟨r.val / 3, by have := r.isLt; omega⟩ : Fin 128) d) := by
  unfold flat
  rw [shapeCast_apply _ _ _ (ix3 (⟨r.val / 3, by have := r.isLt; omega⟩ : Fin 128) (⟨r.val % 3, Nat.mod_lt _ (by decide)⟩ : Fin 3) d)
    (by rw [Shape.rowMajor_val_three, Shape.rowMajor_val_two]; show (r.val / 3 * 3 + r.val % 3) * 128 + d.val = r.val * 128 + d.val; omega)]
  exact transpose_apply _ _ _ _ _ (by intro b; fin_cases b <;> rfl)

/-- A row of the reference. -/
theorem rows_apply (E : FVec Ideal S3x20000x512 .f32) (w1 : FVec Ideal S3x512x512 .f32) (b1 : FVec Ideal S3x512 .f32) (w2 : FVec Ideal S3x512x128 .f32)
    (b2 : FVec Ideal S3x128 .f32) (idx : IVec S3x128x64 32) (hI : ∀ y, (idx y).toNat < 20000) (o : Fin 3) (p : Fin 128) (r : Fin 384)
    (ho : o.val = r.val % 3) (hp : p.val = r.val / 3) (d : Fin 128) :
    rows E w1 b1 w2 b2 idx (ix2 r d)
      = repOf (fun h => ∑ g : Fin 64, E (ix3 o ⟨(idx (ix3 o p g)).toNat, hI _⟩ h)) (fun h k => w1 (ix3 o h k)) (fun k => b1 (ix2 o k))
          (fun k d => w2 (ix3 o k d)) (fun d => b2 (ix2 o d)) d := by
  obtain rfl : o = ⟨r.val % 3, Nat.mod_lt _ (by decide)⟩ := Fin.ext ho
  obtain rfl : p = ⟨r.val / 3, Nat.div_lt_of_lt_mul r.isLt⟩ := Fin.ext hp
  unfold rows repOf
  rw [flat_apply, projected_apply]
  simp only [hidden_apply, pooled_apply E idx hI]

end Cert.ReferenceIdeal.Hand
end
-- ==== Proof.Equal.lean ====
/-
  The two results are the same number: the rows in table order and in pathway order, the multiplier the inverse of the
  divisor.
-/
module

public import proofs.«01_k».proof.Proof.KernelRows
public import proofs.«01_k».proof.Proof.ReferenceLoss
public import proofs.«01_k».proof.Proof.ReferenceReps

@[expose] public section

noncomputable section

namespace Pathway

open Idealize.ShloMosaic Idealize.ShloMosaic.ValueIdx Idealize.ShloMosaic.TcCoe

/-- Where the kernel keeps the reference's row: row `3 p + o` is row `128 o + p`. -/
def place : Fin 384 ≃ Fin 384 where
  toFun r := ⟨128 * (r.val % 3) + r.val / 3, by have := r.isLt; omega⟩
  invFun r := ⟨3 * (r.val % 128) + r.val / 128, by have := r.isLt; omega⟩
  left_inv r := Fin.ext (by have := r.isLt; show 3 * ((128 * (r.val % 3) + r.val / 3) % 128) + (128 * (r.val % 3) + r.val / 3) / 128 = r.val; omega)
  right_inv r := Fin.ext (by have := r.isLt; show 128 * ((3 * (r.val % 128) + r.val / 128) % 3) + (3 * (r.val % 128) + r.val / 128) / 3 = r.val; omega)

/-- That row in numbers. -/
theorem place_val (r : Fin 384) : (place r).val = 128 * (r.val % 3) + r.val / 3 := rfl

/-- Rows are of the same pathway in the one order where they are in the other. -/
theorem same_place (r q : Fin 384) : sameK (place r) (place q) ↔ Cert.ReferenceIdeal.Hand.sameR r q := by
  have := r.isLt
  have := q.isLt
  show (128 * (r.val % 3) + r.val / 3) % 128 = (128 * (q.val % 3) + q.val / 3) % 128 ↔ r.val / 3 = q.val / 3
  omega

/-- The named multiplier is the inverse of the reference's divisor. -/
theorem scale_value : (Cert.KernelIdeal.scale : Ideal .f32) = ((1 / (13421773 / 134217728) : ℝ) : EReal) := by
  refine Eq.trans (b := ((134217728 / 13421773 : ℝ) : EReal)) rfl ?_
  norm_num

/-- The sum of the rows' terms is the same in both orders, whatever the rows. -/
theorem terms_eq (zK zR : FVec Ideal S384x128 .f32) (h : ∀ r d, zR (ix2 r d) = zK (ix2 (place r) d)) :
    (∑ r, termR eps Cert.ReferenceIdeal.Hand.temp Cert.ReferenceIdeal.Hand.sameR (rowsOf zR) r)
      = ∑ r, termK eps (Cert.KernelIdeal.scale : Ideal .f32) sameK (rowsOf zK) r := by
  obtain ⟨e, he, hE⟩ := ofBits_eps
  have hz : rowsOf zR = fun r => rowsOf zK (place r) := funext fun r => funext fun d => h r d
  refine (Finset.sum_congr rfl fun r _ => ?_).trans (Equiv.sum_comp place (termK eps (Cert.KernelIdeal.scale : Ideal .f32) sameK (rowsOf zK)))
  rw [hz, scale_value, ← termK_comp place]
  show termR (Ideal.ofBits .f32 0x2B8CBCCC#32) (Ideal.ofBits .f32 0x3DCCCCCD#32) _ _ r = _
  rw [ofBits_temp, show eps = (e : EReal) from hE, hE, termR_eq_termK he (by norm_num)]
  unfold termK
  simp only [same_place]

section Results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- From arguments that agree, with every index a row of the table, the kernel's result is the reference's. -/
theorem results_eq (hI : Cert.KernelIdeal.Hand.Rows m c)
    (hX : ∀ y : Cert.KernelIdeal.S3x128x64.Idx, ((m ((c.tc : Thread Cert.KernelIdeal.nD Cert.KernelIdeal.τ).loc Cert.KernelIdeal.main_arg5) : IVec Cert.KernelIdeal.S3x128x64 32) y).toNat < 20000)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v60 m' c = Cert.KernelIdeal.Hand.result m c := by
  refine (Cert.ReferenceIdeal.Hand.result_eq m' c).trans (funext fun y => ?_)
  rw [h0, h1, h2, h3, h4, h5]
  refine (Cert.ReferenceIdeal.Hand.loss_eq _ y).trans (Eq.trans ?_ (lossOf_eq _ _).symm)
  refine congrArg (fun S => Ideal.div S (Ideal.ofBits .f32 0x43C00000#32)) (terms_eq _ _ fun r d => ?_)
  have ho : r.val % 3 < 3 := Nat.mod_lt _ (by decide)
  have hp : r.val / 3 < 128 := Nat.div_lt_of_lt_mul r.isLt
  exact (Cert.ReferenceIdeal.Hand.rows_apply _ _ _ _ _ _ hX ⟨r.val % 3, ho⟩ ⟨r.val / 3, hp⟩ r rfl rfl d).trans
    (Cert.KernelIdeal.Hand.stacked_apply m c hI _ _ _ _ _ _ rfl rfl rfl rfl rfl rfl hX ⟨r.val % 3, ho⟩ ⟨r.val / 3, hp⟩ (place r) (place_val r) d).symm

end Results

end Pathway
end
-- ==== Proof.lean ====
/-
  The claims about the pathway loss kernel: the kernel and its idealization run from any memory whose indices are in
  range, the plain reference runs from any memory, and over the reals the kernel's loss is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.RunKernel
public import proofs.«01_k».proof.Proof.RunKernelIdeal
public import proofs.«01_k».proof.Proof.Range
public import proofs.«01_k».proof.Proof.Equal
public import Idealize.ShloMosaic.Lib.Claim

@[expose] public section

namespace Cert.Proof

open Idealize.ShloMosaic Idealize.SL.Sem

/-- In range, every index word the kernel holds is a row of the table. -/
theorem rows_kernel (m : (ℓ : Loc Cert.Kernel.nD Cert.Kernel.τ Cert.Kernel.sig) → Buf (Elt Bits) ℓ) (h : Pre_Kernel m) (c : Dev Cert.Kernel.nD) :
    Cert.Kernel.Hand.Rows m c := fun x => by
  have e : Cert.Kernel.Hand.words m c x = shapeCast Cert.Kernel.S24576 (m ((c.tc : Thread Cert.Kernel.nD Cert.Kernel.τ).loc Cert.Kernel.main_arg5) : IVec Cert.Kernel.S3x128x64 32)
      Cert.Kernel.Facts₀.shapeCasts_S3x128x64_S24576 x := congrFun (Cert.Kernel.Hand.V_words m c) x
  rw [e]
  exact Pathway.index_lt _ _ _ _ _ _ (h c) _

/-- In range, every index word the idealized kernel holds is a row of the table. -/
theorem rows_kernelIdeal (m : (ℓ : Loc Cert.KernelIdeal.nD Cert.KernelIdeal.τ Cert.KernelIdeal.sig) → Buf (Elt Ideal) ℓ) (h : Pre_KernelIdeal m)
    (c : Dev Cert.KernelIdeal.nD) : Cert.KernelIdeal.Hand.Rows m c := fun x => by
  have e : Cert.KernelIdeal.Hand.words m c x = shapeCast Cert.KernelIdeal.S24576 (m ((c.tc : Thread Cert.KernelIdeal.nD Cert.KernelIdeal.τ).loc Cert.KernelIdeal.main_arg5) : IVec Cert.KernelIdeal.S3x128x64 32)
      Cert.KernelIdeal.Facts₀.shapeCasts_S3x128x64_S24576 x := congrFun (Cert.KernelIdeal.Hand.V_words m c) x
  rw [e]
  exact Pathway.index_lt _ _ _ _ _ _ (h c) _

/-- The kernel, on hardware floats, runs, leaves its arguments and every counter as they were. -/
theorem frame_p : quiescent_Kernel := fun m g h =>
  (θ_run _ _ _).mono (fun _ r => ⟨fun c => (r.1 c).2, r.2⟩) (Cert.Kernel.Hand.run_result m g (rows_kernel m h))

/-- The idealized kernel does. -/
theorem frame_pi : quiescent_KernelIdeal := fun m g h =>
  (θ_run _ _ _).mono (fun _ r => ⟨fun c => (r.1 c).2, r.2⟩) (Cert.KernelIdeal.Hand.run_result m g (rows_kernelIdeal m h))

/-- The reference does, from any memory. -/
theorem frame_ri : quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The one named constant is the value its table gives. -/
theorem preserves : preserves_Kernel_KernelIdeal := IdealRules.named_const.statement _ _ _ _ _ rfl

/-- Over the reals, from arguments that agree and whose indices are in range, the kernel's loss is the reference's. -/
theorem algebraic : algebraic_KernelIdeal_ReferenceIdeal := fun m g m' g' hp hm => by
  refine ⟨Cert.KernelIdeal.Hand.result m, (θ_run _ _ _).mono (fun r h => h.1) (Cert.KernelIdeal.Hand.run_result m g (rows_kernelIdeal m hp)),
    (θ_run Cert.ReferenceIdeal.defs _ _).mono (fun r h c => ⟨(h c).1.trans ?_, (h c).2⟩) (Cert.ReferenceIdeal.Value.run (F := Ideal) m' g')⟩
  obtain ⟨h0, h1, h2, h3, h4, h5⟩ := hm c
  exact Pathway.results_eq m m' c (rows_kernelIdeal m hp c) (fun y => Pathway.index_lt _ _ _ _ _ _ (hp c) y) h0 h1 h2 h3 h4 h5

/-- The certificate's claim. -/
theorem claim : Cert.Claim :=
  ⟨Cert.Kernel.Gen.facts, Cert.KernelIdeal.Gen.facts, Cert.ReferenceIdeal.Gen.facts, Cert.Pre_in_range.Gen.facts,
    frame_p, frame_pi, frame_ri, fun m g _ => frame_ri m g trivial, preserves, algebraic⟩

end Cert.Proof

end
